-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2 = (fun _ => 1#1)

def Pre_MlpUpDw (m : (ℓ : Loc Cert.MlpUpDw.nD Cert.MlpUpDw.τ Cert.MlpUpDw.sig) → Buf (Elt Bits) ℓ) : Prop :=
  True

def Pre_MlpUpDwIdeal (m : (ℓ : Loc Cert.MlpUpDwIdeal.nD Cert.MlpUpDwIdeal.τ Cert.MlpUpDwIdeal.sig) → Buf (Elt Ideal) ℓ) : Prop :=
  True

def Pre_MlpUpDwRefIdeal (m : (ℓ : Loc Cert.MlpUpDwRefIdeal.nD Cert.MlpUpDwRefIdeal.τ Cert.MlpUpDwRefIdeal.sig) → Buf (Elt Ideal) ℓ) : Prop :=
  True

def Pre_MlpDownDw (m : (ℓ : Loc Cert.MlpDownDw.nD Cert.MlpDownDw.τ Cert.MlpDownDw.sig) → Buf (Elt Bits) ℓ) : Prop :=
  True

def Pre_MlpDownDwIdeal (m : (ℓ : Loc Cert.MlpDownDwIdeal.nD Cert.MlpDownDwIdeal.τ Cert.MlpDownDwIdeal.sig) → Buf (Elt Ideal) ℓ) : Prop :=
  True

def Pre_MlpDownDwRefIdeal (m : (ℓ : Loc Cert.MlpDownDwRefIdeal.nD Cert.MlpDownDwRefIdeal.τ Cert.MlpDownDwRefIdeal.sig) → Buf (Elt Ideal) ℓ) : Prop :=
  True

def Pre_ProjInDw (m : (ℓ : Loc Cert.ProjInDw.nD Cert.ProjInDw.τ Cert.ProjInDw.sig) → Buf (Elt Bits) ℓ) : Prop :=
  True

def Pre_ProjInDwIdeal (m : (ℓ : Loc Cert.ProjInDwIdeal.nD Cert.ProjInDwIdeal.τ Cert.ProjInDwIdeal.sig) → Buf (Elt Ideal) ℓ) : Prop :=
  True

def Pre_ProjInDwRefIdeal (m : (ℓ : Loc Cert.ProjInDwRefIdeal.nD Cert.ProjInDwRefIdeal.τ Cert.ProjInDwRefIdeal.sig) → Buf (Elt Ideal) ℓ) : Prop :=
  True

def Pre_ProjInDx (m : (ℓ : Loc Cert.ProjInDx.nD Cert.ProjInDx.τ Cert.ProjInDx.sig) → Buf (Elt Bits) ℓ) : Prop :=
  True

def Pre_ProjInDxIdeal (m : (ℓ : Loc Cert.ProjInDxIdeal.nD Cert.ProjInDxIdeal.τ Cert.ProjInDxIdeal.sig) → Buf (Elt Ideal) ℓ) : Prop :=
  True

def Pre_ProjInDxRefIdeal (m : (ℓ : Loc Cert.ProjInDxRefIdeal.nD Cert.ProjInDxRefIdeal.τ Cert.ProjInDxRefIdeal.sig) → Buf (Elt Ideal) ℓ) : Prop :=
  True

def Pre_MixOutDw (m : (ℓ : Loc Cert.MixOutDw.nD Cert.MixOutDw.τ Cert.MixOutDw.sig) → Buf (Elt Bits) ℓ) : Prop :=
  True

def Pre_MixOutDwIdeal (m : (ℓ : Loc Cert.MixOutDwIdeal.nD Cert.MixOutDwIdeal.τ Cert.MixOutDwIdeal.sig) → Buf (Elt Ideal) ℓ) : Prop :=
  True

def Pre_MixOutDwRefIdeal (m : (ℓ : Loc Cert.MixOutDwRefIdeal.nD Cert.MixOutDwRefIdeal.τ Cert.MixOutDwRefIdeal.sig) → Buf (Elt Ideal) ℓ) : Prop :=
  True

def Pre_ProjAttnDx (m : (ℓ : Loc Cert.ProjAttnDx.nD Cert.ProjAttnDx.τ Cert.ProjAttnDx.sig) → Buf (Elt Bits) ℓ) : Prop :=
  True

def Pre_ProjAttnDxIdeal (m : (ℓ : Loc Cert.ProjAttnDxIdeal.nD Cert.ProjAttnDxIdeal.τ Cert.ProjAttnDxIdeal.sig) → Buf (Elt Ideal) ℓ) : Prop :=
  True

def Pre_ProjAttnDxRefIdeal (m : (ℓ : Loc Cert.ProjAttnDxRefIdeal.nD Cert.ProjAttnDxRefIdeal.τ Cert.ProjAttnDxRefIdeal.sig) → Buf (Elt Ideal) ℓ) : Prop :=
  True

def Pre_MixOutDx (m : (ℓ : Loc Cert.MixOutDx.nD Cert.MixOutDx.τ Cert.MixOutDx.sig) → Buf (Elt Bits) ℓ) : Prop :=
  True

def Pre_MixOutDxIdeal (m : (ℓ : Loc Cert.MixOutDxIdeal.nD Cert.MixOutDxIdeal.τ Cert.MixOutDxIdeal.sig) → Buf (Elt Ideal) ℓ) : Prop :=
  True

def Pre_MixOutDxRefIdeal (m : (ℓ : Loc Cert.MixOutDxRefIdeal.nD Cert.MixOutDxRefIdeal.τ Cert.MixOutDxRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_NormHalvesBwd (m : (ℓ : Loc Cert.NormHalvesBwd.nD Cert.NormHalvesBwd.τ Cert.NormHalvesBwd.sig) → Buf (Elt Bits) ℓ) : Prop :=
  True

def Pre_NormHalvesBwdIdeal (m : (ℓ : Loc Cert.NormHalvesBwdIdeal.nD Cert.NormHalvesBwdIdeal.τ Cert.NormHalvesBwdIdeal.sig) → Buf (Elt Ideal) ℓ) : Prop :=
  True

def Pre_NormHalvesBwdRefIdeal (m : (ℓ : Loc Cert.NormHalvesBwdRefIdeal.nD Cert.NormHalvesBwdRefIdeal.τ Cert.NormHalvesBwdRefIdeal.sig) → Buf (Elt Ideal) ℓ) : Prop :=
  True

def Pre_NormLoss (m : (ℓ : Loc Cert.NormLoss.nD Cert.NormLoss.τ Cert.NormLoss.sig) → Buf (Elt Bits) ℓ) : Prop :=
  True

def Pre_NormLossIdeal (m : (ℓ : Loc Cert.NormLossIdeal.nD Cert.NormLossIdeal.τ Cert.NormLossIdeal.sig) → Buf (Elt Ideal) ℓ) : Prop :=
  True

def Pre_NormLossRefIdeal (m : (ℓ : Loc Cert.NormLossRefIdeal.nD Cert.NormLossRefIdeal.τ Cert.NormLossRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_ProjAttn (m : (ℓ : Loc Cert.ProjAttn.nD Cert.ProjAttn.τ Cert.ProjAttn.sig) → Buf (Elt Bits) ℓ) : Prop :=
  True

def Pre_ProjAttnIdeal (m : (ℓ : Loc Cert.ProjAttnIdeal.nD Cert.ProjAttnIdeal.τ Cert.ProjAttnIdeal.sig) → Buf (Elt Ideal) ℓ) : Prop :=
  True

def Pre_ProjAttnRefIdeal (m : (ℓ : Loc Cert.ProjAttnRefIdeal.nD Cert.ProjAttnRefIdeal.τ Cert.ProjAttnRefIdeal.sig) → Buf (Elt Ideal) ℓ) : Prop :=
  True

def Pre_ProjLruMerge (m : (ℓ : Loc Cert.ProjLruMerge.nD Cert.ProjLruMerge.τ Cert.ProjLruMerge.sig) → Buf (Elt Bits) ℓ) : Prop :=
  True

def Pre_ProjLruMergeIdeal (m : (ℓ : Loc Cert.ProjLruMergeIdeal.nD Cert.ProjLruMergeIdeal.τ Cert.ProjLruMergeIdeal.sig) → Buf (Elt Ideal) ℓ) : Prop :=
  True

def Pre_ProjLruMergeRefIdeal (m : (ℓ : Loc Cert.ProjLruMergeRefIdeal.nD Cert.ProjLruMergeRefIdeal.τ Cert.ProjLruMergeRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_MlpUpDw [hMlpUpDw : Cert.MlpUpDw.Facts] : Prop :=
  ∀ (m : (ℓ : Loc Cert.MlpUpDw.nD Cert.MlpUpDw.τ Cert.MlpUpDw.sig) → Buf (Elt Bits) ℓ) (g : Dev Cert.MlpUpDw.nD → PrngReg), Pre_MlpUpDw m →
    θ_run (Cert.MlpUpDw.defs (F := Bits)) (onTc (τ := Cert.MlpUpDw.τ) (Cert.MlpUpDw.main (F := Bits))) ⟨m, fun _ => 0, g⟩ (fun r => (∀ c : Dev Cert.MlpUpDw.nD,
      r.2.mem ((c.tc : Thread Cert.MlpUpDw.nD Cert.MlpUpDw.τ).loc Cert.MlpUpDw.main_arg0) = m ((c.tc : Thread Cert.MlpUpDw.nD Cert.MlpUpDw.τ).loc Cert.MlpUpDw.main_arg0)
      ∧ r.2.mem ((c.tc : Thread Cert.MlpUpDw.nD Cert.MlpUpDw.τ).loc Cert.MlpUpDw.main_arg1) = m ((c.tc : Thread Cert.MlpUpDw.nD Cert.MlpUpDw.τ).loc Cert.MlpUpDw.main_arg1))
      ∧ r.2.sem = fun _ => 0)

def quiescent_MlpUpDwIdeal [hMlpUpDwIdeal : Cert.MlpUpDwIdeal.Facts] : Prop :=
  ∀ (m : (ℓ : Loc Cert.MlpUpDwIdeal.nD Cert.MlpUpDwIdeal.τ Cert.MlpUpDwIdeal.sig) → Buf (Elt Ideal) ℓ) (g : Dev Cert.MlpUpDwIdeal.nD → PrngReg), Pre_MlpUpDwIdeal m →
    θ_run (Cert.MlpUpDwIdeal.defs (F := Ideal)) (onTc (τ := Cert.MlpUpDwIdeal.τ) (Cert.MlpUpDwIdeal.main (F := Ideal))) ⟨m, fun _ => 0, g⟩ (fun r => (∀ c : Dev Cert.MlpUpDwIdeal.nD,
      r.2.mem ((c.tc : Thread Cert.MlpUpDwIdeal.nD Cert.MlpUpDwIdeal.τ).loc Cert.MlpUpDwIdeal.main_arg0) = m ((c.tc : Thread Cert.MlpUpDwIdeal.nD Cert.MlpUpDwIdeal.τ).loc Cert.MlpUpDwIdeal.main_arg0)
      ∧ r.2.mem ((c.tc : Thread Cert.MlpUpDwIdeal.nD Cert.MlpUpDwIdeal.τ).loc Cert.MlpUpDwIdeal.main_arg1) = m ((c.tc : Thread Cert.MlpUpDwIdeal.nD Cert.MlpUpDwIdeal.τ).loc Cert.MlpUpDwIdeal.main_arg1))
      ∧ r.2.sem = fun _ => 0)

def quiescent_MlpUpDwRefIdeal [hMlpUpDwRefIdeal : Cert.MlpUpDwRefIdeal.Facts] : Prop :=
  ∀ (m : (ℓ : Loc Cert.MlpUpDwRefIdeal.nD Cert.MlpUpDwRefIdeal.τ Cert.MlpUpDwRefIdeal.sig) → Buf (Elt Ideal) ℓ) (g : Dev Cert.MlpUpDwRefIdeal.nD → PrngReg), Pre_MlpUpDwRefIdeal m →
    θ_run (Cert.MlpUpDwRefIdeal.defs (F := Ideal)) (onTc (τ := Cert.MlpUpDwRefIdeal.τ) (Cert.MlpUpDwRefIdeal.main (F := Ideal))) ⟨m, fun _ => 0, g⟩ (fun r => (∀ c : Dev Cert.MlpUpDwRefIdeal.nD,
      r.2.mem ((c.tc : Thread Cert.MlpUpDwRefIdeal.nD Cert.MlpUpDwRefIdeal.τ).loc Cert.MlpUpDwRefIdeal.main_arg0) = m ((c.tc : Thread Cert.MlpUpDwRefIdeal.nD Cert.MlpUpDwRefIdeal.τ).loc Cert.MlpUpDwRefIdeal.main_arg0)
      ∧ r.2.mem ((c.tc : Thread Cert.MlpUpDwRefIdeal.nD Cert.MlpUpDwRefIdeal.τ).loc Cert.MlpUpDwRefIdeal.main_arg1) = m ((c.tc : Thread Cert.MlpUpDwRefIdeal.nD Cert.MlpUpDwRefIdeal.τ).loc Cert.MlpUpDwRefIdeal.main_arg1))
      ∧ r.2.sem = fun _ => 0)

def quiescent_MlpDownDw [hMlpDownDw : Cert.MlpDownDw.Facts] : Prop :=
  ∀ (m : (ℓ : Loc Cert.MlpDownDw.nD Cert.MlpDownDw.τ Cert.MlpDownDw.sig) → Buf (Elt Bits) ℓ) (g : Dev Cert.MlpDownDw.nD → PrngReg), Pre_MlpDownDw m →
    θ_run (Cert.MlpDownDw.defs (F := Bits)) (onTc (τ := Cert.MlpDownDw.τ) (Cert.MlpDownDw.main (F := Bits))) ⟨m, fun _ => 0, g⟩ (fun r => (∀ c : Dev Cert.MlpDownDw.nD,
      r.2.mem ((c.tc : Thread Cert.MlpDownDw.nD Cert.MlpDownDw.τ).loc Cert.MlpDownDw.main_arg0) = m ((c.tc : Thread Cert.MlpDownDw.nD Cert.MlpDownDw.τ).loc Cert.MlpDownDw.main_arg0)
      ∧ r.2.mem ((c.tc : Thread Cert.MlpDownDw.nD Cert.MlpDownDw.τ).loc Cert.MlpDownDw.main_arg1) = m ((c.tc : Thread Cert.MlpDownDw.nD Cert.MlpDownDw.τ).loc Cert.MlpDownDw.main_arg1))
      ∧ r.2.sem = fun _ => 0)

def quiescent_MlpDownDwIdeal [hMlpDownDwIdeal : Cert.MlpDownDwIdeal.Facts] : Prop :=
  ∀ (m : (ℓ : Loc Cert.MlpDownDwIdeal.nD Cert.MlpDownDwIdeal.τ Cert.MlpDownDwIdeal.sig) → Buf (Elt Ideal) ℓ) (g : Dev Cert.MlpDownDwIdeal.nD → PrngReg), Pre_MlpDownDwIdeal m →
    θ_run (Cert.MlpDownDwIdeal.defs (F := Ideal)) (onTc (τ := Cert.MlpDownDwIdeal.τ) (Cert.MlpDownDwIdeal.main (F := Ideal))) ⟨m, fun _ => 0, g⟩ (fun r => (∀ c : Dev Cert.MlpDownDwIdeal.nD,
      r.2.mem ((c.tc : Thread Cert.MlpDownDwIdeal.nD Cert.MlpDownDwIdeal.τ).loc Cert.MlpDownDwIdeal.main_arg0) = m ((c.tc : Thread Cert.MlpDownDwIdeal.nD Cert.MlpDownDwIdeal.τ).loc Cert.MlpDownDwIdeal.main_arg0)
      ∧ r.2.mem ((c.tc : Thread Cert.MlpDownDwIdeal.nD Cert.MlpDownDwIdeal.τ).loc Cert.MlpDownDwIdeal.main_arg1) = m ((c.tc : Thread Cert.MlpDownDwIdeal.nD Cert.MlpDownDwIdeal.τ).loc Cert.MlpDownDwIdeal.main_arg1))
      ∧ r.2.sem = fun _ => 0)

def quiescent_MlpDownDwRefIdeal [hMlpDownDwRefIdeal : Cert.MlpDownDwRefIdeal.Facts] : Prop :=
  ∀ (m : (ℓ : Loc Cert.MlpDownDwRefIdeal.nD Cert.MlpDownDwRefIdeal.τ Cert.MlpDownDwRefIdeal.sig) → Buf (Elt Ideal) ℓ) (g : Dev Cert.MlpDownDwRefIdeal.nD → PrngReg), Pre_MlpDownDwRefIdeal m →
    θ_run (Cert.MlpDownDwRefIdeal.defs (F := Ideal)) (onTc (τ := Cert.MlpDownDwRefIdeal.τ) (Cert.MlpDownDwRefIdeal.main (F := Ideal))) ⟨m, fun _ => 0, g⟩ (fun r => (∀ c : Dev Cert.MlpDownDwRefIdeal.nD,
      r.2.mem ((c.tc : Thread Cert.MlpDownDwRefIdeal.nD Cert.MlpDownDwRefIdeal.τ).loc Cert.MlpDownDwRefIdeal.main_arg0) = m ((c.tc : Thread Cert.MlpDownDwRefIdeal.nD Cert.MlpDownDwRefIdeal.τ).loc Cert.MlpDownDwRefIdeal.main_arg0)
      ∧ r.2.mem ((c.tc : Thread Cert.MlpDownDwRefIdeal.nD Cert.MlpDownDwRefIdeal.τ).loc Cert.MlpDownDwRefIdeal.main_arg1) = m ((c.tc : Thread Cert.MlpDownDwRefIdeal.nD Cert.MlpDownDwRefIdeal.τ).loc Cert.MlpDownDwRefIdeal.main_arg1))
      ∧ r.2.sem = fun _ => 0)

def quiescent_ProjInDw [hProjInDw : Cert.ProjInDw.Facts] : Prop :=
  ∀ (m : (ℓ : Loc Cert.ProjInDw.nD Cert.ProjInDw.τ Cert.ProjInDw.sig) → Buf (Elt Bits) ℓ) (g : Dev Cert.ProjInDw.nD → PrngReg), Pre_ProjInDw m →
    θ_run (Cert.ProjInDw.defs (F := Bits)) (onTc (τ := Cert.ProjInDw.τ) (Cert.ProjInDw.main (F := Bits))) ⟨m, fun _ => 0, g⟩ (fun r => (∀ c : Dev Cert.ProjInDw.nD,
      r.2.mem ((c.tc : Thread Cert.ProjInDw.nD Cert.ProjInDw.τ).loc Cert.ProjInDw.main_arg0) = m ((c.tc : Thread Cert.ProjInDw.nD Cert.ProjInDw.τ).loc Cert.ProjInDw.main_arg0)
      ∧ r.2.mem ((c.tc : Thread Cert.ProjInDw.nD Cert.ProjInDw.τ).loc Cert.ProjInDw.main_arg1) = m ((c.tc : Thread Cert.ProjInDw.nD Cert.ProjInDw.τ).loc Cert.ProjInDw.main_arg1))
      ∧ r.2.sem = fun _ => 0)

def quiescent_ProjInDwIdeal [hProjInDwIdeal : Cert.ProjInDwIdeal.Facts] : Prop :=
  ∀ (m : (ℓ : Loc Cert.ProjInDwIdeal.nD Cert.ProjInDwIdeal.τ Cert.ProjInDwIdeal.sig) → Buf (Elt Ideal) ℓ) (g : Dev Cert.ProjInDwIdeal.nD → PrngReg), Pre_ProjInDwIdeal m →
    θ_run (Cert.ProjInDwIdeal.defs (F := Ideal)) (onTc (τ := Cert.ProjInDwIdeal.τ) (Cert.ProjInDwIdeal.main (F := Ideal))) ⟨m, fun _ => 0, g⟩ (fun r => (∀ c : Dev Cert.ProjInDwIdeal.nD,
      r.2.mem ((c.tc : Thread Cert.ProjInDwIdeal.nD Cert.ProjInDwIdeal.τ).loc Cert.ProjInDwIdeal.main_arg0) = m ((c.tc : Thread Cert.ProjInDwIdeal.nD Cert.ProjInDwIdeal.τ).loc Cert.ProjInDwIdeal.main_arg0)
      ∧ r.2.mem ((c.tc : Thread Cert.ProjInDwIdeal.nD Cert.ProjInDwIdeal.τ).loc Cert.ProjInDwIdeal.main_arg1) = m ((c.tc : Thread Cert.ProjInDwIdeal.nD Cert.ProjInDwIdeal.τ).loc Cert.ProjInDwIdeal.main_arg1))
      ∧ r.2.sem = fun _ => 0)

def quiescent_ProjInDwRefIdeal [hProjInDwRefIdeal : Cert.ProjInDwRefIdeal.Facts] : Prop :=
  ∀ (m : (ℓ : Loc Cert.ProjInDwRefIdeal.nD Cert.ProjInDwRefIdeal.τ Cert.ProjInDwRefIdeal.sig) → Buf (Elt Ideal) ℓ) (g : Dev Cert.ProjInDwRefIdeal.nD → PrngReg), Pre_ProjInDwRefIdeal m →
    θ_run (Cert.ProjInDwRefIdeal.defs (F := Ideal)) (onTc (τ := Cert.ProjInDwRefIdeal.τ) (Cert.ProjInDwRefIdeal.main (F := Ideal))) ⟨m, fun _ => 0, g⟩ (fun r => (∀ c : Dev Cert.ProjInDwRefIdeal.nD,
      r.2.mem ((c.tc : Thread Cert.ProjInDwRefIdeal.nD Cert.ProjInDwRefIdeal.τ).loc Cert.ProjInDwRefIdeal.main_arg0) = m ((c.tc : Thread Cert.ProjInDwRefIdeal.nD Cert.ProjInDwRefIdeal.τ).loc Cert.ProjInDwRefIdeal.main_arg0)
      ∧ r.2.mem ((c.tc : Thread Cert.ProjInDwRefIdeal.nD Cert.ProjInDwRefIdeal.τ).loc Cert.ProjInDwRefIdeal.main_arg1) = m ((c.tc : Thread Cert.ProjInDwRefIdeal.nD Cert.ProjInDwRefIdeal.τ).loc Cert.ProjInDwRefIdeal.main_arg1))
      ∧ r.2.sem = fun _ => 0)

def quiescent_ProjInDx [hProjInDx : Cert.ProjInDx.Facts] : Prop :=
  ∀ (m : (ℓ : Loc Cert.ProjInDx.nD Cert.ProjInDx.τ Cert.ProjInDx.sig) → Buf (Elt Bits) ℓ) (g : Dev Cert.ProjInDx.nD → PrngReg), Pre_ProjInDx m →
    θ_run (Cert.ProjInDx.defs (F := Bits)) (onTc (τ := Cert.ProjInDx.τ) (Cert.ProjInDx.main (F := Bits))) ⟨m, fun _ => 0, g⟩ (fun r => (∀ c : Dev Cert.ProjInDx.nD,
      r.2.mem ((c.tc : Thread Cert.ProjInDx.nD Cert.ProjInDx.τ).loc Cert.ProjInDx.main_arg0) = m ((c.tc : Thread Cert.ProjInDx.nD Cert.ProjInDx.τ).loc Cert.ProjInDx.main_arg0)
      ∧ r.2.mem ((c.tc : Thread Cert.ProjInDx.nD Cert.ProjInDx.τ).loc Cert.ProjInDx.main_arg1) = m ((c.tc : Thread Cert.ProjInDx.nD Cert.ProjInDx.τ).loc Cert.ProjInDx.main_arg1))
      ∧ r.2.sem = fun _ => 0)

def quiescent_ProjInDxIdeal [hProjInDxIdeal : Cert.ProjInDxIdeal.Facts] : Prop :=
  ∀ (m : (ℓ : Loc Cert.ProjInDxIdeal.nD Cert.ProjInDxIdeal.τ Cert.ProjInDxIdeal.sig) → Buf (Elt Ideal) ℓ) (g : Dev Cert.ProjInDxIdeal.nD → PrngReg), Pre_ProjInDxIdeal m →
    θ_run (Cert.ProjInDxIdeal.defs (F := Ideal)) (onTc (τ := Cert.ProjInDxIdeal.τ) (Cert.ProjInDxIdeal.main (F := Ideal))) ⟨m, fun _ => 0, g⟩ (fun r => (∀ c : Dev Cert.ProjInDxIdeal.nD,
      r.2.mem ((c.tc : Thread Cert.ProjInDxIdeal.nD Cert.ProjInDxIdeal.τ).loc Cert.ProjInDxIdeal.main_arg0) = m ((c.tc : Thread Cert.ProjInDxIdeal.nD Cert.ProjInDxIdeal.τ).loc Cert.ProjInDxIdeal.main_arg0)
      ∧ r.2.mem ((c.tc : Thread Cert.ProjInDxIdeal.nD Cert.ProjInDxIdeal.τ).loc Cert.ProjInDxIdeal.main_arg1) = m ((c.tc : Thread Cert.ProjInDxIdeal.nD Cert.ProjInDxIdeal.τ).loc Cert.ProjInDxIdeal.main_arg1))
      ∧ r.2.sem = fun _ => 0)

def quiescent_ProjInDxRefIdeal [hProjInDxRefIdeal : Cert.ProjInDxRefIdeal.Facts] : Prop :=
  ∀ (m : (ℓ : Loc Cert.ProjInDxRefIdeal.nD Cert.ProjInDxRefIdeal.τ Cert.ProjInDxRefIdeal.sig) → Buf (Elt Ideal) ℓ) (g : Dev Cert.ProjInDxRefIdeal.nD → PrngReg), Pre_ProjInDxRefIdeal m →
    θ_run (Cert.ProjInDxRefIdeal.defs (F := Ideal)) (onTc (τ := Cert.ProjInDxRefIdeal.τ) (Cert.ProjInDxRefIdeal.main (F := Ideal))) ⟨m, fun _ => 0, g⟩ (fun r => (∀ c : Dev Cert.ProjInDxRefIdeal.nD,
      r.2.mem ((c.tc : Thread Cert.ProjInDxRefIdeal.nD Cert.ProjInDxRefIdeal.τ).loc Cert.ProjInDxRefIdeal.main_arg0) = m ((c.tc : Thread Cert.ProjInDxRefIdeal.nD Cert.ProjInDxRefIdeal.τ).loc Cert.ProjInDxRefIdeal.main_arg0)
      ∧ r.2.mem ((c.tc : Thread Cert.ProjInDxRefIdeal.nD Cert.ProjInDxRefIdeal.τ).loc Cert.ProjInDxRefIdeal.main_arg1) = m ((c.tc : Thread Cert.ProjInDxRefIdeal.nD Cert.ProjInDxRefIdeal.τ).loc Cert.ProjInDxRefIdeal.main_arg1))
      ∧ r.2.sem = fun _ => 0)

def quiescent_MixOutDw [hMixOutDw : Cert.MixOutDw.Facts] : Prop :=
  ∀ (m : (ℓ : Loc Cert.MixOutDw.nD Cert.MixOutDw.τ Cert.MixOutDw.sig) → Buf (Elt Bits) ℓ) (g : Dev Cert.MixOutDw.nD → PrngReg), Pre_MixOutDw m →
    θ_run (Cert.MixOutDw.defs (F := Bits)) (onTc (τ := Cert.MixOutDw.τ) (Cert.MixOutDw.main (F := Bits))) ⟨m, fun _ => 0, g⟩ (fun r => (∀ c : Dev Cert.MixOutDw.nD,
      r.2.mem ((c.tc : Thread Cert.MixOutDw.nD Cert.MixOutDw.τ).loc Cert.MixOutDw.main_arg0) = m ((c.tc : Thread Cert.MixOutDw.nD Cert.MixOutDw.τ).loc Cert.MixOutDw.main_arg0)
      ∧ r.2.mem ((c.tc : Thread Cert.MixOutDw.nD Cert.MixOutDw.τ).loc Cert.MixOutDw.main_arg1) = m ((c.tc : Thread Cert.MixOutDw.nD Cert.MixOutDw.τ).loc Cert.MixOutDw.main_arg1))
      ∧ r.2.sem = fun _ => 0)

def quiescent_MixOutDwIdeal [hMixOutDwIdeal : Cert.MixOutDwIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg), Pre_MixOutDwIdeal m →
    θ_run (Cert.MixOutDwIdeal.defs (F := Ideal)) (onTc (τ := Cert.MixOutDwIdeal.τ) (Cert.MixOutDwIdeal.main (F := Ideal))) ⟨m, fun _ => 0, g⟩ (fun r => (∀ c : Dev Cert.MixOutDwIdeal.nD,
      r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
      ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ r.2.sem = fun _ => 0)

def quiescent_MixOutDwRefIdeal [hMixOutDwRefIdeal : Cert.MixOutDwRefIdeal.Facts] : Prop :=
  ∀ (m : (ℓ : Loc Cert.MixOutDwRefIdeal.nD Cert.MixOutDwRefIdeal.τ Cert.MixOutDwRefIdeal.sig) → Buf (Elt Ideal) ℓ) (g : Dev Cert.MixOutDwRefIdeal.nD → PrngReg), Pre_MixOutDwRefIdeal m →
    θ_run (Cert.MixOutDwRefIdeal.defs (F := Ideal)) (onTc (τ := Cert.MixOutDwRefIdeal.τ) (Cert.MixOutDwRefIdeal.main (F := Ideal))) ⟨m, fun _ => 0, g⟩ (fun r => (∀ c : Dev Cert.MixOutDwRefIdeal.nD,
      r.2.mem ((c.tc : Thread Cert.MixOutDwRefIdeal.nD Cert.MixOutDwRefIdeal.τ).loc Cert.MixOutDwRefIdeal.main_arg0) = m ((c.tc : Thread Cert.MixOutDwRefIdeal.nD Cert.MixOutDwRefIdeal.τ).loc Cert.MixOutDwRefIdeal.main_arg0)
      ∧ r.2.mem ((c.tc : Thread Cert.MixOutDwRefIdeal.nD Cert.MixOutDwRefIdeal.τ).loc Cert.MixOutDwRefIdeal.main_arg1) = m ((c.tc : Thread Cert.MixOutDwRefIdeal.nD Cert.MixOutDwRefIdeal.τ).loc Cert.MixOutDwRefIdeal.main_arg1))
      ∧ r.2.sem = fun _ => 0)

def quiescent_ProjAttnDx [hProjAttnDx : Cert.ProjAttnDx.Facts] : Prop :=
  ∀ (m : (ℓ : Loc Cert.ProjAttnDx.nD Cert.ProjAttnDx.τ Cert.ProjAttnDx.sig) → Buf (Elt Bits) ℓ) (g : Dev Cert.ProjAttnDx.nD → PrngReg), Pre_ProjAttnDx m →
    θ_run (Cert.ProjAttnDx.defs (F := Bits)) (onTc (τ := Cert.ProjAttnDx.τ) (Cert.ProjAttnDx.main (F := Bits))) ⟨m, fun _ => 0, g⟩ (fun r => (∀ c : Dev Cert.ProjAttnDx.nD,
      r.2.mem ((c.tc : Thread Cert.ProjAttnDx.nD Cert.ProjAttnDx.τ).loc Cert.ProjAttnDx.main_arg0) = m ((c.tc : Thread Cert.ProjAttnDx.nD Cert.ProjAttnDx.τ).loc Cert.ProjAttnDx.main_arg0)
      ∧ r.2.mem ((c.tc : Thread Cert.ProjAttnDx.nD Cert.ProjAttnDx.τ).loc Cert.ProjAttnDx.main_arg1) = m ((c.tc : Thread Cert.ProjAttnDx.nD Cert.ProjAttnDx.τ).loc Cert.ProjAttnDx.main_arg1))
      ∧ r.2.sem = fun _ => 0)

def quiescent_ProjAttnDxIdeal [hProjAttnDxIdeal : Cert.ProjAttnDxIdeal.Facts] : Prop :=
  ∀ (m : (ℓ : Loc Cert.ProjAttnDxIdeal.nD Cert.ProjAttnDxIdeal.τ Cert.ProjAttnDxIdeal.sig) → Buf (Elt Ideal) ℓ) (g : Dev Cert.ProjAttnDxIdeal.nD → PrngReg), Pre_ProjAttnDxIdeal m →
    θ_run (Cert.ProjAttnDxIdeal.defs (F := Ideal)) (onTc (τ := Cert.ProjAttnDxIdeal.τ) (Cert.ProjAttnDxIdeal.main (F := Ideal))) ⟨m, fun _ => 0, g⟩ (fun r => (∀ c : Dev Cert.ProjAttnDxIdeal.nD,
      r.2.mem ((c.tc : Thread Cert.ProjAttnDxIdeal.nD Cert.ProjAttnDxIdeal.τ).loc Cert.ProjAttnDxIdeal.main_arg0) = m ((c.tc : Thread Cert.ProjAttnDxIdeal.nD Cert.ProjAttnDxIdeal.τ).loc Cert.ProjAttnDxIdeal.main_arg0)
      ∧ r.2.mem ((c.tc : Thread Cert.ProjAttnDxIdeal.nD Cert.ProjAttnDxIdeal.τ).loc Cert.ProjAttnDxIdeal.main_arg1) = m ((c.tc : Thread Cert.ProjAttnDxIdeal.nD Cert.ProjAttnDxIdeal.τ).loc Cert.ProjAttnDxIdeal.main_arg1))
      ∧ r.2.sem = fun _ => 0)

def quiescent_ProjAttnDxRefIdeal [hProjAttnDxRefIdeal : Cert.ProjAttnDxRefIdeal.Facts] : Prop :=
  ∀ (m : (ℓ : Loc Cert.ProjAttnDxRefIdeal.nD Cert.ProjAttnDxRefIdeal.τ Cert.ProjAttnDxRefIdeal.sig) → Buf (Elt Ideal) ℓ) (g : Dev Cert.ProjAttnDxRefIdeal.nD → PrngReg), Pre_ProjAttnDxRefIdeal m →
    θ_run (Cert.ProjAttnDxRefIdeal.defs (F := Ideal)) (onTc (τ := Cert.ProjAttnDxRefIdeal.τ) (Cert.ProjAttnDxRefIdeal.main (F := Ideal))) ⟨m, fun _ => 0, g⟩ (fun r => (∀ c : Dev Cert.ProjAttnDxRefIdeal.nD,
      r.2.mem ((c.tc : Thread Cert.ProjAttnDxRefIdeal.nD Cert.ProjAttnDxRefIdeal.τ).loc Cert.ProjAttnDxRefIdeal.main_arg0) = m ((c.tc : Thread Cert.ProjAttnDxRefIdeal.nD Cert.ProjAttnDxRefIdeal.τ).loc Cert.ProjAttnDxRefIdeal.main_arg0)
      ∧ r.2.mem ((c.tc : Thread Cert.ProjAttnDxRefIdeal.nD Cert.ProjAttnDxRefIdeal.τ).loc Cert.ProjAttnDxRefIdeal.main_arg1) = m ((c.tc : Thread Cert.ProjAttnDxRefIdeal.nD Cert.ProjAttnDxRefIdeal.τ).loc Cert.ProjAttnDxRefIdeal.main_arg1))
      ∧ r.2.sem = fun _ => 0)

def quiescent_MixOutDx [hMixOutDx : Cert.MixOutDx.Facts] : Prop :=
  ∀ (m : (ℓ : Loc Cert.MixOutDx.nD Cert.MixOutDx.τ Cert.MixOutDx.sig) → Buf (Elt Bits) ℓ) (g : Dev Cert.MixOutDx.nD → PrngReg), Pre_MixOutDx m →
    θ_run (Cert.MixOutDx.defs (F := Bits)) (onTc (τ := Cert.MixOutDx.τ) (Cert.MixOutDx.main (F := Bits))) ⟨m, fun _ => 0, g⟩ (fun r => (∀ c : Dev Cert.MixOutDx.nD,
      r.2.mem ((c.tc : Thread Cert.MixOutDx.nD Cert.MixOutDx.τ).loc Cert.MixOutDx.main_arg0) = m ((c.tc : Thread Cert.MixOutDx.nD Cert.MixOutDx.τ).loc Cert.MixOutDx.main_arg0)
      ∧ r.2.mem ((c.tc : Thread Cert.MixOutDx.nD Cert.MixOutDx.τ).loc Cert.MixOutDx.main_arg1) = m ((c.tc : Thread Cert.MixOutDx.nD Cert.MixOutDx.τ).loc Cert.MixOutDx.main_arg1)
      ∧ r.2.mem ((c.tc : Thread Cert.MixOutDx.nD Cert.MixOutDx.τ).loc Cert.MixOutDx.main_arg2) = m ((c.tc : Thread Cert.MixOutDx.nD Cert.MixOutDx.τ).loc Cert.MixOutDx.main_arg2)
      ∧ r.2.mem ((c.tc : Thread Cert.MixOutDx.nD Cert.MixOutDx.τ).loc Cert.MixOutDx.main_arg3) = m ((c.tc : Thread Cert.MixOutDx.nD Cert.MixOutDx.τ).loc Cert.MixOutDx.main_arg3)
      ∧ r.2.mem ((c.tc : Thread Cert.MixOutDx.nD Cert.MixOutDx.τ).loc Cert.MixOutDx.main_arg4) = m ((c.tc : Thread Cert.MixOutDx.nD Cert.MixOutDx.τ).loc Cert.MixOutDx.main_arg4))
      ∧ r.2.sem = fun _ => 0)

def quiescent_MixOutDxIdeal [hMixOutDxIdeal : Cert.MixOutDxIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg), Pre_MixOutDxIdeal m →
    θ_run (Cert.MixOutDxIdeal.defs (F := Ideal)) (onTc (τ := Cert.MixOutDxIdeal.τ) (Cert.MixOutDxIdeal.main (F := Ideal))) ⟨m, fun _ => 0, g⟩ (fun r => (∀ c : Dev Cert.MixOutDxIdeal.nD,
      r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
      ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1)
      ∧ r.2.mem ((c.tc : Thread Cert.MixOutDxIdeal.nD Cert.MixOutDxIdeal.τ).loc Cert.MixOutDxIdeal.main_arg2) = m ((c.tc : Thread Cert.MixOutDxIdeal.nD Cert.MixOutDxIdeal.τ).loc Cert.MixOutDxIdeal.main_arg2)
      ∧ r.2.mem ((c.tc : Thread Cert.MixOutDxIdeal.nD Cert.MixOutDxIdeal.τ).loc Cert.MixOutDxIdeal.main_arg3) = m ((c.tc : Thread Cert.MixOutDxIdeal.nD Cert.MixOutDxIdeal.τ).loc Cert.MixOutDxIdeal.main_arg3)
      ∧ r.2.mem ((c.tc : Thread Cert.MixOutDxIdeal.nD Cert.MixOutDxIdeal.τ).loc Cert.MixOutDxIdeal.main_arg4) = m ((c.tc : Thread Cert.MixOutDxIdeal.nD Cert.MixOutDxIdeal.τ).loc Cert.MixOutDxIdeal.main_arg4))
      ∧ r.2.sem = fun _ => 0)

def quiescent_MixOutDxRefIdeal [hMixOutDxRefIdeal : Cert.MixOutDxRefIdeal.Facts] : Prop :=
  ∀ (m : (ℓ : Loc Cert.MixOutDxRefIdeal.nD Cert.MixOutDxRefIdeal.τ Cert.MixOutDxRefIdeal.sig) → Buf (Elt Ideal) ℓ) (g : Dev Cert.MixOutDxRefIdeal.nD → PrngReg), Pre_MixOutDxRefIdeal m →
    θ_run (Cert.MixOutDxRefIdeal.defs (F := Ideal)) (onTc (τ := Cert.MixOutDxRefIdeal.τ) (Cert.MixOutDxRefIdeal.main (F := Ideal))) ⟨m, fun _ => 0, g⟩ (fun r => (∀ c : Dev Cert.MixOutDxRefIdeal.nD,
      r.2.mem ((c.tc : Thread Cert.MixOutDxRefIdeal.nD Cert.MixOutDxRefIdeal.τ).loc Cert.MixOutDxRefIdeal.main_arg0) = m ((c.tc : Thread Cert.MixOutDxRefIdeal.nD Cert.MixOutDxRefIdeal.τ).loc Cert.MixOutDxRefIdeal.main_arg0)
      ∧ r.2.mem ((c.tc : Thread Cert.MixOutDxRefIdeal.nD Cert.MixOutDxRefIdeal.τ).loc Cert.MixOutDxRefIdeal.main_arg1) = m ((c.tc : Thread Cert.MixOutDxRefIdeal.nD Cert.MixOutDxRefIdeal.τ).loc Cert.MixOutDxRefIdeal.main_arg1)
      ∧ r.2.mem ((c.tc : Thread Cert.MixOutDxRefIdeal.nD Cert.MixOutDxRefIdeal.τ).loc Cert.MixOutDxRefIdeal.main_arg2) = m ((c.tc : Thread Cert.MixOutDxRefIdeal.nD Cert.MixOutDxRefIdeal.τ).loc Cert.MixOutDxRefIdeal.main_arg2)
      ∧ r.2.mem ((c.tc : Thread Cert.MixOutDxRefIdeal.nD Cert.MixOutDxRefIdeal.τ).loc Cert.MixOutDxRefIdeal.main_arg3) = m ((c.tc : Thread Cert.MixOutDxRefIdeal.nD Cert.MixOutDxRefIdeal.τ).loc Cert.MixOutDxRefIdeal.main_arg3)
      ∧ r.2.mem ((c.tc : Thread Cert.MixOutDxRefIdeal.nD Cert.MixOutDxRefIdeal.τ).loc Cert.MixOutDxRefIdeal.main_arg4) = m ((c.tc : Thread Cert.MixOutDxRefIdeal.nD Cert.MixOutDxRefIdeal.τ).loc Cert.MixOutDxRefIdeal.main_arg4))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_NormHalvesBwd [hNormHalvesBwd : Cert.NormHalvesBwd.Facts] : Prop :=
  ∀ (m : (ℓ : Loc Cert.NormHalvesBwd.nD Cert.NormHalvesBwd.τ Cert.NormHalvesBwd.sig) → Buf (Elt Bits) ℓ) (g : Dev Cert.NormHalvesBwd.nD → PrngReg), Pre_NormHalvesBwd m →
    θ_run (Cert.NormHalvesBwd.defs (F := Bits)) (onTc (τ := Cert.NormHalvesBwd.τ) (Cert.NormHalvesBwd.main (F := Bits))) ⟨m, fun _ => 0, g⟩ (fun r => (∀ c : Dev Cert.NormHalvesBwd.nD,
      r.2.mem ((c.tc : Thread Cert.NormHalvesBwd.nD Cert.NormHalvesBwd.τ).loc Cert.NormHalvesBwd.main_arg0) = m ((c.tc : Thread Cert.NormHalvesBwd.nD Cert.NormHalvesBwd.τ).loc Cert.NormHalvesBwd.main_arg0)
      ∧ r.2.mem ((c.tc : Thread Cert.NormHalvesBwd.nD Cert.NormHalvesBwd.τ).loc Cert.NormHalvesBwd.main_arg1) = m ((c.tc : Thread Cert.NormHalvesBwd.nD Cert.NormHalvesBwd.τ).loc Cert.NormHalvesBwd.main_arg1)
      ∧ r.2.mem ((c.tc : Thread Cert.NormHalvesBwd.nD Cert.NormHalvesBwd.τ).loc Cert.NormHalvesBwd.main_arg2) = m ((c.tc : Thread Cert.NormHalvesBwd.nD Cert.NormHalvesBwd.τ).loc Cert.NormHalvesBwd.main_arg2)
      ∧ r.2.mem ((c.tc : Thread Cert.NormHalvesBwd.nD Cert.NormHalvesBwd.τ).loc Cert.NormHalvesBwd.main_arg3) = m ((c.tc : Thread Cert.NormHalvesBwd.nD Cert.NormHalvesBwd.τ).loc Cert.NormHalvesBwd.main_arg3))
      ∧ r.2.sem = fun _ => 0)

def quiescent_NormHalvesBwdIdeal [hNormHalvesBwdIdeal : Cert.NormHalvesBwdIdeal.Facts] : Prop :=
  ∀ (m : (ℓ : Loc Cert.NormHalvesBwdIdeal.nD Cert.NormHalvesBwdIdeal.τ Cert.NormHalvesBwdIdeal.sig) → Buf (Elt Ideal) ℓ) (g : Dev Cert.NormHalvesBwdIdeal.nD → PrngReg), Pre_NormHalvesBwdIdeal m →
    θ_run (Cert.NormHalvesBwdIdeal.defs (F := Ideal)) (onTc (τ := Cert.NormHalvesBwdIdeal.τ) (Cert.NormHalvesBwdIdeal.main (F := Ideal))) ⟨m, fun _ => 0, g⟩ (fun r => (∀ c : Dev Cert.NormHalvesBwdIdeal.nD,
      r.2.mem ((c.tc : Thread Cert.NormHalvesBwdIdeal.nD Cert.NormHalvesBwdIdeal.τ).loc Cert.NormHalvesBwdIdeal.main_arg0) = m ((c.tc : Thread Cert.NormHalvesBwdIdeal.nD Cert.NormHalvesBwdIdeal.τ).loc Cert.NormHalvesBwdIdeal.main_arg0)
      ∧ r.2.mem ((c.tc : Thread Cert.NormHalvesBwdIdeal.nD Cert.NormHalvesBwdIdeal.τ).loc Cert.NormHalvesBwdIdeal.main_arg1) = m ((c.tc : Thread Cert.NormHalvesBwdIdeal.nD Cert.NormHalvesBwdIdeal.τ).loc Cert.NormHalvesBwdIdeal.main_arg1)
      ∧ r.2.mem ((c.tc : Thread Cert.NormHalvesBwdIdeal.nD Cert.NormHalvesBwdIdeal.τ).loc Cert.NormHalvesBwdIdeal.main_arg2) = m ((c.tc : Thread Cert.NormHalvesBwdIdeal.nD Cert.NormHalvesBwdIdeal.τ).loc Cert.NormHalvesBwdIdeal.main_arg2)
      ∧ r.2.mem ((c.tc : Thread Cert.NormHalvesBwdIdeal.nD Cert.NormHalvesBwdIdeal.τ).loc Cert.NormHalvesBwdIdeal.main_arg3) = m ((c.tc : Thread Cert.NormHalvesBwdIdeal.nD Cert.NormHalvesBwdIdeal.τ).loc Cert.NormHalvesBwdIdeal.main_arg3))
      ∧ r.2.sem = fun _ => 0)

def quiescent_NormHalvesBwdRefIdeal [hNormHalvesBwdRefIdeal : Cert.NormHalvesBwdRefIdeal.Facts] : Prop :=
  ∀ (m : (ℓ : Loc Cert.NormHalvesBwdRefIdeal.nD Cert.NormHalvesBwdRefIdeal.τ Cert.NormHalvesBwdRefIdeal.sig) → Buf (Elt Ideal) ℓ) (g : Dev Cert.NormHalvesBwdRefIdeal.nD → PrngReg), Pre_NormHalvesBwdRefIdeal m →
    θ_run (Cert.NormHalvesBwdRefIdeal.defs (F := Ideal)) (onTc (τ := Cert.NormHalvesBwdRefIdeal.τ) (Cert.NormHalvesBwdRefIdeal.main (F := Ideal))) ⟨m, fun _ => 0, g⟩ (fun r => (∀ c : Dev Cert.NormHalvesBwdRefIdeal.nD,
      r.2.mem ((c.tc : Thread Cert.NormHalvesBwdRefIdeal.nD Cert.NormHalvesBwdRefIdeal.τ).loc Cert.NormHalvesBwdRefIdeal.main_arg0) = m ((c.tc : Thread Cert.NormHalvesBwdRefIdeal.nD Cert.NormHalvesBwdRefIdeal.τ).loc Cert.NormHalvesBwdRefIdeal.main_arg0)
      ∧ r.2.mem ((c.tc : Thread Cert.NormHalvesBwdRefIdeal.nD Cert.NormHalvesBwdRefIdeal.τ).loc Cert.NormHalvesBwdRefIdeal.main_arg1) = m ((c.tc : Thread Cert.NormHalvesBwdRefIdeal.nD Cert.NormHalvesBwdRefIdeal.τ).loc Cert.NormHalvesBwdRefIdeal.main_arg1)
      ∧ r.2.mem ((c.tc : Thread Cert.NormHalvesBwdRefIdeal.nD Cert.NormHalvesBwdRefIdeal.τ).loc Cert.NormHalvesBwdRefIdeal.main_arg2) = m ((c.tc : Thread Cert.NormHalvesBwdRefIdeal.nD Cert.NormHalvesBwdRefIdeal.τ).loc Cert.NormHalvesBwdRefIdeal.main_arg2)
      ∧ r.2.mem ((c.tc : Thread Cert.NormHalvesBwdRefIdeal.nD Cert.NormHalvesBwdRefIdeal.τ).loc Cert.NormHalvesBwdRefIdeal.main_arg3) = m ((c.tc : Thread Cert.NormHalvesBwdRefIdeal.nD Cert.NormHalvesBwdRefIdeal.τ).loc Cert.NormHalvesBwdRefIdeal.main_arg3))
      ∧ r.2.sem = fun _ => 0)

def quiescent_NormLoss [hNormLoss : Cert.NormLoss.Facts] : Prop :=
  ∀ (m : (ℓ : Loc Cert.NormLoss.nD Cert.NormLoss.τ Cert.NormLoss.sig) → Buf (Elt Bits) ℓ) (g : Dev Cert.NormLoss.nD → PrngReg), Pre_NormLoss m →
    θ_run (Cert.NormLoss.defs (F := Bits)) (onTc (τ := Cert.NormLoss.τ) (Cert.NormLoss.main (F := Bits))) ⟨m, fun _ => 0, g⟩ (fun r => (∀ c : Dev Cert.NormLoss.nD,
      r.2.mem ((c.tc : Thread Cert.NormLoss.nD Cert.NormLoss.τ).loc Cert.NormLoss.main_arg0) = m ((c.tc : Thread Cert.NormLoss.nD Cert.NormLoss.τ).loc Cert.NormLoss.main_arg0)
      ∧ r.2.mem ((c.tc : Thread Cert.NormLoss.nD Cert.NormLoss.τ).loc Cert.NormLoss.main_arg1) = m ((c.tc : Thread Cert.NormLoss.nD Cert.NormLoss.τ).loc Cert.NormLoss.main_arg1)
      ∧ r.2.mem ((c.tc : Thread Cert.NormLoss.nD Cert.NormLoss.τ).loc Cert.NormLoss.main_arg2) = m ((c.tc : Thread Cert.NormLoss.nD Cert.NormLoss.τ).loc Cert.NormLoss.main_arg2))
      ∧ r.2.sem = fun _ => 0)

def quiescent_NormLossIdeal [hNormLossIdeal : Cert.NormLossIdeal.Facts] : Prop :=
  ∀ (m : (ℓ : Loc Cert.NormLossIdeal.nD Cert.NormLossIdeal.τ Cert.NormLossIdeal.sig) → Buf (Elt Ideal) ℓ) (g : Dev Cert.NormLossIdeal.nD → PrngReg), Pre_NormLossIdeal m →
    θ_run (Cert.NormLossIdeal.defs (F := Ideal)) (onTc (τ := Cert.NormLossIdeal.τ) (Cert.NormLossIdeal.main (F := Ideal))) ⟨m, fun _ => 0, g⟩ (fun r => (∀ c : Dev Cert.NormLossIdeal.nD,
      r.2.mem ((c.tc : Thread Cert.NormLossIdeal.nD Cert.NormLossIdeal.τ).loc Cert.NormLossIdeal.main_arg0) = m ((c.tc : Thread Cert.NormLossIdeal.nD Cert.NormLossIdeal.τ).loc Cert.NormLossIdeal.main_arg0)
      ∧ r.2.mem ((c.tc : Thread Cert.NormLossIdeal.nD Cert.NormLossIdeal.τ).loc Cert.NormLossIdeal.main_arg1) = m ((c.tc : Thread Cert.NormLossIdeal.nD Cert.NormLossIdeal.τ).loc Cert.NormLossIdeal.main_arg1)
      ∧ r.2.mem ((c.tc : Thread Cert.NormLossIdeal.nD Cert.NormLossIdeal.τ).loc Cert.NormLossIdeal.main_arg2) = m ((c.tc : Thread Cert.NormLossIdeal.nD Cert.NormLossIdeal.τ).loc Cert.NormLossIdeal.main_arg2))
      ∧ r.2.sem = fun _ => 0)

def quiescent_NormLossRefIdeal [hNormLossRefIdeal : Cert.NormLossRefIdeal.Facts] : Prop :=
  ∀ (m : (ℓ : Loc Cert.NormLossRefIdeal.nD Cert.NormLossRefIdeal.τ Cert.NormLossRefIdeal.sig) → Buf (Elt Ideal) ℓ) (g : Dev Cert.NormLossRefIdeal.nD → PrngReg), Pre_NormLossRefIdeal m →
    θ_run (Cert.NormLossRefIdeal.defs (F := Ideal)) (onTc (τ := Cert.NormLossRefIdeal.τ) (Cert.NormLossRefIdeal.main (F := Ideal))) ⟨m, fun _ => 0, g⟩ (fun r => (∀ c : Dev Cert.NormLossRefIdeal.nD,
      r.2.mem ((c.tc : Thread Cert.NormLossRefIdeal.nD Cert.NormLossRefIdeal.τ).loc Cert.NormLossRefIdeal.main_arg0) = m ((c.tc : Thread Cert.NormLossRefIdeal.nD Cert.NormLossRefIdeal.τ).loc Cert.NormLossRefIdeal.main_arg0)
      ∧ r.2.mem ((c.tc : Thread Cert.NormLossRefIdeal.nD Cert.NormLossRefIdeal.τ).loc Cert.NormLossRefIdeal.main_arg1) = m ((c.tc : Thread Cert.NormLossRefIdeal.nD Cert.NormLossRefIdeal.τ).loc Cert.NormLossRefIdeal.main_arg1)
      ∧ r.2.mem ((c.tc : Thread Cert.NormLossRefIdeal.nD Cert.NormLossRefIdeal.τ).loc Cert.NormLossRefIdeal.main_arg2) = m ((c.tc : Thread Cert.NormLossRefIdeal.nD Cert.NormLossRefIdeal.τ).loc Cert.NormLossRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2))
      ∧ r.2.sem = fun _ => 0)

def quiescent_ProjAttn [hProjAttn : Cert.ProjAttn.Facts] : Prop :=
  ∀ (m : (ℓ : Loc Cert.ProjAttn.nD Cert.ProjAttn.τ Cert.ProjAttn.sig) → Buf (Elt Bits) ℓ) (g : Dev Cert.ProjAttn.nD → PrngReg), Pre_ProjAttn m →
    θ_run (Cert.ProjAttn.defs (F := Bits)) (onTc (τ := Cert.ProjAttn.τ) (Cert.ProjAttn.main (F := Bits))) ⟨m, fun _ => 0, g⟩ (fun r => (∀ c : Dev Cert.ProjAttn.nD,
      r.2.mem ((c.tc : Thread Cert.ProjAttn.nD Cert.ProjAttn.τ).loc Cert.ProjAttn.main_arg0) = m ((c.tc : Thread Cert.ProjAttn.nD Cert.ProjAttn.τ).loc Cert.ProjAttn.main_arg0)
      ∧ r.2.mem ((c.tc : Thread Cert.ProjAttn.nD Cert.ProjAttn.τ).loc Cert.ProjAttn.main_arg1) = m ((c.tc : Thread Cert.ProjAttn.nD Cert.ProjAttn.τ).loc Cert.ProjAttn.main_arg1))
      ∧ r.2.sem = fun _ => 0)

def quiescent_ProjAttnIdeal [hProjAttnIdeal : Cert.ProjAttnIdeal.Facts] : Prop :=
  ∀ (m : (ℓ : Loc Cert.ProjAttnIdeal.nD Cert.ProjAttnIdeal.τ Cert.ProjAttnIdeal.sig) → Buf (Elt Ideal) ℓ) (g : Dev Cert.ProjAttnIdeal.nD → PrngReg), Pre_ProjAttnIdeal m →
    θ_run (Cert.ProjAttnIdeal.defs (F := Ideal)) (onTc (τ := Cert.ProjAttnIdeal.τ) (Cert.ProjAttnIdeal.main (F := Ideal))) ⟨m, fun _ => 0, g⟩ (fun r => (∀ c : Dev Cert.ProjAttnIdeal.nD,
      r.2.mem ((c.tc : Thread Cert.ProjAttnIdeal.nD Cert.ProjAttnIdeal.τ).loc Cert.ProjAttnIdeal.main_arg0) = m ((c.tc : Thread Cert.ProjAttnIdeal.nD Cert.ProjAttnIdeal.τ).loc Cert.ProjAttnIdeal.main_arg0)
      ∧ r.2.mem ((c.tc : Thread Cert.ProjAttnIdeal.nD Cert.ProjAttnIdeal.τ).loc Cert.ProjAttnIdeal.main_arg1) = m ((c.tc : Thread Cert.ProjAttnIdeal.nD Cert.ProjAttnIdeal.τ).loc Cert.ProjAttnIdeal.main_arg1))
      ∧ r.2.sem = fun _ => 0)

def quiescent_ProjAttnRefIdeal [hProjAttnRefIdeal : Cert.ProjAttnRefIdeal.Facts] : Prop :=
  ∀ (m : (ℓ : Loc Cert.ProjAttnRefIdeal.nD Cert.ProjAttnRefIdeal.τ Cert.ProjAttnRefIdeal.sig) → Buf (Elt Ideal) ℓ) (g : Dev Cert.ProjAttnRefIdeal.nD → PrngReg), Pre_ProjAttnRefIdeal m →
    θ_run (Cert.ProjAttnRefIdeal.defs (F := Ideal)) (onTc (τ := Cert.ProjAttnRefIdeal.τ) (Cert.ProjAttnRefIdeal.main (F := Ideal))) ⟨m, fun _ => 0, g⟩ (fun r => (∀ c : Dev Cert.ProjAttnRefIdeal.nD,
      r.2.mem ((c.tc : Thread Cert.ProjAttnRefIdeal.nD Cert.ProjAttnRefIdeal.τ).loc Cert.ProjAttnRefIdeal.main_arg0) = m ((c.tc : Thread Cert.ProjAttnRefIdeal.nD Cert.ProjAttnRefIdeal.τ).loc Cert.ProjAttnRefIdeal.main_arg0)
      ∧ r.2.mem ((c.tc : Thread Cert.ProjAttnRefIdeal.nD Cert.ProjAttnRefIdeal.τ).loc Cert.ProjAttnRefIdeal.main_arg1) = m ((c.tc : Thread Cert.ProjAttnRefIdeal.nD Cert.ProjAttnRefIdeal.τ).loc Cert.ProjAttnRefIdeal.main_arg1))
      ∧ r.2.sem = fun _ => 0)

def quiescent_ProjLruMerge [hProjLruMerge : Cert.ProjLruMerge.Facts] : Prop :=
  ∀ (m : (ℓ : Loc Cert.ProjLruMerge.nD Cert.ProjLruMerge.τ Cert.ProjLruMerge.sig) → Buf (Elt Bits) ℓ) (g : Dev Cert.ProjLruMerge.nD → PrngReg), Pre_ProjLruMerge m →
    θ_run (Cert.ProjLruMerge.defs (F := Bits)) (onTc (τ := Cert.ProjLruMerge.τ) (Cert.ProjLruMerge.main (F := Bits))) ⟨m, fun _ => 0, g⟩ (fun r => (∀ c : Dev Cert.ProjLruMerge.nD,
      r.2.mem ((c.tc : Thread Cert.ProjLruMerge.nD Cert.ProjLruMerge.τ).loc Cert.ProjLruMerge.main_arg0) = m ((c.tc : Thread Cert.ProjLruMerge.nD Cert.ProjLruMerge.τ).loc Cert.ProjLruMerge.main_arg0)
      ∧ r.2.mem ((c.tc : Thread Cert.ProjLruMerge.nD Cert.ProjLruMerge.τ).loc Cert.ProjLruMerge.main_arg1) = m ((c.tc : Thread Cert.ProjLruMerge.nD Cert.ProjLruMerge.τ).loc Cert.ProjLruMerge.main_arg1)
      ∧ r.2.mem ((c.tc : Thread Cert.ProjLruMerge.nD Cert.ProjLruMerge.τ).loc Cert.ProjLruMerge.main_arg2) = m ((c.tc : Thread Cert.ProjLruMerge.nD Cert.ProjLruMerge.τ).loc Cert.ProjLruMerge.main_arg2)
      ∧ r.2.mem ((c.tc : Thread Cert.ProjLruMerge.nD Cert.ProjLruMerge.τ).loc Cert.ProjLruMerge.main_arg3) = m ((c.tc : Thread Cert.ProjLruMerge.nD Cert.ProjLruMerge.τ).loc Cert.ProjLruMerge.main_arg3))
      ∧ r.2.sem = fun _ => 0)

def quiescent_ProjLruMergeIdeal [hProjLruMergeIdeal : Cert.ProjLruMergeIdeal.Facts] : Prop :=
  ∀ (m : (ℓ : Loc Cert.ProjLruMergeIdeal.nD Cert.ProjLruMergeIdeal.τ Cert.ProjLruMergeIdeal.sig) → Buf (Elt Ideal) ℓ) (g : Dev Cert.ProjLruMergeIdeal.nD → PrngReg), Pre_ProjLruMergeIdeal m →
    θ_run (Cert.ProjLruMergeIdeal.defs (F := Ideal)) (onTc (τ := Cert.ProjLruMergeIdeal.τ) (Cert.ProjLruMergeIdeal.main (F := Ideal))) ⟨m, fun _ => 0, g⟩ (fun r => (∀ c : Dev Cert.ProjLruMergeIdeal.nD,
      r.2.mem ((c.tc : Thread Cert.ProjLruMergeIdeal.nD Cert.ProjLruMergeIdeal.τ).loc Cert.ProjLruMergeIdeal.main_arg0) = m ((c.tc : Thread Cert.ProjLruMergeIdeal.nD Cert.ProjLruMergeIdeal.τ).loc Cert.ProjLruMergeIdeal.main_arg0)
      ∧ r.2.mem ((c.tc : Thread Cert.ProjLruMergeIdeal.nD Cert.ProjLruMergeIdeal.τ).loc Cert.ProjLruMergeIdeal.main_arg1) = m ((c.tc : Thread Cert.ProjLruMergeIdeal.nD Cert.ProjLruMergeIdeal.τ).loc Cert.ProjLruMergeIdeal.main_arg1)
      ∧ r.2.mem ((c.tc : Thread Cert.ProjLruMergeIdeal.nD Cert.ProjLruMergeIdeal.τ).loc Cert.ProjLruMergeIdeal.main_arg2) = m ((c.tc : Thread Cert.ProjLruMergeIdeal.nD Cert.ProjLruMergeIdeal.τ).loc Cert.ProjLruMergeIdeal.main_arg2)
      ∧ r.2.mem ((c.tc : Thread Cert.ProjLruMergeIdeal.nD Cert.ProjLruMergeIdeal.τ).loc Cert.ProjLruMergeIdeal.main_arg3) = m ((c.tc : Thread Cert.ProjLruMergeIdeal.nD Cert.ProjLruMergeIdeal.τ).loc Cert.ProjLruMergeIdeal.main_arg3))
      ∧ r.2.sem = fun _ => 0)

def quiescent_ProjLruMergeRefIdeal [hProjLruMergeRefIdeal : Cert.ProjLruMergeRefIdeal.Facts] : Prop :=
  ∀ (m : (ℓ : Loc Cert.ProjLruMergeRefIdeal.nD Cert.ProjLruMergeRefIdeal.τ Cert.ProjLruMergeRefIdeal.sig) → Buf (Elt Ideal) ℓ) (g : Dev Cert.ProjLruMergeRefIdeal.nD → PrngReg), Pre_ProjLruMergeRefIdeal m →
    θ_run (Cert.ProjLruMergeRefIdeal.defs (F := Ideal)) (onTc (τ := Cert.ProjLruMergeRefIdeal.τ) (Cert.ProjLruMergeRefIdeal.main (F := Ideal))) ⟨m, fun _ => 0, g⟩ (fun r => (∀ c : Dev Cert.ProjLruMergeRefIdeal.nD,
      r.2.mem ((c.tc : Thread Cert.ProjLruMergeRefIdeal.nD Cert.ProjLruMergeRefIdeal.τ).loc Cert.ProjLruMergeRefIdeal.main_arg0) = m ((c.tc : Thread Cert.ProjLruMergeRefIdeal.nD Cert.ProjLruMergeRefIdeal.τ).loc Cert.ProjLruMergeRefIdeal.main_arg0)
      ∧ r.2.mem ((c.tc : Thread Cert.ProjLruMergeRefIdeal.nD Cert.ProjLruMergeRefIdeal.τ).loc Cert.ProjLruMergeRefIdeal.main_arg1) = m ((c.tc : Thread Cert.ProjLruMergeRefIdeal.nD Cert.ProjLruMergeRefIdeal.τ).loc Cert.ProjLruMergeRefIdeal.main_arg1)
      ∧ r.2.mem ((c.tc : Thread Cert.ProjLruMergeRefIdeal.nD Cert.ProjLruMergeRefIdeal.τ).loc Cert.ProjLruMergeRefIdeal.main_arg2) = m ((c.tc : Thread Cert.ProjLruMergeRefIdeal.nD Cert.ProjLruMergeRefIdeal.τ).loc Cert.ProjLruMergeRefIdeal.main_arg2)
      ∧ r.2.mem ((c.tc : Thread Cert.ProjLruMergeRefIdeal.nD Cert.ProjLruMergeRefIdeal.τ).loc Cert.ProjLruMergeRefIdeal.main_arg3) = m ((c.tc : Thread Cert.ProjLruMergeRefIdeal.nD Cert.ProjLruMergeRefIdeal.τ).loc Cert.ProjLruMergeRefIdeal.main_arg3))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v202) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_MlpUpDw_MlpUpDwIdeal : Prop :=
  True

def algebraic_MlpUpDwIdeal_MlpUpDwRefIdeal [hMlpUpDwIdeal : Cert.MlpUpDwIdeal.Facts] [hMlpUpDwRefIdeal : Cert.MlpUpDwRefIdeal.Facts] : Prop :=
  ∀ (m : (ℓ : Loc Cert.MlpUpDwIdeal.nD Cert.MlpUpDwIdeal.τ Cert.MlpUpDwIdeal.sig) → Buf (Elt Ideal) ℓ) (g : Dev Cert.MlpUpDwIdeal.nD → PrngReg)
    (m' : (ℓ : Loc Cert.MlpUpDwRefIdeal.nD Cert.MlpUpDwRefIdeal.τ Cert.MlpUpDwRefIdeal.sig) → Buf (Elt Ideal) ℓ) (g' : Dev Cert.MlpUpDwRefIdeal.nD → PrngReg), Pre_MlpUpDwIdeal m →
    (∀ c : Dev Cert.MlpUpDwIdeal.nD,
      m' ((c.tc : Thread Cert.MlpUpDwRefIdeal.nD Cert.MlpUpDwRefIdeal.τ).loc Cert.MlpUpDwRefIdeal.main_arg0) = m ((c.tc : Thread Cert.MlpUpDwIdeal.nD Cert.MlpUpDwIdeal.τ).loc Cert.MlpUpDwIdeal.main_arg0)
      ∧ m' ((c.tc : Thread Cert.MlpUpDwRefIdeal.nD Cert.MlpUpDwRefIdeal.τ).loc Cert.MlpUpDwRefIdeal.main_arg1) = m ((c.tc : Thread Cert.MlpUpDwIdeal.nD Cert.MlpUpDwIdeal.τ).loc Cert.MlpUpDwIdeal.main_arg1)) →
    ∃ (v0 : (c : Dev Cert.MlpUpDwIdeal.nD) → Buf (Elt Ideal) ((c.tc : Thread Cert.MlpUpDwIdeal.nD Cert.MlpUpDwIdeal.τ).loc Cert.MlpUpDwIdeal.main_v0)),
      θ_run (Cert.MlpUpDwIdeal.defs (F := Ideal)) (onTc (τ := Cert.MlpUpDwIdeal.τ) (Cert.MlpUpDwIdeal.main (F := Ideal))) ⟨m, fun _ => 0, g⟩ (fun r => ∀ c : Dev Cert.MlpUpDwIdeal.nD,
          r.2.mem ((c.tc : Thread Cert.MlpUpDwIdeal.nD Cert.MlpUpDwIdeal.τ).loc Cert.MlpUpDwIdeal.main_v0) = v0 c
          ∧ r.2.mem ((c.tc : Thread Cert.MlpUpDwIdeal.nD Cert.MlpUpDwIdeal.τ).loc Cert.MlpUpDwIdeal.main_arg0) = m ((c.tc : Thread Cert.MlpUpDwIdeal.nD Cert.MlpUpDwIdeal.τ).loc Cert.MlpUpDwIdeal.main_arg0)
          ∧ r.2.mem ((c.tc : Thread Cert.MlpUpDwIdeal.nD Cert.MlpUpDwIdeal.τ).loc Cert.MlpUpDwIdeal.main_arg1) = m ((c.tc : Thread Cert.MlpUpDwIdeal.nD Cert.MlpUpDwIdeal.τ).loc Cert.MlpUpDwIdeal.main_arg1))
      ∧ θ_run (Cert.MlpUpDwRefIdeal.defs (F := Ideal)) (onTc (τ := Cert.MlpUpDwRefIdeal.τ) (Cert.MlpUpDwRefIdeal.main (F := Ideal))) ⟨m', fun _ => 0, g'⟩ (fun r => ∀ c : Dev Cert.MlpUpDwRefIdeal.nD,
          r.2.mem ((c.tc : Thread Cert.MlpUpDwRefIdeal.nD Cert.MlpUpDwRefIdeal.τ).loc Cert.MlpUpDwRefIdeal.main_v6) = v0 c
          ∧ r.2.mem ((c.tc : Thread Cert.MlpUpDwRefIdeal.nD Cert.MlpUpDwRefIdeal.τ).loc Cert.MlpUpDwRefIdeal.main_arg0) = m' ((c.tc : Thread Cert.MlpUpDwRefIdeal.nD Cert.MlpUpDwRefIdeal.τ).loc Cert.MlpUpDwRefIdeal.main_arg0)
          ∧ r.2.mem ((c.tc : Thread Cert.MlpUpDwRefIdeal.nD Cert.MlpUpDwRefIdeal.τ).loc Cert.MlpUpDwRefIdeal.main_arg1) = m' ((c.tc : Thread Cert.MlpUpDwRefIdeal.nD Cert.MlpUpDwRefIdeal.τ).loc Cert.MlpUpDwRefIdeal.main_arg1))

def preserves_MlpDownDw_MlpDownDwIdeal : Prop :=
  True

def algebraic_MlpDownDwIdeal_MlpDownDwRefIdeal [hMlpDownDwIdeal : Cert.MlpDownDwIdeal.Facts] [hMlpDownDwRefIdeal : Cert.MlpDownDwRefIdeal.Facts] : Prop :=
  ∀ (m : (ℓ : Loc Cert.MlpDownDwIdeal.nD Cert.MlpDownDwIdeal.τ Cert.MlpDownDwIdeal.sig) → Buf (Elt Ideal) ℓ) (g : Dev Cert.MlpDownDwIdeal.nD → PrngReg)
    (m' : (ℓ : Loc Cert.MlpDownDwRefIdeal.nD Cert.MlpDownDwRefIdeal.τ Cert.MlpDownDwRefIdeal.sig) → Buf (Elt Ideal) ℓ) (g' : Dev Cert.MlpDownDwRefIdeal.nD → PrngReg), Pre_MlpDownDwIdeal m →
    (∀ c : Dev Cert.MlpDownDwIdeal.nD,
      m' ((c.tc : Thread Cert.MlpDownDwRefIdeal.nD Cert.MlpDownDwRefIdeal.τ).loc Cert.MlpDownDwRefIdeal.main_arg0) = m ((c.tc : Thread Cert.MlpDownDwIdeal.nD Cert.MlpDownDwIdeal.τ).loc Cert.MlpDownDwIdeal.main_arg0)
      ∧ m' ((c.tc : Thread Cert.MlpDownDwRefIdeal.nD Cert.MlpDownDwRefIdeal.τ).loc Cert.MlpDownDwRefIdeal.main_arg1) = m ((c.tc : Thread Cert.MlpDownDwIdeal.nD Cert.MlpDownDwIdeal.τ).loc Cert.MlpDownDwIdeal.main_arg1)) →
    ∃ (v0 : (c : Dev Cert.MlpDownDwIdeal.nD) → Buf (Elt Ideal) ((c.tc : Thread Cert.MlpDownDwIdeal.nD Cert.MlpDownDwIdeal.τ).loc Cert.MlpDownDwIdeal.main_v0)),
      θ_run (Cert.MlpDownDwIdeal.defs (F := Ideal)) (onTc (τ := Cert.MlpDownDwIdeal.τ) (Cert.MlpDownDwIdeal.main (F := Ideal))) ⟨m, fun _ => 0, g⟩ (fun r => ∀ c : Dev Cert.MlpDownDwIdeal.nD,
          r.2.mem ((c.tc : Thread Cert.MlpDownDwIdeal.nD Cert.MlpDownDwIdeal.τ).loc Cert.MlpDownDwIdeal.main_v0) = v0 c
          ∧ r.2.mem ((c.tc : Thread Cert.MlpDownDwIdeal.nD Cert.MlpDownDwIdeal.τ).loc Cert.MlpDownDwIdeal.main_arg0) = m ((c.tc : Thread Cert.MlpDownDwIdeal.nD Cert.MlpDownDwIdeal.τ).loc Cert.MlpDownDwIdeal.main_arg0)
          ∧ r.2.mem ((c.tc : Thread Cert.MlpDownDwIdeal.nD Cert.MlpDownDwIdeal.τ).loc Cert.MlpDownDwIdeal.main_arg1) = m ((c.tc : Thread Cert.MlpDownDwIdeal.nD Cert.MlpDownDwIdeal.τ).loc Cert.MlpDownDwIdeal.main_arg1))
      ∧ θ_run (Cert.MlpDownDwRefIdeal.defs (F := Ideal)) (onTc (τ := Cert.MlpDownDwRefIdeal.τ) (Cert.MlpDownDwRefIdeal.main (F := Ideal))) ⟨m', fun _ => 0, g'⟩ (fun r => ∀ c : Dev Cert.MlpDownDwRefIdeal.nD,
          r.2.mem ((c.tc : Thread Cert.MlpDownDwRefIdeal.nD Cert.MlpDownDwRefIdeal.τ).loc Cert.MlpDownDwRefIdeal.main_v6) = v0 c
          ∧ r.2.mem ((c.tc : Thread Cert.MlpDownDwRefIdeal.nD Cert.MlpDownDwRefIdeal.τ).loc Cert.MlpDownDwRefIdeal.main_arg0) = m' ((c.tc : Thread Cert.MlpDownDwRefIdeal.nD Cert.MlpDownDwRefIdeal.τ).loc Cert.MlpDownDwRefIdeal.main_arg0)
          ∧ r.2.mem ((c.tc : Thread Cert.MlpDownDwRefIdeal.nD Cert.MlpDownDwRefIdeal.τ).loc Cert.MlpDownDwRefIdeal.main_arg1) = m' ((c.tc : Thread Cert.MlpDownDwRefIdeal.nD Cert.MlpDownDwRefIdeal.τ).loc Cert.MlpDownDwRefIdeal.main_arg1))

def preserves_ProjInDw_ProjInDwIdeal : Prop :=
  True

def algebraic_ProjInDwIdeal_ProjInDwRefIdeal [hProjInDwIdeal : Cert.ProjInDwIdeal.Facts] [hProjInDwRefIdeal : Cert.ProjInDwRefIdeal.Facts] : Prop :=
  ∀ (m : (ℓ : Loc Cert.ProjInDwIdeal.nD Cert.ProjInDwIdeal.τ Cert.ProjInDwIdeal.sig) → Buf (Elt Ideal) ℓ) (g : Dev Cert.ProjInDwIdeal.nD → PrngReg)
    (m' : (ℓ : Loc Cert.ProjInDwRefIdeal.nD Cert.ProjInDwRefIdeal.τ Cert.ProjInDwRefIdeal.sig) → Buf (Elt Ideal) ℓ) (g' : Dev Cert.ProjInDwRefIdeal.nD → PrngReg), Pre_ProjInDwIdeal m →
    (∀ c : Dev Cert.ProjInDwIdeal.nD,
      m' ((c.tc : Thread Cert.ProjInDwRefIdeal.nD Cert.ProjInDwRefIdeal.τ).loc Cert.ProjInDwRefIdeal.main_arg0) = m ((c.tc : Thread Cert.ProjInDwIdeal.nD Cert.ProjInDwIdeal.τ).loc Cert.ProjInDwIdeal.main_arg0)
      ∧ m' ((c.tc : Thread Cert.ProjInDwRefIdeal.nD Cert.ProjInDwRefIdeal.τ).loc Cert.ProjInDwRefIdeal.main_arg1) = m ((c.tc : Thread Cert.ProjInDwIdeal.nD Cert.ProjInDwIdeal.τ).loc Cert.ProjInDwIdeal.main_arg1)) →
    ∃ (v0 : (c : Dev Cert.ProjInDwIdeal.nD) → Buf (Elt Ideal) ((c.tc : Thread Cert.ProjInDwIdeal.nD Cert.ProjInDwIdeal.τ).loc Cert.ProjInDwIdeal.main_v2)),
      θ_run (Cert.ProjInDwIdeal.defs (F := Ideal)) (onTc (τ := Cert.ProjInDwIdeal.τ) (Cert.ProjInDwIdeal.main (F := Ideal))) ⟨m, fun _ => 0, g⟩ (fun r => ∀ c : Dev Cert.ProjInDwIdeal.nD,
          r.2.mem ((c.tc : Thread Cert.ProjInDwIdeal.nD Cert.ProjInDwIdeal.τ).loc Cert.ProjInDwIdeal.main_v2) = v0 c
          ∧ r.2.mem ((c.tc : Thread Cert.ProjInDwIdeal.nD Cert.ProjInDwIdeal.τ).loc Cert.ProjInDwIdeal.main_arg0) = m ((c.tc : Thread Cert.ProjInDwIdeal.nD Cert.ProjInDwIdeal.τ).loc Cert.ProjInDwIdeal.main_arg0)
          ∧ r.2.mem ((c.tc : Thread Cert.ProjInDwIdeal.nD Cert.ProjInDwIdeal.τ).loc Cert.ProjInDwIdeal.main_arg1) = m ((c.tc : Thread Cert.ProjInDwIdeal.nD Cert.ProjInDwIdeal.τ).loc Cert.ProjInDwIdeal.main_arg1))
      ∧ θ_run (Cert.ProjInDwRefIdeal.defs (F := Ideal)) (onTc (τ := Cert.ProjInDwRefIdeal.τ) (Cert.ProjInDwRefIdeal.main (F := Ideal))) ⟨m', fun _ => 0, g'⟩ (fun r => ∀ c : Dev Cert.ProjInDwRefIdeal.nD,
          r.2.mem ((c.tc : Thread Cert.ProjInDwRefIdeal.nD Cert.ProjInDwRefIdeal.τ).loc Cert.ProjInDwRefIdeal.main_v7) = v0 c
          ∧ r.2.mem ((c.tc : Thread Cert.ProjInDwRefIdeal.nD Cert.ProjInDwRefIdeal.τ).loc Cert.ProjInDwRefIdeal.main_arg0) = m' ((c.tc : Thread Cert.ProjInDwRefIdeal.nD Cert.ProjInDwRefIdeal.τ).loc Cert.ProjInDwRefIdeal.main_arg0)
          ∧ r.2.mem ((c.tc : Thread Cert.ProjInDwRefIdeal.nD Cert.ProjInDwRefIdeal.τ).loc Cert.ProjInDwRefIdeal.main_arg1) = m' ((c.tc : Thread Cert.ProjInDwRefIdeal.nD Cert.ProjInDwRefIdeal.τ).loc Cert.ProjInDwRefIdeal.main_arg1))

def preserves_ProjInDx_ProjInDxIdeal : Prop :=
  True

def algebraic_ProjInDxIdeal_ProjInDxRefIdeal [hProjInDxIdeal : Cert.ProjInDxIdeal.Facts] [hProjInDxRefIdeal : Cert.ProjInDxRefIdeal.Facts] : Prop :=
  ∀ (m : (ℓ : Loc Cert.ProjInDxIdeal.nD Cert.ProjInDxIdeal.τ Cert.ProjInDxIdeal.sig) → Buf (Elt Ideal) ℓ) (g : Dev Cert.ProjInDxIdeal.nD → PrngReg)
    (m' : (ℓ : Loc Cert.ProjInDxRefIdeal.nD Cert.ProjInDxRefIdeal.τ Cert.ProjInDxRefIdeal.sig) → Buf (Elt Ideal) ℓ) (g' : Dev Cert.ProjInDxRefIdeal.nD → PrngReg), Pre_ProjInDxIdeal m →
    (∀ c : Dev Cert.ProjInDxIdeal.nD,
      m' ((c.tc : Thread Cert.ProjInDxRefIdeal.nD Cert.ProjInDxRefIdeal.τ).loc Cert.ProjInDxRefIdeal.main_arg0) = m ((c.tc : Thread Cert.ProjInDxIdeal.nD Cert.ProjInDxIdeal.τ).loc Cert.ProjInDxIdeal.main_arg0)
      ∧ m' ((c.tc : Thread Cert.ProjInDxRefIdeal.nD Cert.ProjInDxRefIdeal.τ).loc Cert.ProjInDxRefIdeal.main_arg1) = m ((c.tc : Thread Cert.ProjInDxIdeal.nD Cert.ProjInDxIdeal.τ).loc Cert.ProjInDxIdeal.main_arg1)) →
    ∃ (v0 : (c : Dev Cert.ProjInDxIdeal.nD) → Buf (Elt Ideal) ((c.tc : Thread Cert.ProjInDxIdeal.nD Cert.ProjInDxIdeal.τ).loc Cert.ProjInDxIdeal.main_v2)),
      θ_run (Cert.ProjInDxIdeal.defs (F := Ideal)) (onTc (τ := Cert.ProjInDxIdeal.τ) (Cert.ProjInDxIdeal.main (F := Ideal))) ⟨m, fun _ => 0, g⟩ (fun r => ∀ c : Dev Cert.ProjInDxIdeal.nD,
          r.2.mem ((c.tc : Thread Cert.ProjInDxIdeal.nD Cert.ProjInDxIdeal.τ).loc Cert.ProjInDxIdeal.main_v2) = v0 c
          ∧ r.2.mem ((c.tc : Thread Cert.ProjInDxIdeal.nD Cert.ProjInDxIdeal.τ).loc Cert.ProjInDxIdeal.main_arg0) = m ((c.tc : Thread Cert.ProjInDxIdeal.nD Cert.ProjInDxIdeal.τ).loc Cert.ProjInDxIdeal.main_arg0)
          ∧ r.2.mem ((c.tc : Thread Cert.ProjInDxIdeal.nD Cert.ProjInDxIdeal.τ).loc Cert.ProjInDxIdeal.main_arg1) = m ((c.tc : Thread Cert.ProjInDxIdeal.nD Cert.ProjInDxIdeal.τ).loc Cert.ProjInDxIdeal.main_arg1))
      ∧ θ_run (Cert.ProjInDxRefIdeal.defs (F := Ideal)) (onTc (τ := Cert.ProjInDxRefIdeal.τ) (Cert.ProjInDxRefIdeal.main (F := Ideal))) ⟨m', fun _ => 0, g'⟩ (fun r => ∀ c : Dev Cert.ProjInDxRefIdeal.nD,
          r.2.mem ((c.tc : Thread Cert.ProjInDxRefIdeal.nD Cert.ProjInDxRefIdeal.τ).loc Cert.ProjInDxRefIdeal.main_v5) = v0 c
          ∧ r.2.mem ((c.tc : Thread Cert.ProjInDxRefIdeal.nD Cert.ProjInDxRefIdeal.τ).loc Cert.ProjInDxRefIdeal.main_arg0) = m' ((c.tc : Thread Cert.ProjInDxRefIdeal.nD Cert.ProjInDxRefIdeal.τ).loc Cert.ProjInDxRefIdeal.main_arg0)
          ∧ r.2.mem ((c.tc : Thread Cert.ProjInDxRefIdeal.nD Cert.ProjInDxRefIdeal.τ).loc Cert.ProjInDxRefIdeal.main_arg1) = m' ((c.tc : Thread Cert.ProjInDxRefIdeal.nD Cert.ProjInDxRefIdeal.τ).loc Cert.ProjInDxRefIdeal.main_arg1))

def preserves_MixOutDw_MixOutDwIdeal : Prop :=
  True

def algebraic_MixOutDwIdeal_MixOutDwRefIdeal [hMixOutDwIdeal : Cert.MixOutDwIdeal.Facts] [hMixOutDwRefIdeal : Cert.MixOutDwRefIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg)
    (m' : (ℓ : Loc Cert.MixOutDwRefIdeal.nD Cert.MixOutDwRefIdeal.τ Cert.MixOutDwRefIdeal.sig) → Buf (Elt Ideal) ℓ) (g' : Dev Cert.MixOutDwRefIdeal.nD → PrngReg), Pre_MixOutDwIdeal m →
    (∀ c : Dev Cert.MixOutDwIdeal.nD,
      m' ((c.tc : Thread Cert.MixOutDwRefIdeal.nD Cert.MixOutDwRefIdeal.τ).loc Cert.MixOutDwRefIdeal.main_arg0) = m ((c.tc : Thread Cert.MixOutDwIdeal.nD Cert.MixOutDwIdeal.τ).loc Cert.MixOutDwIdeal.main_arg0)
      ∧ m' ((c.tc : Thread Cert.MixOutDwRefIdeal.nD Cert.MixOutDwRefIdeal.τ).loc Cert.MixOutDwRefIdeal.main_arg1) = m ((c.tc : Thread Cert.MixOutDwIdeal.nD Cert.MixOutDwIdeal.τ).loc Cert.MixOutDwIdeal.main_arg1)) →
    ∃ (v0 : (c : Dev Cert.MixOutDwIdeal.nD) → Buf (Elt Ideal) ((c.tc : Thread Cert.MixOutDwIdeal.nD Cert.MixOutDwIdeal.τ).loc Cert.MixOutDwIdeal.main_v0)),
      θ_run (Cert.MixOutDwIdeal.defs (F := Ideal)) (onTc (τ := Cert.MixOutDwIdeal.τ) (Cert.MixOutDwIdeal.main (F := Ideal))) ⟨m, fun _ => 0, g⟩ (fun r => ∀ c : Dev Cert.MixOutDwIdeal.nD,
          r.2.mem ((c.tc : Thread Cert.MixOutDwIdeal.nD Cert.MixOutDwIdeal.τ).loc Cert.MixOutDwIdeal.main_v0) = v0 c
          ∧ r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
          ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ θ_run (Cert.MixOutDwRefIdeal.defs (F := Ideal)) (onTc (τ := Cert.MixOutDwRefIdeal.τ) (Cert.MixOutDwRefIdeal.main (F := Ideal))) ⟨m', fun _ => 0, g'⟩ (fun r => ∀ c : Dev Cert.MixOutDwRefIdeal.nD,
          r.2.mem ((c.tc : Thread Cert.MixOutDwRefIdeal.nD Cert.MixOutDwRefIdeal.τ).loc Cert.MixOutDwRefIdeal.main_v6) = v0 c
          ∧ r.2.mem ((c.tc : Thread Cert.MixOutDwRefIdeal.nD Cert.MixOutDwRefIdeal.τ).loc Cert.MixOutDwRefIdeal.main_arg0) = m' ((c.tc : Thread Cert.MixOutDwRefIdeal.nD Cert.MixOutDwRefIdeal.τ).loc Cert.MixOutDwRefIdeal.main_arg0)
          ∧ r.2.mem ((c.tc : Thread Cert.MixOutDwRefIdeal.nD Cert.MixOutDwRefIdeal.τ).loc Cert.MixOutDwRefIdeal.main_arg1) = m' ((c.tc : Thread Cert.MixOutDwRefIdeal.nD Cert.MixOutDwRefIdeal.τ).loc Cert.MixOutDwRefIdeal.main_arg1))

def preserves_ProjAttnDx_ProjAttnDxIdeal : Prop :=
  True

def algebraic_ProjAttnDxIdeal_ProjAttnDxRefIdeal [hProjAttnDxIdeal : Cert.ProjAttnDxIdeal.Facts] [hProjAttnDxRefIdeal : Cert.ProjAttnDxRefIdeal.Facts] : Prop :=
  ∀ (m : (ℓ : Loc Cert.ProjAttnDxIdeal.nD Cert.ProjAttnDxIdeal.τ Cert.ProjAttnDxIdeal.sig) → Buf (Elt Ideal) ℓ) (g : Dev Cert.ProjAttnDxIdeal.nD → PrngReg)
    (m' : (ℓ : Loc Cert.ProjAttnDxRefIdeal.nD Cert.ProjAttnDxRefIdeal.τ Cert.ProjAttnDxRefIdeal.sig) → Buf (Elt Ideal) ℓ) (g' : Dev Cert.ProjAttnDxRefIdeal.nD → PrngReg), Pre_ProjAttnDxIdeal m →
    (∀ c : Dev Cert.ProjAttnDxIdeal.nD,
      m' ((c.tc : Thread Cert.ProjAttnDxRefIdeal.nD Cert.ProjAttnDxRefIdeal.τ).loc Cert.ProjAttnDxRefIdeal.main_arg0) = m ((c.tc : Thread Cert.ProjAttnDxIdeal.nD Cert.ProjAttnDxIdeal.τ).loc Cert.ProjAttnDxIdeal.main_arg0)
      ∧ m' ((c.tc : Thread Cert.ProjAttnDxRefIdeal.nD Cert.ProjAttnDxRefIdeal.τ).loc Cert.ProjAttnDxRefIdeal.main_arg1) = m ((c.tc : Thread Cert.ProjAttnDxIdeal.nD Cert.ProjAttnDxIdeal.τ).loc Cert.ProjAttnDxIdeal.main_arg1)) →
    ∃ (v0 : (c : Dev Cert.ProjAttnDxIdeal.nD) → Buf (Elt Ideal) ((c.tc : Thread Cert.ProjAttnDxIdeal.nD Cert.ProjAttnDxIdeal.τ).loc Cert.ProjAttnDxIdeal.main_v0)),
      θ_run (Cert.ProjAttnDxIdeal.defs (F := Ideal)) (onTc (τ := Cert.ProjAttnDxIdeal.τ) (Cert.ProjAttnDxIdeal.main (F := Ideal))) ⟨m, fun _ => 0, g⟩ (fun r => ∀ c : Dev Cert.ProjAttnDxIdeal.nD,
          r.2.mem ((c.tc : Thread Cert.ProjAttnDxIdeal.nD Cert.ProjAttnDxIdeal.τ).loc Cert.ProjAttnDxIdeal.main_v0) = v0 c
          ∧ r.2.mem ((c.tc : Thread Cert.ProjAttnDxIdeal.nD Cert.ProjAttnDxIdeal.τ).loc Cert.ProjAttnDxIdeal.main_arg0) = m ((c.tc : Thread Cert.ProjAttnDxIdeal.nD Cert.ProjAttnDxIdeal.τ).loc Cert.ProjAttnDxIdeal.main_arg0)
          ∧ r.2.mem ((c.tc : Thread Cert.ProjAttnDxIdeal.nD Cert.ProjAttnDxIdeal.τ).loc Cert.ProjAttnDxIdeal.main_arg1) = m ((c.tc : Thread Cert.ProjAttnDxIdeal.nD Cert.ProjAttnDxIdeal.τ).loc Cert.ProjAttnDxIdeal.main_arg1))
      ∧ θ_run (Cert.ProjAttnDxRefIdeal.defs (F := Ideal)) (onTc (τ := Cert.ProjAttnDxRefIdeal.τ) (Cert.ProjAttnDxRefIdeal.main (F := Ideal))) ⟨m', fun _ => 0, g'⟩ (fun r => ∀ c : Dev Cert.ProjAttnDxRefIdeal.nD,
          r.2.mem ((c.tc : Thread Cert.ProjAttnDxRefIdeal.nD Cert.ProjAttnDxRefIdeal.τ).loc Cert.ProjAttnDxRefIdeal.main_v4) = v0 c
          ∧ r.2.mem ((c.tc : Thread Cert.ProjAttnDxRefIdeal.nD Cert.ProjAttnDxRefIdeal.τ).loc Cert.ProjAttnDxRefIdeal.main_arg0) = m' ((c.tc : Thread Cert.ProjAttnDxRefIdeal.nD Cert.ProjAttnDxRefIdeal.τ).loc Cert.ProjAttnDxRefIdeal.main_arg0)
          ∧ r.2.mem ((c.tc : Thread Cert.ProjAttnDxRefIdeal.nD Cert.ProjAttnDxRefIdeal.τ).loc Cert.ProjAttnDxRefIdeal.main_arg1) = m' ((c.tc : Thread Cert.ProjAttnDxRefIdeal.nD Cert.ProjAttnDxRefIdeal.τ).loc Cert.ProjAttnDxRefIdeal.main_arg1))

def preserves_MixOutDx_MixOutDxIdeal : Prop :=
  True

def algebraic_MixOutDxIdeal_MixOutDxRefIdeal [hMixOutDxIdeal : Cert.MixOutDxIdeal.Facts] [hMixOutDxRefIdeal : Cert.MixOutDxRefIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg)
    (m' : (ℓ : Loc Cert.MixOutDxRefIdeal.nD Cert.MixOutDxRefIdeal.τ Cert.MixOutDxRefIdeal.sig) → Buf (Elt Ideal) ℓ) (g' : Dev Cert.MixOutDxRefIdeal.nD → PrngReg), Pre_MixOutDxIdeal m →
    (∀ c : Dev Cert.MixOutDxIdeal.nD,
      m' ((c.tc : Thread Cert.MixOutDxRefIdeal.nD Cert.MixOutDxRefIdeal.τ).loc Cert.MixOutDxRefIdeal.main_arg0) = m ((c.tc : Thread Cert.MixOutDxIdeal.nD Cert.MixOutDxIdeal.τ).loc Cert.MixOutDxIdeal.main_arg0)
      ∧ m' ((c.tc : Thread Cert.MixOutDxRefIdeal.nD Cert.MixOutDxRefIdeal.τ).loc Cert.MixOutDxRefIdeal.main_arg1) = m ((c.tc : Thread Cert.MixOutDxIdeal.nD Cert.MixOutDxIdeal.τ).loc Cert.MixOutDxIdeal.main_arg1)
      ∧ m' ((c.tc : Thread Cert.MixOutDxRefIdeal.nD Cert.MixOutDxRefIdeal.τ).loc Cert.MixOutDxRefIdeal.main_arg2) = m ((c.tc : Thread Cert.MixOutDxIdeal.nD Cert.MixOutDxIdeal.τ).loc Cert.MixOutDxIdeal.main_arg2)
      ∧ m' ((c.tc : Thread Cert.MixOutDxRefIdeal.nD Cert.MixOutDxRefIdeal.τ).loc Cert.MixOutDxRefIdeal.main_arg3) = m ((c.tc : Thread Cert.MixOutDxIdeal.nD Cert.MixOutDxIdeal.τ).loc Cert.MixOutDxIdeal.main_arg3)
      ∧ m' ((c.tc : Thread Cert.MixOutDxRefIdeal.nD Cert.MixOutDxRefIdeal.τ).loc Cert.MixOutDxRefIdeal.main_arg4) = m ((c.tc : Thread Cert.MixOutDxIdeal.nD Cert.MixOutDxIdeal.τ).loc Cert.MixOutDxIdeal.main_arg4)) →
    ∃ (v0 : (c : Dev Cert.MixOutDxIdeal.nD) → Buf (Elt Ideal) ((c.tc : Thread Cert.MixOutDxIdeal.nD Cert.MixOutDxIdeal.τ).loc Cert.MixOutDxIdeal.main_v0_0)) (v1 : (c : Dev Cert.MixOutDxIdeal.nD) → Buf (Elt Ideal) ((c.tc : Thread Cert.MixOutDxIdeal.nD Cert.MixOutDxIdeal.τ).loc Cert.MixOutDxIdeal.main_v0_1)) (v2 : (c : Dev Cert.MixOutDxIdeal.nD) → Buf (Elt Ideal) ((c.tc : Thread Cert.MixOutDxIdeal.nD Cert.MixOutDxIdeal.τ).loc Cert.MixOutDxIdeal.main_v0_2)) (v3 : (c : Dev Cert.MixOutDxIdeal.nD) → Buf (Elt Ideal) ((c.tc : Thread Cert.MixOutDxIdeal.nD Cert.MixOutDxIdeal.τ).loc Cert.MixOutDxIdeal.main_v0_3)),
      θ_run (Cert.MixOutDxIdeal.defs (F := Ideal)) (onTc (τ := Cert.MixOutDxIdeal.τ) (Cert.MixOutDxIdeal.main (F := Ideal))) ⟨m, fun _ => 0, g⟩ (fun r => ∀ c : Dev Cert.MixOutDxIdeal.nD,
          r.2.mem ((c.tc : Thread Cert.MixOutDxIdeal.nD Cert.MixOutDxIdeal.τ).loc Cert.MixOutDxIdeal.main_v0_0) = v0 c
          ∧ r.2.mem ((c.tc : Thread Cert.MixOutDxIdeal.nD Cert.MixOutDxIdeal.τ).loc Cert.MixOutDxIdeal.main_v0_1) = v1 c
          ∧ r.2.mem ((c.tc : Thread Cert.MixOutDxIdeal.nD Cert.MixOutDxIdeal.τ).loc Cert.MixOutDxIdeal.main_v0_2) = v2 c
          ∧ r.2.mem ((c.tc : Thread Cert.MixOutDxIdeal.nD Cert.MixOutDxIdeal.τ).loc Cert.MixOutDxIdeal.main_v0_3) = v3 c
          ∧ r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
          ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1)
          ∧ r.2.mem ((c.tc : Thread Cert.MixOutDxIdeal.nD Cert.MixOutDxIdeal.τ).loc Cert.MixOutDxIdeal.main_arg2) = m ((c.tc : Thread Cert.MixOutDxIdeal.nD Cert.MixOutDxIdeal.τ).loc Cert.MixOutDxIdeal.main_arg2)
          ∧ r.2.mem ((c.tc : Thread Cert.MixOutDxIdeal.nD Cert.MixOutDxIdeal.τ).loc Cert.MixOutDxIdeal.main_arg3) = m ((c.tc : Thread Cert.MixOutDxIdeal.nD Cert.MixOutDxIdeal.τ).loc Cert.MixOutDxIdeal.main_arg3)
          ∧ r.2.mem ((c.tc : Thread Cert.MixOutDxIdeal.nD Cert.MixOutDxIdeal.τ).loc Cert.MixOutDxIdeal.main_arg4) = m ((c.tc : Thread Cert.MixOutDxIdeal.nD Cert.MixOutDxIdeal.τ).loc Cert.MixOutDxIdeal.main_arg4))
      ∧ θ_run (Cert.MixOutDxRefIdeal.defs (F := Ideal)) (onTc (τ := Cert.MixOutDxRefIdeal.τ) (Cert.MixOutDxRefIdeal.main (F := Ideal))) ⟨m', fun _ => 0, g'⟩ (fun r => ∀ c : Dev Cert.MixOutDxRefIdeal.nD,
          r.2.mem ((c.tc : Thread Cert.MixOutDxRefIdeal.nD Cert.MixOutDxRefIdeal.τ).loc Cert.MixOutDxRefIdeal.main_v40) = v0 c
          ∧ r.2.mem ((c.tc : Thread Cert.MixOutDxRefIdeal.nD Cert.MixOutDxRefIdeal.τ).loc Cert.MixOutDxRefIdeal.main_v41) = v1 c
          ∧ r.2.mem ((c.tc : Thread Cert.MixOutDxRefIdeal.nD Cert.MixOutDxRefIdeal.τ).loc Cert.MixOutDxRefIdeal.main_v42) = v2 c
          ∧ r.2.mem ((c.tc : Thread Cert.MixOutDxRefIdeal.nD Cert.MixOutDxRefIdeal.τ).loc Cert.MixOutDxRefIdeal.main_v43) = v3 c
          ∧ r.2.mem ((c.tc : Thread Cert.MixOutDxRefIdeal.nD Cert.MixOutDxRefIdeal.τ).loc Cert.MixOutDxRefIdeal.main_arg0) = m' ((c.tc : Thread Cert.MixOutDxRefIdeal.nD Cert.MixOutDxRefIdeal.τ).loc Cert.MixOutDxRefIdeal.main_arg0)
          ∧ r.2.mem ((c.tc : Thread Cert.MixOutDxRefIdeal.nD Cert.MixOutDxRefIdeal.τ).loc Cert.MixOutDxRefIdeal.main_arg1) = m' ((c.tc : Thread Cert.MixOutDxRefIdeal.nD Cert.MixOutDxRefIdeal.τ).loc Cert.MixOutDxRefIdeal.main_arg1)
          ∧ r.2.mem ((c.tc : Thread Cert.MixOutDxRefIdeal.nD Cert.MixOutDxRefIdeal.τ).loc Cert.MixOutDxRefIdeal.main_arg2) = m' ((c.tc : Thread Cert.MixOutDxRefIdeal.nD Cert.MixOutDxRefIdeal.τ).loc Cert.MixOutDxRefIdeal.main_arg2)
          ∧ r.2.mem ((c.tc : Thread Cert.MixOutDxRefIdeal.nD Cert.MixOutDxRefIdeal.τ).loc Cert.MixOutDxRefIdeal.main_arg3) = m' ((c.tc : Thread Cert.MixOutDxRefIdeal.nD Cert.MixOutDxRefIdeal.τ).loc Cert.MixOutDxRefIdeal.main_arg3)
          ∧ r.2.mem ((c.tc : Thread Cert.MixOutDxRefIdeal.nD Cert.MixOutDxRefIdeal.τ).loc Cert.MixOutDxRefIdeal.main_arg4) = m' ((c.tc : Thread Cert.MixOutDxRefIdeal.nD Cert.MixOutDxRefIdeal.τ).loc Cert.MixOutDxRefIdeal.main_arg4))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v37) = v0 c
          ∧ r.2.mem ((c.tc : Thread Cert.NormBwdRefIdeal.nD Cert.NormBwdRefIdeal.τ).loc Cert.NormBwdRefIdeal.main_v38) = v1 c
          ∧ r.2.mem ((c.tc : Thread Cert.NormBwdRefIdeal.nD Cert.NormBwdRefIdeal.τ).loc Cert.NormBwdRefIdeal.main_v39) = v2 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_NormHalvesBwd_NormHalvesBwdIdeal : Prop :=
  True

def algebraic_NormHalvesBwdIdeal_NormHalvesBwdRefIdeal [hNormHalvesBwdIdeal : Cert.NormHalvesBwdIdeal.Facts] [hNormHalvesBwdRefIdeal : Cert.NormHalvesBwdRefIdeal.Facts] : Prop :=
  ∀ (m : (ℓ : Loc Cert.NormHalvesBwdIdeal.nD Cert.NormHalvesBwdIdeal.τ Cert.NormHalvesBwdIdeal.sig) → Buf (Elt Ideal) ℓ) (g : Dev Cert.NormHalvesBwdIdeal.nD → PrngReg)
    (m' : (ℓ : Loc Cert.NormHalvesBwdRefIdeal.nD Cert.NormHalvesBwdRefIdeal.τ Cert.NormHalvesBwdRefIdeal.sig) → Buf (Elt Ideal) ℓ) (g' : Dev Cert.NormHalvesBwdRefIdeal.nD → PrngReg), Pre_NormHalvesBwdIdeal m →
    (∀ c : Dev Cert.NormHalvesBwdIdeal.nD,
      m' ((c.tc : Thread Cert.NormHalvesBwdRefIdeal.nD Cert.NormHalvesBwdRefIdeal.τ).loc Cert.NormHalvesBwdRefIdeal.main_arg0) = m ((c.tc : Thread Cert.NormHalvesBwdIdeal.nD Cert.NormHalvesBwdIdeal.τ).loc Cert.NormHalvesBwdIdeal.main_arg0)
      ∧ m' ((c.tc : Thread Cert.NormHalvesBwdRefIdeal.nD Cert.NormHalvesBwdRefIdeal.τ).loc Cert.NormHalvesBwdRefIdeal.main_arg1) = m ((c.tc : Thread Cert.NormHalvesBwdIdeal.nD Cert.NormHalvesBwdIdeal.τ).loc Cert.NormHalvesBwdIdeal.main_arg1)
      ∧ m' ((c.tc : Thread Cert.NormHalvesBwdRefIdeal.nD Cert.NormHalvesBwdRefIdeal.τ).loc Cert.NormHalvesBwdRefIdeal.main_arg2) = m ((c.tc : Thread Cert.NormHalvesBwdIdeal.nD Cert.NormHalvesBwdIdeal.τ).loc Cert.NormHalvesBwdIdeal.main_arg2)
      ∧ m' ((c.tc : Thread Cert.NormHalvesBwdRefIdeal.nD Cert.NormHalvesBwdRefIdeal.τ).loc Cert.NormHalvesBwdRefIdeal.main_arg3) = m ((c.tc : Thread Cert.NormHalvesBwdIdeal.nD Cert.NormHalvesBwdIdeal.τ).loc Cert.NormHalvesBwdIdeal.main_arg3)) →
    ∃ (v0 : (c : Dev Cert.NormHalvesBwdIdeal.nD) → Buf (Elt Ideal) ((c.tc : Thread Cert.NormHalvesBwdIdeal.nD Cert.NormHalvesBwdIdeal.τ).loc Cert.NormHalvesBwdIdeal.main_v2_0)) (v1 : (c : Dev Cert.NormHalvesBwdIdeal.nD) → Buf (Elt Ideal) ((c.tc : Thread Cert.NormHalvesBwdIdeal.nD Cert.NormHalvesBwdIdeal.τ).loc Cert.NormHalvesBwdIdeal.main_v2_1)) (v2 : (c : Dev Cert.NormHalvesBwdIdeal.nD) → Buf (Elt Ideal) ((c.tc : Thread Cert.NormHalvesBwdIdeal.nD Cert.NormHalvesBwdIdeal.τ).loc Cert.NormHalvesBwdIdeal.main_v2_2)),
      θ_run (Cert.NormHalvesBwdIdeal.defs (F := Ideal)) (onTc (τ := Cert.NormHalvesBwdIdeal.τ) (Cert.NormHalvesBwdIdeal.main (F := Ideal))) ⟨m, fun _ => 0, g⟩ (fun r => ∀ c : Dev Cert.NormHalvesBwdIdeal.nD,
          r.2.mem ((c.tc : Thread Cert.NormHalvesBwdIdeal.nD Cert.NormHalvesBwdIdeal.τ).loc Cert.NormHalvesBwdIdeal.main_v2_0) = v0 c
          ∧ r.2.mem ((c.tc : Thread Cert.NormHalvesBwdIdeal.nD Cert.NormHalvesBwdIdeal.τ).loc Cert.NormHalvesBwdIdeal.main_v2_1) = v1 c
          ∧ r.2.mem ((c.tc : Thread Cert.NormHalvesBwdIdeal.nD Cert.NormHalvesBwdIdeal.τ).loc Cert.NormHalvesBwdIdeal.main_v2_2) = v2 c
          ∧ r.2.mem ((c.tc : Thread Cert.NormHalvesBwdIdeal.nD Cert.NormHalvesBwdIdeal.τ).loc Cert.NormHalvesBwdIdeal.main_arg0) = m ((c.tc : Thread Cert.NormHalvesBwdIdeal.nD Cert.NormHalvesBwdIdeal.τ).loc Cert.NormHalvesBwdIdeal.main_arg0)
          ∧ r.2.mem ((c.tc : Thread Cert.NormHalvesBwdIdeal.nD Cert.NormHalvesBwdIdeal.τ).loc Cert.NormHalvesBwdIdeal.main_arg1) = m ((c.tc : Thread Cert.NormHalvesBwdIdeal.nD Cert.NormHalvesBwdIdeal.τ).loc Cert.NormHalvesBwdIdeal.main_arg1)
          ∧ r.2.mem ((c.tc : Thread Cert.NormHalvesBwdIdeal.nD Cert.NormHalvesBwdIdeal.τ).loc Cert.NormHalvesBwdIdeal.main_arg2) = m ((c.tc : Thread Cert.NormHalvesBwdIdeal.nD Cert.NormHalvesBwdIdeal.τ).loc Cert.NormHalvesBwdIdeal.main_arg2)
          ∧ r.2.mem ((c.tc : Thread Cert.NormHalvesBwdIdeal.nD Cert.NormHalvesBwdIdeal.τ).loc Cert.NormHalvesBwdIdeal.main_arg3) = m ((c.tc : Thread Cert.NormHalvesBwdIdeal.nD Cert.NormHalvesBwdIdeal.τ).loc Cert.NormHalvesBwdIdeal.main_arg3))
      ∧ θ_run (Cert.NormHalvesBwdRefIdeal.defs (F := Ideal)) (onTc (τ := Cert.NormHalvesBwdRefIdeal.τ) (Cert.NormHalvesBwdRefIdeal.main (F := Ideal))) ⟨m', fun _ => 0, g'⟩ (fun r => ∀ c : Dev Cert.NormHalvesBwdRefIdeal.nD,
          r.2.mem ((c.tc : Thread Cert.NormHalvesBwdRefIdeal.nD Cert.NormHalvesBwdRefIdeal.τ).loc Cert.NormHalvesBwdRefIdeal.main_v37) = v0 c
          ∧ r.2.mem ((c.tc : Thread Cert.NormHalvesBwdRefIdeal.nD Cert.NormHalvesBwdRefIdeal.τ).loc Cert.NormHalvesBwdRefIdeal.main_v38) = v1 c
          ∧ r.2.mem ((c.tc : Thread Cert.NormHalvesBwdRefIdeal.nD Cert.NormHalvesBwdRefIdeal.τ).loc Cert.NormHalvesBwdRefIdeal.main_v39) = v2 c
          ∧ r.2.mem ((c.tc : Thread Cert.NormHalvesBwdRefIdeal.nD Cert.NormHalvesBwdRefIdeal.τ).loc Cert.NormHalvesBwdRefIdeal.main_arg0) = m' ((c.tc : Thread Cert.NormHalvesBwdRefIdeal.nD Cert.NormHalvesBwdRefIdeal.τ).loc Cert.NormHalvesBwdRefIdeal.main_arg0)
          ∧ r.2.mem ((c.tc : Thread Cert.NormHalvesBwdRefIdeal.nD Cert.NormHalvesBwdRefIdeal.τ).loc Cert.NormHalvesBwdRefIdeal.main_arg1) = m' ((c.tc : Thread Cert.NormHalvesBwdRefIdeal.nD Cert.NormHalvesBwdRefIdeal.τ).loc Cert.NormHalvesBwdRefIdeal.main_arg1)
          ∧ r.2.mem ((c.tc : Thread Cert.NormHalvesBwdRefIdeal.nD Cert.NormHalvesBwdRefIdeal.τ).loc Cert.NormHalvesBwdRefIdeal.main_arg2) = m' ((c.tc : Thread Cert.NormHalvesBwdRefIdeal.nD Cert.NormHalvesBwdRefIdeal.τ).loc Cert.NormHalvesBwdRefIdeal.main_arg2)
          ∧ r.2.mem ((c.tc : Thread Cert.NormHalvesBwdRefIdeal.nD Cert.NormHalvesBwdRefIdeal.τ).loc Cert.NormHalvesBwdRefIdeal.main_arg3) = m' ((c.tc : Thread Cert.NormHalvesBwdRefIdeal.nD Cert.NormHalvesBwdRefIdeal.τ).loc Cert.NormHalvesBwdRefIdeal.main_arg3))

def preserves_NormLoss_NormLossIdeal : Prop :=
  True

def algebraic_NormLossIdeal_NormLossRefIdeal [hNormLossIdeal : Cert.NormLossIdeal.Facts] [hNormLossRefIdeal : Cert.NormLossRefIdeal.Facts] : Prop :=
  ∀ (m : (ℓ : Loc Cert.NormLossIdeal.nD Cert.NormLossIdeal.τ Cert.NormLossIdeal.sig) → Buf (Elt Ideal) ℓ) (g : Dev Cert.NormLossIdeal.nD → PrngReg)
    (m' : (ℓ : Loc Cert.NormLossRefIdeal.nD Cert.NormLossRefIdeal.τ Cert.NormLossRefIdeal.sig) → Buf (Elt Ideal) ℓ) (g' : Dev Cert.NormLossRefIdeal.nD → PrngReg), Pre_NormLossIdeal m →
    (∀ c : Dev Cert.NormLossIdeal.nD,
      m' ((c.tc : Thread Cert.NormLossRefIdeal.nD Cert.NormLossRefIdeal.τ).loc Cert.NormLossRefIdeal.main_arg0) = m ((c.tc : Thread Cert.NormLossIdeal.nD Cert.NormLossIdeal.τ).loc Cert.NormLossIdeal.main_arg0)
      ∧ m' ((c.tc : Thread Cert.NormLossRefIdeal.nD Cert.NormLossRefIdeal.τ).loc Cert.NormLossRefIdeal.main_arg1) = m ((c.tc : Thread Cert.NormLossIdeal.nD Cert.NormLossIdeal.τ).loc Cert.NormLossIdeal.main_arg1)
      ∧ m' ((c.tc : Thread Cert.NormLossRefIdeal.nD Cert.NormLossRefIdeal.τ).loc Cert.NormLossRefIdeal.main_arg2) = m ((c.tc : Thread Cert.NormLossIdeal.nD Cert.NormLossIdeal.τ).loc Cert.NormLossIdeal.main_arg2)) →
    ∃ (v0 : (c : Dev Cert.NormLossIdeal.nD) → Buf (Elt Ideal) ((c.tc : Thread Cert.NormLossIdeal.nD Cert.NormLossIdeal.τ).loc Cert.NormLossIdeal.main_v0_0)) (v1 : (c : Dev Cert.NormLossIdeal.nD) → Buf (Elt Ideal) ((c.tc : Thread Cert.NormLossIdeal.nD Cert.NormLossIdeal.τ).loc Cert.NormLossIdeal.main_v0_1)) (v2 : (c : Dev Cert.NormLossIdeal.nD) → Buf (Elt Ideal) ((c.tc : Thread Cert.NormLossIdeal.nD Cert.NormLossIdeal.τ).loc Cert.NormLossIdeal.main_v0_2)) (v3 : (c : Dev Cert.NormLossIdeal.nD) → Buf (Elt Ideal) ((c.tc : Thread Cert.NormLossIdeal.nD Cert.NormLossIdeal.τ).loc Cert.NormLossIdeal.main_v0_3)),
      θ_run (Cert.NormLossIdeal.defs (F := Ideal)) (onTc (τ := Cert.NormLossIdeal.τ) (Cert.NormLossIdeal.main (F := Ideal))) ⟨m, fun _ => 0, g⟩ (fun r => ∀ c : Dev Cert.NormLossIdeal.nD,
          r.2.mem ((c.tc : Thread Cert.NormLossIdeal.nD Cert.NormLossIdeal.τ).loc Cert.NormLossIdeal.main_v0_0) = v0 c
          ∧ r.2.mem ((c.tc : Thread Cert.NormLossIdeal.nD Cert.NormLossIdeal.τ).loc Cert.NormLossIdeal.main_v0_1) = v1 c
          ∧ r.2.mem ((c.tc : Thread Cert.NormLossIdeal.nD Cert.NormLossIdeal.τ).loc Cert.NormLossIdeal.main_v0_2) = v2 c
          ∧ r.2.mem ((c.tc : Thread Cert.NormLossIdeal.nD Cert.NormLossIdeal.τ).loc Cert.NormLossIdeal.main_v0_3) = v3 c
          ∧ r.2.mem ((c.tc : Thread Cert.NormLossIdeal.nD Cert.NormLossIdeal.τ).loc Cert.NormLossIdeal.main_arg0) = m ((c.tc : Thread Cert.NormLossIdeal.nD Cert.NormLossIdeal.τ).loc Cert.NormLossIdeal.main_arg0)
          ∧ r.2.mem ((c.tc : Thread Cert.NormLossIdeal.nD Cert.NormLossIdeal.τ).loc Cert.NormLossIdeal.main_arg1) = m ((c.tc : Thread Cert.NormLossIdeal.nD Cert.NormLossIdeal.τ).loc Cert.NormLossIdeal.main_arg1)
          ∧ r.2.mem ((c.tc : Thread Cert.NormLossIdeal.nD Cert.NormLossIdeal.τ).loc Cert.NormLossIdeal.main_arg2) = m ((c.tc : Thread Cert.NormLossIdeal.nD Cert.NormLossIdeal.τ).loc Cert.NormLossIdeal.main_arg2))
      ∧ θ_run (Cert.NormLossRefIdeal.defs (F := Ideal)) (onTc (τ := Cert.NormLossRefIdeal.τ) (Cert.NormLossRefIdeal.main (F := Ideal))) ⟨m', fun _ => 0, g'⟩ (fun r => ∀ c : Dev Cert.NormLossRefIdeal.nD,
          r.2.mem ((c.tc : Thread Cert.NormLossRefIdeal.nD Cert.NormLossRefIdeal.τ).loc Cert.NormLossRefIdeal.main_v51) = v0 c
          ∧ r.2.mem ((c.tc : Thread Cert.NormLossRefIdeal.nD Cert.NormLossRefIdeal.τ).loc Cert.NormLossRefIdeal.main_v52) = v1 c
          ∧ r.2.mem ((c.tc : Thread Cert.NormLossRefIdeal.nD Cert.NormLossRefIdeal.τ).loc Cert.NormLossRefIdeal.main_v53) = v2 c
          ∧ r.2.mem ((c.tc : Thread Cert.NormLossRefIdeal.nD Cert.NormLossRefIdeal.τ).loc Cert.NormLossRefIdeal.main_v71) = v3 c
          ∧ r.2.mem ((c.tc : Thread Cert.NormLossRefIdeal.nD Cert.NormLossRefIdeal.τ).loc Cert.NormLossRefIdeal.main_arg0) = m' ((c.tc : Thread Cert.NormLossRefIdeal.nD Cert.NormLossRefIdeal.τ).loc Cert.NormLossRefIdeal.main_arg0)
          ∧ r.2.mem ((c.tc : Thread Cert.NormLossRefIdeal.nD Cert.NormLossRefIdeal.τ).loc Cert.NormLossRefIdeal.main_arg1) = m' ((c.tc : Thread Cert.NormLossRefIdeal.nD Cert.NormLossRefIdeal.τ).loc Cert.NormLossRefIdeal.main_arg1)
          ∧ r.2.mem ((c.tc : Thread Cert.NormLossRefIdeal.nD Cert.NormLossRefIdeal.τ).loc Cert.NormLossRefIdeal.main_arg2) = m' ((c.tc : Thread Cert.NormLossRefIdeal.nD Cert.NormLossRefIdeal.τ).loc Cert.NormLossRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v14) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)) →
    ∃ (v0 : (c : Dev Cert.ProjInIdeal.nD) → Buf (Elt Ideal) ((c.tc : Thread Cert.ProjInIdeal.nD Cert.ProjInIdeal.τ).loc Cert.ProjInIdeal.main_v0)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v0) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v2) = v0 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v0_0)) (v1 : (c : Dev Cert.MlpUpIdeal.nD) → Buf (Elt Ideal) ((c.tc : Thread Cert.MlpUpIdeal.nD Cert.MlpUpIdeal.τ).loc Cert.MlpUpIdeal.main_v0_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v0_0) = v0 c
          ∧ r.2.mem ((c.tc : Thread Cert.MlpUpIdeal.nD Cert.MlpUpIdeal.τ).loc Cert.MlpUpIdeal.main_v0_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v3) = v0 c
          ∧ r.2.mem ((c.tc : Thread Cert.MlpUpRefIdeal.nD Cert.MlpUpRefIdeal.τ).loc Cert.MlpUpRefIdeal.main_v6) = v1 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)) →
    ∃ (v0 : (c : Dev Cert.MlpDownIdeal.nD) → Buf (Elt Ideal) ((c.tc : Thread Cert.MlpDownIdeal.nD Cert.MlpDownIdeal.τ).loc Cert.MlpDownIdeal.main_v0)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v0) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v3) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2))

def preserves_ProjAttn_ProjAttnIdeal : Prop :=
  True

def algebraic_ProjAttnIdeal_ProjAttnRefIdeal [hProjAttnIdeal : Cert.ProjAttnIdeal.Facts] [hProjAttnRefIdeal : Cert.ProjAttnRefIdeal.Facts] : Prop :=
  ∀ (m : (ℓ : Loc Cert.ProjAttnIdeal.nD Cert.ProjAttnIdeal.τ Cert.ProjAttnIdeal.sig) → Buf (Elt Ideal) ℓ) (g : Dev Cert.ProjAttnIdeal.nD → PrngReg)
    (m' : (ℓ : Loc Cert.ProjAttnRefIdeal.nD Cert.ProjAttnRefIdeal.τ Cert.ProjAttnRefIdeal.sig) → Buf (Elt Ideal) ℓ) (g' : Dev Cert.ProjAttnRefIdeal.nD → PrngReg), Pre_ProjAttnIdeal m →
    (∀ c : Dev Cert.ProjAttnIdeal.nD,
      m' ((c.tc : Thread Cert.ProjAttnRefIdeal.nD Cert.ProjAttnRefIdeal.τ).loc Cert.ProjAttnRefIdeal.main_arg0) = m ((c.tc : Thread Cert.ProjAttnIdeal.nD Cert.ProjAttnIdeal.τ).loc Cert.ProjAttnIdeal.main_arg0)
      ∧ m' ((c.tc : Thread Cert.ProjAttnRefIdeal.nD Cert.ProjAttnRefIdeal.τ).loc Cert.ProjAttnRefIdeal.main_arg1) = m ((c.tc : Thread Cert.ProjAttnIdeal.nD Cert.ProjAttnIdeal.τ).loc Cert.ProjAttnIdeal.main_arg1)) →
    ∃ (v0 : (c : Dev Cert.ProjAttnIdeal.nD) → Buf (Elt Ideal) ((c.tc : Thread Cert.ProjAttnIdeal.nD Cert.ProjAttnIdeal.τ).loc Cert.ProjAttnIdeal.main_v0)),
      θ_run (Cert.ProjAttnIdeal.defs (F := Ideal)) (onTc (τ := Cert.ProjAttnIdeal.τ) (Cert.ProjAttnIdeal.main (F := Ideal))) ⟨m, fun _ => 0, g⟩ (fun r => ∀ c : Dev Cert.ProjAttnIdeal.nD,
          r.2.mem ((c.tc : Thread Cert.ProjAttnIdeal.nD Cert.ProjAttnIdeal.τ).loc Cert.ProjAttnIdeal.main_v0) = v0 c
          ∧ r.2.mem ((c.tc : Thread Cert.ProjAttnIdeal.nD Cert.ProjAttnIdeal.τ).loc Cert.ProjAttnIdeal.main_arg0) = m ((c.tc : Thread Cert.ProjAttnIdeal.nD Cert.ProjAttnIdeal.τ).loc Cert.ProjAttnIdeal.main_arg0)
          ∧ r.2.mem ((c.tc : Thread Cert.ProjAttnIdeal.nD Cert.ProjAttnIdeal.τ).loc Cert.ProjAttnIdeal.main_arg1) = m ((c.tc : Thread Cert.ProjAttnIdeal.nD Cert.ProjAttnIdeal.τ).loc Cert.ProjAttnIdeal.main_arg1))
      ∧ θ_run (Cert.ProjAttnRefIdeal.defs (F := Ideal)) (onTc (τ := Cert.ProjAttnRefIdeal.τ) (Cert.ProjAttnRefIdeal.main (F := Ideal))) ⟨m', fun _ => 0, g'⟩ (fun r => ∀ c : Dev Cert.ProjAttnRefIdeal.nD,
          r.2.mem ((c.tc : Thread Cert.ProjAttnRefIdeal.nD Cert.ProjAttnRefIdeal.τ).loc Cert.ProjAttnRefIdeal.main_v3) = v0 c
          ∧ r.2.mem ((c.tc : Thread Cert.ProjAttnRefIdeal.nD Cert.ProjAttnRefIdeal.τ).loc Cert.ProjAttnRefIdeal.main_arg0) = m' ((c.tc : Thread Cert.ProjAttnRefIdeal.nD Cert.ProjAttnRefIdeal.τ).loc Cert.ProjAttnRefIdeal.main_arg0)
          ∧ r.2.mem ((c.tc : Thread Cert.ProjAttnRefIdeal.nD Cert.ProjAttnRefIdeal.τ).loc Cert.ProjAttnRefIdeal.main_arg1) = m' ((c.tc : Thread Cert.ProjAttnRefIdeal.nD Cert.ProjAttnRefIdeal.τ).loc Cert.ProjAttnRefIdeal.main_arg1))

def preserves_ProjLruMerge_ProjLruMergeIdeal : Prop :=
  True

def algebraic_ProjLruMergeIdeal_ProjLruMergeRefIdeal [hProjLruMergeIdeal : Cert.ProjLruMergeIdeal.Facts] [hProjLruMergeRefIdeal : Cert.ProjLruMergeRefIdeal.Facts] : Prop :=
  ∀ (m : (ℓ : Loc Cert.ProjLruMergeIdeal.nD Cert.ProjLruMergeIdeal.τ Cert.ProjLruMergeIdeal.sig) → Buf (Elt Ideal) ℓ) (g : Dev Cert.ProjLruMergeIdeal.nD → PrngReg)
    (m' : (ℓ : Loc Cert.ProjLruMergeRefIdeal.nD Cert.ProjLruMergeRefIdeal.τ Cert.ProjLruMergeRefIdeal.sig) → Buf (Elt Ideal) ℓ) (g' : Dev Cert.ProjLruMergeRefIdeal.nD → PrngReg), Pre_ProjLruMergeIdeal m →
    (∀ c : Dev Cert.ProjLruMergeIdeal.nD,
      m' ((c.tc : Thread Cert.ProjLruMergeRefIdeal.nD Cert.ProjLruMergeRefIdeal.τ).loc Cert.ProjLruMergeRefIdeal.main_arg0) = m ((c.tc : Thread Cert.ProjLruMergeIdeal.nD Cert.ProjLruMergeIdeal.τ).loc Cert.ProjLruMergeIdeal.main_arg0)
      ∧ m' ((c.tc : Thread Cert.ProjLruMergeRefIdeal.nD Cert.ProjLruMergeRefIdeal.τ).loc Cert.ProjLruMergeRefIdeal.main_arg1) = m ((c.tc : Thread Cert.ProjLruMergeIdeal.nD Cert.ProjLruMergeIdeal.τ).loc Cert.ProjLruMergeIdeal.main_arg1)
      ∧ m' ((c.tc : Thread Cert.ProjLruMergeRefIdeal.nD Cert.ProjLruMergeRefIdeal.τ).loc Cert.ProjLruMergeRefIdeal.main_arg2) = m ((c.tc : Thread Cert.ProjLruMergeIdeal.nD Cert.ProjLruMergeIdeal.τ).loc Cert.ProjLruMergeIdeal.main_arg2)
      ∧ m' ((c.tc : Thread Cert.ProjLruMergeRefIdeal.nD Cert.ProjLruMergeRefIdeal.τ).loc Cert.ProjLruMergeRefIdeal.main_arg3) = m ((c.tc : Thread Cert.ProjLruMergeIdeal.nD Cert.ProjLruMergeIdeal.τ).loc Cert.ProjLruMergeIdeal.main_arg3)) →
    ∃ (v0 : (c : Dev Cert.ProjLruMergeIdeal.nD) → Buf (Elt Ideal) ((c.tc : Thread Cert.ProjLruMergeIdeal.nD Cert.ProjLruMergeIdeal.τ).loc Cert.ProjLruMergeIdeal.main_v0_0)) (v1 : (c : Dev Cert.ProjLruMergeIdeal.nD) → Buf (Elt Ideal) ((c.tc : Thread Cert.ProjLruMergeIdeal.nD Cert.ProjLruMergeIdeal.τ).loc Cert.ProjLruMergeIdeal.main_v0_1)),
      θ_run (Cert.ProjLruMergeIdeal.defs (F := Ideal)) (onTc (τ := Cert.ProjLruMergeIdeal.τ) (Cert.ProjLruMergeIdeal.main (F := Ideal))) ⟨m, fun _ => 0, g⟩ (fun r => ∀ c : Dev Cert.ProjLruMergeIdeal.nD,
          r.2.mem ((c.tc : Thread Cert.ProjLruMergeIdeal.nD Cert.ProjLruMergeIdeal.τ).loc Cert.ProjLruMergeIdeal.main_v0_0) = v0 c
          ∧ r.2.mem ((c.tc : Thread Cert.ProjLruMergeIdeal.nD Cert.ProjLruMergeIdeal.τ).loc Cert.ProjLruMergeIdeal.main_v0_1) = v1 c
          ∧ r.2.mem ((c.tc : Thread Cert.ProjLruMergeIdeal.nD Cert.ProjLruMergeIdeal.τ).loc Cert.ProjLruMergeIdeal.main_arg0) = m ((c.tc : Thread Cert.ProjLruMergeIdeal.nD Cert.ProjLruMergeIdeal.τ).loc Cert.ProjLruMergeIdeal.main_arg0)
          ∧ r.2.mem ((c.tc : Thread Cert.ProjLruMergeIdeal.nD Cert.ProjLruMergeIdeal.τ).loc Cert.ProjLruMergeIdeal.main_arg1) = m ((c.tc : Thread Cert.ProjLruMergeIdeal.nD Cert.ProjLruMergeIdeal.τ).loc Cert.ProjLruMergeIdeal.main_arg1)
          ∧ r.2.mem ((c.tc : Thread Cert.ProjLruMergeIdeal.nD Cert.ProjLruMergeIdeal.τ).loc Cert.ProjLruMergeIdeal.main_arg2) = m ((c.tc : Thread Cert.ProjLruMergeIdeal.nD Cert.ProjLruMergeIdeal.τ).loc Cert.ProjLruMergeIdeal.main_arg2)
          ∧ r.2.mem ((c.tc : Thread Cert.ProjLruMergeIdeal.nD Cert.ProjLruMergeIdeal.τ).loc Cert.ProjLruMergeIdeal.main_arg3) = m ((c.tc : Thread Cert.ProjLruMergeIdeal.nD Cert.ProjLruMergeIdeal.τ).loc Cert.ProjLruMergeIdeal.main_arg3))
      ∧ θ_run (Cert.ProjLruMergeRefIdeal.defs (F := Ideal)) (onTc (τ := Cert.ProjLruMergeRefIdeal.τ) (Cert.ProjLruMergeRefIdeal.main (F := Ideal))) ⟨m', fun _ => 0, g'⟩ (fun r => ∀ c : Dev Cert.ProjLruMergeRefIdeal.nD,
          r.2.mem ((c.tc : Thread Cert.ProjLruMergeRefIdeal.nD Cert.ProjLruMergeRefIdeal.τ).loc Cert.ProjLruMergeRefIdeal.main_v26) = v0 c
          ∧ r.2.mem ((c.tc : Thread Cert.ProjLruMergeRefIdeal.nD Cert.ProjLruMergeRefIdeal.τ).loc Cert.ProjLruMergeRefIdeal.main_v27) = v1 c
          ∧ r.2.mem ((c.tc : Thread Cert.ProjLruMergeRefIdeal.nD Cert.ProjLruMergeRefIdeal.τ).loc Cert.ProjLruMergeRefIdeal.main_arg0) = m' ((c.tc : Thread Cert.ProjLruMergeRefIdeal.nD Cert.ProjLruMergeRefIdeal.τ).loc Cert.ProjLruMergeRefIdeal.main_arg0)
          ∧ r.2.mem ((c.tc : Thread Cert.ProjLruMergeRefIdeal.nD Cert.ProjLruMergeRefIdeal.τ).loc Cert.ProjLruMergeRefIdeal.main_arg1) = m' ((c.tc : Thread Cert.ProjLruMergeRefIdeal.nD Cert.ProjLruMergeRefIdeal.τ).loc Cert.ProjLruMergeRefIdeal.main_arg1)
          ∧ r.2.mem ((c.tc : Thread Cert.ProjLruMergeRefIdeal.nD Cert.ProjLruMergeRefIdeal.τ).loc Cert.ProjLruMergeRefIdeal.main_arg2) = m' ((c.tc : Thread Cert.ProjLruMergeRefIdeal.nD Cert.ProjLruMergeRefIdeal.τ).loc Cert.ProjLruMergeRefIdeal.main_arg2)
          ∧ r.2.mem ((c.tc : Thread Cert.ProjLruMergeRefIdeal.nD Cert.ProjLruMergeRefIdeal.τ).loc Cert.ProjLruMergeRefIdeal.main_arg3) = m' ((c.tc : Thread Cert.ProjLruMergeRefIdeal.nD Cert.ProjLruMergeRefIdeal.τ).loc Cert.ProjLruMergeRefIdeal.main_arg3))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2))

def Claim : Prop :=
  ∃ (hKernel : Cert.Kernel.Facts) (hKernelIdeal : Cert.KernelIdeal.Facts) (hReferenceIdeal : Cert.ReferenceIdeal.Facts) (hMlpUpDw : Cert.MlpUpDw.Facts) (hMlpUpDwIdeal : Cert.MlpUpDwIdeal.Facts) (hMlpUpDwRefIdeal : Cert.MlpUpDwRefIdeal.Facts) (hMlpDownDw : Cert.MlpDownDw.Facts) (hMlpDownDwIdeal : Cert.MlpDownDwIdeal.Facts) (hMlpDownDwRefIdeal : Cert.MlpDownDwRefIdeal.Facts) (hProjInDw : Cert.ProjInDw.Facts) (hProjInDwIdeal : Cert.ProjInDwIdeal.Facts) (hProjInDwRefIdeal : Cert.ProjInDwRefIdeal.Facts) (hProjInDx : Cert.ProjInDx.Facts) (hProjInDxIdeal : Cert.ProjInDxIdeal.Facts) (hProjInDxRefIdeal : Cert.ProjInDxRefIdeal.Facts) (hMixOutDw : Cert.MixOutDw.Facts) (hMixOutDwIdeal : Cert.MixOutDwIdeal.Facts) (hMixOutDwRefIdeal : Cert.MixOutDwRefIdeal.Facts) (hProjAttnDx : Cert.ProjAttnDx.Facts) (hProjAttnDxIdeal : Cert.ProjAttnDxIdeal.Facts) (hProjAttnDxRefIdeal : Cert.ProjAttnDxRefIdeal.Facts) (hMixOutDx : Cert.MixOutDx.Facts) (hMixOutDxIdeal : Cert.MixOutDxIdeal.Facts) (hMixOutDxRefIdeal : Cert.MixOutDxRefIdeal.Facts) (hNormBwd : Cert.NormBwd.Facts) (hNormBwdIdeal : Cert.NormBwdIdeal.Facts) (hNormBwdRefIdeal : Cert.NormBwdRefIdeal.Facts) (hNormHalvesBwd : Cert.NormHalvesBwd.Facts) (hNormHalvesBwdIdeal : Cert.NormHalvesBwdIdeal.Facts) (hNormHalvesBwdRefIdeal : Cert.NormHalvesBwdRefIdeal.Facts) (hNormLoss : Cert.NormLoss.Facts) (hNormLossIdeal : Cert.NormLossIdeal.Facts) (hNormLossRefIdeal : Cert.NormLossRefIdeal.Facts) (hNorm : Cert.Norm.Facts) (hNormIdeal : Cert.NormIdeal.Facts) (hNormRefIdeal : Cert.NormRefIdeal.Facts) (hProjIn : Cert.ProjIn.Facts) (hProjInIdeal : Cert.ProjInIdeal.Facts) (hProjInRefIdeal : Cert.ProjInRefIdeal.Facts) (hMlpUp : Cert.MlpUp.Facts) (hMlpUpIdeal : Cert.MlpUpIdeal.Facts) (hMlpUpRefIdeal : Cert.MlpUpRefIdeal.Facts) (hMlpDown : Cert.MlpDown.Facts) (hMlpDownIdeal : Cert.MlpDownIdeal.Facts) (hMlpDownRefIdeal : Cert.MlpDownRefIdeal.Facts) (hProjAttn : Cert.ProjAttn.Facts) (hProjAttnIdeal : Cert.ProjAttnIdeal.Facts) (hProjAttnRefIdeal : Cert.ProjAttnRefIdeal.Facts) (hProjLruMerge : Cert.ProjLruMerge.Facts) (hProjLruMergeIdeal : Cert.ProjLruMergeIdeal.Facts) (hProjLruMergeRefIdeal : Cert.ProjLruMergeRefIdeal.Facts) (hMixOut : Cert.MixOut.Facts) (hMixOutIdeal : Cert.MixOutIdeal.Facts) (hMixOutRefIdeal : Cert.MixOutRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_MlpUpDw (hMlpUpDw := hMlpUpDw)
    ∧ quiescent_MlpUpDwIdeal (hMlpUpDwIdeal := hMlpUpDwIdeal)
    ∧ quiescent_MlpUpDwRefIdeal (hMlpUpDwRefIdeal := hMlpUpDwRefIdeal)
    ∧ quiescent_MlpDownDw (hMlpDownDw := hMlpDownDw)
    ∧ quiescent_MlpDownDwIdeal (hMlpDownDwIdeal := hMlpDownDwIdeal)
    ∧ quiescent_MlpDownDwRefIdeal (hMlpDownDwRefIdeal := hMlpDownDwRefIdeal)
    ∧ quiescent_ProjInDw (hProjInDw := hProjInDw)
    ∧ quiescent_ProjInDwIdeal (hProjInDwIdeal := hProjInDwIdeal)
    ∧ quiescent_ProjInDwRefIdeal (hProjInDwRefIdeal := hProjInDwRefIdeal)
    ∧ quiescent_ProjInDx (hProjInDx := hProjInDx)
    ∧ quiescent_ProjInDxIdeal (hProjInDxIdeal := hProjInDxIdeal)
    ∧ quiescent_ProjInDxRefIdeal (hProjInDxRefIdeal := hProjInDxRefIdeal)
    ∧ quiescent_MixOutDw (hMixOutDw := hMixOutDw)
    ∧ quiescent_MixOutDwIdeal (hMixOutDwIdeal := hMixOutDwIdeal)
    ∧ quiescent_MixOutDwRefIdeal (hMixOutDwRefIdeal := hMixOutDwRefIdeal)
    ∧ quiescent_ProjAttnDx (hProjAttnDx := hProjAttnDx)
    ∧ quiescent_ProjAttnDxIdeal (hProjAttnDxIdeal := hProjAttnDxIdeal)
    ∧ quiescent_ProjAttnDxRefIdeal (hProjAttnDxRefIdeal := hProjAttnDxRefIdeal)
    ∧ quiescent_MixOutDx (hMixOutDx := hMixOutDx)
    ∧ quiescent_MixOutDxIdeal (hMixOutDxIdeal := hMixOutDxIdeal)
    ∧ quiescent_MixOutDxRefIdeal (hMixOutDxRefIdeal := hMixOutDxRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_NormHalvesBwd (hNormHalvesBwd := hNormHalvesBwd)
    ∧ quiescent_NormHalvesBwdIdeal (hNormHalvesBwdIdeal := hNormHalvesBwdIdeal)
    ∧ quiescent_NormHalvesBwdRefIdeal (hNormHalvesBwdRefIdeal := hNormHalvesBwdRefIdeal)
    ∧ quiescent_NormLoss (hNormLoss := hNormLoss)
    ∧ quiescent_NormLossIdeal (hNormLossIdeal := hNormLossIdeal)
    ∧ quiescent_NormLossRefIdeal (hNormLossRefIdeal := hNormLossRefIdeal)
    ∧ quiescent_Norm (hNorm := hNorm)
    ∧ quiescent_NormIdeal (hNormIdeal := hNormIdeal)
    ∧ quiescent_NormRefIdeal (hNormRefIdeal := hNormRefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_ProjAttn (hProjAttn := hProjAttn)
    ∧ quiescent_ProjAttnIdeal (hProjAttnIdeal := hProjAttnIdeal)
    ∧ quiescent_ProjAttnRefIdeal (hProjAttnRefIdeal := hProjAttnRefIdeal)
    ∧ quiescent_ProjLruMerge (hProjLruMerge := hProjLruMerge)
    ∧ quiescent_ProjLruMergeIdeal (hProjLruMergeIdeal := hProjLruMergeIdeal)
    ∧ quiescent_ProjLruMergeRefIdeal (hProjLruMergeRefIdeal := hProjLruMergeRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_MlpUpDw_MlpUpDwIdeal
    ∧ algebraic_MlpUpDwIdeal_MlpUpDwRefIdeal (hMlpUpDwIdeal := hMlpUpDwIdeal) (hMlpUpDwRefIdeal := hMlpUpDwRefIdeal)
    ∧ preserves_MlpDownDw_MlpDownDwIdeal
    ∧ algebraic_MlpDownDwIdeal_MlpDownDwRefIdeal (hMlpDownDwIdeal := hMlpDownDwIdeal) (hMlpDownDwRefIdeal := hMlpDownDwRefIdeal)
    ∧ preserves_ProjInDw_ProjInDwIdeal
    ∧ algebraic_ProjInDwIdeal_ProjInDwRefIdeal (hProjInDwIdeal := hProjInDwIdeal) (hProjInDwRefIdeal := hProjInDwRefIdeal)
    ∧ preserves_ProjInDx_ProjInDxIdeal
    ∧ algebraic_ProjInDxIdeal_ProjInDxRefIdeal (hProjInDxIdeal := hProjInDxIdeal) (hProjInDxRefIdeal := hProjInDxRefIdeal)
    ∧ preserves_MixOutDw_MixOutDwIdeal
    ∧ algebraic_MixOutDwIdeal_MixOutDwRefIdeal (hMixOutDwIdeal := hMixOutDwIdeal) (hMixOutDwRefIdeal := hMixOutDwRefIdeal)
    ∧ preserves_ProjAttnDx_ProjAttnDxIdeal
    ∧ algebraic_ProjAttnDxIdeal_ProjAttnDxRefIdeal (hProjAttnDxIdeal := hProjAttnDxIdeal) (hProjAttnDxRefIdeal := hProjAttnDxRefIdeal)
    ∧ preserves_MixOutDx_MixOutDxIdeal
    ∧ algebraic_MixOutDxIdeal_MixOutDxRefIdeal (hMixOutDxIdeal := hMixOutDxIdeal) (hMixOutDxRefIdeal := hMixOutDxRefIdeal)
    ∧ preserves_NormBwd_NormBwdIdeal
    ∧ algebraic_NormBwdIdeal_NormBwdRefIdeal (hNormBwdIdeal := hNormBwdIdeal) (hNormBwdRefIdeal := hNormBwdRefIdeal)
    ∧ preserves_NormHalvesBwd_NormHalvesBwdIdeal
    ∧ algebraic_NormHalvesBwdIdeal_NormHalvesBwdRefIdeal (hNormHalvesBwdIdeal := hNormHalvesBwdIdeal) (hNormHalvesBwdRefIdeal := hNormHalvesBwdRefIdeal)
    ∧ preserves_NormLoss_NormLossIdeal
    ∧ algebraic_NormLossIdeal_NormLossRefIdeal (hNormLossIdeal := hNormLossIdeal) (hNormLossRefIdeal := hNormLossRefIdeal)
    ∧ preserves_Norm_NormIdeal
    ∧ algebraic_NormIdeal_NormRefIdeal (hNormIdeal := hNormIdeal) (hNormRefIdeal := hNormRefIdeal)
    ∧ preserves_ProjIn_ProjInIdeal
    ∧ algebraic_ProjInIdeal_ProjInRefIdeal (hProjInIdeal := hProjInIdeal) (hProjInRefIdeal := hProjInRefIdeal)
    ∧ preserves_MlpUp_MlpUpIdeal
    ∧ algebraic_MlpUpIdeal_MlpUpRefIdeal (hMlpUpIdeal := hMlpUpIdeal) (hMlpUpRefIdeal := hMlpUpRefIdeal)
    ∧ preserves_MlpDown_MlpDownIdeal
    ∧ algebraic_MlpDownIdeal_MlpDownRefIdeal (hMlpDownIdeal := hMlpDownIdeal) (hMlpDownRefIdeal := hMlpDownRefIdeal)
    ∧ preserves_ProjAttn_ProjAttnIdeal
    ∧ algebraic_ProjAttnIdeal_ProjAttnRefIdeal (hProjAttnIdeal := hProjAttnIdeal) (hProjAttnRefIdeal := hProjAttnRefIdeal)
    ∧ preserves_ProjLruMerge_ProjLruMergeIdeal
    ∧ algebraic_ProjLruMergeIdeal_ProjLruMergeRefIdeal (hProjLruMergeIdeal := hProjLruMergeIdeal) (hProjLruMergeRefIdeal := hProjLruMergeRefIdeal)
    ∧ preserves_MixOut_MixOutIdeal
    ∧ algebraic_MixOutIdeal_MixOutRefIdeal (hMixOutIdeal := hMixOutIdeal) (hMixOutRefIdeal := hMixOutRefIdeal)
-- ==== Pre_finite.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)

variable [Facts]

def fn {F : FTy → Type} [FloatOps F] (main_arg0 : FVec F S2048x2048 .f32) (main_arg1 : FVec F S2048x2048 .f32) (main_arg2 : FVec F S2048x2048 .f32) (main_arg3 : FVec F S2048x2048 .f32) (main_arg4 : FVec F S2048x2048 .bf16) (main_arg5 : FVec F S2048x2048 .bf16) (main_arg6 : FVec F S2048x2048 .bf16) (main_arg7 : FVec F S2048x2048 .bf16) : IVec S2048x2048 1 × IVec S2048x2048 1 × IVec S2048x2048 1 × IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : FVec F S2048x2048 .f32 := Host.absf main_arg2
  let main_cst_1 : FVec F S_ .f32 := constant S_ .f32 0x7F800000#32
  let main_v7 : FVec F S2048x2048 .f32 := broadcastInDim S2048x2048 ![] bcast_S_S2048x2048 main_cst_1
  let main_v8 : IVec S2048x2048 1 := cmpf .olt main_v6 main_v7
  let main_v9 : FVec F S2048x2048 .f32 := Host.absf main_arg3
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  (main_v2, main_v5, main_v8, main_v11)
-- ==== Kernel.lean ====
abbrev S2048x2048 : Shape := ⟨2, ![2048, 2048]⟩
abbrev S2048x16x128 : Shape := ⟨3, ![2048, 16, 128]⟩
abbrev S16 : Shape := ⟨1, ![16]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S1x2048x2048 : Shape := ⟨3, ![1, 2048, 2048]⟩
abbrev S3x2048x2048 : Shape := ⟨3, ![3, 2048, 2048]⟩
abbrev S16x2048x2048 : Shape := ⟨3, ![16, 2048, 2048]⟩
abbrev S16x1x1 : Shape := ⟨3, ![16, 1, 1]⟩
abbrev S3x1x2048x2048 : Shape := ⟨4, ![3, 1, 2048, 2048]⟩
abbrev S3x16x2048x2048 : Shape := ⟨4, ![3, 16, 2048, 2048]⟩
abbrev S1x16x2048x2048 : Shape := ⟨4, ![1, 16, 2048, 2048]⟩
abbrev S3x16x2048 : Shape := ⟨3, ![3, 16, 2048]⟩
abbrev S3x16x2048x1 : Shape := ⟨4, ![3, 16, 2048, 1]⟩
abbrev S16x128x3x2048 : Shape := ⟨4, ![16, 128, 3, 2048]⟩
abbrev S3x2048x16x128 : Shape := ⟨4, ![3, 2048, 16, 128]⟩
abbrev S3x2048x16 : Shape := ⟨3, ![3, 2048, 16]⟩
abbrev S3x2048x16x1 : Shape := ⟨4, ![3, 2048, 16, 1]⟩
abbrev S16x2048 : Shape := ⟨2, ![16, 2048]⟩
abbrev S1x16x2048 : Shape := ⟨3, ![1, 16, 2048]⟩
abbrev S2048x16 : Shape := ⟨2, ![2048, 16]⟩
abbrev S2048x16x1 : Shape := ⟨3, ![2048, 16, 1]⟩
abbrev S2048x6144 : Shape := ⟨2, ![2048, 6144]⟩
abbrev S7x2048x2048 : Shape := ⟨3, ![7, 2048, 2048]⟩
abbrev S2048x128 : Shape := ⟨2, ![2048, 128]⟩
abbrev S7x2048x128 : Shape := ⟨3, ![7, 2048, 128]⟩
abbrev S3x128x256 : Shape := ⟨3, ![3, 128, 256]⟩
abbrev S1 : Shape := ⟨1, ![1]⟩
abbrev S128x256 : Shape := ⟨2, ![128, 256]⟩
abbrev S1x128x256 : Shape := ⟨3, ![1, 128, 256]⟩
abbrev S128x128 : Shape := ⟨2, ![128, 128]⟩
abbrev S1x128x128 : Shape := ⟨3, ![1, 128, 128]⟩
abbrev S256x128 : Shape := ⟨2, ![256, 128]⟩
abbrev S128x1 : Shape := ⟨2, ![128, 1]⟩
abbrev S1x2048x128 : Shape := ⟨3, ![1, 2048, 128]⟩

abbrev nBuf : Space → Nat
  | .hbm => 163
  | .vmem => 27
  | .smem => 1
  | _ => 0

abbrev hbmTy0_0 (i : Nat) : BufTy := match i % 128 with
  | 0 => ⟨S2048x2048, .f32⟩
  | 1 => ⟨S2048x2048, .f32⟩
  | 2 => ⟨S2048x2048, .f32⟩
  | 3 => ⟨S2048x2048, .f32⟩
  | 4 => ⟨S2048x2048, .bf16⟩
  | 5 => ⟨S2048x2048, .bf16⟩
  | 6 => ⟨S2048x2048, .bf16⟩
  | 7 => ⟨S2048x2048, .bf16⟩
  | 8 => ⟨S2048x16x128, .f32⟩
  | 9 => ⟨S2048x16x128, .f32⟩
  | 10 => ⟨S2048x16x128, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S2048, .i32⟩
  | 25 => ⟨S2048x1, .i32⟩
  | 26 => ⟨S2048, .i32⟩
  | 27 => ⟨S1x2048, .i32⟩
  | 28 => ⟨S2048x2048, .i32⟩
  | 29 => ⟨S2048x2048, .i32⟩
  | 30 => ⟨S2048x2048, .i32⟩
  | 31 => ⟨S_, .i32⟩
  | 32 => ⟨S2048x2048, .i32⟩
  | 33 => ⟨S2048x2048, .i1⟩
  | 34 => ⟨S_, .i32⟩
  | 35 => ⟨S2048x2048, .i32⟩
  | 36 => ⟨S2048x2048, .i1⟩
  | 37 => ⟨S2048x2048, .i1⟩
  | 38 => ⟨S_, .i32⟩
  | 39 => ⟨S2048x2048, .i32⟩
  | 40 => ⟨S2048x2048, .i32⟩
  | 41 => ⟨S_, .i32⟩
  | 42 => ⟨S2048x2048, .i32⟩
  | 43 => ⟨S2048x2048, .i1⟩
  | 44 => ⟨S2048x2048, .i1⟩
  | 45 => ⟨S_, .i32⟩
  | 46 => ⟨S2048x2048, .i32⟩
  | 47 => ⟨S2048x2048, .i1⟩
  | 48 => ⟨S_, .i32⟩
  | 49 => ⟨S2048x2048, .i32⟩
  | 50 => ⟨S2048x2048, .i1⟩
  | 51 => ⟨S2048x2048, .i1⟩
  | 52 => ⟨S_, .i32⟩
  | 53 => ⟨S2048x2048, .i32⟩
  | 54 => ⟨S2048x2048, .i32⟩
  | 55 => ⟨S_, .i32⟩
  | 56 => ⟨S2048x2048, .i32⟩
  | 57 => ⟨S2048x2048, .i1⟩
  | 58 => ⟨S2048x2048, .i1⟩
  | 59 => ⟨S_, .i32⟩
  | 60 => ⟨S2048x2048, .i32⟩
  | 61 => ⟨S2048x2048, .i1⟩
  | 62 => ⟨S_, .i32⟩
  | 63 => ⟨S2048x2048, .i32⟩
  | 64 => ⟨S2048x2048, .i1⟩
  | 65 => ⟨S2048x2048, .i1⟩
  | 66 => ⟨S_, .i32⟩
  | 67 => ⟨S2048x2048, .i32⟩
  | 68 => ⟨S2048x2048, .i32⟩
  | 69 => ⟨S_, .i32⟩
  | 70 => ⟨S2048x2048, .i32⟩
  | 71 => ⟨S2048x2048, .i1⟩
  | 72 => ⟨S2048x2048, .i1⟩
  | 73 => ⟨S1x2048x2048, .i1⟩
  | 74 => ⟨S1x2048x2048, .i1⟩
  | 75 => ⟨S1x2048x2048, .i1⟩
  | 76 => ⟨S3x2048x2048, .i1⟩
  | 77 => ⟨S16x2048x2048, .f32⟩
  | 78 => ⟨S_, .f32⟩
  | 79 => ⟨S16x2048x2048, .f32⟩
  | 80 => ⟨S16x2048x2048, .f32⟩
  | 81 => ⟨S16x1x1, .f32⟩
  | 82 => ⟨S2048x2048, .f32⟩
  | 83 => ⟨S1x2048x2048, .f32⟩
  | 84 => ⟨S16x2048x2048, .f32⟩
  | 85 => ⟨S16x2048x2048, .f32⟩
  | 86 => ⟨S16x2048x2048, .f32⟩
  | 87 => ⟨S16x2048x2048, .f32⟩
  | 88 => ⟨S3x1x2048x2048, .i1⟩
  | 89 => ⟨S3x16x2048x2048, .i1⟩
  | 90 => ⟨S1x16x2048x2048, .f32⟩
  | 91 => ⟨S3x16x2048x2048, .f32⟩
  | 92 => ⟨S_, .f32⟩
  | 93 => ⟨S3x16x2048x2048, .f32⟩
  | 94 => ⟨S3x16x2048x2048, .f32⟩
  | 95 => ⟨S_, .f32⟩
  | 96 => ⟨S3x16x2048, .f32⟩
  | 97 => ⟨S3x16x2048x1, .f32⟩
  | 98 => ⟨S3x16x2048x2048, .f32⟩
  | 99 => ⟨S3x16x2048x2048, .f32⟩
  | 100 => ⟨S3x16x2048x2048, .f32⟩
  | 101 => ⟨S_, .f32⟩
  | 102 => ⟨S3x16x2048, .f32⟩
  | 103 => ⟨S16x128x3x2048, .f32⟩
  | 104 => ⟨S3x2048x16x128, .f32⟩
  | 105 => ⟨S3x2048x16, .f32⟩
  | 106 => ⟨S3x2048x16x1, .f32⟩
  | 107 => ⟨S3x2048x16x128, .f32⟩
  | 108 => ⟨S3x2048x16x128, .f32⟩
  | 109 => ⟨S3x16x2048, .f32⟩
  | 110 => ⟨S3x16x2048, .f32⟩
  | 111 => ⟨S3x16x2048, .f32⟩
  | 112 => ⟨S_, .f32⟩
  | 113 => ⟨S16x2048, .f32⟩
  | 114 => ⟨S_, .f32⟩
  | 115 => ⟨S16x2048, .f32⟩
  | 116 => ⟨S16x2048, .f32⟩
  | 117 => ⟨S1x16x2048, .f32⟩
  | 118 => ⟨S3x16x2048, .f32⟩
  | 119 => ⟨S3x16x2048, .f32⟩
  | 120 => ⟨S3x16x2048, .f32⟩
  | 121 => ⟨S_, .f32⟩
  | 122 => ⟨S16x2048, .f32⟩
  | 123 => ⟨S1x16x2048, .f32⟩
  | 124 => ⟨S3x16x2048, .f32⟩
  | 125 => ⟨S3x16x2048, .f32⟩
  | 126 => ⟨S3x2048x16, .f32⟩
  | 127 => ⟨S3x2048x16x1, .f32⟩
  | _ => ⟨S2048x2048, .f32⟩

abbrev hbmTy0_1 (i : Nat) : BufTy := match i % 128 with
  | 0 => ⟨S3x2048x16x128, .f32⟩
  | 1 => ⟨S3x2048x16x128, .f32⟩
  | 2 => ⟨S_, .f32⟩
  | 3 => ⟨S2048x16x128, .f32⟩
  | 4 => ⟨S2048x2048, .f32⟩
  | 5 => ⟨S2048x2048, .bf16⟩
  | 6 => ⟨S_, .f32⟩
  | 7 => ⟨S16x2048, .f32⟩
  | 8 => ⟨S1x16x2048, .f32⟩
  | 9 => ⟨S3x16x2048, .f32⟩
  | 10 => ⟨S3x16x2048, .f32⟩
  | 11 => ⟨S3x16x2048, .f32⟩
  | 12 => ⟨S_, .f32⟩
  | 13 => ⟨S16x2048, .f32⟩
  | 14 => ⟨S16x2048, .f32⟩
  | 15 => ⟨S16x2048, .f32⟩
  | 16 => ⟨S2048x16, .f32⟩
  | 17 => ⟨S2048x16x1, .f32⟩
  | 18 => ⟨S2048x16x128, .f32⟩
  | 19 => ⟨S2048x2048, .f32⟩
  | 20 => ⟨S2048x6144, .f32⟩
  | 21 => ⟨S16, .f32⟩
  | 22 => ⟨S_, .f32⟩
  | 23 => ⟨S16, .f32⟩
  | 24 => ⟨S16, .f32⟩
  | 25 => ⟨S_, .f32⟩
  | 26 => ⟨S16, .f32⟩
  | 27 => ⟨S16, .f32⟩
  | 28 => ⟨S_, .f32⟩
  | 29 => ⟨S16, .f32⟩
  | 30 => ⟨S16, .f32⟩
  | 31 => ⟨S_, .f32⟩
  | 32 => ⟨S16, .f32⟩
  | 33 => ⟨S16, .f32⟩
  | 34 => ⟨S7x2048x2048, .bf16⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .bf16⟩
  | .local _ .vmem, ⟨9, _⟩ => ⟨S2048x128, .bf16⟩
  | .local _ .vmem, ⟨10, _⟩ => ⟨S2048x128, .f32⟩
  | .local _ .vmem, ⟨11, _⟩ => ⟨S2048x128, .f32⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S7x2048x128, .bf16⟩
  | .local _ .vmem, ⟨21, _⟩ => ⟨S7x2048x128, .bf16⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S3x128x256, .f32⟩
  | .local _ .smem, ⟨0, _⟩ => ⟨S16, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_10 : Ref sig .tc := ⟨.hbm, 59, rfl⟩
abbrev main_v39 : Ref sig .tc := ⟨.hbm, 60, rfl⟩
abbrev main_v40 : Ref sig .tc := ⟨.hbm, 61, rfl⟩
abbrev main_c_11 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_12 : Ref sig .tc := ⟨.hbm, 66, rfl⟩
abbrev main_v44 : Ref sig .tc := ⟨.hbm, 67, rfl⟩
abbrev main_v45 : Ref sig .tc := ⟨.hbm, 68, rfl⟩
abbrev main_c_13 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_14 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_15 : Ref sig .tc := ⟨.hbm, 92, rfl⟩
abbrev main_v67 : Ref sig .tc := ⟨.hbm, 93, rfl⟩
abbrev main_v68 : Ref sig .tc := ⟨.hbm, 94, rfl⟩
abbrev main_cst_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_17 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_18 : Ref sig .tc := ⟨.hbm, 112, rfl⟩
abbrev main_v84 : Ref sig .tc := ⟨.hbm, 113, rfl⟩
abbrev main_cst_19 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_20 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_cst_21 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_22 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_23 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_cst_24 : Ref sig .tc := ⟨.hbm, 150, rfl⟩
abbrev main_v116 : Ref sig .tc := ⟨.hbm, 151, rfl⟩
abbrev main_v117 : Ref sig .tc := ⟨.hbm, 152, rfl⟩
abbrev main_cst_25 : Ref sig .tc := ⟨.hbm, 153, rfl⟩
abbrev main_v118 : Ref sig .tc := ⟨.hbm, 154, rfl⟩
abbrev main_v119 : Ref sig .tc := ⟨.hbm, 155, rfl⟩
abbrev main_cst_26 : Ref sig .tc := ⟨.hbm, 156, rfl⟩
abbrev main_v120 : Ref sig .tc := ⟨.hbm, 157, rfl⟩
abbrev main_v121 : Ref sig .tc := ⟨.hbm, 158, rfl⟩
abbrev main_cst_27 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![16], ![false]⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S7x2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S2048x2048 : Shape := ⟨2, ![2048, 2048]⟩
abbrev S2048x16x128 : Shape := ⟨3, ![2048, 16, 128]⟩
abbrev S16 : Shape := ⟨1, ![16]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S1x2048x2048 : Shape := ⟨3, ![1, 2048, 2048]⟩
abbrev S3x2048x2048 : Shape := ⟨3, ![3, 2048, 2048]⟩
abbrev S16x2048x2048 : Shape := ⟨3, ![16, 2048, 2048]⟩
abbrev S16x1x1 : Shape := ⟨3, ![16, 1, 1]⟩
abbrev S3x1x2048x2048 : Shape := ⟨4, ![3, 1, 2048, 2048]⟩
abbrev S3x16x2048x2048 : Shape := ⟨4, ![3, 16, 2048, 2048]⟩
abbrev S1x16x2048x2048 : Shape := ⟨4, ![1, 16, 2048, 2048]⟩
abbrev S3x16x2048 : Shape := ⟨3, ![3, 16, 2048]⟩
abbrev S3x16x2048x1 : Shape := ⟨4, ![3, 16, 2048, 1]⟩
abbrev S16x128x3x2048 : Shape := ⟨4, ![16, 128, 3, 2048]⟩
abbrev S3x2048x16x128 : Shape := ⟨4, ![3, 2048, 16, 128]⟩
abbrev S3x2048x16 : Shape := ⟨3, ![3, 2048, 16]⟩
abbrev S3x2048x16x1 : Shape := ⟨4, ![3, 2048, 16, 1]⟩
abbrev S16x2048 : Shape := ⟨2, ![16, 2048]⟩
abbrev S1x16x2048 : Shape := ⟨3, ![1, 16, 2048]⟩
abbrev S16x3x2048x2048 : Shape := ⟨4, ![16, 3, 2048, 2048]⟩
abbrev S16x128x2048 : Shape := ⟨3, ![16, 128, 2048]⟩
abbrev S16x2048x128 : Shape := ⟨3, ![16, 2048, 128]⟩
abbrev S7x2048x2048 : Shape := ⟨3, ![7, 2048, 2048]⟩

abbrev nBuf : Space → Nat
  | .hbm => 257
  | .vmem => 0
  | .smem => 0
  | _ => 0

abbrev hbmTy0_0 (i : Nat) : BufTy := match i % 128 with
  | 0 => ⟨S2048x2048, .f32⟩
  | 1 => ⟨S2048x2048, .f32⟩
  | 2 => ⟨S2048x2048, .f32⟩
  | 3 => ⟨S2048x2048, .f32⟩
  | 4 => ⟨S2048x2048, .bf16⟩
  | 5 => ⟨S2048x2048, .bf16⟩
  | 6 => ⟨S2048x2048, .bf16⟩
  | 7 => ⟨S2048x2048, .bf16⟩
  | 8 => ⟨S2048x16x128, .f32⟩
  | 9 => ⟨S2048x16x128, .f32⟩
  | 10 => ⟨S2048x16x128, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S2048, .i32⟩
  | 25 => ⟨S2048x1, .i32⟩
  | 26 => ⟨S2048, .i32⟩
  | 27 => ⟨S1x2048, .i32⟩
  | 28 => ⟨S2048x2048, .i32⟩
  | 29 => ⟨S2048x2048, .i32⟩
  | 30 => ⟨S2048x2048, .i32⟩
  | 31 => ⟨S_, .i32⟩
  | 32 => ⟨S2048x2048, .i32⟩
  | 33 => ⟨S2048x2048, .i1⟩
  | 34 => ⟨S_, .i32⟩
  | 35 => ⟨S2048x2048, .i32⟩
  | 36 => ⟨S2048x2048, .i1⟩
  | 37 => ⟨S2048x2048, .i1⟩
  | 38 => ⟨S_, .i32⟩
  | 39 => ⟨S2048x2048, .i32⟩
  | 40 => ⟨S2048x2048, .i32⟩
  | 41 => ⟨S_, .i32⟩
  | 42 => ⟨S2048x2048, .i32⟩
  | 43 => ⟨S2048x2048, .i1⟩
  | 44 => ⟨S2048x2048, .i1⟩
  | 45 => ⟨S_, .i32⟩
  | 46 => ⟨S2048x2048, .i32⟩
  | 47 => ⟨S2048x2048, .i1⟩
  | 48 => ⟨S_, .i32⟩
  | 49 => ⟨S2048x2048, .i32⟩
  | 50 => ⟨S2048x2048, .i1⟩
  | 51 => ⟨S2048x2048, .i1⟩
  | 52 => ⟨S_, .i32⟩
  | 53 => ⟨S2048x2048, .i32⟩
  | 54 => ⟨S2048x2048, .i32⟩
  | 55 => ⟨S_, .i32⟩
  | 56 => ⟨S2048x2048, .i32⟩
  | 57 => ⟨S2048x2048, .i1⟩
  | 58 => ⟨S2048x2048, .i1⟩
  | 59 => ⟨S_, .i32⟩
  | 60 => ⟨S2048x2048, .i32⟩
  | 61 => ⟨S2048x2048, .i1⟩
  | 62 => ⟨S_, .i32⟩
  | 63 => ⟨S2048x2048, .i32⟩
  | 64 => ⟨S2048x2048, .i1⟩
  | 65 => ⟨S2048x2048, .i1⟩
  | 66 => ⟨S_, .i32⟩
  | 67 => ⟨S2048x2048, .i32⟩
  | 68 => ⟨S2048x2048, .i32⟩
  | 69 => ⟨S_, .i32⟩
  | 70 => ⟨S2048x2048, .i32⟩
  | 71 => ⟨S2048x2048, .i1⟩
  | 72 => ⟨S2048x2048, .i1⟩
  | 73 => ⟨S1x2048x2048, .i1⟩
  | 74 => ⟨S1x2048x2048, .i1⟩
  | 75 => ⟨S1x2048x2048, .i1⟩
  | 76 => ⟨S3x2048x2048, .i1⟩
  | 77 => ⟨S16x2048x2048, .f32⟩
  | 78 => ⟨S_, .f32⟩
  | 79 => ⟨S16x2048x2048, .f32⟩
  | 80 => ⟨S16x2048x2048, .f32⟩
  | 81 => ⟨S16x1x1, .f32⟩
  | 82 => ⟨S2048x2048, .f32⟩
  | 83 => ⟨S1x2048x2048, .f32⟩
  | 84 => ⟨S16x2048x2048, .f32⟩
  | 85 => ⟨S16x2048x2048, .f32⟩
  | 86 => ⟨S16x2048x2048, .f32⟩
  | 87 => ⟨S16x2048x2048, .f32⟩
  | 88 => ⟨S3x1x2048x2048, .i1⟩
  | 89 => ⟨S3x16x2048x2048, .i1⟩
  | 90 => ⟨S1x16x2048x2048, .f32⟩
  | 91 => ⟨S3x16x2048x2048, .f32⟩
  | 92 => ⟨S_, .f32⟩
  | 93 => ⟨S3x16x2048x2048, .f32⟩
  | 94 => ⟨S3x16x2048x2048, .f32⟩
  | 95 => ⟨S_, .f32⟩
  | 96 => ⟨S3x16x2048x2048, .f32⟩
  | 97 => ⟨S_, .f32⟩
  | 98 => ⟨S3x16x2048, .f32⟩
  | 99 => ⟨S3x16x2048x1, .f32⟩
  | 100 => ⟨S3x16x2048x2048, .f32⟩
  | 101 => ⟨S3x16x2048x2048, .i1⟩
  | 102 => ⟨S3x16x2048x2048, .f32⟩
  | 103 => ⟨S_, .f32⟩
  | 104 => ⟨S3x16x2048, .f32⟩
  | 105 => ⟨S3x16x2048x1, .f32⟩
  | 106 => ⟨S3x16x2048x2048, .f32⟩
  | 107 => ⟨S3x16x2048x2048, .f32⟩
  | 108 => ⟨S3x16x2048x2048, .f32⟩
  | 109 => ⟨S_, .f32⟩
  | 110 => ⟨S3x16x2048, .f32⟩
  | 111 => ⟨S16x128x3x2048, .f32⟩
  | 112 => ⟨S3x2048x16x128, .f32⟩
  | 113 => ⟨S3x2048x16, .f32⟩
  | 114 => ⟨S3x2048x16x1, .f32⟩
  | 115 => ⟨S3x2048x16x128, .f32⟩
  | 116 => ⟨S3x2048x16x128, .f32⟩
  | 117 => ⟨S3x2048x16x1, .f32⟩
  | 118 => ⟨S_, .f32⟩
  | 119 => ⟨S3x2048x16x1, .f32⟩
  | 120 => ⟨S3x2048x16x1, .f32⟩
  | 121 => ⟨S3x16x2048, .f32⟩
  | 122 => ⟨S3x16x2048, .f32⟩
  | 123 => ⟨S3x16x2048, .f32⟩
  | 124 => ⟨S_, .f32⟩
  | 125 => ⟨S16x2048, .f32⟩
  | 126 => ⟨S1x16x2048, .f32⟩
  | 127 => ⟨S3x16x2048, .f32⟩
  | _ => ⟨S2048x2048, .f32⟩

abbrev hbmTy0_1 (i : Nat) : BufTy := match i % 128 with
  | 0 => ⟨S3x16x2048, .i1⟩
  | 1 => ⟨S3x16x2048, .f32⟩
  | 2 => ⟨S_, .f32⟩
  | 3 => ⟨S16x2048, .f32⟩
  | 4 => ⟨S_, .f32⟩
  | 5 => ⟨S16x2048, .f32⟩
  | 6 => ⟨S16x2048, .f32⟩
  | 7 => ⟨S_, .f32⟩
  | 8 => ⟨S16x2048, .f32⟩
  | 9 => ⟨S16x2048, .i1⟩
  | 10 => ⟨S_, .f32⟩
  | 11 => ⟨S16x2048, .f32⟩
  | 12 => ⟨S16x2048, .i1⟩
  | 13 => ⟨S_, .f32⟩
  | 14 => ⟨S16x2048, .f32⟩
  | 15 => ⟨S_, .f32⟩
  | 16 => ⟨S16x2048, .f32⟩
  | 17 => ⟨S_, .f32⟩
  | 18 => ⟨S16x2048, .f32⟩
  | 19 => ⟨S16x2048, .f32⟩
  | 20 => ⟨S16x2048, .f32⟩
  | 21 => ⟨S1x16x2048, .f32⟩
  | 22 => ⟨S3x16x2048, .f32⟩
  | 23 => ⟨S3x16x2048, .f32⟩
  | 24 => ⟨S3x16x2048, .f32⟩
  | 25 => ⟨S_, .f32⟩
  | 26 => ⟨S16x2048, .f32⟩
  | 27 => ⟨S1x16x2048, .f32⟩
  | 28 => ⟨S3x16x2048, .f32⟩
  | 29 => ⟨S3x16x2048, .f32⟩
  | 30 => ⟨S1x16x2048, .f32⟩
  | 31 => ⟨S_, .f32⟩
  | 32 => ⟨S1x16x2048, .f32⟩
  | 33 => ⟨S1x16x2048, .f32⟩
  | 34 => ⟨S3x2048x16, .f32⟩
  | 35 => ⟨S3x2048x16x1, .f32⟩
  | 36 => ⟨S3x2048x16x128, .f32⟩
  | 37 => ⟨S3x2048x16x128, .f32⟩
  | 38 => ⟨S_, .f32⟩
  | 39 => ⟨S2048x16x128, .f32⟩
  | 40 => ⟨S2048x2048, .f32⟩
  | 41 => ⟨S2048x16x128, .f32⟩
  | 42 => ⟨S3x2048x16x128, .f32⟩
  | 43 => ⟨S3x2048x16x128, .f32⟩
  | 44 => ⟨S3x2048x16x128, .f32⟩
  | 45 => ⟨S3x2048x16x128, .f32⟩
  | 46 => ⟨S_, .f32⟩
  | 47 => ⟨S3x2048x16, .f32⟩
  | 48 => ⟨S3x2048x16x1, .f32⟩
  | 49 => ⟨S_, .f32⟩
  | 50 => ⟨S3x2048x16, .f32⟩
  | 51 => ⟨S3x16x2048, .f32⟩
  | 52 => ⟨S3x16x2048, .f32⟩
  | 53 => ⟨S3x16x2048, .f32⟩
  | 54 => ⟨S3x16x2048, .f32⟩
  | 55 => ⟨S_, .f32⟩
  | 56 => ⟨S16x2048, .f32⟩
  | 57 => ⟨S1x16x2048, .f32⟩
  | 58 => ⟨S1x16x2048, .f32⟩
  | 59 => ⟨S3x16x2048, .f32⟩
  | 60 => ⟨S3x16x2048, .f32⟩
  | 61 => ⟨S_, .f32⟩
  | 62 => ⟨S16x2048, .f32⟩
  | 63 => ⟨S3x16x2048, .f32⟩
  | 64 => ⟨S3x16x2048, .f32⟩
  | 65 => ⟨S3x16x2048, .f32⟩
  | 66 => ⟨S3x16x2048, .f32⟩
  | 67 => ⟨S3x16x2048x1, .f32⟩
  | 68 => ⟨S3x2048x16x128, .f32⟩
  | 69 => ⟨S3x2048x16x128, .f32⟩
  | 70 => ⟨S3x2048x16x128, .f32⟩
  | 71 => ⟨S_, .f32⟩
  | 72 => ⟨S3x2048x16, .f32⟩
  | 73 => ⟨S3x2048x16x1, .f32⟩
  | 74 => ⟨S3x2048x16x1, .f32⟩
  | 75 => ⟨S3x2048x16x128, .f32⟩
  | 76 => ⟨S3x2048x16x128, .f32⟩
  | 77 => ⟨S_, .f32⟩
  | 78 => ⟨S3x2048x16, .f32⟩
  | 79 => ⟨S3x16x2048, .f32⟩
  | 80 => ⟨S3x16x2048, .f32⟩
  | 81 => ⟨S16x128x3x2048, .f32⟩
  | 82 => ⟨S16x3x2048x2048, .f32⟩
  | 83 => ⟨S3x16x2048x2048, .f32⟩
  | 84 => ⟨S16x128x2048, .f32⟩
  | 85 => ⟨S2048x16x128, .f32⟩
  | 86 => ⟨S3x16x2048x2048, .f32⟩
  | 87 => ⟨S3x16x2048x2048, .f32⟩
  | 88 => ⟨S3x16x2048x2048, .f32⟩
  | 89 => ⟨S3x16x2048x2048, .f32⟩
  | 90 => ⟨S_, .f32⟩
  | 91 => ⟨S3x16x2048, .f32⟩
  | 92 => ⟨S3x16x2048x1, .f32⟩
  | 93 => ⟨S3x16x2048x1, .f32⟩
  | 94 => ⟨S_, .f32⟩
  | 95 => ⟨S3x16x2048, .f32⟩
  | 96 => ⟨S3x16x2048, .f32⟩
  | 97 => ⟨S3x16x2048x2048, .f32⟩
  | 98 => ⟨S3x16x2048x2048, .f32⟩
  | 99 => ⟨S3x16x2048x2048, .f32⟩
  | 100 => ⟨S_, .f32⟩
  | 101 => ⟨S3x16x2048x2048, .f32⟩
  | 102 => ⟨S3x16x2048x2048, .f32⟩
  | 103 => ⟨S_, .f32⟩
  | 104 => ⟨S16x2048x2048, .f32⟩
  | 105 => ⟨S1x16x2048x2048, .f32⟩
  | 106 => ⟨S_, .f32⟩
  | 107 => ⟨S16x2048x2048, .f32⟩
  | 108 => ⟨S_, .f32⟩
  | 109 => ⟨S16x2048x2048, .f32⟩
  | 110 => ⟨S16x2048x2048, .f32⟩
  | 111 => ⟨S16x2048x128, .f32⟩
  | 112 => ⟨S2048x16x128, .f32⟩
  | 113 => ⟨S16x2048x128, .f32⟩
  | 114 => ⟨S2048x16x128, .f32⟩
  | 115 => ⟨S2048x2048, .f32⟩
  | 116 => ⟨S2048x2048, .f32⟩
  | 117 => ⟨S2048x2048, .f32⟩
  | 118 => ⟨S2048x2048, .bf16⟩
  | 119 => ⟨S2048x2048, .bf16⟩
  | 120 => ⟨S2048x2048, .bf16⟩
  | 121 => ⟨S1x2048x2048, .bf16⟩
  | 122 => ⟨S1x2048x2048, .bf16⟩
  | 123 => ⟨S1x2048x2048, .bf16⟩
  | 124 => ⟨S1x2048x2048, .bf16⟩
  | 125 => ⟨S1x2048x2048, .bf16⟩
  | 126 => ⟨S1x2048x2048, .bf16⟩
  | 127 => ⟨S1x2048x2048, .bf16⟩
  | _ => ⟨S2048x2048, .f32⟩

abbrev hbmTy0_2 (i : Nat) : BufTy := match i % 128 with
  | 0 => ⟨S7x2048x2048, .bf16⟩
  | _ => ⟨S2048x2048, .f32⟩

abbrev hbmTy (i : Nat) : BufTy := match i / 128 with
  | 0 => hbmTy0_0 i
  | 1 => hbmTy0_1 i
  | 2 => hbmTy0_2 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_10 : Ref sig .tc := ⟨.hbm, 59, rfl⟩
abbrev main_v39 : Ref sig .tc := ⟨.hbm, 60, rfl⟩
abbrev main_v40 : Ref sig .tc := ⟨.hbm, 61, rfl⟩
abbrev main_c_11 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_12 : Ref sig .tc := ⟨.hbm, 66, rfl⟩
abbrev main_v44 : Ref sig .tc := ⟨.hbm, 67, rfl⟩
abbrev main_v45 : Ref sig .tc := ⟨.hbm, 68, rfl⟩
abbrev main_c_13 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_14 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_15 : Ref sig .tc := ⟨.hbm, 92, rfl⟩
abbrev main_v67 : Ref sig .tc := ⟨.hbm, 93, rfl⟩
abbrev main_v68 : Ref sig .tc := ⟨.hbm, 94, rfl⟩
abbrev main_cst_16 : Ref sig .tc := ⟨.hbm, 95, rfl⟩
abbrev main_v69 : Ref sig .tc := ⟨.hbm, 96, rfl⟩
abbrev main_cst_17 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_18 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_19 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_20 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_21 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_22 : Ref sig .tc := ⟨.hbm, 130, rfl⟩
abbrev main_v98 : Ref sig .tc := ⟨.hbm, 131, rfl⟩
abbrev main_cst_23 : Ref sig .tc := ⟨.hbm, 132, rfl⟩
abbrev main_v99 : Ref sig .tc := ⟨.hbm, 133, rfl⟩
abbrev main_v100 : Ref sig .tc := ⟨.hbm, 134, rfl⟩
abbrev main_cst_24 : Ref sig .tc := ⟨.hbm, 135, rfl⟩
abbrev main_v101 : Ref sig .tc := ⟨.hbm, 136, rfl⟩
abbrev main_v102 : Ref sig .tc := ⟨.hbm, 137, rfl⟩
abbrev main_cst_25 : Ref sig .tc := ⟨.hbm, 138, rfl⟩
abbrev main_v103 : Ref sig .tc := ⟨.hbm, 139, rfl⟩
abbrev main_v104 : Ref sig .tc := ⟨.hbm, 140, rfl⟩
abbrev main_cst_26 : Ref sig .tc := ⟨.hbm, 141, rfl⟩
abbrev main_v105 : Ref sig .tc := ⟨.hbm, 142, rfl⟩
abbrev main_cst_27 : Ref sig .tc := ⟨.hbm, 143, rfl⟩
abbrev main_v106 : Ref sig .tc := ⟨.hbm, 144, rfl⟩
abbrev main_cst_28 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_29 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_30 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_cst_31 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_cst_32 : Ref sig .tc := ⟨.hbm, 174, rfl⟩
abbrev main_v132 : Ref sig .tc := ⟨.hbm, 175, rfl⟩
abbrev main_v133 : Ref sig .tc := ⟨.hbm, 176, rfl⟩
abbrev main_cst_33 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_cst_34 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_cst_35 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_cst_36 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_cst_37 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_cst_38 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_cst_39 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_cst_40 : Ref sig .tc := ⟨.hbm, 228, rfl⟩
abbrev main_v178 : Ref sig .tc := ⟨.hbm, 229, rfl⟩
abbrev main_v179 : Ref sig .tc := ⟨.hbm, 230, rfl⟩
abbrev main_cst_41 : Ref sig .tc := ⟨.hbm, 231, rfl⟩
abbrev main_v180 : Ref sig .tc := ⟨.hbm, 232, rfl⟩
abbrev main_v181 : Ref sig .tc := ⟨.hbm, 233, rfl⟩
abbrev main_cst_42 : Ref sig .tc := ⟨.hbm, 234, rfl⟩
abbrev main_v182 : Ref sig .tc := ⟨.hbm, 235, rfl⟩
abbrev main_cst_43 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩

abbrev nD : Nat := 1
abbrev τ : Topo := Topo.v7x

variable {F : FTy → Type} [FloatOps F]
-- ==== MlpUpDw.lean ====
abbrev S2048x2048 : Shape := ⟨2, ![2048, 2048]⟩
abbrev S2048x8192 : Shape := ⟨2, ![2048, 8192]⟩
abbrev S2048x1024 : Shape := ⟨2, ![2048, 1024]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x8192, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpDwRefIdeal.lean ====
abbrev S2048x2048 : Shape := ⟨2, ![2048, 2048]⟩
abbrev S2048x8192 : Shape := ⟨2, ![2048, 8192]⟩
abbrev S_ : Shape := ⟨0, ![]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S_, .f32⟩
  | .hbm, ⟨3, _⟩ => ⟨S2048x8192, .f32⟩
  | .hbm, ⟨4, _⟩ => ⟨S2048x2048, .f32⟩
  | .hbm, ⟨5, _⟩ => ⟨S2048x8192, .f32⟩
  | .hbm, ⟨6, _⟩ => ⟨S2048x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlpDownDw.lean ====
abbrev S2048x8192 : Shape := ⟨2, ![2048, 8192]⟩
abbrev S2048x2048 : Shape := ⟨2, ![2048, 2048]⟩
abbrev S8192x2048 : Shape := ⟨2, ![8192, 2048]⟩
abbrev S2048x1024 : Shape := ⟨2, ![2048, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDownDwRefIdeal.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x8192, .f32⟩
  | .hbm, ⟨5, _⟩ => ⟨S2048x2048, .f32⟩
  | .hbm, ⟨6, _⟩ => ⟨S2048x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjInDw.lean ====
abbrev S2048x2048 : Shape := ⟨2, ![2048, 2048]⟩
abbrev S2048x14336 : Shape := ⟨2, ![2048, 14336]⟩
abbrev S2048x7x2048 : Shape := ⟨3, ![2048, 7, 2048]⟩
abbrev S7x2048x2048 : Shape := ⟨3, ![7, 2048, 2048]⟩
abbrev S1024x14336 : Shape := ⟨2, ![1024, 14336]⟩
abbrev S2048x1024 : Shape := ⟨2, ![2048, 1024]⟩
abbrev S1x2048x2048 : Shape := ⟨3, ![1, 2048, 2048]⟩
abbrev S1024x2048 : Shape := ⟨2, ![1024, 2048]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x14336, .bf16⟩
  | .hbm, ⟨2, _⟩ => ⟨S2048x7x2048, .bf16⟩
  | .hbm, ⟨3, _⟩ => ⟨S7x2048x2048, .bf16⟩
  | .hbm, ⟨4, _⟩ => ⟨S1024x14336, .bf16⟩
  | .local _ .vmem, ⟨0, _⟩ => ⟨S2048x1024, .bf16⟩
  | .local _ .vmem, ⟨1, _⟩ => ⟨S1x2048x2048, .bf16⟩
  | .local _ .vmem, ⟨2, _⟩ => ⟨S1x2048x2048, .bf16⟩
  | .local _ .vmem, ⟨3, _⟩ => ⟨S1024x2048, .bf16⟩
  | .local _ .vmem, ⟨4, _⟩ => ⟨S1024x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInDwRefIdeal.lean ====
abbrev S2048x2048 : Shape := ⟨2, ![2048, 2048]⟩
abbrev S2048x14336 : Shape := ⟨2, ![2048, 14336]⟩
abbrev S_ : Shape := ⟨0, ![]⟩
abbrev S14336x2048 : Shape := ⟨2, ![14336, 2048]⟩
abbrev S1024x14336 : Shape := ⟨2, ![1024, 14336]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x14336, .bf16⟩
  | .hbm, ⟨2, _⟩ => ⟨S_, .f32⟩
  | .hbm, ⟨3, _⟩ => ⟨S2048x14336, .f32⟩
  | .hbm, ⟨4, _⟩ => ⟨S2048x2048, .f32⟩
  | .hbm, ⟨5, _⟩ => ⟨S2048x14336, .f32⟩
  | .hbm, ⟨6, _⟩ => ⟨S2048x14336, .f32⟩
  | .hbm, ⟨7, _⟩ => ⟨S14336x2048, .f32⟩
  | .hbm, ⟨8, _⟩ => ⟨S2048x14336, .f32⟩
  | .hbm, ⟨9, _⟩ => ⟨S1024x14336, .f32⟩
  | .hbm, ⟨10, _⟩ => ⟨S1024x14336, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ProjInDx.lean ====
abbrev S2048x14336 : Shape := ⟨2, ![2048, 14336]⟩
abbrev S2048x7x2048 : Shape := ⟨3, ![2048, 7, 2048]⟩
abbrev S7x2048x2048 : Shape := ⟨3, ![7, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x14336, .bf16⟩
  | .hbm, ⟨1, _⟩ => ⟨S2048x14336, .bf16⟩
  | .hbm, ⟨2, _⟩ => ⟨S2048x7x2048, .bf16⟩
  | .hbm, ⟨3, _⟩ => ⟨S7x2048x2048, .bf16⟩
  | .hbm, ⟨4, _⟩ => ⟨S1024x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 7], ![false, false, false]⟩

def k0_cond3 (i : grid0.Coords) : BitVec 1 :=
  let arg2 : BitVec 32 := BitVec.ofNat 32 (i 2).val
  let c6_i32_7 : BitVec 32 := 6#32
  let v12 : BitVec 1 := Scalar.cmpi .eq arg2 c6_i32_7
  let v13 : BitVec 32 := Scalar.extui v12
  let c0_i32_8 : BitVec 32 := 0#32
  let v14 : BitVec 1 := Scalar.cmpi .ne v13 c0_i32_8
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi c1_i32_5 arg0
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInDxRefIdeal.lean ====
abbrev S2048x14336 : Shape := ⟨2, ![2048, 14336]⟩
abbrev S_ : Shape := ⟨0, ![]⟩
abbrev S2048x2048 : Shape := ⟨2, ![2048, 2048]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x14336, .bf16⟩
  | .hbm, ⟨1, _⟩ => ⟨S2048x14336, .bf16⟩
  | .hbm, ⟨2, _⟩ => ⟨S_, .f32⟩
  | .hbm, ⟨3, _⟩ => ⟨S2048x2048, .f32⟩
  | .hbm, ⟨4, _⟩ => ⟨S2048x14336, .f32⟩
  | .hbm, ⟨5, _⟩ => ⟨S2048x14336, .f32⟩
  | .hbm, ⟨6, _⟩ => ⟨S2048x14336, .f32⟩
  | .hbm, ⟨7, _⟩ => ⟨S2048x2048, .f32⟩
  | .hbm, ⟨8, _⟩ => ⟨S1024x2048, .f32⟩
  | _, _ => ⟨S2048x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixOutDw.lean ====
abbrev S2048x2048 : Shape := ⟨2, ![2048, 2048]⟩
abbrev S2048x1024 : Shape := ⟨2, ![2048, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDwRefIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjAttnDx.lean ====
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S2048x2048, .bf16⟩
  | .local _ .vmem, ⟨1, _⟩ => ⟨S1024x2048, .bf16⟩
  | .local _ .vmem, ⟨2, _⟩ => ⟨S1024x2048, .bf16⟩
  | .local _ .vmem, ⟨3, _⟩ => ⟨S2048x1024, .f32⟩
  | .local _ .vmem, ⟨4, _⟩ => ⟨S2048x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjAttnDxRefIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixOutDx.lean ====
abbrev S2048x14336 : Shape := ⟨2, ![2048, 14336]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 9
  | .vmem => 20
  | .smem => 0
  | _ => 0

abbrev bufTy : (tb : Table) → Fin (tcTables nBuf tb) → BufTy
  | .hbm, ⟨0, _⟩ => ⟨S2048x14336, .f32⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x2048, .bf16⟩
  | .hbm, ⟨5, _⟩ => ⟨S2048x2048, .bf16⟩
  | .hbm, ⟨6, _⟩ => ⟨S2048x2048, .bf16⟩
  | .hbm, ⟨7, _⟩ => ⟨S2048x2048, .bf16⟩
  | .hbm, ⟨8, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S2048x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== MixOutDxRefIdeal.lean ====
abbrev S2048x14336 : Shape := ⟨2, ![2048, 14336]⟩
abbrev S2048x2048 : Shape := ⟨2, ![2048, 2048]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S2048x14336, .f32⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x2048, .bf16⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048x2048, .f32⟩
  | .hbm, ⟨34, _⟩ => ⟨S2048x2048, .f32⟩
  | .hbm, ⟨35, _⟩ => ⟨S_, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .bf16⟩
  | .hbm, ⟨52, _⟩ => ⟨S2048x2048, .bf16⟩
  | .hbm, ⟨53, _⟩ => ⟨S2048x2048, .bf16⟩
  | .hbm, ⟨54, _⟩ => ⟨S2048x2048, .bf16⟩
  | _, _ => ⟨S2048x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== NormBwd.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdRefIdeal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .bf16⟩
  | .hbm, ⟨52, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== NormHalvesBwd.lean ====
abbrev S2048x2048 : Shape := ⟨2, ![2048, 2048]⟩
abbrev S1x2048 : Shape := ⟨2, ![1, 2048]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048x2048, .bf16⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormHalvesBwdRefIdeal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .bf16⟩
  | .hbm, ⟨52, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== NormLoss.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .bf16⟩
  | .hbm, ⟨5, _⟩ => ⟨S1x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormLossRefIdeal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 96
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S2048, .f32⟩
  | .hbm, ⟨55, _⟩ => ⟨S2048x2048, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S2048x2048, .f32⟩
  | .hbm, ⟨60, _⟩ => ⟨S2048x2048, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .bf16⟩
  | .hbm, ⟨73, _⟩ => ⟨S1x2048, .f32⟩
  | .hbm, ⟨74, _⟩ => ⟨S2048, .f32⟩
  | .hbm, ⟨75, _⟩ => ⟨S2048x2048, .f32⟩
  | .hbm, ⟨76, _⟩ => ⟨S_, .f32⟩
  | .hbm, ⟨77, _⟩ => ⟨S2048, .f32⟩
  | .hbm, ⟨78, _⟩ => ⟨S2048x1, .f32⟩
  | .hbm, ⟨79, _⟩ => ⟨S_, .f32⟩
  | .hbm, ⟨80, _⟩ => ⟨S2048x1, .f32⟩
  | .hbm, ⟨81, _⟩ => ⟨S2048x1, .f32⟩
  | .hbm, ⟨82, _⟩ => ⟨S_, .f32⟩
  | .hbm, ⟨83, _⟩ => ⟨S2048x1, .f32⟩
  | .hbm, ⟨84, _⟩ => ⟨S2048x1, .f32⟩
  | .hbm, ⟨85, _⟩ => ⟨S2048x1, .f32⟩
  | .hbm, ⟨86, _⟩ => ⟨S2048x2048, .f32⟩
  | .hbm, ⟨87, _⟩ => ⟨S2048x2048, .f32⟩
  | .hbm, ⟨88, _⟩ => ⟨S1x2048, .f32⟩
  | .hbm, ⟨89, _⟩ => ⟨S2048x2048, .f32⟩
  | .hbm, ⟨90, _⟩ => ⟨S2048x2048, .f32⟩
  | .hbm, ⟨91, _⟩ => ⟨S2048x2048, .f32⟩
  | .hbm, ⟨92, _⟩ => ⟨S2048x2048, .f32⟩
  | .hbm, ⟨93, _⟩ => ⟨S_, .f32⟩
  | .hbm, ⟨94, _⟩ => ⟨S2048, .f32⟩
  | .hbm, ⟨95, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_16 : Ref sig .tc := ⟨.hbm, 76, rfl⟩
abbrev main_v56 : Ref sig .tc := ⟨.hbm, 77, rfl⟩
abbrev main_v57 : Ref sig .tc := ⟨.hbm, 78, rfl⟩
abbrev main_cst_17 : Ref sig .tc := ⟨.hbm, 79, rfl⟩
abbrev main_v58 : Ref sig .tc := ⟨.hbm, 80, rfl⟩
abbrev main_v59 : Ref sig .tc := ⟨.hbm, 81, rfl⟩
abbrev main_cst_18 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_19 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]
-- ==== Norm.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== ProjIn.lean ====
abbrev S2048x2048 : Shape := ⟨2, ![2048, 2048]⟩
abbrev S2048x14336 : Shape := ⟨2, ![2048, 14336]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x14336, .bf16⟩
  | .hbm, ⟨2, _⟩ => ⟨S2048x14336, .f32⟩
  | .local _ .vmem, ⟨0, _⟩ => ⟨S2048x2048, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .f32⟩
  | .local _ .vmem, ⟨4, _⟩ => ⟨S2048x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 14, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInRefIdeal.lean ====
abbrev S2048x2048 : Shape := ⟨2, ![2048, 2048]⟩
abbrev S2048x14336 : Shape := ⟨2, ![2048, 14336]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x14336, .bf16⟩
  | .hbm, ⟨2, _⟩ => ⟨S2048x2048, .f32⟩
  | .hbm, ⟨3, _⟩ => ⟨S2048x14336, .f32⟩
  | .hbm, ⟨4, _⟩ => ⟨S2048x14336, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MlpUp.lean ====
abbrev S2048x2048 : Shape := ⟨2, ![2048, 2048]⟩
abbrev S2048x8192 : Shape := ⟨2, ![2048, 8192]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x8192, .bf16⟩
  | .hbm, ⟨3, _⟩ => ⟨S2048x8192, .bf16⟩
  | .local _ .vmem, ⟨0, _⟩ => ⟨S2048x2048, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpUpRefIdeal.lean ====
abbrev S2048x2048 : Shape := ⟨2, ![2048, 2048]⟩
abbrev S2048x8192 : Shape := ⟨2, ![2048, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x2048, .f32⟩
  | .hbm, ⟨3, _⟩ => ⟨S2048x8192, .f32⟩
  | .hbm, ⟨4, _⟩ => ⟨S2048x8192, .f32⟩
  | .hbm, ⟨5, _⟩ => ⟨S2048x8192, .bf16⟩
  | .hbm, ⟨6, _⟩ => ⟨S_, .f32⟩
  | .hbm, ⟨7, _⟩ => ⟨S2048x8192, .f32⟩
  | .hbm, ⟨8, _⟩ => ⟨S2048x8192, .f32⟩
  | .hbm, ⟨9, _⟩ => ⟨S2048x8192, .f32⟩
  | .hbm, ⟨10, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== MlpDown.lean ====
abbrev S2048x8192 : Shape := ⟨2, ![2048, 8192]⟩
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDownRefIdeal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .hbm, ⟨3, _⟩ => ⟨S2048x8192, .f32⟩
  | .hbm, ⟨4, _⟩ => ⟨S8192x2048, .f32⟩
  | .hbm, ⟨5, _⟩ => ⟨S2048x2048, .f32⟩
  | .hbm, ⟨6, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjAttn.lean ====
abbrev S2048x2048 : Shape := ⟨2, ![2048, 2048]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x2048, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjAttnRefIdeal.lean ====
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjLruMerge.lean ====
abbrev S2048x2048 : Shape := ⟨2, ![2048, 2048]⟩
abbrev S2048x14336 : Shape := ⟨2, ![2048, 14336]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 14
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x14336, .f32⟩
  | .hbm, ⟨4, _⟩ => ⟨S2048x2048, .bf16⟩
  | .hbm, ⟨5, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ProjLruMergeRefIdeal.lean ====
abbrev S2048x2048 : Shape := ⟨2, ![2048, 2048]⟩
abbrev S2048x14336 : Shape := ⟨2, ![2048, 14336]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x14336, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .bf16⟩
  | .hbm, ⟨35, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== MixOut.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixOutRefIdeal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.HostRead.lean ====
/-
  What the kernel's arguments hold when it is launched: the host operations before it are the reference's forward values,
  read out of the run.
-/
module

public import proofs.«01_k».proof.Proof.Gen.KernelIdeal.Value
public import proofs.«01_k».proof.Proof.Gen.ReferenceIdeal.Read
public import Idealize.ShloMosaic.Lib.StableHlo.RunRead

@[expose] public section

set_option maxRecDepth 16384
set_option maxHeartbeats 4000000

noncomputable section

namespace Cert.Host

open Idealize.ShloMosaic Idealize.ShloMosaic.ValueIdx
open Cert.KernelIdeal Cert.KernelIdeal.Gen
open Cert.ReferenceIdeal.Read (val_main_v92 val_main_v93 val_main_v126 val_main_v11)

variable (m : (ℓ : Loc nD τ sig) → Buf (Elt Ideal) ℓ) (c : Dev nD)

theorem V_v123 : V m c main_v123 = val_main_v11 (F := Ideal) := by
  unfold V hostOps0
  after_reads_simp
  rfl

theorem V_v101 : V m c main_v101 = truncf (F := Ideal) .bf16 (val_main_v126 (F := Ideal) (m (c, Proc.devRef .tc main_arg0))
    (m (c, Proc.devRef .tc main_arg1)) (m (c, Proc.devRef .tc main_arg2))) bitsLt_bf16_f32 := by
  unfold V hostOps0
  after_reads_simp
  rfl

/-- The joint log-sum-exps, from the groups' log-sum-exps and their maximum, one row of 128 equal lanes per query and head. -/
def lseHost (L : (⟨S3x16x2048, .f32⟩ : BufTy).Contents (Elt Ideal)) (top : (⟨S16x2048, .f32⟩ : BufTy).Contents (Elt Ideal)) :
    (⟨S2048x2048, .f32⟩ : BufTy).Contents (Elt Ideal) :=
  shapeCast S2048x2048 (broadcastInDim S2048x16x128 ![0, 1, 2] bcast_S2048x16x1_S2048x16x128_0_1_2
    (broadcastInDim S2048x16x1 ![0, 1] bcast_S2048x16_S2048x16x1_0_1
      (transpose S2048x16 [1, 0] (addf (F := Ideal) (φ := .f32) top (Host.log (F := Ideal) (φ := .f32)
        (Host.reduceAdd (F := Ideal) (φ := .f32) (Host.exp (F := Ideal) (φ := .f32) (subf (F := Ideal) (φ := .f32) L
          (broadcastInDim S3x16x2048 ![0, 1, 2] bcast_S1x16x2048_S3x16x2048_0_1_2
            (broadcastInDim S1x16x2048 ![1, 2] bcast_S16x2048_S1x16x2048_1_2 top))))
          (constant (F := Ideal) S_ .f32 0x00000000#32) reducesTo_S3x16x2048_S16x2048_d0 h_S_)))
        transposes_S16x2048_S2048x16_1_0))) shapeCasts_S2048x16x128_S2048x2048

theorem V_v113 : V m c main_v113 = lseHost (val_main_v92 (F := Ideal) (m (c, Proc.devRef .tc main_arg0)) (m (c, Proc.devRef .tc main_arg1)))
    (val_main_v93 (F := Ideal) (m (c, Proc.devRef .tc main_arg0)) (m (c, Proc.devRef .tc main_arg1))) := by
  unfold V hostOps0
  after_reads_simp
  rfl

theorem V_v114 : V m c main_v114 = concatenate S2048x6144 1 [⟨S2048x2048, (m (c, Proc.devRef .tc main_arg0) : (⟨S2048x2048, .f32⟩ : BufTy).Contents (Elt Ideal))⟩,
    ⟨S2048x2048, (m (c, Proc.devRef .tc main_arg1) : (⟨S2048x2048, .f32⟩ : BufTy).Contents (Elt Ideal))⟩,
    ⟨S2048x2048, (m (c, Proc.devRef .tc main_arg2) : (⟨S2048x2048, .f32⟩ : BufTy).Contents (Elt Ideal))⟩]
    concatenates_S2048x2048_S2048x2048_S2048x2048_S2048x6144_d1 := by
  unfold V hostOps0
  after_reads_simp
  rfl

end Cert.Host
-- ==== Proof.RowMath.lean ====
/-
  The gradient of one query's row of the mixed attention, over the real numbers. The groups of the row are
  each a softmax over the keys they attend; the row's output weighs the groups by the softmax of their
  log-sum-exps. Written out by the chain rule the gradient of the scores passes through the groups' maxima,
  sums and weights; here it is shown to be the one expression `p · (do · v − do · out)` of the probabilities
  `p` taken against the row's joint log-sum-exp, and what passes through the maxima is shown to vanish.
-/
module

public import Mathlib.Analysis.SpecialFunctions.Log.Basic
public import Mathlib.Algebra.BigOperators.Field
public import Mathlib.Tactic.FieldSimp
public import Mathlib.Tactic.Ring
public import Mathlib.Tactic.Positivity

@[expose] public section

noncomputable section

namespace Cert.Row

open Finset

/-- What one query's row is made of: the scores of the keys, the keys each group attends, the number each
    group's scores are lessened by, the number the groups' log-sum-exps are lessened by, the keys' values
    and the gradient of the row's output. -/
structure Data (G U E : Type) where
  s : U → ℝ
  ok : G → U → Prop
  mx : G → ℝ
  top : ℝ
  v : U → E → ℝ
  od : E → ℝ

variable {G U E : Type} [Fintype G] [Fintype U] [Fintype E] (D : Data G U E)

open Classical in
/-- The unnormalised probability of key `u` in group `g`. -/
def Data.e (g : G) (u : U) : ℝ := if D.ok g u then Real.exp (D.s u - D.mx g) else 0

/-- The sum of a group's unnormalised probabilities. -/
def Data.l (g : G) : ℝ := ∑ u, D.e g u

/-- A group's log-sum-exp. -/
def Data.L (g : G) : ℝ := D.mx g + Real.log (D.l g)

/-- A group's unnormalised weight. -/
def Data.x (g : G) : ℝ := Real.exp (D.L g - D.top)

/-- The sum of the groups' unnormalised weights. -/
def Data.S : ℝ := ∑ g, D.x g

/-- A group's weight. -/
def Data.w (g : G) : ℝ := D.x g / D.S

/-- A group's unnormalised output. -/
def Data.o (g : G) (j : E) : ℝ := ∑ u, D.v u j * D.e g u

/-- The row's output. -/
def Data.out (j : E) : ℝ := ∑ g, D.w g * (D.o g j / D.l g)

/-- The row's joint log-sum-exp. -/
def Data.lse : ℝ := Real.log D.S + D.top

open Classical in
/-- The probability of key `u` through group `g`, against the joint log-sum-exp. -/
def Data.p (g : G) (u : U) : ℝ := if D.ok g u then Real.exp (D.s u - D.lse) else 0

/-- The gradient against one group's normalised output. -/
def Data.dd (g : G) : ℝ := ∑ j, D.od j * (D.o g j / D.l g)

/-- The gradient of a group's log-sum-exp, as the chain rule through the weights writes it. -/
def Data.dL (g : G) : ℝ := (D.dd g / D.S + -(∑ g', D.dd g' * (1 / (D.S * D.S)) * D.x g')) * D.x g

/-- The gradient of a score through one group (its maximum aside), as the chain rule writes it. -/
def Data.ds (g : G) (u : U) : ℝ :=
  ((∑ j, D.w g * D.od j / D.l g * D.v u j)
    + (D.dL g / D.l g + -(∑ j, D.w g * D.od j * (1 / (D.l g * D.l g)) * D.o g j))) * D.e g u

variable {D}

theorem Data.e_nonneg (g : G) (u : U) : 0 ≤ D.e g u := by
  unfold Data.e; split
  · exact (Real.exp_pos _).le
  · exact le_rfl

theorem Data.l_pos (h : ∀ g, ∃ u, D.ok g u) (g : G) : 0 < D.l g := by
  obtain ⟨u, hu⟩ := h g
  refine lt_of_lt_of_le ?_ (single_le_sum (f := fun u => D.e g u) (fun u _ => D.e_nonneg g u) (mem_univ u))
  simp only [Data.e, if_pos hu]; exact Real.exp_pos _

theorem Data.x_pos (g : G) : 0 < D.x g := Real.exp_pos _

theorem Data.S_pos [Nonempty G] : 0 < D.S := sum_pos (fun g _ => D.x_pos g) univ_nonempty

/-- The weighted, normalised probability of a key is its probability against the joint log-sum-exp. -/
theorem Data.w_mul_e [Nonempty G] (h : ∀ g, ∃ u, D.ok g u) (g : G) (u : U) :
    D.w g * D.e g u / D.l g = D.p g u := by
  have hl := D.l_pos h g
  have hS := D.S_pos
  unfold Data.p Data.e
  split
  · have hx : D.x g = Real.exp (D.mx g - D.top) * D.l g := by
      have : D.x g = Real.exp (D.mx g - D.top + Real.log (D.l g)) := by
        unfold Data.x Data.L; congr 1; ring
      rw [this, Real.exp_add, Real.exp_log hl]
    have he : Real.exp (D.s u - D.lse) = Real.exp (D.mx g - D.top) * Real.exp (D.s u - D.mx g) / D.S := by
      have : D.s u - D.lse = (D.mx g - D.top) + (D.s u - D.mx g) - Real.log D.S := by unfold Data.lse; ring
      rw [this, Real.exp_sub, Real.exp_add, Real.exp_log hS]
    rw [he, Data.w, hx]
    field_simp
  · simp

/-- A group's probabilities add up to its weight. -/
theorem Data.sum_p [Nonempty G] (h : ∀ g, ∃ u, D.ok g u) (g : G) : ∑ u, D.p g u = D.w g := by
  have hl := (D.l_pos h g).ne'
  simp only [← Data.w_mul_e h]
  rw [← sum_div, ← mul_sum, ← Data.l]
  field_simp

/-- The gradient against the row's output is the weighted sum of those against the groups' outputs. -/
theorem Data.sum_od_out : ∑ j, D.od j * D.out j = ∑ g, D.w g * D.dd g := by
  simp only [Data.out, Data.dd, mul_sum]
  rw [sum_comm]
  exact sum_congr rfl fun g _ => sum_congr rfl fun j _ => by ring

theorem Data.dL_eq [Nonempty G] (g : G) : D.dL g = D.w g * (D.dd g - ∑ j, D.od j * D.out j) := by
  have hS := D.S_pos.ne'
  have h1 : ∑ g', D.dd g' * (1 / (D.S * D.S)) * D.x g' = (∑ g', D.w g' * D.dd g') / D.S := by
    rw [sum_div]
    refine sum_congr rfl fun g' _ => ?_
    unfold Data.w; field_simp
  rw [Data.dL, h1, Data.sum_od_out]
  unfold Data.w; field_simp; ring

/-- The gradient of a score through one group. -/
theorem Data.ds_eq [Nonempty G] (h : ∀ g, ∃ u, D.ok g u) (g : G) (u : U) :
    D.ds g u = D.p g u * (∑ j, D.od j * D.v u j - ∑ j, D.od j * D.out j) := by
  have hl := (D.l_pos h g).ne'
  have h1 : ∑ j, D.w g * D.od j / D.l g * D.v u j = D.w g / D.l g * ∑ j, D.od j * D.v u j := by
    rw [mul_sum]; exact sum_congr rfl fun j _ => by ring
  have h2 : ∑ j, D.w g * D.od j * (1 / (D.l g * D.l g)) * D.o g j = D.w g / D.l g * D.dd g := by
    rw [Data.dd, mul_sum]; exact sum_congr rfl fun j _ => by field_simp
  rw [Data.ds, h1, h2, Data.dL_eq, ← Data.w_mul_e h]
  field_simp; ring

/-- What is left to pass through a group's maximum is nothing. -/
theorem Data.through_max [Nonempty G] (h : ∀ g, ∃ u, D.ok g u) (g : G) :
    D.dL g + ∑ u, -D.ds g u = 0 := by
  have hl := (D.l_pos h g).ne'
  have h1 : ∑ u, D.p g u * ∑ j, D.od j * D.v u j = D.w g * D.dd g := by
    simp only [Data.dd, mul_sum]
    rw [sum_comm]
    refine sum_congr rfl fun j _ => ?_
    rw [Data.o, sum_div, mul_sum, mul_sum]
    refine sum_congr rfl fun u _ => ?_
    rw [← Data.w_mul_e h]; ring
  simp only [Data.ds_eq h, sum_neg_distrib, mul_sub, sum_sub_distrib, ← sum_mul, Data.sum_p h, Data.dL_eq]
  rw [h1]; ring

/-- The gradient of a value through one group. -/
theorem Data.dv_eq [Nonempty G] (h : ∀ g, ∃ u, D.ok g u) (g : G) (u : U) (j : E) :
    D.w g * D.od j / D.l g * D.e g u = D.p g u * D.od j := by
  rw [← Data.w_mul_e h]; ring

end Cert.Row
-- ==== Proof.Unit.lean ====
/-
  What one unit of the attention's backward pass adds, over the extended reals: a block of 128 queries of one
  residue class of a group, against the block of keys that reaches 128 keys of the class further back. Rows are
  counted by naturals, so that the 48 units are one expression in the unit's number.
-/
module

public import Idealize.ShloMosaic.PureOps.Ideal
public import Idealize.ShloMosaic.Lib.ValueIdx

@[expose] public section

noncomputable section

namespace Cert.Unit

open Idealize.ShloMosaic Idealize.ShloMosaic.ValueIdx
open scoped BigOperators

/-- A [2048, 128] array read at a row counted by a natural (zero past the last row). -/
def at2 (x : (⟨2, ![2048, 128]⟩ : Shape).Idx → EReal) (t : ℕ) (e : Fin 128) : EReal :=
  if h : t < 2048 then x (ix2 ⟨t, h⟩ e) else 0

theorem at2_of_lt (x : (⟨2, ![2048, 128]⟩ : Shape).Idx → EReal) (t : Fin 2048) (e : Fin 128) :
    at2 x t.val e = x (ix2 t e) := by
  simp [at2, t.isLt]

/-- The arrays of one head: the rows of the queries, keys, values and of the output's gradient; each query's joint
    log-sum-exp and its product of the output with the output's gradient; the groups' biases. -/
structure Arr where
  q : ℕ → Fin 128 → EReal
  k : ℕ → Fin 128 → EReal
  v : ℕ → Fin 128 → EReal
  o : ℕ → Fin 128 → EReal
  lse : ℕ → EReal
  dl : ℕ → EReal
  b : ℕ → ℕ → ℕ → EReal

/-- The scores' scale, `128 ^ (-1/2)` as the program writes it. -/
def scale : EReal := Ideal.ofBits .f32 0x3DB504F3#32

/-- A unit's group `g`, spacing `d`, first query, first key, and number of keys. -/
structure U where
  g : ℕ
  d : ℕ
  oq : ℕ
  ok : ℕ
  N : ℕ

/-- Unit `n`: sixteen units a group; in group `g` the residue classes of `4 ^ g` one after another, each in its
    blocks of 128 queries. -/
def un (n : ℕ) : U :=
  ⟨n / 16, 4 ^ (n / 16), n % 16 / (16 / 4 ^ (n / 16)) + 128 * (n % 16 % (16 / 4 ^ (n / 16))) * 4 ^ (n / 16),
    n % 16 / (16 / 4 ^ (n / 16)) + (128 * (n % 16 % (16 / 4 ^ (n / 16))) - 128) * 4 ^ (n / 16),
    if n % 16 % (16 / 4 ^ (n / 16)) = 0 then 128 else 256⟩

variable (A : Arr) (u : U)

/-- The probability of the unit's key `j` to its query `i`. -/
def p (i j : ℕ) : EReal :=
  Ideal.exp ((∑ e, A.q (u.oq + u.d * i) e * A.k (u.ok + u.d * j) e) * scale + A.b u.g i (256 - u.N + j) - A.lse (u.oq + u.d * i))

/-- The gradient of the score. -/
def ds (i j : ℕ) : EReal :=
  p A u i j * ((∑ e, A.o (u.oq + u.d * i) e * A.v (u.ok + u.d * j) e) - A.dl (u.oq + u.d * i)) * scale

/-- What the unit adds to the gradient of the queries, at row `t`. -/
def cq (t : ℕ) (e : Fin 128) : EReal :=
  ∑ i : Fin 128, if u.oq + u.d * i.val = t then ∑ j : Fin u.N, ds A u i j * A.k (u.ok + u.d * j) e else 0
/-- To the gradient of the keys, at row `t`. -/
def ck (t : ℕ) (e : Fin 128) : EReal :=
  ∑ j : Fin u.N, if u.ok + u.d * j.val = t then ∑ i : Fin 128, ds A u i j * A.q (u.oq + u.d * i) e else 0
/-- To the gradient of the values, at row `t`. -/
def cv (t : ℕ) (e : Fin 128) : EReal :=
  ∑ j : Fin u.N, if u.ok + u.d * j.val = t then ∑ i : Fin 128, p A u i j * A.o (u.oq + u.d * i) e else 0

end Cert.Unit
-- ==== Proof.UnitSum.lean ====
/-
  The 48 units together. A query's row is in one unit of each group, and the keys it attends in the group are among
  that unit's; the unit's other pairs have the bias `⊥`, so their probabilities are zero. So what the units add up to is
  a sum over the groups and over all the rows.
-/
module

public import proofs.«01_k».proof.Proof.Unit

@[expose] public section

noncomputable section

namespace Cert.Unit

open Idealize.ShloMosaic Finset
open scoped BigOperators

/-- Query `t` of group `g` attends key `u`. -/
def okN (g t u : ℕ) : Prop := u ≤ t ∧ t - u ≤ 128 * 4 ^ g ∧ (t - u) % 4 ^ g = 0

instance (g t u : ℕ) : Decidable (okN g t u) := by unfold okN; infer_instance

/-- The row of a unit's query `i`. -/
def rq (n i : ℕ) : ℕ := (un n).oq + (un n).d * i
/-- The row of a unit's key `j`. -/
def rk (n j : ℕ) : ℕ := (un n).ok + (un n).d * j

section Geometry

theorem un_zero (m : ℕ) (hm : m < 16) : un (16 * 0 + m) = ⟨0, 1, 128 * m, 128 * m - 128, if m = 0 then 128 else 256⟩ := by
  unfold un
  simp only [show (16 * 0 + m) / 16 = 0 by omega, show (16 * 0 + m) % 16 = m by omega, pow_zero, Nat.div_one, mul_one,
    show m / 16 = 0 by omega, show m % 16 = m by omega, zero_add]
theorem un_one (m : ℕ) (hm : m < 16) :
    un (16 * 1 + m) = ⟨1, 4, m / 4 + 128 * (m % 4) * 4, m / 4 + (128 * (m % 4) - 128) * 4, if m % 4 = 0 then 128 else 256⟩ := by
  unfold un
  simp only [show (16 * 1 + m) / 16 = 1 by omega, show (16 * 1 + m) % 16 = m by omega, pow_one, show 16 / 4 = 4 by norm_num]
theorem un_two (m : ℕ) (hm : m < 16) : un (16 * 2 + m) = ⟨2, 16, m, m, 128⟩ := by
  unfold un
  simp only [show (16 * 2 + m) / 16 = 2 by omega, show (16 * 2 + m) % 16 = m by omega, show (4 : ℕ) ^ 2 = 16 by norm_num,
    show 16 / 16 = 1 by norm_num, Nat.div_one, Nat.mod_one, mul_zero, zero_mul, add_zero, Nat.zero_sub, if_true]

variable {M : Type*} [AddCommMonoid M]

theorem sum_units (f : ℕ → M) : ∑ n ∈ range 48, f n = ∑ g ∈ range 3, ∑ m ∈ range 16, f (16 * g + m) := by
  rw [← Finset.sum_product' (range 3) (range 16) fun g m => f (16 * g + m)]
  symm
  refine Finset.sum_of_injOn (fun x => 16 * x.1 + x.2) ?_ ?_ ?_ fun _ _ => rfl
  · rintro ⟨a, b⟩ ha ⟨c, d⟩ hc h
    simp only [coe_product, coe_range, Set.mem_prod, Set.mem_Iio] at ha hc h
    ext <;> simp only <;> omega
  · rintro ⟨a, b⟩ ha
    simp only [coe_product, coe_range, Set.mem_prod, Set.mem_Iio] at ha ⊢
    omega
  · intro n hn h
    refine absurd ⟨(n / 16, n % 16), ?_, ?_⟩ h
    · simp only [coe_product, coe_range, Set.mem_prod, Set.mem_Iio, mem_range] at hn ⊢
      omega
    · simp only; omega

/-- Every row is one query of one unit of the group. -/
theorem sum_queries (g : ℕ) (hg : g < 3) (φ : ℕ → M) :
    ∑ m ∈ range 16, ∑ i ∈ range 128, φ (rq (16 * g + m) i) = ∑ t ∈ range 2048, φ t := by
  rw [← Finset.sum_product' (range 16) (range 128) fun m i => φ (rq (16 * g + m) i)]
  refine Finset.sum_of_injOn (fun x => rq (16 * g + x.1) x.2) ?_ ?_ ?_ fun _ _ => rfl
  · rintro ⟨a, b⟩ ha ⟨c, d⟩ hc h
    simp only [coe_product, coe_range, Set.mem_prod, Set.mem_Iio] at ha hc
    interval_cases g
    · simp only [rq, un_zero a ha.1, un_zero c hc.1] at h
      ext <;> simp only <;> omega
    · simp only [rq, un_one a ha.1, un_one c hc.1] at h
      ext <;> simp only <;> omega
    · simp only [rq, un_two a ha.1, un_two c hc.1] at h
      ext <;> simp only <;> omega
  · rintro ⟨a, b⟩ ha
    simp only [coe_product, coe_range, Set.mem_prod, Set.mem_Iio] at ha ⊢
    interval_cases g
    · simp only [rq, un_zero a ha.1]; omega
    · simp only [rq, un_one a ha.1]; omega
    · simp only [rq, un_two a ha.1]; omega
  · intro t ht h
    simp only [mem_range] at ht
    interval_cases g
    · refine absurd ⟨(t / 128, t % 128), ?_, ?_⟩ h
      · simp only [coe_product, coe_range, Set.mem_prod, Set.mem_Iio]; omega
      · simp only [rq]; rw [un_zero _ (by omega)]; simp only; omega
    · refine absurd ⟨(t % 4 * 4 + t / 4 / 128, t / 4 % 128), ?_, ?_⟩ h
      · simp only [coe_product, coe_range, Set.mem_prod, Set.mem_Iio]; omega
      · simp only [rq]; rw [un_one _ (by omega)]; simp only; omega
    · refine absurd ⟨(t % 16, t / 16), ?_, ?_⟩ h
      · simp only [coe_product, coe_range, Set.mem_prod, Set.mem_Iio]; omega
      · simp only [rq]; rw [un_two _ (by omega)]; simp only; omega

/-- The keys a unit's query attends are among the unit's keys. -/
theorem sum_keys (g m i : ℕ) (hg : g < 3) (hm : m < 16) (hi : i < 128) (φ : ℕ → M)
    (h0 : ∀ u, ¬ okN g (rq (16 * g + m) i) u → φ u = 0) :
    ∑ j ∈ range (un (16 * g + m)).N, φ (rk (16 * g + m) j) = ∑ u ∈ range 2048, φ u := by
  refine Finset.sum_of_injOn (fun j => rk (16 * g + m) j) ?_ ?_ ?_ fun _ _ => rfl
  · intro a ha b hb h
    interval_cases g
    · simp only [rk, un_zero m hm] at h; omega
    · simp only [rk, un_one m hm] at h; omega
    · simp only [rk, un_two m hm] at h; omega
  · intro a ha
    simp only [coe_range, Set.mem_Iio] at ha ⊢
    interval_cases g
    · rw [un_zero m hm] at ha
      simp only [rk, un_zero m hm]
      simp only at ha
      split at ha <;> omega
    · rw [un_one m hm] at ha
      simp only [rk, un_one m hm]
      simp only at ha
      split at ha <;> omega
    · rw [un_two m hm] at ha
      simp only [rk, un_two m hm]
      simp only at ha
      omega
  · intro u hu h
    refine h0 u fun hok => h ?_
    obtain ⟨h1, h2, h3⟩ := hok
    simp only [mem_range] at hu
    interval_cases g
    · simp only [rq, un_zero m hm, pow_zero, mul_one, one_mul] at h1 h2 h3
      refine ⟨u - (128 * m - 128), ?_, ?_⟩
      · simp only [coe_range, Set.mem_Iio]
        rw [un_zero m hm]
        simp only
        split <;> omega
      · simp only [rk, un_zero m hm]; omega
    · simp only [rq, un_one m hm, pow_one] at h1 h2 h3
      refine ⟨(u - (m / 4 + (128 * (m % 4) - 128) * 4)) / 4, ?_, ?_⟩
      · simp only [coe_range, Set.mem_Iio]
        rw [un_one m hm]
        simp only
        split <;> omega
      · simp only [rk, un_one m hm]; omega
    · simp only [rq, un_two m hm, show (4 : ℕ) ^ 2 = 16 by norm_num] at h1 h2 h3
      refine ⟨(u - m) / 16, ?_, ?_⟩
      · simp only [coe_range, Set.mem_Iio]
        rw [un_two m hm]
        simp only
        omega
      · simp only [rk, un_two m hm]; omega

/-- The units' pairs are the groups' pairs. -/
theorem sum_pairs (H : ℕ → ℕ → ℕ → M) (h0 : ∀ g t u, ¬ okN g t u → H g t u = 0) :
    ∑ n ∈ range 48, ∑ i ∈ range 128, ∑ j ∈ range (un n).N, H (un n).g (rq n i) (rk n j)
      = ∑ g ∈ range 3, ∑ t ∈ range 2048, ∑ u ∈ range 2048, H g t u := by
  rw [sum_units]
  refine Finset.sum_congr rfl fun g hg => ?_
  rw [mem_range] at hg
  rw [← sum_queries g hg]
  refine Finset.sum_congr rfl fun m hm => Finset.sum_congr rfl fun i hi => ?_
  rw [mem_range] at hm hi
  have hgg : (un (16 * g + m)).g = g := by
    show (16 * g + m) / 16 = g
    omega
  rw [hgg]
  exact sum_keys g m i hg hm hi _ fun u hu => h0 g _ u hu

/-- A pair of a unit is one its query attends exactly when its place in the bias block is a distance from 0 to 128, and
    the distance is the rows' by the spacing. -/
theorem pair_iff (n i j : ℕ) (hn : n < 48) (hi : i < 128) (hj : j < (un n).N) :
    ((256 - (un n).N + j ≤ 128 + i ∧ i ≤ 256 - (un n).N + j) ↔ okN (un n).g (rq n i) (rk n j))
      ∧ 128 + i - (256 - (un n).N + j) = (rq n i - rk n j) / 4 ^ (un n).g := by
  obtain ⟨g, m, hg, hm, rfl⟩ : ∃ g m, g < 3 ∧ m < 16 ∧ n = 16 * g + m := ⟨n / 16, n % 16, by omega, by omega, by omega⟩
  unfold okN
  interval_cases g
  · rw [un_zero m hm] at hj
    simp only [rq, rk, un_zero m hm, pow_zero]
    simp only at hj
    split at hj <;> rename_i h <;> simp only [h, if_true, if_false] <;> omega
  · rw [un_one m hm] at hj
    simp only [rq, rk, un_one m hm, pow_one]
    simp only at hj
    split at hj <;> rename_i h <;> simp only [h, if_true, if_false] <;> omega
  · rw [un_two m hm] at hj
    simp only [rq, rk, un_two m hm, show (4 : ℕ) ^ 2 = 16 by norm_num]
    simp only at hj
    omega

end Geometry

variable (A : Arr) (β : ℕ → ℕ → EReal)

/-- The probability of key `u` to query `t` in group `g`. -/
def P (g t u : ℕ) : EReal :=
  if okN g t u then Ideal.exp ((∑ e, A.q t e * A.k u e) * scale + β g ((t - u) / 4 ^ g) - A.lse t) else 0
/-- The gradient of its score. -/
def D (g t u : ℕ) : EReal := P A β g t u * ((∑ e, A.o t e * A.v u e) - A.dl t) * scale

theorem P_of_not (g t u : ℕ) (h : ¬ okN g t u) : P A β g t u = 0 := if_neg h
theorem D_of_not (g t u : ℕ) (h : ¬ okN g t u) : D A β g t u = 0 := by
  unfold D
  rw [P_of_not A β g t u h, zero_mul, zero_mul]

variable (hb : ∀ g i j, g < 3 → i < 128 → j < 256 → A.b g i j = if j ≤ 128 + i ∧ i ≤ j then β g (128 + i - j) else ⊥)

theorem un_g_lt (n : ℕ) (hn : n < 48) : (un n).g < 3 := by show n / 16 < 3; omega
theorem un_N_le (n : ℕ) : (un n).N ≤ 256 := by
  show (if _ then 128 else 256) ≤ 256
  split <;> omega

include hb in
theorem p_eq (n i j : ℕ) (hn : n < 48) (hi : i < 128) (hj : j < (un n).N) :
    p A (un n) i j = P A β (un n).g (rq n i) (rk n j) := by
  obtain ⟨h1, h2⟩ := pair_iff n i j hn hi hj
  have hN := un_N_le n
  unfold p P
  rw [hb _ _ _ (un_g_lt n hn) hi (by omega), h2]
  by_cases h : okN (un n).g (rq n i) (rk n j)
  · rw [if_pos h, if_pos (h1.mpr h)]
    rfl
  · rw [if_neg h, if_neg fun hc => h (h1.mp hc), EReal.add_bot, EReal.bot_sub]
    exact Ideal.exp_bot

include hb in
theorem ds_eq (n i j : ℕ) (hn : n < 48) (hi : i < 128) (hj : j < (un n).N) :
    ds A (un n) i j = D A β (un n).g (rq n i) (rk n j) := by
  unfold ds D
  rw [p_eq A β hb n i j hn hi hj]
  rfl

include hb in
/-- The units' additions to the queries' gradients. -/
theorem sum_cq (t : ℕ) (ht : t < 2048) (e : Fin 128) :
    ∑ n ∈ range 48, cq A (un n) t e = ∑ g ∈ range 3, ∑ u ∈ range 2048, D A β g t u * A.k u e := by
  have h := sum_pairs (fun g t' u => if t' = t then D A β g t' u * A.k u e else 0) fun g t' u hn => by
    rw [D_of_not A β g t' u hn, zero_mul, ite_self]
  refine Eq.trans (Finset.sum_congr rfl fun n hn => ?_) (h.trans (Finset.sum_congr rfl fun g _ => ?_))
  · rw [mem_range] at hn
    unfold cq
    rw [Finset.sum_range]
    refine Finset.sum_congr rfl fun i _ => ?_
    rw [Finset.sum_range]
    by_cases hi : rq n i = t
    · refine (if_pos hi).trans (Finset.sum_congr rfl fun j _ => ?_)
      rw [if_pos hi, ds_eq A β hb n i j hn i.isLt j.isLt]
      rfl
    · refine (if_neg hi).trans (Finset.sum_eq_zero fun j _ => if_neg hi).symm
  · rw [Finset.sum_eq_single t]
    · exact Finset.sum_congr rfl fun u _ => if_pos rfl
    · exact fun t' _ h' => Finset.sum_eq_zero fun u _ => if_neg h'
    · exact fun h' => absurd (mem_range.mpr ht) h'

include hb in
/-- The units' additions to the keys' gradients. -/
theorem sum_ck (u : ℕ) (hu : u < 2048) (e : Fin 128) :
    ∑ n ∈ range 48, ck A (un n) u e = ∑ g ∈ range 3, ∑ t ∈ range 2048, D A β g t u * A.q t e := by
  have h := sum_pairs (fun g t u' => if u' = u then D A β g t u' * A.q t e else 0) fun g t u' hn => by
    rw [D_of_not A β g t u' hn, zero_mul, ite_self]
  refine Eq.trans (Finset.sum_congr rfl fun n hn => ?_) (h.trans (Finset.sum_congr rfl fun g _ => Finset.sum_congr rfl fun t _ => ?_))
  · rw [mem_range] at hn
    unfold ck
    rw [Finset.sum_comm, Finset.sum_range]
    refine Finset.sum_congr rfl fun j _ => ?_
    rw [Finset.sum_range]
    by_cases hj : rk n j = u
    · refine (if_pos hj).trans (Finset.sum_congr rfl fun i _ => ?_)
      rw [if_pos hj, ds_eq A β hb n i j hn i.isLt j.isLt]
      rfl
    · refine (if_neg hj).trans (Finset.sum_eq_zero fun j _ => if_neg hj).symm
  · rw [Finset.sum_eq_single u]
    · exact if_pos rfl
    · exact fun u' _ h' => if_neg h'
    · exact fun h' => absurd (mem_range.mpr hu) h'

include hb in
/-- The units' additions to the values' gradients. -/
theorem sum_cv (u : ℕ) (hu : u < 2048) (e : Fin 128) :
    ∑ n ∈ range 48, cv A (un n) u e = ∑ g ∈ range 3, ∑ t ∈ range 2048, P A β g t u * A.o t e := by
  have h := sum_pairs (fun g t u' => if u' = u then P A β g t u' * A.o t e else 0) fun g t u' hn => by
    rw [P_of_not A β g t u' hn, zero_mul, ite_self]
  refine Eq.trans (Finset.sum_congr rfl fun n hn => ?_) (h.trans (Finset.sum_congr rfl fun g _ => Finset.sum_congr rfl fun t _ => ?_))
  · rw [mem_range] at hn
    unfold cv
    rw [Finset.sum_comm, Finset.sum_range]
    refine Finset.sum_congr rfl fun j _ => ?_
    rw [Finset.sum_range]
    by_cases hj : rk n j = u
    · refine (if_pos hj).trans (Finset.sum_congr rfl fun i _ => ?_)
      rw [if_pos hj, p_eq A β hb n i j hn i.isLt j.isLt]
      rfl
    · refine (if_neg hj).trans (Finset.sum_eq_zero fun j _ => if_neg hj).symm
  · rw [Finset.sum_eq_single u]
    · exact if_pos rfl
    · exact fun u' _ h' => if_neg h'
    · exact fun h' => absurd (mem_range.mpr hu) h'

end Cert.Unit
-- ==== Proof.RefMask.lean ====
/-
  The reference's masks: the difference of a query's and a key's rows as a word, and the bit of whether a group's query
  attends the key.
-/
module

public import proofs.«01_k».proof.Proof.UnitSum
public import proofs.«01_k».proof.Proof.Gen.ReferenceIdeal.Read
public import Idealize.ShloMosaic.Lib.WordCmp
public import Idealize.ShloMosaic.Lib.Affine
public import Idealize.ShloMosaic.Lib.Pipeline.ValueKit.Tiles

@[expose] public section

noncomputable section

namespace Cert.Ref

open Idealize.ShloMosaic Idealize.ShloMosaic.ValueIdx
open Cert.ReferenceIdeal Cert.ReferenceIdeal.Gen Cert.ReferenceIdeal.Read
open Cert.Unit (okN)

/-- A difference of two rows, as a word. -/
theorem toInt_sub_rows {a b : ℕ} (ha : a < 2048) (hb : b < 2048) :
    (IntOp.subi (BitVec.ofNat 32 a) (BitVec.ofNat 32 b)).toInt = (a : ℤ) - b := by
  show (BitVec.ofNat 32 a - BitVec.ofNat 32 b).toInt = _
  rw [BitVec.toInt_sub, WordCmp.toInt_ofNat_of_lt (by norm_num; omega), WordCmp.toInt_ofNat_of_lt (by norm_num; omega)]
  rw [Int.bmod_def]
  omega

/-- The bit of a distance between 0 and `M` that `C` divides. -/
theorem mask_word {x : BitVec 32} {a b : ℕ} (ha : a < 2048) (hx : x.toInt = (a : ℤ) - b) (M C : ℕ) (hM : M ≤ 2048)
    (h0 : 0 < C) (hC : C ≤ 2048) :
    IntOp.andi (IntOp.andi (IntOp.cmpi .sge x 0#32) (IntOp.cmpi .sle x (BitVec.ofNat 32 M)))
        (IntOp.cmpi .eq (IntOp.remsi .host x (BitVec.ofNat 32 C)) 0#32) = 1#1
      ↔ b ≤ a ∧ a - b ≤ M ∧ (a - b) % C = 0 := by
  rw [IntOp.andi_eq_one, IntOp.andi_eq_one, IntOp.cmpi_sge, IntOp.cmpi_sle, IntOp.cmpi_eq,
    WordCmp.toInt_ofNat_of_lt (a := M) (by norm_num; omega), hx, show (0#32 : BitVec 32).toInt = 0 from rfl]
  by_cases h : b ≤ a
  · have hn : x.toNat = a - b := by
      have h1 := BitVec.toInt_eq_toNat_cond x
      rw [hx] at h1
      have h2 := x.isLt
      split at h1 <;> omega
    rw [IntOp.remsi_eq_zero_iff .host (by omega) C h0 (by omega), hn, Nat.dvd_iff_mod_eq_zero]
    refine ⟨fun hh => ⟨h, by omega, hh.2⟩, fun hh => ⟨⟨by omega, by omega⟩, hh.2.2⟩⟩
  · exact ⟨fun hh => absurd hh.1.1 (by omega), fun hh => absurd hh.1 h⟩

theorem v18_toInt (i : S2048x2048.Idx) :
    (val_main_v18 (F := Ideal) i).toInt = ((i 0).val : ℤ) - (i 1).val := by
  rw [val_main_v18_apply, val_main_v16_apply, val_main_v17_apply, val_main_v13_apply, val_main_v15_apply,
    val_main_v12_apply, val_main_v14_apply]
  exact toInt_sub_rows (i 0).isLt (i 1).isLt

theorem v28_iff (i : S2048x2048.Idx) : val_main_v28 (F := Ideal) i = 1#1 ↔ okN 0 (i 0).val (i 1).val :=
  mask_word (i 0).isLt (v18_toInt i) 128 1 (by norm_num) (by norm_num) (by norm_num)
theorem v38_iff (i : S2048x2048.Idx) : val_main_v38 (F := Ideal) i = 1#1 ↔ okN 1 (i 0).val (i 1).val :=
  mask_word (i 0).isLt (v18_toInt i) 512 4 (by norm_num) (by norm_num) (by norm_num)
theorem v48_iff (i : S2048x2048.Idx) : val_main_v48 (F := Ideal) i = 1#1 ↔ okN 2 (i 0).val (i 1).val :=
  mask_word (i 0).isLt (v18_toInt i) 2048 16 (by norm_num) (by norm_num) (by norm_num)

/-- The stacked masks. -/
theorem v52_eq (i : S3x2048x2048.Idx) :
    val_main_v52 (F := Ideal) i = if okN (i 0).val (i 1).val (i 2).val then 1#1 else 0#1 := by
  have zero : ∀ w : BitVec 1, ¬ w = 1#1 → w = 0#1 := by decide
  have bit : ∀ (w : BitVec 1) (p : Prop) [Decidable p], (w = 1#1 ↔ p) → w = if p then 1#1 else 0#1 := by
    intro w p _ h
    by_cases hp : p
    · rw [if_pos hp, h.mpr hp]
    · rw [if_neg hp]
      exact zero w fun hw => hp (h.mp hw)
  unfold val_main_v52
  refine concatenate_unit_eq _ _ _ _ _ rfl ⟨?_, ?_, ?_, trivial⟩
  · intro h0 _ x hx hr
    refine (val_main_v49_apply x).trans (bit _ _ ((v28_iff _).trans ?_))
    have h1 := hr 1 (by decide)
    have h2 := hr 2 (by decide)
    rw [← h1, ← h2, h0]
    exact Iff.rfl
  · intro h0 _ x hx hr
    refine (val_main_v50_apply x).trans (bit _ _ ((v38_iff _).trans ?_))
    have h1 := hr 1 (by decide)
    have h2 := hr 2 (by decide)
    rw [← h1, ← h2, h0]
    exact Iff.rfl
  · intro h0 _ x hx hr
    refine (val_main_v51_apply x).trans (bit _ _ ((v48_iff _).trans ?_))
    have h1 := hr 1 (by decide)
    have h2 := hr 2 (by decide)
    rw [← h1, ← h2, h0]
    exact Iff.rfl

end Cert.Ref
-- ==== Proof.RefRow.lean ====
/-
  The reference's forward values over real arguments, as the numbers of the rows (`Row.Data`): one row per head and
  query.
-/
module

public import proofs.«01_k».proof.Proof.RowMath
public import proofs.«01_k».proof.Proof.RefMask
public import Idealize.ShloMosaic.Lib.IdealHost

@[expose] public section

noncomputable section

namespace Cert.Ref

open Idealize.ShloMosaic Idealize.ShloMosaic.ValueIdx
open Cert.ReferenceIdeal Cert.ReferenceIdeal.Gen Cert.ReferenceIdeal.Read
open Cert.Unit (okN scale)
open scoped BigOperators

/-- An array of real numbers. -/
abbrev co (X : S2048x2048.Idx → ℝ) : (⟨S2048x2048, .f32⟩ : BufTy).Contents (Elt Ideal) := fun i => ((X i : ℝ) : EReal)

/-- The column of a head's coordinate. -/
def col (h : Fin 16) (e : Fin 128) : Fin 2048 := ⟨h.val * 128 + e.val, by have := h.isLt; have := e.isLt; omega⟩

/-- The scores' scale. -/
def cS : ℝ := scale.toReal

theorem scale_eq : scale = (cS : EReal) := by
  unfold cS scale
  refine (EReal.coe_toReal ?_ ?_).symm <;>
    simp [Ideal.ofBits, Ideal.ieee, -EReal.coe_mul]

/-- A head's slope. -/
def slope (h : Fin 16) : ℝ := (val_main_v11 (F := Ideal) (ix1 h)).toReal

theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

theorem div_real {x y : ℝ} (hy : y ≠ 0) : Ideal.div (x : EReal) (y : EReal) = ((x / y : ℝ) : EReal) := by
  rw [Ideal.div_coe hy, ← EReal.coe_mul, mul_one_div]

variable (Q K V O : S2048x2048.Idx → ℝ)

/-- The maximum of a row's scores in one group. -/
@[irreducible] def mxOf (h : Fin 16) (t : Fin 2048) (g : Fin 3) : ℝ :=
  (val_main_v70 (F := Ideal) (co Q) (co K) (ix3 g h t)).toReal
/-- The maximum of a row's log-sum-exps over the groups. -/
@[irreducible] def topOf (h : Fin 16) (t : Fin 2048) : ℝ :=
  (val_main_v93 (F := Ideal) (co Q) (co K) (ix2 h t)).toReal

/-- The row of head `h`'s query `t`. -/
def rowD (h : Fin 16) (t : Fin 2048) : Row.Data (Fin 3) (Fin 2048) (Fin 128) where
  s u := (∑ e, Q (ix2 t (col h e)) * K (ix2 u (col h e))) * cS - slope h * ((t.val : ℝ) - u.val)
  ok g u := okN g.val t.val u.val
  mx g := mxOf Q K h t g
  top := topOf Q K h t
  v u e := V (ix2 u (col h e))
  od e := O (ix2 t (col h e))

theorem okN_self (g t : ℕ) : okN g t t := by
  refine ⟨le_rfl, ?_, ?_⟩ <;> simp

theorem ok_ex (h : Fin 16) (t : Fin 2048) : ∀ g, ∃ u, (rowD Q K V O h t).ok g u := fun g => ⟨t, okN_self _ _⟩

theorem split_idx (i : S2048x16x128.Idx) : idx_main_v0 i = ix2 (i 0) (col (i 1) (i 2)) := by
  funext a
  apply Fin.ext
  have h1 : (i 1).val < 16 := (i 1).isLt
  have h2 : (i 2).val < 128 := (i 2).isLt
  match a with
  | ⟨0, _⟩ =>
    show (((i 0).val * 16 + (i 1).val) * 128 + (i 2).val) / 2048 = (i 0).val
    omega
  | ⟨1, _⟩ =>
    show (((i 0).val * 16 + (i 1).val) * 128 + (i 2).val) % 2048 = (i 1).val * 128 + (i 2).val
    omega

theorem val0 (i : S2048x16x128.Idx) : val_main_v0 (F := Ideal) (co Q) i = ((Q (ix2 (i 0) (col (i 1) (i 2))) : ℝ) : EReal) := by
  rw [val_main_v0_apply]
  exact congrArg (fun j => ((Q j : ℝ) : EReal)) (split_idx i)
theorem val1 (i : S2048x16x128.Idx) : val_main_v1 (F := Ideal) (co K) i = ((K (ix2 (i 0) (col (i 1) (i 2))) : ℝ) : EReal) := by
  rw [val_main_v1_apply]
  exact congrArg (fun j => ((K j : ℝ) : EReal)) (split_idx i)
theorem val2 (i : S2048x16x128.Idx) : val_main_v2 (F := Ideal) (co V) i = ((V (ix2 (i 0) (col (i 1) (i 2))) : ℝ) : EReal) := by
  rw [val_main_v2_apply]
  exact congrArg (fun j => ((V j : ℝ) : EReal)) (split_idx i)
theorem val127 (i : S2048x16x128.Idx) :
    val_main_v127 (F := Ideal) (co O) i = ((O (ix2 (i 0) (col (i 1) (i 2))) : ℝ) : EReal) := by
  rw [val_main_v127_apply]
  exact congrArg (fun j => ((O j : ℝ) : EReal)) (split_idx i)

theorem val53 (i : S16x2048x2048.Idx) : val_main_v53 (F := Ideal) (co Q) (co K) i
    = ((∑ e, Q (ix2 (i 1) (col (i 0) e)) * K (ix2 (i 2) (col (i 0) e)) : ℝ) : EReal) := by
  rw [val_main_v53_apply, coe_sum]
  refine Finset.sum_congr rfl fun e _ => ?_
  rw [val0, val1, ← EReal.coe_mul]
  rfl

/-- The slopes are real numbers. -/
theorem val11 (i : S16.Idx) : val_main_v11 (F := Ideal) i = (slope (i 0) : EReal) := by
  have hi : i = ix1 (i 0) := by funext a; match a with | ⟨0, _⟩ => rfl
  have h2 : (FloatOps.ofBits .f32 0x40000000#32 : Ideal .f32) = ((2 : ℝ) : EReal) := by
    simp [Ideal.ofBits, Ideal.ieee, -EReal.coe_mul]; norm_num
  have h16 : (FloatOps.ofBits .f32 0x41800000#32 : Ideal .f32) = ((16 : ℝ) : EReal) := by
    simp [Ideal.ofBits, Ideal.ieee, -EReal.coe_mul]; norm_num
  have h1 : (FloatOps.ofBits .f32 0x3F800000#32 : Ideal .f32) = ((1 : ℝ) : EReal) := by
    simp [Ideal.ofBits, Ideal.ieee, -EReal.coe_mul]; norm_num
  have h8 : (FloatOps.ofBits .f32 0xC1000000#32 : Ideal .f32) = ((-8 : ℝ) : EReal) := by
    simp [Ideal.ofBits, Ideal.ieee, -EReal.coe_mul, -EReal.coe_neg]; norm_num
  have h3 : val_main_v3 (F := Ideal) i = (((BitVec.ofNat 32 (i 0).val).toInt : ℝ) : EReal) := rfl
  have hr : ∃ r : ℝ, val_main_v11 (F := Ideal) i = (r : EReal) := by
    refine ⟨Real.rpow 2 ((-8 * (1 + ((BitVec.ofNat 32 (i 0).val).toInt : ℝ))) / 16), ?_⟩
    rw [val_main_v11_apply, val_main_v10_apply, val_main_v9_apply, val_main_v8_apply, val_main_v7_apply, val_main_v6_apply,
      val_main_v5_apply, val_main_v4_apply, h3, val_main_cst_apply, val_main_cst_0_apply, val_main_cst_1_apply,
      val_main_cst_2_apply, h1, h2, h8, h16, Ideal.addf_def, Ideal.mulf_def, Ideal.hostDivf_def, Ideal.hostPowf_def,
      ← EReal.coe_add, ← EReal.coe_mul, div_real (by norm_num), Ideal.pow_coe_coe]
  obtain ⟨r, hr⟩ := hr
  have hs : slope (i 0) = r :=
    (congrArg (fun j => EReal.toReal (val_main_v11 (F := Ideal) j)) hi.symm).trans
      ((congrArg EReal.toReal hr).trans (EReal.toReal_coe r))
  rw [hr, ← hs]

theorem val62 (i : S16x2048x2048.Idx) : val_main_v62 (F := Ideal) (co Q) (co K) i
    = (((rowD Q K V O (i 0) (i 1)).s (i 2) : ℝ) : EReal) := by
  have h57 : ∀ j : S2048x2048.Idx, val_main_v57 (F := Ideal) j = (((j 0).val - (j 1).val : ℝ) : EReal) := fun j => by
    show (((val_main_v18 (F := Ideal) j).toInt : ℝ) : EReal) = _
    rw [v18_toInt]
    push_cast
    rfl
  rw [val_main_v62_apply, val_main_v55_apply, val53, val_main_v54_apply, val_main_cst_14_apply, val_main_v61_apply,
    val_main_v59_apply, val_main_v56_apply, val11, val_main_v60_apply, val_main_v58_apply, h57]
  rw [show (FloatOps.ofBits .f32 0x3DB504F3#32 : Ideal .f32) = (cS : EReal) from scale_eq]
  rw [Ideal.subf_def, Ideal.mulf_def, Ideal.mulf_def, ← EReal.coe_mul, ← EReal.coe_mul, ← EReal.coe_sub]
  rfl

theorem neg_inf : (FloatOps.ofBits .f32 0xFF800000#32 : Ideal .f32) = (⊥ : EReal) := by
  simp [Ideal.ofBits, Ideal.ieee]

theorem val64 (i : S3x16x2048x2048.Idx) :
    val_main_v64 (F := Ideal) i = if okN (i 0).val (i 2).val (i 3).val then 1#1 else 0#1 := by
  rw [val_main_v64_apply, val_main_v63_apply, v52_eq]

theorem val68 (i : S3x16x2048x2048.Idx) : val_main_v68 (F := Ideal) (co Q) (co K) i
    = if okN (i 0).val (i 2).val (i 3).val then (((rowD Q K V O (i 1) (i 2)).s (i 3) : ℝ) : EReal) else ⊥ := by
  rw [val_main_v68_apply, val64, val_main_v66_apply, val_main_v65_apply, val62 Q K V O, val_main_v67_apply,
    val_main_cst_15_apply, neg_inf]
  by_cases h : okN (i 0).val (i 2).val (i 3).val
  · rw [if_pos h, if_pos h]; rfl
  · rw [if_neg h, if_neg h]; rfl

/-- A fold of the maximum over numbers that are real or `⊥`, one of them real, is real. -/
theorem fold_max_real {ι : Type} [Fintype ι] (f : ι → EReal) (ht : ∀ x, f x ≠ ⊤) (x : ι) (r : ℝ) (hx : f x = r) :
    ∃ m : ℝ, Finset.univ.fold max (⊥ : EReal) f = m := by
  have hb : Finset.univ.fold max (⊥ : EReal) f ≠ ⊥ := by
    intro h
    have : (r : EReal) ≤ Finset.univ.fold max (⊥ : EReal) f := by
      rw [Finset.le_fold_max]
      exact .inr ⟨x, Finset.mem_univ x, hx.ge⟩
    rw [h, le_bot_iff] at this
    exact EReal.coe_ne_bot r this
  have htop : Finset.univ.fold max (⊥ : EReal) f ≠ ⊤ := by
    intro h
    have : Finset.univ.fold max (⊥ : EReal) f < ⊤ := by
      rw [Finset.fold_max_lt]
      exact ⟨bot_lt_top, fun x _ => lt_top_iff_ne_top.mpr (ht x)⟩
    exact this.ne h
  exact ⟨_, (EReal.coe_toReal htop hb).symm⟩

/-- A reduction by the maximum of numbers that are real or `⊥`, one of them real, is real. -/
theorem reduce_max_real {s t u : Shape} {a : Fin s.rank} (x : FVec Ideal s .f32) (init : FVec Ideal u .f32)
    (h' : s.ReducesTo [a] t) (h : s.Reduces [a] t) (hu : 0 < u.numel) (j : t.Idx)
    (hi : init (Shape.Idx.first hu) = (⊥ : EReal)) (ht : ∀ i, x i ≠ (⊤ : EReal)) (k : Fin (s.size a)) (r : ℝ)
    (hr : x (h.lift j k) = (r : EReal)) :
    ∃ m : ℝ, Host.reduce (FloatOps.maximumf (F := Ideal) (φ := .f32)) x init h' hu j = (m : EReal) := by
  rw [Host.reduce_eq_fold_single (f := FloatOps.maximumf (F := Ideal) (φ := .f32)) (h := h), hi]
  exact fold_max_real (fun k => x (h.lift j k)) (fun _ => ht _) k r hr

include V O in
theorem real70 (i : S3x16x2048.Idx) : ∃ m : ℝ, val_main_v70 (F := Ideal) (co Q) (co K) i = m := by
  have hv : ∀ j, val_main_v68 (F := Ideal) (co Q) (co K) j ≠ (⊤ : EReal) := fun j => by
    rw [val68 Q K V O]
    split
    · exact EReal.coe_ne_top _
    · exact bot_ne_top
  have h : S3x16x2048x2048.Reduces [3] S3x16x2048 := by decide
  have hr : val_main_v68 (F := Ideal) (co Q) (co K) (h.lift i (i 2))
      = (((rowD Q K V O (h.lift i (i 2) 1) (h.lift i (i 2) 2)).s (h.lift i (i 2) 3) : ℝ) : EReal) := by
    rw [val68 Q K V O, if_pos]
    exact okN_self _ _
  exact reduce_max_real _ _ _ h _ i neg_inf hv (i 2) _ hr

include V O in
theorem val70_ix (g : Fin 3) (h : Fin 16) (t : Fin 2048) : val_main_v70 (F := Ideal) (co Q) (co K) (ix3 g h t)
    = (mxOf Q K h t g : EReal) := by
  obtain ⟨m, hm⟩ := real70 Q K V O (ix3 g h t)
  unfold mxOf
  rw [hm, EReal.toReal_coe]

theorem val70 (i : S3x16x2048.Idx) : val_main_v70 (F := Ideal) (co Q) (co K) i
    = (((rowD Q K V O (i 1) (i 2)).mx (i 0) : ℝ) : EReal) :=
  (congrArg (val_main_v70 (F := Ideal) (co Q) (co K)) (eq_ix3 i)).trans (val70_ix Q K V O (i 0) (i 1) (i 2))

theorem val79 (i : S3x16x2048x2048.Idx) : val_main_v79 (F := Ideal) (co Q) (co K) i
    = (((rowD Q K V O (i 1) (i 2)).e (i 0) (i 3) : ℝ) : EReal) := by
  rw [val_main_v79_apply, val_main_v78_apply, val68 Q K V O, val_main_v77_apply, val_main_v76_apply, val70 Q K V O,
    Ideal.hostUnary_exp_def, Ideal.subf_def]
  unfold Row.Data.e
  by_cases h : okN (i 0).val (i 2).val (i 3).val
  · rw [if_pos h, if_pos (show (rowD Q K V O (i 1) (i 2)).ok (i 0) (i 3) from h), ← EReal.coe_sub, Ideal.exp_coe]
    rfl
  · rw [if_neg h, if_neg (show ¬ (rowD Q K V O (i 1) (i 2)).ok (i 0) (i 3) from h), EReal.bot_sub]
    exact Ideal.exp_bot

theorem zero_f32 : (FloatOps.ofBits .f32 0x00000000#32 : Ideal .f32) = (0 : EReal) := Ideal.ofBits_zero_f32
theorem one_f32 : (FloatOps.ofBits .f32 0x3F800000#32 : Ideal .f32) = ((1 : ℝ) : EReal) := Ideal.ofBits_one_f32

theorem val80 (i : S3x16x2048.Idx) : val_main_v80 (F := Ideal) (co Q) (co K) i
    = (((rowD Q K V O (i 1) (i 2)).l (i 0) : ℝ) : EReal) := by
  rw [val_main_v80_apply, val_main_cst_19_apply, zero_f32, zero_add]
  refine Eq.trans ?_ (coe_sum _ _).symm
  exact Finset.sum_congr rfl fun u _ => val79 Q K V O _

theorem val82 (i : S3x2048x16x128.Idx) : val_main_v82 (F := Ideal) (co Q) (co K) (co V) i
    = (((rowD Q K V O (i 2) (i 1)).o (i 0) (i 3) : ℝ) : EReal) := by
  rw [val_main_v82_apply, val_main_v81_apply]
  refine Eq.trans ?_ (coe_sum _ _).symm
  refine Finset.sum_congr rfl fun u _ => ?_
  rw [val2, val79 Q K V O, ← EReal.coe_mul]
  rfl

theorem val84 (i : S3x2048x16x1.Idx) : val_main_v84 (F := Ideal) (co Q) (co K) i
    = (((rowD Q K V O (i 2) (i 1)).l (i 0) : ℝ) : EReal) := by
  rw [val_main_v84_apply, val_main_v83_apply, val80 Q K V O]
  rfl

theorem l_ne (h : Fin 16) (t : Fin 2048) (g : Fin 3) : (rowD Q K V O h t).l g ≠ 0 :=
  (Row.Data.l_pos (ok_ex Q K V O h t) g).ne'
theorem S_ne (h : Fin 16) (t : Fin 2048) : (rowD Q K V O h t).S ≠ 0 := Row.Data.S_pos.ne'

theorem val86 (i : S3x2048x16x128.Idx) : val_main_v86 (F := Ideal) (co Q) (co K) (co V) i
    = (((rowD Q K V O (i 2) (i 1)).o (i 0) (i 3) / (rowD Q K V O (i 2) (i 1)).l (i 0) : ℝ) : EReal) := by
  rw [val_main_v86_apply, val82 Q K V O, val_main_v85_apply, val84 Q K V O, Ideal.hostDivf_def]
  exact div_real (l_ne Q K V O _ _ _)

theorem val92 (i : S3x16x2048.Idx) : val_main_v92 (F := Ideal) (co Q) (co K) i
    = (((rowD Q K V O (i 1) (i 2)).L (i 0) : ℝ) : EReal) := by
  have hx : idx_main_v76 (idx_main_v90 i) = i := by
    have h0 : (i 0).val < 3 := (i 0).isLt
    have h1 : (i 1).val < 16 := (i 1).isLt
    have h2 : (i 2).val < 2048 := (i 2).isLt
    funext a
    apply Fin.ext
    match a with
    | ⟨0, _⟩ => show (((i 0).val * 16 + (i 1).val) * 2048 + (i 2).val) / 32768 = (i 0).val; omega
    | ⟨1, _⟩ => show (((i 0).val * 16 + (i 1).val) * 2048 + (i 2).val) / 2048 % 16 = (i 1).val; omega
    | ⟨2, _⟩ => show (((i 0).val * 16 + (i 1).val) * 2048 + (i 2).val) / 1 % 2048 = (i 2).val; omega
  rw [val_main_v92_apply, val_main_v90_apply, val_main_v76_apply, hx, val70 Q K V O, val_main_v91_apply, val80 Q K V O,
    Ideal.hostUnary_log_def, Ideal.log_coe]
  have hl := Row.Data.l_pos (ok_ex Q K V O (i 1) (i 2)) (i 0)
  have add_log : ∀ a b : ℝ, 0 < b → FloatOps.addf (F := Ideal) (φ := .f32) (a : EReal) (if b ≤ 0 then ⊥ else (Real.log b : EReal))
      = ((a + Real.log b : ℝ) : EReal) := fun a b hb => by
    rw [if_neg (not_le.mpr hb), Ideal.addf_def, ← EReal.coe_add]
  exact add_log _ _ hl

include V O in
theorem real93 (i : S16x2048.Idx) : ∃ m : ℝ, val_main_v93 (F := Ideal) (co Q) (co K) i = m := by
  have hv : ∀ j, ∃ r : ℝ, val_main_v92 (F := Ideal) (co Q) (co K) j = (r : EReal) := fun j => ⟨_, val92 Q K V O j⟩
  unfold val_main_v93
  generalize val_main_v92 (F := Ideal) (co Q) (co K) = y at hv ⊢
  have h : S3x16x2048.Reduces [0] S16x2048 := by decide
  obtain ⟨r, hr⟩ := hv (h.lift i (0 : Fin 3))
  refine reduce_max_real y _ _ h _ i neg_inf (fun j => ?_) (0 : Fin 3) r hr
  obtain ⟨r', hr'⟩ := hv j
  rw [hr']
  exact EReal.coe_ne_top _

include V O in
theorem val93_ix (h : Fin 16) (t : Fin 2048) : val_main_v93 (F := Ideal) (co Q) (co K) (ix2 h t)
    = (topOf Q K h t : EReal) := by
  obtain ⟨m, hm⟩ := real93 Q K V O (ix2 h t)
  unfold topOf
  rw [hm, EReal.toReal_coe]

theorem val93 (i : S16x2048.Idx) : val_main_v93 (F := Ideal) (co Q) (co K) i
    = (((rowD Q K V O (i 0) (i 1)).top : ℝ) : EReal) :=
  (congrArg (val_main_v93 (F := Ideal) (co Q) (co K)) (eq_ix2 i)).trans (val93_ix Q K V O (i 0) (i 1))

theorem val100 (i : S16x2048.Idx) : val_main_v100 (F := Ideal) (co Q) (co K) i
    = (((rowD Q K V O (i 0) (i 1)).top : ℝ) : EReal) := by
  rw [val_main_v100_apply, val_main_v99_apply, val_main_cst_23_apply, neg_inf, val93 Q K V O, Ideal.maximumf_def]
  exact max_eq_right bot_le

theorem val113 (i : S3x16x2048.Idx) : val_main_v113 (F := Ideal) (co Q) (co K) i
    = (((rowD Q K V O (i 1) (i 2)).x (i 0) : ℝ) : EReal) := by
  rw [val_main_v113_apply, val_main_v112_apply, val92 Q K V O, val_main_v111_apply, val_main_v110_apply, val100 Q K V O,
    Ideal.hostUnary_exp_def, Ideal.subf_def, ← EReal.coe_sub, Ideal.exp_coe]
  rfl

theorem val114 (i : S16x2048.Idx) : val_main_v114 (F := Ideal) (co Q) (co K) i
    = (((rowD Q K V O (i 0) (i 1)).S : ℝ) : EReal) := by
  rw [val_main_v114_apply, val_main_cst_29_apply, zero_f32, zero_add]
  refine Eq.trans ?_ (coe_sum _ _).symm
  exact Finset.sum_congr rfl fun g _ => val113 Q K V O _

theorem val115 (i : S1x16x2048.Idx) : val_main_v115 (F := Ideal) (co Q) (co K) i
    = (((rowD Q K V O (i 1) (i 2)).S : ℝ) : EReal) := by
  rw [val_main_v115_apply, val114 Q K V O]
  rfl

theorem val122 (i : S3x2048x16x1.Idx) : val_main_v122 (F := Ideal) (co Q) (co K) i
    = (((rowD Q K V O (i 2) (i 1)).w (i 0) : ℝ) : EReal) := by
  rw [val_main_v122_apply, val_main_v121_apply, val_main_v117_apply, val113 Q K V O, val_main_v116_apply, val115 Q K V O,
    Ideal.hostDivf_def]
  exact div_real (S_ne Q K V O _ _)

theorem val125 (i : S2048x16x128.Idx) : val_main_v125 (F := Ideal) (co Q) (co K) (co V) i
    = (((rowD Q K V O (i 1) (i 0)).out (i 2) : ℝ) : EReal) := by
  rw [val_main_v125_apply, val_main_cst_31_apply, zero_f32, zero_add]
  refine Eq.trans ?_ (coe_sum _ _).symm
  refine Finset.sum_congr rfl fun g _ => ?_
  rw [val_main_v124_apply, val_main_v123_apply, val122 Q K V O, val86 Q K V O, Ideal.mulf_def, ← EReal.coe_mul]
  rfl

end Cert.Ref
-- ==== Proof.HostAt.lean ====
/-
  The kernel's arguments read at one entry: a head's columns of the queries, keys and values laid side by side, of the
  attention's outcome, and of the joint log-sum-exps.
-/
module

public import proofs.«01_k».proof.Proof.HostRead
public import proofs.«01_k».proof.Proof.RefRow

@[expose] public section

noncomputable section

namespace Cert.Host

open Idealize.ShloMosaic Idealize.ShloMosaic.ValueIdx
open Cert.KernelIdeal Cert.KernelIdeal.Gen
open Cert.Ref
open Cert.ReferenceIdeal.Read (val_main_v92 val_main_v93 val_main_v100 val_main_v113 val_main_v114 val_main_v126 val_main_v125
  val_main_v11 idx_main_v126 val_main_v126_apply)

variable (Q K V O : S2048x2048.Idx → ℝ)

include V O in
/-- The group maximum is finite, so replacing an infinite one by zero changes nothing. -/
theorem top_eq : val_main_v93 (F := Ideal) (co Q) (co K) = val_main_v100 (F := Ideal) (co Q) (co K) :=
  funext fun i => (val93 Q K V O i).trans (val100 Q K V O i).symm

include V O in
theorem sum_eq :
    Host.reduceAdd (F := Ideal) (φ := .f32) (Host.exp (F := Ideal) (φ := .f32) (subf (F := Ideal) (φ := .f32) (val_main_v92 (F := Ideal) (co Q) (co K))
          (broadcastInDim S3x16x2048 ![0, 1, 2] bcast_S1x16x2048_S3x16x2048_0_1_2
            (broadcastInDim S1x16x2048 ![1, 2] bcast_S16x2048_S1x16x2048_1_2 (val_main_v93 (F := Ideal) (co Q) (co K))))))
          (constant (F := Ideal) S_ .f32 0x00000000#32) reducesTo_S3x16x2048_S16x2048_d0 h_S_
      = val_main_v114 (F := Ideal) (co Q) (co K) := by
  rw [top_eq Q K V O]
  rfl

theorem lse_row (h : Fin 16) (t : Fin 2048) :
    addf (F := Ideal) (φ := .f32) (val_main_v93 (F := Ideal) (co Q) (co K)) (Host.log (F := Ideal) (φ := .f32) (val_main_v114 (F := Ideal) (co Q) (co K))) (ix2 h t)
      = ((rowD Q K V O h t).lse : EReal) := by
  show FloatOps.addf (F := Ideal) (φ := .f32) (val_main_v93 (F := Ideal) (co Q) (co K) (ix2 h t))
    (FloatOps.hostUnary (F := Ideal) (φ := .f32) .log (val_main_v114 (F := Ideal) (co Q) (co K) (ix2 h t))) = _
  rw [val93 Q K V O, val114 Q K V O, Ideal.hostUnary_log_def, Ideal.log_coe, if_neg (not_le.2 Row.Data.S_pos), Ideal.addf_def, ← EReal.coe_add]
  unfold Row.Data.lse
  rw [add_comm]

theorem cols_rowMajor (t : Fin 2048) (h : Fin 16) (e : Fin 128) :
    (S2048x16x128.rowMajor (ix3 t h e)).val = (S2048x2048.rowMajor (ix2 t (col h e))).val := by
  refine (Shape.rowMajor_val_three _).trans (Eq.trans ?_ (Shape.rowMajor_val_two _).symm)
  show (t.val * 16 + h.val) * 128 + e.val = t.val * 2048 + (h.val * 128 + e.val)
  omega

theorem lse_at (h : Fin 16) (t : Fin 2048) (e : Fin 128) :
    lseHost (val_main_v92 (F := Ideal) (co Q) (co K)) (val_main_v93 (F := Ideal) (co Q) (co K)) (ix2 t (col h e))
      = ((rowD Q K V O h t).lse : EReal) := by
  unfold lseHost
  rw [sum_eq Q K V O]
  rw [shapeCast_apply _ _ _ (ix3 t h e) (cols_rowMajor t h e)]
  rw [broadcastInDim_apply _ _ _ _ (ix3 t h 0) (by intro a; fin_cases a <;> rfl)]
  rw [broadcastInDim_apply _ _ _ _ (ix2 t h) (by intro a; fin_cases a <;> rfl)]
  refine (transpose_apply (s := S16x2048) (t := S2048x16) [1, 0] _ _ (ix2 t h) (ix2 h t) (by intro a; fin_cases a <;> rfl)).trans ?_
  exact lse_row Q K V O h t

theorem att_at (h : Fin 16) (t : Fin 2048) (e : Fin 128) :
    val_main_v126 (F := Ideal) (co Q) (co K) (co V) (ix2 t (col h e)) = ((rowD Q K V O h t).out e : EReal) := by
  have hi : idx_main_v126 (ix2 t (col h e)) = ix3 t h e := by
    funext ax
    apply Fin.ext
    have := e.isLt
    have := h.isLt
    match ax with
    | ⟨0, _⟩ => show (t.val * 2048 + (h.val * 128 + e.val)) / 2048 = t.val; omega
    | ⟨1, _⟩ => show (t.val * 2048 + (h.val * 128 + e.val)) / 128 % 16 = h.val; omega
    | ⟨2, _⟩ => show (t.val * 2048 + (h.val * 128 + e.val)) % 128 = e.val; omega
  rw [val_main_v126_apply, hi, val125 Q K V O]

section Concat
variable (x y z : (⟨S2048x2048, .f32⟩ : BufTy).Contents (Elt Ideal)) (t : Fin 2048) (j : Fin 2048) (l : Fin 6144)

theorem cat_0 (hl : l.val = j.val) :
    concatenate S2048x6144 1 [⟨S2048x2048, x⟩, ⟨S2048x2048, y⟩, ⟨S2048x2048, z⟩]
      concatenates_S2048x2048_S2048x2048_S2048x2048_S2048x6144_d1 (ix2 t l) = x (ix2 t j) :=
  concatenate_apply_piece (t := S2048x6144) 1 [⟨S2048x2048, x⟩, ⟨S2048x2048, y⟩, ⟨S2048x2048, z⟩] _ (ix2 t l) 0 (by decide : 0 < 3) S2048x2048 x rfl rfl 0 rfl (ix2 t j)
    (by intro b hb; match b with
        | ⟨0, _⟩ => rfl
        | ⟨1, _⟩ => exact absurd rfl hb)
    (by show 0 + j.val = l.val; omega)

theorem cat_1 (hl : l.val = 2048 + j.val) :
    concatenate S2048x6144 1 [⟨S2048x2048, x⟩, ⟨S2048x2048, y⟩, ⟨S2048x2048, z⟩]
      concatenates_S2048x2048_S2048x2048_S2048x2048_S2048x6144_d1 (ix2 t l) = y (ix2 t j) :=
  concatenate_apply_piece (t := S2048x6144) 1 [⟨S2048x2048, x⟩, ⟨S2048x2048, y⟩, ⟨S2048x2048, z⟩] _ (ix2 t l) 1 (by decide : 1 < 3) S2048x2048 y rfl rfl 2048 rfl (ix2 t j)
    (by intro b hb; match b with
        | ⟨0, _⟩ => rfl
        | ⟨1, _⟩ => exact absurd rfl hb)
    (by show 2048 + j.val = l.val; omega)

theorem cat_2 (hl : l.val = 4096 + j.val) :
    concatenate S2048x6144 1 [⟨S2048x2048, x⟩, ⟨S2048x2048, y⟩, ⟨S2048x2048, z⟩]
      concatenates_S2048x2048_S2048x2048_S2048x2048_S2048x6144_d1 (ix2 t l) = z (ix2 t j) :=
  concatenate_apply_piece (t := S2048x6144) 1 [⟨S2048x2048, x⟩, ⟨S2048x2048, y⟩, ⟨S2048x2048, z⟩] _ (ix2 t l) 2 (by decide : 2 < 3) S2048x2048 z rfl rfl 4096 rfl (ix2 t j)
    (by intro b hb; match b with
        | ⟨0, _⟩ => rfl
        | ⟨1, _⟩ => exact absurd rfl hb)
    (by show 4096 + j.val = l.val; omega)
end Concat

end Cert.Host
-- ==== Proof.UnitOps.lean ====
/-
  The vector operations of one unit, and what they are at an index: `probV`, `dsV` and the three products, over
  blocks of 128 queries and `N` keys, `N` being 128 or 256.
-/
module

public import proofs.«01_k».proof.Proof.Gen.KernelIdeal.Value
public import proofs.«01_k».proof.Proof.Unit
public import Idealize.ShloMosaic.Lib.ValueIdx
public import Idealize.ShloMosaic.Lib.ValueLayout
public import Idealize.ShloMosaic.Lib.MatmulPlain

@[expose] public section

noncomputable section

namespace Cert.Unit

open Idealize.ShloMosaic Idealize.ShloMosaic.ValueIdx
open Cert.KernelIdeal
open scoped BigOperators

/-- A matrix's shape. -/
abbrev Mat (a b : ℕ) : Shape := ⟨2, ![a, b]⟩

/-- The three products' dimension numbers for `N` keys, each with its reading as a sum. -/
structure Wid (N : ℕ) where
  nt : DotDims (Mat 128 128) (Mat N 128) (Mat 128 N)
  nn : DotDims (Mat 128 N) (Mat N 128) (Mat 128 128)
  tn : DotDims (Mat 128 N) (Mat 128 128) (Mat N 128)
  bc : (Mat 128 1).Broadcasts (Mat 128 N)
  hnt : ∀ (l : FVec Ideal (Mat 128 128) .bf16) (r : FVec Ideal (Mat N 128) .bf16) (i : Fin 128) (j : Fin N),
    matmul nt none l r (constant (F := Ideal) (Mat 128 N) .f32 0x00000000#32) (ix2 i j) = ∑ e : Fin 128, l (ix2 i e) * r (ix2 j e)
  hnn : ∀ (l : FVec Ideal (Mat 128 N) .bf16) (r : FVec Ideal (Mat N 128) .bf16) (i : Fin 128) (e : Fin 128),
    matmul nn none l r (constant (F := Ideal) (Mat 128 128) .f32 0x00000000#32) (ix2 i e) = ∑ j : Fin N, l (ix2 i j) * r (ix2 j e)
  htn : ∀ (l : FVec Ideal (Mat 128 N) .bf16) (r : FVec Ideal (Mat 128 128) .bf16) (j : Fin N) (e : Fin 128),
    matmul tn none l r (constant (F := Ideal) (Mat N 128) .f32 0x00000000#32) (ix2 j e) = ∑ i : Fin 128, l (ix2 i j) * r (ix2 i e)
  hbc : ∀ (x : (Mat 128 1).Idx → EReal) (i : Fin 128) (j : Fin N), broadcastTo (Mat 128 N) x bc (ix2 i j) = x (ix2 i 0)

/-- A product into zero whose contraction is one axis of `n`, with its operands' indices named. -/
theorem matmul_zero_of {sl sr so : Shape} {φ₁ φ₂ : FTy} (D : DotDims sl sr so) (n : ℕ) (hr : D.contr.rank = 1)
    (hs : D.contr.size ⟨0, by omega⟩ = n) (l : FVec Ideal sl φ₁) (r : FVec Ideal sr φ₂) (y : so.Idx)
    (L : Fin n → sl.Idx) (R : Fin n → sr.Idx)
    (hL : ∀ k, D.lhsIdx y ((contrEquiv1 D n hr hs).symm k) = L k)
    (hR : ∀ k, D.rhsIdx y ((contrEquiv1 D n hr hs).symm k) = R k) :
    matmul D none l r (constant (F := Ideal) so .f32 0x00000000#32) y = ∑ k, l (L k) * r (R k) := by
  show FloatOps.matmul D none l r (constant (F := Ideal) so .f32 0x00000000#32) y = _
  rw [Ideal.matmul_apply, ← Equiv.sum_comp (contrEquiv1 D n hr hs).symm]
  have h0 : constant (F := Ideal) so .f32 0x00000000#32 y = 0 := Ideal.ofBits_zero_f32
  rw [h0, zero_add]
  exact Finset.sum_congr rfl fun k _ => by rw [hL, hR]

/-- The products of 128 keys. -/
def w128 : Wid 128 where
  nt := dot_S128x128_S128x128_S128x128_1_1_0_0_n_n
  nn := dot_S128x128_S128x128_S128x128_1_0_0_1_n_n
  tn := dot_S128x128_S128x128_S128x128_0_0_1_1_n_n
  bc := by decide
  hnt l r i j := matmul_zero_of dot_S128x128_S128x128_S128x128_1_1_0_0_n_n 128 rfl rfl l r _ (fun e => ix2 i e) (fun e => ix2 j e)
    (fun k => funext fun a => Fin.ext (match a with | ⟨0, _⟩ => rfl | ⟨1, _⟩ => contrEquiv1_symm_val dot_S128x128_S128x128_S128x128_1_1_0_0_n_n 128 rfl rfl k))
    (fun k => funext fun a => Fin.ext (match a with | ⟨0, _⟩ => rfl | ⟨1, _⟩ => contrEquiv1_symm_val dot_S128x128_S128x128_S128x128_1_1_0_0_n_n 128 rfl rfl k))
  hnn l r i j := matmul_zero_of dot_S128x128_S128x128_S128x128_1_0_0_1_n_n 128 rfl rfl l r _ (fun e => ix2 i e) (fun e => ix2 e j)
    (fun k => funext fun a => Fin.ext (match a with | ⟨0, _⟩ => rfl | ⟨1, _⟩ => contrEquiv1_symm_val dot_S128x128_S128x128_S128x128_1_0_0_1_n_n 128 rfl rfl k))
    (fun k => funext fun a => Fin.ext (match a with | ⟨0, _⟩ => contrEquiv1_symm_val dot_S128x128_S128x128_S128x128_1_0_0_1_n_n 128 rfl rfl k | ⟨1, _⟩ => rfl))
  htn l r i j := matmul_zero_of dot_S128x128_S128x128_S128x128_0_0_1_1_n_n 128 rfl rfl l r _ (fun e => ix2 e i) (fun e => ix2 e j)
    (fun k => funext fun a => Fin.ext (match a with | ⟨0, _⟩ => contrEquiv1_symm_val dot_S128x128_S128x128_S128x128_0_0_1_1_n_n 128 rfl rfl k | ⟨1, _⟩ => rfl))
    (fun k => funext fun a => Fin.ext (match a with | ⟨0, _⟩ => contrEquiv1_symm_val dot_S128x128_S128x128_S128x128_0_0_1_1_n_n 128 rfl rfl k | ⟨1, _⟩ => rfl))
  hbc x i j := broadcastTo_apply x _ (ix2 i j) (ix2 i 0) fun ax => match ax with | ⟨0, _⟩ => rfl | ⟨1, _⟩ => rfl

/-- The products of 256 keys. -/
def w256 : Wid 256 where
  nt := dot_S128x128_S256x128_S128x256_1_1_0_0_n_n
  nn := dot_S128x256_S256x128_S128x128_1_0_0_1_n_n
  tn := dot_S128x256_S128x128_S256x128_0_0_1_1_n_n
  bc := by decide
  hnt l r i j := matmul_zero_of dot_S128x128_S256x128_S128x256_1_1_0_0_n_n 128 rfl rfl l r _ (fun e => ix2 i e) (fun e => ix2 j e)
    (fun k => funext fun a => Fin.ext (match a with | ⟨0, _⟩ => rfl | ⟨1, _⟩ => contrEquiv1_symm_val dot_S128x128_S256x128_S128x256_1_1_0_0_n_n 128 rfl rfl k))
    (fun k => funext fun a => Fin.ext (match a with | ⟨0, _⟩ => rfl | ⟨1, _⟩ => contrEquiv1_symm_val dot_S128x128_S256x128_S128x256_1_1_0_0_n_n 128 rfl rfl k))
  hnn l r i j := matmul_zero_of dot_S128x256_S256x128_S128x128_1_0_0_1_n_n 256 rfl rfl l r _ (fun e => ix2 i e) (fun e => ix2 e j)
    (fun k => funext fun a => Fin.ext (match a with | ⟨0, _⟩ => rfl | ⟨1, _⟩ => contrEquiv1_symm_val dot_S128x256_S256x128_S128x128_1_0_0_1_n_n 256 rfl rfl k))
    (fun k => funext fun a => Fin.ext (match a with | ⟨0, _⟩ => contrEquiv1_symm_val dot_S128x256_S256x128_S128x128_1_0_0_1_n_n 256 rfl rfl k | ⟨1, _⟩ => rfl))
  htn l r i j := matmul_zero_of dot_S128x256_S128x128_S256x128_0_0_1_1_n_n 128 rfl rfl l r _ (fun e => ix2 e i) (fun e => ix2 e j)
    (fun k => funext fun a => Fin.ext (match a with | ⟨0, _⟩ => contrEquiv1_symm_val dot_S128x256_S128x128_S256x128_0_0_1_1_n_n 128 rfl rfl k | ⟨1, _⟩ => rfl))
    (fun k => funext fun a => Fin.ext (match a with | ⟨0, _⟩ => contrEquiv1_symm_val dot_S128x256_S128x128_S256x128_0_0_1_1_n_n 128 rfl rfl k | ⟨1, _⟩ => rfl))
  hbc x i j := broadcastTo_apply x _ (ix2 i j) (ix2 i 0) fun ax => match ax with | ⟨0, _⟩ => rfl | ⟨1, _⟩ => rfl

variable {N : ℕ} (w : Wid N)

/-- The unit's probabilities from its rows of queries and keys, its block of the bias and its rows of log-sum-exps. -/
def probV (q : FVec Ideal (Mat 128 128) .bf16) (k : FVec Ideal (Mat N 128) .bf16) (b : FVec Ideal (Mat 128 N) .f32)
    (lse : FVec Ideal (Mat 128 1) .f32) : FVec Ideal (Mat 128 N) .f32 :=
  exp (subf (addf (mulf (matmul w.nt none q k (constant (Mat 128 N) .f32 0x00000000#32))
    (broadcast (Mat 128 N) (Scalar.ofBits .f32 0x3DB504F3#32))) b) (broadcastTo (Mat 128 N) lse w.bc))

/-- The scores' gradients from the probabilities, the rows of the output's gradient, of the values and of the
    output times its gradient. -/
def dsV (pr : FVec Ideal (Mat 128 N) .f32) (o : FVec Ideal (Mat 128 128) .bf16) (v : FVec Ideal (Mat N 128) .bf16)
    (dl : FVec Ideal (Mat 128 1) .f32) : FVec Ideal (Mat 128 N) .f32 :=
  mulf (mulf pr (subf (matmul w.nt none o v (constant (Mat 128 N) .f32 0x00000000#32)) (broadcastTo (Mat 128 N) dl w.bc)))
    (broadcast (Mat 128 N) (Scalar.ofBits .f32 0x3DB504F3#32))

theorem probV_apply (q : FVec Ideal (Mat 128 128) .bf16) (k : FVec Ideal (Mat N 128) .bf16) (b : FVec Ideal (Mat 128 N) .f32)
    (lse : FVec Ideal (Mat 128 1) .f32) (i : Fin 128) (j : Fin N) :
    probV w q k b lse (ix2 i j)
      = Ideal.exp ((∑ e, q (ix2 i e) * k (ix2 j e)) * scale + b (ix2 i j) - lse (ix2 i 0)) := by
  show Ideal.exp (matmul w.nt none q k (constant (F := Ideal) (Mat 128 N) .f32 0x00000000#32) (ix2 i j) * scale + b (ix2 i j)
    - broadcastTo (Mat 128 N) lse w.bc (ix2 i j)) = _
  rw [w.hnt, w.hbc]

theorem dsV_apply (pr : FVec Ideal (Mat 128 N) .f32) (o : FVec Ideal (Mat 128 128) .bf16) (v : FVec Ideal (Mat N 128) .bf16)
    (dl : FVec Ideal (Mat 128 1) .f32) (i : Fin 128) (j : Fin N) :
    dsV w pr o v dl (ix2 i j) = pr (ix2 i j) * ((∑ e, o (ix2 i e) * v (ix2 j e)) - dl (ix2 i 0)) * scale := by
  show pr (ix2 i j) * (matmul w.nt none o v (constant (F := Ideal) (Mat 128 N) .f32 0x00000000#32) (ix2 i j)
    - broadcastTo (Mat 128 N) dl w.bc (ix2 i j)) * scale = _
  rw [w.hnt, w.hbc]

end Cert.Unit
-- ==== Proof.UnitSteps.lean ====
/-
  One unit's update of a scratch array: the rows of the unit are loaded, the unit's product is added to them and they
  are stored again. What the scratch array then holds is what it held and, at each row, what the unit adds to it
  (`Unit.cq`, `Unit.ck`, `Unit.cv`).
-/
module

public import proofs.«01_k».proof.Proof.UnitOps

@[expose] public section

noncomputable section

namespace Cert.Unit

open Idealize.ShloMosaic Idealize.ShloMosaic.ValueIdx Idealize.ShloMosaic.View
open Cert.KernelIdeal
open scoped BigOperators

/-- `N` rows of a [2048, 128] array, from row `o` on with the strides `st`. -/
abbrev rows (N o : ℕ) (st : Fin 2 → ℕ)
    (inb : ∀ a, (Mat N 128).size a = 0 ∨ (![o, 0] : Fin 2 → ℕ) a + st a * ((Mat N 128).size a - 1) < S2048x128.size a)
    (pos : ∀ a, 0 < st a) : Rect S2048x128 :=
  ⟨⟨![o, 0], (Mat N 128).size, st, inb⟩, pos⟩

theorem pos_4 : ∀ a : Fin 2, 0 < (![4, 1] : Fin 2 → ℕ) a := fun a => match a with
  | ⟨0, _⟩ => by show 0 < 4; omega
  | ⟨1, _⟩ => by show 0 < 1; omega
theorem pos_16 : ∀ a : Fin 2, 0 < (![16, 1] : Fin 2 → ℕ) a := fun a => match a with
  | ⟨0, _⟩ => by show 0 < 16; omega
  | ⟨1, _⟩ => by show 0 < 1; omega

section Rows

variable {N o d : ℕ} {st : Fin 2 → ℕ} (hst : st 0 = d ∧ st 1 = 1)
  {inb : ∀ a, (Mat N 128).size a = 0 ∨ (![o, 0] : Fin 2 → ℕ) a + st a * ((Mat N 128).size a - 1) < S2048x128.size a}
  {pos : ∀ a, 0 < st a}

include hst inb in
/-- The row a block's row `i` is. -/
theorem rows_lt (i : Fin N) : o + d * i.val < 2048 := by
  have h := inb 0
  have hN : (Mat N 128).size 0 = N := rfl
  have hS : S2048x128.size 0 = 2048 := rfl
  rw [hN, hst.1, hS] at h
  have ho : (![o, 0] : Fin 2 → ℕ) 0 = o := rfl
  rw [ho] at h
  rcases h with h | h
  · exact absurd i.isLt (by omega)
  · have : d * i.val ≤ d * (N - 1) := Nat.mul_le_mul_left _ (by have := i.isLt; omega)
    omega

include hst in
theorem rows_idx (i : Fin N) (e : Fin 128) :
    (rows N o st inb pos).idx (ix2 i e) = (ix2 (⟨o + d * i.val, rows_lt (inb := inb) hst i⟩ : Fin 2048) e : S2048x128.Idx) := by
  funext a
  apply Fin.ext
  match a with
  | ⟨0, _⟩ =>
    show o + st 0 * i.val = o + d * i.val
    rw [hst.1]
  | ⟨1, _⟩ =>
    show 0 + st 1 * e.val = e.val
    rw [hst.2]; omega

include hst in
theorem rows_at2 (x : S2048x128.Idx → EReal) (i : Fin N) (e : Fin 128) :
    x ((rows N o st inb pos).idx (ix2 i e)) = at2 x (o + d * i.val) e := by
  rw [rows_idx hst]
  exact (at2_of_lt x ⟨_, _⟩ e).symm

include hst in
/-- The scratch array after rows of it are stored with `C` added. -/
theorem canon_step {m : Memref sig .tc .vmem S2048x128 .f32}
    (L : List (Piece (Elt Ideal) S2048x128 .f32)) (hsc : (Mat N 128).ShapeCasts (Mat N 128))
    (C : FVec Ideal (Mat N 128) .f32) (t : Fin 2048) (e : Fin 128) :
    View.canon (Val := Elt Ideal) (e := .f32) ((⟨rows N o st inb pos, shapeCast (Mat N 128)
        (addf (View.readCov m.view L (rows N o st inb pos).toLoadRect : FVec Ideal (Mat N 128) .f32) C) hsc⟩ :
          Piece (Elt Ideal) S2048x128 .f32) :: L) (ix2 t e)
      = (View.canon L (ix2 t e) : EReal) + ∑ i : Fin N, if o + d * i.val = t.val then C (ix2 i e) else 0 := by
  have hd : 0 < d := hst.1 ▸ pos 0
  by_cases h : ∃ i : Fin N, o + d * i.val = t.val
  · obtain ⟨i, hi⟩ := h
    have hy : (ix2 t e : S2048x128.Idx) = (rows N o st inb pos).emb (ix2 i e) := by
      show _ = (rows N o st inb pos).idx (ix2 i e)
      rw [rows_idx hst]
      exact congrArg (fun z => ix2 z e) (Fin.ext hi.symm)
    rw [hy, canon_cons_emb, shapeCast_self, ← hy]
    show (View.readCov m.view L (rows N o st inb pos).toLoadRect (ix2 i e) : EReal) + C (ix2 i e) = _
    rw [View.readCov_eq_canon']
    have hy' : (ix2 t e : S2048x128.Idx) = (rows N o st inb pos).idx (ix2 i e) := hy
    refine congr (congrArg _ (congrArg _ hy'.symm)) ?_
    rw [Finset.sum_eq_single i]
    · rw [if_pos hi]
    · intro b _ hb
      rw [if_neg]
      intro hb'
      exact hb (Fin.ext (Nat.eq_of_mul_eq_mul_left hd (by omega)))
    · intro hn; exact absurd (Finset.mem_univ _) hn
  · rw [canon_cons_of_not_mem]
    · rw [Finset.sum_eq_zero, add_zero]
      intro i _
      exact if_neg fun hi => h ⟨i, hi⟩
    · intro hm
      rw [LoadRect.mem_set] at hm
      obtain ⟨j, hj, hj'⟩ := hm 0
      refine h ⟨⟨j, hj⟩, ?_⟩
      have e0 : ((ix2 t e : S2048x128.Idx) 0 : ℕ) = t.val := rfl
      have e1 : (rows N o st inb pos).off 0 = o := rfl
      have e2 : (rows N o st inb pos).stride 0 = st 0 := rfl
      rw [e0, e1, e2, hst.1] at hj'
      exact hj'.symm

end Rows

/-- The head's arrays as naturals count their rows, from the windows' contents and what the scratch arrays of the
    output times its gradient and of the biases were left with. -/
def arr (x1 x2 x3 x4 x6 : S2048x128.Idx → EReal) (L3 : List (Piece (Elt Ideal) S2048x128 .f32))
    (L4 : List (Piece (Elt Ideal) S3x128x256 .f32)) : Arr where
  q := at2 x1
  k := at2 x2
  v := at2 x3
  o := at2 x4
  lse t := at2 x6 t 0
  dl t := at2 (View.canon L3) t 0
  b g i j := if h : g < 3 ∧ i < 128 ∧ j < 256 then View.canon L4 (ix3 ⟨g, h.1⟩ ⟨i, h.2.1⟩ ⟨j, h.2.2⟩) else 0

/-- The block of `N` keys' biases of group `g`: the last `N` columns. -/
abbrev bRect (g col N : ℕ) (inb : ∀ a, (![g, 0, col] : Fin 3 → ℕ) a + (⟨3, ![1, 128, N]⟩ : Shape).size a ≤ S3x128x256.size a) :
    Rect S3x128x256 :=
  Rect.unit ![g, 0, col] (⟨3, ![1, 128, N]⟩ : Shape).size inb

section Step

variable {N g col d oq ok : ℕ} (w : Wid N) {sq sk : Fin 2 → ℕ} (hsq : sq 0 = d ∧ sq 1 = 1) (hsk : sk 0 = d ∧ sk 1 = 1)
  {inbq : ∀ a, (Mat 128 128).size a = 0 ∨ (![oq, 0] : Fin 2 → ℕ) a + sq a * ((Mat 128 128).size a - 1) < S2048x128.size a}
  {posq : ∀ a, 0 < sq a}
  {inbk : ∀ a, (Mat N 128).size a = 0 ∨ (![ok, 0] : Fin 2 → ℕ) a + sk a * ((Mat N 128).size a - 1) < S2048x128.size a}
  {posk : ∀ a, 0 < sk a}
  {inbb : ∀ a, (![g, 0, col] : Fin 3 → ℕ) a + (⟨3, ![1, 128, N]⟩ : Shape).size a ≤ S3x128x256.size a}
  (hcol : col + N = 256)
  {q k v o lse dl : Memref sig .tc .vmem S2048x128 .f32} {hq : q.IsWhole} {hk : k.IsWhole} {hv : v.IsWhole} {ho : o.IsWhole}
  {hl : lse.IsWhole} {bi : Memref sig .tc .vmem S3x128x256 .f32}
  {x1 x2 x3 x4 x6 : S2048x128.Idx → EReal} {L3 : List (Piece (Elt Ideal) S2048x128 .f32)}
  {L4 : List (Piece (Elt Ideal) S3x128x256 .f32)}

/-- A block of rows loaded from a window. -/
abbrev ldV {N o : ℕ} {st : Fin 2 → ℕ}
    (inb : ∀ a, (Mat N 128).size a = 0 ∨ (![o, 0] : Fin 2 → ℕ) a + st a * ((Mat N 128).size a - 1) < S2048x128.size a)
    (pos : ∀ a, 0 < st a) {m : Memref sig .tc .vmem S2048x128 .f32} (h : m.IsWhole) (x : S2048x128.Idx → EReal) :
    FVec Ideal (Mat N 128) .f32 :=
  View.readAt (Elt Ideal) m.view (rows N o st inb pos).toLoadRect (h.unread (Val := Elt Ideal) x)

theorem ldV_apply {N o d : ℕ} {st : Fin 2 → ℕ} (hst : st 0 = d ∧ st 1 = 1)
    (inb : ∀ a, (Mat N 128).size a = 0 ∨ (![o, 0] : Fin 2 → ℕ) a + st a * ((Mat N 128).size a - 1) < S2048x128.size a)
    (pos : ∀ a, 0 < st a) {m : Memref sig .tc .vmem S2048x128 .f32} (h : m.IsWhole) (x : S2048x128.Idx → EReal)
    (i : Fin N) (e : Fin 128) : ldV inb pos h x (ix2 i e) = at2 x (o + d * i.val) e := by
  unfold ldV
  rw [View.readAt_eq_ld, h.read_unread]
  exact rows_at2 hst x i e

/-- The unit's probabilities, from the windows. -/
abbrev pV (scq : (Mat 128 128).ShapeCasts (Mat 128 128)) (sck : (Mat N 128).ShapeCasts (Mat N 128))
    (scb : (⟨3, ![1, 128, N]⟩ : Shape).ShapeCasts (Mat 128 N)) (hlt : FTy.bf16.bits < FTy.f32.bits)
    (hsl : (Mat 128 128).Slices ![0, 0] (Mat 128 1))
    (inbq : ∀ a, (Mat 128 128).size a = 0 ∨ (![oq, 0] : Fin 2 → ℕ) a + sq a * ((Mat 128 128).size a - 1) < S2048x128.size a)
    (posq : ∀ a, 0 < sq a)
    (inbk : ∀ a, (Mat N 128).size a = 0 ∨ (![ok, 0] : Fin 2 → ℕ) a + sk a * ((Mat N 128).size a - 1) < S2048x128.size a)
    (posk : ∀ a, 0 < sk a)
    (inbb : ∀ a, (![g, 0, col] : Fin 3 → ℕ) a + (⟨3, ![1, 128, N]⟩ : Shape).size a ≤ S3x128x256.size a)
    (hq : q.IsWhole) (hk : k.IsWhole) (hl : lse.IsWhole) (bi : Memref sig .tc .vmem S3x128x256 .f32)
    (x1 x2 x6 : S2048x128.Idx → EReal) (L4 : List (Piece (Elt Ideal) S3x128x256 .f32)) : FVec Ideal (Mat 128 N) .f32 :=
  probV w (truncf .bf16 (shapeCast (Mat 128 128) (ldV inbq posq hq x1) scq) hlt)
    (truncf .bf16 (shapeCast (Mat N 128) (ldV inbk posk hk x2) sck) hlt)
    (shapeCast (Mat 128 N) (View.readCov bi.view L4 (bRect g col N inbb).toLoadRect : FVec Ideal (⟨3, ![1, 128, N]⟩ : Shape) .f32) scb)
    (extractStridedSlice (Mat 128 1) ![0, 0] (shapeCast (Mat 128 128) (ldV inbq posq hl x6) scq) hsl)

/-- The unit's scores' gradients, from the windows. -/
abbrev gV (scq : (Mat 128 128).ShapeCasts (Mat 128 128)) (sck : (Mat N 128).ShapeCasts (Mat N 128))
    (scb : (⟨3, ![1, 128, N]⟩ : Shape).ShapeCasts (Mat 128 N)) (hlt : FTy.bf16.bits < FTy.f32.bits)
    (hsl : (Mat 128 128).Slices ![0, 0] (Mat 128 1))
    (inbq : ∀ a, (Mat 128 128).size a = 0 ∨ (![oq, 0] : Fin 2 → ℕ) a + sq a * ((Mat 128 128).size a - 1) < S2048x128.size a)
    (posq : ∀ a, 0 < sq a)
    (inbk : ∀ a, (Mat N 128).size a = 0 ∨ (![ok, 0] : Fin 2 → ℕ) a + sk a * ((Mat N 128).size a - 1) < S2048x128.size a)
    (posk : ∀ a, 0 < sk a)
    (inbb : ∀ a, (![g, 0, col] : Fin 3 → ℕ) a + (⟨3, ![1, 128, N]⟩ : Shape).size a ≤ S3x128x256.size a)
    (hq : q.IsWhole) (hk : k.IsWhole) (hv : v.IsWhole) (ho : o.IsWhole) (hl : lse.IsWhole)
    (dl : Memref sig .tc .vmem S2048x128 .f32) (bi : Memref sig .tc .vmem S3x128x256 .f32)
    (x1 x2 x3 x4 x6 : S2048x128.Idx → EReal) (L3 : List (Piece (Elt Ideal) S2048x128 .f32))
    (L4 : List (Piece (Elt Ideal) S3x128x256 .f32)) : FVec Ideal (Mat 128 N) .f32 :=
  dsV w (pV w scq sck scb hlt hsl inbq posq inbk posk inbb hq hk hl bi x1 x2 x6 L4)
    (truncf .bf16 (ldV inbq posq ho x4) hlt)
    (truncf .bf16 (shapeCast (Mat N 128) (ldV inbk posk hv x3) sck) hlt)
    (extractStridedSlice (Mat 128 1) ![0, 0]
      (View.readCov dl.view L3 (rows 128 oq sq inbq posq).toLoadRect : FVec Ideal (Mat 128 128) .f32) hsl)

variable {scq : (Mat 128 128).ShapeCasts (Mat 128 128)} {sck : (Mat N 128).ShapeCasts (Mat N 128)}
  {scb : (⟨3, ![1, 128, N]⟩ : Shape).ShapeCasts (Mat 128 N)} {hlt : FTy.bf16.bits < FTy.f32.bits}
  {hsl : (Mat 128 128).Slices ![0, 0] (Mat 128 1)}

/-- The first column of a block. -/
theorem slice_apply (x : (Mat 128 128).Idx → EReal) (i : Fin 128) :
    extractStridedSlice (Mat 128 1) ![0, 0] x hsl (ix2 i 0) = x (ix2 i 0) := by
  unfold extractStridedSlice
  congr 1
  funext a
  apply Fin.ext
  match a with
  | ⟨0, _⟩ => exact Nat.zero_add _
  | ⟨1, _⟩ => rfl

include hcol in
theorem bias_apply (i : Fin 128) (j : Fin N) :
    shapeCast (Mat 128 N) (View.readCov bi.view L4 (bRect g col N inbb).toLoadRect : FVec Ideal (⟨3, ![1, 128, N]⟩ : Shape) .f32) scb (ix2 i j)
      = (arr x1 x2 x3 x4 x6 L3 L4).b g i (256 - N + j) := by
  rw [shapeCast_1ab_ab_apply, View.readCov_eq_canon']
  have hg : g < 3 := by
    have := inbb 0
    have e1 : (![g, 0, col] : Fin 3 → ℕ) 0 = g := rfl
    have e2 : (⟨3, ![1, 128, N]⟩ : Shape).size 0 = 1 := rfl
    have e3 : S3x128x256.size 0 = 3 := rfl
    rw [e1, e2, e3] at this; omega
  have hj : 256 - N + j.val < 256 := by have := j.isLt; omega
  show _ = dite _ _ _
  rw [dif_pos ⟨hg, i.isLt, hj⟩]
  refine congrArg (View.canon L4) (funext fun a => Fin.ext ?_)
  match a with
  | ⟨0, _⟩ => show g + 1 * 0 = g; omega
  | ⟨1, _⟩ => show 0 + 1 * i.val = i.val; omega
  | ⟨2, _⟩ => show col + 1 * j.val = 256 - N + j.val; omega

include hsq hsk hcol in
theorem pV_apply (i : Fin 128) (j : Fin N) :
    pV w scq sck scb hlt hsl inbq posq inbk posk inbb hq hk hl bi x1 x2 x6 L4 (ix2 i j)
      = p (arr x1 x2 x3 x4 x6 L3 L4) ⟨g, d, oq, ok, N⟩ i j := by
  unfold pV
  rw [probV_apply, bias_apply (x1 := x1) (x2 := x2) (x3 := x3) (x4 := x4) (x6 := x6) (L3 := L3) hcol, slice_apply]
  simp only [shapeCast_self, truncf_apply, ldV_apply hsq, ldV_apply hsk]
  rfl

include hsq hsk hcol in
theorem gV_apply (i : Fin 128) (j : Fin N) :
    gV w scq sck scb hlt hsl inbq posq inbk posk inbb hq hk hv ho hl dl bi x1 x2 x3 x4 x6 L3 L4 (ix2 i j)
      = ds (arr x1 x2 x3 x4 x6 L3 L4) ⟨g, d, oq, ok, N⟩ i j := by
  unfold gV
  rw [dsV_apply, pV_apply (x3 := x3) (x4 := x4) (L3 := L3) w hsq hsk hcol, slice_apply, View.readCov_eq_canon']
  have hd : (fun y => View.canon L3 ((rows 128 oq sq inbq posq).toLoadRect.idx y) : (Mat 128 128).Idx → EReal) (ix2 i 0)
      = at2 (View.canon L3) (oq + d * i.val) 0 := rows_at2 hsq (View.canon L3) i 0
  refine congr (congrArg _ (congr (congrArg _ rfl) (congr (congrArg _ ?_) hd))) rfl
  simp only [shapeCast_self, truncf_apply, ldV_apply hsq, ldV_apply hsk]
  rfl

variable {acc : Memref sig .tc .vmem S2048x128 .f32} {L : List (Piece (Elt Ideal) S2048x128 .f32)} {t : Fin 2048} {e : Fin 128}
  {n : ℕ} (hu : un n = ⟨g, d, oq, ok, N⟩)

include hsq hsk hcol hu in
/-- The queries' gradients after one more unit. -/
theorem step_dq (hL : View.canon L (ix2 t e) = ∑ x ∈ Finset.range n, cq (arr x1 x2 x3 x4 x6 L3 L4) (un x) t e) :
    View.canon (Val := Elt Ideal) (e := .f32) ((⟨rows 128 oq sq inbq posq, shapeCast (Mat 128 128)
        (addf (View.readCov acc.view L (rows 128 oq sq inbq posq).toLoadRect : FVec Ideal (Mat 128 128) .f32)
          (matmul w.nn none
            (truncf .bf16 (gV w scq sck scb hlt hsl inbq posq inbk posk inbb hq hk hv ho hl dl bi x1 x2 x3 x4 x6 L3 L4) hlt)
            (truncf .bf16 (shapeCast (Mat N 128) (ldV inbk posk hk x2) sck) hlt)
            (constant (Mat 128 128) .f32 0x00000000#32))) scq⟩ :
          Piece (Elt Ideal) S2048x128 .f32) :: L) (ix2 t e)
      = ∑ x ∈ Finset.range (n + 1), cq (arr x1 x2 x3 x4 x6 L3 L4) (un x) t e := by
  rw [canon_step hsq, hL, Finset.sum_range_succ, hu]
  refine congrArg _ (Finset.sum_congr rfl fun i _ => ?_)
  rw [w.hnn]
  refine ite_congr rfl (fun _ => Finset.sum_congr rfl fun j _ => ?_) fun _ => rfl
  rw [truncf_apply, truncf_apply, shapeCast_self, ldV_apply hsk]
  exact congrArg (· * _) (gV_apply w hsq hsk hcol i j)

include hsq hsk hcol hu in
/-- The keys' gradients after one more unit. -/
theorem step_dk (hL : View.canon L (ix2 t e) = ∑ x ∈ Finset.range n, ck (arr x1 x2 x3 x4 x6 L3 L4) (un x) t e) :
    View.canon (Val := Elt Ideal) (e := .f32) ((⟨rows N ok sk inbk posk, shapeCast (Mat N 128)
        (addf (View.readCov acc.view L (rows N ok sk inbk posk).toLoadRect : FVec Ideal (Mat N 128) .f32)
          (matmul w.tn none
            (truncf .bf16 (gV w scq sck scb hlt hsl inbq posq inbk posk inbb hq hk hv ho hl dl bi x1 x2 x3 x4 x6 L3 L4) hlt)
            (truncf .bf16 (shapeCast (Mat 128 128) (ldV inbq posq hq x1) scq) hlt)
            (constant (Mat N 128) .f32 0x00000000#32))) sck⟩ :
          Piece (Elt Ideal) S2048x128 .f32) :: L) (ix2 t e)
      = ∑ x ∈ Finset.range (n + 1), ck (arr x1 x2 x3 x4 x6 L3 L4) (un x) t e := by
  rw [canon_step hsk, hL, Finset.sum_range_succ, hu]
  refine congrArg _ (Finset.sum_congr rfl fun j _ => ?_)
  rw [w.htn]
  refine ite_congr rfl (fun _ => Finset.sum_congr rfl fun i _ => ?_) fun _ => rfl
  rw [truncf_apply, truncf_apply, shapeCast_self, ldV_apply hsq]
  exact congrArg (· * _) (gV_apply w hsq hsk hcol i j)

include hsq hsk hcol hu in
/-- The values' gradients after one more unit. -/
theorem step_dv (hL : View.canon L (ix2 t e) = ∑ x ∈ Finset.range n, cv (arr x1 x2 x3 x4 x6 L3 L4) (un x) t e) :
    View.canon (Val := Elt Ideal) (e := .f32) ((⟨rows N ok sk inbk posk, shapeCast (Mat N 128)
        (addf (View.readCov acc.view L (rows N ok sk inbk posk).toLoadRect : FVec Ideal (Mat N 128) .f32)
          (matmul w.tn none
            (truncf .bf16 (pV w scq sck scb hlt hsl inbq posq inbk posk inbb hq hk hl bi x1 x2 x6 L4) hlt)
            (truncf .bf16 (ldV inbq posq ho x4) hlt)
            (constant (Mat N 128) .f32 0x00000000#32))) sck⟩ :
          Piece (Elt Ideal) S2048x128 .f32) :: L) (ix2 t e)
      = ∑ x ∈ Finset.range (n + 1), cv (arr x1 x2 x3 x4 x6 L3 L4) (un x) t e := by
  rw [canon_step hsk, hL, Finset.sum_range_succ, hu]
  refine congrArg _ (Finset.sum_congr rfl fun j _ => ?_)
  rw [w.htn]
  refine ite_congr rfl (fun _ => Finset.sum_congr rfl fun i _ => ?_) fun _ => rfl
  rw [truncf_apply, truncf_apply, ldV_apply hsq]
  exact congrArg (· * _) (pV_apply w hsq hsk hcol i j)

end Step

end Cert.Unit
-- ==== Proof.BodyRead.lean ====
/-
  What the kernel's body keeps in its two small scratch arrays: the biases of the three groups, and each query's product
  of the output and its gradient.
-/
module

public import proofs.«01_k».proof.Proof.UnitSteps
public import Idealize.ShloMosaic.Lib.Pipeline.ValueKit.Basic
public import Idealize.ShloMosaic.Lib.ValueLayout
public import Idealize.ShloMosaic.Lib.ValueLayoutCasts
public import Idealize.ShloMosaic.Lib.WordCmp
public import Idealize.ShloMosaic.Lib.Affine
public import Idealize.ShloMosaic.PureOps.IdealRules

@[expose] public section

noncomputable section

namespace Cert.Unit

open Idealize.ShloMosaic Idealize.ShloMosaic.ValueIdx
open Cert.KernelIdeal Cert.KernelIdeal.Gen Cert.KernelIdeal.Gen.kernelRun0_A.sl
open scoped BigOperators

variable {c : Dev nD} {i : grid0.Coords} {arg1 : Memref sig .tc .smem S16 .f32} {harg1 : arg1.IsWhole}
  {arg5 : Memref sig .tc .vmem S2048x128 .f32} {harg5 : arg5.IsWhole}
  {arg6 : Memref sig .tc .vmem S2048x128 .bf16} {harg6 : arg6.IsWhole}
  {x0 : Vec Ideal S16 .f32} {x4 : Vec Ideal S2048x128 .f32} {x5 : Vec Ideal S2048x128 .bf16}

theorem zero_off2 : ∀ a : Fin 2, (![0, 0] : Fin 2 → ℕ) a = 0 := fun a => match a with | ⟨0, _⟩ => rfl | ⟨1, _⟩ => rfl

/-- Each query's product of the output and its gradient. -/
theorem delta_eq (t : Fin 2048) : (View.canon (HS3_1 (F := Ideal) c arg5 harg5 arg6 harg6 x4 x5) (ix2 t 0) : EReal)
    = ∑ e : Fin 128, (x4 (ix2 t e) : EReal) * x5 (ix2 t e) := by
  unfold HS3_1
  rw [View.canon_cons_unit_lit _ _ _ zero_off2]
  unfold v53 v50 v49 v48 v47 v46 v45 v44
  rw [shapeCast_self, shapeCast_self, shapeCast_self]
  rw [broadcastTo_apply (k := ix2 t 0) (hk := fun ax => match ax with | ⟨0, _⟩ => rfl | ⟨1, _⟩ => rfl)]
  refine (shapeCast_a_a1_apply _ _ _ _).trans ((Ideal.multiReduction_add_single _ _ _ _ _ _).trans ?_)
  refine Finset.sum_congr rfl fun e _ => ?_
  rw [View.readAt_eq_ld, View.readAt_eq_ld, View.ld_unit_lit _ _ zero_off2, View.ld_unit_lit _ _ zero_off2,
    harg5.read_unread, harg6.read_unread]
  have hi : ∀ h : S2048x128.Reduces [1] S2048, h.lift (ix1 t) e = ix2 t e := fun h => by
    funext a
    apply Fin.ext
    match a with
    | ⟨0, _⟩ => rfl
    | ⟨1, _⟩ => rfl
  show (x4 (Shape.Reduces.lift _ (ix1 t) e) : EReal) * x5 (Shape.Reduces.lift _ (ix1 t) e) = _
  rw [hi]
  rfl

theorem off_eq : ∀ h : Fin 16, (Scalar.indexCast (BitVec.ofNat 32 h.val)).toNat = h.val := by decide

/-- The head's slope. -/
theorem r_eq : (kernelRun0_A.sl.r (F := Ideal) c i arg1 harg1 x0 : EReal) = x0 (ix1 (i 0)) := by
  unfold kernelRun0_A.sl.r
  rw [View.readAt_eq_ld, harg1.read_unread]
  refine congrArg x0 (funext fun a => Fin.ext ?_)
  match a with
  | ⟨0, _⟩ =>
    exact (Nat.add_zero _).trans (off_eq (i 0))

theorem toInt_rows (a b : ℕ) (ha : a < 128) (hb : b < 256) :
    (IntOp.subi (IntOp.addi 128#32 (BitVec.ofNat 32 a)) (BitVec.ofNat 32 b)).toInt = 128 + (a : ℤ) - b := by
  show ((128#32 + BitVec.ofNat 32 a) - BitVec.ofNat 32 b).toInt = _
  rw [show (128#32 : BitVec 32) = BitVec.ofNat 32 128 from rfl, ← BitVec.ofNat_add, BitVec.toInt_sub,
    WordCmp.toInt_ofNat_of_lt (by omega), WordCmp.toInt_ofNat_of_lt (by omega), Int.bmod_def]
  omega

theorem pay4_toInt (a : Fin 128) (b : Fin 256) : (k0_pay4 (ix2 a b)).toInt = 128 + (a.val : ℤ) - b.val := by
  unfold k0_pay4
  show (IntOp.subi (IntOp.addi 128#32 (iota .tc S128x256 32 [0] _ (ix2 a b))) (iota .tc S128x256 32 [1] _ (ix2 a b))).toInt = _
  rw [iota_single_apply, iota_single_apply]
  exact toInt_rows a.val b.val a.isLt b.isLt

theorem pay5_iff (a : Fin 128) (b : Fin 256) : k0_pay5 (ix2 a b) = 1#1 ↔ (b.val ≤ 128 + a.val ∧ a.val ≤ b.val) := by
  unfold k0_pay5
  show IntOp.andi (IntOp.cmpi .sge (k0_pay4 (ix2 a b)) 0#32) (IntOp.cmpi .sle (k0_pay4 (ix2 a b)) 128#32) = 1#1 ↔ _
  rw [IntOp.andi_eq_one, IntOp.cmpi_sge, IntOp.cmpi_sle, pay4_toInt, show (0#32 : BitVec 32).toInt = 0 from rfl,
    show (128#32 : BitVec 32).toInt = 128 from rfl]
  omega

/-- A group's bias at distance `n`, of slope `r` and spacing `d`. -/
def bias (r : EReal) (d : ℝ) (n : ℕ) : EReal := (0 - r * (d : EReal)) * ((n : ℝ) : EReal)

/-- A group's block of biases. -/
theorem bias_at (r : EReal) (w : BitVec 32) (d : ℝ) (hd : Ideal.ofBits .f32 w = (d : EReal)) (a : Fin 128) (b : Fin 256) :
    (Scalar.select (k0_pay5 (ix2 a b))
        (FloatOps.mulf (F := Ideal) (φ := .f32) (FloatOps.subf (F := Ideal) (φ := .f32) (FloatOps.ofBits .f32 0x00000000#32)
          (FloatOps.mulf (F := Ideal) (φ := .f32) r (FloatOps.ofBits .f32 w))) (FloatOps.sitofp .f32 (k0_pay4 (ix2 a b))))
        (Named.named (F := Ideal) κ "mask" (φ := .f32) 0xF149F2CA#32) : EReal)
      = if b.val ≤ 128 + a.val ∧ a.val ≤ b.val then bias r d (128 + a.val - b.val) else ⊥ := by
  by_cases h : b.val ≤ 128 + a.val ∧ a.val ≤ b.val
  · rw [if_pos h, (pay5_iff a b).mpr h]
    show FloatOps.mulf (F := Ideal) (φ := .f32) _ (((k0_pay4 (ix2 a b)).toInt : ℝ) : EReal) = _
    rw [pay4_toInt, Ideal.mulf_def, Ideal.subf_def, Ideal.mulf_def]
    show ((Ideal.ofBits .f32 0x00000000#32 : EReal) - r * (Ideal.ofBits .f32 w : EReal)) * _ = _
    rw [Ideal.ofBits_zero_f32, hd]
    unfold bias
    rw [show (128 + (a.val : ℤ) - b.val) = ((128 + a.val - b.val : ℕ) : ℤ) by omega]
    rfl
  · rw [if_neg h]
    have zero : ∀ w : BitVec 1, ¬ w = 1#1 → w = 0#1 := by decide
    rw [zero _ fun h' => h ((pay5_iff a b).mp h')]
    exact IdealRules.named_const.ideal_named_scalar _ _ _ _ rfl

theorem one_f32 : Ideal.ofBits .f32 0x3F800000#32 = ((1 : ℝ) : EReal) := by
  simp [Ideal.ofBits, Ideal.ieee, -EReal.coe_mul]; norm_num
theorem four_f32 : Ideal.ofBits .f32 0x40800000#32 = ((4 : ℝ) : EReal) := by
  simp [Ideal.ofBits, Ideal.ieee, -EReal.coe_mul]; norm_num
theorem sixteen_f32 : Ideal.ofBits .f32 0x41800000#32 = ((16 : ℝ) : EReal) := by
  simp [Ideal.ofBits, Ideal.ieee, -EReal.coe_mul]; norm_num

theorem pay6_at (r : EReal) (a : Fin 128) (b : Fin 256) : (k0_pay6 (F := Ideal) r (ix3 0 a b) : EReal)
    = if b.val ≤ 128 + a.val ∧ a.val ≤ b.val then bias r 1 (128 + a.val - b.val) else ⊥ := by
  unfold k0_pay6
  refine (shapeCast_ab_1ab_apply _ _ _ _ _).trans ?_
  exact bias_at r _ _ one_f32 a b
theorem pay7_at (r : EReal) (a : Fin 128) (b : Fin 256) : (k0_pay7 (F := Ideal) r (ix3 0 a b) : EReal)
    = if b.val ≤ 128 + a.val ∧ a.val ≤ b.val then bias r 4 (128 + a.val - b.val) else ⊥ := by
  unfold k0_pay7
  refine (shapeCast_ab_1ab_apply _ _ _ _ _).trans ?_
  exact bias_at r _ _ four_f32 a b
theorem pay8_at (r : EReal) (a : Fin 128) (b : Fin 256) : (k0_pay8 (F := Ideal) r (ix2 a b) : EReal)
    = if b.val ≤ 128 + a.val ∧ a.val ≤ b.val then bias r 16 (128 + a.val - b.val) else ⊥ :=
  bias_at r _ _ sixteen_f32 a b

theorem plane_idx (g : Fin 3) (o : ℕ) (hg : g.val = o) (inb : ∀ a, (![o, 0, 0] : Fin 3 → ℕ) a + S1x128x256.size a ≤ S3x128x256.size a)
    (a : Fin 128) (b : Fin 256) :
    (ix3 g a b : S3x128x256.Idx) = (Rect.unit (s := S3x128x256) ![o, 0, 0] S1x128x256.size inb).emb (ix3 0 a b : S1x128x256.Idx) := by
  funext ax
  apply Fin.ext
  match ax with
  | ⟨0, _⟩ => show g.val = o + 1 * 0; omega
  | ⟨1, _⟩ => show a.val = 0 + 1 * a.val; omega
  | ⟨2, _⟩ => show b.val = 0 + 1 * b.val; omega

theorem plane_off (g : Fin 3) (o : ℕ) (hg : g.val ≠ o) (inb : ∀ a, (![o, 0, 0] : Fin 3 → ℕ) a + S1x128x256.size a ≤ S3x128x256.size a)
    (a : Fin 128) (b : Fin 256) : (ix3 g a b : S3x128x256.Idx) ∉ (Rect.unit (s := S3x128x256) ![o, 0, 0] S1x128x256.size inb).set := by
  intro hm
  rw [LoadRect.mem_set] at hm
  obtain ⟨j, hj, hj'⟩ := hm 0
  have hj1 : j < 1 := hj
  have e : g.val = o + 1 * j := hj'
  omega

/-- Three planes, stored one after the other. -/
theorem planes (inb2 : ∀ a, (![2, 0, 0] : Fin 3 → ℕ) a + S1x128x256.size a ≤ S3x128x256.size a)
    (inb1 : ∀ a, (![1, 0, 0] : Fin 3 → ℕ) a + S1x128x256.size a ≤ S3x128x256.size a)
    (inb0 : ∀ a, (![0, 0, 0] : Fin 3 → ℕ) a + S1x128x256.size a ≤ S3x128x256.size a)
    (w2 w1 w0 : S1x128x256.Idx → EReal) (L : List (Idealize.ShloMosaic.View.Piece (Elt Ideal) S3x128x256 .f32)) (g : Fin 3) (a : Fin 128) (b : Fin 256) :
    (View.canon (Val := Elt Ideal) (e := .f32) (⟨Rect.unit (s := S3x128x256) ![2, 0, 0] S1x128x256.size inb2, w2⟩ ::
        ⟨Rect.unit (s := S3x128x256) ![1, 0, 0] S1x128x256.size inb1, w1⟩ ::
        ⟨Rect.unit (s := S3x128x256) ![0, 0, 0] S1x128x256.size inb0, w0⟩ :: L) (ix3 g a b) : EReal)
      = if g.val = 2 then w2 (ix3 0 a b) else if g.val = 1 then w1 (ix3 0 a b) else w0 (ix3 0 a b) := by
  by_cases h2 : g.val = 2
  · rw [if_pos h2, plane_idx g 2 h2 inb2 a b]
    exact View.canon_cons_emb _ _ _ _
  · rw [if_neg h2]
    refine (View.canon_cons_of_not_mem (Val := Elt Ideal) (e := .f32) ⟨Rect.unit (s := S3x128x256) ![2, 0, 0] S1x128x256.size inb2, w2⟩ _ (plane_off g 2 h2 inb2 a b)).trans ?_
    by_cases h1 : g.val = 1
    · rw [if_pos h1, plane_idx g 1 h1 inb1 a b]
      exact View.canon_cons_emb _ _ _ _
    · rw [if_neg h1]
      refine (View.canon_cons_of_not_mem (Val := Elt Ideal) (e := .f32) ⟨Rect.unit (s := S3x128x256) ![1, 0, 0] S1x128x256.size inb1, w1⟩ _ (plane_off g 1 h1 inb1 a b)).trans ?_
      rw [plane_idx g 0 (by have := g.isLt; omega) inb0 a b]
      exact View.canon_cons_emb _ _ _ _

/-- The biases of the three groups. -/
theorem bias_eq (g : Fin 3) (a : Fin 128) (b : Fin 256) :
    (View.canon (HS4_3 (F := Ideal) c i arg1 harg1 x0) (ix3 g a b) : EReal)
      = if b.val ≤ 128 + a.val ∧ a.val ≤ b.val then bias (x0 (ix1 (i 0))) (4 ^ g.val) (128 + a.val - b.val) else ⊥ := by
  unfold HS4_3
  refine (planes _ _ _ _ _ _ _ g a b).trans ?_
  have h41 : (v41 (F := Ideal) c i arg1 harg1 x0 (ix3 0 a b) : EReal)
      = if b.val ≤ 128 + a.val ∧ a.val ≤ b.val then bias (x0 (ix1 (i 0))) 16 (128 + a.val - b.val) else ⊥ := by
    unfold v41
    refine (shapeCast_ab_1ab_apply _ _ _ _ _).trans ?_
    unfold r_1
    rw [r_eq]
    exact pay8_at _ a b
  rw [h41, r_eq, pay7_at, pay6_at]
  by_cases h2 : g.val = 2
  · rw [if_pos h2, h2]; norm_num
  · rw [if_neg h2]
    by_cases h1 : g.val = 1
    · rw [if_pos h1, h1]; norm_num
    · rw [if_neg h1, show g.val = 0 by have := g.isLt; omega]; norm_num

end Cert.Unit
-- ==== Proof.RefGrad.lean ====
/-
  The reference's gradients over real arguments, as the numbers of the rows (`Row.Data`).
-/
module

public import proofs.«01_k».proof.Proof.RefRow
public import Idealize.ShloMosaic.Lib.TwoAxisContraction

@[expose] public section

noncomputable section

namespace Cert.Ref

open Idealize.ShloMosaic Idealize.ShloMosaic.ValueIdx
open Cert.ReferenceIdeal Cert.ReferenceIdeal.Gen Cert.ReferenceIdeal.Read
open Cert.Unit (okN scale)
open scoped BigOperators

section Real

variable {x y : Ideal .f32} {a b : ℝ}

theorem mul_real (hx : x = (a : EReal)) (hy : y = (b : EReal)) : FloatOps.mulf x y = ((a * b : ℝ) : EReal) := by
  rw [hx, hy, Ideal.mulf_def, ← EReal.coe_mul]
theorem add_real (hx : x = (a : EReal)) (hy : y = (b : EReal)) : FloatOps.addf x y = ((a + b : ℝ) : EReal) := by
  rw [hx, hy, Ideal.addf_def, ← EReal.coe_add]
theorem quot_real (hx : x = (a : EReal)) (hy : y = (b : EReal)) (hb : b ≠ 0) :
    FloatOps.hostDivf x y = ((a / b : ℝ) : EReal) := by
  rw [hx, hy, Ideal.hostDivf_def, div_real hb]
theorem neg_real (hx : x = (a : EReal)) : FloatOps.hostNegf x = ((-a : ℝ) : EReal) := by
  rw [hx, Ideal.hostNegf_def, Ideal.negf_def, ← EReal.coe_neg]
theorem sum_real {ι : Type} [Fintype ι] {c : EReal} {f : ι → EReal} {g : ι → ℝ} (hc : c = 0) (h : ∀ k, f k = (g k : EReal)) :
    c + ∑ k, f k = ((∑ k, g k : ℝ) : EReal) := by
  rw [hc, zero_add, coe_sum]
  exact Finset.sum_congr rfl fun k _ => h k
theorem sum_one {c : EReal} {f : Fin 1 → EReal} {r : ℝ} (hc : c = 0) (h : f 0 = (r : EReal)) :
    c + ∑ k, f k = (r : EReal) := by
  rw [hc, zero_add, Fin.sum_univ_one, h]

end Real

variable (Q K V O : S2048x2048.Idx → ℝ)

theorem val130 (i : S3x2048x16x128.Idx) : val_main_v130 (F := Ideal) (co Q) (co K) (co O) i
    = (((rowD Q K V O (i 2) (i 1)).w (i 0) * (rowD Q K V O (i 2) (i 1)).od (i 3) : ℝ) : EReal) :=
  (val_main_v130_apply _ _ _ i).trans (mul_real ((val_main_v129_apply _ _ i).trans (val122 Q K V O _))
    ((val_main_v128_apply _ i).trans (val127 O _)))

theorem val132 (i : S3x2048x16.Idx) : val_main_v132 (F := Ideal) (co Q) (co K) (co V) (co O) i
    = (((rowD Q K V O (i 2) (i 1)).dd (i 0) : ℝ) : EReal) :=
  (val_main_v132_apply _ _ _ _ i).trans (sum_real zero_f32 fun k => (val_main_v131_apply _ _ _ _ _).trans
    (mul_real ((val_main_v128_apply _ _).trans (val127 O _)) (val86 Q K V O _)))

theorem idx133 (i : S3x2048x16x1.Idx) : idx_main_v133 i = ix3 (i 0) (i 1) (i 2) := by
  have h0 : (i 0).val < 3 := (i 0).isLt
  have h1 : (i 1).val < 2048 := (i 1).isLt
  have h2 : (i 2).val < 16 := (i 2).isLt
  have h3 : (i 3).val < 1 := (i 3).isLt
  funext a
  apply Fin.ext
  match a with
  | ⟨0, _⟩ => show (((((i 0).val * 2048 + (i 1).val) * 16 + (i 2).val) * 1 + (i 3).val) / 32768) = (i 0).val; omega
  | ⟨1, _⟩ => show (((((i 0).val * 2048 + (i 1).val) * 16 + (i 2).val) * 1 + (i 3).val) / 16 % 2048) = (i 1).val; omega
  | ⟨2, _⟩ => show (((((i 0).val * 2048 + (i 1).val) * 16 + (i 2).val) * 1 + (i 3).val) % 16) = (i 2).val; omega

theorem val135 (i : S3x16x2048.Idx) : val_main_v135 (F := Ideal) (co Q) (co K) (co V) (co O) i
    = (((rowD Q K V O (i 1) (i 2)).dd (i 0) : ℝ) : EReal) :=
  (val_main_v135_apply _ _ _ _ i).trans ((val_main_v134_apply _ _ _ _ _).trans (sum_one zero_f32
    ((val_main_v133_apply _ _ _ _ _).trans ((congrArg _ (idx133 _)).trans (val132 Q K V O _)))))

theorem val120 (i : S1x16x2048.Idx) : val_main_v120 (F := Ideal) (co Q) (co K) i
    = ((1 / ((rowD Q K V O (i 1) (i 2)).S * (rowD Q K V O (i 1) (i 2)).S) : ℝ) : EReal) :=
  (val_main_v120_apply _ _ i).trans (quot_real ((val_main_v119_apply i).trans one_f32)
    ((val_main_v118_apply _ _ i).trans (mul_real (val115 Q K V O i) (val115 Q K V O i)))
    (mul_ne_zero (S_ne Q K V O _ _) (S_ne Q K V O _ _)))

theorem val138 (i : S3x16x2048.Idx) : val_main_v138 (F := Ideal) (co Q) (co K) (co V) (co O) i
    = (((rowD Q K V O (i 1) (i 2)).dd (i 0) * (1 / ((rowD Q K V O (i 1) (i 2)).S * (rowD Q K V O (i 1) (i 2)).S))
        * (rowD Q K V O (i 1) (i 2)).x (i 0) : ℝ) : EReal) :=
  (val_main_v138_apply _ _ _ _ i).trans (mul_real ((val_main_v137_apply _ _ _ _ i).trans
    (mul_real (val135 Q K V O i) ((val_main_v136_apply _ _ i).trans (val120 Q K V O _)))) (val113 Q K V O i))

theorem val139 (i : S16x2048.Idx) : val_main_v139 (F := Ideal) (co Q) (co K) (co V) (co O) i
    = ((∑ g, (rowD Q K V O (i 0) (i 1)).dd g * (1 / ((rowD Q K V O (i 0) (i 1)).S * (rowD Q K V O (i 0) (i 1)).S))
        * (rowD Q K V O (i 0) (i 1)).x g : ℝ) : EReal) :=
  (val_main_v139_apply _ _ _ _ i).trans (sum_real zero_f32 fun _ => val138 Q K V O _)

theorem idx140 (i : S1x16x2048.Idx) : idx_main_v140 i = ix2 (i 1) (i 2) := by
  have h0 : (i 0).val < 1 := (i 0).isLt
  have h1 : (i 1).val < 16 := (i 1).isLt
  have h2 : (i 2).val < 2048 := (i 2).isLt
  funext a
  apply Fin.ext
  match a with
  | ⟨0, _⟩ => show ((((i 0).val * 16 + (i 1).val) * 2048 + (i 2).val) / 2048) = (i 1).val; omega
  | ⟨1, _⟩ => show ((((i 0).val * 16 + (i 1).val) * 2048 + (i 2).val) % 2048) = (i 2).val; omega

theorem val145 (i : S3x16x2048.Idx) : val_main_v145 (F := Ideal) (co Q) (co K) (co V) (co O) i
    = ((-(∑ g, (rowD Q K V O (i 1) (i 2)).dd g * (1 / ((rowD Q K V O (i 1) (i 2)).S * (rowD Q K V O (i 1) (i 2)).S))
        * (rowD Q K V O (i 1) (i 2)).x g) : ℝ) : EReal) :=
  (val_main_v145_apply _ _ _ _ i).trans ((val_main_v144_apply _ _ _ _ _).trans (sum_one zero_f32
    ((val_main_v141_apply _ _ _ _ _).trans (neg_real ((val_main_v140_apply _ _ _ _ _).trans
      ((congrArg _ (idx140 _)).trans (val139 Q K V O _)))))))

theorem val147 (i : S3x16x2048.Idx) : val_main_v147 (F := Ideal) (co Q) (co K) (co V) (co O) i
    = (((rowD Q K V O (i 1) (i 2)).dL (i 0) : ℝ) : EReal) :=
  (val_main_v147_apply _ _ _ _ i).trans (mul_real ((val_main_v146_apply _ _ _ _ i).trans
    (add_real ((val_main_v143_apply _ _ _ _ i).trans (quot_real (val135 Q K V O i)
      ((val_main_v142_apply _ _ i).trans (val115 Q K V O _)) (S_ne Q K V O _ _))) (val145 Q K V O i))) (val113 Q K V O i))

theorem val152 (i : S3x2048x16x128.Idx) : val_main_v152 (F := Ideal) (co Q) (co K) (co V) (co O) i
    = (((rowD Q K V O (i 2) (i 1)).w (i 0) * (rowD Q K V O (i 2) (i 1)).od (i 3)
        * (1 / ((rowD Q K V O (i 2) (i 1)).l (i 0) * (rowD Q K V O (i 2) (i 1)).l (i 0)))
        * (rowD Q K V O (i 2) (i 1)).o (i 0) (i 3) : ℝ) : EReal) :=
  (val_main_v152_apply _ _ _ _ i).trans (mul_real ((val_main_v151_apply _ _ _ i).trans (mul_real (val130 Q K V O i)
    ((val_main_v150_apply _ _ i).trans ((val_main_v89_apply _ _ _).trans (quot_real ((val_main_v88_apply _).trans one_f32)
      ((val_main_v87_apply _ _ _).trans (mul_real (val84 Q K V O _) (val84 Q K V O _)))
      (mul_ne_zero (l_ne Q K V O _ _ _) (l_ne Q K V O _ _ _))))))) (val82 Q K V O i))

theorem val153 (i : S3x2048x16.Idx) : val_main_v153 (F := Ideal) (co Q) (co K) (co V) (co O) i
    = ((∑ j, (rowD Q K V O (i 2) (i 1)).w (i 0) * (rowD Q K V O (i 2) (i 1)).od j
        * (1 / ((rowD Q K V O (i 2) (i 1)).l (i 0) * (rowD Q K V O (i 2) (i 1)).l (i 0)))
        * (rowD Q K V O (i 2) (i 1)).o (i 0) j : ℝ) : EReal) :=
  (val_main_v153_apply _ _ _ _ i).trans (sum_real zero_f32 fun _ => val152 Q K V O _)

theorem val159 (i : S3x16x2048.Idx) : val_main_v159 (F := Ideal) (co Q) (co K) (co V) (co O) i
    = ((-(∑ j, (rowD Q K V O (i 1) (i 2)).w (i 0) * (rowD Q K V O (i 1) (i 2)).od j
        * (1 / ((rowD Q K V O (i 1) (i 2)).l (i 0) * (rowD Q K V O (i 1) (i 2)).l (i 0)))
        * (rowD Q K V O (i 1) (i 2)).o (i 0) j) : ℝ) : EReal) :=
  (val_main_v159_apply _ _ _ _ i).trans ((val_main_v158_apply _ _ _ _ _).trans (sum_one zero_f32
    ((val_main_v155_apply _ _ _ _ _).trans (neg_real ((val_main_v154_apply _ _ _ _ _).trans
      ((congrArg _ (idx133 _)).trans (val153 Q K V O _)))))))

theorem val157 (i : S3x2048x16x128.Idx) : val_main_v157 (F := Ideal) (co Q) (co K) (co O) i
    = (((rowD Q K V O (i 2) (i 1)).w (i 0) * (rowD Q K V O (i 2) (i 1)).od (i 3)
        / (rowD Q K V O (i 2) (i 1)).l (i 0) : ℝ) : EReal) :=
  (val_main_v157_apply _ _ _ i).trans (quot_real (val130 Q K V O i) ((val_main_v156_apply _ _ i).trans (val84 Q K V O _))
    (l_ne Q K V O _ _ _))

theorem val161 (i : S16x128x3x2048.Idx) : val_main_v161 (F := Ideal) (co Q) (co K) (co O) i
    = (((rowD Q K V O (i 0) (i 3)).w (i 2) * (rowD Q K V O (i 0) (i 3)).od (i 1)
        / (rowD Q K V O (i 0) (i 3)).l (i 2) : ℝ) : EReal) :=
  (val_main_v161_apply _ _ _ i).trans (val157 Q K V O _)

theorem val163 (i : S3x16x2048x2048.Idx) : val_main_v163 (F := Ideal) (co Q) (co K) (co V) (co O) i
    = ((∑ j, (rowD Q K V O (i 1) (i 2)).w (i 0) * (rowD Q K V O (i 1) (i 2)).od j
        / (rowD Q K V O (i 1) (i 2)).l (i 0) * (rowD Q K V O (i 1) (i 2)).v (i 3) j : ℝ) : EReal) := by
  refine (val_main_v163_apply _ _ _ _ i).trans ((val_main_v162_apply _ _ _ _ _).trans ?_)
  refine (zero_add _).symm.trans (sum_real rfl fun k => ?_)
  exact mul_real (val161 Q K V O _) (val2 V _)

theorem val168 (i : S3x16x2048x2048.Idx) : val_main_v168 (F := Ideal) (co Q) (co K) (co V) (co O) i
    = (((rowD Q K V O (i 1) (i 2)).ds (i 0) (i 3) : ℝ) : EReal) :=
  (val_main_v168_apply _ _ _ _ i).trans (mul_real ((val_main_v167_apply _ _ _ _ i).trans
    (add_real (val163 Q K V O i) ((val_main_v166_apply _ _ _ _ i).trans ((val_main_v160_apply _ _ _ _ _).trans
      (add_real ((val_main_v148_apply _ _ _ _ _).trans (quot_real (val147 Q K V O _) (val80 Q K V O _) (l_ne Q K V O _ _ _)))
        (val159 Q K V O _)))))) (val79 Q K V O i))

theorem val170 (i : S3x16x2048.Idx) : val_main_v170 (F := Ideal) (co Q) (co K) (co V) (co O) i
    = ((∑ u, -(rowD Q K V O (i 1) (i 2)).ds (i 0) u : ℝ) : EReal) :=
  (val_main_v170_apply _ _ _ _ i).trans (sum_real zero_f32 fun _ => (val_main_v169_apply _ _ _ _ _).trans
    (neg_real (val168 Q K V O _)))

theorem idx171 (i : S3x16x2048x1.Idx) : idx_main_v171 i = ix3 (i 0) (i 1) (i 2) := by
  have h0 : (i 0).val < 3 := (i 0).isLt
  have h1 : (i 1).val < 16 := (i 1).isLt
  have h2 : (i 2).val < 2048 := (i 2).isLt
  have h3 : (i 3).val < 1 := (i 3).isLt
  funext a
  apply Fin.ext
  match a with
  | ⟨0, _⟩ => show (((((i 0).val * 16 + (i 1).val) * 2048 + (i 2).val) * 1 + (i 3).val) / 32768) = (i 0).val; omega
  | ⟨1, _⟩ => show (((((i 0).val * 16 + (i 1).val) * 2048 + (i 2).val) * 1 + (i 3).val) / 2048 % 16) = (i 1).val; omega
  | ⟨2, _⟩ => show (((((i 0).val * 16 + (i 1).val) * 2048 + (i 2).val) * 1 + (i 3).val) % 2048) = (i 2).val; omega

/-- Nothing passes through a group's maximum. -/
theorem val173 (i : S3x16x2048.Idx) : val_main_v173 (F := Ideal) (co Q) (co K) (co V) (co O) i = ((0 : ℝ) : EReal) := by
  have h : val_main_v173 (F := Ideal) (co Q) (co K) (co V) (co O) i
      = (((rowD Q K V O (i 1) (i 2)).dL (i 0) + ∑ u, -(rowD Q K V O (i 1) (i 2)).ds (i 0) u : ℝ) : EReal) :=
    (val_main_v173_apply _ _ _ _ i).trans (sum_one zero_f32 ((val_main_v172_apply _ _ _ _ _).trans
      (add_real ((val_main_v149_apply _ _ _ _ _).trans (val147 Q K V O _)) ((val_main_v171_apply _ _ _ _ _).trans
        ((congrArg _ (idx171 _)).trans (val170 Q K V O _))))))
  rw [h]
  exact congrArg _ (Row.Data.through_max (ok_ex Q K V O (i 1) (i 2)) (i 0))

/-- A fold of the maximum over a finite type that is not empty is attained. -/
theorem fold_max_attained {ι : Type} [Fintype ι] [Nonempty ι] (f : ι → EReal) :
    ∃ x, f x = Finset.univ.fold max (⊥ : EReal) f := by
  obtain ⟨x, hx⟩ := Finite.exists_max f
  refine ⟨x, le_antisymm ?_ ?_⟩
  · rw [Finset.le_fold_max]
    exact .inr ⟨x, Finset.mem_univ x, le_rfl⟩
  · rw [Finset.fold_max_le]
    exact ⟨bot_le, fun y _ => hx y⟩

theorem reduce_max_attained {s t u : Shape} {a : Fin s.rank} (x : FVec Ideal s .f32) (init : FVec Ideal u .f32)
    (h' : s.ReducesTo [a] t) (h : s.Reduces [a] t) (hu : 0 < u.numel) (j : t.Idx)
    (hi : init (Shape.Idx.first hu) = (⊥ : EReal)) [Nonempty (Fin (s.size a))] :
    ∃ k : Fin (s.size a), x (h.lift j k)
      = (Host.reduce (FloatOps.maximumf (F := Ideal) (φ := .f32)) x init h' hu j : EReal) := by
  rw [Host.reduce_eq_fold_single (f := FloatOps.maximumf (F := Ideal) (φ := .f32)) (h := h), hi]
  exact fold_max_attained (fun k => x (h.lift j k))

theorem idx71 (i : S3x16x2048x1.Idx) : idx_main_v71 i = ix3 (i 0) (i 1) (i 2) := by
  have h0 : (i 0).val < 3 := (i 0).isLt
  have h1 : (i 1).val < 16 := (i 1).isLt
  have h2 : (i 2).val < 2048 := (i 2).isLt
  have h3 : (i 3).val < 1 := (i 3).isLt
  funext a
  apply Fin.ext
  match a with
  | ⟨0, _⟩ => show (((((i 0).val * 16 + (i 1).val) * 2048 + (i 2).val) * 1 + (i 3).val) / 32768) = (i 0).val; omega
  | ⟨1, _⟩ => show (((((i 0).val * 16 + (i 1).val) * 2048 + (i 2).val) * 1 + (i 3).val) / 2048 % 16) = (i 1).val; omega
  | ⟨2, _⟩ => show (((((i 0).val * 16 + (i 1).val) * 2048 + (i 2).val) * 1 + (i 3).val) % 2048) = (i 2).val; omega

/-- Whether a score is its row's maximum, as a number. -/
def tie (i : S3x16x2048x2048.Idx) : ℝ := ((val_main_v73 (F := Ideal) (co Q) (co K) i).toNat : ℝ)

theorem val74 (i : S3x16x2048x2048.Idx) : val_main_v74 (F := Ideal) (co Q) (co K) i = (tie Q K i : EReal) := rfl

theorem tie_one (i : S3x16x2048x2048.Idx)
    (h : val_main_v68 (F := Ideal) (co Q) (co K) i = val_main_v70 (F := Ideal) (co Q) (co K) (ix3 (i 0) (i 1) (i 2))) :
    tie Q K i = 1 := by
  have h72 : val_main_v72 (F := Ideal) (co Q) (co K) i = val_main_v70 (F := Ideal) (co Q) (co K) (ix3 (i 0) (i 1) (i 2)) :=
    (val_main_v72_apply _ _ i).trans ((val_main_v71_apply _ _ _).trans (congrArg _ (idx71 _)))
  have h73 : val_main_v73 (F := Ideal) (co Q) (co K) i = 1#1 := by
    rw [val_main_v73_apply, h72, h, Ideal.cmpf_def]
    unfold Ideal.cmp
    simp
  unfold tie
  rw [h73]
  simp

include V O in
/-- A row's maximum is attained. -/
theorem count_ne (i : S3x16x2048.Idx) : ∃ r : ℝ, r ≠ 0 ∧ val_main_v75 (F := Ideal) (co Q) (co K) i = (r : EReal) := by
  refine ⟨_, ?_, (val_main_v75_apply _ _ i).trans (sum_real zero_f32 fun k => val74 Q K _)⟩
  have h : S3x16x2048x2048.Reduces [3] S3x16x2048 := by decide
  have ha : ∃ k : Fin 2048, tie Q K (idx_main_v75 i k) = 1 := by
    have hm : ∃ k : Fin 2048, val_main_v68 (F := Ideal) (co Q) (co K) (idx_main_v75 i k)
        = val_main_v70 (F := Ideal) (co Q) (co K) i := by
      unfold val_main_v70
      generalize val_main_v68 (F := Ideal) (co Q) (co K) = y
      obtain ⟨k, hk⟩ := @reduce_max_attained _ _ _ _ y (val_main_cst_17 (F := Ideal)) reducesTo_S3x16x2048x2048_S3x16x2048_d3
        h h_S_ i neg_inf ⟨(0 : Fin 2048)⟩
      refine ⟨k, Eq.trans (congrArg y ?_) hk⟩
      funext a
      apply Fin.ext
      match a with
      | ⟨0, _⟩ => rfl
      | ⟨1, _⟩ => rfl
      | ⟨2, _⟩ => rfl
      | ⟨3, _⟩ => rfl
    obtain ⟨k, hk⟩ := hm
    exact ⟨k, tie_one Q K _ (hk.trans (congrArg _ (eq_ix3 i)))⟩
  obtain ⟨k, hk⟩ := ha
  have hle : tie Q K (idx_main_v75 i k) ≤ ∑ k, tie Q K (idx_main_v75 i k) :=
    Finset.single_le_sum (f := fun k => tie Q K (idx_main_v75 i k)) (fun _ _ => Nat.cast_nonneg _) (Finset.mem_univ k)
  rw [hk] at hle
  exact (lt_of_lt_of_le one_pos hle).ne'

theorem val176 (i : S3x16x2048x2048.Idx) : val_main_v176 (F := Ideal) (co Q) (co K) (co V) (co O) i = ((0 : ℝ) : EReal) := by
  have h174 : ∀ j, val_main_v174 (F := Ideal) (co Q) (co K) (co V) (co O) j = ((0 : ℝ) : EReal) := fun j => by
    obtain ⟨r, hr, h75⟩ := count_ne Q K V O j
    have h := (val_main_v174_apply _ _ _ _ j).trans (quot_real (val173 Q K V O j) h75 hr)
    rw [zero_div] at h
    exact h
  have h := (val_main_v176_apply _ _ _ _ i).trans (mul_real ((val_main_v175_apply _ _ _ _ i).trans (h174 _)) (val74 Q K i))
  rw [zero_mul] at h
  exact h

/-- The gradient of the scores of one group. -/
theorem val179 (i : S3x16x2048x2048.Idx) : val_main_v179 (F := Ideal) (co Q) (co K) (co V) (co O) i
    = (((rowD Q K V O (i 1) (i 2)).ds (i 0) (i 3) : ℝ) : EReal) := by
  have h177 := (val_main_v177_apply _ _ _ _ i).trans (add_real (val168 Q K V O i) (val176 Q K V O i))
  rw [add_zero] at h177
  rw [val_main_v179_apply, val64, h177, val_main_v178_apply, val_main_cst_40_apply, zero_f32]
  by_cases h : okN (i 0).val (i 2).val (i 3).val
  · rw [if_pos h]; rfl
  · rw [if_neg h]
    have h0 : (rowD Q K V O (i 1) (i 2)).ds (i 0) (i 3) = 0 := by
      have he : (rowD Q K V O (i 1) (i 2)).e (i 0) (i 3) = 0 := if_neg h
      unfold Row.Data.ds
      rw [he, mul_zero]
    exact (congrArg (fun r : ℝ => (r : EReal)) h0).symm

/-- The gradient of the scores. -/
def dsum (h : Fin 16) (t u : Fin 2048) : ℝ := (∑ g, (rowD Q K V O h t).ds g u) * cS

theorem val184 (i : S16x2048x2048.Idx) : val_main_v184 (F := Ideal) (co Q) (co K) (co V) (co O) i
    = (dsum Q K V O (i 0) (i 1) (i 2) : EReal) :=
  (val_main_v184_apply _ _ _ _ i).trans (mul_real ((val_main_v182_apply _ _ _ _ i).trans (sum_one zero_f32
    ((val_main_v181_apply _ _ _ _ _).trans ((val_main_v180_apply _ _ _ _ _).trans (sum_real zero_f32 fun _ =>
      val179 Q K V O _))))) ((val_main_v183_apply i).trans scale_eq))

/-- The queries' gradient. -/
theorem val188 (i : S2048x16x128.Idx) : val_main_v188 (F := Ideal) (co Q) (co K) (co V) (co O) i
    = ((∑ u, dsum Q K V O (i 1) (i 0) u * K (ix2 u (col (i 1) (i 2))) : ℝ) : EReal) := by
  refine (val_main_v188_apply _ _ _ _ i).trans ((val_main_v187_apply _ _ _ _ _).trans ?_)
  exact (zero_add _).symm.trans (sum_real rfl fun k => mul_real (val184 Q K V O _) (val1 K _))

/-- The keys' gradient. -/
theorem val186 (i : S2048x16x128.Idx) : val_main_v186 (F := Ideal) (co Q) (co K) (co V) (co O) i
    = ((∑ t, dsum Q K V O (i 1) t (i 0) * Q (ix2 t (col (i 1) (i 2))) : ℝ) : EReal) := by
  refine (val_main_v186_apply _ _ _ _ i).trans ((val_main_v185_apply _ _ _ _ _).trans ?_)
  exact (zero_add _).symm.trans (sum_real rfl fun k => mul_real (val184 Q K V O _) (val0 Q _))

section Values

theorem lhs164_0 (i : S16x128x2048.Idx) (q : dot_S16x128x3x2048_S3x16x2048x2048_S16x128x2048_23_02_1_3_0_1.contr.Idx) :
    (dot_S16x128x3x2048_S3x16x2048x2048_S16x128x2048_23_02_1_3_0_1.lhsIdx i q 0).val = (i 0).val := by
  unfold DotDims.lhsIdx
  rw [dif_pos (show (0 : Fin S16x128x3x2048.rank) ∈ dot_S16x128x3x2048_S3x16x2048x2048_S16x128x2048_23_02_1_3_0_1.lhsBatch by decide)]
  rfl
theorem lhs164_1 (i : S16x128x2048.Idx) (q : dot_S16x128x3x2048_S3x16x2048x2048_S16x128x2048_23_02_1_3_0_1.contr.Idx) :
    (dot_S16x128x3x2048_S3x16x2048x2048_S16x128x2048_23_02_1_3_0_1.lhsIdx i q 1).val = (i 1).val := by
  unfold DotDims.lhsIdx
  rw [dif_neg (show ¬(1 : Fin S16x128x3x2048.rank) ∈ dot_S16x128x3x2048_S3x16x2048x2048_S16x128x2048_23_02_1_3_0_1.lhsBatch by decide),
    dif_pos (show (1 : Fin S16x128x3x2048.rank) ∈ dot_S16x128x3x2048_S3x16x2048x2048_S16x128x2048_23_02_1_3_0_1.lhsNonContracting by decide)]
  rfl
theorem lhs164_2 (i : S16x128x2048.Idx) (q : dot_S16x128x3x2048_S3x16x2048x2048_S16x128x2048_23_02_1_3_0_1.contr.Idx) :
    (dot_S16x128x3x2048_S3x16x2048x2048_S16x128x2048_23_02_1_3_0_1.lhsIdx i q 2).val = (q ⟨0, by decide⟩).val := by
  unfold DotDims.lhsIdx
  rw [dif_neg (show ¬(2 : Fin S16x128x3x2048.rank) ∈ dot_S16x128x3x2048_S3x16x2048x2048_S16x128x2048_23_02_1_3_0_1.lhsBatch by decide),
    dif_neg (show ¬(2 : Fin S16x128x3x2048.rank) ∈ dot_S16x128x3x2048_S3x16x2048x2048_S16x128x2048_23_02_1_3_0_1.lhsNonContracting by decide)]
  rfl
theorem lhs164_3 (i : S16x128x2048.Idx) (q : dot_S16x128x3x2048_S3x16x2048x2048_S16x128x2048_23_02_1_3_0_1.contr.Idx) :
    (dot_S16x128x3x2048_S3x16x2048x2048_S16x128x2048_23_02_1_3_0_1.lhsIdx i q 3).val = (q ⟨1, by decide⟩).val := by
  unfold DotDims.lhsIdx
  rw [dif_neg (show ¬(3 : Fin S16x128x3x2048.rank) ∈ dot_S16x128x3x2048_S3x16x2048x2048_S16x128x2048_23_02_1_3_0_1.lhsBatch by decide),
    dif_neg (show ¬(3 : Fin S16x128x3x2048.rank) ∈ dot_S16x128x3x2048_S3x16x2048x2048_S16x128x2048_23_02_1_3_0_1.lhsNonContracting by decide)]
  rfl
theorem rhs164_0 (i : S16x128x2048.Idx) (q : dot_S16x128x3x2048_S3x16x2048x2048_S16x128x2048_23_02_1_3_0_1.contr.Idx) :
    (dot_S16x128x3x2048_S3x16x2048x2048_S16x128x2048_23_02_1_3_0_1.rhsIdx i q 0).val = (q ⟨0, by decide⟩).val := by
  unfold DotDims.rhsIdx
  rw [dif_neg (show ¬(0 : Fin S3x16x2048x2048.rank) ∈ dot_S16x128x3x2048_S3x16x2048x2048_S16x128x2048_23_02_1_3_0_1.rhsBatch by decide),
    dif_neg (show ¬(0 : Fin S3x16x2048x2048.rank) ∈ dot_S16x128x3x2048_S3x16x2048x2048_S16x128x2048_23_02_1_3_0_1.rhsNonContracting by decide)]
  rfl
theorem rhs164_1 (i : S16x128x2048.Idx) (q : dot_S16x128x3x2048_S3x16x2048x2048_S16x128x2048_23_02_1_3_0_1.contr.Idx) :
    (dot_S16x128x3x2048_S3x16x2048x2048_S16x128x2048_23_02_1_3_0_1.rhsIdx i q 1).val = (i 0).val := by
  unfold DotDims.rhsIdx
  rw [dif_pos (show (1 : Fin S3x16x2048x2048.rank) ∈ dot_S16x128x3x2048_S3x16x2048x2048_S16x128x2048_23_02_1_3_0_1.rhsBatch by decide)]
  rfl
theorem rhs164_2 (i : S16x128x2048.Idx) (q : dot_S16x128x3x2048_S3x16x2048x2048_S16x128x2048_23_02_1_3_0_1.contr.Idx) :
    (dot_S16x128x3x2048_S3x16x2048x2048_S16x128x2048_23_02_1_3_0_1.rhsIdx i q 2).val = (q ⟨1, by decide⟩).val := by
  unfold DotDims.rhsIdx
  rw [dif_neg (show ¬(2 : Fin S3x16x2048x2048.rank) ∈ dot_S16x128x3x2048_S3x16x2048x2048_S16x128x2048_23_02_1_3_0_1.rhsBatch by decide),
    dif_neg (show ¬(2 : Fin S3x16x2048x2048.rank) ∈ dot_S16x128x3x2048_S3x16x2048x2048_S16x128x2048_23_02_1_3_0_1.rhsNonContracting by decide)]
  rfl
theorem rhs164_3 (i : S16x128x2048.Idx) (q : dot_S16x128x3x2048_S3x16x2048x2048_S16x128x2048_23_02_1_3_0_1.contr.Idx) :
    (dot_S16x128x3x2048_S3x16x2048x2048_S16x128x2048_23_02_1_3_0_1.rhsIdx i q 3).val = (i 2).val := by
  unfold DotDims.rhsIdx
  rw [dif_neg (show ¬(3 : Fin S3x16x2048x2048.rank) ∈ dot_S16x128x3x2048_S3x16x2048x2048_S16x128x2048_23_02_1_3_0_1.rhsBatch by decide),
    dif_pos (show (3 : Fin S3x16x2048x2048.rank) ∈ dot_S16x128x3x2048_S3x16x2048x2048_S16x128x2048_23_02_1_3_0_1.rhsNonContracting by decide)]
  rfl

/-- The contraction over groups and queries. -/
theorem dot164 (y0 : FVec Ideal S16x128x3x2048 .f32) (y1 : FVec Ideal S3x16x2048x2048 .f32) (i : S16x128x2048.Idx) :
    Host.dotGeneral dot_S16x128x3x2048_S3x16x2048x2048_S16x128x2048_23_02_1_3_0_1 none y0 y1 i
      = ∑ g : Fin 3, ∑ t : Fin 2048, (y0 (ix4 (i 0) (i 1) g t) : EReal) * y1 (ix4 g (i 0) t (i 2)) := by
  simp only [Host.dotGeneral]
  rw [Ideal.dotGeneral_apply, sum_contr2 dot_S16x128x3x2048_S3x16x2048x2048_S16x128x2048_23_02_1_3_0_1 3 2048 rfl rfl rfl]
  refine Finset.sum_congr rfl fun g _ => Finset.sum_congr rfl fun t _ => ?_
  have h0 := contrEquiv2_symm_val0 dot_S16x128x3x2048_S3x16x2048x2048_S16x128x2048_23_02_1_3_0_1 3 2048 rfl rfl rfl (g, t)
  have h1 := contrEquiv2_symm_val1 dot_S16x128x3x2048_S3x16x2048x2048_S16x128x2048_23_02_1_3_0_1 3 2048 rfl rfl rfl (g, t)
  refine congrArg₂ (fun a b : EReal => a * b) (congrArg y0 (funext fun a => Fin.ext ?_)) (congrArg y1 (funext fun a => Fin.ext ?_))
  · match a with
    | ⟨0, _⟩ => exact lhs164_0 _ _
    | ⟨1, _⟩ => exact lhs164_1 _ _
    | ⟨2, _⟩ => exact (lhs164_2 _ _).trans h0
    | ⟨3, _⟩ => exact (lhs164_3 _ _).trans h1
  · match a with
    | ⟨0, _⟩ => exact (rhs164_0 _ _).trans h0
    | ⟨1, _⟩ => exact rhs164_1 _ _
    | ⟨2, _⟩ => exact (rhs164_2 _ _).trans h1
    | ⟨3, _⟩ => exact rhs164_3 _ _

/-- The values' gradient. -/
theorem val165 (i : S2048x16x128.Idx) : val_main_v165 (F := Ideal) (co Q) (co K) (co O) i
    = ((∑ g, ∑ t, (rowD Q K V O (i 1) t).p g (i 0) * (rowD Q K V O (i 1) t).od (i 2) : ℝ) : EReal) := by
  refine (val_main_v165_apply _ _ _ i).trans ((dot164 _ _ _).trans ?_)
  refine (zero_add _).symm.trans (sum_real rfl fun g => ?_)
  refine (zero_add _).symm.trans (sum_real rfl fun t => ?_)
  exact (mul_real (val161 Q K V O _) (val79 Q K V O _)).trans
    (congrArg _ (Row.Data.dv_eq (ok_ex Q K V O (i 1) t) g (i 0) (i 2)))

end Values

/-- The scores' gradient, with the joint log-sum-exp. -/
theorem dsum_eq (h : Fin 16) (t u : Fin 2048) : dsum Q K V O h t u = (∑ g, (rowD Q K V O h t).p g u
    * ((∑ e, (rowD Q K V O h t).od e * (rowD Q K V O h t).v u e)
      - ∑ e, (rowD Q K V O h t).od e * (rowD Q K V O h t).out e)) * cS := by
  unfold dsum
  exact congrArg (· * cS) (Finset.sum_congr rfl fun g _ => Row.Data.ds_eq (ok_ex Q K V O h t) g u)

end Cert.Ref
-- ==== Proof.BodySum.lean ====
/-
  One head of the kernel's body over real arguments: what its three scratch arrays of gradients hold at the end are the
  sums over the groups' attended pairs that the reference's gradients are.
-/
module

public import proofs.«01_k».proof.Proof.BodyRead
public import proofs.«01_k».proof.Proof.UnitSum
public import proofs.«01_k».proof.Proof.RefGrad

@[expose] public section

noncomputable section

namespace Cert.Body

open Idealize.ShloMosaic Idealize.ShloMosaic.ValueIdx
open Cert.Unit Cert.Ref
open scoped BigOperators

abbrev Win := (⟨2, ![2048, 128]⟩ : Shape).Idx → EReal

variable (Q K V O : (⟨2, ![2048, 2048]⟩ : Shape).Idx → ℝ) (h : Fin 16)

/-- The kernel's blocks of head `h`: the head's columns of the arguments, the head's part of the output and the
    queries' joint log-sum-exps. -/
structure Blocks (r : EReal) (x1 x2 x3 x4 x5 x6 : Win) : Prop where
  r : r = (slope h : EReal)
  q : ∀ t e, x1 (ix2 t e) = (Q (ix2 t (col h e)) : EReal)
  k : ∀ t e, x2 (ix2 t e) = (K (ix2 t (col h e)) : EReal)
  v : ∀ t e, x3 (ix2 t e) = (V (ix2 t (col h e)) : EReal)
  o : ∀ t e, x4 (ix2 t e) = (O (ix2 t (col h e)) : EReal)
  out : ∀ t e, x5 (ix2 t e) = ((rowD Q K V O h t).out e : EReal)
  lse : ∀ t e, x6 (ix2 t e) = ((rowD Q K V O h t).lse : EReal)

variable {Q K V O h} {r : EReal} {x1 x2 x3 x4 x5 x6 : Win}
  {L3 : List (View.Piece (Elt Ideal) (⟨2, ![2048, 128]⟩ : Shape) .f32)}
  {L4 : List (View.Piece (Elt Ideal) (⟨3, ![3, 128, 256]⟩ : Shape) .f32)}
  (B : Blocks Q K V O h r x1 x2 x3 x4 x5 x6)
  (h3 : ∀ t : Fin 2048, (View.canon L3 (ix2 t 0) : EReal) = ∑ e, x4 (ix2 t e) * x5 (ix2 t e))
  (h4 : ∀ (g : Fin 3) (a : Fin 128) (b : Fin 256), (View.canon L4 (ix3 g a b) : EReal)
    = if b.val ≤ 128 + a.val ∧ a.val ≤ b.val then bias r (4 ^ g.val) (128 + a.val - b.val) else ⊥)

/-- The bias of group `g` at a distance counted in its spacing. -/
def beta (r : EReal) (g n : ℕ) : EReal := bias r (4 ^ g) n

include h4 in
theorem b_eq (g i j : ℕ) (hg : g < 3) (hi : i < 128) (hj : j < 256) :
    (arr x1 x2 x3 x4 x6 L3 L4).b g i j = if j ≤ 128 + i ∧ i ≤ j then beta r g (128 + i - j) else ⊥ := by
  show (if h : g < 3 ∧ i < 128 ∧ j < 256 then _ else _) = _
  rw [dif_pos ⟨hg, hi, hj⟩]
  exact h4 ⟨g, hg⟩ ⟨i, hi⟩ ⟨j, hj⟩

include B in
theorem P_eq (g : Fin 3) (t u : Fin 2048) :
    P (arr x1 x2 x3 x4 x6 L3 L4) (beta r) g.val t.val u.val = ((rowD Q K V O h t).p g u : EReal) := by
  unfold P Row.Data.p
  by_cases hk : okN g.val t.val u.val
  · rw [if_pos hk, if_pos (show (rowD Q K V O h t).ok g u from hk)]
    have hq : ∀ e, (arr x1 x2 x3 x4 x6 L3 L4).q t.val e = (Q (ix2 t (col h e)) : EReal) := fun e =>
      (at2_of_lt x1 t e).trans (B.q t e)
    have hkk : ∀ e, (arr x1 x2 x3 x4 x6 L3 L4).k u.val e = (K (ix2 u (col h e)) : EReal) := fun e =>
      (at2_of_lt x2 u e).trans (B.k u e)
    have hl : (arr x1 x2 x3 x4 x6 L3 L4).lse t.val = ((rowD Q K V O h t).lse : EReal) :=
      (at2_of_lt x6 t 0).trans (B.lse t 0)
    have hb : beta r g.val ((t.val - u.val) / 4 ^ g.val) = ((-(slope h * ((t.val : ℝ) - u.val)) : ℝ) : EReal) := by
      unfold beta bias
      rw [B.r, zero_sub, ← EReal.coe_mul, ← EReal.coe_neg, ← EReal.coe_mul]
      congr 1
      obtain ⟨h1, h2, h3⟩ := hk
      have e1 : (4 ^ g.val) * ((t.val - u.val) / 4 ^ g.val) = t.val - u.val :=
        Nat.mul_div_cancel' (Nat.dvd_of_mod_eq_zero h3)
      have e2 : ((4 : ℝ) ^ g.val) * (((t.val - u.val) / 4 ^ g.val : ℕ) : ℝ) = (t.val : ℝ) - u.val := by
        rw [← Nat.cast_sub h1, ← e1]
        push_cast
        rw [e1]
      rw [← e2]
      ring
    simp only [hq, hkk]
    rw [hl, hb, scale_eq]
    simp only [← EReal.coe_mul]
    rw [← coe_sum, ← EReal.coe_mul, ← EReal.coe_add, ← EReal.coe_sub, Ideal.exp_coe]
    congr 2
  · rw [if_neg hk, if_neg (show ¬ (rowD Q K V O h t).ok g u from hk)]
    rfl

include B h3 in
theorem D_eq (g : Fin 3) (t u : Fin 2048) :
    D (arr x1 x2 x3 x4 x6 L3 L4) (beta r) g.val t.val u.val
      = (((rowD Q K V O h t).p g u * ((∑ e, (rowD Q K V O h t).od e * (rowD Q K V O h t).v u e)
          - ∑ e, (rowD Q K V O h t).od e * (rowD Q K V O h t).out e) * cS : ℝ) : EReal) := by
  unfold D
  rw [P_eq B g t u, scale_eq]
  have ho : ∀ e, (arr x1 x2 x3 x4 x6 L3 L4).o t.val e = ((rowD Q K V O h t).od e : EReal) := fun e =>
    (at2_of_lt x4 t e).trans (B.o t e)
  have hv : ∀ e, (arr x1 x2 x3 x4 x6 L3 L4).v u.val e = ((rowD Q K V O h t).v u e : EReal) := fun e =>
    (at2_of_lt x3 u e).trans (B.v u e)
  have hd : (arr x1 x2 x3 x4 x6 L3 L4).dl t.val
      = ((∑ e, (rowD Q K V O h t).od e * (rowD Q K V O h t).out e : ℝ) : EReal) := by
    refine (at2_of_lt (View.canon L3) t 0).trans ((h3 t).trans ?_)
    rw [coe_sum]
    refine Finset.sum_congr rfl fun e _ => ?_
    rw [B.o, B.out, EReal.coe_mul]
    rfl
  simp only [ho, hv]
  rw [hd]
  simp only [← EReal.coe_mul]
  rw [← coe_sum, ← EReal.coe_sub, ← EReal.coe_mul, ← EReal.coe_mul]

theorem sum_range3 (f : ℕ → EReal) : ∑ g ∈ Finset.range 3, f g = ∑ g : Fin 3, f g.val := Finset.sum_range f
theorem sum_rows (f : ℕ → EReal) : ∑ t ∈ Finset.range 2048, f t = ∑ t : Fin 2048, f t.val := Finset.sum_range f

include B h3 h4 in
/-- The queries' gradient. -/
theorem dq_eq (t : Fin 2048) (e : Fin 128) :
    ∑ n ∈ Finset.range 48, cq (arr x1 x2 x3 x4 x6 L3 L4) (un n) t.val e
      = ((∑ u, dsum Q K V O h t u * K (ix2 u (col h e)) : ℝ) : EReal) := by
  have hk : ∀ u : Fin 2048, (arr x1 x2 x3 x4 x6 L3 L4).k u.val e = (K (ix2 u (col h e)) : EReal) := fun u =>
    (at2_of_lt x2 u e).trans (B.k u e)
  rw [sum_cq _ (beta r) (b_eq h4) t.val t.isLt e, sum_range3]
  simp only [sum_rows, D_eq B h3, hk, ← EReal.coe_mul, ← coe_sum]
  congr 1
  rw [Finset.sum_comm]
  refine Finset.sum_congr rfl fun u _ => ?_
  rw [dsum_eq, Finset.sum_mul, Finset.sum_mul]

include B h3 h4 in
/-- The keys' gradient. -/
theorem dk_eq (u : Fin 2048) (e : Fin 128) :
    ∑ n ∈ Finset.range 48, ck (arr x1 x2 x3 x4 x6 L3 L4) (un n) u.val e
      = ((∑ t, dsum Q K V O h t u * Q (ix2 t (col h e)) : ℝ) : EReal) := by
  have hq : ∀ t : Fin 2048, (arr x1 x2 x3 x4 x6 L3 L4).q t.val e = (Q (ix2 t (col h e)) : EReal) := fun t =>
    (at2_of_lt x1 t e).trans (B.q t e)
  rw [sum_ck _ (beta r) (b_eq h4) u.val u.isLt e, sum_range3]
  simp only [sum_rows, D_eq B h3, hq, ← EReal.coe_mul, ← coe_sum]
  congr 1
  rw [Finset.sum_comm]
  refine Finset.sum_congr rfl fun t _ => ?_
  rw [dsum_eq, Finset.sum_mul, Finset.sum_mul]

include B h3 h4 in
/-- The values' gradient. -/
theorem dv_eq (u : Fin 2048) (e : Fin 128) :
    ∑ n ∈ Finset.range 48, cv (arr x1 x2 x3 x4 x6 L3 L4) (un n) u.val e
      = ((∑ g, ∑ t, (rowD Q K V O h t).p g u * (rowD Q K V O h t).od e : ℝ) : EReal) := by
  have ho : ∀ t : Fin 2048, (arr x1 x2 x3 x4 x6 L3 L4).o t.val e = ((rowD Q K V O h t).od e : EReal) := fun t =>
    (at2_of_lt x4 t e).trans (B.o t e)
  rw [sum_cv _ (beta r) (b_eq h4) u.val u.isLt e, sum_range3]
  simp only [sum_rows, P_eq B, ho, ← EReal.coe_mul, ← coe_sum]

end Cert.Body
-- ==== Proof.Blocks.lean ====
/-
  The blocks a grid point of the kernel reads: one head's columns of each argument.
-/
module

public import proofs.«01_k».proof.Proof.HostAt
public import proofs.«01_k».proof.Proof.BodySum
public import Idealize.ShloMosaic.Lib.Pipeline.ValueKit.Geometry

@[expose] public section

noncomputable section

namespace Cert.Body

open Idealize.ShloMosaic Idealize.ShloMosaic.ValueIdx
open Cert.Ref Cert.Host
open Cert.KernelIdeal Cert.KernelIdeal.Gen
open Cert.ReferenceIdeal.Read (val_main_v11)

variable (m : (ℓ : Loc nD τ sig) → Buf (Elt Ideal) ℓ) (c : Dev nD) (t : Fin cfg0.N)

/-- The head of a grid point. -/
abbrev head (t : Fin cfg0.N) : Fin 16 := grid0.coords t 0

theorem idx_0 : ∀ t : Fin grid0.N, win0_0.index t = ![0] := by decide +kernel
theorem idx_1 : ∀ t : Fin grid0.N, win0_1.index t = ![0, (grid0.coords t 0).val] := by decide +kernel
theorem idx_2 : ∀ t : Fin grid0.N, win0_2.index t = ![0, 16 + (grid0.coords t 0).val] := by decide +kernel
theorem idx_3 : ∀ t : Fin grid0.N, win0_3.index t = ![0, 32 + (grid0.coords t 0).val] := by decide +kernel
theorem idx_4 : ∀ t : Fin grid0.N, win0_4.index t = ![0, (grid0.coords t 0).val] := by decide +kernel
theorem idx_5 : ∀ t : Fin grid0.N, win0_5.index t = ![0, (grid0.coords t 0).val] := by decide +kernel
theorem idx_6 : ∀ t : Fin grid0.N, win0_6.index t = ![0, (grid0.coords t 0).val] := by decide +kernel
theorem idx_7 : ∀ t : Fin grid0.N, win0_7.index t = ![0, (grid0.coords t 0).val] := by decide +kernel
theorem idx_8 : ∀ t : Fin grid0.N, win0_8.index t = ![0, (grid0.coords t 0).val] := by decide +kernel
theorem idx_9 : ∀ t : Fin grid0.N, win0_9.index t = ![0, (grid0.coords t 0).val] := by decide +kernel
theorem idx_10 : ∀ t : Fin grid0.N, win0_10.index t = ![0, (grid0.coords t 0).val] := by decide +kernel
theorem idx_11 : ∀ t : Fin grid0.N, win0_11.index t = ![0, 0, (grid0.coords t 0).val] := by decide +kernel

theorem blk_0 (h : Fin 16) : iblk m c 0 t (ix1 h) = V m c main_v123 (ix1 h) := by
  show V m c main_v123 _ = _
  congr 1
  blk_ext [idx_0 t]

/-- A block of 128 columns of the long array. -/
theorem blk_1 (r : Fin 2048) (e : Fin 128) (l : Fin 6144) (hl : l.val = (col (head t) e).val) :
    iblk m c 1 t (ix2 r e) = V m c main_v114 (ix2 r l) := by
  show V m c main_v114 _ = _
  congr 1
  change l.val = ((grid0.coords t 0).val * 128 + e.val) at hl
  blk_ext [idx_1 t]
  show (grid0.coords t 0).val * 128 + e.val = l.val
  omega

theorem blk_2 (r : Fin 2048) (e : Fin 128) (l : Fin 6144) (hl : l.val = 2048 + (col (head t) e).val) :
    iblk m c 2 t (ix2 r e) = V m c main_v114 (ix2 r l) := by
  show V m c main_v114 _ = _
  congr 1
  change l.val = 2048 + ((grid0.coords t 0).val * 128 + e.val) at hl
  blk_ext [idx_2 t]
  show (16 + (grid0.coords t 0).val) * 128 + e.val = l.val
  omega

theorem blk_3 (r : Fin 2048) (e : Fin 128) (l : Fin 6144) (hl : l.val = 4096 + (col (head t) e).val) :
    iblk m c 3 t (ix2 r e) = V m c main_v114 (ix2 r l) := by
  show V m c main_v114 _ = _
  congr 1
  change l.val = 4096 + ((grid0.coords t 0).val * 128 + e.val) at hl
  blk_ext [idx_3 t]
  show (32 + (grid0.coords t 0).val) * 128 + e.val = l.val
  omega

theorem blk_4 (r : Fin 2048) (e : Fin 128) : iblk m c 4 t (ix2 r e) = V m c main_arg3 (ix2 r (col (head t) e)) := by
  show V m c main_arg3 _ = _
  congr 1
  unfold col
  blk_ext [idx_4 t]

theorem blk_5 (r : Fin 2048) (e : Fin 128) : iblk m c 5 t (ix2 r e) = V m c main_v101 (ix2 r (col (head t) e)) := by
  show V m c main_v101 _ = _
  congr 1
  unfold col
  blk_ext [idx_5 t]

theorem blk_6 (r : Fin 2048) (e : Fin 128) : iblk m c 6 t (ix2 r e) = V m c main_v113 (ix2 r (col (head t) e)) := by
  show V m c main_v113 _ = _
  congr 1
  unfold col
  blk_ext [idx_6 t]

theorem blk_7 (r : Fin 2048) (e : Fin 128) : iblk m c 7 t (ix2 r e) = m (c, Proc.devRef .tc main_arg4) (ix2 r (col (head t) e)) := by
  rw [← V_main_arg4 m c]
  show V m c main_arg4 _ = _
  congr 1
  unfold col
  blk_ext [idx_7 t]

theorem blk_8 (r : Fin 2048) (e : Fin 128) : iblk m c 8 t (ix2 r e) = m (c, Proc.devRef .tc main_arg5) (ix2 r (col (head t) e)) := by
  rw [← V_main_arg5 m c]
  show V m c main_arg5 _ = _
  congr 1
  unfold col
  blk_ext [idx_8 t]

theorem blk_9 (r : Fin 2048) (e : Fin 128) : iblk m c 9 t (ix2 r e) = m (c, Proc.devRef .tc main_arg6) (ix2 r (col (head t) e)) := by
  rw [← V_main_arg6 m c]
  show V m c main_arg6 _ = _
  congr 1
  unfold col
  blk_ext [idx_9 t]

theorem blk_10 (r : Fin 2048) (e : Fin 128) : iblk m c 10 t (ix2 r e) = m (c, Proc.devRef .tc main_arg7) (ix2 r (col (head t) e)) := by
  rw [← V_main_arg7 m c]
  show V m c main_arg7 _ = _
  congr 1
  unfold col
  blk_ext [idx_10 t]

variable {Q K V' O : S2048x2048.Idx → ℝ}
  (hQ : m (c, Proc.devRef .tc main_arg0) = co Q) (hK : m (c, Proc.devRef .tc main_arg1) = co K)
  (hV : m (c, Proc.devRef .tc main_arg2) = co V') (hO : m (c, Proc.devRef .tc main_arg3) = co O)

include hQ hK hV hO in
/-- Over real arguments a grid point reads its head's rows. -/
theorem blocks : Blocks Q K V' O (head t) (iblk m c 0 t (ix1 (grid0.coords t 0))) (iblk m c 1 t) (iblk m c 2 t) (iblk m c 3 t)
    (iblk m c 4 t) (iblk m c 5 t) (iblk m c 6 t) where
  r := (blk_0 m c t (head t)).trans ((congrFun (V_v123 m c) _).trans (val11 (ix1 (head t))))
  q r e := (blk_1 m c t r e ⟨(col (head t) e).val, by have := (col (head t) e).isLt; omega⟩ rfl).trans
    ((congrFun (V_v114 m c) _).trans ((cat_0 _ _ _ r (col (head t) e) _ rfl).trans (congrFun hQ _)))
  k r e := (blk_2 m c t r e ⟨2048 + (col (head t) e).val, by have := (col (head t) e).isLt; omega⟩ rfl).trans
    ((congrFun (V_v114 m c) _).trans ((cat_1 _ _ _ r (col (head t) e) _ rfl).trans (congrFun hK _)))
  v r e := (blk_3 m c t r e ⟨4096 + (col (head t) e).val, by have := (col (head t) e).isLt; omega⟩ rfl).trans
    ((congrFun (V_v114 m c) _).trans ((cat_2 _ _ _ r (col (head t) e) _ rfl).trans (congrFun hV _)))
  o r e := (blk_4 m c t r e).trans ((congrFun (V_main_arg3 m c) _).trans (congrFun hO _))
  out r e := by
    refine (blk_5 m c t r e).trans ((congrFun (V_v101 m c) _).trans ?_)
    rw [hQ, hK, hV]
    exact att_at Q K V' O (head t) r e
  lse r e := by
    refine (blk_6 m c t r e).trans ((congrFun (V_v113 m c) _).trans ?_)
    rw [hQ, hK]
    exact lse_at Q K V' O (head t) r e

end Cert.Body
-- ==== Proof.StepsQ.lean ====
/-
  The queries' gradients in scratch after each of the 48 units: what the units so far add to them, row by row.
-/
module

public import proofs.«01_k».proof.Proof.UnitSteps
public import Idealize.ShloMosaic.Lib.Pipeline.ValueKit.Basic

@[expose] public section

noncomputable section

namespace Cert.Unit

open Idealize.ShloMosaic Idealize.ShloMosaic.ValueIdx
open Cert.KernelIdeal Cert.KernelIdeal.Gen Cert.KernelIdeal.Gen.kernelRun0_A.sl
open scoped BigOperators

variable {c : Dev nD} {i : grid0.Coords} {arg1 : Memref sig .tc .smem S16 .f32} {harg1 : arg1.IsWhole}
  {arg2 arg3 arg4 arg5 : Memref sig .tc .vmem S2048x128 .f32} {harg2 : arg2.IsWhole} {harg3 : arg3.IsWhole}
  {harg4 : arg4.IsWhole} {harg5 : arg5.IsWhole}
  {arg6 : Memref sig .tc .vmem S2048x128 .bf16} {harg6 : arg6.IsWhole} {arg7 : Memref sig .tc .vmem S2048x128 .f32}
  {harg7 : arg7.IsWhole} {arg13 arg14 arg15 arg16 : Memref sig .tc .vmem S2048x128 .f32}
  {arg17 : Memref sig .tc .vmem S3x128x256 .f32}
  {x0 : Vec Ideal S16 .f32} {x1 x2 x3 x4 : Vec Ideal S2048x128 .f32} {x5 : Vec Ideal S2048x128 .bf16}
  {x6 : Vec Ideal S2048x128 .f32} {t : Fin 2048} {e : Fin 128}

/-- Nothing before the first unit. -/
theorem dq_1 : View.canon (HS0_1 (F := Ideal)) (ix2 t e) = ∑ x ∈ Finset.range 0, cq (arr x1 x2 x3 x4 x6 (HS3_1 (F := Ideal) c arg5 harg5 arg6 harg6 x4 x5) (HS4_3 (F := Ideal) c i arg1 harg1 x0)) (un x) t e := by
  rw [Finset.sum_range_zero]
  unfold HS0_1
  rw [View.canon_cons_unit_lit _ _ _ (fun a => match a with | ⟨0, _⟩ => rfl | ⟨1, _⟩ => rfl)]
  exact congrFun (shapeCast_self _ _) _ |>.trans Ideal.ofBits_zero_f32

theorem dq_2 : View.canon (HS0_2 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 1, cq (arr x1 x2 x3 x4 x6 (HS3_1 (F := Ideal) c arg5 harg5 arg6 harg6 x4 x5) (HS4_3 (F := Ideal) c i arg1 harg1 x0)) (un x) t e :=
  step_dq (g := 0) (d := 1) (oq := 0) (ok := 0) (col := 128) (sq := fun _ => 1) (sk := fun _ => 1) w128 ⟨rfl, rfl⟩ ⟨rfl, rfl⟩ rfl
    (n := 0) rfl dq_1

theorem dq_3 : View.canon (HS0_3 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 2, cq (arr x1 x2 x3 x4 x6 (HS3_1 (F := Ideal) c arg5 harg5 arg6 harg6 x4 x5) (HS4_3 (F := Ideal) c i arg1 harg1 x0)) (un x) t e :=
  step_dq (g := 0) (d := 1) (oq := 128) (ok := 0) (col := 0) (sq := fun _ => 1) (sk := fun _ => 1) w256 ⟨rfl, rfl⟩ ⟨rfl, rfl⟩ rfl
    (n := 1) rfl dq_2

theorem dq_4 : View.canon (HS0_4 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 3, cq (arr x1 x2 x3 x4 x6 (HS3_1 (F := Ideal) c arg5 harg5 arg6 harg6 x4 x5) (HS4_3 (F := Ideal) c i arg1 harg1 x0)) (un x) t e :=
  step_dq (g := 0) (d := 1) (oq := 256) (ok := 128) (col := 0) (sq := fun _ => 1) (sk := fun _ => 1) w256 ⟨rfl, rfl⟩ ⟨rfl, rfl⟩ rfl
    (n := 2) rfl dq_3

theorem dq_5 : View.canon (HS0_5 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 4, cq (arr x1 x2 x3 x4 x6 (HS3_1 (F := Ideal) c arg5 harg5 arg6 harg6 x4 x5) (HS4_3 (F := Ideal) c i arg1 harg1 x0)) (un x) t e :=
  step_dq (g := 0) (d := 1) (oq := 384) (ok := 256) (col := 0) (sq := fun _ => 1) (sk := fun _ => 1) w256 ⟨rfl, rfl⟩ ⟨rfl, rfl⟩ rfl
    (n := 3) rfl dq_4

theorem dq_6 : View.canon (HS0_6 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 5, cq (arr x1 x2 x3 x4 x6 (HS3_1 (F := Ideal) c arg5 harg5 arg6 harg6 x4 x5) (HS4_3 (F := Ideal) c i arg1 harg1 x0)) (un x) t e :=
  step_dq (g := 0) (d := 1) (oq := 512) (ok := 384) (col := 0) (sq := fun _ => 1) (sk := fun _ => 1) w256 ⟨rfl, rfl⟩ ⟨rfl, rfl⟩ rfl
    (n := 4) rfl dq_5

theorem dq_7 : View.canon (HS0_7 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 6, cq (arr x1 x2 x3 x4 x6 (HS3_1 (F := Ideal) c arg5 harg5 arg6 harg6 x4 x5) (HS4_3 (F := Ideal) c i arg1 harg1 x0)) (un x) t e :=
  step_dq (g := 0) (d := 1) (oq := 640) (ok := 512) (col := 0) (sq := fun _ => 1) (sk := fun _ => 1) w256 ⟨rfl, rfl⟩ ⟨rfl, rfl⟩ rfl
    (n := 5) rfl dq_6

theorem dq_8 : View.canon (HS0_8 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 7, cq (arr x1 x2 x3 x4 x6 (HS3_1 (F := Ideal) c arg5 harg5 arg6 harg6 x4 x5) (HS4_3 (F := Ideal) c i arg1 harg1 x0)) (un x) t e :=
  step_dq (g := 0) (d := 1) (oq := 768) (ok := 640) (col := 0) (sq := fun _ => 1) (sk := fun _ => 1) w256 ⟨rfl, rfl⟩ ⟨rfl, rfl⟩ rfl
    (n := 6) rfl dq_7

theorem dq_9 : View.canon (HS0_9 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 8, cq (arr x1 x2 x3 x4 x6 (HS3_1 (F := Ideal) c arg5 harg5 arg6 harg6 x4 x5) (HS4_3 (F := Ideal) c i arg1 harg1 x0)) (un x) t e :=
  step_dq (g := 0) (d := 1) (oq := 896) (ok := 768) (col := 0) (sq := fun _ => 1) (sk := fun _ => 1) w256 ⟨rfl, rfl⟩ ⟨rfl, rfl⟩ rfl
    (n := 7) rfl dq_8

theorem dq_10 : View.canon (HS0_10 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 9, cq (arr x1 x2 x3 x4 x6 (HS3_1 (F := Ideal) c arg5 harg5 arg6 harg6 x4 x5) (HS4_3 (F := Ideal) c i arg1 harg1 x0)) (un x) t e :=
  step_dq (g := 0) (d := 1) (oq := 1024) (ok := 896) (col := 0) (sq := fun _ => 1) (sk := fun _ => 1) w256 ⟨rfl, rfl⟩ ⟨rfl, rfl⟩ rfl
    (n := 8) rfl dq_9

theorem dq_11 : View.canon (HS0_11 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 10, cq (arr x1 x2 x3 x4 x6 (HS3_1 (F := Ideal) c arg5 harg5 arg6 harg6 x4 x5) (HS4_3 (F := Ideal) c i arg1 harg1 x0)) (un x) t e :=
  step_dq (g := 0) (d := 1) (oq := 1152) (ok := 1024) (col := 0) (sq := fun _ => 1) (sk := fun _ => 1) w256 ⟨rfl, rfl⟩ ⟨rfl, rfl⟩ rfl
    (n := 9) rfl dq_10

theorem dq_12 : View.canon (HS0_12 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 11, cq (arr x1 x2 x3 x4 x6 (HS3_1 (F := Ideal) c arg5 harg5 arg6 harg6 x4 x5) (HS4_3 (F := Ideal) c i arg1 harg1 x0)) (un x) t e :=
  step_dq (g := 0) (d := 1) (oq := 1280) (ok := 1152) (col := 0) (sq := fun _ => 1) (sk := fun _ => 1) w256 ⟨rfl, rfl⟩ ⟨rfl, rfl⟩ rfl
    (n := 10) rfl dq_11

theorem dq_13 : View.canon (HS0_13 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 12, cq (arr x1 x2 x3 x4 x6 (HS3_1 (F := Ideal) c arg5 harg5 arg6 harg6 x4 x5) (HS4_3 (F := Ideal) c i arg1 harg1 x0)) (un x) t e :=
  step_dq (g := 0) (d := 1) (oq := 1408) (ok := 1280) (col := 0) (sq := fun _ => 1) (sk := fun _ => 1) w256 ⟨rfl, rfl⟩ ⟨rfl, rfl⟩ rfl
    (n := 11) rfl dq_12

theorem dq_14 : View.canon (HS0_14 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 13, cq (arr x1 x2 x3 x4 x6 (HS3_1 (F := Ideal) c arg5 harg5 arg6 harg6 x4 x5) (HS4_3 (F := Ideal) c i arg1 harg1 x0)) (un x) t e :=
  step_dq (g := 0) (d := 1) (oq := 1536) (ok := 1408) (col := 0) (sq := fun _ => 1) (sk := fun _ => 1) w256 ⟨rfl, rfl⟩ ⟨rfl, rfl⟩ rfl
    (n := 12) rfl dq_13

theorem dq_15 : View.canon (HS0_15 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 14, cq (arr x1 x2 x3 x4 x6 (HS3_1 (F := Ideal) c arg5 harg5 arg6 harg6 x4 x5) (HS4_3 (F := Ideal) c i arg1 harg1 x0)) (un x) t e :=
  step_dq (g := 0) (d := 1) (oq := 1664) (ok := 1536) (col := 0) (sq := fun _ => 1) (sk := fun _ => 1) w256 ⟨rfl, rfl⟩ ⟨rfl, rfl⟩ rfl
    (n := 13) rfl dq_14

theorem dq_16 : View.canon (HS0_16 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 15, cq (arr x1 x2 x3 x4 x6 (HS3_1 (F := Ideal) c arg5 harg5 arg6 harg6 x4 x5) (HS4_3 (F := Ideal) c i arg1 harg1 x0)) (un x) t e :=
  step_dq (g := 0) (d := 1) (oq := 1792) (ok := 1664) (col := 0) (sq := fun _ => 1) (sk := fun _ => 1) w256 ⟨rfl, rfl⟩ ⟨rfl, rfl⟩ rfl
    (n := 14) rfl dq_15

theorem dq_17 : View.canon (HS0_17 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 16, cq (arr x1 x2 x3 x4 x6 (HS3_1 (F := Ideal) c arg5 harg5 arg6 harg6 x4 x5) (HS4_3 (F := Ideal) c i arg1 harg1 x0)) (un x) t e :=
  step_dq (g := 0) (d := 1) (oq := 1920) (ok := 1792) (col := 0) (sq := fun _ => 1) (sk := fun _ => 1) w256 ⟨rfl, rfl⟩ ⟨rfl, rfl⟩ rfl
    (n := 15) rfl dq_16

theorem dq_18 : View.canon (HS0_18 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 17, cq (arr x1 x2 x3 x4 x6 (HS3_1 (F := Ideal) c arg5 harg5 arg6 harg6 x4 x5) (HS4_3 (F := Ideal) c i arg1 harg1 x0)) (un x) t e :=
  step_dq (g := 1) (d := 4) (oq := 0) (ok := 0) (col := 128) (sq := ![4, 1]) (sk := ![4, 1]) (posq := pos_4) (posk := pos_4) w128 ⟨rfl, rfl⟩ ⟨rfl, rfl⟩ rfl
    (n := 16) rfl dq_17

theorem dq_19 : View.canon (HS0_19 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 18, cq (arr x1 x2 x3 x4 x6 (HS3_1 (F := Ideal) c arg5 harg5 arg6 harg6 x4 x5) (HS4_3 (F := Ideal) c i arg1 harg1 x0)) (un x) t e :=
  step_dq (g := 1) (d := 4) (oq := 512) (ok := 0) (col := 0) (sq := ![4, 1]) (sk := ![4, 1]) (posq := pos_4) (posk := pos_4) w256 ⟨rfl, rfl⟩ ⟨rfl, rfl⟩ rfl
    (n := 17) rfl dq_18

theorem dq_20 : View.canon (HS0_20 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 19, cq (arr x1 x2 x3 x4 x6 (HS3_1 (F := Ideal) c arg5 harg5 arg6 harg6 x4 x5) (HS4_3 (F := Ideal) c i arg1 harg1 x0)) (un x) t e :=
  step_dq (g := 1) (d := 4) (oq := 1024) (ok := 512) (col := 0) (sq := ![4, 1]) (sk := ![4, 1]) (posq := pos_4) (posk := pos_4) w256 ⟨rfl, rfl⟩ ⟨rfl, rfl⟩ rfl
    (n := 18) rfl dq_19

theorem dq_21 : View.canon (HS0_21 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 20, cq (arr x1 x2 x3 x4 x6 (HS3_1 (F := Ideal) c arg5 harg5 arg6 harg6 x4 x5) (HS4_3 (F := Ideal) c i arg1 harg1 x0)) (un x) t e :=
  step_dq (g := 1) (d := 4) (oq := 1536) (ok := 1024) (col := 0) (sq := ![4, 1]) (sk := ![4, 1]) (posq := pos_4) (posk := pos_4) w256 ⟨rfl, rfl⟩ ⟨rfl, rfl⟩ rfl
    (n := 19) rfl dq_20

theorem dq_22 : View.canon (HS0_22 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 21, cq (arr x1 x2 x3 x4 x6 (HS3_1 (F := Ideal) c arg5 harg5 arg6 harg6 x4 x5) (HS4_3 (F := Ideal) c i arg1 harg1 x0)) (un x) t e :=
  step_dq (g := 1) (d := 4) (oq := 1) (ok := 1) (col := 128) (sq := ![4, 1]) (sk := ![4, 1]) (posq := pos_4) (posk := pos_4) w128 ⟨rfl, rfl⟩ ⟨rfl, rfl⟩ rfl
    (n := 20) rfl dq_21

theorem dq_23 : View.canon (HS0_23 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 22, cq (arr x1 x2 x3 x4 x6 (HS3_1 (F := Ideal) c arg5 harg5 arg6 harg6 x4 x5) (HS4_3 (F := Ideal) c i arg1 harg1 x0)) (un x) t e :=
  step_dq (g := 1) (d := 4) (oq := 513) (ok := 1) (col := 0) (sq := ![4, 1]) (sk := ![4, 1]) (posq := pos_4) (posk := pos_4) w256 ⟨rfl, rfl⟩ ⟨rfl, rfl⟩ rfl
    (n := 21) rfl dq_22

theorem dq_24 : View.canon (HS0_24 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 23, cq (arr x1 x2 x3 x4 x6 (HS3_1 (F := Ideal) c arg5 harg5 arg6 harg6 x4 x5) (HS4_3 (F := Ideal) c i arg1 harg1 x0)) (un x) t e :=
  step_dq (g := 1) (d := 4) (oq := 1025) (ok := 513) (col := 0) (sq := ![4, 1]) (sk := ![4, 1]) (posq := pos_4) (posk := pos_4) w256 ⟨rfl, rfl⟩ ⟨rfl, rfl⟩ rfl
    (n := 22) rfl dq_23

theorem dq_25 : View.canon (HS0_25 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 24, cq (arr x1 x2 x3 x4 x6 (HS3_1 (F := Ideal) c arg5 harg5 arg6 harg6 x4 x5) (HS4_3 (F := Ideal) c i arg1 harg1 x0)) (un x) t e :=
  step_dq (g := 1) (d := 4) (oq := 1537) (ok := 1025) (col := 0) (sq := ![4, 1]) (sk := ![4, 1]) (posq := pos_4) (posk := pos_4) w256 ⟨rfl, rfl⟩ ⟨rfl, rfl⟩ rfl
    (n := 23) rfl dq_24

theorem dq_26 : View.canon (HS0_26 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 25, cq (arr x1 x2 x3 x4 x6 (HS3_1 (F := Ideal) c arg5 harg5 arg6 harg6 x4 x5) (HS4_3 (F := Ideal) c i arg1 harg1 x0)) (un x) t e :=
  step_dq (g := 1) (d := 4) (oq := 2) (ok := 2) (col := 128) (sq := ![4, 1]) (sk := ![4, 1]) (posq := pos_4) (posk := pos_4) w128 ⟨rfl, rfl⟩ ⟨rfl, rfl⟩ rfl
    (n := 24) rfl dq_25

theorem dq_27 : View.canon (HS0_27 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 26, cq (arr x1 x2 x3 x4 x6 (HS3_1 (F := Ideal) c arg5 harg5 arg6 harg6 x4 x5) (HS4_3 (F := Ideal) c i arg1 harg1 x0)) (un x) t e :=
  step_dq (g := 1) (d := 4) (oq := 514) (ok := 2) (col := 0) (sq := ![4, 1]) (sk := ![4, 1]) (posq := pos_4) (posk := pos_4) w256 ⟨rfl, rfl⟩ ⟨rfl, rfl⟩ rfl
    (n := 25) rfl dq_26

theorem dq_28 : View.canon (HS0_28 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 27, cq (arr x1 x2 x3 x4 x6 (HS3_1 (F := Ideal) c arg5 harg5 arg6 harg6 x4 x5) (HS4_3 (F := Ideal) c i arg1 harg1 x0)) (un x) t e :=
  step_dq (g := 1) (d := 4) (oq := 1026) (ok := 514) (col := 0) (sq := ![4, 1]) (sk := ![4, 1]) (posq := pos_4) (posk := pos_4) w256 ⟨rfl, rfl⟩ ⟨rfl, rfl⟩ rfl
    (n := 26) rfl dq_27

theorem dq_29 : View.canon (HS0_29 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 28, cq (arr x1 x2 x3 x4 x6 (HS3_1 (F := Ideal) c arg5 harg5 arg6 harg6 x4 x5) (HS4_3 (F := Ideal) c i arg1 harg1 x0)) (un x) t e :=
  step_dq (g := 1) (d := 4) (oq := 1538) (ok := 1026) (col := 0) (sq := ![4, 1]) (sk := ![4, 1]) (posq := pos_4) (posk := pos_4) w256 ⟨rfl, rfl⟩ ⟨rfl, rfl⟩ rfl
    (n := 27) rfl dq_28

theorem dq_30 : View.canon (HS0_30 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 29, cq (arr x1 x2 x3 x4 x6 (HS3_1 (F := Ideal) c arg5 harg5 arg6 harg6 x4 x5) (HS4_3 (F := Ideal) c i arg1 harg1 x0)) (un x) t e :=
  step_dq (g := 1) (d := 4) (oq := 3) (ok := 3) (col := 128) (sq := ![4, 1]) (sk := ![4, 1]) (posq := pos_4) (posk := pos_4) w128 ⟨rfl, rfl⟩ ⟨rfl, rfl⟩ rfl
    (n := 28) rfl dq_29

theorem dq_31 : View.canon (HS0_31 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 30, cq (arr x1 x2 x3 x4 x6 (HS3_1 (F := Ideal) c arg5 harg5 arg6 harg6 x4 x5) (HS4_3 (F := Ideal) c i arg1 harg1 x0)) (un x) t e :=
  step_dq (g := 1) (d := 4) (oq := 515) (ok := 3) (col := 0) (sq := ![4, 1]) (sk := ![4, 1]) (posq := pos_4) (posk := pos_4) w256 ⟨rfl, rfl⟩ ⟨rfl, rfl⟩ rfl
    (n := 29) rfl dq_30

theorem dq_32 : View.canon (HS0_32 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 31, cq (arr x1 x2 x3 x4 x6 (HS3_1 (F := Ideal) c arg5 harg5 arg6 harg6 x4 x5) (HS4_3 (F := Ideal) c i arg1 harg1 x0)) (un x) t e :=
  step_dq (g := 1) (d := 4) (oq := 1027) (ok := 515) (col := 0) (sq := ![4, 1]) (sk := ![4, 1]) (posq := pos_4) (posk := pos_4) w256 ⟨rfl, rfl⟩ ⟨rfl, rfl⟩ rfl
    (n := 30) rfl dq_31

theorem dq_33 : View.canon (HS0_33 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 32, cq (arr x1 x2 x3 x4 x6 (HS3_1 (F := Ideal) c arg5 harg5 arg6 harg6 x4 x5) (HS4_3 (F := Ideal) c i arg1 harg1 x0)) (un x) t e :=
  step_dq (g := 1) (d := 4) (oq := 1539) (ok := 1027) (col := 0) (sq := ![4, 1]) (sk := ![4, 1]) (posq := pos_4) (posk := pos_4) w256 ⟨rfl, rfl⟩ ⟨rfl, rfl⟩ rfl
    (n := 31) rfl dq_32

theorem dq_34 : View.canon (HS0_34 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 33, cq (arr x1 x2 x3 x4 x6 (HS3_1 (F := Ideal) c arg5 harg5 arg6 harg6 x4 x5) (HS4_3 (F := Ideal) c i arg1 harg1 x0)) (un x) t e :=
  step_dq (g := 2) (d := 16) (oq := 0) (ok := 0) (col := 128) (sq := ![16, 1]) (sk := ![16, 1]) (posq := pos_16) (posk := pos_16) w128 ⟨rfl, rfl⟩ ⟨rfl, rfl⟩ rfl
    (n := 32) rfl dq_33

theorem dq_35 : View.canon (HS0_35 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 34, cq (arr x1 x2 x3 x4 x6 (HS3_1 (F := Ideal) c arg5 harg5 arg6 harg6 x4 x5) (HS4_3 (F := Ideal) c i arg1 harg1 x0)) (un x) t e :=
  step_dq (g := 2) (d := 16) (oq := 1) (ok := 1) (col := 128) (sq := ![16, 1]) (sk := ![16, 1]) (posq := pos_16) (posk := pos_16) w128 ⟨rfl, rfl⟩ ⟨rfl, rfl⟩ rfl
    (n := 33) rfl dq_34

theorem dq_36 : View.canon (HS0_36 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 35, cq (arr x1 x2 x3 x4 x6 (HS3_1 (F := Ideal) c arg5 harg5 arg6 harg6 x4 x5) (HS4_3 (F := Ideal) c i arg1 harg1 x0)) (un x) t e :=
  step_dq (g := 2) (d := 16) (oq := 2) (ok := 2) (col := 128) (sq := ![16, 1]) (sk := ![16, 1]) (posq := pos_16) (posk := pos_16) w128 ⟨rfl, rfl⟩ ⟨rfl, rfl⟩ rfl
    (n := 34) rfl dq_35

theorem dq_37 : View.canon (HS0_37 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 36, cq (arr x1 x2 x3 x4 x6 (HS3_1 (F := Ideal) c arg5 harg5 arg6 harg6 x4 x5) (HS4_3 (F := Ideal) c i arg1 harg1 x0)) (un x) t e :=
  step_dq (g := 2) (d := 16) (oq := 3) (ok := 3) (col := 128) (sq := ![16, 1]) (sk := ![16, 1]) (posq := pos_16) (posk := pos_16) w128 ⟨rfl, rfl⟩ ⟨rfl, rfl⟩ rfl
    (n := 35) rfl dq_36

theorem dq_38 : View.canon (HS0_38 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 37, cq (arr x1 x2 x3 x4 x6 (HS3_1 (F := Ideal) c arg5 harg5 arg6 harg6 x4 x5) (HS4_3 (F := Ideal) c i arg1 harg1 x0)) (un x) t e :=
  step_dq (g := 2) (d := 16) (oq := 4) (ok := 4) (col := 128) (sq := ![16, 1]) (sk := ![16, 1]) (posq := pos_16) (posk := pos_16) w128 ⟨rfl, rfl⟩ ⟨rfl, rfl⟩ rfl
    (n := 36) rfl dq_37

theorem dq_39 : View.canon (HS0_39 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 38, cq (arr x1 x2 x3 x4 x6 (HS3_1 (F := Ideal) c arg5 harg5 arg6 harg6 x4 x5) (HS4_3 (F := Ideal) c i arg1 harg1 x0)) (un x) t e :=
  step_dq (g := 2) (d := 16) (oq := 5) (ok := 5) (col := 128) (sq := ![16, 1]) (sk := ![16, 1]) (posq := pos_16) (posk := pos_16) w128 ⟨rfl, rfl⟩ ⟨rfl, rfl⟩ rfl
    (n := 37) rfl dq_38

theorem dq_40 : View.canon (HS0_40 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 39, cq (arr x1 x2 x3 x4 x6 (HS3_1 (F := Ideal) c arg5 harg5 arg6 harg6 x4 x5) (HS4_3 (F := Ideal) c i arg1 harg1 x0)) (un x) t e :=
  step_dq (g := 2) (d := 16) (oq := 6) (ok := 6) (col := 128) (sq := ![16, 1]) (sk := ![16, 1]) (posq := pos_16) (posk := pos_16) w128 ⟨rfl, rfl⟩ ⟨rfl, rfl⟩ rfl
    (n := 38) rfl dq_39

theorem dq_41 : View.canon (HS0_41 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 40, cq (arr x1 x2 x3 x4 x6 (HS3_1 (F := Ideal) c arg5 harg5 arg6 harg6 x4 x5) (HS4_3 (F := Ideal) c i arg1 harg1 x0)) (un x) t e :=
  step_dq (g := 2) (d := 16) (oq := 7) (ok := 7) (col := 128) (sq := ![16, 1]) (sk := ![16, 1]) (posq := pos_16) (posk := pos_16) w128 ⟨rfl, rfl⟩ ⟨rfl, rfl⟩ rfl
    (n := 39) rfl dq_40

theorem dq_42 : View.canon (HS0_42 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 41, cq (arr x1 x2 x3 x4 x6 (HS3_1 (F := Ideal) c arg5 harg5 arg6 harg6 x4 x5) (HS4_3 (F := Ideal) c i arg1 harg1 x0)) (un x) t e :=
  step_dq (g := 2) (d := 16) (oq := 8) (ok := 8) (col := 128) (sq := ![16, 1]) (sk := ![16, 1]) (posq := pos_16) (posk := pos_16) w128 ⟨rfl, rfl⟩ ⟨rfl, rfl⟩ rfl
    (n := 40) rfl dq_41

theorem dq_43 : View.canon (HS0_43 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 42, cq (arr x1 x2 x3 x4 x6 (HS3_1 (F := Ideal) c arg5 harg5 arg6 harg6 x4 x5) (HS4_3 (F := Ideal) c i arg1 harg1 x0)) (un x) t e :=
  step_dq (g := 2) (d := 16) (oq := 9) (ok := 9) (col := 128) (sq := ![16, 1]) (sk := ![16, 1]) (posq := pos_16) (posk := pos_16) w128 ⟨rfl, rfl⟩ ⟨rfl, rfl⟩ rfl
    (n := 41) rfl dq_42

theorem dq_44 : View.canon (HS0_44 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 43, cq (arr x1 x2 x3 x4 x6 (HS3_1 (F := Ideal) c arg5 harg5 arg6 harg6 x4 x5) (HS4_3 (F := Ideal) c i arg1 harg1 x0)) (un x) t e :=
  step_dq (g := 2) (d := 16) (oq := 10) (ok := 10) (col := 128) (sq := ![16, 1]) (sk := ![16, 1]) (posq := pos_16) (posk := pos_16) w128 ⟨rfl, rfl⟩ ⟨rfl, rfl⟩ rfl
    (n := 42) rfl dq_43

theorem dq_45 : View.canon (HS0_45 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 44, cq (arr x1 x2 x3 x4 x6 (HS3_1 (F := Ideal) c arg5 harg5 arg6 harg6 x4 x5) (HS4_3 (F := Ideal) c i arg1 harg1 x0)) (un x) t e :=
  step_dq (g := 2) (d := 16) (oq := 11) (ok := 11) (col := 128) (sq := ![16, 1]) (sk := ![16, 1]) (posq := pos_16) (posk := pos_16) w128 ⟨rfl, rfl⟩ ⟨rfl, rfl⟩ rfl
    (n := 43) rfl dq_44

theorem dq_46 : View.canon (HS0_46 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 45, cq (arr x1 x2 x3 x4 x6 (HS3_1 (F := Ideal) c arg5 harg5 arg6 harg6 x4 x5) (HS4_3 (F := Ideal) c i arg1 harg1 x0)) (un x) t e :=
  step_dq (g := 2) (d := 16) (oq := 12) (ok := 12) (col := 128) (sq := ![16, 1]) (sk := ![16, 1]) (posq := pos_16) (posk := pos_16) w128 ⟨rfl, rfl⟩ ⟨rfl, rfl⟩ rfl
    (n := 44) rfl dq_45

theorem dq_47 : View.canon (HS0_47 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 46, cq (arr x1 x2 x3 x4 x6 (HS3_1 (F := Ideal) c arg5 harg5 arg6 harg6 x4 x5) (HS4_3 (F := Ideal) c i arg1 harg1 x0)) (un x) t e :=
  step_dq (g := 2) (d := 16) (oq := 13) (ok := 13) (col := 128) (sq := ![16, 1]) (sk := ![16, 1]) (posq := pos_16) (posk := pos_16) w128 ⟨rfl, rfl⟩ ⟨rfl, rfl⟩ rfl
    (n := 45) rfl dq_46

theorem dq_48 : View.canon (HS0_48 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 47, cq (arr x1 x2 x3 x4 x6 (HS3_1 (F := Ideal) c arg5 harg5 arg6 harg6 x4 x5) (HS4_3 (F := Ideal) c i arg1 harg1 x0)) (un x) t e :=
  step_dq (g := 2) (d := 16) (oq := 14) (ok := 14) (col := 128) (sq := ![16, 1]) (sk := ![16, 1]) (posq := pos_16) (posk := pos_16) w128 ⟨rfl, rfl⟩ ⟨rfl, rfl⟩ rfl
    (n := 46) rfl dq_47

theorem dq_49 : View.canon (HS0_49 (F := Ideal) c i arg1 harg1 arg2 harg2 arg3 harg3 arg4 harg4 arg5 harg5 arg6 harg6 arg7 harg7 arg13 arg16 arg17 x0 x1 x2 x3 x4 x5 x6) (ix2 t e)
    = ∑ x ∈ Finset.range 48, cq (arr x1 x2 x3 x4 x6 (HS3_1 (F := Ideal) c arg5 harg5 arg6 harg6 x4 x5) (HS4_3 (F := Ideal) c i arg1 harg1 x0)) (un x) t e :=
  step_dq (g := 2) (d := 16) (oq := 15) (ok := 15) (col := 128) (sq := ![16, 1]) (sk := ![16, 1]) (posq := pos_16) (posk := pos_16) w128 ⟨rfl, rfl⟩ ⟨rfl, rfl⟩ rfl
    (n := 47) rfl dq_48

end Cert.Unit
-- ==== Proof.StepsK.lean ====
/-
  The keys' gradients in scratch after each of the 48 units: what the units so far add to them, row by row.
-/
module

public import proofs.«01_k».proof.Proof.UnitSteps
public import Idealize.ShloMosaic.Lib.Pipeline.ValueKit.Basic

@[expose] public section

noncomputable section

namespace Cert.Unit

open Idealize.ShloMosaic Idealize.ShloMosaic.ValueIdx
open Cert.KernelIdeal Cert.KernelIdeal.Gen Cert.KernelIdeal.Gen.kernelRun0_A.sl
open scoped BigOperators

variable {c : Dev nD} {i : grid0.Coords} {arg1 : Memref sig .tc .smem S16 .f32} {harg1 : arg1.IsWhole}
  {arg2 arg3 arg4 arg5 : Memref sig .tc .vmem S2048x128 .f32} {harg2 : arg2.IsWhole} {harg3 : arg3.IsWhole}
  {harg4 : arg4.IsWhole} {harg5 : arg5.IsWhole}
  {arg6 : Memref sig .tc .vmem S2048x128 .bf16} {harg6 : arg6.IsWhole} {arg7 : Memref sig .tc .vmem S2048x128 .f32}
  {harg7 : arg7.IsWhole} {arg13 arg14 arg15 arg16 : Memref sig .tc .vmem S2048x128 .f32}
  {arg17 : Memref sig .tc .vmem S3x128x256 .f32}
  {x0 : Vec Ideal S16 .f32} {x1 x2 x3 x4 : Vec Ideal S2048x128 .f32} {x5 : Vec Ideal S2048x128 .bf16}
  {x6 : Vec Ideal S2048x128 .f32} {t : Fin 2048} {e : Fin 128}

/-- Nothing before the first unit. -/
theorem dk_1 : View.canon (HS0_1 (F := Ideal)) (ix2 t e) = ∑ x ∈ Finset.range 0, ck (arr x1 x2 x3 x4 x6 (HS3_1 (F := Ideal) c arg5 harg5 arg6 harg6 x4 x5) (HS4_3 (F := Ideal) c i arg1 harg1 x0)) (un x) t e := by
  rw [Finset.sum_range_zero]
  unfold HS0_1
  rw [View.canon_cons_unit_lit _ _ _ (fun a => match a with | ⟨0, _⟩ => rfl | ⟨1, _⟩ => rfl)]
  exact congrFun (shapeCast_self _ _) _ |>.trans Ideal.ofBits_zero_f32

theorem dk_2 : View.canon (HS1_2 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 1, ck (arr x1 x2 x3 x4 x6 (HS3_1 (F := Ideal) c arg5 harg5 arg6 harg6 x4 x5) (HS4_3 (F := Ideal) c i arg1 harg1 x0)) (un x) t e :=
  step_dk (g := 0) (d := 1) (oq := 0) (ok := 0) (col := 128) (sq := fun _ => 1) (sk := fun _ => 1) w128 ⟨rfl, rfl⟩ ⟨rfl, rfl⟩ rfl
    (n := 0) rfl dk_1

theorem dk_3 : View.canon (HS1_3 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 2, ck (arr x1 x2 x3 x4 x6 (HS3_1 (F := Ideal) c arg5 harg5 arg6 harg6 x4 x5) (HS4_3 (F := Ideal) c i arg1 harg1 x0)) (un x) t e :=
  step_dk (g := 0) (d := 1) (oq := 128) (ok := 0) (col := 0) (sq := fun _ => 1) (sk := fun _ => 1) w256 ⟨rfl, rfl⟩ ⟨rfl, rfl⟩ rfl
    (n := 1) rfl dk_2

theorem dk_4 : View.canon (HS1_4 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 3, ck (arr x1 x2 x3 x4 x6 (HS3_1 (F := Ideal) c arg5 harg5 arg6 harg6 x4 x5) (HS4_3 (F := Ideal) c i arg1 harg1 x0)) (un x) t e :=
  step_dk (g := 0) (d := 1) (oq := 256) (ok := 128) (col := 0) (sq := fun _ => 1) (sk := fun _ => 1) w256 ⟨rfl, rfl⟩ ⟨rfl, rfl⟩ rfl
    (n := 2) rfl dk_3

theorem dk_5 : View.canon (HS1_5 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 4, ck (arr x1 x2 x3 x4 x6 (HS3_1 (F := Ideal) c arg5 harg5 arg6 harg6 x4 x5) (HS4_3 (F := Ideal) c i arg1 harg1 x0)) (un x) t e :=
  step_dk (g := 0) (d := 1) (oq := 384) (ok := 256) (col := 0) (sq := fun _ => 1) (sk := fun _ => 1) w256 ⟨rfl, rfl⟩ ⟨rfl, rfl⟩ rfl
    (n := 3) rfl dk_4

theorem dk_6 : View.canon (HS1_6 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 5, ck (arr x1 x2 x3 x4 x6 (HS3_1 (F := Ideal) c arg5 harg5 arg6 harg6 x4 x5) (HS4_3 (F := Ideal) c i arg1 harg1 x0)) (un x) t e :=
  step_dk (g := 0) (d := 1) (oq := 512) (ok := 384) (col := 0) (sq := fun _ => 1) (sk := fun _ => 1) w256 ⟨rfl, rfl⟩ ⟨rfl, rfl⟩ rfl
    (n := 4) rfl dk_5

theorem dk_7 : View.canon (HS1_7 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 6, ck (arr x1 x2 x3 x4 x6 (HS3_1 (F := Ideal) c arg5 harg5 arg6 harg6 x4 x5) (HS4_3 (F := Ideal) c i arg1 harg1 x0)) (un x) t e :=
  step_dk (g := 0) (d := 1) (oq := 640) (ok := 512) (col := 0) (sq := fun _ => 1) (sk := fun _ => 1) w256 ⟨rfl, rfl⟩ ⟨rfl, rfl⟩ rfl
    (n := 5) rfl dk_6

theorem dk_8 : View.canon (HS1_8 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 7, ck (arr x1 x2 x3 x4 x6 (HS3_1 (F := Ideal) c arg5 harg5 arg6 harg6 x4 x5) (HS4_3 (F := Ideal) c i arg1 harg1 x0)) (un x) t e :=
  step_dk (g := 0) (d := 1) (oq := 768) (ok := 640) (col := 0) (sq := fun _ => 1) (sk := fun _ => 1) w256 ⟨rfl, rfl⟩ ⟨rfl, rfl⟩ rfl
    (n := 6) rfl dk_7

theorem dk_9 : View.canon (HS1_9 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 8, ck (arr x1 x2 x3 x4 x6 (HS3_1 (F := Ideal) c arg5 harg5 arg6 harg6 x4 x5) (HS4_3 (F := Ideal) c i arg1 harg1 x0)) (un x) t e :=
  step_dk (g := 0) (d := 1) (oq := 896) (ok := 768) (col := 0) (sq := fun _ => 1) (sk := fun _ => 1) w256 ⟨rfl, rfl⟩ ⟨rfl, rfl⟩ rfl
    (n := 7) rfl dk_8

theorem dk_10 : View.canon (HS1_10 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 9, ck (arr x1 x2 x3 x4 x6 (HS3_1 (F := Ideal) c arg5 harg5 arg6 harg6 x4 x5) (HS4_3 (F := Ideal) c i arg1 harg1 x0)) (un x) t e :=
  step_dk (g := 0) (d := 1) (oq := 1024) (ok := 896) (col := 0) (sq := fun _ => 1) (sk := fun _ => 1) w256 ⟨rfl, rfl⟩ ⟨rfl, rfl⟩ rfl
    (n := 8) rfl dk_9

theorem dk_11 : View.canon (HS1_11 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 10, ck (arr x1 x2 x3 x4 x6 (HS3_1 (F := Ideal) c arg5 harg5 arg6 harg6 x4 x5) (HS4_3 (F := Ideal) c i arg1 harg1 x0)) (un x) t e :=
  step_dk (g := 0) (d := 1) (oq := 1152) (ok := 1024) (col := 0) (sq := fun _ => 1) (sk := fun _ => 1) w256 ⟨rfl, rfl⟩ ⟨rfl, rfl⟩ rfl
    (n := 9) rfl dk_10

theorem dk_12 : View.canon (HS1_12 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 11, ck (arr x1 x2 x3 x4 x6 (HS3_1 (F := Ideal) c arg5 harg5 arg6 harg6 x4 x5) (HS4_3 (F := Ideal) c i arg1 harg1 x0)) (un x) t e :=
  step_dk (g := 0) (d := 1) (oq := 1280) (ok := 1152) (col := 0) (sq := fun _ => 1) (sk := fun _ => 1) w256 ⟨rfl, rfl⟩ ⟨rfl, rfl⟩ rfl
    (n := 10) rfl dk_11

theorem dk_13 : View.canon (HS1_13 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 12, ck (arr x1 x2 x3 x4 x6 (HS3_1 (F := Ideal) c arg5 harg5 arg6 harg6 x4 x5) (HS4_3 (F := Ideal) c i arg1 harg1 x0)) (un x) t e :=
  step_dk (g := 0) (d := 1) (oq := 1408) (ok := 1280) (col := 0) (sq := fun _ => 1) (sk := fun _ => 1) w256 ⟨rfl, rfl⟩ ⟨rfl, rfl⟩ rfl
    (n := 11) rfl dk_12

theorem dk_14 : View.canon (HS1_14 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 13, ck (arr x1 x2 x3 x4 x6 (HS3_1 (F := Ideal) c arg5 harg5 arg6 harg6 x4 x5) (HS4_3 (F := Ideal) c i arg1 harg1 x0)) (un x) t e :=
  step_dk (g := 0) (d := 1) (oq := 1536) (ok := 1408) (col := 0) (sq := fun _ => 1) (sk := fun _ => 1) w256 ⟨rfl, rfl⟩ ⟨rfl, rfl⟩ rfl
    (n := 12) rfl dk_13

theorem dk_15 : View.canon (HS1_15 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 14, ck (arr x1 x2 x3 x4 x6 (HS3_1 (F := Ideal) c arg5 harg5 arg6 harg6 x4 x5) (HS4_3 (F := Ideal) c i arg1 harg1 x0)) (un x) t e :=
  step_dk (g := 0) (d := 1) (oq := 1664) (ok := 1536) (col := 0) (sq := fun _ => 1) (sk := fun _ => 1) w256 ⟨rfl, rfl⟩ ⟨rfl, rfl⟩ rfl
    (n := 13) rfl dk_14

theorem dk_16 : View.canon (HS1_16 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 15, ck (arr x1 x2 x3 x4 x6 (HS3_1 (F := Ideal) c arg5 harg5 arg6 harg6 x4 x5) (HS4_3 (F := Ideal) c i arg1 harg1 x0)) (un x) t e :=
  step_dk (g := 0) (d := 1) (oq := 1792) (ok := 1664) (col := 0) (sq := fun _ => 1) (sk := fun _ => 1) w256 ⟨rfl, rfl⟩ ⟨rfl, rfl⟩ rfl
    (n := 14) rfl dk_15

theorem dk_17 : View.canon (HS1_17 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 16, ck (arr x1 x2 x3 x4 x6 (HS3_1 (F := Ideal) c arg5 harg5 arg6 harg6 x4 x5) (HS4_3 (F := Ideal) c i arg1 harg1 x0)) (un x) t e :=
  step_dk (g := 0) (d := 1) (oq := 1920) (ok := 1792) (col := 0) (sq := fun _ => 1) (sk := fun _ => 1) w256 ⟨rfl, rfl⟩ ⟨rfl, rfl⟩ rfl
    (n := 15) rfl dk_16

theorem dk_18 : View.canon (HS1_18 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 17, ck (arr x1 x2 x3 x4 x6 (HS3_1 (F := Ideal) c arg5 harg5 arg6 harg6 x4 x5) (HS4_3 (F := Ideal) c i arg1 harg1 x0)) (un x) t e :=
  step_dk (g := 1) (d := 4) (oq := 0) (ok := 0) (col := 128) (sq := ![4, 1]) (sk := ![4, 1]) (posq := pos_4) (posk := pos_4) w128 ⟨rfl, rfl⟩ ⟨rfl, rfl⟩ rfl
    (n := 16) rfl dk_17

theorem dk_19 : View.canon (HS1_19 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 18, ck (arr x1 x2 x3 x4 x6 (HS3_1 (F := Ideal) c arg5 harg5 arg6 harg6 x4 x5) (HS4_3 (F := Ideal) c i arg1 harg1 x0)) (un x) t e :=
  step_dk (g := 1) (d := 4) (oq := 512) (ok := 0) (col := 0) (sq := ![4, 1]) (sk := ![4, 1]) (posq := pos_4) (posk := pos_4) w256 ⟨rfl, rfl⟩ ⟨rfl, rfl⟩ rfl
    (n := 17) rfl dk_18

theorem dk_20 : View.canon (HS1_20 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 19, ck (arr x1 x2 x3 x4 x6 (HS3_1 (F := Ideal) c arg5 harg5 arg6 harg6 x4 x5) (HS4_3 (F := Ideal) c i arg1 harg1 x0)) (un x) t e :=
  step_dk (g := 1) (d := 4) (oq := 1024) (ok := 512) (col := 0) (sq := ![4, 1]) (sk := ![4, 1]) (posq := pos_4) (posk := pos_4) w256 ⟨rfl, rfl⟩ ⟨rfl, rfl⟩ rfl
    (n := 18) rfl dk_19

theorem dk_21 : View.canon (HS1_21 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 20, ck (arr x1 x2 x3 x4 x6 (HS3_1 (F := Ideal) c arg5 harg5 arg6 harg6 x4 x5) (HS4_3 (F := Ideal) c i arg1 harg1 x0)) (un x) t e :=
  step_dk (g := 1) (d := 4) (oq := 1536) (ok := 1024) (col := 0) (sq := ![4, 1]) (sk := ![4, 1]) (posq := pos_4) (posk := pos_4) w256 ⟨rfl, rfl⟩ ⟨rfl, rfl⟩ rfl
    (n := 19) rfl dk_20

theorem dk_22 : View.canon (HS1_22 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 21, ck (arr x1 x2 x3 x4 x6 (HS3_1 (F := Ideal) c arg5 harg5 arg6 harg6 x4 x5) (HS4_3 (F := Ideal) c i arg1 harg1 x0)) (un x) t e :=
  step_dk (g := 1) (d := 4) (oq := 1) (ok := 1) (col := 128) (sq := ![4, 1]) (sk := ![4, 1]) (posq := pos_4) (posk := pos_4) w128 ⟨rfl, rfl⟩ ⟨rfl, rfl⟩ rfl
    (n := 20) rfl dk_21

theorem dk_23 : View.canon (HS1_23 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 22, ck (arr x1 x2 x3 x4 x6 (HS3_1 (F := Ideal) c arg5 harg5 arg6 harg6 x4 x5) (HS4_3 (F := Ideal) c i arg1 harg1 x0)) (un x) t e :=
  step_dk (g := 1) (d := 4) (oq := 513) (ok := 1) (col := 0) (sq := ![4, 1]) (sk := ![4, 1]) (posq := pos_4) (posk := pos_4) w256 ⟨rfl, rfl⟩ ⟨rfl, rfl⟩ rfl
    (n := 21) rfl dk_22

theorem dk_24 : View.canon (HS1_24 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 23, ck (arr x1 x2 x3 x4 x6 (HS3_1 (F := Ideal) c arg5 harg5 arg6 harg6 x4 x5) (HS4_3 (F := Ideal) c i arg1 harg1 x0)) (un x) t e :=
  step_dk (g := 1) (d := 4) (oq := 1025) (ok := 513) (col := 0) (sq := ![4, 1]) (sk := ![4, 1]) (posq := pos_4) (posk := pos_4) w256 ⟨rfl, rfl⟩ ⟨rfl, rfl⟩ rfl
    (n := 22) rfl dk_23

theorem dk_25 : View.canon (HS1_25 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 24, ck (arr x1 x2 x3 x4 x6 (HS3_1 (F := Ideal) c arg5 harg5 arg6 harg6 x4 x5) (HS4_3 (F := Ideal) c i arg1 harg1 x0)) (un x) t e :=
  step_dk (g := 1) (d := 4) (oq := 1537) (ok := 1025) (col := 0) (sq := ![4, 1]) (sk := ![4, 1]) (posq := pos_4) (posk := pos_4) w256 ⟨rfl, rfl⟩ ⟨rfl, rfl⟩ rfl
    (n := 23) rfl dk_24

theorem dk_26 : View.canon (HS1_26 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 25, ck (arr x1 x2 x3 x4 x6 (HS3_1 (F := Ideal) c arg5 harg5 arg6 harg6 x4 x5) (HS4_3 (F := Ideal) c i arg1 harg1 x0)) (un x) t e :=
  step_dk (g := 1) (d := 4) (oq := 2) (ok := 2) (col := 128) (sq := ![4, 1]) (sk := ![4, 1]) (posq := pos_4) (posk := pos_4) w128 ⟨rfl, rfl⟩ ⟨rfl, rfl⟩ rfl
    (n := 24) rfl dk_25

theorem dk_27 : View.canon (HS1_27 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 26, ck (arr x1 x2 x3 x4 x6 (HS3_1 (F := Ideal) c arg5 harg5 arg6 harg6 x4 x5) (HS4_3 (F := Ideal) c i arg1 harg1 x0)) (un x) t e :=
  step_dk (g := 1) (d := 4) (oq := 514) (ok := 2) (col := 0) (sq := ![4, 1]) (sk := ![4, 1]) (posq := pos_4) (posk := pos_4) w256 ⟨rfl, rfl⟩ ⟨rfl, rfl⟩ rfl
    (n := 25) rfl dk_26

theorem dk_28 : View.canon (HS1_28 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 27, ck (arr x1 x2 x3 x4 x6 (HS3_1 (F := Ideal) c arg5 harg5 arg6 harg6 x4 x5) (HS4_3 (F := Ideal) c i arg1 harg1 x0)) (un x) t e :=
  step_dk (g := 1) (d := 4) (oq := 1026) (ok := 514) (col := 0) (sq := ![4, 1]) (sk := ![4, 1]) (posq := pos_4) (posk := pos_4) w256 ⟨rfl, rfl⟩ ⟨rfl, rfl⟩ rfl
    (n := 26) rfl dk_27

theorem dk_29 : View.canon (HS1_29 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 28, ck (arr x1 x2 x3 x4 x6 (HS3_1 (F := Ideal) c arg5 harg5 arg6 harg6 x4 x5) (HS4_3 (F := Ideal) c i arg1 harg1 x0)) (un x) t e :=
  step_dk (g := 1) (d := 4) (oq := 1538) (ok := 1026) (col := 0) (sq := ![4, 1]) (sk := ![4, 1]) (posq := pos_4) (posk := pos_4) w256 ⟨rfl, rfl⟩ ⟨rfl, rfl⟩ rfl
    (n := 27) rfl dk_28

theorem dk_30 : View.canon (HS1_30 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 29, ck (arr x1 x2 x3 x4 x6 (HS3_1 (F := Ideal) c arg5 harg5 arg6 harg6 x4 x5) (HS4_3 (F := Ideal) c i arg1 harg1 x0)) (un x) t e :=
  step_dk (g := 1) (d := 4) (oq := 3) (ok := 3) (col := 128) (sq := ![4, 1]) (sk := ![4, 1]) (posq := pos_4) (posk := pos_4) w128 ⟨rfl, rfl⟩ ⟨rfl, rfl⟩ rfl
    (n := 28) rfl dk_29

theorem dk_31 : View.canon (HS1_31 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 30, ck (arr x1 x2 x3 x4 x6 (HS3_1 (F := Ideal) c arg5 harg5 arg6 harg6 x4 x5) (HS4_3 (F := Ideal) c i arg1 harg1 x0)) (un x) t e :=
  step_dk (g := 1) (d := 4) (oq := 515) (ok := 3) (col := 0) (sq := ![4, 1]) (sk := ![4, 1]) (posq := pos_4) (posk := pos_4) w256 ⟨rfl, rfl⟩ ⟨rfl, rfl⟩ rfl
    (n := 29) rfl dk_30

theorem dk_32 : View.canon (HS1_32 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 31, ck (arr x1 x2 x3 x4 x6 (HS3_1 (F := Ideal) c arg5 harg5 arg6 harg6 x4 x5) (HS4_3 (F := Ideal) c i arg1 harg1 x0)) (un x) t e :=
  step_dk (g := 1) (d := 4) (oq := 1027) (ok := 515) (col := 0) (sq := ![4, 1]) (sk := ![4, 1]) (posq := pos_4) (posk := pos_4) w256 ⟨rfl, rfl⟩ ⟨rfl, rfl⟩ rfl
    (n := 30) rfl dk_31

theorem dk_33 : View.canon (HS1_33 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 32, ck (arr x1 x2 x3 x4 x6 (HS3_1 (F := Ideal) c arg5 harg5 arg6 harg6 x4 x5) (HS4_3 (F := Ideal) c i arg1 harg1 x0)) (un x) t e :=
  step_dk (g := 1) (d := 4) (oq := 1539) (ok := 1027) (col := 0) (sq := ![4, 1]) (sk := ![4, 1]) (posq := pos_4) (posk := pos_4) w256 ⟨rfl, rfl⟩ ⟨rfl, rfl⟩ rfl
    (n := 31) rfl dk_32

theorem dk_34 : View.canon (HS1_34 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 33, ck (arr x1 x2 x3 x4 x6 (HS3_1 (F := Ideal) c arg5 harg5 arg6 harg6 x4 x5) (HS4_3 (F := Ideal) c i arg1 harg1 x0)) (un x) t e :=
  step_dk (g := 2) (d := 16) (oq := 0) (ok := 0) (col := 128) (sq := ![16, 1]) (sk := ![16, 1]) (posq := pos_16) (posk := pos_16) w128 ⟨rfl, rfl⟩ ⟨rfl, rfl⟩ rfl
    (n := 32) rfl dk_33

theorem dk_35 : View.canon (HS1_35 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 34, ck (arr x1 x2 x3 x4 x6 (HS3_1 (F := Ideal) c arg5 harg5 arg6 harg6 x4 x5) (HS4_3 (F := Ideal) c i arg1 harg1 x0)) (un x) t e :=
  step_dk (g := 2) (d := 16) (oq := 1) (ok := 1) (col := 128) (sq := ![16, 1]) (sk := ![16, 1]) (posq := pos_16) (posk := pos_16) w128 ⟨rfl, rfl⟩ ⟨rfl, rfl⟩ rfl
    (n := 33) rfl dk_34

theorem dk_36 : View.canon (HS1_36 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 35, ck (arr x1 x2 x3 x4 x6 (HS3_1 (F := Ideal) c arg5 harg5 arg6 harg6 x4 x5) (HS4_3 (F := Ideal) c i arg1 harg1 x0)) (un x) t e :=
  step_dk (g := 2) (d := 16) (oq := 2) (ok := 2) (col := 128) (sq := ![16, 1]) (sk := ![16, 1]) (posq := pos_16) (posk := pos_16) w128 ⟨rfl, rfl⟩ ⟨rfl, rfl⟩ rfl
    (n := 34) rfl dk_35

theorem dk_37 : View.canon (HS1_37 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 36, ck (arr x1 x2 x3 x4 x6 (HS3_1 (F := Ideal) c arg5 harg5 arg6 harg6 x4 x5) (HS4_3 (F := Ideal) c i arg1 harg1 x0)) (un x) t e :=
  step_dk (g := 2) (d := 16) (oq := 3) (ok := 3) (col := 128) (sq := ![16, 1]) (sk := ![16, 1]) (posq := pos_16) (posk := pos_16) w128 ⟨rfl, rfl⟩ ⟨rfl, rfl⟩ rfl
    (n := 35) rfl dk_36

theorem dk_38 : View.canon (HS1_38 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 37, ck (arr x1 x2 x3 x4 x6 (HS3_1 (F := Ideal) c arg5 harg5 arg6 harg6 x4 x5) (HS4_3 (F := Ideal) c i arg1 harg1 x0)) (un x) t e :=
  step_dk (g := 2) (d := 16) (oq := 4) (ok := 4) (col := 128) (sq := ![16, 1]) (sk := ![16, 1]) (posq := pos_16) (posk := pos_16) w128 ⟨rfl, rfl⟩ ⟨rfl, rfl⟩ rfl
    (n := 36) rfl dk_37

theorem dk_39 : View.canon (HS1_39 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 38, ck (arr x1 x2 x3 x4 x6 (HS3_1 (F := Ideal) c arg5 harg5 arg6 harg6 x4 x5) (HS4_3 (F := Ideal) c i arg1 harg1 x0)) (un x) t e :=
  step_dk (g := 2) (d := 16) (oq := 5) (ok := 5) (col := 128) (sq := ![16, 1]) (sk := ![16, 1]) (posq := pos_16) (posk := pos_16) w128 ⟨rfl, rfl⟩ ⟨rfl, rfl⟩ rfl
    (n := 37) rfl dk_38

theorem dk_40 : View.canon (HS1_40 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 39, ck (arr x1 x2 x3 x4 x6 (HS3_1 (F := Ideal) c arg5 harg5 arg6 harg6 x4 x5) (HS4_3 (F := Ideal) c i arg1 harg1 x0)) (un x) t e :=
  step_dk (g := 2) (d := 16) (oq := 6) (ok := 6) (col := 128) (sq := ![16, 1]) (sk := ![16, 1]) (posq := pos_16) (posk := pos_16) w128 ⟨rfl, rfl⟩ ⟨rfl, rfl⟩ rfl
    (n := 38) rfl dk_39

theorem dk_41 : View.canon (HS1_41 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 40, ck (arr x1 x2 x3 x4 x6 (HS3_1 (F := Ideal) c arg5 harg5 arg6 harg6 x4 x5) (HS4_3 (F := Ideal) c i arg1 harg1 x0)) (un x) t e :=
  step_dk (g := 2) (d := 16) (oq := 7) (ok := 7) (col := 128) (sq := ![16, 1]) (sk := ![16, 1]) (posq := pos_16) (posk := pos_16) w128 ⟨rfl, rfl⟩ ⟨rfl, rfl⟩ rfl
    (n := 39) rfl dk_40

theorem dk_42 : View.canon (HS1_42 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 41, ck (arr x1 x2 x3 x4 x6 (HS3_1 (F := Ideal) c arg5 harg5 arg6 harg6 x4 x5) (HS4_3 (F := Ideal) c i arg1 harg1 x0)) (un x) t e :=
  step_dk (g := 2) (d := 16) (oq := 8) (ok := 8) (col := 128) (sq := ![16, 1]) (sk := ![16, 1]) (posq := pos_16) (posk := pos_16) w128 ⟨rfl, rfl⟩ ⟨rfl, rfl⟩ rfl
    (n := 40) rfl dk_41

theorem dk_43 : View.canon (HS1_43 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 42, ck (arr x1 x2 x3 x4 x6 (HS3_1 (F := Ideal) c arg5 harg5 arg6 harg6 x4 x5) (HS4_3 (F := Ideal) c i arg1 harg1 x0)) (un x) t e :=
  step_dk (g := 2) (d := 16) (oq := 9) (ok := 9) (col := 128) (sq := ![16, 1]) (sk := ![16, 1]) (posq := pos_16) (posk := pos_16) w128 ⟨rfl, rfl⟩ ⟨rfl, rfl⟩ rfl
    (n := 41) rfl dk_42

theorem dk_44 : View.canon (HS1_44 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 43, ck (arr x1 x2 x3 x4 x6 (HS3_1 (F := Ideal) c arg5 harg5 arg6 harg6 x4 x5) (HS4_3 (F := Ideal) c i arg1 harg1 x0)) (un x) t e :=
  step_dk (g := 2) (d := 16) (oq := 10) (ok := 10) (col := 128) (sq := ![16, 1]) (sk := ![16, 1]) (posq := pos_16) (posk := pos_16) w128 ⟨rfl, rfl⟩ ⟨rfl, rfl⟩ rfl
    (n := 42) rfl dk_43

theorem dk_45 : View.canon (HS1_45 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 44, ck (arr x1 x2 x3 x4 x6 (HS3_1 (F := Ideal) c arg5 harg5 arg6 harg6 x4 x5) (HS4_3 (F := Ideal) c i arg1 harg1 x0)) (un x) t e :=
  step_dk (g := 2) (d := 16) (oq := 11) (ok := 11) (col := 128) (sq := ![16, 1]) (sk := ![16, 1]) (posq := pos_16) (posk := pos_16) w128 ⟨rfl, rfl⟩ ⟨rfl, rfl⟩ rfl
    (n := 43) rfl dk_44

theorem dk_46 : View.canon (HS1_46 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 45, ck (arr x1 x2 x3 x4 x6 (HS3_1 (F := Ideal) c arg5 harg5 arg6 harg6 x4 x5) (HS4_3 (F := Ideal) c i arg1 harg1 x0)) (un x) t e :=
  step_dk (g := 2) (d := 16) (oq := 12) (ok := 12) (col := 128) (sq := ![16, 1]) (sk := ![16, 1]) (posq := pos_16) (posk := pos_16) w128 ⟨rfl, rfl⟩ ⟨rfl, rfl⟩ rfl
    (n := 44) rfl dk_45

theorem dk_47 : View.canon (HS1_47 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 46, ck (arr x1 x2 x3 x4 x6 (HS3_1 (F := Ideal) c arg5 harg5 arg6 harg6 x4 x5) (HS4_3 (F := Ideal) c i arg1 harg1 x0)) (un x) t e :=
  step_dk (g := 2) (d := 16) (oq := 13) (ok := 13) (col := 128) (sq := ![16, 1]) (sk := ![16, 1]) (posq := pos_16) (posk := pos_16) w128 ⟨rfl, rfl⟩ ⟨rfl, rfl⟩ rfl
    (n := 45) rfl dk_46

theorem dk_48 : View.canon (HS1_48 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 47, ck (arr x1 x2 x3 x4 x6 (HS3_1 (F := Ideal) c arg5 harg5 arg6 harg6 x4 x5) (HS4_3 (F := Ideal) c i arg1 harg1 x0)) (un x) t e :=
  step_dk (g := 2) (d := 16) (oq := 14) (ok := 14) (col := 128) (sq := ![16, 1]) (sk := ![16, 1]) (posq := pos_16) (posk := pos_16) w128 ⟨rfl, rfl⟩ ⟨rfl, rfl⟩ rfl
    (n := 46) rfl dk_47

theorem dk_49 : View.canon (HS1_49 (F := Ideal) c i arg1 harg1 arg2 harg2 arg3 harg3 arg4 harg4 arg5 harg5 arg6 harg6 arg7 harg7 arg14 arg16 arg17 x0 x1 x2 x3 x4 x5 x6) (ix2 t e)
    = ∑ x ∈ Finset.range 48, ck (arr x1 x2 x3 x4 x6 (HS3_1 (F := Ideal) c arg5 harg5 arg6 harg6 x4 x5) (HS4_3 (F := Ideal) c i arg1 harg1 x0)) (un x) t e :=
  step_dk (g := 2) (d := 16) (oq := 15) (ok := 15) (col := 128) (sq := ![16, 1]) (sk := ![16, 1]) (posq := pos_16) (posk := pos_16) w128 ⟨rfl, rfl⟩ ⟨rfl, rfl⟩ rfl
    (n := 47) rfl dk_48

end Cert.Unit
-- ==== Proof.StepsV.lean ====
/-
  The values' gradients in scratch after each of the 48 units: what the units so far add to them, row by row.
-/
module

public import proofs.«01_k».proof.Proof.UnitSteps
public import Idealize.ShloMosaic.Lib.Pipeline.ValueKit.Basic

@[expose] public section

noncomputable section

namespace Cert.Unit

open Idealize.ShloMosaic Idealize.ShloMosaic.ValueIdx
open Cert.KernelIdeal Cert.KernelIdeal.Gen Cert.KernelIdeal.Gen.kernelRun0_A.sl
open scoped BigOperators

variable {c : Dev nD} {i : grid0.Coords} {arg1 : Memref sig .tc .smem S16 .f32} {harg1 : arg1.IsWhole}
  {arg2 arg3 arg4 arg5 : Memref sig .tc .vmem S2048x128 .f32} {harg2 : arg2.IsWhole} {harg3 : arg3.IsWhole}
  {harg4 : arg4.IsWhole} {harg5 : arg5.IsWhole}
  {arg6 : Memref sig .tc .vmem S2048x128 .bf16} {harg6 : arg6.IsWhole} {arg7 : Memref sig .tc .vmem S2048x128 .f32}
  {harg7 : arg7.IsWhole} {arg13 arg14 arg15 arg16 : Memref sig .tc .vmem S2048x128 .f32}
  {arg17 : Memref sig .tc .vmem S3x128x256 .f32}
  {x0 : Vec Ideal S16 .f32} {x1 x2 x3 x4 : Vec Ideal S2048x128 .f32} {x5 : Vec Ideal S2048x128 .bf16}
  {x6 : Vec Ideal S2048x128 .f32} {t : Fin 2048} {e : Fin 128}

/-- Nothing before the first unit. -/
theorem dv_1 : View.canon (HS0_1 (F := Ideal)) (ix2 t e) = ∑ x ∈ Finset.range 0, cv (arr x1 x2 x3 x4 x6 (HS3_1 (F := Ideal) c arg5 harg5 arg6 harg6 x4 x5) (HS4_3 (F := Ideal) c i arg1 harg1 x0)) (un x) t e := by
  rw [Finset.sum_range_zero]
  unfold HS0_1
  rw [View.canon_cons_unit_lit _ _ _ (fun a => match a with | ⟨0, _⟩ => rfl | ⟨1, _⟩ => rfl)]
  exact congrFun (shapeCast_self _ _) _ |>.trans Ideal.ofBits_zero_f32

theorem dv_2 : View.canon (HS2_2 (F := Ideal) c i arg1 harg1 arg2 harg2 arg3 harg3 arg5 harg5 arg7 harg7 arg15 arg17 x0 x1 x2 x4 x6) (ix2 t e)
    = ∑ x ∈ Finset.range 1, cv (arr x1 x2 x3 x4 x6 (HS3_1 (F := Ideal) c arg5 harg5 arg6 harg6 x4 x5) (HS4_3 (F := Ideal) c i arg1 harg1 x0)) (un x) t e :=
  step_dv (g := 0) (d := 1) (oq := 0) (ok := 0) (col := 128) (sq := fun _ => 1) (sk := fun _ => 1) w128 ⟨rfl, rfl⟩ ⟨rfl, rfl⟩ rfl
    (n := 0) rfl dv_1

theorem dv_3 : View.canon (HS2_3 (F := Ideal) c i arg1 harg1 arg2 harg2 arg3 harg3 arg5 harg5 arg7 harg7 arg15 arg17 x0 x1 x2 x4 x6) (ix2 t e)
    = ∑ x ∈ Finset.range 2, cv (arr x1 x2 x3 x4 x6 (HS3_1 (F := Ideal) c arg5 harg5 arg6 harg6 x4 x5) (HS4_3 (F := Ideal) c i arg1 harg1 x0)) (un x) t e :=
  step_dv (g := 0) (d := 1) (oq := 128) (ok := 0) (col := 0) (sq := fun _ => 1) (sk := fun _ => 1) w256 ⟨rfl, rfl⟩ ⟨rfl, rfl⟩ rfl
    (n := 1) rfl dv_2

theorem dv_4 : View.canon (HS2_4 (F := Ideal) c i arg1 harg1 arg2 harg2 arg3 harg3 arg5 harg5 arg7 harg7 arg15 arg17 x0 x1 x2 x4 x6) (ix2 t e)
    = ∑ x ∈ Finset.range 3, cv (arr x1 x2 x3 x4 x6 (HS3_1 (F := Ideal) c arg5 harg5 arg6 harg6 x4 x5) (HS4_3 (F := Ideal) c i arg1 harg1 x0)) (un x) t e :=
  step_dv (g := 0) (d := 1) (oq := 256) (ok := 128) (col := 0) (sq := fun _ => 1) (sk := fun _ => 1) w256 ⟨rfl, rfl⟩ ⟨rfl, rfl⟩ rfl
    (n := 2) rfl dv_3

theorem dv_5 : View.canon (HS2_5 (F := Ideal) c i arg1 harg1 arg2 harg2 arg3 harg3 arg5 harg5 arg7 harg7 arg15 arg17 x0 x1 x2 x4 x6) (ix2 t e)
    = ∑ x ∈ Finset.range 4, cv (arr x1 x2 x3 x4 x6 (HS3_1 (F := Ideal) c arg5 harg5 arg6 harg6 x4 x5) (HS4_3 (F := Ideal) c i arg1 harg1 x0)) (un x) t e :=
  step_dv (g := 0) (d := 1) (oq := 384) (ok := 256) (col := 0) (sq := fun _ => 1) (sk := fun _ => 1) w256 ⟨rfl, rfl⟩ ⟨rfl, rfl⟩ rfl
    (n := 3) rfl dv_4

theorem dv_6 : View.canon (HS2_6 (F := Ideal) c i arg1 harg1 arg2 harg2 arg3 harg3 arg5 harg5 arg7 harg7 arg15 arg17 x0 x1 x2 x4 x6) (ix2 t e)
    = ∑ x ∈ Finset.range 5, cv (arr x1 x2 x3 x4 x6 (HS3_1 (F := Ideal) c arg5 harg5 arg6 harg6 x4 x5) (HS4_3 (F := Ideal) c i arg1 harg1 x0)) (un x) t e :=
  step_dv (g := 0) (d := 1) (oq := 512) (ok := 384) (col := 0) (sq := fun _ => 1) (sk := fun _ => 1) w256 ⟨rfl, rfl⟩ ⟨rfl, rfl⟩ rfl
    (n := 4) rfl dv_5

theorem dv_7 : View.canon (HS2_7 (F := Ideal) c i arg1 harg1 arg2 harg2 arg3 harg3 arg5 harg5 arg7 harg7 arg15 arg17 x0 x1 x2 x4 x6) (ix2 t e)
    = ∑ x ∈ Finset.range 6, cv (arr x1 x2 x3 x4 x6 (HS3_1 (F := Ideal) c arg5 harg5 arg6 harg6 x4 x5) (HS4_3 (F := Ideal) c i arg1 harg1 x0)) (un x) t e :=
  step_dv (g := 0) (d := 1) (oq := 640) (ok := 512) (col := 0) (sq := fun _ => 1) (sk := fun _ => 1) w256 ⟨rfl, rfl⟩ ⟨rfl, rfl⟩ rfl
    (n := 5) rfl dv_6

theorem dv_8 : View.canon (HS2_8 (F := Ideal) c i arg1 harg1 arg2 harg2 arg3 harg3 arg5 harg5 arg7 harg7 arg15 arg17 x0 x1 x2 x4 x6) (ix2 t e)
    = ∑ x ∈ Finset.range 7, cv (arr x1 x2 x3 x4 x6 (HS3_1 (F := Ideal) c arg5 harg5 arg6 harg6 x4 x5) (HS4_3 (F := Ideal) c i arg1 harg1 x0)) (un x) t e :=
  step_dv (g := 0) (d := 1) (oq := 768) (ok := 640) (col := 0) (sq := fun _ => 1) (sk := fun _ => 1) w256 ⟨rfl, rfl⟩ ⟨rfl, rfl⟩ rfl
    (n := 6) rfl dv_7

theorem dv_9 : View.canon (HS2_9 (F := Ideal) c i arg1 harg1 arg2 harg2 arg3 harg3 arg5 harg5 arg7 harg7 arg15 arg17 x0 x1 x2 x4 x6) (ix2 t e)
    = ∑ x ∈ Finset.range 8, cv (arr x1 x2 x3 x4 x6 (HS3_1 (F := Ideal) c arg5 harg5 arg6 harg6 x4 x5) (HS4_3 (F := Ideal) c i arg1 harg1 x0)) (un x) t e :=
  step_dv (g := 0) (d := 1) (oq := 896) (ok := 768) (col := 0) (sq := fun _ => 1) (sk := fun _ => 1) w256 ⟨rfl, rfl⟩ ⟨rfl, rfl⟩ rfl
    (n := 7) rfl dv_8

theorem dv_10 : View.canon (HS2_10 (F := Ideal) c i arg1 harg1 arg2 harg2 arg3 harg3 arg5 harg5 arg7 harg7 arg15 arg17 x0 x1 x2 x4 x6) (ix2 t e)
    = ∑ x ∈ Finset.range 9, cv (arr x1 x2 x3 x4 x6 (HS3_1 (F := Ideal) c arg5 harg5 arg6 harg6 x4 x5) (HS4_3 (F := Ideal) c i arg1 harg1 x0)) (un x) t e :=
  step_dv (g := 0) (d := 1) (oq := 1024) (ok := 896) (col := 0) (sq := fun _ => 1) (sk := fun _ => 1) w256 ⟨rfl, rfl⟩ ⟨rfl, rfl⟩ rfl
    (n := 8) rfl dv_9

theorem dv_11 : View.canon (HS2_11 (F := Ideal) c i arg1 harg1 arg2 harg2 arg3 harg3 arg5 harg5 arg7 harg7 arg15 arg17 x0 x1 x2 x4 x6) (ix2 t e)
    = ∑ x ∈ Finset.range 10, cv (arr x1 x2 x3 x4 x6 (HS3_1 (F := Ideal) c arg5 harg5 arg6 harg6 x4 x5) (HS4_3 (F := Ideal) c i arg1 harg1 x0)) (un x) t e :=
  step_dv (g := 0) (d := 1) (oq := 1152) (ok := 1024) (col := 0) (sq := fun _ => 1) (sk := fun _ => 1) w256 ⟨rfl, rfl⟩ ⟨rfl, rfl⟩ rfl
    (n := 9) rfl dv_10

theorem dv_12 : View.canon (HS2_12 (F := Ideal) c i arg1 harg1 arg2 harg2 arg3 harg3 arg5 harg5 arg7 harg7 arg15 arg17 x0 x1 x2 x4 x6) (ix2 t e)
    = ∑ x ∈ Finset.range 11, cv (arr x1 x2 x3 x4 x6 (HS3_1 (F := Ideal) c arg5 harg5 arg6 harg6 x4 x5) (HS4_3 (F := Ideal) c i arg1 harg1 x0)) (un x) t e :=
  step_dv (g := 0) (d := 1) (oq := 1280) (ok := 1152) (col := 0) (sq := fun _ => 1) (sk := fun _ => 1) w256 ⟨rfl, rfl⟩ ⟨rfl, rfl⟩ rfl
    (n := 10) rfl dv_11

theorem dv_13 : View.canon (HS2_13 (F := Ideal) c i arg1 harg1 arg2 harg2 arg3 harg3 arg5 harg5 arg7 harg7 arg15 arg17 x0 x1 x2 x4 x6) (ix2 t e)
    = ∑ x ∈ Finset.range 12, cv (arr x1 x2 x3 x4 x6 (HS3_1 (F := Ideal) c arg5 harg5 arg6 harg6 x4 x5) (HS4_3 (F := Ideal) c i arg1 harg1 x0)) (un x) t e :=
  step_dv (g := 0) (d := 1) (oq := 1408) (ok := 1280) (col := 0) (sq := fun _ => 1) (sk := fun _ => 1) w256 ⟨rfl, rfl⟩ ⟨rfl, rfl⟩ rfl
    (n := 11) rfl dv_12

theorem dv_14 : View.canon (HS2_14 (F := Ideal) c i arg1 harg1 arg2 harg2 arg3 harg3 arg5 harg5 arg7 harg7 arg15 arg17 x0 x1 x2 x4 x6) (ix2 t e)
    = ∑ x ∈ Finset.range 13, cv (arr x1 x2 x3 x4 x6 (HS3_1 (F := Ideal) c arg5 harg5 arg6 harg6 x4 x5) (HS4_3 (F := Ideal) c i arg1 harg1 x0)) (un x) t e :=
  step_dv (g := 0) (d := 1) (oq := 1536) (ok := 1408) (col := 0) (sq := fun _ => 1) (sk := fun _ => 1) w256 ⟨rfl, rfl⟩ ⟨rfl, rfl⟩ rfl
    (n := 12) rfl dv_13

theorem dv_15 : View.canon (HS2_15 (F := Ideal) c i arg1 harg1 arg2 harg2 arg3 harg3 arg5 harg5 arg7 harg7 arg15 arg17 x0 x1 x2 x4 x6) (ix2 t e)
    = ∑ x ∈ Finset.range 14, cv (arr x1 x2 x3 x4 x6 (HS3_1 (F := Ideal) c arg5 harg5 arg6 harg6 x4 x5) (HS4_3 (F := Ideal) c i arg1 harg1 x0)) (un x) t e :=
  step_dv (g := 0) (d := 1) (oq := 1664) (ok := 1536) (col := 0) (sq := fun _ => 1) (sk := fun _ => 1) w256 ⟨rfl, rfl⟩ ⟨rfl, rfl⟩ rfl
    (n := 13) rfl dv_14

theorem dv_16 : View.canon (HS2_16 (F := Ideal) c i arg1 harg1 arg2 harg2 arg3 harg3 arg5 harg5 arg7 harg7 arg15 arg17 x0 x1 x2 x4 x6) (ix2 t e)
    = ∑ x ∈ Finset.range 15, cv (arr x1 x2 x3 x4 x6 (HS3_1 (F := Ideal) c arg5 harg5 arg6 harg6 x4 x5) (HS4_3 (F := Ideal) c i arg1 harg1 x0)) (un x) t e :=
  step_dv (g := 0) (d := 1) (oq := 1792) (ok := 1664) (col := 0) (sq := fun _ => 1) (sk := fun _ => 1) w256 ⟨rfl, rfl⟩ ⟨rfl, rfl⟩ rfl
    (n := 14) rfl dv_15

theorem dv_17 : View.canon (HS2_17 (F := Ideal) c i arg1 harg1 arg2 harg2 arg3 harg3 arg5 harg5 arg7 harg7 arg15 arg17 x0 x1 x2 x4 x6) (ix2 t e)
    = ∑ x ∈ Finset.range 16, cv (arr x1 x2 x3 x4 x6 (HS3_1 (F := Ideal) c arg5 harg5 arg6 harg6 x4 x5) (HS4_3 (F := Ideal) c i arg1 harg1 x0)) (un x) t e :=
  step_dv (g := 0) (d := 1) (oq := 1920) (ok := 1792) (col := 0) (sq := fun _ => 1) (sk := fun _ => 1) w256 ⟨rfl, rfl⟩ ⟨rfl, rfl⟩ rfl
    (n := 15) rfl dv_16

theorem dv_18 : View.canon (HS2_18 (F := Ideal) c i arg1 harg1 arg2 harg2 arg3 harg3 arg5 harg5 arg7 harg7 arg15 arg17 x0 x1 x2 x4 x6) (ix2 t e)
    = ∑ x ∈ Finset.range 17, cv (arr x1 x2 x3 x4 x6 (HS3_1 (F := Ideal) c arg5 harg5 arg6 harg6 x4 x5) (HS4_3 (F := Ideal) c i arg1 harg1 x0)) (un x) t e :=
  step_dv (g := 1) (d := 4) (oq := 0) (ok := 0) (col := 128) (sq := ![4, 1]) (sk := ![4, 1]) (posq := pos_4) (posk := pos_4) w128 ⟨rfl, rfl⟩ ⟨rfl, rfl⟩ rfl
    (n := 16) rfl dv_17

theorem dv_19 : View.canon (HS2_19 (F := Ideal) c i arg1 harg1 arg2 harg2 arg3 harg3 arg5 harg5 arg7 harg7 arg15 arg17 x0 x1 x2 x4 x6) (ix2 t e)
    = ∑ x ∈ Finset.range 18, cv (arr x1 x2 x3 x4 x6 (HS3_1 (F := Ideal) c arg5 harg5 arg6 harg6 x4 x5) (HS4_3 (F := Ideal) c i arg1 harg1 x0)) (un x) t e :=
  step_dv (g := 1) (d := 4) (oq := 512) (ok := 0) (col := 0) (sq := ![4, 1]) (sk := ![4, 1]) (posq := pos_4) (posk := pos_4) w256 ⟨rfl, rfl⟩ ⟨rfl, rfl⟩ rfl
    (n := 17) rfl dv_18

theorem dv_20 : View.canon (HS2_20 (F := Ideal) c i arg1 harg1 arg2 harg2 arg3 harg3 arg5 harg5 arg7 harg7 arg15 arg17 x0 x1 x2 x4 x6) (ix2 t e)
    = ∑ x ∈ Finset.range 19, cv (arr x1 x2 x3 x4 x6 (HS3_1 (F := Ideal) c arg5 harg5 arg6 harg6 x4 x5) (HS4_3 (F := Ideal) c i arg1 harg1 x0)) (un x) t e :=
  step_dv (g := 1) (d := 4) (oq := 1024) (ok := 512) (col := 0) (sq := ![4, 1]) (sk := ![4, 1]) (posq := pos_4) (posk := pos_4) w256 ⟨rfl, rfl⟩ ⟨rfl, rfl⟩ rfl
    (n := 18) rfl dv_19

theorem dv_21 : View.canon (HS2_21 (F := Ideal) c i arg1 harg1 arg2 harg2 arg3 harg3 arg5 harg5 arg7 harg7 arg15 arg17 x0 x1 x2 x4 x6) (ix2 t e)
    = ∑ x ∈ Finset.range 20, cv (arr x1 x2 x3 x4 x6 (HS3_1 (F := Ideal) c arg5 harg5 arg6 harg6 x4 x5) (HS4_3 (F := Ideal) c i arg1 harg1 x0)) (un x) t e :=
  step_dv (g := 1) (d := 4) (oq := 1536) (ok := 1024) (col := 0) (sq := ![4, 1]) (sk := ![4, 1]) (posq := pos_4) (posk := pos_4) w256 ⟨rfl, rfl⟩ ⟨rfl, rfl⟩ rfl
    (n := 19) rfl dv_20

theorem dv_22 : View.canon (HS2_22 (F := Ideal) c i arg1 harg1 arg2 harg2 arg3 harg3 arg5 harg5 arg7 harg7 arg15 arg17 x0 x1 x2 x4 x6) (ix2 t e)
    = ∑ x ∈ Finset.range 21, cv (arr x1 x2 x3 x4 x6 (HS3_1 (F := Ideal) c arg5 harg5 arg6 harg6 x4 x5) (HS4_3 (F := Ideal) c i arg1 harg1 x0)) (un x) t e :=
  step_dv (g := 1) (d := 4) (oq := 1) (ok := 1) (col := 128) (sq := ![4, 1]) (sk := ![4, 1]) (posq := pos_4) (posk := pos_4) w128 ⟨rfl, rfl⟩ ⟨rfl, rfl⟩ rfl
    (n := 20) rfl dv_21

theorem dv_23 : View.canon (HS2_23 (F := Ideal) c i arg1 harg1 arg2 harg2 arg3 harg3 arg5 harg5 arg7 harg7 arg15 arg17 x0 x1 x2 x4 x6) (ix2 t e)
    = ∑ x ∈ Finset.range 22, cv (arr x1 x2 x3 x4 x6 (HS3_1 (F := Ideal) c arg5 harg5 arg6 harg6 x4 x5) (HS4_3 (F := Ideal) c i arg1 harg1 x0)) (un x) t e :=
  step_dv (g := 1) (d := 4) (oq := 513) (ok := 1) (col := 0) (sq := ![4, 1]) (sk := ![4, 1]) (posq := pos_4) (posk := pos_4) w256 ⟨rfl, rfl⟩ ⟨rfl, rfl⟩ rfl
    (n := 21) rfl dv_22

theorem dv_24 : View.canon (HS2_24 (F := Ideal) c i arg1 harg1 arg2 harg2 arg3 harg3 arg5 harg5 arg7 harg7 arg15 arg17 x0 x1 x2 x4 x6) (ix2 t e)
    = ∑ x ∈ Finset.range 23, cv (arr x1 x2 x3 x4 x6 (HS3_1 (F := Ideal) c arg5 harg5 arg6 harg6 x4 x5) (HS4_3 (F := Ideal) c i arg1 harg1 x0)) (un x) t e :=
  step_dv (g := 1) (d := 4) (oq := 1025) (ok := 513) (col := 0) (sq := ![4, 1]) (sk := ![4, 1]) (posq := pos_4) (posk := pos_4) w256 ⟨rfl, rfl⟩ ⟨rfl, rfl⟩ rfl
    (n := 22) rfl dv_23

theorem dv_25 : View.canon (HS2_25 (F := Ideal) c i arg1 harg1 arg2 harg2 arg3 harg3 arg5 harg5 arg7 harg7 arg15 arg17 x0 x1 x2 x4 x6) (ix2 t e)
    = ∑ x ∈ Finset.range 24, cv (arr x1 x2 x3 x4 x6 (HS3_1 (F := Ideal) c arg5 harg5 arg6 harg6 x4 x5) (HS4_3 (F := Ideal) c i arg1 harg1 x0)) (un x) t e :=
  step_dv (g := 1) (d := 4) (oq := 1537) (ok := 1025) (col := 0) (sq := ![4, 1]) (sk := ![4, 1]) (posq := pos_4) (posk := pos_4) w256 ⟨rfl, rfl⟩ ⟨rfl, rfl⟩ rfl
    (n := 23) rfl dv_24

theorem dv_26 : View.canon (HS2_26 (F := Ideal) c i arg1 harg1 arg2 harg2 arg3 harg3 arg5 harg5 arg7 harg7 arg15 arg17 x0 x1 x2 x4 x6) (ix2 t e)
    = ∑ x ∈ Finset.range 25, cv (arr x1 x2 x3 x4 x6 (HS3_1 (F := Ideal) c arg5 harg5 arg6 harg6 x4 x5) (HS4_3 (F := Ideal) c i arg1 harg1 x0)) (un x) t e :=
  step_dv (g := 1) (d := 4) (oq := 2) (ok := 2) (col := 128) (sq := ![4, 1]) (sk := ![4, 1]) (posq := pos_4) (posk := pos_4) w128 ⟨rfl, rfl⟩ ⟨rfl, rfl⟩ rfl
    (n := 24) rfl dv_25

theorem dv_27 : View.canon (HS2_27 (F := Ideal) c i arg1 harg1 arg2 harg2 arg3 harg3 arg5 harg5 arg7 harg7 arg15 arg17 x0 x1 x2 x4 x6) (ix2 t e)
    = ∑ x ∈ Finset.range 26, cv (arr x1 x2 x3 x4 x6 (HS3_1 (F := Ideal) c arg5 harg5 arg6 harg6 x4 x5) (HS4_3 (F := Ideal) c i arg1 harg1 x0)) (un x) t e :=
  step_dv (g := 1) (d := 4) (oq := 514) (ok := 2) (col := 0) (sq := ![4, 1]) (sk := ![4, 1]) (posq := pos_4) (posk := pos_4) w256 ⟨rfl, rfl⟩ ⟨rfl, rfl⟩ rfl
    (n := 25) rfl dv_26

theorem dv_28 : View.canon (HS2_28 (F := Ideal) c i arg1 harg1 arg2 harg2 arg3 harg3 arg5 harg5 arg7 harg7 arg15 arg17 x0 x1 x2 x4 x6) (ix2 t e)
    = ∑ x ∈ Finset.range 27, cv (arr x1 x2 x3 x4 x6 (HS3_1 (F := Ideal) c arg5 harg5 arg6 harg6 x4 x5) (HS4_3 (F := Ideal) c i arg1 harg1 x0)) (un x) t e :=
  step_dv (g := 1) (d := 4) (oq := 1026) (ok := 514) (col := 0) (sq := ![4, 1]) (sk := ![4, 1]) (posq := pos_4) (posk := pos_4) w256 ⟨rfl, rfl⟩ ⟨rfl, rfl⟩ rfl
    (n := 26) rfl dv_27

theorem dv_29 : View.canon (HS2_29 (F := Ideal) c i arg1 harg1 arg2 harg2 arg3 harg3 arg5 harg5 arg7 harg7 arg15 arg17 x0 x1 x2 x4 x6) (ix2 t e)
    = ∑ x ∈ Finset.range 28, cv (arr x1 x2 x3 x4 x6 (HS3_1 (F := Ideal) c arg5 harg5 arg6 harg6 x4 x5) (HS4_3 (F := Ideal) c i arg1 harg1 x0)) (un x) t e :=
  step_dv (g := 1) (d := 4) (oq := 1538) (ok := 1026) (col := 0) (sq := ![4, 1]) (sk := ![4, 1]) (posq := pos_4) (posk := pos_4) w256 ⟨rfl, rfl⟩ ⟨rfl, rfl⟩ rfl
    (n := 27) rfl dv_28

theorem dv_30 : View.canon (HS2_30 (F := Ideal) c i arg1 harg1 arg2 harg2 arg3 harg3 arg5 harg5 arg7 harg7 arg15 arg17 x0 x1 x2 x4 x6) (ix2 t e)
    = ∑ x ∈ Finset.range 29, cv (arr x1 x2 x3 x4 x6 (HS3_1 (F := Ideal) c arg5 harg5 arg6 harg6 x4 x5) (HS4_3 (F := Ideal) c i arg1 harg1 x0)) (un x) t e :=
  step_dv (g := 1) (d := 4) (oq := 3) (ok := 3) (col := 128) (sq := ![4, 1]) (sk := ![4, 1]) (posq := pos_4) (posk := pos_4) w128 ⟨rfl, rfl⟩ ⟨rfl, rfl⟩ rfl
    (n := 28) rfl dv_29

theorem dv_31 : View.canon (HS2_31 (F := Ideal) c i arg1 harg1 arg2 harg2 arg3 harg3 arg5 harg5 arg7 harg7 arg15 arg17 x0 x1 x2 x4 x6) (ix2 t e)
    = ∑ x ∈ Finset.range 30, cv (arr x1 x2 x3 x4 x6 (HS3_1 (F := Ideal) c arg5 harg5 arg6 harg6 x4 x5) (HS4_3 (F := Ideal) c i arg1 harg1 x0)) (un x) t e :=
  step_dv (g := 1) (d := 4) (oq := 515) (ok := 3) (col := 0) (sq := ![4, 1]) (sk := ![4, 1]) (posq := pos_4) (posk := pos_4) w256 ⟨rfl, rfl⟩ ⟨rfl, rfl⟩ rfl
    (n := 29) rfl dv_30

theorem dv_32 : View.canon (HS2_32 (F := Ideal) c i arg1 harg1 arg2 harg2 arg3 harg3 arg5 harg5 arg7 harg7 arg15 arg17 x0 x1 x2 x4 x6) (ix2 t e)
    = ∑ x ∈ Finset.range 31, cv (arr x1 x2 x3 x4 x6 (HS3_1 (F := Ideal) c arg5 harg5 arg6 harg6 x4 x5) (HS4_3 (F := Ideal) c i arg1 harg1 x0)) (un x) t e :=
  step_dv (g := 1) (d := 4) (oq := 1027) (ok := 515) (col := 0) (sq := ![4, 1]) (sk := ![4, 1]) (posq := pos_4) (posk := pos_4) w256 ⟨rfl, rfl⟩ ⟨rfl, rfl⟩ rfl
    (n := 30) rfl dv_31

theorem dv_33 : View.canon (HS2_33 (F := Ideal) c i arg1 harg1 arg2 harg2 arg3 harg3 arg5 harg5 arg7 harg7 arg15 arg17 x0 x1 x2 x4 x6) (ix2 t e)
    = ∑ x ∈ Finset.range 32, cv (arr x1 x2 x3 x4 x6 (HS3_1 (F := Ideal) c arg5 harg5 arg6 harg6 x4 x5) (HS4_3 (F := Ideal) c i arg1 harg1 x0)) (un x) t e :=
  step_dv (g := 1) (d := 4) (oq := 1539) (ok := 1027) (col := 0) (sq := ![4, 1]) (sk := ![4, 1]) (posq := pos_4) (posk := pos_4) w256 ⟨rfl, rfl⟩ ⟨rfl, rfl⟩ rfl
    (n := 31) rfl dv_32

theorem dv_34 : View.canon (HS2_34 (F := Ideal) c i arg1 harg1 arg2 harg2 arg3 harg3 arg5 harg5 arg7 harg7 arg15 arg17 x0 x1 x2 x4 x6) (ix2 t e)
    = ∑ x ∈ Finset.range 33, cv (arr x1 x2 x3 x4 x6 (HS3_1 (F := Ideal) c arg5 harg5 arg6 harg6 x4 x5) (HS4_3 (F := Ideal) c i arg1 harg1 x0)) (un x) t e :=
  step_dv (g := 2) (d := 16) (oq := 0) (ok := 0) (col := 128) (sq := ![16, 1]) (sk := ![16, 1]) (posq := pos_16) (posk := pos_16) (hsl := slices_S128x128_o0_0_S128x1) w128 ⟨rfl, rfl⟩ ⟨rfl, rfl⟩ rfl
    (n := 32) rfl dv_33

theorem dv_35 : View.canon (HS2_35 (F := Ideal) c i arg1 harg1 arg2 harg2 arg3 harg3 arg5 harg5 arg7 harg7 arg15 arg17 x0 x1 x2 x4 x6) (ix2 t e)
    = ∑ x ∈ Finset.range 34, cv (arr x1 x2 x3 x4 x6 (HS3_1 (F := Ideal) c arg5 harg5 arg6 harg6 x4 x5) (HS4_3 (F := Ideal) c i arg1 harg1 x0)) (un x) t e :=
  step_dv (g := 2) (d := 16) (oq := 1) (ok := 1) (col := 128) (sq := ![16, 1]) (sk := ![16, 1]) (posq := pos_16) (posk := pos_16) (hsl := slices_S128x128_o0_0_S128x1) w128 ⟨rfl, rfl⟩ ⟨rfl, rfl⟩ rfl
    (n := 33) rfl dv_34

theorem dv_36 : View.canon (HS2_36 (F := Ideal) c i arg1 harg1 arg2 harg2 arg3 harg3 arg5 harg5 arg7 harg7 arg15 arg17 x0 x1 x2 x4 x6) (ix2 t e)
    = ∑ x ∈ Finset.range 35, cv (arr x1 x2 x3 x4 x6 (HS3_1 (F := Ideal) c arg5 harg5 arg6 harg6 x4 x5) (HS4_3 (F := Ideal) c i arg1 harg1 x0)) (un x) t e :=
  step_dv (g := 2) (d := 16) (oq := 2) (ok := 2) (col := 128) (sq := ![16, 1]) (sk := ![16, 1]) (posq := pos_16) (posk := pos_16) (hsl := slices_S128x128_o0_0_S128x1) w128 ⟨rfl, rfl⟩ ⟨rfl, rfl⟩ rfl
    (n := 34) rfl dv_35

theorem dv_37 : View.canon (HS2_37 (F := Ideal) c i arg1 harg1 arg2 harg2 arg3 harg3 arg5 harg5 arg7 harg7 arg15 arg17 x0 x1 x2 x4 x6) (ix2 t e)
    = ∑ x ∈ Finset.range 36, cv (arr x1 x2 x3 x4 x6 (HS3_1 (F := Ideal) c arg5 harg5 arg6 harg6 x4 x5) (HS4_3 (F := Ideal) c i arg1 harg1 x0)) (un x) t e :=
  step_dv (g := 2) (d := 16) (oq := 3) (ok := 3) (col := 128) (sq := ![16, 1]) (sk := ![16, 1]) (posq := pos_16) (posk := pos_16) (hsl := slices_S128x128_o0_0_S128x1) w128 ⟨rfl, rfl⟩ ⟨rfl, rfl⟩ rfl
    (n := 35) rfl dv_36

theorem dv_38 : View.canon (HS2_38 (F := Ideal) c i arg1 harg1 arg2 harg2 arg3 harg3 arg5 harg5 arg7 harg7 arg15 arg17 x0 x1 x2 x4 x6) (ix2 t e)
    = ∑ x ∈ Finset.range 37, cv (arr x1 x2 x3 x4 x6 (HS3_1 (F := Ideal) c arg5 harg5 arg6 harg6 x4 x5) (HS4_3 (F := Ideal) c i arg1 harg1 x0)) (un x) t e :=
  step_dv (g := 2) (d := 16) (oq := 4) (ok := 4) (col := 128) (sq := ![16, 1]) (sk := ![16, 1]) (posq := pos_16) (posk := pos_16) (hsl := slices_S128x128_o0_0_S128x1) w128 ⟨rfl, rfl⟩ ⟨rfl, rfl⟩ rfl
    (n := 36) rfl dv_37

theorem dv_39 : View.canon (HS2_39 (F := Ideal) c i arg1 harg1 arg2 harg2 arg3 harg3 arg5 harg5 arg7 harg7 arg15 arg17 x0 x1 x2 x4 x6) (ix2 t e)
    = ∑ x ∈ Finset.range 38, cv (arr x1 x2 x3 x4 x6 (HS3_1 (F := Ideal) c arg5 harg5 arg6 harg6 x4 x5) (HS4_3 (F := Ideal) c i arg1 harg1 x0)) (un x) t e :=
  step_dv (g := 2) (d := 16) (oq := 5) (ok := 5) (col := 128) (sq := ![16, 1]) (sk := ![16, 1]) (posq := pos_16) (posk := pos_16) (hsl := slices_S128x128_o0_0_S128x1) w128 ⟨rfl, rfl⟩ ⟨rfl, rfl⟩ rfl
    (n := 37) rfl dv_38

theorem dv_40 : View.canon (HS2_40 (F := Ideal) c i arg1 harg1 arg2 harg2 arg3 harg3 arg5 harg5 arg7 harg7 arg15 arg17 x0 x1 x2 x4 x6) (ix2 t e)
    = ∑ x ∈ Finset.range 39, cv (arr x1 x2 x3 x4 x6 (HS3_1 (F := Ideal) c arg5 harg5 arg6 harg6 x4 x5) (HS4_3 (F := Ideal) c i arg1 harg1 x0)) (un x) t e :=
  step_dv (g := 2) (d := 16) (oq := 6) (ok := 6) (col := 128) (sq := ![16, 1]) (sk := ![16, 1]) (posq := pos_16) (posk := pos_16) (hsl := slices_S128x128_o0_0_S128x1) w128 ⟨rfl, rfl⟩ ⟨rfl, rfl⟩ rfl
    (n := 38) rfl dv_39

theorem dv_41 : View.canon (HS2_41 (F := Ideal) c i arg1 harg1 arg2 harg2 arg3 harg3 arg5 harg5 arg7 harg7 arg15 arg17 x0 x1 x2 x4 x6) (ix2 t e)
    = ∑ x ∈ Finset.range 40, cv (arr x1 x2 x3 x4 x6 (HS3_1 (F := Ideal) c arg5 harg5 arg6 harg6 x4 x5) (HS4_3 (F := Ideal) c i arg1 harg1 x0)) (un x) t e :=
  step_dv (g := 2) (d := 16) (oq := 7) (ok := 7) (col := 128) (sq := ![16, 1]) (sk := ![16, 1]) (posq := pos_16) (posk := pos_16) (hsl := slices_S128x128_o0_0_S128x1) w128 ⟨rfl, rfl⟩ ⟨rfl, rfl⟩ rfl
    (n := 39) rfl dv_40

theorem dv_42 : View.canon (HS2_42 (F := Ideal) c i arg1 harg1 arg2 harg2 arg3 harg3 arg5 harg5 arg7 harg7 arg15 arg17 x0 x1 x2 x4 x6) (ix2 t e)
    = ∑ x ∈ Finset.range 41, cv (arr x1 x2 x3 x4 x6 (HS3_1 (F := Ideal) c arg5 harg5 arg6 harg6 x4 x5) (HS4_3 (F := Ideal) c i arg1 harg1 x0)) (un x) t e :=
  step_dv (g := 2) (d := 16) (oq := 8) (ok := 8) (col := 128) (sq := ![16, 1]) (sk := ![16, 1]) (posq := pos_16) (posk := pos_16) (hsl := slices_S128x128_o0_0_S128x1) w128 ⟨rfl, rfl⟩ ⟨rfl, rfl⟩ rfl
    (n := 40) rfl dv_41

theorem dv_43 : View.canon (HS2_43 (F := Ideal) c i arg1 harg1 arg2 harg2 arg3 harg3 arg5 harg5 arg7 harg7 arg15 arg17 x0 x1 x2 x4 x6) (ix2 t e)
    = ∑ x ∈ Finset.range 42, cv (arr x1 x2 x3 x4 x6 (HS3_1 (F := Ideal) c arg5 harg5 arg6 harg6 x4 x5) (HS4_3 (F := Ideal) c i arg1 harg1 x0)) (un x) t e :=
  step_dv (g := 2) (d := 16) (oq := 9) (ok := 9) (col := 128) (sq := ![16, 1]) (sk := ![16, 1]) (posq := pos_16) (posk := pos_16) (hsl := slices_S128x128_o0_0_S128x1) w128 ⟨rfl, rfl⟩ ⟨rfl, rfl⟩ rfl
    (n := 41) rfl dv_42

theorem dv_44 : View.canon (HS2_44 (F := Ideal) c i arg1 harg1 arg2 harg2 arg3 harg3 arg5 harg5 arg7 harg7 arg15 arg17 x0 x1 x2 x4 x6) (ix2 t e)
    = ∑ x ∈ Finset.range 43, cv (arr x1 x2 x3 x4 x6 (HS3_1 (F := Ideal) c arg5 harg5 arg6 harg6 x4 x5) (HS4_3 (F := Ideal) c i arg1 harg1 x0)) (un x) t e :=
  step_dv (g := 2) (d := 16) (oq := 10) (ok := 10) (col := 128) (sq := ![16, 1]) (sk := ![16, 1]) (posq := pos_16) (posk := pos_16) (hsl := slices_S128x128_o0_0_S128x1) w128 ⟨rfl, rfl⟩ ⟨rfl, rfl⟩ rfl
    (n := 42) rfl dv_43

theorem dv_45 : View.canon (HS2_45 (F := Ideal) c i arg1 harg1 arg2 harg2 arg3 harg3 arg5 harg5 arg7 harg7 arg15 arg17 x0 x1 x2 x4 x6) (ix2 t e)
    = ∑ x ∈ Finset.range 44, cv (arr x1 x2 x3 x4 x6 (HS3_1 (F := Ideal) c arg5 harg5 arg6 harg6 x4 x5) (HS4_3 (F := Ideal) c i arg1 harg1 x0)) (un x) t e :=
  step_dv (g := 2) (d := 16) (oq := 11) (ok := 11) (col := 128) (sq := ![16, 1]) (sk := ![16, 1]) (posq := pos_16) (posk := pos_16) (hsl := slices_S128x128_o0_0_S128x1) w128 ⟨rfl, rfl⟩ ⟨rfl, rfl⟩ rfl
    (n := 43) rfl dv_44

theorem dv_46 : View.canon (HS2_46 (F := Ideal) c i arg1 harg1 arg2 harg2 arg3 harg3 arg5 harg5 arg7 harg7 arg15 arg17 x0 x1 x2 x4 x6) (ix2 t e)
    = ∑ x ∈ Finset.range 45, cv (arr x1 x2 x3 x4 x6 (HS3_1 (F := Ideal) c arg5 harg5 arg6 harg6 x4 x5) (HS4_3 (F := Ideal) c i arg1 harg1 x0)) (un x) t e :=
  step_dv (g := 2) (d := 16) (oq := 12) (ok := 12) (col := 128) (sq := ![16, 1]) (sk := ![16, 1]) (posq := pos_16) (posk := pos_16) (hsl := slices_S128x128_o0_0_S128x1) w128 ⟨rfl, rfl⟩ ⟨rfl, rfl⟩ rfl
    (n := 44) rfl dv_45

theorem dv_47 : View.canon (HS2_47 (F := Ideal) c i arg1 harg1 arg2 harg2 arg3 harg3 arg5 harg5 arg7 harg7 arg15 arg17 x0 x1 x2 x4 x6) (ix2 t e)
    = ∑ x ∈ Finset.range 46, cv (arr x1 x2 x3 x4 x6 (HS3_1 (F := Ideal) c arg5 harg5 arg6 harg6 x4 x5) (HS4_3 (F := Ideal) c i arg1 harg1 x0)) (un x) t e :=
  step_dv (g := 2) (d := 16) (oq := 13) (ok := 13) (col := 128) (sq := ![16, 1]) (sk := ![16, 1]) (posq := pos_16) (posk := pos_16) (hsl := slices_S128x128_o0_0_S128x1) w128 ⟨rfl, rfl⟩ ⟨rfl, rfl⟩ rfl
    (n := 45) rfl dv_46

theorem dv_48 : View.canon (HS2_48 (F := Ideal) c i arg1 harg1 arg2 harg2 arg3 harg3 arg5 harg5 arg7 harg7 arg15 arg17 x0 x1 x2 x4 x6) (ix2 t e)
    = ∑ x ∈ Finset.range 47, cv (arr x1 x2 x3 x4 x6 (HS3_1 (F := Ideal) c arg5 harg5 arg6 harg6 x4 x5) (HS4_3 (F := Ideal) c i arg1 harg1 x0)) (un x) t e :=
  step_dv (g := 2) (d := 16) (oq := 14) (ok := 14) (col := 128) (sq := ![16, 1]) (sk := ![16, 1]) (posq := pos_16) (posk := pos_16) (hsl := slices_S128x128_o0_0_S128x1) w128 ⟨rfl, rfl⟩ ⟨rfl, rfl⟩ rfl
    (n := 46) rfl dv_47

theorem dv_49 : View.canon (HS2_49 (F := Ideal) c i arg1 harg1 arg2 harg2 arg3 harg3 arg5 harg5 arg7 harg7 arg15 arg17 x0 x1 x2 x4 x6) (ix2 t e)
    = ∑ x ∈ Finset.range 48, cv (arr x1 x2 x3 x4 x6 (HS3_1 (F := Ideal) c arg5 harg5 arg6 harg6 x4 x5) (HS4_3 (F := Ideal) c i arg1 harg1 x0)) (un x) t e :=
  step_dv (g := 2) (d := 16) (oq := 15) (ok := 15) (col := 128) (sq := ![16, 1]) (sk := ![16, 1]) (posq := pos_16) (posk := pos_16) (hsl := slices_S128x128_o0_0_S128x1) w128 ⟨rfl, rfl⟩ ⟨rfl, rfl⟩ rfl
    (n := 47) rfl dv_48

end Cert.Unit
-- ==== Proof.BodyOut.lean ====
/-
  What one run of the kernel's body leaves in its output block, for one head: the gradients of the head's queries, keys
  and values, and four blocks carried over.
-/
module

public import proofs.«01_k».proof.Proof.BodySum
public import proofs.«01_k».proof.Proof.StepsQ
public import proofs.«01_k».proof.Proof.StepsK
public import proofs.«01_k».proof.Proof.StepsV
public import proofs.«01_k».proof.Proof.Gen.KernelIdeal.Value

@[expose] public section

noncomputable section

namespace Cert.Body

open Idealize.ShloMosaic Idealize.ShloMosaic.ValueIdx
open Cert.Unit Cert.Ref
open Cert.KernelIdeal Cert.KernelIdeal.Gen
open Cert.KernelIdeal.Gen.kernelRun0_A.sl (v2514 v2519 v2524 HS0_49 HS1_49 HS2_49)
open scoped BigOperators

section Planes

variable (o : ℕ) (inb : ∀ a, (![o, 0, 0] : Fin 3 → ℕ) a + S1x2048x128.size a ≤ S7x2048x128.size a)
  (w : S1x2048x128.Idx → EReal) (L : List (View.Piece (Elt Ideal) S7x2048x128 .bf16)) (k : Fin 7) (t : Fin 2048) (e : Fin 128)

/-- A plane stored last is read back. -/
theorem plane_hit (hk : k.val = o) :
    (View.canon (Val := Elt Ideal) (e := .bf16) (⟨Rect.unit (s := S7x2048x128) ![o, 0, 0] S1x2048x128.size inb, w⟩ :: L) (ix3 k t e) : EReal)
      = w (ix3 0 t e) := by
  have hi : (ix3 k t e : S7x2048x128.Idx)
      = (Rect.unit (s := S7x2048x128) ![o, 0, 0] S1x2048x128.size inb).emb (ix3 0 t e : S1x2048x128.Idx) := by
    funext ax
    apply Fin.ext
    match ax with
    | ⟨0, _⟩ => show k.val = o + 1 * 0; omega
    | ⟨1, _⟩ => show t.val = 0 + 1 * t.val; omega
    | ⟨2, _⟩ => show e.val = 0 + 1 * e.val; omega
  rw [hi]
  exact View.canon_cons_emb _ _ _ _

/-- Another plane is as it was. -/
theorem plane_miss (hk : k.val ≠ o) :
    (View.canon (Val := Elt Ideal) (e := .bf16) (⟨Rect.unit (s := S7x2048x128) ![o, 0, 0] S1x2048x128.size inb, w⟩ :: L) (ix3 k t e) : EReal)
      = View.canon (Val := Elt Ideal) (e := .bf16) L (ix3 k t e) := by
  refine View.canon_cons_of_not_mem (Val := Elt Ideal) (e := .bf16) ⟨Rect.unit (s := S7x2048x128) ![o, 0, 0] S1x2048x128.size inb, w⟩ _ ?_
  intro hm
  rw [LoadRect.mem_set] at hm
  obtain ⟨j, hj, hj'⟩ := hm 0
  have hj1 : j < 1 := hj
  have he : k.val = o + 1 * j := hj'
  omega

end Planes

/-- Seven planes, stored one after the other. -/
theorem planes7 (inb6 : ∀ a, (![6, 0, 0] : Fin 3 → ℕ) a + S1x2048x128.size a ≤ S7x2048x128.size a)
    (inb5 : ∀ a, (![5, 0, 0] : Fin 3 → ℕ) a + S1x2048x128.size a ≤ S7x2048x128.size a)
    (inb4 : ∀ a, (![4, 0, 0] : Fin 3 → ℕ) a + S1x2048x128.size a ≤ S7x2048x128.size a)
    (inb3 : ∀ a, (![3, 0, 0] : Fin 3 → ℕ) a + S1x2048x128.size a ≤ S7x2048x128.size a)
    (inb2 : ∀ a, (![2, 0, 0] : Fin 3 → ℕ) a + S1x2048x128.size a ≤ S7x2048x128.size a)
    (inb1 : ∀ a, (![1, 0, 0] : Fin 3 → ℕ) a + S1x2048x128.size a ≤ S7x2048x128.size a)
    (inb0 : ∀ a, (![0, 0, 0] : Fin 3 → ℕ) a + S1x2048x128.size a ≤ S7x2048x128.size a)
    (w6 w5 w4 w3 w2 w1 w0 : S1x2048x128.Idx → EReal) (L : List (View.Piece (Elt Ideal) S7x2048x128 .bf16)) (k : Fin 7) (t : Fin 2048) (e : Fin 128) :
    (View.canon (Val := Elt Ideal) (e := .bf16) (⟨Rect.unit (s := S7x2048x128) ![6, 0, 0] S1x2048x128.size inb6, w6⟩ ::
        ⟨Rect.unit (s := S7x2048x128) ![5, 0, 0] S1x2048x128.size inb5, w5⟩ ::
        ⟨Rect.unit (s := S7x2048x128) ![4, 0, 0] S1x2048x128.size inb4, w4⟩ ::
        ⟨Rect.unit (s := S7x2048x128) ![3, 0, 0] S1x2048x128.size inb3, w3⟩ ::
        ⟨Rect.unit (s := S7x2048x128) ![2, 0, 0] S1x2048x128.size inb2, w2⟩ ::
        ⟨Rect.unit (s := S7x2048x128) ![1, 0, 0] S1x2048x128.size inb1, w1⟩ ::
        ⟨Rect.unit (s := S7x2048x128) ![0, 0, 0] S1x2048x128.size inb0, w0⟩ :: L) (ix3 k t e) : EReal)
      = if k.val = 6 then w6 (ix3 0 t e) else if k.val = 5 then w5 (ix3 0 t e) else if k.val = 4 then w4 (ix3 0 t e) else if k.val = 3 then w3 (ix3 0 t e) else if k.val = 2 then w2 (ix3 0 t e) else if k.val = 1 then w1 (ix3 0 t e) else w0 (ix3 0 t e) := by
  by_cases h6 : k.val = 6
  · exact (plane_hit 6 inb6 w6 _ k t e h6).trans (if_pos h6).symm
  refine (plane_miss 6 inb6 w6 _ k t e h6).trans (Eq.trans ?_ (if_neg h6).symm)
  by_cases h5 : k.val = 5
  · exact (plane_hit 5 inb5 w5 _ k t e h5).trans (if_pos h5).symm
  refine (plane_miss 5 inb5 w5 _ k t e h5).trans (Eq.trans ?_ (if_neg h5).symm)
  by_cases h4 : k.val = 4
  · exact (plane_hit 4 inb4 w4 _ k t e h4).trans (if_pos h4).symm
  refine (plane_miss 4 inb4 w4 _ k t e h4).trans (Eq.trans ?_ (if_neg h4).symm)
  by_cases h3 : k.val = 3
  · exact (plane_hit 3 inb3 w3 _ k t e h3).trans (if_pos h3).symm
  refine (plane_miss 3 inb3 w3 _ k t e h3).trans (Eq.trans ?_ (if_neg h3).symm)
  by_cases h2 : k.val = 2
  · exact (plane_hit 2 inb2 w2 _ k t e h2).trans (if_pos h2).symm
  refine (plane_miss 2 inb2 w2 _ k t e h2).trans (Eq.trans ?_ (if_neg h2).symm)
  by_cases h1 : k.val = 1
  · exact (plane_hit 1 inb1 w1 _ k t e h1).trans (if_pos h1).symm
  refine (plane_miss 1 inb1 w1 _ k t e h1).trans (Eq.trans ?_ (if_neg h1).symm)
  exact plane_hit 0 inb0 w0 _ k t e (by have := k.isLt; omega)

theorem whole_idx (inb : ∀ a, (![0, 0] : Fin 2 → ℕ) a + S2048x128.size a ≤ S2048x128.size a) (t : Fin 2048) (e : Fin 128) :
    (Rect.unit (s := S2048x128) ![0, 0] S2048x128.size inb).toLoadRect.idx (ix2 t e : S2048x128.Idx) = ix2 t e := by
  funext ax
  apply Fin.ext
  match ax with
  | ⟨0, _⟩ => show 0 + 1 * t.val = t.val; omega
  | ⟨1, _⟩ => show 0 + 1 * e.val = e.val; omega

/-- A scratch array read back whole. -/
theorem scratch_at (v : View sig .tc .vmem S2048x128 .f32) (L : List (View.Piece (Elt Ideal) S2048x128 .f32))
    (inb : ∀ a, (![0, 0] : Fin 2 → ℕ) a + S2048x128.size a ≤ S2048x128.size a) (t : Fin 2048) (e : Fin 128) :
    (View.readCov v L (Rect.unit (s := S2048x128) ![0, 0] S2048x128.size inb).toLoadRect (ix2 t e) : EReal) = View.canon L (ix2 t e) := by
  rw [View.readCov_eq_canon']
  exact congrArg _ (whole_idx inb t e)

/-- A block read whole out of its buffer. -/
theorem block_at (a : Memref sig .tc .vmem S2048x128 .bf16) (ha : a.IsWhole) (x : Vec Ideal S2048x128 .bf16)
    (inb : ∀ a, (![0, 0] : Fin 2 → ℕ) a + S2048x128.size a ≤ S2048x128.size a) (t : Fin 2048) (e : Fin 128) :
    (View.readAt (Elt Ideal) a.view (Rect.unit (s := S2048x128) ![0, 0] S2048x128.size inb).toLoadRect (ha.unread x) (ix2 t e) : EReal)
      = x (ix2 t e) := by
  rw [View.readAt_eq_ld, View.ld_unit_lit _ _ zero_off2, ha.read_unread]

theorem pay_dq (x : Vec Ideal S2048x128 .f32) (t : Fin 2048) (e : Fin 128) : (k0_pay674 (F := Ideal) x (ix3 0 t e) : EReal) = x (ix2 t e) := by
  unfold k0_pay674
  exact shapeCast_ab_1ab_apply _ _ _ _ _
theorem pay_dk (x : Vec Ideal S2048x128 .f32) (t : Fin 2048) (e : Fin 128) : (k0_pay675 (F := Ideal) x (ix3 0 t e) : EReal) = x (ix2 t e) := by
  unfold k0_pay675
  exact shapeCast_ab_1ab_apply _ _ _ _ _
theorem pay_dv (x : Vec Ideal S2048x128 .f32) (t : Fin 2048) (e : Fin 128) : (k0_pay676 (F := Ideal) x (ix3 0 t e) : EReal) = x (ix2 t e) := by
  unfold k0_pay676
  exact shapeCast_ab_1ab_apply _ _ _ _ _
theorem pay_3 (x : Vec Ideal S2048x128 .bf16) (t : Fin 2048) (e : Fin 128) : (k0_pay677 (F := Ideal) x (ix3 0 t e) : EReal) = x (ix2 t e) := by
  unfold k0_pay677
  exact shapeCast_ab_1ab_apply _ _ _ _ _
theorem pay_4 (x : Vec Ideal S2048x128 .bf16) (t : Fin 2048) (e : Fin 128) : (k0_pay1 (F := Ideal) x (ix3 0 t e) : EReal) = x (ix2 t e) := by
  unfold k0_pay1
  exact shapeCast_ab_1ab_apply _ _ _ _ _
theorem pay_5 (x : Vec Ideal S2048x128 .bf16) (t : Fin 2048) (e : Fin 128) : (k0_pay2 (F := Ideal) x (ix3 0 t e) : EReal) = x (ix2 t e) := by
  unfold k0_pay2
  exact shapeCast_ab_1ab_apply _ _ _ _ _
theorem pay_6 (x : Vec Ideal S2048x128 .bf16) (t : Fin 2048) (e : Fin 128) : (k0_pay3 (F := Ideal) x (ix3 0 t e) : EReal) = x (ix2 t e) := by
  unfold k0_pay3
  exact shapeCast_ab_1ab_apply _ _ _ _ _

variable (m : (ℓ : Loc nD τ sig) → Buf (Elt Ideal) ℓ) (c : Dev nD) (t : Fin cfg0.N)
  {Q K V O : (⟨2, ![2048, 2048]⟩ : Shape).Idx → ℝ} {h : Fin 16}
  (B : Blocks Q K V O h (iblk m c 0 t (ix1 (grid0.coords t 0))) (iblk m c 1 t) (iblk m c 2 t) (iblk m c 3 t) (iblk m c 4 t)
    (iblk m c 5 t) (iblk m c 6 t))

/-- The head's output block at one of its seven planes. -/
def outAt (Q K V O : (⟨2, ![2048, 2048]⟩ : Shape).Idx → ℝ) (h : Fin 16) (y3 y4 y5 y6 : Vec Ideal S2048x128 .bf16)
    (k : Fin 7) (r : Fin 2048) (e : Fin 128) : EReal :=
  if k.val = 6 then y6 (ix2 r e) else
  if k.val = 5 then y5 (ix2 r e) else
  if k.val = 4 then y4 (ix2 r e) else
  if k.val = 3 then y3 (ix2 r e) else
  if k.val = 2 then ((∑ g, ∑ s, (rowD Q K V O h s).p g r * (rowD Q K V O h s).od e : ℝ) : EReal) else
  if k.val = 1 then ((∑ s, dsum Q K V O h s r * Q (ix2 s (col h e)) : ℝ) : EReal) else
  ((∑ u, dsum Q K V O h r u * K (ix2 u (col h e)) : ℝ) : EReal)

include B in
theorem outs_eq (k : Fin 7) (r : Fin 2048) (e : Fin 128) : (outsAt0 m c t (ix3 k r e) : EReal)
    = outAt Q K V O h (iblk m c 7 t) (iblk m c 8 t) (iblk m c 9 t) (iblk m c 10 t) k r e := by
  unfold outsAt0 out0_A_11
  rw [View.read_writes_eq_canon _ _ _ (cover0_A_11 c _ _ _ _ _ _ _ _ _ _ _ _ _ _ _ _ _ _ _ _ _ _ _ _ _ _ _ _ _ _ _ _ _ _ _  _ _ _ _ _ _ _ _ _ _ _)]
  unfold kernelRun0_A
  dsimp only
  refine (planes7 _ _ _ _ _ _ _ _ _ _ _ _ _ _ _ k r e).trans ?_
  rw [pay_6, pay_5, pay_4, pay_3, pay_dv, pay_dk, pay_dq, block_at (ms0_10 t) (hs0_10 t), block_at (ms0_9 t) (hs0_9 t), block_at (ms0_8 t) (hs0_8 t),
    block_at (ms0_7 t) (hs0_7 t)]
  unfold v2514 v2519 v2524
  rw [scratch_at, scratch_at, scratch_at, dq_49, dk_49,
    dv_49 (arg6 := ms0_5 t) (harg6 := hs0_5 t) (x3 := iblk m c 3 t) (x5 := iblk m c 5 t), dq_eq B delta_eq bias_eq, dk_eq B delta_eq bias_eq, dv_eq B delta_eq bias_eq]
  rfl

end Cert.Body
-- ==== Proof.RefOut.lean ====
/-
  The reference's result at one entry, over real arguments.
-/
module

public import proofs.«01_k».proof.Proof.RefGrad
public import proofs.«01_k».proof.Proof.BodyOut
public import Idealize.ShloMosaic.Lib.Pipeline.ValueKit.Tiles

@[expose] public section

noncomputable section

namespace Cert.Ref

open Idealize.ShloMosaic Idealize.ShloMosaic.ValueIdx
open Cert.ReferenceIdeal Cert.ReferenceIdeal.Gen Cert.ReferenceIdeal.Read
open scoped BigOperators

section Stack
variable (k : Fin 7) (r j : Fin 2048)

theorem piece (x : S1x2048x2048.Idx → EReal) (v : EReal) (n : ℕ) (hv : k.val = n → v = x (ix3 0 r j)) :
    PieceAt (t := S7x2048x2048) 0 (ix3 k r j) v S1x2048x2048 x n := by
  intro hk hr i h0 hb
  have hi : i = ix3 0 r j := by
    funext ax
    apply Fin.ext
    match ax with
    | ⟨0, _⟩ => exact h0
    | ⟨1, _⟩ => exact hb 1 (by decide)
    | ⟨2, _⟩ => exact hb 2 (by decide)
  rw [hi]
  exact (hv hk).symm

/-- Seven planes stacked, read at one entry. -/
theorem stack (x0 x1 x2 x3 x4 x5 x6 : (⟨S1x2048x2048, .bf16⟩ : BufTy).Contents (Elt Ideal)) :
    concatenate S7x2048x2048 0 [⟨S1x2048x2048, x0⟩, ⟨S1x2048x2048, x1⟩, ⟨S1x2048x2048, x2⟩, ⟨S1x2048x2048, x3⟩, ⟨S1x2048x2048, x4⟩,
      ⟨S1x2048x2048, x5⟩, ⟨S1x2048x2048, x6⟩]
      concatenates_S1x2048x2048_S1x2048x2048_S1x2048x2048_S1x2048x2048_S1x2048x2048_S1x2048x2048_S1x2048x2048_S7x2048x2048_d0 (ix3 k r j)
    = (if k.val = 6 then x6 (ix3 0 r j) else
      if k.val = 5 then x5 (ix3 0 r j) else
      if k.val = 4 then x4 (ix3 0 r j) else
      if k.val = 3 then x3 (ix3 0 r j) else
      if k.val = 2 then x2 (ix3 0 r j) else
      if k.val = 1 then x1 (ix3 0 r j) else x0 (ix3 0 r j) : EReal) :=
  concatenate_unit_eq (t := S7x2048x2048) 0 [⟨S1x2048x2048, x0⟩, ⟨S1x2048x2048, x1⟩, ⟨S1x2048x2048, x2⟩, ⟨S1x2048x2048, x3⟩,
    ⟨S1x2048x2048, x4⟩, ⟨S1x2048x2048, x5⟩, ⟨S1x2048x2048, x6⟩] _ (ix3 k r j) _ rfl
    ⟨piece k r j x0 _ 0 fun h => by rw [h]; rfl, piece k r j x1 _ 1 fun h => by rw [h]; rfl, piece k r j x2 _ 2 fun h => by rw [h]; rfl,
      piece k r j x3 _ 3 fun h => by rw [h]; rfl, piece k r j x4 _ 4 fun h => by rw [h]; rfl, piece k r j x5 _ 5 fun h => by rw [h]; rfl,
      piece k r j x6 _ 6 fun h => by rw [h]; rfl, trivial⟩

end Stack

variable (Q K V O : S2048x2048.Idx → ℝ)

/-- The index a head's column has before the heads are merged. -/
theorem cols_idx (i : S2048x16x128.Idx) (r : Fin 2048) (h : Fin 16) (e : Fin 128)
    (h0 : (i 0).val = (r.val * 2048 + (h.val * 128 + e.val)) / 2048)
    (h1 : (i 1).val = (r.val * 2048 + (h.val * 128 + e.val)) / 128 % 16)
    (h2 : (i 2).val = (r.val * 2048 + (h.val * 128 + e.val)) % 128) : i = ix3 r h e := by
  have := e.isLt
  have := h.isLt
  funext ax
  apply Fin.ext
  match ax with
  | ⟨0, _⟩ => refine h0.trans ?_; show _ = r.val; omega
  | ⟨1, _⟩ => refine h1.trans ?_; show _ = h.val; omega
  | ⟨2, _⟩ => refine h2.trans ?_; show _ = e.val; omega

theorem val195 (r : Fin 2048) (h : Fin 16) (e : Fin 128) : val_main_v195 (F := Ideal) (co Q) (co K) (co V) (co O) (ix3 0 r (col h e))
    = ((∑ u, dsum Q K V O h r u * K (ix2 u (col h e)) : ℝ) : EReal) := by
  refine (val_main_v195_apply _ _ _ _ _).trans ((val_main_v192_apply _ _ _ _ _).trans ?_)
  refine (val_main_v191_apply (F := Ideal) (co Q) (co K) (co V) (co O) _).trans ?_
  exact (congrArg (val_main_v188 (F := Ideal) (co Q) (co K) (co V) (co O)) (cols_idx _ r h e rfl rfl rfl)).trans (val188 Q K V O (ix3 r h e))

theorem val196 (r : Fin 2048) (h : Fin 16) (e : Fin 128) : val_main_v196 (F := Ideal) (co Q) (co K) (co V) (co O) (ix3 0 r (col h e))
    = ((∑ t, dsum Q K V O h t r * Q (ix2 t (col h e)) : ℝ) : EReal) := by
  refine (val_main_v196_apply _ _ _ _ _).trans ((val_main_v193_apply _ _ _ _ _).trans ?_)
  refine (val_main_v190_apply (F := Ideal) (co Q) (co K) (co V) (co O) _).trans ?_
  exact (congrArg (val_main_v186 (F := Ideal) (co Q) (co K) (co V) (co O)) (cols_idx _ r h e rfl rfl rfl)).trans (val186 Q K V O (ix3 r h e))

theorem val197 (r : Fin 2048) (h : Fin 16) (e : Fin 128) : val_main_v197 (F := Ideal) (co Q) (co K) (co O) (ix3 0 r (col h e))
    = ((∑ g, ∑ t, (rowD Q K V O h t).p g r * (rowD Q K V O h t).od e : ℝ) : EReal) := by
  refine (val_main_v197_apply _ _ _ _).trans ((val_main_v194_apply _ _ _ _).trans ?_)
  refine (val_main_v189_apply (F := Ideal) (co Q) (co K) (co O) _).trans ?_
  exact (congrArg (val_main_v165 (F := Ideal) (co Q) (co K) (co O)) (cols_idx _ r h e rfl rfl rfl)).trans (val165 Q K V O (ix3 r h e))

theorem plane_idx (i : S2048x2048.Idx) (r j : Fin 2048) (h0 : (i 0).val = r.val) (h1 : (i 1).val = j.val) : i = ix2 r j := by
  funext ax
  apply Fin.ext
  match ax with
  | ⟨0, _⟩ => exact h0
  | ⟨1, _⟩ => exact h1

/-- A head's block of a carried array. -/
def cols (x : (⟨S2048x2048, .bf16⟩ : BufTy).Contents (Elt Ideal)) (h : Fin 16) : (⟨2, ![2048, 128]⟩ : Shape).Idx → EReal :=
  fun i => x (ix2 (i 0) (col h (i 1)))

theorem val202 (x4 x5 x6 x7 : (⟨S2048x2048, .bf16⟩ : BufTy).Contents (Elt Ideal)) (k : Fin 7) (r : Fin 2048) (h : Fin 16) (e : Fin 128) :
    val_main_v202 (F := Ideal) (co Q) (co K) (co V) (co O) x4 x5 x6 x7 (ix3 k r (col h e))
      = Body.outAt Q K V O h (cols x4 h) (cols x5 h) (cols x6 h) (cols x7 h) k r e := by
  unfold val_main_v202
  refine (stack k r (col h e) _ _ _ _ _ _ _).trans ?_
  rw [val195 Q K V O, val196 Q K V O, val197 Q K V O, val_main_v198_apply, val_main_v199_apply, val_main_v200_apply, val_main_v201_apply,
    plane_idx (idx_main_v198 _) r (col h e) rfl rfl, plane_idx (idx_main_v199 _) r (col h e) rfl rfl,
    plane_idx (idx_main_v200 _) r (col h e) rfl rfl, plane_idx (idx_main_v201 _) r (col h e) rfl rfl]
  rfl

end Cert.Ref
-- ==== Proof.OutArray.lean ====
/-
  The kernel's result over real arguments is the reference's: each grid point writes one head's columns of the seven
  planes, and the sixteen heads fill the array.
-/
module

public import proofs.«01_k».proof.Proof.Blocks
public import proofs.«01_k».proof.Proof.BodyOut
public import proofs.«01_k».proof.Proof.RefOut
public import Idealize.ShloMosaic.Lib.Pipeline.ValueKit.Geometry

@[expose] public section

noncomputable section

namespace Cert.Body

open Idealize.ShloMosaic Idealize.ShloMosaic.ValueIdx
open Cert.Ref Cert.Host
open Cert.KernelIdeal Cert.KernelIdeal.Gen
open Cert.ReferenceIdeal.Read (val_main_v202)

variable (m : (ℓ : Loc nD τ sig) → Buf (Elt Ideal) ℓ) (c : Dev nD)
  {Q K V' O : S2048x2048.Idx → ℝ}
  (hQ : m (c, Proc.devRef .tc main_arg0) = co Q) (hK : m (c, Proc.devRef .tc main_arg1) = co K)
  (hV : m (c, Proc.devRef .tc main_arg2) = co V') (hO : m (c, Proc.devRef .tc main_arg3) = co O)

/-- Where a grid point's block lies in the result. -/
theorem emb_out (t : Fin cfg0.N) (k : Fin 7) (r : Fin 2048) (e : Fin 128) :
    ((cfg0.win 11).blk t).view.emb (ix3 k r e) = ix3 k r (col (head t) e) := by
  unfold col
  blk_ext [idx_11 t]

/-- The block a grid point leaves is the reference's, at one entry. -/
theorem out_entry (t : Fin cfg0.N) (hB : Blocks Q K V' O (head t) (iblk m c 0 t (ix1 (grid0.coords t 0))) (iblk m c 1 t) (iblk m c 2 t) (iblk m c 3 t)
    (iblk m c 4 t) (iblk m c 5 t) (iblk m c 6 t)) (k : Fin 7) (r : Fin 2048) (e : Fin 128) :
    (outsAt0 m c t (ix3 k r e) : EReal)
      = val_main_v202 (F := Ideal) (co Q) (co K) (co V') (co O) (m (c, Proc.devRef .tc main_arg4)) (m (c, Proc.devRef .tc main_arg5))
          (m (c, Proc.devRef .tc main_arg6)) (m (c, Proc.devRef .tc main_arg7)) (ix3 k r (col (head t) e)) := by
  refine (outs_eq m c t hB k r e).trans (Eq.trans ?_ (val202 Q K V' O _ _ _ _ k r (head t) e).symm)
  unfold outAt
  rw [blk_7 m c t r e, blk_8 m c t r e, blk_9 m c t r e, blk_10 m c t r e]
  rfl

theorem covers : (cfg0.win 11).Covers := by decide +kernel

/-- The result array, from its blocks' entries. -/
theorem array_of (G : S7x2048x2048.Idx → EReal)
    (hG : ∀ (t : Fin cfg0.N) (k : Fin 7) (r : Fin 2048) (e : Fin 128), (outsAt0 m c t (ix3 k r e) : EReal) = G (ix3 k r (col (head t) e))) :
    (dats m 0 c).arrAt 11 cfg0.N = G := by
  have hE : ∀ (t : Fin cfg0.N) (y : S7x2048x128.Idx), (outsAt0 m c t y : EReal) = G (((cfg0.win 11).blk t).view.emb y) := fun t y =>
    (congrArg (outsAt0 m c t) (eq_ix3 y)).trans ((hG t (y 0) (y 1) (y 2)).trans (congrArg G
      ((congrArg (((cfg0.win 11).blk t).view.emb) (eq_ix3 y)).trans (emb_out t (y 0) (y 1) (y 2))).symm))
  refine (dats m 0 c).arrAt_eq_of_covers 11 G covers fun t hf y => ?_
  blk_simp
  rw [after0_11]
  have h := hE t y
  generalize outsAt0 m c t = W at h ⊢
  exact h

include hQ hK hV hO in
theorem out_array : (dats m 0 c).arrAt 11 cfg0.N
    = val_main_v202 (F := Ideal) (m (c, Proc.devRef .tc main_arg0)) (m (c, Proc.devRef .tc main_arg1)) (m (c, Proc.devRef .tc main_arg2))
        (m (c, Proc.devRef .tc main_arg3)) (m (c, Proc.devRef .tc main_arg4)) (m (c, Proc.devRef .tc main_arg5))
        (m (c, Proc.devRef .tc main_arg6)) (m (c, Proc.devRef .tc main_arg7)) := by
  rw [hQ, hK, hV, hO]
  exact array_of m c _ fun t k r e => out_entry m c t (blocks m c t hQ hK hV hO) k r e

end Cert.Body
-- ==== Proof.Finite.lean ====
/-
  What the precondition says: the four arguments are arrays of real numbers.
-/
module

public import proofs.«01_k».proof.Defs
public import proofs.«01_k».proof.Proof.Gen.Pre_finite
public import proofs.«01_k».proof.Proof.RefRow

@[expose] public section

noncomputable section

namespace Cert.Finite

open Idealize.ShloMosaic Idealize.ShloMosaic.ValueIdx
open Cert.Pre_finite

/-- A number below infinity in absolute value is real. -/
theorem real_of_lt (x : EReal) (h : Ideal.cmp .olt (max x (-x)) ⊤ = 1#1) : x = ((x.toReal : ℝ) : EReal) := by
  have hlt : max x (-x) < ⊤ := by
    by_contra hn
    have h0 : Ideal.cmp .olt (max x (-x)) ⊤ = BitVec.ofBool (decide (max x (-x) < ⊤)) := rfl
    rw [h0, decide_eq_false hn] at h
    exact absurd h (by decide)
  refine (EReal.coe_toReal ?_ ?_).symm
  · rintro rfl
    exact absurd (lt_of_le_of_lt (le_max_left _ _) hlt) (lt_irrefl _)
  · rintro rfl
    exact absurd (lt_of_le_of_lt (le_max_right _ _) hlt) (by simp)

theorem inf_bits : Ideal.ofBits .f32 0x7F800000#32 = (⊤ : EReal) := by
  simp [Ideal.ofBits, Ideal.ieee]

theorem real_array (x : FVec Ideal S2048x2048 .f32)
    (h : cmpf (F := Ideal) .olt (Host.absf (F := Ideal) x) (broadcastInDim S2048x2048 ![] Facts.bcast_S_S2048x2048 (constant (F := Ideal) S_ .f32 0x7F800000#32))
      = fun _ => 1#1) : ∃ X, x = Ref.co X := by
  refine ⟨fun i => EReal.toReal (x i), ?_⟩
  funext i
  have hi : Ideal.cmp .olt (max (x i) (-(x i))) (Ideal.ofBits .f32 0x7F800000#32) = 1#1 := congrFun h i
  rw [inf_bits] at hi
  exact real_of_lt (x i) hi

/-- The precondition over four arrays. -/
theorem reals (x0 x1 x2 x3 : FVec Ideal S2048x2048 .f32) (x4 x5 x6 x7 : FVec Ideal S2048x2048 .bf16)
    (h : (fn (F := Ideal) x0 x1 x2 x3 x4 x5 x6 x7).1 = (fun _ => 1#1) ∧ (fn (F := Ideal) x0 x1 x2 x3 x4 x5 x6 x7).2.1 = (fun _ => 1#1)
      ∧ (fn (F := Ideal) x0 x1 x2 x3 x4 x5 x6 x7).2.2.1 = (fun _ => 1#1) ∧ (fn (F := Ideal) x0 x1 x2 x3 x4 x5 x6 x7).2.2.2 = (fun _ => 1#1)) :
    (∃ Q, x0 = Ref.co Q) ∧ (∃ K, x1 = Ref.co K) ∧ (∃ V, x2 = Ref.co V) ∧ (∃ O, x3 = Ref.co O) :=
  ⟨real_array x0 h.1, real_array x1 h.2.1, real_array x2 h.2.2.1, real_array x3 h.2.2.2⟩

end Cert.Finite
-- ==== Proof.Products.lean ====
/-
  Matrix products over the extended reals, read at one entry, for the calls that are products.
-/
module

public import proofs.«01_k».proof.Proof.UnitOps
public import Idealize.ShloMosaic.Lib.Pipeline.ValueKit.Basic

@[expose] public section

noncomputable section

namespace Cert.Products

open Idealize.ShloMosaic Idealize.ShloMosaic.ValueIdx
open Cert.Unit (Mat)
open scoped BigOperators

theorem zero_off2 : ∀ a : Fin 2, (![0, 0] : Fin 2 → ℕ) a = 0 := fun a => match a with | ⟨0, _⟩ => rfl | ⟨1, _⟩ => rfl

/-- The whole of a two-dimensional block is what its load reads. -/
theorem ld_whole {a b : ℕ} {φ : EltTy} (x : Vec Ideal (Mat a b) φ) (inb) :
    View.ld x (Rect.unit (s := Mat a b) ![0, 0] (Mat a b).size inb) = x := View.ld_unit_lit _ _ zero_off2

/-- A left operand read by its columns: `lᵀ r` at an entry, once the dimension numbers' indices are known. -/
theorem tn_at {a b n : ℕ} {φ₁ φ₂ : FTy} (D : DotDims (Mat n a) (Mat n b) (Mat a b)) (hr : D.contr.rank = 1)
    (hs : D.contr.size ⟨0, by omega⟩ = n) (l : FVec Ideal (Mat n a) φ₁) (r : FVec Ideal (Mat n b) φ₂) (i : Fin a) (j : Fin b)
    (hl0 : ∀ q, (D.lhsIdx (ix2 i j) q 0).val = (q ⟨0, by omega⟩).val) (hl1 : ∀ q, (D.lhsIdx (ix2 i j) q 1).val = i.val)
    (hr0 : ∀ q, (D.rhsIdx (ix2 i j) q 0).val = (q ⟨0, by omega⟩).val) (hr1 : ∀ q, (D.rhsIdx (ix2 i j) q 1).val = j.val) :
    matmul D none l r (constant (F := Ideal) (Mat a b) .f32 0x00000000#32) (ix2 i j) = ∑ k : Fin n, l (ix2 k i) * r (ix2 k j) :=
  Cert.Unit.matmul_zero_of D n hr hs l r _ (fun k => ix2 k i) (fun k => ix2 k j)
    (fun k => funext fun x => Fin.ext (match x with
      | ⟨0, _⟩ => (hl0 _).trans (contrEquiv1_symm_val D n hr hs k) | ⟨1, _⟩ => hl1 _))
    (fun k => funext fun x => Fin.ext (match x with
      | ⟨0, _⟩ => (hr0 _).trans (contrEquiv1_symm_val D n hr hs k) | ⟨1, _⟩ => hr1 _))

/-- A right operand read by its rows: `l rᵀ` at an entry. -/
theorem nt_at {a b n : ℕ} {φ₁ φ₂ : FTy} (D : DotDims (Mat a n) (Mat b n) (Mat a b)) (hr : D.contr.rank = 1)
    (hs : D.contr.size ⟨0, by omega⟩ = n) (l : FVec Ideal (Mat a n) φ₁) (r : FVec Ideal (Mat b n) φ₂) (i : Fin a) (j : Fin b)
    (hl0 : ∀ q, (D.lhsIdx (ix2 i j) q 0).val = i.val) (hl1 : ∀ q, (D.lhsIdx (ix2 i j) q 1).val = (q ⟨0, by omega⟩).val)
    (hr0 : ∀ q, (D.rhsIdx (ix2 i j) q 0).val = j.val) (hr1 : ∀ q, (D.rhsIdx (ix2 i j) q 1).val = (q ⟨0, by omega⟩).val) :
    matmul D none l r (constant (F := Ideal) (Mat a b) .f32 0x00000000#32) (ix2 i j) = ∑ k : Fin n, l (ix2 i k) * r (ix2 j k) :=
  Cert.Unit.matmul_zero_of D n hr hs l r _ (fun k => ix2 i k) (fun k => ix2 j k)
    (fun k => funext fun x => Fin.ext (match x with
      | ⟨0, _⟩ => hl0 _ | ⟨1, _⟩ => (hl1 _).trans (contrEquiv1_symm_val D n hr hs k)))
    (fun k => funext fun x => Fin.ext (match x with
      | ⟨0, _⟩ => hr0 _ | ⟨1, _⟩ => (hr1 _).trans (contrEquiv1_symm_val D n hr hs k)))

/-- A plain product `l r` at an entry. -/
theorem nn_at {a b n : ℕ} {φ₁ φ₂ : FTy} (D : DotDims (Mat a n) (Mat n b) (Mat a b)) (hr : D.contr.rank = 1)
    (hs : D.contr.size ⟨0, by omega⟩ = n) (l : FVec Ideal (Mat a n) φ₁) (r : FVec Ideal (Mat n b) φ₂) (i : Fin a) (j : Fin b)
    (hl0 : ∀ q, (D.lhsIdx (ix2 i j) q 0).val = i.val) (hl1 : ∀ q, (D.lhsIdx (ix2 i j) q 1).val = (q ⟨0, by omega⟩).val)
    (hr0 : ∀ q, (D.rhsIdx (ix2 i j) q 0).val = (q ⟨0, by omega⟩).val) (hr1 : ∀ q, (D.rhsIdx (ix2 i j) q 1).val = j.val) :
    matmul D none l r (constant (F := Ideal) (Mat a b) .f32 0x00000000#32) (ix2 i j) = ∑ k : Fin n, l (ix2 i k) * r (ix2 k j) :=
  Cert.Unit.matmul_zero_of D n hr hs l r _ (fun k => ix2 i k) (fun k => ix2 k j)
    (fun k => funext fun x => Fin.ext (match x with
      | ⟨0, _⟩ => hl0 _ | ⟨1, _⟩ => (hl1 _).trans (contrEquiv1_symm_val D n hr hs k)))
    (fun k => funext fun x => Fin.ext (match x with
      | ⟨0, _⟩ => (hr0 _).trans (contrEquiv1_symm_val D n hr hs k) | ⟨1, _⟩ => hr1 _))

/-- Indices of two axes are equal when their numbers are. -/
theorem idx_ext {a b : ℕ} {u v : (Mat a b).Idx} (h0 : (u 0).val = (v 0).val) (h1 : (u 1).val = (v 1).val) : u = v :=
  funext fun x => Fin.ext (match x with | ⟨0, _⟩ => h0 | ⟨1, _⟩ => h1)

/-- Two sums of products agree when their factors do. -/
theorem sum_mul_congr {n : ℕ} {a a' b b' : Fin n → EReal} (ha : ∀ k, a k = a' k) (hb : ∀ k, b k = b' k) :
    ∑ k, a k * b k = ∑ k, a' k * b' k := Finset.sum_congr rfl fun k _ => congrArg₂ (· * ·) (ha k) (hb k)

end Cert.Products

end
-- ==== Proof.MlpUpDw.lean ====
/-
  The gradient of the wide MLP weight: every tile of the kernel is the product of one block of columns of the normed
  stream with one block of columns of the hidden gradient, over all 2048 rows, and so is the reference.
-/
module

public import proofs.«01_k».proof.Defs
public import proofs.«01_k».proof.Proof.Products
public import proofs.«01_k».proof.Proof.Gen.MlpUpDwIdeal.Value
public import proofs.«01_k».proof.Proof.Gen.MlpUpDwRefIdeal.Run
public import proofs.«01_k».proof.Proof.Gen.MlpUpDwRefIdeal.Read
public import Idealize.ShloMosaic.Lib.Pipeline.ValueKit.Geometry

@[expose] public section

noncomputable section

namespace Cert.MlpUpDwProof

open Idealize.ShloMosaic Idealize.ShloMosaic.ValueIdx Idealize.SL.Sem
open Cert.MlpUpDwIdeal Cert.MlpUpDwIdeal.Gen
open Cert.MlpUpDwRefIdeal.Read Cert.Products
open scoped BigOperators

/-- One tile: the product over the rows. -/
theorem tile_at (x0 : FVec Ideal S2048x1024 .bf16) (x1 : FVec Ideal S2048x2048 .bf16) (i : Fin 1024) (j : Fin 2048) :
    (out0_2 (F := Ideal) x0 x1 (ix2 i j) : EReal) = ∑ k : Fin 2048, x0 (ix2 k i) * x1 (ix2 k j) := by
  unfold out0_2
  rw [View.canon_cons_unit_lit _ _ _ zero_off2, ld_whole, ld_whole]
  exact tn_at dot_S2048x1024_S2048x2048_S1024x2048_0_0_1_1_n_n rfl rfl x0 x1 i j (fun _ => rfl) (fun _ => rfl) (fun _ => rfl) (fun _ => rfl)

/-- The reference's entry: the same product of whole columns. -/
theorem ref_at (x0 : (⟨S2048x2048, .bf16⟩ : BufTy).Contents (Elt Ideal)) (x1 : (⟨S2048x8192, .bf16⟩ : BufTy).Contents (Elt Ideal)) (i : Fin 2048) (j : Fin 8192) :
    (val_main_v6 (F := Ideal) x0 x1 (ix2 i j) : EReal) = ∑ k : Fin 2048, x0 (ix2 k i) * x1 (ix2 k j) := by
  refine (val_main_v6_apply (F := Ideal) x0 x1 _).trans ?_
  refine (val_main_v5_apply (F := Ideal) x0 x1 _).trans ((val_main_v4_apply x0 x1 _).trans (Finset.sum_congr rfl fun k _ => ?_))
  exact (mul_comm _ _).trans (congrArg₂ (· * ·) ((val_main_v1_apply (F := Ideal) x0 _).trans (congrArg x0 (idx_ext rfl rfl)))
    ((val_main_v3_apply (F := Ideal) x1 _).trans (congrArg x1 (idx_ext rfl rfl))))

theorem idx_0 : ∀ t : Fin grid0.N, win0_0.index t = ![0, (grid0.coords t 0).val] := by decide +kernel
theorem idx_1 : ∀ t : Fin grid0.N, win0_1.index t = ![0, (grid0.coords t 1).val] := by decide +kernel
theorem idx_2 : ∀ t : Fin grid0.N, win0_2.index t = ![(grid0.coords t 0).val, (grid0.coords t 1).val] := by decide +kernel
theorem covers : (cfg0.win 2).Covers := by decide +kernel

/-- The row of the result that row `i` of a tile is. -/
def row (t : Fin cfg0.N) (i : Fin 1024) : Fin 2048 :=
  ⟨(grid0.coords t 0).val * 1024 + i.val, by have h : (grid0.coords t 0).val < 2 := (grid0.coords t 0).isLt; omega⟩
/-- The column of the result that column `j` of a tile is. -/
def col (t : Fin cfg0.N) (j : Fin 2048) : Fin 8192 :=
  ⟨(grid0.coords t 1).val * 2048 + j.val, by have h : (grid0.coords t 1).val < 4 := (grid0.coords t 1).isLt; omega⟩

variable (m : (ℓ : Loc nD τ sig) → Buf (Elt Ideal) ℓ) (c : Dev nD)

theorem blk_0 (t : Fin cfg0.N) (k : Fin 2048) (i : Fin 1024) :
    iblk m c 0 t (ix2 k i) = m (c, Proc.devRef .tc main_arg0) (ix2 k (row t i)) := by
  show V m c main_arg0 _ = V m c main_arg0 _
  congr 1
  unfold row
  blk_ext [idx_0 t]

theorem blk_1 (t : Fin cfg0.N) (k : Fin 2048) (j : Fin 2048) :
    iblk m c 1 t (ix2 k j) = m (c, Proc.devRef .tc main_arg1) (ix2 k (col t j)) := by
  show V m c main_arg1 _ = V m c main_arg1 _
  congr 1
  unfold col
  blk_ext [idx_1 t]

theorem emb_out (t : Fin cfg0.N) (i : Fin 1024) (j : Fin 2048) :
    ((cfg0.win 2).blk t).view.emb (ix2 i j) = ix2 (row t i) (col t j) := by
  unfold row col
  blk_ext [idx_2 t]

/-- The kernel's array is the reference's. -/
theorem out_array : (dats m 0 c).arrAt 2 cfg0.N
    = val_main_v6 (F := Ideal) (m (c, Proc.devRef .tc main_arg0)) (m (c, Proc.devRef .tc main_arg1)) := by
  refine (dats m 0 c).arrAt_eq_of_covers 2 _ covers fun t _ y => ?_
  have h : (out0_2 (F := Ideal) (iblk m c 0 t) (iblk m c 1 t) y : EReal)
      = val_main_v6 (F := Ideal) (m (c, Proc.devRef .tc main_arg0)) (m (c, Proc.devRef .tc main_arg1)) (((cfg0.win 2).blk t).view.emb y) := by
    obtain ⟨i, j, rfl⟩ : ∃ (i : Fin 1024) (j : Fin 2048), y = ix2 i j := ⟨y 0, y 1, eq_ix2 y⟩
    rw [emb_out t i j]
    refine (tile_at _ _ i j).trans (Eq.trans ?_ (ref_at _ _ _ _).symm)
    exact Finset.sum_congr rfl fun k _ => congrArg₂ (· * ·) (blk_0 m c t k i) (blk_1 m c t k j)
  blk_simp
  rw [after0_2]
  generalize out0_2 (F := Ideal) (iblk m c 0 t) (iblk m c 1 t) = W at h ⊢
  exact h

/-- The reference is host code and declares no semaphore. -/
theorem reference_quiescent : Cert.quiescent_MlpUpDwRefIdeal (hMlpUpDwRefIdeal := Cert.MlpUpDwRefIdeal.Gen.facts) := fun m ρ _ =>
  (θ_run Cert.MlpUpDwRefIdeal.defs _ _).mono (fun r h => ⟨fun c => (h c).2, sem_eq_zero_of_no_sems (by decide) r.2⟩)
    (Cert.MlpUpDwRefIdeal.Value.run (F := Ideal) m ρ)

/-- Over the extended reals the kernel ends with the reference's array. -/
theorem values : Cert.algebraic_MlpUpDwIdeal_MlpUpDwRefIdeal (hMlpUpDwIdeal := Cert.MlpUpDwIdeal.Gen.facts)
    (hMlpUpDwRefIdeal := Cert.MlpUpDwRefIdeal.Gen.facts) := by
  intro m g m' g' _ hagree
  refine ⟨fun c => (dats m 0 c).arrAt 2 cfg0.N, Cert.MlpUpDwIdeal.Value.run_blocks m g, ?_⟩
  refine (θ_run Cert.MlpUpDwRefIdeal.defs _ _).mono (fun r h c => ⟨(h c).1.trans ?_, (h c).2⟩) (Cert.MlpUpDwRefIdeal.Value.run (F := Ideal) m' g')
  obtain ⟨h0, h1⟩ := hagree c
  refine (val_main_v6_eq _ _).trans ?_
  rw [h0, h1]
  exact (out_array m c).symm

end Cert.MlpUpDwProof

end
-- ==== Proof.MlpDownDw.lean ====
/-
  The gradient of the narrow MLP weight: every tile of the kernel is the product of one block of columns of the hidden
  layer with the stream's gradient, over all 2048 rows, and so is the reference.
-/
module

public import proofs.«01_k».proof.Defs
public import proofs.«01_k».proof.Proof.Products
public import proofs.«01_k».proof.Proof.Gen.MlpDownDwIdeal.Value
public import proofs.«01_k».proof.Proof.Gen.MlpDownDwRefIdeal.Run
public import proofs.«01_k».proof.Proof.Gen.MlpDownDwRefIdeal.Read
public import Idealize.ShloMosaic.Lib.Pipeline.ValueKit.Geometry

@[expose] public section

noncomputable section

namespace Cert.MlpDownDwProof

open Idealize.ShloMosaic Idealize.ShloMosaic.ValueIdx Idealize.SL.Sem
open Cert.MlpDownDwIdeal Cert.MlpDownDwIdeal.Gen
open Cert.MlpDownDwRefIdeal.Read Cert.Products
open scoped BigOperators

/-- One tile: the product over the rows. -/
theorem tile_at (x0 : FVec Ideal S2048x1024 .bf16) (x1 : FVec Ideal S2048x2048 .bf16) (i : Fin 1024) (j : Fin 2048) :
    (out0_2 (F := Ideal) x0 x1 (ix2 i j) : EReal) = ∑ k : Fin 2048, x0 (ix2 k i) * x1 (ix2 k j) := by
  unfold out0_2
  rw [View.canon_cons_unit_lit _ _ _ zero_off2, ld_whole, ld_whole]
  exact tn_at dot_S2048x1024_S2048x2048_S1024x2048_0_0_1_1_n_n rfl rfl x0 x1 i j (fun _ => rfl) (fun _ => rfl) (fun _ => rfl) (fun _ => rfl)

/-- The reference's entry: the same product of whole columns. -/
theorem ref_at (x0 : (⟨S2048x8192, .bf16⟩ : BufTy).Contents (Elt Ideal)) (x1 : (⟨S2048x2048, .bf16⟩ : BufTy).Contents (Elt Ideal)) (i : Fin 8192) (j : Fin 2048) :
    (val_main_v6 (F := Ideal) x0 x1 (ix2 i j) : EReal) = ∑ k : Fin 2048, x0 (ix2 k i) * x1 (ix2 k j) := by
  refine (val_main_v6_apply (F := Ideal) x0 x1 _).trans ?_
  refine (val_main_v5_apply (F := Ideal) x0 x1 _).trans ((val_main_v4_apply x0 x1 _).trans (Finset.sum_congr rfl fun k _ => ?_))
  exact (mul_comm _ _).trans (congrArg₂ (· * ·) ((val_main_v1_apply (F := Ideal) x0 _).trans (congrArg x0 (idx_ext rfl rfl)))
    ((val_main_v3_apply (F := Ideal) x1 _).trans (congrArg x1 (idx_ext rfl rfl))))

theorem idx_0 : ∀ t : Fin grid0.N, win0_0.index t = ![0, (grid0.coords t 0).val] := by decide +kernel
theorem idx_1 : ∀ t : Fin grid0.N, win0_1.index t = ![0, (grid0.coords t 1).val] := by decide +kernel
theorem idx_2 : ∀ t : Fin grid0.N, win0_2.index t = ![(grid0.coords t 0).val, (grid0.coords t 1).val] := by decide +kernel
theorem covers : (cfg0.win 2).Covers := by decide +kernel

/-- The row of the result that row `i` of a tile is. -/
def row (t : Fin cfg0.N) (i : Fin 1024) : Fin 8192 :=
  ⟨(grid0.coords t 0).val * 1024 + i.val, by have h : (grid0.coords t 0).val < 8 := (grid0.coords t 0).isLt; omega⟩
/-- The column of the result that column `j` of a tile is. -/
def col (t : Fin cfg0.N) (j : Fin 2048) : Fin 2048 :=
  ⟨(grid0.coords t 1).val * 2048 + j.val, by have h : (grid0.coords t 1).val < 1 := (grid0.coords t 1).isLt; omega⟩

variable (m : (ℓ : Loc nD τ sig) → Buf (Elt Ideal) ℓ) (c : Dev nD)

theorem blk_0 (t : Fin cfg0.N) (k : Fin 2048) (i : Fin 1024) :
    iblk m c 0 t (ix2 k i) = m (c, Proc.devRef .tc main_arg0) (ix2 k (row t i)) := by
  show V m c main_arg0 _ = V m c main_arg0 _
  congr 1
  unfold row
  blk_ext [idx_0 t]

theorem blk_1 (t : Fin cfg0.N) (k : Fin 2048) (j : Fin 2048) :
    iblk m c 1 t (ix2 k j) = m (c, Proc.devRef .tc main_arg1) (ix2 k (col t j)) := by
  show V m c main_arg1 _ = V m c main_arg1 _
  congr 1
  unfold col
  blk_ext [idx_1 t]

theorem emb_out (t : Fin cfg0.N) (i : Fin 1024) (j : Fin 2048) :
    ((cfg0.win 2).blk t).view.emb (ix2 i j) = ix2 (row t i) (col t j) := by
  unfold row col
  blk_ext [idx_2 t]

/-- The kernel's array is the reference's. -/
theorem out_array : (dats m 0 c).arrAt 2 cfg0.N
    = val_main_v6 (F := Ideal) (m (c, Proc.devRef .tc main_arg0)) (m (c, Proc.devRef .tc main_arg1)) := by
  refine (dats m 0 c).arrAt_eq_of_covers 2 _ covers fun t _ y => ?_
  have h : (out0_2 (F := Ideal) (iblk m c 0 t) (iblk m c 1 t) y : EReal)
      = val_main_v6 (F := Ideal) (m (c, Proc.devRef .tc main_arg0)) (m (c, Proc.devRef .tc main_arg1)) (((cfg0.win 2).blk t).view.emb y) := by
    obtain ⟨i, j, rfl⟩ : ∃ (i : Fin 1024) (j : Fin 2048), y = ix2 i j := ⟨y 0, y 1, eq_ix2 y⟩
    rw [emb_out t i j]
    refine (tile_at _ _ i j).trans (Eq.trans ?_ (ref_at _ _ _ _).symm)
    exact Finset.sum_congr rfl fun k _ => congrArg₂ (· * ·) (blk_0 m c t k i) (blk_1 m c t k j)
  blk_simp
  rw [after0_2]
  generalize out0_2 (F := Ideal) (iblk m c 0 t) (iblk m c 1 t) = W at h ⊢
  exact h

/-- The reference is host code and declares no semaphore. -/
theorem reference_quiescent : Cert.quiescent_MlpDownDwRefIdeal (hMlpDownDwRefIdeal := Cert.MlpDownDwRefIdeal.Gen.facts) := fun m ρ _ =>
  (θ_run Cert.MlpDownDwRefIdeal.defs _ _).mono (fun r h => ⟨fun c => (h c).2, sem_eq_zero_of_no_sems (by decide) r.2⟩)
    (Cert.MlpDownDwRefIdeal.Value.run (F := Ideal) m ρ)

/-- Over the extended reals the kernel ends with the reference's array. -/
theorem values : Cert.algebraic_MlpDownDwIdeal_MlpDownDwRefIdeal (hMlpDownDwIdeal := Cert.MlpDownDwIdeal.Gen.facts)
    (hMlpDownDwRefIdeal := Cert.MlpDownDwRefIdeal.Gen.facts) := by
  intro m g m' g' _ hagree
  refine ⟨fun c => (dats m 0 c).arrAt 2 cfg0.N, Cert.MlpDownDwIdeal.Value.run_blocks m g, ?_⟩
  refine (θ_run Cert.MlpDownDwRefIdeal.defs _ _).mono (fun r h c => ⟨(h c).1.trans ?_, (h c).2⟩) (Cert.MlpDownDwRefIdeal.Value.run (F := Ideal) m' g')
  obtain ⟨h0, h1⟩ := hagree c
  refine (val_main_v6_eq _ _).trans ?_
  rw [h0, h1]
  exact (out_array m c).symm

end Cert.MlpDownDwProof

end
-- ==== Proof.Planes.lean ====
/-
  An array of seven segments of 2048 columns laid out as seven planes, read at one entry.
-/
module

public import proofs.«01_k».proof.Proof.Products

@[expose] public section

noncomputable section

namespace Cert.Planes

open Idealize.ShloMosaic Idealize.ShloMosaic.ValueIdx
open Cert.Unit (Mat)

/-- Column `j` of segment `p`. -/
def seg (p : Fin 7) (j : Fin 2048) : Fin 14336 := ⟨p.val * 2048 + j.val, by omega⟩

/-- Plane `p` is segment `p`. -/
theorem planes_at {α : Type} (x : (Mat 2048 14336).Idx → α) (hc : (Mat 2048 14336).ShapeCasts ⟨3, ![2048, 7, 2048]⟩)
    (ht : (⟨3, ![2048, 7, 2048]⟩ : Shape).Transposes [1, 0, 2] ⟨3, ![7, 2048, 2048]⟩) (p : Fin 7) (r j : Fin 2048) :
    transpose ⟨3, ![7, 2048, 2048]⟩ [1, 0, 2] (shapeCast ⟨3, ![2048, 7, 2048]⟩ x hc) ht (ix3 p r j) = x (ix2 r (seg p j)) := by
  refine (transpose_apply [1, 0, 2] _ ht (ix3 p r j) (ix3 r p j) (by intro a; fin_cases a <;> rfl)).trans ?_
  refine shapeCast_apply _ _ _ _ ?_
  refine (Shape.rowMajor_val_two _).trans (Eq.trans ?_ (Shape.rowMajor_val_three _).symm)
  show r.val * 14336 + (p.val * 2048 + j.val) = (r.val * 7 + p.val) * 2048 + j.val
  omega

/-- A block holding one plane, taken as a matrix. -/
theorem plane_cast {α : Type} {a b : ℕ} (x : (⟨3, ![1, a, b]⟩ : Shape).Idx → α) (hc : (⟨3, ![1, a, b]⟩ : Shape).ShapeCasts (Mat a b))
    (i : Fin a) (j : Fin b) : shapeCast (Mat a b) x hc (ix2 i j) = x (ix3 0 i j) := by
  refine shapeCast_apply _ _ _ _ ?_
  refine (Shape.rowMajor_val_three _).trans (Eq.trans ?_ (Shape.rowMajor_val_two _).symm)
  show (0 * a + i.val) * b + j.val = i.val * b + j.val
  rw [zero_mul, zero_add]

theorem zero_off3 : ∀ a : Fin 3, (![0, 0, 0] : Fin 3 → ℕ) a = 0 := fun a => match a with
  | ⟨0, _⟩ => rfl | ⟨1, _⟩ => rfl | ⟨2, _⟩ => rfl

end Cert.Planes

end
-- ==== Proof.ProjInDw.lean ====
/-
  Half of the gradient of the input weight: every tile is the product of 1024 of the normed stream's columns with one segment
  of the gradient, over all 2048 rows. The kernel takes the gradient as seven planes, which the host lays out; the reference
  takes it as it is.
-/
module

public import proofs.«01_k».proof.Defs
public import proofs.«01_k».proof.Proof.Planes
public import proofs.«01_k».proof.Proof.Gen.ProjInDwIdeal.Value
public import proofs.«01_k».proof.Proof.Gen.ProjInDwRefIdeal.Run
public import proofs.«01_k».proof.Proof.Gen.ProjInDwRefIdeal.Read
public import Idealize.ShloMosaic.Lib.Pipeline.ValueKit.Geometry
public import Idealize.ShloMosaic.Lib.StableHlo.RunRead

@[expose] public section

noncomputable section

namespace Cert.ProjInDwProof

open Idealize.ShloMosaic Idealize.ShloMosaic.ValueIdx Idealize.SL.Sem
open Cert.ProjInDwIdeal Cert.ProjInDwIdeal.Gen
open Cert.ProjInDwRefIdeal.Read Cert.Products Cert.Planes
open scoped BigOperators

/-- One tile: the product over the rows. -/
theorem tile_at (x0 : FVec Ideal S2048x1024 .bf16) (x1 : FVec Ideal S1x2048x2048 .bf16) (i : Fin 1024) (j : Fin 2048) :
    (out0_2 (F := Ideal) x0 x1 (ix2 i j) : EReal) = ∑ k : Fin 2048, x0 (ix2 k i) * x1 (ix3 0 k j) := by
  unfold out0_2
  rw [View.canon_cons_unit_lit _ _ _ zero_off2, ld_whole, View.ld_unit_lit _ _ zero_off3]
  refine (tn_at dot_S2048x1024_S2048x2048_S1024x2048_0_0_1_1_n_n rfl rfl x0 (shapeCast S2048x2048 x1 shapeCasts_S1x2048x2048_S2048x2048) i j
    (fun _ => rfl) (fun _ => rfl) (fun _ => rfl) (fun _ => rfl)).trans ?_
  exact sum_mul_congr (fun k => rfl) (fun k => plane_cast x1 _ k j)

/-- The reference's entry: the first half of the transposed product of the gradient with the stream. -/
theorem ref_at (x0 : (⟨S2048x2048, .bf16⟩ : BufTy).Contents (Elt Ideal)) (x1 : (⟨S2048x14336, .bf16⟩ : BufTy).Contents (Elt Ideal)) (i : Fin 1024) (j : Fin 14336) :
    (val_main_v7 (F := Ideal) x0 x1 (ix2 i j) : EReal) = ∑ k : Fin 2048, x0 (ix2 k ⟨i.val, by omega⟩) * x1 (ix2 k j) := by
  refine (val_main_v7_apply (F := Ideal) x0 x1 _).trans ?_
  refine (val_main_v6_apply (F := Ideal) x0 x1 _).trans ((val_main_v5_apply (F := Ideal) x0 x1 _).trans
    ((val_main_v4_apply x0 x1 _).trans (Finset.sum_congr rfl fun k _ => ?_)))
  exact (mul_comm _ _).trans (congrArg₂ (· * ·) ((val_main_v1_apply (F := Ideal) x0 _).trans (congrArg x0 (idx_ext rfl rfl)))
    ((val_main_v3_apply (F := Ideal) x1 _).trans (congrArg x1 (idx_ext rfl rfl))))

theorem idx_0 : ∀ t : Fin grid0.N, win0_0.index t = ![0, 0] := by decide +kernel
theorem idx_1 : ∀ t : Fin grid0.N, win0_1.index t = ![(grid0.coords t 1).val, 0, 0] := by decide +kernel
theorem idx_2 : ∀ t : Fin grid0.N, win0_2.index t = ![0, (grid0.coords t 1).val] := by decide +kernel
theorem covers_2 : (cfg0.win 2).Covers := by decide +kernel

/-- The segment a tile is of. -/
def part (t : Fin cfg0.N) : Fin 7 := ⟨(grid0.coords t 1).val, (grid0.coords t 1).isLt⟩

variable (m : (ℓ : Loc nD τ sig) → Buf (Elt Ideal) ℓ) (c : Dev nD)

/-- The host lays the gradient out as seven planes before the launch. -/
theorem V_planes : V m c main_v1 = transpose S7x2048x2048 [1, 0, 2]
    (shapeCast S2048x7x2048 (m (c, Proc.devRef .tc main_arg1) : (⟨S2048x14336, .bf16⟩ : BufTy).Contents (Elt Ideal))
      shapeCasts_S2048x14336_S2048x7x2048) transposes_S2048x7x2048_S7x2048x2048_1_0_2 := by
  unfold V hostOps0
  after_reads_simp
  rfl

/-- A plane's entry is the gradient's in the plane's segment. -/
theorem V_planes_at (p : Fin 7) (r j : Fin 2048) :
    V m c main_v1 (ix3 p r j) = m (c, Proc.devRef .tc main_arg1) (ix2 r (seg p j)) := by
  rw [V_planes]
  exact planes_at _ _ _ p r j

theorem blk_0 (t : Fin cfg0.N) (k : Fin 2048) (i : Fin 1024) :
    iblk m c 0 t (ix2 k i) = m (c, Proc.devRef .tc main_arg0) (ix2 k ⟨i.val, by omega⟩) := by
  refine Eq.trans ?_ (congrFun (V_main_arg0 m c) _)
  show V m c main_arg0 _ = V m c main_arg0 _
  congr 1
  blk_ext [idx_0 t]

theorem blk_1 (t : Fin cfg0.N) (k j : Fin 2048) :
    iblk m c 1 t (ix3 0 k j) = m (c, Proc.devRef .tc main_arg1) (ix2 k (seg (part t) j)) := by
  refine Eq.trans ?_ (V_planes_at m c (part t) k j)
  show V m c main_v1 _ = V m c main_v1 _
  congr 1
  unfold part
  blk_ext [idx_1 t]

theorem emb_2 (t : Fin cfg0.N) (i : Fin 1024) (j : Fin 2048) :
    ((cfg0.win 2).blk t).view.emb (ix2 i j) = ix2 i (seg (part t) j) := by
  unfold seg part
  blk_ext [idx_2 t]

/-- The kernel's array is the reference's. -/
theorem out_array_2 : (dats m 0 c).arrAt 2 cfg0.N
    = val_main_v7 (F := Ideal) (m (c, Proc.devRef .tc main_arg0)) (m (c, Proc.devRef .tc main_arg1)) := by
  refine (dats m 0 c).arrAt_eq_of_covers 2 _ covers_2 fun t _ y => ?_
  have h : (out0_2 (F := Ideal) (iblk m c 0 t) (iblk m c 1 t) y : EReal)
      = val_main_v7 (F := Ideal) (m (c, Proc.devRef .tc main_arg0)) (m (c, Proc.devRef .tc main_arg1))
        (((cfg0.win 2).blk t).view.emb y) := by
    obtain ⟨i, j, rfl⟩ : ∃ (i : Fin 1024) (j : Fin 2048), y = ix2 i j := ⟨y 0, y 1, eq_ix2 y⟩
    rw [emb_2 t i j]
    refine (tile_at _ _ i j).trans (Eq.trans ?_ (ref_at _ _ _ _).symm)
    exact sum_mul_congr (fun k => blk_0 m c t k i) (fun k => blk_1 m c t k j)
  blk_simp
  rw [after0_2]
  generalize out0_2 (F := Ideal) (iblk m c 0 t) (iblk m c 1 t) = W at h ⊢
  exact h

/-- The reference is host code and declares no semaphore. -/
theorem reference_quiescent : Cert.quiescent_ProjInDwRefIdeal (hProjInDwRefIdeal := Cert.ProjInDwRefIdeal.Gen.facts) := fun m ρ _ =>
  (θ_run Cert.ProjInDwRefIdeal.defs _ _).mono (fun r h => ⟨fun c => (h c).2, sem_eq_zero_of_no_sems (by decide) r.2⟩)
    (Cert.ProjInDwRefIdeal.Value.run (F := Ideal) m ρ)

/-- Over the extended reals the kernel ends with the reference's array. -/
theorem values : Cert.algebraic_ProjInDwIdeal_ProjInDwRefIdeal (hProjInDwIdeal := Cert.ProjInDwIdeal.Gen.facts)
    (hProjInDwRefIdeal := Cert.ProjInDwRefIdeal.Gen.facts) := by
  intro m g m' g' _ hagree
  refine ⟨fun c => (dats m 0 c).arrAt 2 cfg0.N, Cert.ProjInDwIdeal.Value.run_blocks m g, ?_⟩
  refine (θ_run Cert.ProjInDwRefIdeal.defs _ _).mono
    (fun r h c => ⟨(h c).1.trans ?_, (h c).2⟩) (Cert.ProjInDwRefIdeal.Value.run (F := Ideal) m' g')
  obtain ⟨h0, h1⟩ := hagree c
  refine (val_main_v7_eq _ _).trans ?_
  rw [h0, h1]
  exact (out_array_2 m c).symm

end Cert.ProjInDwProof

end
-- ==== Proof.Chunks.lean ====
/-
  A finite sum taken in equal chunks, first to last.
-/
module

public import proofs.«01_k».proof.Proof.Products

@[expose] public section

noncomputable section

namespace Cert.Chunks

open scoped BigOperators

/-- Equal parts have equal sums. -/
theorem add_congr {a a' b b' : EReal} (ha : a = a') (hb : b = b') : a + b = a' + b' := by rw [ha, hb]

variable {N : ℕ} (g : Fin N → EReal) (b : ℕ)

/-- The terms continued by zero. -/
def ext (n : ℕ) : EReal := if h : n < N then g ⟨n, h⟩ else 0

theorem ext_of {n : ℕ} (h : n < N) : ext g n = g ⟨n, h⟩ := dif_pos h

/-- Chunk `q` of length `b`. -/
def chunk (q : ℕ) : EReal := ∑ k : Fin b, ext g (q * b + k.val)

/-- The first `q` chunks. -/
def upto (q : ℕ) : EReal := ∑ n ∈ Finset.range (q * b), ext g n

theorem upto_zero : upto g b 0 = 0 := by
  unfold upto
  rw [Nat.zero_mul, Finset.range_zero, Finset.sum_empty]

theorem upto_succ (q : ℕ) : upto g b (q + 1) = upto g b q + chunk g b q := by
  unfold upto chunk
  rw [Nat.succ_mul, Finset.sum_range_add, ← Fin.sum_univ_eq_sum_range (fun k => ext g (q * b + k))]

/-- All the chunks are the sum. -/
theorem upto_all {q : ℕ} (h : q * b = N) : upto g b q = ∑ k, g k := by
  unfold upto
  rw [h, ← Fin.sum_univ_eq_sum_range]
  exact Finset.sum_congr rfl fun k _ => ext_of g k.isLt

end Cert.Chunks

end
-- ==== Proof.ProjInDx.lean ====
/-
  Half of the gradient of the normed stream through the input weight: a product over 14336 positions, which the kernel takes
  in seven chunks of 2048, keeping the sum so far in a scratch array. The kernel takes the gradient of the activations as
  seven planes, which the host lays out; the reference takes it as it is, and the product at once.
-/
module

public import proofs.«01_k».proof.Defs
public import proofs.«01_k».proof.Proof.Chunks
public import proofs.«01_k».proof.Proof.Planes
public import proofs.«01_k».proof.Proof.Gen.ProjInDxIdeal.Value
public import proofs.«01_k».proof.Proof.Gen.ProjInDxRefIdeal.Run
public import proofs.«01_k».proof.Proof.Gen.ProjInDxRefIdeal.Read
public import Idealize.ShloMosaic.Lib.Pipeline.ValueKit.Geometry
public import Idealize.ShloMosaic.Lib.StableHlo.RunRead

@[expose] public section

noncomputable section

namespace Cert.ProjInDxProof

open Idealize.ShloMosaic Idealize.ShloMosaic.ValueIdx Idealize.SL.Sem
open Cert.ProjInDxIdeal Cert.ProjInDxIdeal.Gen
open Cert.ProjInDxRefIdeal.Read Cert.Products Cert.Chunks Cert.Planes
open scoped BigOperators

theorem hz : (![0, 0] : Fin 2 → ℕ) = fun _ => 0 := funext zero_off2

theorem hz3 : (![0, 0, 0] : Fin 3 → ℕ) = fun _ => 0 := funext zero_off3

section Points
variable (c : Dev nD) (i : grid0.Coords) {a3 : Memref sig .tc .vmem S1x1024x2048 .bf16} {h3 : a3.IsWhole}
  {a4 : Memref sig .tc .vmem S1024x2048 .bf16} {h4 : a4.IsWhole} {a5 a6 : Memref sig .tc .vmem S1024x1024 .f32} {h5 : a5.IsWhole}
  {h6 : a6.IsWhole} (x0 : Vec Ideal S1x1024x2048 .bf16) (x1 : Vec Ideal S1024x2048 .bf16) (acc : Vec Ideal S1024x1024 .f32)

/-- The first point of a run leaves its chunk in the scratch array. -/
theorem first_point (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  unfold k0_pay2
  simp only [View.readAt_eq_ld, h3.read_unread, h4.read_unread, h6.read_unread, View.ld_unit_zero (S := S1x1024x2048) hz3, View.ld_unit_zero (S := S1024x2048) hz,
    View.ld_unit_zero (S := S1024x1024) hz, shapeCast_self]

/-- A middle point adds its chunk to what the point before left. -/
theorem middle_point (hc0 : ¬cond0_0 i) (hc1 : cond0_1 i) (hc2 : ¬cond0_2 i) :
    sout0_B_0 c i a3 h3 a4 h4 a5 h5 a6 h6 hc0 hc1 hc2 x0 x1 acc = addf acc (k0_pay1 x0 x1) := by
  unfold sout0_B_0
  rw [View.read_writes_eq_canon _ _ _ (scover0_B_0 c i a3 h3 a4 h4 a5 h5 a6 h6 hc0 hc1 hc2 x0 x1 acc)]
  unfold kernelRun0_B
  dsimp only
  rw [View.canon_unit_zero hz]
  unfold k0_pay3
  simp only [View.readAt_eq_ld, h3.read_unread, h4.read_unread, h6.read_unread, View.ld_unit_zero (S := S1x1024x2048) hz3, View.ld_unit_zero (S := S1024x2048) hz,
    View.ld_unit_zero (S := S1024x1024) hz, shapeCast_self]

/-- The last point adds its chunk and leaves the tile. -/
theorem last_point (hc0 : ¬cond0_0 i) (hc1 : ¬cond0_1 i) (hc2 : cond0_2 i) :
    out0_C_2 c i a3 h3 a4 h4 a5 h5 a6 h6 hc0 hc1 hc2 x0 x1 acc = addf acc (k0_pay1 x0 x1) := by
  unfold out0_C_2
  rw [View.read_writes_eq_canon _ _ _ (cover0_C_2 c i a3 h3 a4 h4 a5 h5 a6 h6 hc0 hc1 hc2 x0 x1 acc)]
  unfold kernelRun0_C
  dsimp only
  rw [View.canon_unit_zero hz]
  unfold k0_pay4
  simp only [View.readAt_eq_ld, h3.read_unread, h4.read_unread, h6.read_unread, View.ld_unit_zero (S := S1x1024x2048) hz3, View.ld_unit_zero (S := S1024x2048) hz,
    View.ld_unit_zero (S := S1024x1024) hz]

end Points

/-- One chunk of the product. -/
theorem prod_at (x0 : FVec Ideal S1x1024x2048 .bf16) (x1 : FVec Ideal S1024x2048 .bf16) (i j : Fin 1024) :
    k0_pay1 (F := Ideal) x0 x1 (ix2 i j) = ∑ k : Fin 2048, x0 (ix3 0 i k) * x1 (ix2 j k) :=
  (nt_at dot_S1024x2048_S1024x2048_S1024x1024_1_1_0_0_n_n rfl rfl (shapeCast S1024x2048 x0 shapeCasts_S1x1024x2048_S1024x2048) x1 i j
    (fun _ => rfl) (fun _ => rfl) (fun _ => rfl) (fun _ => rfl)).trans (sum_mul_congr (fun k => plane_cast x0 _ i k) (fun _ => rfl))

/-- The terms of one entry of the product. -/
def terms (x0 x1 : (⟨S2048x14336, .bf16⟩ : BufTy).Contents (Elt Ideal)) (i j : Fin 2048) (k : Fin 14336) : EReal :=
  (x1 (ix2 i k) : EReal) * (x0 (ix2 j k) : EReal)

/-- Row `i` of the second half of the rows. -/
def row (i : Fin 1024) : Fin 2048 := ⟨1024 + i.val, by omega⟩

/-- The reference's entry: the second half of the rows of the product of the gradient with the transposed weight. -/
theorem ref_at (x0 x1 : (⟨S2048x14336, .bf16⟩ : BufTy).Contents (Elt Ideal)) (i : Fin 1024) (j : Fin 2048) :
    (val_main_v5 (F := Ideal) x0 x1 (ix2 i j) : EReal) = ∑ k, terms x0 x1 (row i) j k := by
  refine (val_main_v5_apply (F := Ideal) x0 x1 _).trans ((val_main_v4_apply x0 x1 _).trans (Finset.sum_congr rfl fun k _ => ?_))
  exact congrArg₂ (· * ·) ((val_main_v3_apply (F := Ideal) x1 _).trans (congrArg x1 (idx_ext rfl rfl)))
    ((val_main_v1_apply (F := Ideal) x0 _).trans (congrArg x0 (idx_ext rfl rfl)))

theorem idx_0 : ∀ t : Fin grid0.N, win0_0.index t = ![t.val % 7, 1, 0] := by decide +kernel
theorem idx_1 : ∀ t : Fin grid0.N, win0_1.index t = ![t.val / 7 % 2, t.val % 7] := by decide +kernel
theorem idx_2 : ∀ t : Fin grid0.N, win0_2.index t = ![0, t.val / 7 % 2] := by decide +kernel
theorem covers_2 : (cfg0.win 2).Covers := by decide +kernel

/-- The column of the result that column `j` of point `n`'s tile is. -/
def col (n : ℕ) (j : Fin 1024) : Fin 2048 := ⟨n / 7 % 2 * 1024 + j.val, by omega⟩

/-- The segment that point `n`'s chunk is. -/
def part (n : ℕ) : Fin 7 := ⟨n % 7, by omega⟩

variable (m : (ℓ : Loc nD τ sig) → Buf (Elt Ideal) ℓ) (c : Dev nD)

/-- The host lays the gradient out as seven planes before the launch. -/
theorem V_planes : V m c main_v1 = transpose S7x2048x2048 [1, 0, 2]
    (shapeCast S2048x7x2048 (m (c, Proc.devRef .tc main_arg1) : (⟨S2048x14336, .bf16⟩ : BufTy).Contents (Elt Ideal))
      shapeCasts_S2048x14336_S2048x7x2048) transposes_S2048x7x2048_S7x2048x2048_1_0_2 := by
  unfold V hostOps0
  after_reads_simp
  rfl

/-- A plane's entry is the gradient's in the plane's segment. -/
theorem V_planes_at (p : Fin 7) (r j : Fin 2048) :
    V m c main_v1 (ix3 p r j) = m (c, Proc.devRef .tc main_arg1) (ix2 r (seg p j)) := by
  rw [V_planes]
  exact planes_at _ _ _ p r j

theorem blk_0 (t : Fin cfg0.N) (i : Fin 1024) (k : Fin 2048) :
    iblk m c 0 t (ix3 0 i k) = m (c, Proc.devRef .tc main_arg1) (ix2 (row i) (seg (part t.val) k)) := by
  refine Eq.trans ?_ (V_planes_at m c (part t.val) (row i) k)
  show V m c main_v1 _ = V m c main_v1 _
  congr 1
  unfold part row
  blk_ext [idx_0 t]

theorem blk_1 (t : Fin cfg0.N) (j : Fin 1024) (k : Fin 2048) :
    iblk m c 1 t (ix2 j k) = m (c, Proc.devRef .tc main_arg0) (ix2 (col t.val j) (seg (part t.val) k)) := by
  refine Eq.trans ?_ (congrFun (V_main_arg0 m c) _)
  show V m c main_arg0 _ = V m c main_arg0 _
  congr 1
  unfold part col seg
  blk_ext [idx_1 t]

theorem emb_2 (t : Fin cfg0.N) (i j : Fin 1024) :
    ((cfg0.win 2).blk t).view.emb (ix2 i j) = ix2 i (col t.val j) := by
  unfold col
  blk_ext [idx_2 t]

/-- The terms of the entry that place `i, j` of point `n`'s tile is. -/
abbrev tm (n : ℕ) (i j : Fin 1024) : Fin 14336 → EReal :=
  terms (m (c, Proc.devRef .tc main_arg0)) (m (c, Proc.devRef .tc main_arg1)) (row i) (col n j)

/-- A point's product is its chunk. -/
theorem chunk_at (t : Fin cfg0.N) (i j : Fin 1024) :
    (k0_pay1 (F := Ideal) (iblk m c 0 t) (iblk m c 1 t) (ix2 i j) : EReal) = chunk (tm m c t.val i j) 2048 (t.val % 7) := by
  refine (prod_at _ _ i j).trans (Finset.sum_congr rfl fun k _ => ?_)
  refine Eq.trans ?_ (ext_of (tm m c t.val i j) (seg (part t.val) k).isLt).symm
  exact congrArg₂ (· * ·) (blk_0 m c t i k) (blk_1 m c t j k)

/-- Within a run of seven points the tile stays. -/
theorem tm_succ (n : ℕ) (h : (n + 1) % 7 ≠ 0) (i j : Fin 1024) : tm m c (n + 1) i j = tm m c n i j := by
  have hc : col (n + 1) j = col n j := Fin.ext (by show (n + 1) / 7 % 2 * 1024 + j.val = n / 7 % 2 * 1024 + j.val; omega)
  show terms _ _ _ _ = terms _ _ _ _
  rw [hc]

/-- What the scratch array holds after a run's first point. -/
theorem scratch_first (t : Fin cfg0.N) (h0 : t.val % 7 = 0) :
    (outsAt0 m c t.val t.isLt).2 = k0_pay1 (F := Ideal) (iblk m c 0 t) (iblk m c 1 t) := by
  rw [outsAt0_A m c t h0 (by omega) (by omega)]
  dsimp only
  exact first_point ..

/-- What the scratch array holds after a middle point. -/
theorem scratch_middle (t : Fin cfg0.N) (h0 : ¬t.val % 7 = 0) (h3 : ¬t.val % 7 = 6) :
    (outsAt0 m c t.val t.isLt).2
      = addf (outsAt0 m c (t.val - 1) (Nat.lt_of_le_of_lt (Nat.sub_le ..) t.isLt)).2 (k0_pay1 (F := Ideal) (iblk m c 0 t) (iblk m c 1 t)) := by
  rw [outsAt0_B m c t h0 (by omega) h3]
  dsimp only
  exact middle_point ..

/-- What the tile holds after a run's last point. -/
theorem tile_last (t : Fin cfg0.N) (h3 : t.val % 7 = 6) :
    (outsAt0 m c t.val t.isLt).1
      = addf (outsAt0 m c (t.val - 1) (Nat.lt_of_le_of_lt (Nat.sub_le ..) t.isLt)).2
          (k0_pay1 (F := Ideal) (iblk m c 0 t) (iblk m c 1 t)) := by
  rw [outsAt0_C m c t (by omega) (by omega) h3]
  dsimp only
  exact last_point ..

/-- Before a run's last point the scratch array holds the chunks so far. -/
theorem scratch_at : ∀ (n : ℕ) (hn : n < cfg0.N), n % 7 ≠ 6 → ∀ i j : Fin 1024,
    ((outsAt0 m c n hn).2 (ix2 i j) : EReal) = upto (tm m c n i j) 2048 (n % 7 + 1) := by
  have first : ∀ (n : ℕ) (hn : n < cfg0.N), n % 7 = 0 → ∀ i j : Fin 1024,
      ((outsAt0 m c n hn).2 (ix2 i j) : EReal) = upto (tm m c n i j) 2048 (n % 7 + 1) := by
    intro n hn h0 i j
    refine (congrFun (scratch_first m c ⟨n, hn⟩ h0) (ix2 i j)).trans ((chunk_at m c ⟨n, hn⟩ i j).trans ?_)
    rw [upto_succ, h0, upto_zero, zero_add]
  intro n
  induction n with
  | zero => exact fun hn _ => first 0 hn rfl
  | succ n ih =>
    intro hn h3 i j
    by_cases h0 : (n + 1) % 7 = 0
    · exact first (n + 1) hn h0 i j
    refine (congrFun (scratch_middle m c ⟨n + 1, hn⟩ h0 h3) (ix2 i j)).trans ?_
    refine (add_congr (ih (Nat.lt_of_succ_lt hn) (by omega) i j) (chunk_at m c ⟨n + 1, hn⟩ i j)).trans ?_
    rw [← tm_succ m c n h0 i j, show n % 7 + 1 = (n + 1) % 7 by omega]
    exact (upto_succ ..).symm

/-- At a run's last point the chunks so far and the last one are the whole product. -/
theorem whole_at (n : ℕ) (hn : n + 1 < cfg0.N) (h3 : (n + 1) % 7 = 6) (i j : Fin 1024) :
    ((outsAt0 m c n (Nat.lt_of_succ_lt hn)).2 (ix2 i j) : EReal) + chunk (tm m c (n + 1) i j) 2048 ((n + 1) % 7)
      = ∑ k, tm m c (n + 1) i j k := by
  refine (add_congr (scratch_at m c n (Nat.lt_of_succ_lt hn) (by omega) i j) rfl).trans ?_
  rw [← tm_succ m c n (by omega) i j, show n % 7 + 1 = (n + 1) % 7 by omega]
  refine (upto_succ ..).symm.trans (upto_all _ _ ?_)
  rw [h3]

/-- A run's last point leaves the reference's tile. -/
theorem tile_at (t : Fin cfg0.N) (h3 : t.val % 7 = 6) (i j : Fin 1024) :
    ((outsAt0 m c t.val t.isLt).1 (ix2 i j) : EReal) = val_main_v5 (F := Ideal) (m (c, Proc.devRef .tc main_arg0)) (m (c, Proc.devRef .tc main_arg1)) (ix2 i (col t.val j)) := by
  refine ((congrFun (tile_last m c t h3) (ix2 i j)).trans ?_).trans (ref_at _ _ _ _).symm
  obtain ⟨n, hn⟩ := t
  obtain ⟨n, rfl⟩ : ∃ k, n = k + 1 := ⟨n - 1, by have : n % 7 = 6 := h3; omega⟩
  exact (add_congr rfl (chunk_at m c ⟨n + 1, hn⟩ i j)).trans (whole_at m c n hn h3 i j)

/-- The kernel's array is the reference's. -/
theorem out_array_2 : (dats m 0 c).arrAt 2 cfg0.N = val_main_v5 (F := Ideal) (m (c, Proc.devRef .tc main_arg0)) (m (c, Proc.devRef .tc main_arg1)) := by
  refine (dats m 0 c).arrAt_eq_of_covers 2 _ covers_2 fun t hf y => ?_
  have h : ((outsAt0 m c t.val t.isLt).1 y : EReal)
      = val_main_v5 (F := Ideal) (m (c, Proc.devRef .tc main_arg0)) (m (c, Proc.devRef .tc main_arg1)) (((cfg0.win 2).blk t).view.emb y) := by
    obtain ⟨i, j, rfl⟩ : ∃ i j : Fin 1024, y = ix2 i j := ⟨y 0, y 1, eq_ix2 y⟩
    rw [emb_2 t i j]
    exact tile_at m c t ((flush0_2 t).mp hf) i j
  blk_simp
  rw [after0_2]
  generalize (outsAt0 m c t.val t.isLt).1 = W at h ⊢
  exact h

/-- The reference is host code and declares no semaphore. -/
theorem reference_quiescent : Cert.quiescent_ProjInDxRefIdeal (hProjInDxRefIdeal := Cert.ProjInDxRefIdeal.Gen.facts) := fun m ρ _ =>
  (θ_run Cert.ProjInDxRefIdeal.defs _ _).mono (fun r h => ⟨fun c => (h c).2, sem_eq_zero_of_no_sems (by decide) r.2⟩)
    (Cert.ProjInDxRefIdeal.Value.run (F := Ideal) m ρ)

/-- Over the extended reals the kernel ends with the reference's array. -/
theorem values : Cert.algebraic_ProjInDxIdeal_ProjInDxRefIdeal (hProjInDxIdeal := Cert.ProjInDxIdeal.Gen.facts)
    (hProjInDxRefIdeal := Cert.ProjInDxRefIdeal.Gen.facts) := by
  intro m g m' g' _ hagree
  refine ⟨fun c => (dats m 0 c).arrAt 2 cfg0.N, Cert.ProjInDxIdeal.Value.run_blocks m g, ?_⟩
  refine (θ_run Cert.ProjInDxRefIdeal.defs _ _).mono
    (fun r h c => ⟨(h c).1.trans ?_, (h c).2⟩) (Cert.ProjInDxRefIdeal.Value.run (F := Ideal) m' g')
  obtain ⟨h0, h1⟩ := hagree c
  refine (val_main_v5_eq _ _).trans ?_
  rw [h0, h1]
  exact (out_array_2 m c).symm

end Cert.ProjInDxProof

end
-- ==== Proof.MixOutDw.lean ====
/-
  The gradient of a square weight: either tile of the kernel is the product of half of the input's columns with the
  output's gradient, over all 2048 rows, and so is the reference.
-/
module

public import proofs.«01_k».proof.Defs
public import proofs.«01_k».proof.Proof.Products
public import proofs.«01_k».proof.Proof.Gen.MixOutDwIdeal.Value
public import proofs.«01_k».proof.Proof.Gen.MixOutDwRefIdeal.Run
public import proofs.«01_k».proof.Proof.Gen.MixOutDwRefIdeal.Read
public import Idealize.ShloMosaic.Lib.Pipeline.ValueKit.Geometry

@[expose] public section

noncomputable section

namespace Cert.MixOutDwProof

open Idealize.ShloMosaic Idealize.ShloMosaic.ValueIdx Idealize.SL.Sem
open Cert.MixOutDwIdeal Cert.MixOutDwIdeal.Gen
open Cert.MixOutDwRefIdeal.Read Cert.Products
open scoped BigOperators

/-- One tile: the product over the rows. -/
theorem tile_at (x0 : FVec Ideal S2048x1024 .bf16) (x1 : FVec Ideal S2048x2048 .bf16) (i : Fin 1024) (j : Fin 2048) :
    (out0_2 (F := Ideal) x0 x1 (ix2 i j) : EReal) = ∑ k : Fin 2048, x0 (ix2 k i) * x1 (ix2 k j) := by
  unfold out0_2
  rw [View.canon_cons_unit_lit _ _ _ zero_off2, ld_whole, ld_whole]
  exact tn_at dot_S2048x1024_S2048x2048_S1024x2048_0_0_1_1_n_n rfl rfl x0 x1 i j (fun _ => rfl) (fun _ => rfl) (fun _ => rfl) (fun _ => rfl)

/-- The reference's entry: the same product of whole columns. -/
theorem ref_at (x0 : (⟨S2048x2048, .bf16⟩ : BufTy).Contents (Elt Ideal)) (x1 : (⟨S2048x2048, .bf16⟩ : BufTy).Contents (Elt Ideal)) (i : Fin 2048) (j : Fin 2048) :
    (val_main_v6 (F := Ideal) x0 x1 (ix2 i j) : EReal) = ∑ k : Fin 2048, x0 (ix2 k i) * x1 (ix2 k j) := by
  refine (val_main_v6_apply (F := Ideal) x0 x1 _).trans ?_
  refine (val_main_v5_apply (F := Ideal) x0 x1 _).trans ((val_main_v4_apply x0 x1 _).trans (Finset.sum_congr rfl fun k _ => ?_))
  exact (mul_comm _ _).trans (congrArg₂ (· * ·) ((val_main_v1_apply (F := Ideal) x0 _).trans (congrArg x0 (idx_ext rfl rfl)))
    ((val_main_v3_apply (F := Ideal) x1 _).trans (congrArg x1 (idx_ext rfl rfl))))

theorem idx_0 : ∀ t : Fin grid0.N, win0_0.index t = ![0, (grid0.coords t 0).val] := by decide +kernel
theorem idx_1 : ∀ t : Fin grid0.N, win0_1.index t = ![0, (grid0.coords t 1).val] := by decide +kernel
theorem idx_2 : ∀ t : Fin grid0.N, win0_2.index t = ![(grid0.coords t 0).val, (grid0.coords t 1).val] := by decide +kernel
theorem covers : (cfg0.win 2).Covers := by decide +kernel

/-- The row of the result that row `i` of a tile is. -/
def row (t : Fin cfg0.N) (i : Fin 1024) : Fin 2048 :=
  ⟨(grid0.coords t 0).val * 1024 + i.val, by have h : (grid0.coords t 0).val < 2 := (grid0.coords t 0).isLt; omega⟩
/-- The column of the result that column `j` of a tile is. -/
def col (t : Fin cfg0.N) (j : Fin 2048) : Fin 2048 :=
  ⟨(grid0.coords t 1).val * 2048 + j.val, by have h : (grid0.coords t 1).val < 1 := (grid0.coords t 1).isLt; omega⟩

variable (m : (ℓ : Loc nD τ sig) → Buf (Elt Ideal) ℓ) (c : Dev nD)

theorem blk_0 (t : Fin cfg0.N) (k : Fin 2048) (i : Fin 1024) :
    iblk m c 0 t (ix2 k i) = m (c, Proc.devRef .tc main_arg0) (ix2 k (row t i)) := by
  show V m c main_arg0 _ = V m c main_arg0 _
  congr 1
  unfold row
  blk_ext [idx_0 t]

theorem blk_1 (t : Fin cfg0.N) (k : Fin 2048) (j : Fin 2048) :
    iblk m c 1 t (ix2 k j) = m (c, Proc.devRef .tc main_arg1) (ix2 k (col t j)) := by
  show V m c main_arg1 _ = V m c main_arg1 _
  congr 1
  unfold col
  blk_ext [idx_1 t]

theorem emb_out (t : Fin cfg0.N) (i : Fin 1024) (j : Fin 2048) :
    ((cfg0.win 2).blk t).view.emb (ix2 i j) = ix2 (row t i) (col t j) := by
  unfold row col
  blk_ext [idx_2 t]

/-- The kernel's array is the reference's. -/
theorem out_array : (dats m 0 c).arrAt 2 cfg0.N
    = val_main_v6 (F := Ideal) (m (c, Proc.devRef .tc main_arg0)) (m (c, Proc.devRef .tc main_arg1)) := by
  refine (dats m 0 c).arrAt_eq_of_covers 2 _ covers fun t _ y => ?_
  have h : (out0_2 (F := Ideal) (iblk m c 0 t) (iblk m c 1 t) y : EReal)
      = val_main_v6 (F := Ideal) (m (c, Proc.devRef .tc main_arg0)) (m (c, Proc.devRef .tc main_arg1)) (((cfg0.win 2).blk t).view.emb y) := by
    obtain ⟨i, j, rfl⟩ : ∃ (i : Fin 1024) (j : Fin 2048), y = ix2 i j := ⟨y 0, y 1, eq_ix2 y⟩
    rw [emb_out t i j]
    refine (tile_at _ _ i j).trans (Eq.trans ?_ (ref_at _ _ _ _).symm)
    exact Finset.sum_congr rfl fun k _ => congrArg₂ (· * ·) (blk_0 m c t k i) (blk_1 m c t k j)
  blk_simp
  rw [after0_2]
  generalize out0_2 (F := Ideal) (iblk m c 0 t) (iblk m c 1 t) = W at h ⊢
  exact h

/-- The reference is host code and declares no semaphore. -/
theorem reference_quiescent : Cert.quiescent_MixOutDwRefIdeal (hMixOutDwRefIdeal := Cert.MixOutDwRefIdeal.Gen.facts) := fun m ρ _ =>
  (θ_run Cert.MixOutDwRefIdeal.defs _ _).mono (fun r h => ⟨fun c => (h c).2, sem_eq_zero_of_no_sems (by decide) r.2⟩)
    (Cert.MixOutDwRefIdeal.Value.run (F := Ideal) m ρ)

/-- Over the extended reals the kernel ends with the reference's array. -/
theorem values : Cert.algebraic_MixOutDwIdeal_MixOutDwRefIdeal (hMixOutDwIdeal := Cert.MixOutDwIdeal.Gen.facts)
    (hMixOutDwRefIdeal := Cert.MixOutDwRefIdeal.Gen.facts) := by
  intro m g m' g' _ hagree
  refine ⟨fun c => (dats m 0 c).arrAt 2 cfg0.N, Cert.MixOutDwIdeal.Value.run_blocks m g, ?_⟩
  refine (θ_run Cert.MixOutDwRefIdeal.defs _ _).mono (fun r h c => ⟨(h c).1.trans ?_, (h c).2⟩) (Cert.MixOutDwRefIdeal.Value.run (F := Ideal) m' g')
  obtain ⟨h0, h1⟩ := hagree c
  refine (val_main_v6_eq _ _).trans ?_
  rw [h0, h1]
  exact (out_array m c).symm

end Cert.MixOutDwProof

end
-- ==== Proof.ProjAttnDx.lean ====
/-
  The attention branch's gradient through its projection: either tile is the product of the branch's gradient with half
  of the weight's rows, over all 2048 columns, and so is the reference.
-/
module

public import proofs.«01_k».proof.Defs
public import proofs.«01_k».proof.Proof.Products
public import proofs.«01_k».proof.Proof.Gen.ProjAttnDxIdeal.Value
public import proofs.«01_k».proof.Proof.Gen.ProjAttnDxRefIdeal.Run
public import proofs.«01_k».proof.Proof.Gen.ProjAttnDxRefIdeal.Read
public import Idealize.ShloMosaic.Lib.Pipeline.ValueKit.Geometry

@[expose] public section

noncomputable section

namespace Cert.ProjAttnDxProof

open Idealize.ShloMosaic Idealize.ShloMosaic.ValueIdx Idealize.SL.Sem
open Cert.ProjAttnDxIdeal Cert.ProjAttnDxIdeal.Gen
open Cert.ProjAttnDxRefIdeal.Read Cert.Products
open scoped BigOperators

/-- One tile: the product over the weight's columns. -/
theorem tile_at (x0 : FVec Ideal S2048x2048 .bf16) (x1 : FVec Ideal S1024x2048 .bf16) (i : Fin 2048) (j : Fin 1024) :
    (out0_2 (F := Ideal) x0 x1 (ix2 i j) : EReal) = ∑ k : Fin 2048, x0 (ix2 i k) * x1 (ix2 j k) := by
  unfold out0_2
  rw [View.canon_cons_unit_lit _ _ _ zero_off2, ld_whole, ld_whole]
  exact nt_at dot_S2048x2048_S1024x2048_S2048x1024_1_1_0_0_n_n rfl rfl x0 x1 i j (fun _ => rfl) (fun _ => rfl) (fun _ => rfl) (fun _ => rfl)

/-- The reference's entry: the same product of whole rows. -/
theorem ref_at (x0 x1 : (⟨S2048x2048, .bf16⟩ : BufTy).Contents (Elt Ideal)) (i j : Fin 2048) :
    (val_main_v4 (F := Ideal) x0 x1 (ix2 i j) : EReal) = ∑ k : Fin 2048, x1 (ix2 i k) * x0 (ix2 j k) := by
  refine (val_main_v4_apply x0 x1 _).trans (Finset.sum_congr rfl fun k _ => ?_)
  exact congrArg₂ (· * ·) ((val_main_v3_apply (F := Ideal) x1 _).trans (congrArg x1 (idx_ext rfl rfl)))
    ((val_main_v1_apply (F := Ideal) x0 _).trans (congrArg x0 (idx_ext rfl rfl)))

theorem idx_0 : ∀ t : Fin grid0.N, win0_0.index t = ![0, 0] := by decide +kernel
theorem idx_1 : ∀ t : Fin grid0.N, win0_1.index t = ![(grid0.coords t 1).val, 0] := by decide +kernel
theorem idx_2 : ∀ t : Fin grid0.N, win0_2.index t = ![0, (grid0.coords t 1).val] := by decide +kernel
theorem covers : (cfg0.win 2).Covers := by decide +kernel

/-- The column of the result that column `j` of a tile is. -/
def col (t : Fin cfg0.N) (j : Fin 1024) : Fin 2048 :=
  ⟨(grid0.coords t 1).val * 1024 + j.val, by have h : (grid0.coords t 1).val < 2 := (grid0.coords t 1).isLt; omega⟩

variable (m : (ℓ : Loc nD τ sig) → Buf (Elt Ideal) ℓ) (c : Dev nD)

theorem blk_0 (t : Fin cfg0.N) (i k : Fin 2048) :
    iblk m c 0 t (ix2 i k) = m (c, Proc.devRef .tc main_arg1) (ix2 i k) := by
  show V m c main_arg1 _ = V m c main_arg1 _
  congr 1
  blk_ext [idx_0 t]

theorem blk_1 (t : Fin cfg0.N) (j : Fin 1024) (k : Fin 2048) :
    iblk m c 1 t (ix2 j k) = m (c, Proc.devRef .tc main_arg0) (ix2 (col t j) k) := by
  show V m c main_arg0 _ = V m c main_arg0 _
  congr 1
  unfold col
  blk_ext [idx_1 t]

theorem emb_out (t : Fin cfg0.N) (i : Fin 2048) (j : Fin 1024) :
    ((cfg0.win 2).blk t).view.emb (ix2 i j) = ix2 i (col t j) := by
  unfold col
  blk_ext [idx_2 t]

/-- The kernel's array is the reference's. -/
theorem out_array : (dats m 0 c).arrAt 2 cfg0.N
    = val_main_v4 (F := Ideal) (m (c, Proc.devRef .tc main_arg0)) (m (c, Proc.devRef .tc main_arg1)) := by
  refine (dats m 0 c).arrAt_eq_of_covers 2 _ covers fun t _ y => ?_
  have h : (out0_2 (F := Ideal) (iblk m c 0 t) (iblk m c 1 t) y : EReal)
      = val_main_v4 (F := Ideal) (m (c, Proc.devRef .tc main_arg0)) (m (c, Proc.devRef .tc main_arg1)) (((cfg0.win 2).blk t).view.emb y) := by
    obtain ⟨i, j, rfl⟩ : ∃ (i : Fin 2048) (j : Fin 1024), y = ix2 i j := ⟨y 0, y 1, eq_ix2 y⟩
    rw [emb_out t i j]
    refine (tile_at _ _ i j).trans (Eq.trans ?_ (ref_at _ _ _ _).symm)
    exact Finset.sum_congr rfl fun k _ => congrArg₂ (· * ·) (blk_0 m c t i k) (blk_1 m c t j k)
  blk_simp
  rw [after0_2]
  generalize out0_2 (F := Ideal) (iblk m c 0 t) (iblk m c 1 t) = W at h ⊢
  exact h

/-- The reference is host code and declares no semaphore. -/
theorem reference_quiescent : Cert.quiescent_ProjAttnDxRefIdeal (hProjAttnDxRefIdeal := Cert.ProjAttnDxRefIdeal.Gen.facts) := fun m ρ _ =>
  (θ_run Cert.ProjAttnDxRefIdeal.defs _ _).mono (fun r h => ⟨fun c => (h c).2, sem_eq_zero_of_no_sems (by decide) r.2⟩)
    (Cert.ProjAttnDxRefIdeal.Value.run (F := Ideal) m ρ)

/-- Over the extended reals the kernel ends with the reference's array. -/
theorem values : Cert.algebraic_ProjAttnDxIdeal_ProjAttnDxRefIdeal (hProjAttnDxIdeal := Cert.ProjAttnDxIdeal.Gen.facts)
    (hProjAttnDxRefIdeal := Cert.ProjAttnDxRefIdeal.Gen.facts) := by
  intro m g m' g' _ hagree
  refine ⟨fun c => (dats m 0 c).arrAt 2 cfg0.N, Cert.ProjAttnDxIdeal.Value.run_blocks m g, ?_⟩
  refine (θ_run Cert.ProjAttnDxRefIdeal.defs _ _).mono (fun r h c => ⟨(h c).1.trans ?_, (h c).2⟩) (Cert.ProjAttnDxRefIdeal.Value.run (F := Ideal) m' g')
  obtain ⟨h0, h1⟩ := hagree c
  refine (val_main_v4_eq _ _).trans ?_
  rw [h0, h1]
  exact (out_array m c).symm

end Cert.ProjAttnDxProof

end
-- ==== Proof.Gates.lean ====
/-
  The logistic gate `1 / (1 + exp (-z))` over the extended reals, and the two columns of the projection it is taken of.
-/
module

public import proofs.«01_k».proof.Proof.Products

@[expose] public section

noncomputable section

namespace Cert.Gates

open Idealize.ShloMosaic Idealize.ShloMosaic.ValueIdx

/-- The gate as the kernels write it: the sign is taken by a subtraction from zero. -/
def gate (z : Ideal .f32) : Ideal .f32 :=
  FloatOps.divf (FloatOps.ofBits .f32 0x3F800000#32)
    (FloatOps.addf (FloatOps.ofBits .f32 0x3F800000#32) (FloatOps.exp (FloatOps.subf (FloatOps.ofBits .f32 0x00000000#32) z)))

/-- One less the gate. -/
def rest (z : Ideal .f32) : Ideal .f32 := FloatOps.subf (FloatOps.ofBits .f32 0x3F800000#32) (gate z)

/-- The host's gate, which negates, is the same. -/
theorem host_gate (z : Ideal .f32) :
    FloatOps.hostDivf (FloatOps.ofBits .f32 0x3F800000#32)
      (FloatOps.addf (FloatOps.ofBits .f32 0x3F800000#32) (FloatOps.hostUnary .exp (FloatOps.hostNegf z))) = gate z := by
  have hz : (FloatOps.subf (FloatOps.ofBits .f32 0x00000000#32) z : Ideal .f32) = FloatOps.hostNegf z := by
    have h0 : (FloatOps.ofBits .f32 0x00000000#32 : Ideal .f32) = (0 : EReal) := Ideal.ofBits_zero_f32
    rw [h0]
    exact (sub_eq_add_neg (0 : EReal) z).trans (zero_add _)
  unfold gate
  rw [hz]
  rfl

/-- The column of the projection that holds the attention branch's gate. -/
def colA (j : Fin 2048) : Fin 14336 := ⟨10240 + j.val, by omega⟩

/-- The column of the projection that holds the recurrent branch's gate. -/
def colL (j : Fin 2048) : Fin 14336 := ⟨12288 + j.val, by omega⟩

end Cert.Gates

end
-- ==== Proof.MixOutDx.lean ====
/-
  The mixer's output taken backwards: every tile forms the gradient of the gated sum, a product over all 2048 positions,
  and from it the gradients of the two branches and of their two gates. The reference does the same to whole arrays; the
  kernel multiplies by a gate and by one less the gate in turn, the reference by their product.
-/
module

public import proofs.«01_k».proof.Defs
public import proofs.«01_k».proof.Proof.Gates
public import proofs.«01_k».proof.Proof.Gen.MixOutDxIdeal.Value
public import proofs.«01_k».proof.Proof.Gen.MixOutDxRefIdeal.Run
public import proofs.«01_k».proof.Proof.Gen.MixOutDxRefIdeal.Read
public import Idealize.ShloMosaic.Lib.Pipeline.ValueKit.Geometry

@[expose] public section

noncomputable section

namespace Cert.MixOutDxProof

open Idealize.ShloMosaic Idealize.ShloMosaic.ValueIdx Idealize.SL.Sem
open Cert.MixOutDxIdeal Cert.MixOutDxIdeal.Gen
open Cert.MixOutDxRefIdeal.Read Cert.Products Cert.Gates
open scoped BigOperators

/-- One tile of the product. -/
theorem prod_at (x0 : FVec Ideal S1024x2048 .bf16) (x1 : FVec Ideal S512x2048 .bf16) (i : Fin 1024) (j : Fin 512) :
    k0_pay4 (F := Ideal) x0 x1 (ix2 i j) = ∑ k : Fin 2048, x0 (ix2 i k) * x1 (ix2 j k) :=
  nt_at dot_S1024x2048_S512x2048_S1024x512_1_1_0_0_n_n rfl rfl x0 x1 i j (fun _ => rfl) (fun _ => rfl) (fun _ => rfl) (fun _ => rfl)

theorem tile_6 (x0 : FVec Ideal S1024x2048 .bf16) (x1 : FVec Ideal S512x2048 .bf16) (x2 x3 : FVec Ideal S1024x512 .bf16) (x4 x5 : FVec Ideal S1024x512 .f32) (i : Fin 1024) (j : Fin 512) :
    (out0_6 (F := Ideal) x0 x1 x2 x3 x4 x5 (ix2 i j) : EReal) = (∑ k : Fin 2048, x0 (ix2 i k) * x1 (ix2 j k)) * gate (x4 (ix2 i j)) := by
  unfold out0_6
  rw [View.canon_cons_unit_lit _ _ _ zero_off2, ld_whole, ld_whole, ld_whole]
  exact congrArg (fun z : EReal => (z * gate (x4 (ix2 i j)) : EReal)) (prod_at x0 x1 i j)

theorem tile_7 (x0 : FVec Ideal S1024x2048 .bf16) (x1 : FVec Ideal S512x2048 .bf16) (x2 x3 : FVec Ideal S1024x512 .bf16) (x4 x5 : FVec Ideal S1024x512 .f32) (i : Fin 1024) (j : Fin 512) :
    (out0_7 (F := Ideal) x0 x1 x2 x3 x4 x5 (ix2 i j) : EReal) = (∑ k : Fin 2048, x0 (ix2 i k) * x1 (ix2 j k)) * gate (x5 (ix2 i j)) := by
  unfold out0_7
  rw [View.canon_cons_unit_lit _ _ _ zero_off2, ld_whole, ld_whole, ld_whole]
  exact congrArg (fun z : EReal => (z * gate (x5 (ix2 i j)) : EReal)) (prod_at x0 x1 i j)

theorem tile_8 (x0 : FVec Ideal S1024x2048 .bf16) (x1 : FVec Ideal S512x2048 .bf16) (x2 x3 : FVec Ideal S1024x512 .bf16) (x4 x5 : FVec Ideal S1024x512 .f32) (i : Fin 1024) (j : Fin 512) :
    (out0_8 (F := Ideal) x0 x1 x2 x3 x4 x5 (ix2 i j) : EReal) = (∑ k : Fin 2048, x0 (ix2 i k) * x1 (ix2 j k)) * x2 (ix2 i j) * gate (x4 (ix2 i j)) * rest (x4 (ix2 i j)) := by
  unfold out0_8
  rw [View.canon_cons_unit_lit _ _ _ zero_off2, ld_whole, ld_whole, ld_whole, ld_whole]
  exact congrArg (fun z : EReal => (z * x2 (ix2 i j) * gate (x4 (ix2 i j)) * rest (x4 (ix2 i j)) : EReal)) (prod_at x0 x1 i j)

theorem tile_9 (x0 : FVec Ideal S1024x2048 .bf16) (x1 : FVec Ideal S512x2048 .bf16) (x2 x3 : FVec Ideal S1024x512 .bf16) (x4 x5 : FVec Ideal S1024x512 .f32) (i : Fin 1024) (j : Fin 512) :
    (out0_9 (F := Ideal) x0 x1 x2 x3 x4 x5 (ix2 i j) : EReal) = (∑ k : Fin 2048, x0 (ix2 i k) * x1 (ix2 j k)) * x3 (ix2 i j) * gate (x5 (ix2 i j)) * rest (x5 (ix2 i j)) := by
  unfold out0_9
  rw [View.canon_cons_unit_lit _ _ _ zero_off2, ld_whole, ld_whole, ld_whole, ld_whole]
  exact congrArg (fun z : EReal => (z * x3 (ix2 i j) * gate (x5 (ix2 i j)) * rest (x5 (ix2 i j)) : EReal)) (prod_at x0 x1 i j)

/-- The reference's product. -/
theorem ref_33 (x3 x4 : (⟨S2048x2048, .bf16⟩ : BufTy).Contents (Elt Ideal)) (i j : Fin 2048) :
    (val_main_v33 (F := Ideal) x3 x4 (ix2 i j) : EReal) = ∑ k : Fin 2048, x4 (ix2 i k) * x3 (ix2 j k) := by
  refine (val_main_v33_apply x3 x4 _).trans (Finset.sum_congr rfl fun k _ => ?_)
  exact congrArg₂ (· * ·) ((val_main_v32_apply (F := Ideal) x4 _).trans (congrArg x4 (idx_ext rfl rfl)))
    ((val_main_v30_apply (F := Ideal) x3 _).trans (congrArg x3 (idx_ext rfl rfl)))

theorem ref_colA (x0 : (⟨S2048x14336, .f32⟩ : BufTy).Contents (Elt Ideal)) (i j : Fin 2048) :
    val_main_v14 (F := Ideal) x0 (ix2 i j) = gate (x0 (ix2 i (colA j))) := by
  have hs : val_main_v5 (F := Ideal) x0 (ix2 i j) = x0 (ix2 i (colA j)) :=
    (val_main_v5_apply (F := Ideal) x0 _).trans (congrArg x0 (idx_ext rfl rfl))
  have he : val_main_v10 (F := Ideal) x0 (ix2 i j)
      = FloatOps.hostUnary (F := Ideal) (φ := .f32) .exp (FloatOps.hostNegf (F := Ideal) (φ := .f32) (x0 (ix2 i (colA j)))) :=
    (val_main_v10_apply (F := Ideal) x0 _).trans
      (congrArg (FloatOps.hostUnary (F := Ideal) (φ := .f32) .exp) ((val_main_v9_apply (F := Ideal) x0 _).trans (congrArg (FloatOps.hostNegf (F := Ideal) (φ := .f32)) hs)))
  refine ((val_main_v14_apply (F := Ideal) x0 _).trans (congrArg₂ (FloatOps.hostDivf (F := Ideal) (φ := .f32))
    ((val_main_v13_apply (F := Ideal) _).trans (val_main_cst_0_apply (F := Ideal) _)) ?_)).trans (host_gate _)
  exact (val_main_v12_apply (F := Ideal) x0 _).trans (congrArg₂ (FloatOps.addf (F := Ideal) (φ := .f32))
    ((val_main_v11_apply (F := Ideal) _).trans (val_main_cst_apply (F := Ideal) _)) he)

theorem ref_colL (x0 : (⟨S2048x14336, .f32⟩ : BufTy).Contents (Elt Ideal)) (i j : Fin 2048) :
    val_main_v24 (F := Ideal) x0 (ix2 i j) = gate (x0 (ix2 i (colL j))) := by
  have hs : val_main_v6 (F := Ideal) x0 (ix2 i j) = x0 (ix2 i (colL j)) :=
    (val_main_v6_apply (F := Ideal) x0 _).trans (congrArg x0 (idx_ext rfl rfl))
  have he : val_main_v20 (F := Ideal) x0 (ix2 i j)
      = FloatOps.hostUnary (F := Ideal) (φ := .f32) .exp (FloatOps.hostNegf (F := Ideal) (φ := .f32) (x0 (ix2 i (colL j)))) :=
    (val_main_v20_apply (F := Ideal) x0 _).trans
      (congrArg (FloatOps.hostUnary (F := Ideal) (φ := .f32) .exp) ((val_main_v19_apply (F := Ideal) x0 _).trans (congrArg (FloatOps.hostNegf (F := Ideal) (φ := .f32)) hs)))
  refine ((val_main_v24_apply (F := Ideal) x0 _).trans (congrArg₂ (FloatOps.hostDivf (F := Ideal) (φ := .f32))
    ((val_main_v23_apply (F := Ideal) _).trans (val_main_cst_3_apply (F := Ideal) _)) ?_)).trans (host_gate _)
  exact (val_main_v22_apply (F := Ideal) x0 _).trans (congrArg₂ (FloatOps.addf (F := Ideal) (φ := .f32))
    ((val_main_v21_apply (F := Ideal) _).trans (val_main_cst_2_apply (F := Ideal) _)) he)

/-- The gate's derivative in the reference. -/
theorem slope_colA (x0 : (⟨S2048x14336, .f32⟩ : BufTy).Contents (Elt Ideal)) (i j : Fin 2048) :
    (val_main_v17 (F := Ideal) x0 (ix2 i j) : EReal) = gate (x0 (ix2 i (colA j))) * rest (x0 (ix2 i (colA j))) := by
  refine (val_main_v17_apply (F := Ideal) x0 _).trans (congrArg₂ (· * ·) (ref_colA x0 i j) ?_)
  exact (val_main_v16_apply (F := Ideal) x0 _).trans (congrArg₂ (FloatOps.subf (F := Ideal) (φ := .f32))
    ((val_main_v15_apply (F := Ideal) _).trans (val_main_cst_1_apply (F := Ideal) _)) (ref_colA x0 i j))

/-- The gate's derivative in the reference. -/
theorem slope_colL (x0 : (⟨S2048x14336, .f32⟩ : BufTy).Contents (Elt Ideal)) (i j : Fin 2048) :
    (val_main_v27 (F := Ideal) x0 (ix2 i j) : EReal) = gate (x0 (ix2 i (colL j))) * rest (x0 (ix2 i (colL j))) := by
  refine (val_main_v27_apply (F := Ideal) x0 _).trans (congrArg₂ (· * ·) (ref_colL x0 i j) ?_)
  exact (val_main_v26_apply (F := Ideal) x0 _).trans (congrArg₂ (FloatOps.subf (F := Ideal) (φ := .f32))
    ((val_main_v25_apply (F := Ideal) _).trans (val_main_cst_4_apply (F := Ideal) _)) (ref_colL x0 i j))

/-- The reference's gradient of the attention branch. -/
theorem ref_40 (x0 : (⟨S2048x14336, .f32⟩ : BufTy).Contents (Elt Ideal)) (x3 x4 : (⟨S2048x2048, .bf16⟩ : BufTy).Contents (Elt Ideal)) (i j : Fin 2048) :
    (val_main_v40 (F := Ideal) x0 x3 x4 (ix2 i j) : EReal) = (∑ k : Fin 2048, x4 (ix2 i k) * x3 (ix2 j k)) * gate (x0 (ix2 i (colA j))) := by
  refine (val_main_v40_apply (F := Ideal) x0 x3 x4 _).trans ?_
  refine (val_main_v37_apply (F := Ideal) x0 x3 x4 _).trans ?_
  exact (congrArg₂ (· * ·) (ref_colA x0 i j) (ref_33 x3 x4 i j)).trans (mul_comm (gate (x0 (ix2 i (colA j))) : EReal) _)

/-- The reference's gradient of the recurrent branch. -/
theorem ref_41 (x0 : (⟨S2048x14336, .f32⟩ : BufTy).Contents (Elt Ideal)) (x3 x4 : (⟨S2048x2048, .bf16⟩ : BufTy).Contents (Elt Ideal)) (i j : Fin 2048) :
    (val_main_v41 (F := Ideal) x0 x3 x4 (ix2 i j) : EReal) = (∑ k : Fin 2048, x4 (ix2 i k) * x3 (ix2 j k)) * gate (x0 (ix2 i (colL j))) := by
  refine (val_main_v41_apply (F := Ideal) x0 x3 x4 _).trans ?_
  refine (val_main_v34_apply (F := Ideal) x0 x3 x4 _).trans ?_
  exact (congrArg₂ (· * ·) (ref_colL x0 i j) (ref_33 x3 x4 i j)).trans (mul_comm (gate (x0 (ix2 i (colL j))) : EReal) _)

/-- The reference's gradient of the attention branch's gate. -/
theorem ref_42 (x0 : (⟨S2048x14336, .f32⟩ : BufTy).Contents (Elt Ideal)) (x1 x3 x4 : (⟨S2048x2048, .bf16⟩ : BufTy).Contents (Elt Ideal)) (i j : Fin 2048) :
    (val_main_v42 (F := Ideal) x0 x1 x3 x4 (ix2 i j) : EReal)
      = (∑ k : Fin 2048, x4 (ix2 i k) * x3 (ix2 j k)) * x1 (ix2 i j) * gate (x0 (ix2 i (colA j))) * rest (x0 (ix2 i (colA j))) := by
  refine (val_main_v42_apply (F := Ideal) x0 x1 x3 x4 _).trans ?_
  refine (val_main_v39_apply (F := Ideal) x0 x1 x3 x4 _).trans ?_
  refine (congrArg₂ (· * ·) ((val_main_v38_apply (F := Ideal) x1 x3 x4 _).trans
    (congrArg₂ (· * ·) (ref_33 x3 x4 i j) (val_main_v7_apply (F := Ideal) x1 _))) (slope_colA x0 i j)).trans ?_
  exact (mul_assoc _ (gate (x0 (ix2 i (colA j))) : EReal) _).symm

/-- The reference's gradient of the recurrent branch's gate. -/
theorem ref_43 (x0 : (⟨S2048x14336, .f32⟩ : BufTy).Contents (Elt Ideal)) (x2 x3 x4 : (⟨S2048x2048, .bf16⟩ : BufTy).Contents (Elt Ideal)) (i j : Fin 2048) :
    (val_main_v43 (F := Ideal) x0 x2 x3 x4 (ix2 i j) : EReal)
      = (∑ k : Fin 2048, x4 (ix2 i k) * x3 (ix2 j k)) * x2 (ix2 i j) * gate (x0 (ix2 i (colL j))) * rest (x0 (ix2 i (colL j))) := by
  refine (val_main_v43_apply (F := Ideal) x0 x2 x3 x4 _).trans ?_
  refine (val_main_v36_apply (F := Ideal) x0 x2 x3 x4 _).trans ?_
  refine (congrArg₂ (· * ·) ((val_main_v35_apply (F := Ideal) x2 x3 x4 _).trans
    (congrArg₂ (· * ·) (ref_33 x3 x4 i j) (val_main_v8_apply (F := Ideal) x2 _))) (slope_colL x0 i j)).trans ?_
  exact (mul_assoc _ (gate (x0 (ix2 i (colL j))) : EReal) _).symm

theorem idx_0 : ∀ t : Fin grid0.N, win0_0.index t = ![(grid0.coords t 0).val, 0] := by decide +kernel
theorem idx_1 : ∀ t : Fin grid0.N, win0_1.index t = ![(grid0.coords t 1).val, 0] := by decide +kernel
theorem idx_2 : ∀ t : Fin grid0.N, win0_2.index t = ![(grid0.coords t 0).val, (grid0.coords t 1).val] := by decide +kernel
theorem idx_3 : ∀ t : Fin grid0.N, win0_3.index t = ![(grid0.coords t 0).val, (grid0.coords t 1).val] := by decide +kernel
theorem idx_4 : ∀ t : Fin grid0.N, win0_4.index t = ![(grid0.coords t 0).val, 20 + (grid0.coords t 1).val] := by decide +kernel
theorem idx_5 : ∀ t : Fin grid0.N, win0_5.index t = ![(grid0.coords t 0).val, 24 + (grid0.coords t 1).val] := by decide +kernel
theorem idx_6 : ∀ t : Fin grid0.N, win0_6.index t = ![(grid0.coords t 0).val, (grid0.coords t 1).val] := by decide +kernel
theorem idx_7 : ∀ t : Fin grid0.N, win0_7.index t = ![(grid0.coords t 0).val, (grid0.coords t 1).val] := by decide +kernel
theorem idx_8 : ∀ t : Fin grid0.N, win0_8.index t = ![(grid0.coords t 0).val, (grid0.coords t 1).val] := by decide +kernel
theorem idx_9 : ∀ t : Fin grid0.N, win0_9.index t = ![(grid0.coords t 0).val, (grid0.coords t 1).val] := by decide +kernel
theorem covers_6 : (cfg0.win 6).Covers := by decide +kernel
theorem covers_7 : (cfg0.win 7).Covers := by decide +kernel
theorem covers_8 : (cfg0.win 8).Covers := by decide +kernel
theorem covers_9 : (cfg0.win 9).Covers := by decide +kernel

/-- The row of the result that row `i` of a tile is. -/
def row (t : Fin cfg0.N) (i : Fin 1024) : Fin 2048 :=
  ⟨(grid0.coords t 0).val * 1024 + i.val, by have h : (grid0.coords t 0).val < 2 := (grid0.coords t 0).isLt; omega⟩

/-- The column of the result that column `j` of a tile is. -/
def col (t : Fin cfg0.N) (j : Fin 512) : Fin 2048 :=
  ⟨(grid0.coords t 1).val * 512 + j.val, by have h : (grid0.coords t 1).val < 4 := (grid0.coords t 1).isLt; omega⟩

variable (m : (ℓ : Loc nD τ sig) → Buf (Elt Ideal) ℓ) (c : Dev nD)

theorem blk_0 (t : Fin cfg0.N) (i : Fin 1024) (k : Fin 2048) :
    iblk m c 0 t (ix2 i k) = m (c, Proc.devRef .tc main_arg4) (ix2 (row t i) k) := by
  show V m c main_arg4 _ = V m c main_arg4 _
  congr 1
  unfold row
  blk_ext [idx_0 t]

theorem blk_1 (t : Fin cfg0.N) (j : Fin 512) (k : Fin 2048) :
    iblk m c 1 t (ix2 j k) = m (c, Proc.devRef .tc main_arg3) (ix2 (col t j) k) := by
  show V m c main_arg3 _ = V m c main_arg3 _
  congr 1
  unfold col
  blk_ext [idx_1 t]

theorem blk_2 (t : Fin cfg0.N) (i : Fin 1024) (j : Fin 512) :
    iblk m c 2 t (ix2 i j) = m (c, Proc.devRef .tc main_arg1) (ix2 (row t i) (col t j)) := by
  show V m c main_arg1 _ = V m c main_arg1 _
  congr 1
  unfold row col
  blk_ext [idx_2 t]

theorem blk_3 (t : Fin cfg0.N) (i : Fin 1024) (j : Fin 512) :
    iblk m c 3 t (ix2 i j) = m (c, Proc.devRef .tc main_arg2) (ix2 (row t i) (col t j)) := by
  show V m c main_arg2 _ = V m c main_arg2 _
  congr 1
  unfold row col
  blk_ext [idx_3 t]

theorem blk_4 (t : Fin cfg0.N) (i : Fin 1024) (j : Fin 512) :
    iblk m c 4 t (ix2 i j) = m (c, Proc.devRef .tc main_arg0) (ix2 (row t i) (colA (col t j))) := by
  show V m c main_arg0 _ = V m c main_arg0 _
  congr 1
  unfold row colA col
  blk_ext [idx_4 t]
  show (20 + (grid0.coords t 1).val) * 512 + j.val = 10240 + ((grid0.coords t 1).val * 512 + j.val)
  omega

theorem blk_5 (t : Fin cfg0.N) (i : Fin 1024) (j : Fin 512) :
    iblk m c 5 t (ix2 i j) = m (c, Proc.devRef .tc main_arg0) (ix2 (row t i) (colL (col t j))) := by
  show V m c main_arg0 _ = V m c main_arg0 _
  congr 1
  unfold row colL col
  blk_ext [idx_5 t]
  show (24 + (grid0.coords t 1).val) * 512 + j.val = 12288 + ((grid0.coords t 1).val * 512 + j.val)
  omega

theorem emb_6 (t : Fin cfg0.N) (i : Fin 1024) (j : Fin 512) :
    ((cfg0.win 6).blk t).view.emb (ix2 i j) = ix2 (row t i) (col t j) := by
  unfold row col
  blk_ext [idx_6 t]

theorem emb_7 (t : Fin cfg0.N) (i : Fin 1024) (j : Fin 512) :
    ((cfg0.win 7).blk t).view.emb (ix2 i j) = ix2 (row t i) (col t j) := by
  unfold row col
  blk_ext [idx_7 t]

theorem emb_8 (t : Fin cfg0.N) (i : Fin 1024) (j : Fin 512) :
    ((cfg0.win 8).blk t).view.emb (ix2 i j) = ix2 (row t i) (col t j) := by
  unfold row col
  blk_ext [idx_8 t]

theorem emb_9 (t : Fin cfg0.N) (i : Fin 1024) (j : Fin 512) :
    ((cfg0.win 9).blk t).view.emb (ix2 i j) = ix2 (row t i) (col t j) := by
  unfold row col
  blk_ext [idx_9 t]

/-- The kernel's gradient of the attention branch is the reference's. -/
theorem out_array_6 : (dats m 0 c).arrAt 6 cfg0.N
    = val_main_v40 (F := Ideal) (m (c, Proc.devRef .tc main_arg0)) (m (c, Proc.devRef .tc main_arg3)) (m (c, Proc.devRef .tc main_arg4)) := by
  refine (dats m 0 c).arrAt_eq_of_covers 6 _ covers_6 fun t _ y => ?_
  have h : (out0_6 (F := Ideal) (iblk m c 0 t) (iblk m c 1 t) (iblk m c 2 t) (iblk m c 3 t) (iblk m c 4 t) (iblk m c 5 t) y : EReal)
      = val_main_v40 (F := Ideal) (m (c, Proc.devRef .tc main_arg0)) (m (c, Proc.devRef .tc main_arg3)) (m (c, Proc.devRef .tc main_arg4))
        (((cfg0.win 6).blk t).view.emb y) := by
    obtain ⟨i, j, rfl⟩ : ∃ (i : Fin 1024) (j : Fin 512), y = ix2 i j := ⟨y 0, y 1, eq_ix2 y⟩
    rw [emb_6 t i j]
    refine (tile_6 _ _ _ _ _ _ i j).trans (Eq.trans ?_ (ref_40 _ _ _ _ _).symm)
    exact congrArg₂ (· * ·) (sum_mul_congr (fun k => blk_0 m c t i k) (fun k => blk_1 m c t j k)) (congrArg gate (blk_4 m c t i j))
  blk_simp
  rw [after0_6]
  generalize out0_6 (F := Ideal) (iblk m c 0 t) (iblk m c 1 t) (iblk m c 2 t) (iblk m c 3 t) (iblk m c 4 t) (iblk m c 5 t) = W at h ⊢
  exact h

/-- The kernel's gradient of the recurrent branch is the reference's. -/
theorem out_array_7 : (dats m 0 c).arrAt 7 cfg0.N
    = val_main_v41 (F := Ideal) (m (c, Proc.devRef .tc main_arg0)) (m (c, Proc.devRef .tc main_arg3)) (m (c, Proc.devRef .tc main_arg4)) := by
  refine (dats m 0 c).arrAt_eq_of_covers 7 _ covers_7 fun t _ y => ?_
  have h : (out0_7 (F := Ideal) (iblk m c 0 t) (iblk m c 1 t) (iblk m c 2 t) (iblk m c 3 t) (iblk m c 4 t) (iblk m c 5 t) y : EReal)
      = val_main_v41 (F := Ideal) (m (c, Proc.devRef .tc main_arg0)) (m (c, Proc.devRef .tc main_arg3)) (m (c, Proc.devRef .tc main_arg4))
        (((cfg0.win 7).blk t).view.emb y) := by
    obtain ⟨i, j, rfl⟩ : ∃ (i : Fin 1024) (j : Fin 512), y = ix2 i j := ⟨y 0, y 1, eq_ix2 y⟩
    rw [emb_7 t i j]
    refine (tile_7 _ _ _ _ _ _ i j).trans (Eq.trans ?_ (ref_41 _ _ _ _ _).symm)
    exact congrArg₂ (· * ·) (sum_mul_congr (fun k => blk_0 m c t i k) (fun k => blk_1 m c t j k)) (congrArg gate (blk_5 m c t i j))
  blk_simp
  rw [after0_7]
  generalize out0_7 (F := Ideal) (iblk m c 0 t) (iblk m c 1 t) (iblk m c 2 t) (iblk m c 3 t) (iblk m c 4 t) (iblk m c 5 t) = W at h ⊢
  exact h

/-- The kernel's gradient of the attention branch's gate is the reference's. -/
theorem out_array_8 : (dats m 0 c).arrAt 8 cfg0.N
    = val_main_v42 (F := Ideal) (m (c, Proc.devRef .tc main_arg0)) (m (c, Proc.devRef .tc main_arg1)) (m (c, Proc.devRef .tc main_arg3)) (m (c, Proc.devRef .tc main_arg4)) := by
  refine (dats m 0 c).arrAt_eq_of_covers 8 _ covers_8 fun t _ y => ?_
  have h : (out0_8 (F := Ideal) (iblk m c 0 t) (iblk m c 1 t) (iblk m c 2 t) (iblk m c 3 t) (iblk m c 4 t) (iblk m c 5 t) y : EReal)
      = val_main_v42 (F := Ideal) (m (c, Proc.devRef .tc main_arg0)) (m (c, Proc.devRef .tc main_arg1)) (m (c, Proc.devRef .tc main_arg3)) (m (c, Proc.devRef .tc main_arg4))
        (((cfg0.win 8).blk t).view.emb y) := by
    obtain ⟨i, j, rfl⟩ : ∃ (i : Fin 1024) (j : Fin 512), y = ix2 i j := ⟨y 0, y 1, eq_ix2 y⟩
    rw [emb_8 t i j]
    refine (tile_8 _ _ _ _ _ _ i j).trans (Eq.trans ?_ (ref_42 _ _ _ _ _ _).symm)
    exact congrArg₂ (· * ·) (congrArg₂ (· * ·) (congrArg₂ (· * ·) (sum_mul_congr (fun k => blk_0 m c t i k) (fun k => blk_1 m c t j k)) (blk_2 m c t i j))
      (congrArg gate (blk_4 m c t i j))) (congrArg rest (blk_4 m c t i j))
  blk_simp
  rw [after0_8]
  generalize out0_8 (F := Ideal) (iblk m c 0 t) (iblk m c 1 t) (iblk m c 2 t) (iblk m c 3 t) (iblk m c 4 t) (iblk m c 5 t) = W at h ⊢
  exact h

/-- The kernel's gradient of the recurrent branch's gate is the reference's. -/
theorem out_array_9 : (dats m 0 c).arrAt 9 cfg0.N
    = val_main_v43 (F := Ideal) (m (c, Proc.devRef .tc main_arg0)) (m (c, Proc.devRef .tc main_arg2)) (m (c, Proc.devRef .tc main_arg3)) (m (c, Proc.devRef .tc main_arg4)) := by
  refine (dats m 0 c).arrAt_eq_of_covers 9 _ covers_9 fun t _ y => ?_
  have h : (out0_9 (F := Ideal) (iblk m c 0 t) (iblk m c 1 t) (iblk m c 2 t) (iblk m c 3 t) (iblk m c 4 t) (iblk m c 5 t) y : EReal)
      = val_main_v43 (F := Ideal) (m (c, Proc.devRef .tc main_arg0)) (m (c, Proc.devRef .tc main_arg2)) (m (c, Proc.devRef .tc main_arg3)) (m (c, Proc.devRef .tc main_arg4))
        (((cfg0.win 9).blk t).view.emb y) := by
    obtain ⟨i, j, rfl⟩ : ∃ (i : Fin 1024) (j : Fin 512), y = ix2 i j := ⟨y 0, y 1, eq_ix2 y⟩
    rw [emb_9 t i j]
    refine (tile_9 _ _ _ _ _ _ i j).trans (Eq.trans ?_ (ref_43 _ _ _ _ _ _).symm)
    exact congrArg₂ (· * ·) (congrArg₂ (· * ·) (congrArg₂ (· * ·) (sum_mul_congr (fun k => blk_0 m c t i k) (fun k => blk_1 m c t j k)) (blk_3 m c t i j))
      (congrArg gate (blk_5 m c t i j))) (congrArg rest (blk_5 m c t i j))
  blk_simp
  rw [after0_9]
  generalize out0_9 (F := Ideal) (iblk m c 0 t) (iblk m c 1 t) (iblk m c 2 t) (iblk m c 3 t) (iblk m c 4 t) (iblk m c 5 t) = W at h ⊢
  exact h

/-- The reference is host code and declares no semaphore. -/
theorem reference_quiescent : Cert.quiescent_MixOutDxRefIdeal (hMixOutDxRefIdeal := Cert.MixOutDxRefIdeal.Gen.facts) := fun m ρ _ =>
  (θ_run Cert.MixOutDxRefIdeal.defs _ _).mono (fun r h => ⟨fun c => (h c).2.2.2.2, sem_eq_zero_of_no_sems (by decide) r.2⟩)
    (Cert.MixOutDxRefIdeal.Value.run (F := Ideal) m ρ)

/-- Over the extended reals the kernel ends with the reference's arrays. -/
theorem values : Cert.algebraic_MixOutDxIdeal_MixOutDxRefIdeal (hMixOutDxIdeal := Cert.MixOutDxIdeal.Gen.facts)
    (hMixOutDxRefIdeal := Cert.MixOutDxRefIdeal.Gen.facts) := by
  intro m g m' g' _ hagree
  refine ⟨fun c => (dats m 0 c).arrAt 6 cfg0.N, fun c => (dats m 0 c).arrAt 7 cfg0.N, fun c => (dats m 0 c).arrAt 8 cfg0.N, fun c => (dats m 0 c).arrAt 9 cfg0.N, Cert.MixOutDxIdeal.Value.run_blocks m g, ?_⟩
  refine (θ_run Cert.MixOutDxRefIdeal.defs _ _).mono
    (fun r h c => ⟨(h c).1.trans ?_, (h c).2.1.trans ?_, (h c).2.2.1.trans ?_, (h c).2.2.2.1.trans ?_, (h c).2.2.2.2⟩) (Cert.MixOutDxRefIdeal.Value.run (F := Ideal) m' g')
  · obtain ⟨h0, h1, h2, h3, h4⟩ := hagree c
    refine (val_main_v40_eq _ _ _).trans ?_
    rw [h0, h3, h4]
    exact (out_array_6 m c).symm
  · obtain ⟨h0, h1, h2, h3, h4⟩ := hagree c
    refine (val_main_v41_eq _ _ _).trans ?_
    rw [h0, h3, h4]
    exact (out_array_7 m c).symm
  · obtain ⟨h0, h1, h2, h3, h4⟩ := hagree c
    refine (val_main_v42_eq _ _ _ _).trans ?_
    rw [h0, h1, h3, h4]
    exact (out_array_8 m c).symm
  · obtain ⟨h0, h1, h2, h3, h4⟩ := hagree c
    refine (val_main_v43_eq _ _ _ _).trans ?_
    rw [h0, h2, h3, h4]
    exact (out_array_9 m c).symm

end Cert.MixOutDxProof

end
-- ==== Proof.NormRow.lean ====
/-
  One row of the root-mean-square norm over the extended reals: its scale, and the two ways its gradient is written.
-/
module

public import proofs.«01_k».proof.Proof.Products
public import proofs.«01_k».proof.Proof.Chunks
public import Idealize.ShloMosaic.Lib.ValueLayout
public import Idealize.ShloMosaic.Lib.ValueLayoutCasts
public import Idealize.ShloMosaic.PureOps.IdealRules

@[expose] public section

noncomputable section

namespace Cert.NormRow

open Idealize.ShloMosaic Idealize.ShloMosaic.ValueIdx Cert.Products
open scoped BigOperators

/-- The number of entries of a row, as the programs write it. -/
abbrev width : EReal := FloatOps.ofBits (F := Ideal) .f32 0x45000000#32

/-- The small number under the root. -/
abbrev small : EReal := FloatOps.ofBits (F := Ideal) .f32 0x358637BD#32

/-- Minus one half. -/
abbrev minusHalf : EReal := FloatOps.ofBits (F := Ideal) .f32 0xBF000000#32

theorem width_eq : width = ((2048 : ℝ) : EReal) := by
  show Ideal.ofBits .f32 0x45000000#32 = _
  simp [Ideal.ofBits, Ideal.ieee, -EReal.coe_mul]
  norm_num

theorem small_pos : 0 < small := by
  show 0 < Ideal.ofBits .f32 0x358637BD#32
  simp [Ideal.ofBits, Ideal.ieee, -EReal.coe_mul]

theorem minusHalf_eq : minusHalf = ((-(1 / 2) : ℝ) : EReal) := by
  show Ideal.ofBits .f32 0xBF000000#32 = _
  simp [Ideal.ofBits, Ideal.ieee, -EReal.coe_mul]
  norm_num

/-- The mean square of a row and the small number. -/
def var (x : Fin 2048 → EReal) : EReal := Ideal.div (∑ k, x k * x k) width + small

/-- The scale of a row. -/
def scale (x : Fin 2048 → EReal) : EReal := Ideal.rsqrt (var x)

theorem div_width (a : EReal) : Ideal.div a width = a * (((2048 : ℝ)⁻¹ : ℝ) : EReal) := by
  rw [width_eq, Ideal.div, if_neg (by exact_mod_cast (by norm_num : (2048 : ℝ) ≠ 0)), EReal.coe_inv]

theorem sq_nonneg (a : EReal) : 0 ≤ a * a := by
  induction a with
  | bot => simp
  | top => simp
  | coe r => exact_mod_cast mul_self_nonneg r

theorem var_pos (x : Fin 2048 → EReal) : 0 < var x := by
  unfold var
  rw [div_width]
  refine lt_of_lt_of_le small_pos (le_add_of_nonneg_left (mul_nonneg (Finset.sum_nonneg fun k _ => sq_nonneg _) ?_))
  exact_mod_cast (by norm_num : (0 : ℝ) ≤ (2048 : ℝ)⁻¹)

/-- The scale is a nonnegative real number, and the scale over the mean square is its cube. -/
theorem scale_real (x : Fin 2048 → EReal) :
    ∃ r : ℝ, 0 ≤ r ∧ scale x = (r : EReal) ∧ Ideal.div (scale x) (var x) = (r : EReal) * r * r := by
  unfold scale
  have hv := var_pos x
  generalize var x = v at hv
  induction v with
  | bot => exact absurd hv (by simp)
  | top => exact ⟨0, le_refl _, Ideal.rsqrt_top, by simp [Ideal.rsqrt_top, Ideal.div]⟩
  | coe a =>
    have ha : 0 < a := by exact_mod_cast hv
    have hs : Ideal.rsqrt (a : EReal) = (((Real.sqrt a)⁻¹ : ℝ) : EReal) := by
      rw [Ideal.rsqrt_coe, if_neg (not_lt.mpr ha.le), if_neg ha.ne']
    refine ⟨(Real.sqrt a)⁻¹, inv_nonneg.mpr (Real.sqrt_nonneg a), hs, ?_⟩
    rw [hs, Ideal.div, if_neg (by exact_mod_cast ha.ne'), ← EReal.coe_inv]
    norm_cast
    have h : a⁻¹ = (Real.sqrt a)⁻¹ * (Real.sqrt a)⁻¹ := by
      rw [← mul_inv, Real.mul_self_sqrt ha.le]
    rw [h, mul_assoc]

/-- A nonnegative real factor moves into a sum. -/
theorem mul_sum {n : ℕ} {r : ℝ} (hr : 0 ≤ r) (f : Fin n → EReal) : (r : EReal) * ∑ k, f k = ∑ k, (r : EReal) * f k := by
  classical
  induction (Finset.univ : Finset (Fin n)) using Finset.induction_on with
  | empty => simp
  | insert a s ha ih =>
    rw [Finset.sum_insert ha, Finset.sum_insert ha,
      EReal.left_distrib_of_nonneg_of_ne_top (by exact_mod_cast hr) (EReal.coe_ne_top r), ih]

/-- Twice minus one half of a number is its negative. -/
theorem halves (y : EReal) : y * minusHalf + y * minusHalf = -y := by
  rw [minusHalf_eq]
  induction y with
  | bot => rw [EReal.bot_mul_coe_of_neg (by norm_num)]; rfl
  | top => rw [EReal.top_mul_coe_of_neg (by norm_num)]; rfl
  | coe a => norm_cast; ring

/-- The two ways of writing the gradient of one entry: one scales what the mean of the scaled products leaves; the other
sums the gradient through the entry and the two equal halves of the gradient through the scale. -/
theorem grad_eq (x z : Fin 2048 → EReal) (j : Fin 2048) :
    scale x * (z j - x j * scale x * Ideal.div (∑ k, z k * (x k * scale x)) width)
      = z j * scale x + x j * Ideal.div ((∑ k, x k * z k) * (minusHalf * Ideal.div (scale x) (var x))) width
        + Ideal.div ((∑ k, x k * z k) * (minusHalf * Ideal.div (scale x) (var x))) width * x j := by
  obtain ⟨r, hr, hi, hd⟩ := scale_real x
  have hs : (∑ k, z k * (x k * scale x)) = (r : EReal) * ∑ k, x k * z k := by
    rw [mul_sum hr, hi]
    exact Finset.sum_congr rfl fun k _ => by ac_rfl
  rw [hs, hd, hi, div_width, div_width]
  generalize (∑ k, x k * z k) = S
  generalize (((2048 : ℝ)⁻¹ : ℝ) : EReal) = d
  have h1 : x j * (S * (minusHalf * ((r : EReal) * r * r)) * d) = x j * S * (r * r * r) * d * minusHalf := by ac_rfl
  have h2 : S * (minusHalf * ((r : EReal) * r * r)) * d * x j = x j * S * (r * r * r) * d * minusHalf := by ac_rfl
  rw [h1, h2, add_assoc, halves, sub_eq_add_neg,
    EReal.left_distrib_of_nonneg_of_ne_top (by exact_mod_cast hr) (EReal.coe_ne_top r), mul_comm (r : EReal) (z j)]
  refine congrArg (z j * (r : EReal) + ·) ?_
  rw [mul_comm (r : EReal) (-_), EReal.neg_mul]
  refine congrArg Neg.neg ?_
  ac_rfl

/-- The gradient of one entry of a row `x` when `z` is the gradient of its scaled entries. -/
def grad (x z : Fin 2048 → EReal) (j : Fin 2048) : EReal :=
  z j * scale x + x j * Ideal.div ((∑ k, x k * z k) * (minusHalf * Ideal.div (scale x) (var x))) width
    + Ideal.div ((∑ k, x k * z k) * (minusHalf * Ideal.div (scale x) (var x))) width * x j

section Vectors
variable {a b : ℕ} (x : FVec Ideal (⟨2, ![a, b]⟩ : Shape) .f32)

/-- The row sums of a matrix, as a column. -/
theorem rowsum_at (h : (⟨2, ![a, b]⟩ : Shape).Reduces [1] (⟨1, ![a]⟩ : Shape)) (hφ : FKind.Formats .f32)
    (hacc : (0x00000000#32 : BitVec _) = FKind.add.neutral .f32 hφ) (hc : (⟨1, ![a]⟩ : Shape).ShapeCasts (⟨2, ![a, 1]⟩ : Shape))
    (i : Fin a) (u : Fin 1) :
    (shapeCast (⟨2, ![a, 1]⟩ : Shape) (multiReduction .add [1] (⟨1, ![a]⟩ : Shape) x 0x00000000#32 h hφ hacc) hc (ix2 i u) : EReal)
      = ∑ k : Fin b, (x (ix2 i k) : EReal) := by
  refine (shapeCast_a_a1_apply _ _ _ _).trans ((Ideal.multiReduction_add_single _ _ _ _ _ _).trans ?_)
  exact Finset.sum_congr rfl fun k _ => congrArg x (idx_ext rfl rfl)

/-- The column sums of a matrix, as a row. -/
theorem colsum_at (h : (⟨2, ![a, b]⟩ : Shape).Reduces [0] (⟨1, ![b]⟩ : Shape)) (hφ : FKind.Formats .f32)
    (hacc : (0x00000000#32 : BitVec _) = FKind.add.neutral .f32 hφ) (hc : (⟨1, ![b]⟩ : Shape).ShapeCasts (⟨2, ![1, b]⟩ : Shape))
    (u : Fin 1) (j : Fin b) :
    (shapeCast (⟨2, ![1, b]⟩ : Shape) (multiReduction .add [0] (⟨1, ![b]⟩ : Shape) x 0x00000000#32 h hφ hacc) hc (ix2 u j) : EReal)
      = ∑ k : Fin a, (x (ix2 k j) : EReal) := by
  refine (shapeCast_a_1a_apply _ _ _ _).trans ((Ideal.multiReduction_add_single _ _ _ _ _ _).trans ?_)
  exact Finset.sum_congr rfl fun k _ => congrArg x (idx_ext rfl rfl)

/-- A column repeated along the rows. -/
theorem column_at (y : FVec Ideal (⟨2, ![a, 1]⟩ : Shape) .f32) (h : (⟨2, ![a, 1]⟩ : Shape).Broadcasts (⟨2, ![a, b]⟩ : Shape))
    (ha : a ≠ 1) (i : Fin a) (j : Fin b) : (broadcastTo (⟨2, ![a, b]⟩ : Shape) y h (ix2 i j) : EReal) = y (ix2 i 0) := by
  refine broadcastTo_apply y _ _ _ fun ax => ?_
  match ax with
  | ⟨0, _⟩ => exact (if_neg ha).symm
  | ⟨1, _⟩ => rfl

/-- A row repeated down the columns. -/
theorem row_at (y : FVec Ideal (⟨2, ![1, b]⟩ : Shape) .f32) (h : (⟨2, ![1, b]⟩ : Shape).Broadcasts (⟨2, ![a, b]⟩ : Shape))
    (hb : b ≠ 1) (i : Fin a) (j : Fin b) : (broadcastTo (⟨2, ![a, b]⟩ : Shape) y h (ix2 i j) : EReal) = y (ix2 0 j) := by
  refine broadcastTo_apply y _ _ _ fun ax => ?_
  match ax with
  | ⟨0, _⟩ => rfl
  | ⟨1, _⟩ => exact (if_neg hb).symm

/-- The scale of a row, as the kernels compute it for all the rows of a block. -/
theorem scale_at {a : ℕ} (x : FVec Ideal (⟨2, ![a, 2048]⟩ : Shape) .f32) (h : (⟨2, ![a, 2048]⟩ : Shape).Reduces [1] (⟨1, ![a]⟩ : Shape))
    (hφ : FKind.Formats .f32) (hacc : (0x00000000#32 : BitVec _) = FKind.add.neutral .f32 hφ)
    (hc : (⟨1, ![a]⟩ : Shape).ShapeCasts (⟨2, ![a, 1]⟩ : Shape)) (i : Fin a) (u : Fin 1) :
    (rsqrt (addf (divf (shapeCast (⟨2, ![a, 1]⟩ : Shape) (multiReduction .add [1] (⟨1, ![a]⟩ : Shape) (mulf x x) 0x00000000#32 h hφ hacc) hc)
        (broadcast (⟨2, ![a, 1]⟩ : Shape) (Scalar.ofBits (F := Ideal) .f32 0x45000000#32)))
        (broadcast (⟨2, ![a, 1]⟩ : Shape) (Scalar.ofBits (F := Ideal) .f32 0x358637BD#32))) (ix2 i u) : EReal)
      = scale fun k => x (ix2 i k) := by
  unfold scale var
  exact congrArg (fun s => Ideal.rsqrt (Ideal.div s width + small)) (rowsum_at (mulf x x) h hφ hacc hc i u)

/-- The gradient of an entry, as the kernels compute it for all the rows of a block. -/
theorem grad_at {a : ℕ} (ha : a ≠ 1) (x z : FVec Ideal (⟨2, ![a, 2048]⟩ : Shape) .f32) (s : FVec Ideal (⟨2, ![a, 1]⟩ : Shape) .f32)
    (hs : ∀ i u, (s (ix2 i u) : EReal) = scale fun k => x (ix2 i k)) (hb : (⟨2, ![a, 1]⟩ : Shape).Broadcasts (⟨2, ![a, 2048]⟩ : Shape))
    (h : (⟨2, ![a, 2048]⟩ : Shape).Reduces [1] (⟨1, ![a]⟩ : Shape)) (hφ : FKind.Formats .f32)
    (hacc : (0x00000000#32 : BitVec _) = FKind.add.neutral .f32 hφ)
    (hc : (⟨1, ![a]⟩ : Shape).ShapeCasts (⟨2, ![a, 1]⟩ : Shape)) (i : Fin a) (j : Fin 2048) :
    (mulf (broadcastTo (⟨2, ![a, 2048]⟩ : Shape) s hb) (subf z (mulf (mulf x (broadcastTo (⟨2, ![a, 2048]⟩ : Shape) s hb))
        (broadcastTo (⟨2, ![a, 2048]⟩ : Shape)
          (divf (shapeCast (⟨2, ![a, 1]⟩ : Shape)
              (multiReduction .add [1] (⟨1, ![a]⟩ : Shape) (mulf z (mulf x (broadcastTo (⟨2, ![a, 2048]⟩ : Shape) s hb))) 0x00000000#32 h hφ hacc) hc)
            (broadcast (⟨2, ![a, 1]⟩ : Shape) (Scalar.ofBits (F := Ideal) .f32 0x45000000#32))) hb))) (ix2 i j) : EReal)
      = grad (fun k => x (ix2 i k)) (fun k => z (ix2 i k)) j := by
  have hr : ∀ k, (broadcastTo (⟨2, ![a, 2048]⟩ : Shape) s hb (ix2 i k) : EReal) = scale fun k => x (ix2 i k) :=
    fun k => (column_at s hb ha i k).trans (hs i 0)
  refine Eq.trans ?_ (grad_eq (fun k => x (ix2 i k)) (fun k => z (ix2 i k)) j)
  refine congrArg₂ (· * ·) (hr j) (congrArg (fun w : EReal => (z (ix2 i j) : EReal) - w) (congrArg₂ (· * ·) (congrArg ((x (ix2 i j) : EReal) * ·) (hr j)) ?_))
  refine (column_at _ hb ha i j).trans (congrArg (fun w => Ideal.div w width) ((rowsum_at _ h hφ hacc hc i 0).trans ?_))
  exact sum_mul_congr (fun _ => rfl) fun k => congrArg ((x (ix2 i k) : EReal) * ·) (hr k)

end Vectors

end Cert.NormRow

end
-- ==== Proof.NormBwd.lean ====
/-
  The backward of a norm: the gradient of its input with the residual's gradient added, in both formats, and the gradient
  of its weight. The kernel takes 256 rows at a time; a row's gradient needs that row alone, and the weight's gradient is
  kept in its result's block from the first point to the last.
-/
module

public import proofs.«01_k».proof.Defs
public import proofs.«01_k».proof.Proof.NormRow
public import proofs.«01_k».proof.Proof.Gen.NormBwdIdeal.Value
public import proofs.«01_k».proof.Proof.Gen.NormBwdRefIdeal.Run
public import proofs.«01_k».proof.Proof.Gen.NormBwdRefIdeal.Read
public import Idealize.ShloMosaic.Lib.Pipeline.ValueKit.Geometry

@[expose] public section

noncomputable section

namespace Cert.NormBwdProof

open Idealize.ShloMosaic Idealize.ShloMosaic.ValueIdx Idealize.SL.Sem
open Cert.NormBwdIdeal Cert.NormBwdIdeal.Gen
open Cert.NormBwdRefIdeal.Read Cert.Products Cert.NormRow Cert.Chunks
open scoped BigOperators

theorem hz : (![0, 0] : Fin 2 → ℕ) = fun _ => 0 := funext zero_off2

section Points
variable (c : Dev nD) (i : grid0.Coords) {a1 a3 a4 a5 : Memref sig .tc .vmem S256x2048 .f32} {h1 : a1.IsWhole}
  {a2 a7 : Memref sig .tc .vmem S1x2048 .f32} {h2 : a2.IsWhole} {h3 : a3.IsWhole} {h4 : a4.IsWhole} {h5 : a5.IsWhole}
  {a6 : Memref sig .tc .vmem S256x2048 .bf16} {h6 : a6.IsWhole} {h7 : a7.IsWhole}
  (x : Vec Ideal S256x2048 .f32) (g : Vec Ideal S1x2048 .f32) (dy res : Vec Ideal S256x2048 .f32) (acc : Vec Ideal S1x2048 .f32)

/-- The first point's gradient. -/
theorem first_4 (hc0 : cond0_0 i) : out0_A_4 c i a1 h1 a2 h2 a3 h3 a4 h4 a5 h5 a6 h6 a7 h7 hc0 x g dy res = k0_pay5 dy x g res := by
  unfold out0_A_4
  rw [View.read_writes_eq_canon _ _ _ (cover0_A_4 c i a1 h1 a2 h2 a3 h3 a4 h4 a5 h5 a6 h6 a7 h7 hc0 x g dy res)]
  unfold kernelRun0_A
  dsimp only
  rw [View.canon_unit_zero hz]
  simp only [View.readAt_eq_ld, h1.read_unread, h2.read_unread, h3.read_unread, h4.read_unread, h7.read_unread,
    View.ld_unit_zero (S := S256x2048) hz, View.ld_unit_zero (S := S1x2048) hz]

/-- The first point's rounded gradient. -/
theorem first_5 (hc0 : cond0_0 i) : out0_A_5 c i a1 h1 a2 h2 a3 h3 a4 h4 a5 h5 a6 h6 a7 h7 hc0 x g dy res = k0_pay6 dy x g res := by
  unfold out0_A_5
  rw [View.read_writes_eq_canon _ _ _ (cover0_A_5 c i a1 h1 a2 h2 a3 h3 a4 h4 a5 h5 a6 h6 a7 h7 hc0 x g dy res)]
  unfold kernelRun0_A
  dsimp only
  rw [View.canon_unit_zero hz]
  simp only [View.readAt_eq_ld, h1.read_unread, h2.read_unread, h3.read_unread, h4.read_unread, h7.read_unread,
    View.ld_unit_zero (S := S256x2048) hz, View.ld_unit_zero (S := S1x2048) hz]

/-- The first point puts its column sums over zeros. -/
theorem first_6 (hc0 : cond0_0 i) : out0_A_6 c i a1 h1 a2 h2 a3 h3 a4 h4 a5 h5 a6 h6 a7 h7 hc0 x g dy res = k0_pay1 (k0_pay4 dy x) (k0_pay7 (F := Ideal)) := by
  unfold out0_A_6
  rw [View.read_writes_eq_canon _ _ _ (cover0_A_6 c i a1 h1 a2 h2 a3 h3 a4 h4 a5 h5 a6 h6 a7 h7 hc0 x g dy res)]
  unfold kernelRun0_A
  dsimp only
  rw [View.canon_cons_unit_lit _ _ _ zero_off2]
  unfold kernelRun0_A.sl.r kernelRun0_A.sl.v36 kernelRun0_A.sl.H6_1
  simp only [View.readAt_eq_ld, h1.read_unread, h2.read_unread, h3.read_unread, h4.read_unread, h7.read_unread,
    View.ld_unit_zero (S := S256x2048) hz, View.ld_unit_zero (S := S1x2048) hz]
  exact congrArg (k0_pay1 (k0_pay4 dy x)) (View.readCov_cons_toLoadRect _ _ _ _)

/-- A later point's gradient. -/
theorem later_4 (hc0 : ¬cond0_0 i) : out0_B_4 c i a1 h1 a2 h2 a3 h3 a4 h4 a5 h5 a6 h6 a7 h7 hc0 x g dy res acc = k0_pay5 dy x g res := by
  unfold out0_B_4
  rw [View.read_writes_eq_canon _ _ _ (cover0_B_4 c i a1 h1 a2 h2 a3 h3 a4 h4 a5 h5 a6 h6 a7 h7 hc0 x g dy res acc)]
  unfold kernelRun0_B
  dsimp only
  rw [View.canon_unit_zero hz]
  simp only [View.readAt_eq_ld, h1.read_unread, h2.read_unread, h3.read_unread, h4.read_unread, h7.read_unread,
    View.ld_unit_zero (S := S256x2048) hz, View.ld_unit_zero (S := S1x2048) hz]

/-- A later point's rounded gradient. -/
theorem later_5 (hc0 : ¬cond0_0 i) : out0_B_5 c i a1 h1 a2 h2 a3 h3 a4 h4 a5 h5 a6 h6 a7 h7 hc0 x g dy res acc = k0_pay6 dy x g res := by
  unfold out0_B_5
  rw [View.read_writes_eq_canon _ _ _ (cover0_B_5 c i a1 h1 a2 h2 a3 h3 a4 h4 a5 h5 a6 h6 a7 h7 hc0 x g dy res acc)]
  unfold kernelRun0_B
  dsimp only
  rw [View.canon_unit_zero hz]
  simp only [View.readAt_eq_ld, h1.read_unread, h2.read_unread, h3.read_unread, h4.read_unread, h7.read_unread,
    View.ld_unit_zero (S := S256x2048) hz, View.ld_unit_zero (S := S1x2048) hz]

/-- A later point adds its column sums to what the point before left. -/
theorem later_6 (hc0 : ¬cond0_0 i) : out0_B_6 c i a1 h1 a2 h2 a3 h3 a4 h4 a5 h5 a6 h6 a7 h7 hc0 x g dy res acc = k0_pay1 (k0_pay4 dy x) acc := by
  unfold out0_B_6
  rw [View.read_writes_eq_canon _ _ _ (cover0_B_6 c i a1 h1 a2 h2 a3 h3 a4 h4 a5 h5 a6 h6 a7 h7 hc0 x g dy res acc)]
  unfold kernelRun0_B
  dsimp only
  rw [View.canon_unit_zero hz]
  unfold kernelRun0_B.sl.r
  simp only [View.readAt_eq_ld, h1.read_unread, h2.read_unread, h3.read_unread, h4.read_unread, h7.read_unread,
    View.ld_unit_zero (S := S256x2048) hz, View.ld_unit_zero (S := S1x2048) hz]

end Points

/-- The scales of a block's rows. -/
theorem scales_at (x : FVec Ideal S256x2048 .f32) (i : Fin 256) (u : Fin 1) :
    (k0_pay2 (F := Ideal) x (ix2 i u) : EReal) = scale fun k => x (ix2 i k) := scale_at x _ _ _ _ i u

/-- A block's gradient. -/
theorem grad_block (dy x : FVec Ideal S256x2048 .f32) (g : FVec Ideal S1x2048 .f32) (res : FVec Ideal S256x2048 .f32) (i : Fin 256) (j : Fin 2048) :
    (k0_pay5 (F := Ideal) dy x g res (ix2 i j) : EReal)
      = grad (fun k => x (ix2 i k)) (fun k => (dy (ix2 i k) : EReal) * (g (ix2 0 k) : EReal)) j + (res (ix2 i j) : EReal) := by
  unfold k0_pay5 k0_pay3
  refine add_congr ((grad_at (by decide) x (mulf dy (broadcastTo S256x2048 g broadcasts_S1x2048_S256x2048)) (k0_pay2 x) (scales_at x) _ _ _ _ _ i j).trans ?_) rfl
  exact congrArg (fun z => grad (fun k => x (ix2 i k)) z j) (funext fun k => congrArg ((dy (ix2 i k) : EReal) * ·) (row_at g _ (by decide) i k))

/-- A block's part of the weight's gradient. -/
theorem sums_block (dy x : FVec Ideal S256x2048 .f32) (u : Fin 1) (j : Fin 2048) :
    (k0_pay4 (F := Ideal) dy x (ix2 u j) : EReal) = ∑ i : Fin 256, (dy (ix2 i j) : EReal) * ((x (ix2 i j) : EReal) * scale fun k => x (ix2 i k)) := by
  unfold k0_pay4 k0_pay3
  refine (colsum_at _ _ _ _ _ u j).trans (sum_mul_congr (fun _ => rfl) fun i => ?_)
  exact congrArg ((x (ix2 i j) : EReal) * ·) ((column_at _ _ (by decide) i j).trans (scales_at x i 0))

section Reference
variable (x : (⟨S2048x2048, .f32⟩ : BufTy).Contents (Elt Ideal)) (g : (⟨S1x2048, .f32⟩ : BufTy).Contents (Elt Ideal))
  (dy res : (⟨S2048x2048, .f32⟩ : BufTy).Contents (Elt Ideal))

/-- The reference's mean square of a row. -/
theorem ref_var (i : Fin 2048) (u : Fin 1) : (val_main_v7 (F := Ideal) x (ix2 i u) : EReal) = var fun k => x (ix2 i k) := by
  have hs : (val_main_v3 (F := Ideal) x (ix2 i u) : EReal) = ∑ k : Fin 2048, (x (ix2 i k) : EReal) * (x (ix2 i k) : EReal) := by
    refine (val_main_v3_apply (F := Ideal) x _).trans ((val_main_v2_apply x _).trans ?_)
    refine (add_congr Ideal.ofBits_zero_f32 (sum_mul_congr (fun k => ?_) fun k => ?_)).trans (zero_add _)
    · exact congrArg x (idx_ext rfl rfl)
    · exact congrArg x (idx_ext rfl rfl)
  unfold var
  exact congrArg (fun s => Ideal.div s width + small) hs

/-- The reference's scale of a row. -/
theorem ref_scale (i : Fin 2048) (u : Fin 1) : (val_main_v8 (F := Ideal) x (ix2 i u) : EReal) = scale fun k => x (ix2 i k) :=
  congrArg Ideal.rsqrt (ref_var x i u)

/-- The reference's gradient of the scaled entries. -/
theorem ref_z (i j : Fin 2048) : (val_main_v21 (F := Ideal) g dy (ix2 i j) : EReal) = (dy (ix2 i j) : EReal) * (g (ix2 0 j) : EReal) := by
  refine (val_main_v21_apply (F := Ideal) g dy _).trans (congrArg ((dy (ix2 i j) : EReal) * ·) ((val_main_v20_apply (F := Ideal) g _).trans ?_))
  refine (val_main_v14_apply (F := Ideal) g _).trans ((val_main_v0_apply (F := Ideal) g _).trans (congrArg g (idx_ext rfl ?_)))
  simp [idx_main_v0, idx_main_v14, idx_main_v20]

/-- The reference's gradient through a row's scale, repeated along the row. -/
theorem ref_w (i j : Fin 2048) : (val_main_v32 (F := Ideal) x g dy (ix2 i j) : EReal)
    = Ideal.div ((∑ k : Fin 2048, (x (ix2 i k) : EReal) * ((dy (ix2 i k) : EReal) * (g (ix2 0 k) : EReal)))
        * (minusHalf * Ideal.div (scale fun k => x (ix2 i k)) (var fun k => x (ix2 i k)))) width := by
  refine (val_main_v32_apply (F := Ideal) x g dy _).trans ((val_main_v31_apply x g dy _).trans ?_)
  refine (add_congr Ideal.ofBits_zero_f32 (Fin.sum_univ_one _)).trans ((zero_add _).trans ?_)
  refine (val_main_v30_apply (F := Ideal) x g dy _).trans (congrArg (fun s => Ideal.div s width) ?_)
  refine (val_main_v28_apply (F := Ideal) x g dy _).trans (congrArg₂ (· * ·) ?_ ?_)
  · refine (val_main_v25_apply (F := Ideal) x g dy _).trans ((val_main_v24_apply x g dy _).trans ?_)
    refine (add_congr Ideal.ofBits_zero_f32 (sum_mul_congr (fun k => ?_) fun k => ?_)).trans (zero_add _)
    · exact congrArg x (idx_ext (by simp [idx_main_v24, idx_main_v25, idx_main_v31, idx_main_v32]) rfl)
    · refine Eq.trans ?_ (ref_z g dy i k)
      exact congrArg (val_main_v21 (F := Ideal) g dy) (idx_ext (by simp [idx_main_v24, idx_main_v25, idx_main_v31, idx_main_v32]) rfl)
  · refine (val_main_v11_apply (F := Ideal) x _).trans (congrArg (minusHalf * ·) ((val_main_v9_apply (F := Ideal) x _).trans ?_))
    refine congrArg₂ Ideal.div (Eq.trans ?_ (ref_scale x i 0)) (Eq.trans ?_ (ref_var x i 0))
    · exact congrArg (val_main_v8 (F := Ideal) x) (idx_ext rfl rfl)
    · exact congrArg (val_main_v7 (F := Ideal) x) (idx_ext rfl rfl)

/-- The reference's gradient before the residual's is added. -/
theorem ref_grad_alone (i j : Fin 2048) : (val_main_v36 (F := Ideal) x g dy (ix2 i j) : EReal)
    = grad (fun k => x (ix2 i k)) (fun k => (dy (ix2 i k) : EReal) * (g (ix2 0 k) : EReal)) j := by
  unfold grad
  refine (val_main_v36_apply (F := Ideal) x g dy _).trans (add_congr ((val_main_v34_apply (F := Ideal) x g dy _).trans (add_congr ?_ ?_)) ?_)
  · refine (val_main_v27_apply (F := Ideal) x g dy _).trans (congrArg₂ (· * ·) (ref_z g dy i j) ((val_main_v26_apply (F := Ideal) x _).trans ?_))
    refine Eq.trans ?_ (ref_scale x i 0)
    exact congrArg (val_main_v8 (F := Ideal) x) (idx_ext rfl rfl)
  · exact (val_main_v33_apply (F := Ideal) x g dy _).trans (congrArg ((x (ix2 i j) : EReal) * ·) (ref_w x g dy i j))
  · exact (val_main_v35_apply (F := Ideal) x g dy _).trans (congrArg (· * (x (ix2 i j) : EReal)) (ref_w x g dy i j))

/-- The reference's gradient. -/
theorem ref_grad (i j : Fin 2048) : (val_main_v37 (F := Ideal) x g dy res (ix2 i j) : EReal)
    = grad (fun k => x (ix2 i k)) (fun k => (dy (ix2 i k) : EReal) * (g (ix2 0 k) : EReal)) j + (res (ix2 i j) : EReal) :=
  (val_main_v37_apply (F := Ideal) x g dy res _).trans (add_congr (ref_grad_alone x g dy i j) rfl)

/-- The terms of one entry of the weight's gradient. -/
def terms (j k : Fin 2048) : EReal := (dy (ix2 k j) : EReal) * ((x (ix2 k j) : EReal) * scale fun l => x (ix2 k l))

/-- The reference's gradient of the weight. -/
theorem ref_sums (u : Fin 1) (j : Fin 2048) : (val_main_v39 (F := Ideal) x dy (ix2 u j) : EReal) = ∑ k, terms x dy j k := by
  refine (val_main_v39_apply (F := Ideal) x dy _).trans ((val_main_v22_apply x dy _).trans ?_)
  refine (add_congr Ideal.ofBits_zero_f32 (Fin.sum_univ_one _)).trans ((zero_add _).trans ?_)
  refine (val_main_v19_apply (F := Ideal) x dy _).trans ((val_main_v18_apply x dy _).trans ?_)
  refine (add_congr Ideal.ofBits_zero_f32 (Finset.sum_congr rfl fun k _ => ?_)).trans (zero_add _)
  have he : idx_main_v18 (idx_main_v19 (idx_main_v22 (idx_main_v39 (ix2 u j)) 0)) k = ix2 k j :=
    idx_ext (by simp [idx_main_v18, idx_main_v19, idx_main_v22, idx_main_v39]) (by simp [idx_main_v18, idx_main_v19, idx_main_v22, idx_main_v39])
  refine (congrArg (val_main_v17 (F := Ideal) x dy) he).trans ?_
  refine (val_main_v17_apply (F := Ideal) x dy _).trans ((mul_comm _ _).trans (congrArg ((dy (ix2 k j) : EReal) * ·) ?_))
  refine (val_main_v13_apply (F := Ideal) x _).trans (congrArg ((x (ix2 k j) : EReal) * ·) ((val_main_v12_apply (F := Ideal) x _).trans ?_))
  refine Eq.trans ?_ (ref_scale x k 0)
  exact congrArg (val_main_v8 (F := Ideal) x) (idx_ext rfl rfl)

end Reference

theorem idx_0 : ∀ t : Fin grid0.N, win0_0.index t = ![t.val, 0] := by decide +kernel
theorem idx_1 : ∀ t : Fin grid0.N, win0_1.index t = ![0, 0] := by decide +kernel
theorem idx_2 : ∀ t : Fin grid0.N, win0_2.index t = ![t.val, 0] := by decide +kernel
theorem idx_3 : ∀ t : Fin grid0.N, win0_3.index t = ![t.val, 0] := by decide +kernel
theorem idx_4 : ∀ t : Fin grid0.N, win0_4.index t = ![t.val, 0] := by decide +kernel
theorem idx_5 : ∀ t : Fin grid0.N, win0_5.index t = ![t.val, 0] := by decide +kernel
theorem idx_6 : ∀ t : Fin grid0.N, win0_6.index t = ![0, 0] := by decide +kernel
theorem covers_4 : (cfg0.win 4).Covers := by decide +kernel
theorem covers_5 : (cfg0.win 5).Covers := by decide +kernel
theorem covers_6 : (cfg0.win 6).Covers := by decide +kernel

theorem points : cfg0.N = 8 := by decide

/-- The row that row `i` of point `t`'s block is. -/
def row (t : Fin cfg0.N) (i : Fin 256) : Fin 2048 := ⟨t.val * 256 + i.val, by have := t.isLt; have := points; omega⟩

variable (m : (ℓ : Loc nD τ sig) → Buf (Elt Ideal) ℓ) (c : Dev nD)

theorem blk_0 (t : Fin cfg0.N) (i : Fin 256) (j : Fin 2048) :
    iblk m c 0 t (ix2 i j) = m (c, Proc.devRef .tc main_arg0) (ix2 (row t i) j) := by
  show m _ _ = m _ _
  congr 1
  unfold row
  blk_ext [idx_0 t]

theorem blk_1 (t : Fin cfg0.N) (u : Fin 1) (j : Fin 2048) :
    iblk m c 1 t (ix2 u j) = m (c, Proc.devRef .tc main_arg1) (ix2 u j) := by
  show m _ _ = m _ _
  congr 1
  blk_ext [idx_1 t]

theorem blk_2 (t : Fin cfg0.N) (i : Fin 256) (j : Fin 2048) :
    iblk m c 2 t (ix2 i j) = m (c, Proc.devRef .tc main_arg2) (ix2 (row t i) j) := by
  show m _ _ = m _ _
  congr 1
  unfold row
  blk_ext [idx_2 t]

theorem blk_3 (t : Fin cfg0.N) (i : Fin 256) (j : Fin 2048) :
    iblk m c 3 t (ix2 i j) = m (c, Proc.devRef .tc main_arg3) (ix2 (row t i) j) := by
  show m _ _ = m _ _
  congr 1
  unfold row
  blk_ext [idx_3 t]

theorem emb_4 (t : Fin cfg0.N) (i : Fin 256) (j : Fin 2048) : ((cfg0.win 4).blk t).view.emb (ix2 i j) = ix2 (row t i) j := by
  unfold row
  blk_ext [idx_4 t]

theorem emb_5 (t : Fin cfg0.N) (i : Fin 256) (j : Fin 2048) : ((cfg0.win 5).blk t).view.emb (ix2 i j) = ix2 (row t i) j := by
  unfold row
  blk_ext [idx_5 t]

theorem emb_6 (t : Fin cfg0.N) (u : Fin 1) (j : Fin 2048) : ((cfg0.win 6).blk t).view.emb (ix2 u j) = ix2 u j := by
  blk_ext [idx_6 t]

/-- What every point leaves in the gradient's block. -/
theorem outs_4 (t : Fin cfg0.N) : (outsAt0 m c t.val t.isLt).1 = k0_pay5 (F := Ideal) (iblk m c 2 t) (iblk m c 0 t) (iblk m c 1 t) (iblk m c 3 t) := by
  by_cases h0 : t.val % 8 = 0
  · rw [outsAt0_A m c t h0]
    dsimp only
    exact first_4 ..
  · rw [outsAt0_B m c t h0]
    dsimp only
    exact later_4 ..

/-- What every point leaves in the rounded gradient's block. -/
theorem outs_5 (t : Fin cfg0.N) : (outsAt0 m c t.val t.isLt).2.1 = k0_pay6 (F := Ideal) (iblk m c 2 t) (iblk m c 0 t) (iblk m c 1 t) (iblk m c 3 t) := by
  by_cases h0 : t.val % 8 = 0
  · rw [outsAt0_A m c t h0]
    dsimp only
    exact first_5 ..
  · rw [outsAt0_B m c t h0]
    dsimp only
    exact later_5 ..

/-- What the first point leaves in the weight's gradient. -/
theorem outs_6_first (t : Fin cfg0.N) (h0 : t.val % 8 = 0) : (outsAt0 m c t.val t.isLt).2.2
    = k0_pay1 (F := Ideal) (k0_pay4 (iblk m c 2 t) (iblk m c 0 t)) (k0_pay7 (F := Ideal)) := by
  rw [outsAt0_A m c t h0]
  dsimp only
  exact first_6 ..

/-- What a later point leaves in the weight's gradient. -/
theorem outs_6_later (t : Fin cfg0.N) (h0 : ¬t.val % 8 = 0) : (outsAt0 m c t.val t.isLt).2.2
    = k0_pay1 (F := Ideal) (k0_pay4 (iblk m c 2 t) (iblk m c 0 t)) (outsAt0 m c (t.val - 1) (Nat.lt_of_le_of_lt (Nat.sub_le ..) t.isLt)).2.2 := by
  rw [outsAt0_B m c t h0]
  dsimp only
  exact later_6 ..

/-- The reference's gradient. -/
abbrev dx : (⟨S2048x2048, .f32⟩ : BufTy).Contents (Elt Ideal) :=
  val_main_v37 (F := Ideal) (m (c, Proc.devRef .tc main_arg0)) (m (c, Proc.devRef .tc main_arg1)) (m (c, Proc.devRef .tc main_arg2)) (m (c, Proc.devRef .tc main_arg3))

/-- A point leaves the reference's rows of the gradient. -/
theorem rows_at (t : Fin cfg0.N) (i : Fin 256) (j : Fin 2048) :
    (k0_pay5 (F := Ideal) (iblk m c 2 t) (iblk m c 0 t) (iblk m c 1 t) (iblk m c 3 t) (ix2 i j) : EReal) = dx m c (ix2 (row t i) j) := by
  refine ((grad_block _ _ _ _ i j).trans ?_).trans (ref_grad _ _ _ _ _ _).symm
  refine add_congr ?_ (blk_3 m c t i j)
  exact congrArg₂ (fun x z => grad x z j) (funext fun k => blk_0 m c t i k)
    (funext fun k => congrArg₂ (· * ·) (blk_2 m c t i k) (blk_1 m c t 0 k))

/-- The terms of one entry of the weight's gradient. -/
abbrev tm (j : Fin 2048) : Fin 2048 → EReal := terms (m (c, Proc.devRef .tc main_arg0)) (m (c, Proc.devRef .tc main_arg2)) j

/-- A point's column sums are a chunk of the weight's gradient. -/
theorem chunk_at (t : Fin cfg0.N) (u : Fin 1) (j : Fin 2048) :
    (k0_pay4 (F := Ideal) (iblk m c 2 t) (iblk m c 0 t) (ix2 u j) : EReal) = chunk (tm m c j) 256 t.val := by
  refine (sums_block _ _ u j).trans (Finset.sum_congr rfl fun k _ => ?_)
  refine Eq.trans ?_ (ext_of (tm m c j) (row t k).isLt).symm
  exact congrArg₂ (· * ·) (blk_2 m c t k j) (congrArg₂ (· * ·) (blk_0 m c t k j) (congrArg scale (funext fun l => blk_0 m c t k l)))

/-- After a point the weight's gradient holds the chunks so far. -/
theorem sums_at : ∀ (n : ℕ) (hn : n < cfg0.N) (u : Fin 1) (j : Fin 2048),
    ((outsAt0 m c n hn).2.2 (ix2 u j) : EReal) = upto (tm m c j) 256 (n + 1) := by
  intro n
  induction n with
  | zero =>
    intro hn u j
    refine (congrFun (outs_6_first m c ⟨0, hn⟩ rfl) (ix2 u j)).trans ?_
    unfold k0_pay1
    rw [shapeCast_self]
    refine (add_congr Ideal.ofBits_zero_f32 (chunk_at m c ⟨0, hn⟩ u j)).trans ?_
    rw [upto_succ, upto_zero]
  | succ n ih =>
    intro hn u j
    have h8 := points
    refine (congrFun (outs_6_later m c ⟨n + 1, hn⟩ (by show ¬(n + 1) % 8 = 0; omega)) (ix2 u j)).trans ?_
    unfold k0_pay1
    rw [shapeCast_self]
    exact (add_congr (ih (Nat.lt_of_succ_lt hn) u j) (chunk_at m c ⟨n + 1, hn⟩ u j)).trans (upto_succ ..).symm

/-- The kernel's gradient is the reference's. -/
theorem out_array_4 : (dats m 0 c).arrAt 4 cfg0.N = dx m c := by
  refine (dats m 0 c).arrAt_eq_of_covers 4 _ covers_4 fun t _ y => ?_
  have h : ((outsAt0 m c t.val t.isLt).1 y : EReal) = dx m c (((cfg0.win 4).blk t).view.emb y) := by
    obtain ⟨i, j, rfl⟩ : ∃ (i : Fin 256) (j : Fin 2048), y = ix2 i j := ⟨y 0, y 1, eq_ix2 y⟩
    rw [emb_4 t i j, outs_4]
    exact rows_at m c t i j
  blk_simp
  rw [after0_4]
  generalize (outsAt0 m c t.val t.isLt).1 = W at h ⊢
  exact h

/-- The kernel's rounded gradient is the reference's. -/
theorem out_array_5 : (dats m 0 c).arrAt 5 cfg0.N
    = val_main_v38 (F := Ideal) (m (c, Proc.devRef .tc main_arg0)) (m (c, Proc.devRef .tc main_arg1)) (m (c, Proc.devRef .tc main_arg2)) (m (c, Proc.devRef .tc main_arg3)) := by
  refine (dats m 0 c).arrAt_eq_of_covers 5 _ covers_5 fun t _ y => ?_
  have h : ((outsAt0 m c t.val t.isLt).2.1 y : EReal)
      = val_main_v38 (F := Ideal) (m (c, Proc.devRef .tc main_arg0)) (m (c, Proc.devRef .tc main_arg1)) (m (c, Proc.devRef .tc main_arg2)) (m (c, Proc.devRef .tc main_arg3))
        (((cfg0.win 5).blk t).view.emb y) := by
    obtain ⟨i, j, rfl⟩ : ∃ (i : Fin 256) (j : Fin 2048), y = ix2 i j := ⟨y 0, y 1, eq_ix2 y⟩
    rw [emb_5 t i j, outs_5]
    exact (rows_at m c t i j).trans (val_main_v38_apply (F := Ideal) _ _ _ _ _).symm
  blk_simp
  rw [after0_5]
  generalize (outsAt0 m c t.val t.isLt).2.1 = W at h ⊢
  exact h

/-- The kernel's gradient of the weight is the reference's. -/
theorem out_array_6 : (dats m 0 c).arrAt 6 cfg0.N
    = val_main_v39 (F := Ideal) (m (c, Proc.devRef .tc main_arg0)) (m (c, Proc.devRef .tc main_arg2)) := by
  refine (dats m 0 c).arrAt_eq_of_covers 6 _ covers_6 fun t hf y => ?_
  have h : ((outsAt0 m c t.val t.isLt).2.2 y : EReal)
      = val_main_v39 (F := Ideal) (m (c, Proc.devRef .tc main_arg0)) (m (c, Proc.devRef .tc main_arg2)) (((cfg0.win 6).blk t).view.emb y) := by
    obtain ⟨u, j, rfl⟩ : ∃ (u : Fin 1) (j : Fin 2048), y = ix2 u j := ⟨y 0, y 1, eq_ix2 y⟩
    rw [emb_6 t u j]
    refine (sums_at m c t.val t.isLt u j).trans ((upto_all _ _ ?_).trans (ref_sums _ _ u j).symm)
    have := (flush0_6 t).mp hf
    have := t.isLt
    have := points
    omega
  blk_simp
  rw [after0_6]
  generalize (outsAt0 m c t.val t.isLt).2.2 = W at h ⊢
  exact h

/-- The reference is host code and declares no semaphore. -/
theorem reference_quiescent : Cert.quiescent_NormBwdRefIdeal (hNormBwdRefIdeal := Cert.NormBwdRefIdeal.Gen.facts) := fun m ρ _ =>
  (θ_run Cert.NormBwdRefIdeal.defs _ _).mono (fun r h => ⟨fun c => (h c).2.2.2, sem_eq_zero_of_no_sems (by decide) r.2⟩)
    (Cert.NormBwdRefIdeal.Value.run (F := Ideal) m ρ)

/-- Over the extended reals the kernel ends with the reference's arrays. -/
theorem values : Cert.algebraic_NormBwdIdeal_NormBwdRefIdeal (hNormBwdIdeal := Cert.NormBwdIdeal.Gen.facts)
    (hNormBwdRefIdeal := Cert.NormBwdRefIdeal.Gen.facts) := by
  intro m g m' g' _ hagree
  refine ⟨fun c => (dats m 0 c).arrAt 4 cfg0.N, fun c => (dats m 0 c).arrAt 5 cfg0.N, fun c => (dats m 0 c).arrAt 6 cfg0.N,
    Cert.NormBwdIdeal.Value.run_blocks m g, ?_⟩
  refine (θ_run Cert.NormBwdRefIdeal.defs _ _).mono
    (fun r h c => ⟨(h c).1.trans ?_, (h c).2.1.trans ?_, (h c).2.2.1.trans ?_, (h c).2.2.2⟩) (Cert.NormBwdRefIdeal.Value.run (F := Ideal) m' g')
  · obtain ⟨h0, h1, h2, h3⟩ := hagree c
    refine (val_main_v37_eq _ _).trans ?_
    rw [h0, h1, h2, h3]
    exact (out_array_4 m c).symm
  · obtain ⟨h0, h1, h2, h3⟩ := hagree c
    refine (val_main_v38_eq _ _).trans ?_
    rw [h0, h1, h2, h3]
    exact (out_array_5 m c).symm
  · obtain ⟨h0, h1, h2, h3⟩ := hagree c
    refine (val_main_v39_eq _ _).trans ?_
    rw [h0, h2]
    exact (out_array_6 m c).symm

end Cert.NormBwdProof

end
-- ==== Proof.NormHalvesBwd.lean ====
/-
  The backward of a norm whose gradient the kernel takes as two halves of its rows, which the host slices: each point picks
  the half its rows are in, and then does what the other norm's backward does. The reference is the same.
-/
module

public import proofs.«01_k».proof.Defs
public import proofs.«01_k».proof.Proof.NormBwd
public import proofs.«01_k».proof.Proof.Gen.NormHalvesBwdIdeal.Value
public import proofs.«01_k».proof.Proof.Gen.NormHalvesBwdRefIdeal.Run
public import proofs.«01_k».proof.Proof.Gen.NormHalvesBwdRefIdeal.Read
public import Idealize.ShloMosaic.Lib.Pipeline.ValueKit.Geometry
public import Idealize.ShloMosaic.Lib.StableHlo.RunRead

@[expose] public section

noncomputable section

namespace Cert.NormHalvesBwdProof

open Idealize.ShloMosaic Idealize.ShloMosaic.ValueIdx Idealize.SL.Sem
open Cert.NormHalvesBwdIdeal Cert.NormHalvesBwdIdeal.Gen
open Cert.NormHalvesBwdRefIdeal.Read Cert.Products Cert.NormRow Cert.Chunks
open Cert.NormBwdProof (grad_block sums_block ref_grad ref_sums terms hz)
open scoped BigOperators

section Points
variable (c : Dev nD) (i : grid0.Coords) {a1 a3 a4 a5 a6 : Memref sig .tc .vmem S256x2048 .f32} {h1 : a1.IsWhole}
  {a2 a8 : Memref sig .tc .vmem S1x2048 .f32} {h2 : a2.IsWhole} {h3 : a3.IsWhole} {h4 : a4.IsWhole} {h5 : a5.IsWhole} {h6 : a6.IsWhole}
  {a7 : Memref sig .tc .vmem S256x2048 .bf16} {h7 : a7.IsWhole} {h8 : a8.IsWhole}
  (x : Vec Ideal S256x2048 .f32) (g : Vec Ideal S1x2048 .f32) (lo hi res : Vec Ideal S256x2048 .f32) (acc : Vec Ideal S1x2048 .f32)

/-- The first point's gradient. -/
theorem first_5 (hc0 : cond0_0 i) : out0_A_5 c i a1 h1 a2 h2 a3 h3 a4 h4 a5 h5 a6 h6 a7 h7 a8 h8 hc0 x g lo hi res = k0_pay7 i lo hi x g res := by
  unfold out0_A_5
  rw [View.read_writes_eq_canon _ _ _ (cover0_A_5 c i a1 h1 a2 h2 a3 h3 a4 h4 a5 h5 a6 h6 a7 h7 a8 h8 hc0 x g lo hi res)]
  unfold kernelRun0_A
  dsimp only
  rw [View.canon_unit_zero hz]
  simp only [View.readAt_eq_ld, h1.read_unread, h2.read_unread, h3.read_unread, h4.read_unread, h5.read_unread, h8.read_unread,
    View.ld_unit_zero (S := S256x2048) hz, View.ld_unit_zero (S := S1x2048) hz]

/-- The first point's rounded gradient. -/
theorem first_6 (hc0 : cond0_0 i) : out0_A_6 c i a1 h1 a2 h2 a3 h3 a4 h4 a5 h5 a6 h6 a7 h7 a8 h8 hc0 x g lo hi res = k0_pay8 i lo hi x g res := by
  unfold out0_A_6
  rw [View.read_writes_eq_canon _ _ _ (cover0_A_6 c i a1 h1 a2 h2 a3 h3 a4 h4 a5 h5 a6 h6 a7 h7 a8 h8 hc0 x g lo hi res)]
  unfold kernelRun0_A
  dsimp only
  rw [View.canon_unit_zero hz]
  unfold kernelRun0_A.sl.r_1
  simp only [View.readAt_eq_ld, h1.read_unread, h2.read_unread, h3.read_unread, h4.read_unread, h5.read_unread, h8.read_unread,
    View.ld_unit_zero (S := S256x2048) hz, View.ld_unit_zero (S := S1x2048) hz]

/-- The first point puts its column sums over zeros. -/
theorem first_7 (hc0 : cond0_0 i) : out0_A_7 c i a1 h1 a2 h2 a3 h3 a4 h4 a5 h5 a6 h6 a7 h7 a8 h8 hc0 x g lo hi res = k0_pay2 (k0_pay6 i lo hi x) (k0_pay1 (F := Ideal)) := by
  unfold out0_A_7
  rw [View.read_writes_eq_canon _ _ _ (cover0_A_7 c i a1 h1 a2 h2 a3 h3 a4 h4 a5 h5 a6 h6 a7 h7 a8 h8 hc0 x g lo hi res)]
  unfold kernelRun0_A
  dsimp only
  rw [View.canon_cons_unit_lit _ _ _ zero_off2]
  unfold kernelRun0_A.sl.r kernelRun0_A.sl.v41 kernelRun0_A.sl.H7_1
  simp only [View.readAt_eq_ld, h1.read_unread, h2.read_unread, h3.read_unread, h4.read_unread, h5.read_unread, h8.read_unread,
    View.ld_unit_zero (S := S256x2048) hz, View.ld_unit_zero (S := S1x2048) hz]
  exact congrArg (k0_pay2 (k0_pay6 i lo hi x)) (View.readCov_cons_toLoadRect _ _ _ _)

/-- A later point's gradient. -/
theorem later_5 (hc0 : ¬cond0_0 i) : out0_B_5 c i a1 h1 a2 h2 a3 h3 a4 h4 a5 h5 a6 h6 a7 h7 a8 h8 hc0 x g lo hi res acc = k0_pay7 i lo hi x g res := by
  unfold out0_B_5
  rw [View.read_writes_eq_canon _ _ _ (cover0_B_5 c i a1 h1 a2 h2 a3 h3 a4 h4 a5 h5 a6 h6 a7 h7 a8 h8 hc0 x g lo hi res acc)]
  unfold kernelRun0_B
  dsimp only
  rw [View.canon_unit_zero hz]
  simp only [View.readAt_eq_ld, h1.read_unread, h2.read_unread, h3.read_unread, h4.read_unread, h5.read_unread, h8.read_unread,
    View.ld_unit_zero (S := S256x2048) hz, View.ld_unit_zero (S := S1x2048) hz]

/-- A later point's rounded gradient. -/
theorem later_6 (hc0 : ¬cond0_0 i) : out0_B_6 c i a1 h1 a2 h2 a3 h3 a4 h4 a5 h5 a6 h6 a7 h7 a8 h8 hc0 x g lo hi res acc = k0_pay8 i lo hi x g res := by
  unfold out0_B_6
  rw [View.read_writes_eq_canon _ _ _ (cover0_B_6 c i a1 h1 a2 h2 a3 h3 a4 h4 a5 h5 a6 h6 a7 h7 a8 h8 hc0 x g lo hi res acc)]
  unfold kernelRun0_B
  dsimp only
  rw [View.canon_unit_zero hz]
  unfold kernelRun0_B.sl.r_1
  simp only [View.readAt_eq_ld, h1.read_unread, h2.read_unread, h3.read_unread, h4.read_unread, h5.read_unread, h8.read_unread,
    View.ld_unit_zero (S := S256x2048) hz, View.ld_unit_zero (S := S1x2048) hz]

/-- A later point adds its column sums to what the point before left. -/
theorem later_7 (hc0 : ¬cond0_0 i) : out0_B_7 c i a1 h1 a2 h2 a3 h3 a4 h4 a5 h5 a6 h6 a7 h7 a8 h8 hc0 x g lo hi res acc = k0_pay2 (k0_pay6 i lo hi x) acc := by
  unfold out0_B_7
  rw [View.read_writes_eq_canon _ _ _ (cover0_B_7 c i a1 h1 a2 h2 a3 h3 a4 h4 a5 h5 a6 h6 a7 h7 a8 h8 hc0 x g lo hi res acc)]
  unfold kernelRun0_B
  dsimp only
  rw [View.canon_unit_zero hz]
  unfold kernelRun0_B.sl.r
  simp only [View.readAt_eq_ld, h1.read_unread, h2.read_unread, h3.read_unread, h4.read_unread, h5.read_unread, h8.read_unread,
    View.ld_unit_zero (S := S256x2048) hz, View.ld_unit_zero (S := S1x2048) hz]

end Points

/-- The point's half of the gradient. -/
theorem half_at (i : grid0.Coords) (lo hi : Vec Ideal S256x2048 .f32) : k0_pay3 (F := Ideal) i lo hi = if 4 ≤ (i 0).val then hi else lo := by
  unfold k0_pay3
  rw [shapeCast_self, shapeCast_self]
  have h : ∀ n : Fin 8, Scalar.cmpi .sge (BitVec.ofNat 32 n.val) 4#32 = if 4 ≤ n.val then 1#1 else 0#1 := by decide
  have hn := h (i 0)
  dsimp only
  rw [hn]
  by_cases h4 : 4 ≤ (i 0).val
  · rw [if_pos h4, if_pos h4]
    rfl
  · rw [if_neg h4, if_neg h4]
    rfl

theorem idx_0 : ∀ t : Fin grid0.N, win0_0.index t = ![t.val, 0] := by decide +kernel
theorem idx_1 : ∀ t : Fin grid0.N, win0_1.index t = ![0, 0] := by decide +kernel
theorem idx_2 : ∀ t : Fin grid0.N, win0_2.index t = ![min t.val 3, 0] := by decide +kernel
theorem idx_3 : ∀ t : Fin grid0.N, win0_3.index t = ![t.val - 4, 0] := by decide +kernel
theorem idx_4 : ∀ t : Fin grid0.N, win0_4.index t = ![t.val, 0] := by decide +kernel
theorem idx_5 : ∀ t : Fin grid0.N, win0_5.index t = ![t.val, 0] := by decide +kernel
theorem idx_6 : ∀ t : Fin grid0.N, win0_6.index t = ![t.val, 0] := by decide +kernel
theorem idx_7 : ∀ t : Fin grid0.N, win0_7.index t = ![0, 0] := by decide +kernel
theorem covers_5 : (cfg0.win 5).Covers := by decide +kernel
theorem covers_6 : (cfg0.win 6).Covers := by decide +kernel
theorem covers_7 : (cfg0.win 7).Covers := by decide +kernel

theorem points : cfg0.N = 8 := by decide

/-- The row that row `i` of point `t`'s block is. -/
def row (t : Fin cfg0.N) (i : Fin 256) : Fin 2048 := ⟨t.val * 256 + i.val, by have := t.isLt; have := points; omega⟩

variable (m : (ℓ : Loc nD τ sig) → Buf (Elt Ideal) ℓ) (c : Dev nD)

theorem blk_0 (t : Fin cfg0.N) (i : Fin 256) (j : Fin 2048) :
    iblk m c 0 t (ix2 i j) = m (c, Proc.devRef .tc main_arg0) (ix2 (row t i) j) := by
  refine Eq.trans ?_ (congrFun (V_main_arg0 m c) _)
  show V m c main_arg0 _ = V m c main_arg0 _
  congr 1
  unfold row
  blk_ext [idx_0 t]

theorem blk_1 (t : Fin cfg0.N) (u : Fin 1) (j : Fin 2048) :
    iblk m c 1 t (ix2 u j) = m (c, Proc.devRef .tc main_arg1) (ix2 u j) := by
  refine Eq.trans ?_ (congrFun (V_main_arg1 m c) _)
  show V m c main_arg1 _ = V m c main_arg1 _
  congr 1
  blk_ext [idx_1 t]

/-- The host slices the first half of the gradient's rows before the launch. -/
theorem V_low : V m c main_v0 = extractStridedSlice S1024x2048 ![0, 0]
    (m (c, Proc.devRef .tc main_arg2) : (⟨S2048x2048, .f32⟩ : BufTy).Contents (Elt Ideal)) slices_S2048x2048_S1024x2048_0_0 := by
  unfold V hostOps0
  after_reads_simp

/-- The host slices the second half of the gradient's rows before the launch. -/
theorem V_high : V m c main_v1 = extractStridedSlice S1024x2048 ![1024, 0]
    (m (c, Proc.devRef .tc main_arg2) : (⟨S2048x2048, .f32⟩ : BufTy).Contents (Elt Ideal)) slices_S2048x2048_S1024x2048_1024_0 := by
  unfold V hostOps0
  after_reads_simp

theorem blk_2 (t : Fin cfg0.N) (ht : ¬4 ≤ t.val) (i : Fin 256) (j : Fin 2048) :
    iblk m c 2 t (ix2 i j) = m (c, Proc.devRef .tc main_arg2) (ix2 (row t i) j) := by
  have h : V m c main_v0 (ix2 ⟨t.val * 256 + i.val, by omega⟩ j) = m (c, Proc.devRef .tc main_arg2) (ix2 (row t i) j) := by
    rw [V_low]
    exact extractStridedSlice_apply _ _ _ _ _ fun ax => match ax with
      | ⟨0, _⟩ => by show t.val * 256 + i.val = 0 + (t.val * 256 + i.val); omega
      | ⟨1, _⟩ => by show j.val = 0 + j.val; omega
  refine Eq.trans ?_ h
  show V m c main_v0 _ = V m c main_v0 _
  congr 1
  have hm : min t.val 3 = t.val := by omega
  blk_ext [idx_2 t, hm]

theorem blk_3 (t : Fin cfg0.N) (ht : 4 ≤ t.val) (i : Fin 256) (j : Fin 2048) :
    iblk m c 3 t (ix2 i j) = m (c, Proc.devRef .tc main_arg2) (ix2 (row t i) j) := by
  have h8 := points
  have hl := t.isLt
  have h : V m c main_v1 (ix2 ⟨(t.val - 4) * 256 + i.val, by omega⟩ j) = m (c, Proc.devRef .tc main_arg2) (ix2 (row t i) j) := by
    rw [V_high]
    exact extractStridedSlice_apply _ _ _ _ _ fun ax => match ax with
      | ⟨0, _⟩ => by show t.val * 256 + i.val = 1024 + ((t.val - 4) * 256 + i.val); omega
      | ⟨1, _⟩ => by show j.val = 0 + j.val; omega
  refine Eq.trans ?_ h
  show V m c main_v1 _ = V m c main_v1 _
  congr 1
  blk_ext [idx_3 t]

/-- The gradient's rows that point `t` picks. -/
abbrev picked (t : Fin cfg0.N) : Vec Ideal S256x2048 .f32 := k0_pay3 (F := Ideal) (grid0.coords t) (iblk m c 2 t) (iblk m c 3 t)

theorem coord : ∀ t : Fin grid0.N, (grid0.coords t 0).val = t.val := by decide +kernel

theorem picked_at (t : Fin cfg0.N) (i : Fin 256) (j : Fin 2048) :
    picked m c t (ix2 i j) = m (c, Proc.devRef .tc main_arg2) (ix2 (row t i) j) := by
  refine (congrFun (half_at _ _ _) _).trans ?_
  rw [coord t]
  by_cases h4 : 4 ≤ t.val
  · rw [if_pos h4]
    exact blk_3 m c t h4 i j
  · rw [if_neg h4]
    exact blk_2 m c t h4 i j

theorem blk_4 (t : Fin cfg0.N) (i : Fin 256) (j : Fin 2048) :
    iblk m c 4 t (ix2 i j) = m (c, Proc.devRef .tc main_arg3) (ix2 (row t i) j) := by
  refine Eq.trans ?_ (congrFun (V_main_arg3 m c) _)
  show V m c main_arg3 _ = V m c main_arg3 _
  congr 1
  unfold row
  blk_ext [idx_4 t]

theorem emb_5 (t : Fin cfg0.N) (i : Fin 256) (j : Fin 2048) : ((cfg0.win 5).blk t).view.emb (ix2 i j) = ix2 (row t i) j := by
  unfold row
  blk_ext [idx_5 t]

theorem emb_6 (t : Fin cfg0.N) (i : Fin 256) (j : Fin 2048) : ((cfg0.win 6).blk t).view.emb (ix2 i j) = ix2 (row t i) j := by
  unfold row
  blk_ext [idx_6 t]

theorem emb_7 (t : Fin cfg0.N) (u : Fin 1) (j : Fin 2048) : ((cfg0.win 7).blk t).view.emb (ix2 u j) = ix2 u j := by
  blk_ext [idx_7 t]

/-- What every point leaves in the gradient's block. -/
theorem outs_5 (t : Fin cfg0.N) : (outsAt0 m c t.val t.isLt).1 = k0_pay7 (F := Ideal) (grid0.coords t) (iblk m c 2 t) (iblk m c 3 t) (iblk m c 0 t) (iblk m c 1 t) (iblk m c 4 t) := by
  by_cases h0 : t.val % 8 = 0
  · rw [outsAt0_A m c t h0]
    dsimp only
    exact first_5 ..
  · rw [outsAt0_B m c t h0]
    dsimp only
    exact later_5 ..

/-- What every point leaves in the rounded gradient's block. -/
theorem outs_6 (t : Fin cfg0.N) : (outsAt0 m c t.val t.isLt).2.1 = k0_pay8 (F := Ideal) (grid0.coords t) (iblk m c 2 t) (iblk m c 3 t) (iblk m c 0 t) (iblk m c 1 t) (iblk m c 4 t) := by
  by_cases h0 : t.val % 8 = 0
  · rw [outsAt0_A m c t h0]
    dsimp only
    exact first_6 ..
  · rw [outsAt0_B m c t h0]
    dsimp only
    exact later_6 ..

/-- What the first point leaves in the weight's gradient. -/
theorem outs_7_first (t : Fin cfg0.N) (h0 : t.val % 8 = 0) : (outsAt0 m c t.val t.isLt).2.2
    = k0_pay2 (F := Ideal) (k0_pay6 (grid0.coords t) (iblk m c 2 t) (iblk m c 3 t) (iblk m c 0 t)) (k0_pay1 (F := Ideal)) := by
  rw [outsAt0_A m c t h0]
  dsimp only
  exact first_7 ..

/-- What a later point leaves in the weight's gradient. -/
theorem outs_7_later (t : Fin cfg0.N) (h0 : ¬t.val % 8 = 0) : (outsAt0 m c t.val t.isLt).2.2
    = k0_pay2 (F := Ideal) (k0_pay6 (grid0.coords t) (iblk m c 2 t) (iblk m c 3 t) (iblk m c 0 t)) (outsAt0 m c (t.val - 1) (Nat.lt_of_le_of_lt (Nat.sub_le ..) t.isLt)).2.2 := by
  rw [outsAt0_B m c t h0]
  dsimp only
  exact later_7 ..

/-- The reference's gradient. -/
abbrev dx : (⟨S2048x2048, .f32⟩ : BufTy).Contents (Elt Ideal) :=
  val_main_v37 (F := Ideal) (m (c, Proc.devRef .tc main_arg0)) (m (c, Proc.devRef .tc main_arg1)) (m (c, Proc.devRef .tc main_arg2)) (m (c, Proc.devRef .tc main_arg3))

/-- A point leaves the reference's rows of the gradient. -/
theorem rows_at (t : Fin cfg0.N) (i : Fin 256) (j : Fin 2048) :
    (k0_pay7 (F := Ideal) (grid0.coords t) (iblk m c 2 t) (iblk m c 3 t) (iblk m c 0 t) (iblk m c 1 t) (iblk m c 4 t) (ix2 i j) : EReal) = dx m c (ix2 (row t i) j) := by
  refine ((grad_block (picked m c t) _ _ _ i j).trans ?_).trans (ref_grad _ _ _ _ _ _).symm
  refine add_congr ?_ (blk_4 m c t i j)
  exact congrArg₂ (fun x z => grad x z j) (funext fun k => blk_0 m c t i k)
    (funext fun k => congrArg₂ (· * ·) (picked_at m c t i k) (blk_1 m c t 0 k))

/-- The terms of one entry of the weight's gradient. -/
abbrev tm (j : Fin 2048) : Fin 2048 → EReal := terms (m (c, Proc.devRef .tc main_arg0)) (m (c, Proc.devRef .tc main_arg2)) j

/-- A point's column sums are a chunk of the weight's gradient. -/
theorem chunk_at (t : Fin cfg0.N) (u : Fin 1) (j : Fin 2048) :
    (k0_pay6 (F := Ideal) (grid0.coords t) (iblk m c 2 t) (iblk m c 3 t) (iblk m c 0 t) (ix2 u j) : EReal) = chunk (tm m c j) 256 t.val := by
  refine (sums_block (picked m c t) _ u j).trans (Finset.sum_congr rfl fun k _ => ?_)
  refine Eq.trans ?_ (ext_of (tm m c j) (row t k).isLt).symm
  exact congrArg₂ (· * ·) (picked_at m c t k j) (congrArg₂ (· * ·) (blk_0 m c t k j) (congrArg scale (funext fun l => blk_0 m c t k l)))

/-- After a point the weight's gradient holds the chunks so far. -/
theorem sums_at : ∀ (n : ℕ) (hn : n < cfg0.N) (u : Fin 1) (j : Fin 2048),
    ((outsAt0 m c n hn).2.2 (ix2 u j) : EReal) = upto (tm m c j) 256 (n + 1) := by
  intro n
  induction n with
  | zero =>
    intro hn u j
    refine (congrFun (outs_7_first m c ⟨0, hn⟩ rfl) (ix2 u j)).trans ?_
    unfold k0_pay2
    rw [shapeCast_self]
    refine (add_congr Ideal.ofBits_zero_f32 (chunk_at m c ⟨0, hn⟩ u j)).trans ?_
    rw [upto_succ, upto_zero]
  | succ n ih =>
    intro hn u j
    have h8 := points
    refine (congrFun (outs_7_later m c ⟨n + 1, hn⟩ (by show ¬(n + 1) % 8 = 0; omega)) (ix2 u j)).trans ?_
    unfold k0_pay2
    rw [shapeCast_self]
    exact (add_congr (ih (Nat.lt_of_succ_lt hn) u j) (chunk_at m c ⟨n + 1, hn⟩ u j)).trans (upto_succ ..).symm

/-- The kernel's gradient is the reference's. -/
theorem out_array_5 : (dats m 0 c).arrAt 5 cfg0.N = dx m c := by
  refine (dats m 0 c).arrAt_eq_of_covers 5 _ covers_5 fun t _ y => ?_
  have h : ((outsAt0 m c t.val t.isLt).1 y : EReal) = dx m c (((cfg0.win 5).blk t).view.emb y) := by
    obtain ⟨i, j, rfl⟩ : ∃ (i : Fin 256) (j : Fin 2048), y = ix2 i j := ⟨y 0, y 1, eq_ix2 y⟩
    rw [emb_5 t i j, outs_5]
    exact rows_at m c t i j
  blk_simp
  rw [after0_5]
  generalize (outsAt0 m c t.val t.isLt).1 = W at h ⊢
  exact h

/-- The kernel's rounded gradient is the reference's. -/
theorem out_array_6 : (dats m 0 c).arrAt 6 cfg0.N
    = val_main_v38 (F := Ideal) (m (c, Proc.devRef .tc main_arg0)) (m (c, Proc.devRef .tc main_arg1)) (m (c, Proc.devRef .tc main_arg2)) (m (c, Proc.devRef .tc main_arg3)) := by
  refine (dats m 0 c).arrAt_eq_of_covers 6 _ covers_6 fun t _ y => ?_
  have h : ((outsAt0 m c t.val t.isLt).2.1 y : EReal)
      = val_main_v38 (F := Ideal) (m (c, Proc.devRef .tc main_arg0)) (m (c, Proc.devRef .tc main_arg1)) (m (c, Proc.devRef .tc main_arg2)) (m (c, Proc.devRef .tc main_arg3))
        (((cfg0.win 6).blk t).view.emb y) := by
    obtain ⟨i, j, rfl⟩ : ∃ (i : Fin 256) (j : Fin 2048), y = ix2 i j := ⟨y 0, y 1, eq_ix2 y⟩
    rw [emb_6 t i j, outs_6]
    exact (rows_at m c t i j).trans (val_main_v38_apply (F := Ideal) _ _ _ _ _).symm
  blk_simp
  rw [after0_6]
  generalize (outsAt0 m c t.val t.isLt).2.1 = W at h ⊢
  exact h

/-- The kernel's gradient of the weight is the reference's. -/
theorem out_array_7 : (dats m 0 c).arrAt 7 cfg0.N
    = val_main_v39 (F := Ideal) (m (c, Proc.devRef .tc main_arg0)) (m (c, Proc.devRef .tc main_arg2)) := by
  refine (dats m 0 c).arrAt_eq_of_covers 7 _ covers_7 fun t hf y => ?_
  have h : ((outsAt0 m c t.val t.isLt).2.2 y : EReal)
      = val_main_v39 (F := Ideal) (m (c, Proc.devRef .tc main_arg0)) (m (c, Proc.devRef .tc main_arg2)) (((cfg0.win 7).blk t).view.emb y) := by
    obtain ⟨u, j, rfl⟩ : ∃ (u : Fin 1) (j : Fin 2048), y = ix2 u j := ⟨y 0, y 1, eq_ix2 y⟩
    rw [emb_7 t u j]
    refine (sums_at m c t.val t.isLt u j).trans ((upto_all _ _ ?_).trans (ref_sums _ _ u j).symm)
    have := (flush0_7 t).mp hf
    have := t.isLt
    have := points
    omega
  blk_simp
  rw [after0_7]
  generalize (outsAt0 m c t.val t.isLt).2.2 = W at h ⊢
  exact h

/-- The reference is host code and declares no semaphore. -/
theorem reference_quiescent : Cert.quiescent_NormHalvesBwdRefIdeal (hNormHalvesBwdRefIdeal := Cert.NormHalvesBwdRefIdeal.Gen.facts) := fun m ρ _ =>
  (θ_run Cert.NormHalvesBwdRefIdeal.defs _ _).mono (fun r h => ⟨fun c => (h c).2.2.2, sem_eq_zero_of_no_sems (by decide) r.2⟩)
    (Cert.NormHalvesBwdRefIdeal.Value.run (F := Ideal) m ρ)

/-- Over the extended reals the kernel ends with the reference's arrays. -/
theorem values : Cert.algebraic_NormHalvesBwdIdeal_NormHalvesBwdRefIdeal (hNormHalvesBwdIdeal := Cert.NormHalvesBwdIdeal.Gen.facts)
    (hNormHalvesBwdRefIdeal := Cert.NormHalvesBwdRefIdeal.Gen.facts) := by
  intro m g m' g' _ hagree
  refine ⟨fun c => (dats m 0 c).arrAt 5 cfg0.N, fun c => (dats m 0 c).arrAt 6 cfg0.N, fun c => (dats m 0 c).arrAt 7 cfg0.N,
    Cert.NormHalvesBwdIdeal.Value.run_blocks m g, ?_⟩
  refine (θ_run Cert.NormHalvesBwdRefIdeal.defs _ _).mono
    (fun r h c => ⟨(h c).1.trans ?_, (h c).2.1.trans ?_, (h c).2.2.1.trans ?_, (h c).2.2.2⟩) (Cert.NormHalvesBwdRefIdeal.Value.run (F := Ideal) m' g')
  · obtain ⟨h0, h1, h2, h3⟩ := hagree c
    refine (val_main_v37_eq _ _).trans ?_
    rw [h0, h1, h2, h3]
    exact (out_array_5 m c).symm
  · obtain ⟨h0, h1, h2, h3⟩ := hagree c
    refine (val_main_v38_eq _ _).trans ?_
    rw [h0, h1, h2, h3]
    exact (out_array_6 m c).symm
  · obtain ⟨h0, h1, h2, h3⟩ := hagree c
    refine (val_main_v39_eq _ _).trans ?_
    rw [h0, h2]
    exact (out_array_7 m c).symm

end Cert.NormHalvesBwdProof

end
-- ==== Proof.NormLoss.lean ====
/-
  The loss head: the gradient of half the mean square of the normed stream's difference from its target, in both formats,
  the gradient of the norm's weight, and the squared differences added up over the positions. The kernel takes 256 rows at
  a time; the last two results are kept in their blocks from the first point to the last.
-/
module

public import proofs.«01_k».proof.Defs
public import proofs.«01_k».proof.Proof.NormBwd
public import proofs.«01_k».proof.Proof.Gen.NormLossIdeal.Value
public import proofs.«01_k».proof.Proof.Gen.NormLossRefIdeal.Run
public import proofs.«01_k».proof.Proof.Gen.NormLossRefIdeal.Read
public import Idealize.ShloMosaic.Lib.Pipeline.ValueKit.Geometry

@[expose] public section

noncomputable section

namespace Cert.NormLossProof

open Idealize.ShloMosaic Idealize.ShloMosaic.ValueIdx Idealize.SL.Sem
open Cert.NormLossIdeal Cert.NormLossIdeal.Gen
open Cert.NormLossRefIdeal.Read Cert.Products Cert.NormRow Cert.Chunks
open Cert.NormBwdProof (sums_block ref_grad_alone ref_sums terms hz)
open scoped BigOperators

section Points
variable (c : Dev nD) (i : grid0.Coords) {a1 a2 a4 : Memref sig .tc .vmem S256x2048 .f32} {h1 : a1.IsWhole} {h2 : a2.IsWhole}
  {a3 a6 a7 : Memref sig .tc .vmem S1x2048 .f32} {h3 : a3.IsWhole} {h4 : a4.IsWhole}
  {a5 : Memref sig .tc .vmem S256x2048 .bf16} {h5 : a5.IsWhole} {h6 : a6.IsWhole} {h7 : a7.IsWhole}
  (x y : Vec Ideal S256x2048 .f32) (g : Vec Ideal S1x2048 .f32) (acc sq : Vec Ideal S1x2048 .f32)

/-- A first point's gradient. -/
theorem first_3 (hc0 : cond0_0 i) : out0_A_3 c i a1 h1 a2 h2 a3 h3 a4 h4 a5 h5 a6 h6 a7 h7 hc0 x y g = k0_pay10 x g y := by
  unfold out0_A_3
  rw [View.read_writes_eq_canon _ _ _ (cover0_A_3 c i a1 h1 a2 h2 a3 h3 a4 h4 a5 h5 a6 h6 a7 h7 hc0 x y g)]
  unfold kernelRun0_A
  dsimp only
  rw [View.canon_unit_zero hz]
  unfold kernelRun0_A.sl.r_1
  simp only [View.readAt_eq_ld, h1.read_unread, h2.read_unread, h3.read_unread, h6.read_unread, h7.read_unread,
    View.ld_unit_zero (S := S256x2048) hz, View.ld_unit_zero (S := S1x2048) hz]

/-- A first point's rounded gradient. -/
theorem first_4 (hc0 : cond0_0 i) : out0_A_4 c i a1 h1 a2 h2 a3 h3 a4 h4 a5 h5 a6 h6 a7 h7 hc0 x y g = k0_pay1 (k0_pay10 x g y) := by
  unfold out0_A_4
  rw [View.read_writes_eq_canon _ _ _ (cover0_A_4 c i a1 h1 a2 h2 a3 h3 a4 h4 a5 h5 a6 h6 a7 h7 hc0 x y g)]
  unfold kernelRun0_A
  dsimp only
  rw [View.canon_unit_zero hz]
  unfold kernelRun0_A.sl.r_1
  simp only [View.readAt_eq_ld, h1.read_unread, h2.read_unread, h3.read_unread, h6.read_unread, h7.read_unread,
    View.ld_unit_zero (S := S256x2048) hz, View.ld_unit_zero (S := S1x2048) hz]

/-- A first point's weight's gradient. -/
theorem first_5 (hc0 : cond0_0 i) : out0_A_5 c i a1 h1 a2 h2 a3 h3 a4 h4 a5 h5 a6 h6 a7 h7 hc0 x y g = k0_pay4 (k0_pay11 x g y) (k0_pay2 (F := Ideal)) := by
  unfold out0_A_5
  rw [View.read_writes_eq_canon _ _ _ (cover0_A_5 c i a1 h1 a2 h2 a3 h3 a4 h4 a5 h5 a6 h6 a7 h7 hc0 x y g)]
  unfold kernelRun0_A
  dsimp only
  rw [View.canon_cons_unit_lit _ _ _ zero_off2]
  unfold kernelRun0_A.sl.r_2 kernelRun0_A.sl.v49 kernelRun0_A.sl.H5_1
  simp only [View.readAt_eq_ld, h1.read_unread, h2.read_unread, h3.read_unread, h6.read_unread, h7.read_unread,
    View.ld_unit_zero (S := S256x2048) hz, View.ld_unit_zero (S := S1x2048) hz]
  exact congrArg (k0_pay4 (k0_pay11 x g y)) (View.readCov_cons_toLoadRect _ _ _ _)

/-- A first point's squared differences. -/
theorem first_6 (hc0 : cond0_0 i) : out0_A_6 c i a1 h1 a2 h2 a3 h3 a4 h4 a5 h5 a6 h6 a7 h7 hc0 x y g = k0_pay5 (k0_pay6 x g y) (k0_pay3 (F := Ideal)) := by
  unfold out0_A_6
  rw [View.read_writes_eq_canon _ _ _ (cover0_A_6 c i a1 h1 a2 h2 a3 h3 a4 h4 a5 h5 a6 h6 a7 h7 hc0 x y g)]
  unfold kernelRun0_A
  dsimp only
  rw [View.canon_cons_unit_lit _ _ _ zero_off2]
  unfold kernelRun0_A.sl.r kernelRun0_A.sl.v53 kernelRun0_A.sl.H6_1
  simp only [View.readAt_eq_ld, h1.read_unread, h2.read_unread, h3.read_unread, h6.read_unread, h7.read_unread,
    View.ld_unit_zero (S := S256x2048) hz, View.ld_unit_zero (S := S1x2048) hz]
  exact congrArg (k0_pay5 (k0_pay6 x g y)) (View.readCov_cons_toLoadRect _ _ _ _)

/-- A later point's gradient. -/
theorem later_3 (hc0 : ¬cond0_0 i) : out0_B_3 c i a1 h1 a2 h2 a3 h3 a4 h4 a5 h5 a6 h6 a7 h7 hc0 x y g acc sq = k0_pay10 x g y := by
  unfold out0_B_3
  rw [View.read_writes_eq_canon _ _ _ (cover0_B_3 c i a1 h1 a2 h2 a3 h3 a4 h4 a5 h5 a6 h6 a7 h7 hc0 x y g acc sq)]
  unfold kernelRun0_B
  dsimp only
  rw [View.canon_unit_zero hz]
  unfold kernelRun0_B.sl.r_1
  simp only [View.readAt_eq_ld, h1.read_unread, h2.read_unread, h3.read_unread, h6.read_unread, h7.read_unread,
    View.ld_unit_zero (S := S256x2048) hz, View.ld_unit_zero (S := S1x2048) hz]

/-- A later point's rounded gradient. -/
theorem later_4 (hc0 : ¬cond0_0 i) : out0_B_4 c i a1 h1 a2 h2 a3 h3 a4 h4 a5 h5 a6 h6 a7 h7 hc0 x y g acc sq = k0_pay1 (k0_pay10 x g y) := by
  unfold out0_B_4
  rw [View.read_writes_eq_canon _ _ _ (cover0_B_4 c i a1 h1 a2 h2 a3 h3 a4 h4 a5 h5 a6 h6 a7 h7 hc0 x y g acc sq)]
  unfold kernelRun0_B
  dsimp only
  rw [View.canon_unit_zero hz]
  unfold kernelRun0_B.sl.r_1
  simp only [View.readAt_eq_ld, h1.read_unread, h2.read_unread, h3.read_unread, h6.read_unread, h7.read_unread,
    View.ld_unit_zero (S := S256x2048) hz, View.ld_unit_zero (S := S1x2048) hz]

/-- A later point's weight's gradient. -/
theorem later_5 (hc0 : ¬cond0_0 i) : out0_B_5 c i a1 h1 a2 h2 a3 h3 a4 h4 a5 h5 a6 h6 a7 h7 hc0 x y g acc sq = k0_pay4 (k0_pay11 x g y) acc := by
  unfold out0_B_5
  rw [View.read_writes_eq_canon _ _ _ (cover0_B_5 c i a1 h1 a2 h2 a3 h3 a4 h4 a5 h5 a6 h6 a7 h7 hc0 x y g acc sq)]
  unfold kernelRun0_B
  dsimp only
  rw [View.canon_unit_zero hz]
  unfold kernelRun0_B.sl.r_2
  simp only [View.readAt_eq_ld, h1.read_unread, h2.read_unread, h3.read_unread, h6.read_unread, h7.read_unread,
    View.ld_unit_zero (S := S256x2048) hz, View.ld_unit_zero (S := S1x2048) hz]

/-- A later point's squared differences. -/
theorem later_6 (hc0 : ¬cond0_0 i) : out0_B_6 c i a1 h1 a2 h2 a3 h3 a4 h4 a5 h5 a6 h6 a7 h7 hc0 x y g acc sq = k0_pay5 (k0_pay6 x g y) sq := by
  unfold out0_B_6
  rw [View.read_writes_eq_canon _ _ _ (cover0_B_6 c i a1 h1 a2 h2 a3 h3 a4 h4 a5 h5 a6 h6 a7 h7 hc0 x y g acc sq)]
  unfold kernelRun0_B
  dsimp only
  rw [View.canon_unit_zero hz]
  unfold kernelRun0_B.sl.r
  simp only [View.readAt_eq_ld, h1.read_unread, h2.read_unread, h3.read_unread, h6.read_unread, h7.read_unread,
    View.ld_unit_zero (S := S256x2048) hz, View.ld_unit_zero (S := S1x2048) hz]

end Points

/-- The factor between the difference and the gradient, as the kernel writes it. -/
abbrev factor : EReal := FloatOps.ofBits (F := Ideal) .f32 0x3A000000#32

/-- The reference takes the factor as one half over the row's width, times two. -/
theorem factor_eq (d : EReal) : Ideal.div (FloatOps.ofBits (F := Ideal) .f32 0x3F000000#32 * FloatOps.ofBits (F := Ideal) .f32 0x3F800000#32 : EReal) width
    * ((FloatOps.ofBits (F := Ideal) .f32 0x40000000#32 : EReal) * d) = d * factor := by
  have hh : (FloatOps.ofBits (F := Ideal) .f32 0x3F000000#32 : EReal) = ((1 / 2 : ℝ) : EReal) := by
    show Ideal.ofBits .f32 0x3F000000#32 = _
    simp [Ideal.ofBits, Ideal.ieee, -EReal.coe_mul]
    norm_num
  have ho : (FloatOps.ofBits (F := Ideal) .f32 0x3F800000#32 : EReal) = ((1 : ℝ) : EReal) := by
    show Ideal.ofBits .f32 0x3F800000#32 = _
    simp [Ideal.ofBits, Ideal.ieee, -EReal.coe_mul]
    norm_num
  have ht : (FloatOps.ofBits (F := Ideal) .f32 0x40000000#32 : EReal) = ((2 : ℝ) : EReal) := by
    show Ideal.ofBits .f32 0x40000000#32 = _
    simp [Ideal.ofBits, Ideal.ieee, -EReal.coe_mul]
    norm_num
  have hf : factor = (((2048 : ℝ)⁻¹ : ℝ) : EReal) := by
    show Ideal.ofBits .f32 0x3A000000#32 = _
    simp [Ideal.ofBits, Ideal.ieee, -EReal.coe_mul]
    norm_num
  rw [div_width, hh, ho, ht, hf, ← mul_assoc, mul_comm]
  refine congrArg (d * ·) ?_
  norm_cast
  norm_num

/-- The difference of one entry from its target. -/
def diff {a : ℕ} (x y : FVec Ideal (⟨2, ![a, 2048]⟩ : Shape) .f32) (g : FVec Ideal S1x2048 .f32) (i : Fin a) (j : Fin 2048) : EReal :=
  (x (ix2 i j) : EReal) * scale (fun k => x (ix2 i k)) * (g (ix2 0 j) : EReal) - (y (ix2 i j) : EReal)

/-- A block's differences. -/
theorem diff_block (x y : FVec Ideal S256x2048 .f32) (g : FVec Ideal S1x2048 .f32) (i : Fin 256) (j : Fin 2048) :
    (k0_pay6 (F := Ideal) x g y (ix2 i j) : EReal) = diff x y g i j := by
  unfold k0_pay6 diff
  refine congrArg (fun w : EReal => w - (y (ix2 i j) : EReal)) (congrArg₂ (· * ·) (congrArg ((x (ix2 i j) : EReal) * ·) ?_) (row_at g _ (by decide) i j))
  exact (column_at _ _ (by decide) i j).trans (scale_at x _ _ _ _ i 0)

/-- A block's gradient of the normed stream. -/
theorem dy_block (x y : FVec Ideal S256x2048 .f32) (g : FVec Ideal S1x2048 .f32) (i : Fin 256) (j : Fin 2048) :
    (k0_pay7 (F := Ideal) x g y (ix2 i j) : EReal) = diff x y g i j * factor := by
  unfold k0_pay7
  exact congrArg (· * factor) (diff_block x y g i j)

/-- A block's gradient. -/
theorem grad_block (x y : FVec Ideal S256x2048 .f32) (g : FVec Ideal S1x2048 .f32) (i : Fin 256) (j : Fin 2048) :
    (k0_pay10 (F := Ideal) x g y (ix2 i j) : EReal)
      = grad (fun k => x (ix2 i k)) (fun k => diff x y g i k * factor * (g (ix2 0 k) : EReal)) j := by
  unfold k0_pay10 k0_pay9
  refine (grad_at (by decide) x (mulf (k0_pay7 x g y) (broadcastTo S256x2048 g broadcasts_S1x2048_S256x2048)) (k0_pay8 x)
    (fun i u => scale_at x _ _ _ _ i u) _ _ _ _ _ i j).trans ?_
  exact congrArg (fun z => grad (fun k => x (ix2 i k)) z j)
    (funext fun k => congrArg₂ (· * ·) (dy_block x y g i k) (row_at g _ (by decide) i k))

/-- A block's squared differences added up over its rows, after what is there already. -/
theorem squares_block (x y : FVec Ideal S256x2048 .f32) (g acc : FVec Ideal S1x2048 .f32) (u : Fin 1) (j : Fin 2048) :
    (k0_pay5 (F := Ideal) (k0_pay6 x g y) acc (ix2 u j) : EReal) = (acc (ix2 u j) : EReal) + ∑ i : Fin 256, diff x y g i j * diff x y g i j := by
  unfold k0_pay5
  rw [shapeCast_self]
  exact add_congr rfl ((colsum_at _ _ _ _ _ u j).trans (sum_mul_congr (fun i => diff_block x y g i j) fun i => diff_block x y g i j))

section Reference
variable (x y : (⟨S2048x2048, .f32⟩ : BufTy).Contents (Elt Ideal)) (g : (⟨S1x2048, .f32⟩ : BufTy).Contents (Elt Ideal))

/-- The reference's differences. -/
theorem ref_diff (i j : Fin 2048) : (val_main_v17 (F := Ideal) x y g (ix2 i j) : EReal) = diff x y g i j := by
  unfold diff
  refine (val_main_v17_apply (F := Ideal) x y g _).trans (congrArg (fun w : EReal => w - (y (ix2 i j) : EReal)) ?_)
  refine (val_main_v16_apply (F := Ideal) x g _).trans (congrArg₂ (· * ·) ?_ ?_)
  · refine (val_main_v13_apply (F := Ideal) x _).trans (congrArg ((x (ix2 i j) : EReal) * ·) ((val_main_v12_apply (F := Ideal) x _).trans ?_))
    refine Eq.trans ?_ (Cert.NormBwdProof.ref_scale x i 0)
    exact congrArg (val_main_v8 (F := Ideal) x) (idx_ext rfl rfl)
  · refine (val_main_v15_apply (F := Ideal) g _).trans ((val_main_v14_apply (F := Ideal) g _).trans ((val_main_v0_apply (F := Ideal) g _).trans ?_))
    exact congrArg g (idx_ext rfl (by simp [idx_main_v0, idx_main_v14, idx_main_v15]))

/-- The reference's gradient of the normed stream. -/
theorem ref_dy (i j : Fin 2048) : (val_main_v31 (F := Ideal) x y g (ix2 i j) : EReal) = diff x y g i j * factor := by
  refine Eq.trans ?_ (factor_eq _)
  refine (val_main_v31_apply (F := Ideal) x y g _).trans (congrArg₂ (· * ·) ?_ ?_)
  · exact (val_main_v30_apply (F := Ideal) _).trans rfl
  · exact (val_main_v20_apply (F := Ideal) x y g _).trans (congrArg ((FloatOps.ofBits (F := Ideal) .f32 0x40000000#32 : EReal) * ·) (ref_diff x y g i j))

/-- The reference's gradient is the norm's backward of it. -/
theorem ref_bwd : val_main_v51 (F := Ideal) x y g
    = Cert.NormBwdRefIdeal.Read.val_main_v36 (F := Ideal) x g (val_main_v31 (F := Ideal) x y g) := rfl

/-- The reference's gradient of the weight is the norm's backward of it. -/
theorem ref_bwd_weight : val_main_v53 (F := Ideal) x y g
    = Cert.NormBwdRefIdeal.Read.val_main_v39 (F := Ideal) x (val_main_v31 (F := Ideal) x y g) := rfl

/-- The reference computes the differences twice. -/
theorem ref_again : val_main_v68 (F := Ideal) x y g = val_main_v17 (F := Ideal) x y g := rfl

/-- The reference's gradient. -/
theorem ref_grad (i j : Fin 2048) : (val_main_v51 (F := Ideal) x y g (ix2 i j) : EReal)
    = grad (fun k => x (ix2 i k)) (fun k => diff x y g i k * factor * (g (ix2 0 k) : EReal)) j := by
  refine (congrFun (ref_bwd x y g) _).trans ((ref_grad_alone x g _ i j).trans ?_)
  exact congrArg (fun z => grad (fun k => x (ix2 i k)) z j) (funext fun k => congrArg (· * (g (ix2 0 k) : EReal)) (ref_dy x y g i k))

/-- The terms of one entry of the squared differences. -/
def squares (j k : Fin 2048) : EReal := diff x y g k j * diff x y g k j

/-- The reference's squared differences added up over the positions. -/
theorem ref_squares (u : Fin 1) (j : Fin 2048) : (val_main_v71 (F := Ideal) x y g (ix2 u j) : EReal) = ∑ k, squares x y g j k := by
  refine (val_main_v71_apply (F := Ideal) x y g _).trans ((val_main_v70_apply x y g _).trans ?_)
  have hd : ∀ k, (val_main_v68 (F := Ideal) x y g (idx_main_v70 (idx_main_v71 (ix2 u j)) k) : EReal) = diff x y g k j := fun k => by
    refine (congrFun (ref_again x y g) _).trans (Eq.trans ?_ (ref_diff x y g k j))
    exact congrArg (val_main_v17 (F := Ideal) x y g) (idx_ext rfl rfl)
  exact (add_congr Ideal.ofBits_zero_f32 (sum_mul_congr hd hd)).trans (zero_add _)

end Reference

theorem idx_0 : ∀ t : Fin grid0.N, win0_0.index t = ![t.val, 0] := by decide +kernel
theorem idx_1 : ∀ t : Fin grid0.N, win0_1.index t = ![t.val, 0] := by decide +kernel
theorem idx_2 : ∀ t : Fin grid0.N, win0_2.index t = ![0, 0] := by decide +kernel
theorem idx_3 : ∀ t : Fin grid0.N, win0_3.index t = ![t.val, 0] := by decide +kernel
theorem idx_4 : ∀ t : Fin grid0.N, win0_4.index t = ![t.val, 0] := by decide +kernel
theorem idx_5 : ∀ t : Fin grid0.N, win0_5.index t = ![0, 0] := by decide +kernel
theorem idx_6 : ∀ t : Fin grid0.N, win0_6.index t = ![0, 0] := by decide +kernel
theorem covers_3 : (cfg0.win 3).Covers := by decide +kernel
theorem covers_4 : (cfg0.win 4).Covers := by decide +kernel
theorem covers_5 : (cfg0.win 5).Covers := by decide +kernel
theorem covers_6 : (cfg0.win 6).Covers := by decide +kernel

theorem points : cfg0.N = 8 := by decide

/-- The row that row `i` of point `t`'s block is. -/
def row (t : Fin cfg0.N) (i : Fin 256) : Fin 2048 := ⟨t.val * 256 + i.val, by have := t.isLt; have := points; omega⟩

variable (m : (ℓ : Loc nD τ sig) → Buf (Elt Ideal) ℓ) (c : Dev nD)

theorem blk_0 (t : Fin cfg0.N) (i : Fin 256) (j : Fin 2048) :
    iblk m c 0 t (ix2 i j) = m (c, Proc.devRef .tc main_arg0) (ix2 (row t i) j) := by
  show m _ _ = m _ _
  congr 1
  unfold row
  blk_ext [idx_0 t]

theorem blk_1 (t : Fin cfg0.N) (i : Fin 256) (j : Fin 2048) :
    iblk m c 1 t (ix2 i j) = m (c, Proc.devRef .tc main_arg1) (ix2 (row t i) j) := by
  show m _ _ = m _ _
  congr 1
  unfold row
  blk_ext [idx_1 t]

theorem blk_2 (t : Fin cfg0.N) (u : Fin 1) (j : Fin 2048) :
    iblk m c 2 t (ix2 u j) = m (c, Proc.devRef .tc main_arg2) (ix2 u j) := by
  show m _ _ = m _ _
  congr 1
  blk_ext [idx_2 t]

theorem emb_3 (t : Fin cfg0.N) (i : Fin 256) (j : Fin 2048) : ((cfg0.win 3).blk t).view.emb (ix2 i j) = ix2 (row t i) j := by
  unfold row
  blk_ext [idx_3 t]

theorem emb_4 (t : Fin cfg0.N) (i : Fin 256) (j : Fin 2048) : ((cfg0.win 4).blk t).view.emb (ix2 i j) = ix2 (row t i) j := by
  unfold row
  blk_ext [idx_4 t]

theorem emb_5 (t : Fin cfg0.N) (u : Fin 1) (j : Fin 2048) : ((cfg0.win 5).blk t).view.emb (ix2 u j) = ix2 u j := by
  blk_ext [idx_5 t]

theorem emb_6 (t : Fin cfg0.N) (u : Fin 1) (j : Fin 2048) : ((cfg0.win 6).blk t).view.emb (ix2 u j) = ix2 u j := by
  blk_ext [idx_6 t]

/-- A block's difference is the whole's. -/
theorem diff_at (t : Fin cfg0.N) (i : Fin 256) (j : Fin 2048) : diff (iblk m c 0 t) (iblk m c 1 t) (iblk m c 2 t) i j
    = diff (a := 2048) (m (c, Proc.devRef .tc main_arg0)) (m (c, Proc.devRef .tc main_arg1)) (m (c, Proc.devRef .tc main_arg2)) (row t i) j := by
  unfold diff
  exact congrArg₂ (fun a b : EReal => a - b)
    (congrArg₂ (· * ·) (congrArg₂ (· * ·) (blk_0 m c t i j) (congrArg scale (funext fun k => blk_0 m c t i k))) (blk_2 m c t 0 j)) (blk_1 m c t i j)

/-- What every point leaves in the gradient's block. -/
theorem outs_3 (t : Fin cfg0.N) : (outsAt0 m c t.val t.isLt).1 = k0_pay10 (F := Ideal) (iblk m c 0 t) (iblk m c 2 t) (iblk m c 1 t) := by
  by_cases h0 : t.val % 8 = 0
  · rw [outsAt0_A m c t h0]
    dsimp only
    exact first_3 ..
  · rw [outsAt0_B m c t h0]
    dsimp only
    exact later_3 ..

/-- What every point leaves in the rounded gradient's block. -/
theorem outs_4 (t : Fin cfg0.N) : (outsAt0 m c t.val t.isLt).2.1 = k0_pay1 (F := Ideal) (k0_pay10 (iblk m c 0 t) (iblk m c 2 t) (iblk m c 1 t)) := by
  by_cases h0 : t.val % 8 = 0
  · rw [outsAt0_A m c t h0]
    dsimp only
    exact first_4 ..
  · rw [outsAt0_B m c t h0]
    dsimp only
    exact later_4 ..

/-- What the first point leaves in the weight's gradient. -/
theorem outs_5_first (t : Fin cfg0.N) (h0 : t.val % 8 = 0) : (outsAt0 m c t.val t.isLt).2.2.1 = k0_pay4 (F := Ideal) (k0_pay11 (iblk m c 0 t) (iblk m c 2 t) (iblk m c 1 t)) (k0_pay2 (F := Ideal)) := by
  rw [outsAt0_A m c t h0]
  dsimp only
  exact first_5 ..

/-- What a later point leaves in the weight's gradient. -/
theorem outs_5_later (t : Fin cfg0.N) (h0 : ¬t.val % 8 = 0) : (outsAt0 m c t.val t.isLt).2.2.1
    = k0_pay4 (F := Ideal) (k0_pay11 (iblk m c 0 t) (iblk m c 2 t) (iblk m c 1 t)) (outsAt0 m c (t.val - 1) (Nat.lt_of_le_of_lt (Nat.sub_le ..) t.isLt)).2.2.1 := by
  rw [outsAt0_B m c t h0]
  dsimp only
  exact later_5 ..

/-- What the first point leaves in the squared differences. -/
theorem outs_6_first (t : Fin cfg0.N) (h0 : t.val % 8 = 0) : (outsAt0 m c t.val t.isLt).2.2.2 = k0_pay5 (F := Ideal) (k0_pay6 (iblk m c 0 t) (iblk m c 2 t) (iblk m c 1 t)) (k0_pay3 (F := Ideal)) := by
  rw [outsAt0_A m c t h0]
  dsimp only
  exact first_6 ..

/-- What a later point leaves in the squared differences. -/
theorem outs_6_later (t : Fin cfg0.N) (h0 : ¬t.val % 8 = 0) : (outsAt0 m c t.val t.isLt).2.2.2
    = k0_pay5 (F := Ideal) (k0_pay6 (iblk m c 0 t) (iblk m c 2 t) (iblk m c 1 t)) (outsAt0 m c (t.val - 1) (Nat.lt_of_le_of_lt (Nat.sub_le ..) t.isLt)).2.2.2 := by
  rw [outsAt0_B m c t h0]
  dsimp only
  exact later_6 ..

/-- The reference's gradient. -/
abbrev dx : (⟨S2048x2048, .f32⟩ : BufTy).Contents (Elt Ideal) :=
  val_main_v51 (F := Ideal) (m (c, Proc.devRef .tc main_arg0)) (m (c, Proc.devRef .tc main_arg1)) (m (c, Proc.devRef .tc main_arg2))

/-- A point leaves the reference's rows of the gradient. -/
theorem rows_at (t : Fin cfg0.N) (i : Fin 256) (j : Fin 2048) :
    (k0_pay10 (F := Ideal) (iblk m c 0 t) (iblk m c 2 t) (iblk m c 1 t) (ix2 i j) : EReal) = dx m c (ix2 (row t i) j) := by
  refine ((grad_block _ _ _ i j).trans ?_).trans (ref_grad _ _ _ _ _).symm
  exact congrArg₂ (fun x z => grad x z j) (funext fun k => blk_0 m c t i k)
    (funext fun k => congrArg₂ (· * ·) (congrArg (· * factor) (diff_at m c t i k)) (blk_2 m c t 0 k))

/-- The reference's gradient of the normed stream. -/
abbrev dy : (⟨S2048x2048, .f32⟩ : BufTy).Contents (Elt Ideal) :=
  val_main_v31 (F := Ideal) (m (c, Proc.devRef .tc main_arg0)) (m (c, Proc.devRef .tc main_arg1)) (m (c, Proc.devRef .tc main_arg2))

/-- The terms of one entry of the weight's gradient. -/
abbrev tm (j : Fin 2048) : Fin 2048 → EReal := terms (m (c, Proc.devRef .tc main_arg0)) (dy m c) j

/-- The terms of one entry of the squared differences. -/
abbrev sqs (j : Fin 2048) : Fin 2048 → EReal :=
  squares (m (c, Proc.devRef .tc main_arg0)) (m (c, Proc.devRef .tc main_arg1)) (m (c, Proc.devRef .tc main_arg2)) j

/-- A point's column sums are a chunk of the weight's gradient. -/
theorem chunk_at (t : Fin cfg0.N) (u : Fin 1) (j : Fin 2048) :
    (k0_pay11 (F := Ideal) (iblk m c 0 t) (iblk m c 2 t) (iblk m c 1 t) (ix2 u j) : EReal) = chunk (tm m c j) 256 t.val := by
  refine (sums_block (k0_pay7 (F := Ideal) (iblk m c 0 t) (iblk m c 2 t) (iblk m c 1 t)) _ u j).trans (Finset.sum_congr rfl fun k _ => ?_)
  refine Eq.trans ?_ (ext_of (tm m c j) (row t k).isLt).symm
  refine congrArg₂ (· * ·) ?_ (congrArg₂ (· * ·) (blk_0 m c t k j) (congrArg scale (funext fun l => blk_0 m c t k l)))
  exact (dy_block _ _ _ k j).trans ((congrArg (· * factor) (diff_at m c t k j)).trans (ref_dy _ _ _ (row t k) j).symm)

/-- A point's squared differences are a chunk of them all. -/
theorem squares_at (t : Fin cfg0.N) (j : Fin 2048) :
    (∑ i : Fin 256, diff (iblk m c 0 t) (iblk m c 1 t) (iblk m c 2 t) i j * diff (iblk m c 0 t) (iblk m c 1 t) (iblk m c 2 t) i j)
      = chunk (sqs m c j) 256 t.val := by
  refine Finset.sum_congr rfl fun k _ => ?_
  refine Eq.trans ?_ (ext_of (sqs m c j) (row t k).isLt).symm
  exact congrArg₂ (· * ·) (diff_at m c t k j) (diff_at m c t k j)

/-- After a point the weight's gradient holds the chunks so far. -/
theorem sums_at : ∀ (n : ℕ) (hn : n < cfg0.N) (u : Fin 1) (j : Fin 2048),
    ((outsAt0 m c n hn).2.2.1 (ix2 u j) : EReal) = upto (tm m c j) 256 (n + 1) := by
  intro n
  induction n with
  | zero =>
    intro hn u j
    refine (congrFun (outs_5_first m c ⟨0, hn⟩ rfl) (ix2 u j)).trans ?_
    unfold k0_pay4
    rw [shapeCast_self]
    refine (add_congr Ideal.ofBits_zero_f32 (chunk_at m c ⟨0, hn⟩ u j)).trans ?_
    rw [upto_succ, upto_zero]
  | succ n ih =>
    intro hn u j
    have h8 := points
    refine (congrFun (outs_5_later m c ⟨n + 1, hn⟩ (by show ¬(n + 1) % 8 = 0; omega)) (ix2 u j)).trans ?_
    unfold k0_pay4
    rw [shapeCast_self]
    exact (add_congr (ih (Nat.lt_of_succ_lt hn) u j) (chunk_at m c ⟨n + 1, hn⟩ u j)).trans (upto_succ ..).symm

/-- After a point the squared differences hold the chunks so far. -/
theorem totals_at : ∀ (n : ℕ) (hn : n < cfg0.N) (u : Fin 1) (j : Fin 2048),
    ((outsAt0 m c n hn).2.2.2 (ix2 u j) : EReal) = upto (sqs m c j) 256 (n + 1) := by
  intro n
  induction n with
  | zero =>
    intro hn u j
    refine (congrFun (outs_6_first m c ⟨0, hn⟩ rfl) (ix2 u j)).trans ((squares_block _ _ _ _ u j).trans ?_)
    refine (add_congr Ideal.ofBits_zero_f32 (squares_at m c ⟨0, hn⟩ j)).trans ?_
    rw [upto_succ, upto_zero]
  | succ n ih =>
    intro hn u j
    have h8 := points
    refine (congrFun (outs_6_later m c ⟨n + 1, hn⟩ (by show ¬(n + 1) % 8 = 0; omega)) (ix2 u j)).trans ((squares_block _ _ _ _ u j).trans ?_)
    exact (add_congr (ih (Nat.lt_of_succ_lt hn) u j) (squares_at m c ⟨n + 1, hn⟩ j)).trans (upto_succ ..).symm

/-- The kernel's gradient: the reference's. -/
theorem out_array_3 : (dats m 0 c).arrAt 3 cfg0.N = val_main_v51 (F := Ideal) (m (c, Proc.devRef .tc main_arg0)) (m (c, Proc.devRef .tc main_arg1)) (m (c, Proc.devRef .tc main_arg2)) := by
  refine (dats m 0 c).arrAt_eq_of_covers 3 _ covers_3 fun t _ y => ?_
  have h : ((outsAt0 m c t.val t.isLt).1 y : EReal) = val_main_v51 (F := Ideal) (m (c, Proc.devRef .tc main_arg0)) (m (c, Proc.devRef .tc main_arg1)) (m (c, Proc.devRef .tc main_arg2)) (((cfg0.win 3).blk t).view.emb y) := by
    obtain ⟨i, j, rfl⟩ : ∃ (i : Fin 256) (j : Fin 2048), y = ix2 i j := ⟨y 0, y 1, eq_ix2 y⟩
    rw [emb_3 t i j, outs_3]
    exact rows_at m c t i j
  blk_simp
  rw [after0_3]
  generalize (outsAt0 m c t.val t.isLt).1 = W at h ⊢
  exact h

/-- The kernel's rounded gradient: the reference's. -/
theorem out_array_4 : (dats m 0 c).arrAt 4 cfg0.N = val_main_v52 (F := Ideal) (m (c, Proc.devRef .tc main_arg0)) (m (c, Proc.devRef .tc main_arg1)) (m (c, Proc.devRef .tc main_arg2)) := by
  refine (dats m 0 c).arrAt_eq_of_covers 4 _ covers_4 fun t _ y => ?_
  have h : ((outsAt0 m c t.val t.isLt).2.1 y : EReal) = val_main_v52 (F := Ideal) (m (c, Proc.devRef .tc main_arg0)) (m (c, Proc.devRef .tc main_arg1)) (m (c, Proc.devRef .tc main_arg2)) (((cfg0.win 4).blk t).view.emb y) := by
    obtain ⟨i, j, rfl⟩ : ∃ (i : Fin 256) (j : Fin 2048), y = ix2 i j := ⟨y 0, y 1, eq_ix2 y⟩
    rw [emb_4 t i j, outs_4]
    exact (rows_at m c t i j).trans (val_main_v52_apply (F := Ideal) _ _ _ _).symm
  blk_simp
  rw [after0_4]
  generalize (outsAt0 m c t.val t.isLt).2.1 = W at h ⊢
  exact h

/-- The kernel's weight's gradient: the reference's. -/
theorem out_array_5 : (dats m 0 c).arrAt 5 cfg0.N = val_main_v53 (F := Ideal) (m (c, Proc.devRef .tc main_arg0)) (m (c, Proc.devRef .tc main_arg1)) (m (c, Proc.devRef .tc main_arg2)) := by
  refine (dats m 0 c).arrAt_eq_of_covers 5 _ covers_5 fun t hf y => ?_
  have h : ((outsAt0 m c t.val t.isLt).2.2.1 y : EReal) = val_main_v53 (F := Ideal) (m (c, Proc.devRef .tc main_arg0)) (m (c, Proc.devRef .tc main_arg1)) (m (c, Proc.devRef .tc main_arg2)) (((cfg0.win 5).blk t).view.emb y) := by
    obtain ⟨u, j, rfl⟩ : ∃ (u : Fin 1) (j : Fin 2048), y = ix2 u j := ⟨y 0, y 1, eq_ix2 y⟩
    rw [emb_5 t u j]
    refine (sums_at m c t.val t.isLt u j).trans ((upto_all _ _ ?_).trans ((congrFun (ref_bwd_weight _ _ _) _).trans (ref_sums _ _ u j)).symm)
    have := (flush0_5 t).mp hf
    have := t.isLt
    have := points
    omega
  blk_simp
  rw [after0_5]
  generalize (outsAt0 m c t.val t.isLt).2.2.1 = W at h ⊢
  exact h

/-- The kernel's squared differences: the reference's. -/
theorem out_array_6 : (dats m 0 c).arrAt 6 cfg0.N = val_main_v71 (F := Ideal) (m (c, Proc.devRef .tc main_arg0)) (m (c, Proc.devRef .tc main_arg1)) (m (c, Proc.devRef .tc main_arg2)) := by
  refine (dats m 0 c).arrAt_eq_of_covers 6 _ covers_6 fun t hf y => ?_
  have h : ((outsAt0 m c t.val t.isLt).2.2.2 y : EReal) = val_main_v71 (F := Ideal) (m (c, Proc.devRef .tc main_arg0)) (m (c, Proc.devRef .tc main_arg1)) (m (c, Proc.devRef .tc main_arg2)) (((cfg0.win 6).blk t).view.emb y) := by
    obtain ⟨u, j, rfl⟩ : ∃ (u : Fin 1) (j : Fin 2048), y = ix2 u j := ⟨y 0, y 1, eq_ix2 y⟩
    rw [emb_6 t u j]
    refine (totals_at m c t.val t.isLt u j).trans ((upto_all _ _ ?_).trans (ref_squares _ _ _ u j).symm)
    have := (flush0_6 t).mp hf
    have := t.isLt
    have := points
    omega
  blk_simp
  rw [after0_6]
  generalize (outsAt0 m c t.val t.isLt).2.2.2 = W at h ⊢
  exact h

/-- The reference is host code and declares no semaphore. -/
theorem reference_quiescent : Cert.quiescent_NormLossRefIdeal (hNormLossRefIdeal := Cert.NormLossRefIdeal.Gen.facts) := fun m ρ _ =>
  (θ_run Cert.NormLossRefIdeal.defs _ _).mono (fun r h => ⟨fun c => (h c).2.2.2.2, sem_eq_zero_of_no_sems (by decide) r.2⟩)
    (Cert.NormLossRefIdeal.Value.run (F := Ideal) m ρ)

/-- Over the extended reals the kernel ends with the reference's arrays. -/
theorem values : Cert.algebraic_NormLossIdeal_NormLossRefIdeal (hNormLossIdeal := Cert.NormLossIdeal.Gen.facts)
    (hNormLossRefIdeal := Cert.NormLossRefIdeal.Gen.facts) := by
  intro m g m' g' _ hagree
  refine ⟨fun c => (dats m 0 c).arrAt 3 cfg0.N, fun c => (dats m 0 c).arrAt 4 cfg0.N, fun c => (dats m 0 c).arrAt 5 cfg0.N,
    fun c => (dats m 0 c).arrAt 6 cfg0.N, Cert.NormLossIdeal.Value.run_blocks m g, ?_⟩
  refine (θ_run Cert.NormLossRefIdeal.defs _ _).mono
    (fun r h c => ⟨(h c).1.trans ?_, (h c).2.1.trans ?_, (h c).2.2.1.trans ?_, (h c).2.2.2.1.trans ?_, (h c).2.2.2.2⟩)
    (Cert.NormLossRefIdeal.Value.run (F := Ideal) m' g')
  · obtain ⟨h0, h1, h2⟩ := hagree c
    refine (val_main_v51_eq _ _).trans ?_
    rw [h0, h1, h2]
    exact (out_array_3 m c).symm
  · obtain ⟨h0, h1, h2⟩ := hagree c
    refine (val_main_v52_eq _ _).trans ?_
    rw [h0, h1, h2]
    exact (out_array_4 m c).symm
  · obtain ⟨h0, h1, h2⟩ := hagree c
    refine (val_main_v53_eq _ _ _).trans ?_
    rw [h0, h1, h2]
    exact (out_array_5 m c).symm
  · obtain ⟨h0, h1, h2⟩ := hagree c
    refine (val_main_v71_eq _ _ _).trans ?_
    rw [h0, h1, h2]
    exact (out_array_6 m c).symm

end Cert.NormLossProof

end
-- ==== Proof.Norm.lean ====
/-
  The norm of the stream: the kernel takes 256 rows at a time, and a row's scale needs that row alone.
-/
module

public import proofs.«01_k».proof.Defs
public import proofs.«01_k».proof.Proof.NormRow
public import proofs.«01_k».proof.Proof.Gen.NormIdeal.Value
public import proofs.«01_k».proof.Proof.Gen.NormRefIdeal.Run
public import proofs.«01_k».proof.Proof.Gen.NormRefIdeal.Read
public import Idealize.ShloMosaic.Lib.Pipeline.ValueKit.Geometry

@[expose] public section

noncomputable section

namespace Cert.NormProof

open Idealize.ShloMosaic Idealize.ShloMosaic.ValueIdx Idealize.SL.Sem
open Cert.NormIdeal Cert.NormIdeal.Gen
open Cert.NormRefIdeal.Read Cert.Products Cert.NormRow Cert.Chunks
open scoped BigOperators

theorem hz : (![0, 0] : Fin 2 → ℕ) = fun _ => 0 := funext zero_off2

/-- The block a point leaves. -/
theorem block_at (x : FVec Ideal S256x2048 .f32) (g : FVec Ideal S1x2048 .f32) (i : Fin 256) (j : Fin 2048) :
    (out0_2 (F := Ideal) x g (ix2 i j) : EReal) = (x (ix2 i j) : EReal) * scale (fun k => x (ix2 i k)) * (g (ix2 0 j) : EReal) := by
  unfold out0_2
  rw [View.canon_unit_zero hz]
  unfold k0_pay1 r0_0 r0_1
  rw [View.ld_unit_zero (S := S256x2048) hz, View.ld_unit_zero (S := S1x2048) hz]
  exact congrArg₂ (· * ·) (congrArg ((x (ix2 i j) : EReal) * ·) ((column_at _ _ (by decide) i j).trans (scale_at x _ _ _ _ i 0)))
    (row_at g _ (by decide) i j)

/-- The reference's scale of a row. -/
theorem ref_scale (x : (⟨S2048x2048, .f32⟩ : BufTy).Contents (Elt Ideal)) (i : Fin 2048) (u : Fin 1) :
    (val_main_v8 (F := Ideal) x (ix2 i u) : EReal) = scale fun k => x (ix2 i k) := by
  have hs : (val_main_v3 (F := Ideal) x (ix2 i u) : EReal) = ∑ k : Fin 2048, (x (ix2 i k) : EReal) * (x (ix2 i k) : EReal) := by
    refine (val_main_v3_apply (F := Ideal) x _).trans ((val_main_v2_apply x _).trans ?_)
    refine (add_congr Ideal.ofBits_zero_f32 (sum_mul_congr (fun k => ?_) fun k => ?_)).trans (zero_add _)
    · exact congrArg x (idx_ext rfl rfl)
    · exact congrArg x (idx_ext rfl rfl)
  refine (val_main_v8_apply (F := Ideal) x _).trans ?_
  unfold scale var
  exact congrArg (fun s => Ideal.rsqrt (Ideal.div s width + small)) hs

/-- The reference's entry. -/
theorem ref_at (x : (⟨S2048x2048, .f32⟩ : BufTy).Contents (Elt Ideal)) (g : (⟨S1x2048, .f32⟩ : BufTy).Contents (Elt Ideal)) (i j : Fin 2048) :
    (val_main_v14 (F := Ideal) x g (ix2 i j) : EReal) = (x (ix2 i j) : EReal) * scale (fun k => x (ix2 i k)) * (g (ix2 0 j) : EReal) := by
  refine (val_main_v14_apply (F := Ideal) x g _).trans ((val_main_v13_apply (F := Ideal) x g _).trans (congrArg₂ (· * ·) ?_ ?_))
  · refine (val_main_v10_apply (F := Ideal) x _).trans (congrArg ((x (ix2 i j) : EReal) * ·) ((val_main_v9_apply (F := Ideal) x _).trans ?_))
    exact (congrArg (val_main_v8 (F := Ideal) x) (show idx_main_v9 (ix2 i j) = ix2 i 0 from idx_ext rfl rfl)).trans (ref_scale x i 0)
  · refine (val_main_v12_apply (F := Ideal) g _).trans ((val_main_v11_apply (F := Ideal) g _).trans ((val_main_v0_apply (F := Ideal) g _).trans ?_))
    exact congrArg g (idx_ext rfl (by simp [idx_main_v0, idx_main_v11, idx_main_v12]))

theorem idx_0 : ∀ t : Fin grid0.N, win0_0.index t = ![t.val, 0] := by decide +kernel
theorem idx_1 : ∀ t : Fin grid0.N, win0_1.index t = ![0, 0] := by decide +kernel
theorem idx_2 : ∀ t : Fin grid0.N, win0_2.index t = ![t.val, 0] := by decide +kernel
theorem covers_2 : (cfg0.win 2).Covers := by decide +kernel

theorem points : cfg0.N = 8 := by decide

/-- The row that row `i` of point `t`'s block is. -/
def row (t : Fin cfg0.N) (i : Fin 256) : Fin 2048 := ⟨t.val * 256 + i.val, by have := t.isLt; have := points; omega⟩

variable (m : (ℓ : Loc nD τ sig) → Buf (Elt Ideal) ℓ) (c : Dev nD)

theorem blk_0 (t : Fin cfg0.N) (i : Fin 256) (j : Fin 2048) :
    iblk m c 0 t (ix2 i j) = m (c, Proc.devRef .tc main_arg0) (ix2 (row t i) j) := by
  show m _ _ = m _ _
  congr 1
  unfold row
  blk_ext [idx_0 t]

theorem blk_1 (t : Fin cfg0.N) (u : Fin 1) (j : Fin 2048) :
    iblk m c 1 t (ix2 u j) = m (c, Proc.devRef .tc main_arg1) (ix2 u j) := by
  show m _ _ = m _ _
  congr 1
  blk_ext [idx_1 t]

theorem emb_2 (t : Fin cfg0.N) (i : Fin 256) (j : Fin 2048) : ((cfg0.win 2).blk t).view.emb (ix2 i j) = ix2 (row t i) j := by
  unfold row
  blk_ext [idx_2 t]

/-- A point leaves the reference's rows. -/
theorem rows_at (t : Fin cfg0.N) (i : Fin 256) (j : Fin 2048) :
    (out0_2 (F := Ideal) (iblk m c 0 t) (iblk m c 1 t) (ix2 i j) : EReal)
      = val_main_v14 (F := Ideal) (m (c, Proc.devRef .tc main_arg0)) (m (c, Proc.devRef .tc main_arg1)) (ix2 (row t i) j) := by
  refine ((block_at _ _ i j).trans ?_).trans (ref_at _ _ _ _).symm
  exact congrArg₂ (· * ·) (congrArg₂ (· * ·) (blk_0 m c t i j) (congrArg scale (funext fun k => blk_0 m c t i k))) (blk_1 m c t 0 j)

/-- The kernel's array is the reference's. -/
theorem out_array_2 : (dats m 0 c).arrAt 2 cfg0.N
    = val_main_v14 (F := Ideal) (m (c, Proc.devRef .tc main_arg0)) (m (c, Proc.devRef .tc main_arg1)) := by
  refine (dats m 0 c).arrAt_eq_of_covers 2 _ covers_2 fun t _ y => ?_
  have h : (out0_2 (F := Ideal) (iblk m c 0 t) (iblk m c 1 t) y : EReal)
      = val_main_v14 (F := Ideal) (m (c, Proc.devRef .tc main_arg0)) (m (c, Proc.devRef .tc main_arg1)) (((cfg0.win 2).blk t).view.emb y) := by
    obtain ⟨i, j, rfl⟩ : ∃ (i : Fin 256) (j : Fin 2048), y = ix2 i j := ⟨y 0, y 1, eq_ix2 y⟩
    rw [emb_2 t i j]
    exact rows_at m c t i j
  blk_simp
  rw [after0_2]
  generalize out0_2 (F := Ideal) (iblk m c 0 t) (iblk m c 1 t) = W at h ⊢
  exact h

/-- The reference is host code and declares no semaphore. -/
theorem reference_quiescent : Cert.quiescent_NormRefIdeal (hNormRefIdeal := Cert.NormRefIdeal.Gen.facts) := fun m ρ _ =>
  (θ_run Cert.NormRefIdeal.defs _ _).mono (fun r h => ⟨fun c => (h c).2, sem_eq_zero_of_no_sems (by decide) r.2⟩)
    (Cert.NormRefIdeal.Value.run (F := Ideal) m ρ)

/-- Over the extended reals the kernel ends with the reference's array. -/
theorem values : Cert.algebraic_NormIdeal_NormRefIdeal (hNormIdeal := Cert.NormIdeal.Gen.facts)
    (hNormRefIdeal := Cert.NormRefIdeal.Gen.facts) := by
  intro m g m' g' _ hagree
  refine ⟨fun c => (dats m 0 c).arrAt 2 cfg0.N, Cert.NormIdeal.Value.run_blocks m g, ?_⟩
  refine (θ_run Cert.NormRefIdeal.defs _ _).mono
    (fun r h c => ⟨(h c).1.trans ?_, (h c).2⟩) (Cert.NormRefIdeal.Value.run (F := Ideal) m' g')
  obtain ⟨h0, h1⟩ := hagree c
  refine (val_main_v14_eq _ _).trans ?_
  rw [h0, h1]
  exact (out_array_2 m c).symm

end Cert.NormProof

end
-- ==== Proof.ProjIn.lean ====
/-
  The product of the normed stream with the input weight: every tile is the product with 1024 of the weight's columns,
  over all 2048 rows, and so is the reference.
-/
module

public import proofs.«01_k».proof.Defs
public import proofs.«01_k».proof.Proof.Products
public import proofs.«01_k».proof.Proof.Gen.ProjInIdeal.Value
public import proofs.«01_k».proof.Proof.Gen.ProjInRefIdeal.Run
public import proofs.«01_k».proof.Proof.Gen.ProjInRefIdeal.Read
public import Idealize.ShloMosaic.Lib.Pipeline.ValueKit.Geometry

@[expose] public section

noncomputable section

namespace Cert.ProjInProof

open Idealize.ShloMosaic Idealize.ShloMosaic.ValueIdx Idealize.SL.Sem
open Cert.ProjInIdeal Cert.ProjInIdeal.Gen
open Cert.ProjInRefIdeal.Read Cert.Products
open scoped BigOperators

/-- One tile: the product over the weight's rows. -/
theorem tile_at (x0 : FVec Ideal S2048x2048 .bf16) (x1 : FVec Ideal S2048x1024 .bf16) (i : Fin 2048) (j : Fin 1024) :
    (out0_2 (F := Ideal) x0 x1 (ix2 i j) : EReal) = ∑ k : Fin 2048, x0 (ix2 i k) * x1 (ix2 k j) := by
  unfold out0_2
  rw [View.canon_cons_unit_lit _ _ _ zero_off2, ld_whole, ld_whole]
  exact nn_at dot_S2048x2048_S2048x1024_S2048x1024_1_0_0_1_n_n rfl rfl x0 x1 i j (fun _ => rfl) (fun _ => rfl) (fun _ => rfl) (fun _ => rfl)

/-- The reference's entry: the same product with the whole weight. -/
theorem ref_at (x0 : (⟨S2048x2048, .bf16⟩ : BufTy).Contents (Elt Ideal)) (x1 : (⟨S2048x14336, .bf16⟩ : BufTy).Contents (Elt Ideal)) (i : Fin 2048) (j : Fin 14336) :
    (val_main_v2 (F := Ideal) x0 x1 (ix2 i j) : EReal) = ∑ k : Fin 2048, x0 (ix2 i k) * x1 (ix2 k j) := by
  refine (val_main_v2_apply x0 x1 _).trans (Finset.sum_congr rfl fun k _ => ?_)
  exact congrArg₂ (· * ·) ((val_main_v0_apply (F := Ideal) x0 _).trans (congrArg x0 (idx_ext rfl rfl)))
    ((val_main_v1_apply (F := Ideal) x1 _).trans (congrArg x1 (idx_ext rfl rfl)))

theorem idx_0 : ∀ t : Fin grid0.N, win0_0.index t = ![0, 0] := by decide +kernel
theorem idx_1 : ∀ t : Fin grid0.N, win0_1.index t = ![0, (grid0.coords t 1).val] := by decide +kernel
theorem idx_2 : ∀ t : Fin grid0.N, win0_2.index t = ![0, (grid0.coords t 1).val] := by decide +kernel
theorem covers : (cfg0.win 2).Covers := by decide +kernel

/-- The column of the result that column `j` of a tile is. -/
def col (t : Fin cfg0.N) (j : Fin 1024) : Fin 14336 :=
  ⟨(grid0.coords t 1).val * 1024 + j.val, by have h : (grid0.coords t 1).val < 14 := (grid0.coords t 1).isLt; omega⟩

variable (m : (ℓ : Loc nD τ sig) → Buf (Elt Ideal) ℓ) (c : Dev nD)

theorem blk_0 (t : Fin cfg0.N) (i k : Fin 2048) :
    iblk m c 0 t (ix2 i k) = m (c, Proc.devRef .tc main_arg0) (ix2 i k) := by
  show V m c main_arg0 _ = V m c main_arg0 _
  congr 1
  blk_ext [idx_0 t]

theorem blk_1 (t : Fin cfg0.N) (k : Fin 2048) (j : Fin 1024) :
    iblk m c 1 t (ix2 k j) = m (c, Proc.devRef .tc main_arg1) (ix2 k (col t j)) := by
  show V m c main_arg1 _ = V m c main_arg1 _
  congr 1
  unfold col
  blk_ext [idx_1 t]

theorem emb_out (t : Fin cfg0.N) (i : Fin 2048) (j : Fin 1024) :
    ((cfg0.win 2).blk t).view.emb (ix2 i j) = ix2 i (col t j) := by
  unfold col
  blk_ext [idx_2 t]

/-- The kernel's array is the reference's. -/
theorem out_array : (dats m 0 c).arrAt 2 cfg0.N
    = val_main_v2 (F := Ideal) (m (c, Proc.devRef .tc main_arg0)) (m (c, Proc.devRef .tc main_arg1)) := by
  refine (dats m 0 c).arrAt_eq_of_covers 2 _ covers fun t _ y => ?_
  have h : (out0_2 (F := Ideal) (iblk m c 0 t) (iblk m c 1 t) y : EReal)
      = val_main_v2 (F := Ideal) (m (c, Proc.devRef .tc main_arg0)) (m (c, Proc.devRef .tc main_arg1)) (((cfg0.win 2).blk t).view.emb y) := by
    obtain ⟨i, j, rfl⟩ : ∃ (i : Fin 2048) (j : Fin 1024), y = ix2 i j := ⟨y 0, y 1, eq_ix2 y⟩
    rw [emb_out t i j]
    refine (tile_at _ _ i j).trans (Eq.trans ?_ (ref_at _ _ _ _).symm)
    exact Finset.sum_congr rfl fun k _ => congrArg₂ (· * ·) (blk_0 m c t i k) (blk_1 m c t k j)
  blk_simp
  rw [after0_2]
  generalize out0_2 (F := Ideal) (iblk m c 0 t) (iblk m c 1 t) = W at h ⊢
  exact h

/-- The reference is host code and declares no semaphore. -/
theorem reference_quiescent : Cert.quiescent_ProjInRefIdeal (hProjInRefIdeal := Cert.ProjInRefIdeal.Gen.facts) := fun m ρ _ =>
  (θ_run Cert.ProjInRefIdeal.defs _ _).mono (fun r h => ⟨fun c => (h c).2, sem_eq_zero_of_no_sems (by decide) r.2⟩)
    (Cert.ProjInRefIdeal.Value.run (F := Ideal) m ρ)

/-- Over the extended reals the kernel ends with the reference's array. -/
theorem values : Cert.algebraic_ProjInIdeal_ProjInRefIdeal (hProjInIdeal := Cert.ProjInIdeal.Gen.facts)
    (hProjInRefIdeal := Cert.ProjInRefIdeal.Gen.facts) := by
  intro m g m' g' _ hagree
  refine ⟨fun c => (dats m 0 c).arrAt 2 cfg0.N, Cert.ProjInIdeal.Value.run_blocks m g, ?_⟩
  refine (θ_run Cert.ProjInRefIdeal.defs _ _).mono (fun r h c => ⟨(h c).1.trans ?_, (h c).2⟩) (Cert.ProjInRefIdeal.Value.run (F := Ideal) m' g')
  obtain ⟨h0, h1⟩ := hagree c
  refine (val_main_v2_eq _ _).trans ?_
  rw [h0, h1]
  exact (out_array m c).symm

end Cert.ProjInProof

end
-- ==== Proof.MlpUp.lean ====
/-
  The wide half of the MLP: every tile is the product of the normed stream with 1024 of the weight's columns, over all 2048
  rows, kept once as it is and once as the square of its positive part; the reference does the same to whole arrays.
-/
module

public import proofs.«01_k».proof.Defs
public import proofs.«01_k».proof.Proof.Products
public import proofs.«01_k».proof.Proof.Gen.MlpUpIdeal.Value
public import proofs.«01_k».proof.Proof.Gen.MlpUpRefIdeal.Run
public import proofs.«01_k».proof.Proof.Gen.MlpUpRefIdeal.Read
public import Idealize.ShloMosaic.Lib.Pipeline.ValueKit.Geometry

@[expose] public section

noncomputable section

namespace Cert.MlpUpProof

open Idealize.ShloMosaic Idealize.ShloMosaic.ValueIdx Idealize.SL.Sem
open Cert.MlpUpIdeal Cert.MlpUpIdeal.Gen
open Cert.MlpUpRefIdeal.Read Cert.Products
open scoped BigOperators

/-- The square of the positive part. -/
def relu2 (z : Ideal .f32) : Ideal .f32 :=
  FloatOps.mulf (FloatOps.maximumf z (FloatOps.ofBits .f32 0x00000000#32)) (FloatOps.maximumf z (FloatOps.ofBits .f32 0x00000000#32))

/-- One tile of the product. -/
theorem prod_at (x0 : FVec Ideal S2048x2048 .bf16) (x1 : FVec Ideal S2048x1024 .bf16) (i : Fin 2048) (j : Fin 1024) :
    k0_pay1 (F := Ideal) x0 x1 (ix2 i j) = ∑ k : Fin 2048, x0 (ix2 i k) * x1 (ix2 k j) :=
  nn_at dot_S2048x2048_S2048x1024_S2048x1024_1_0_0_1_n_n rfl rfl x0 x1 i j (fun _ => rfl) (fun _ => rfl) (fun _ => rfl) (fun _ => rfl)

theorem tile_2 (x0 : FVec Ideal S2048x2048 .bf16) (x1 : FVec Ideal S2048x1024 .bf16) (i : Fin 2048) (j : Fin 1024) :
    (out0_2 (F := Ideal) x0 x1 (ix2 i j) : EReal) = ∑ k : Fin 2048, x0 (ix2 i k) * x1 (ix2 k j) := by
  unfold out0_2
  rw [View.canon_cons_unit_lit _ _ _ zero_off2, ld_whole, ld_whole]
  exact prod_at x0 x1 i j

theorem tile_3 (x0 : FVec Ideal S2048x2048 .bf16) (x1 : FVec Ideal S2048x1024 .bf16) (i : Fin 2048) (j : Fin 1024) :
    (out0_3 (F := Ideal) x0 x1 (ix2 i j) : EReal) = relu2 (∑ k : Fin 2048, x0 (ix2 i k) * x1 (ix2 k j)) := by
  unfold out0_3
  rw [View.canon_cons_unit_lit _ _ _ zero_off2, ld_whole, ld_whole]
  exact congrArg relu2 (prod_at x0 x1 i j)

/-- The reference's product. -/
theorem ref_2 (x0 : (⟨S2048x2048, .bf16⟩ : BufTy).Contents (Elt Ideal)) (x1 : (⟨S2048x8192, .bf16⟩ : BufTy).Contents (Elt Ideal)) (i : Fin 2048) (j : Fin 8192) :
    (val_main_v2 (F := Ideal) x0 x1 (ix2 i j) : EReal) = ∑ k : Fin 2048, x0 (ix2 i k) * x1 (ix2 k j) := by
  refine (val_main_v2_apply x0 x1 _).trans (Finset.sum_congr rfl fun k _ => ?_)
  exact congrArg₂ (· * ·) ((val_main_v0_apply (F := Ideal) x0 _).trans (congrArg x0 (idx_ext rfl rfl)))
    ((val_main_v1_apply (F := Ideal) x1 _).trans (congrArg x1 (idx_ext rfl rfl)))

theorem ref_3 (x0 : (⟨S2048x2048, .bf16⟩ : BufTy).Contents (Elt Ideal)) (x1 : (⟨S2048x8192, .bf16⟩ : BufTy).Contents (Elt Ideal)) (i : Fin 2048) (j : Fin 8192) :
    (val_main_v3 (F := Ideal) x0 x1 (ix2 i j) : EReal) = ∑ k : Fin 2048, x0 (ix2 i k) * x1 (ix2 k j) :=
  (val_main_v3_apply (F := Ideal) x0 x1 _).trans (ref_2 x0 x1 i j)

theorem ref_6 (x0 : (⟨S2048x2048, .bf16⟩ : BufTy).Contents (Elt Ideal)) (x1 : (⟨S2048x8192, .bf16⟩ : BufTy).Contents (Elt Ideal)) (i : Fin 2048) (j : Fin 8192) :
    (val_main_v6 (F := Ideal) x0 x1 (ix2 i j) : EReal) = relu2 (∑ k : Fin 2048, x0 (ix2 i k) * x1 (ix2 k j)) := by
  have h4 : val_main_v4 (F := Ideal) x0 x1 (ix2 i j)
      = FloatOps.maximumf (∑ k : Fin 2048, x0 (ix2 i k) * x1 (ix2 k j) : Ideal .f32) (FloatOps.ofBits .f32 0x00000000#32) :=
    (val_main_v4_apply (F := Ideal) x0 x1 _).trans (congrArg₂ FloatOps.maximumf (ref_2 x0 x1 i j)
      ((val_main_call0_v0_apply (F := Ideal) _).trans (val_main_call0_cst_apply (F := Ideal) _)))
  refine (val_main_v6_apply (F := Ideal) x0 x1 _).trans ?_
  exact (val_main_v5_apply (F := Ideal) x0 x1 _).trans (congrArg₂ FloatOps.mulf h4 h4)

theorem idx_0 : ∀ t : Fin grid0.N, win0_0.index t = ![0, 0] := by decide +kernel
theorem idx_1 : ∀ t : Fin grid0.N, win0_1.index t = ![0, (grid0.coords t 1).val] := by decide +kernel
theorem idx_2 : ∀ t : Fin grid0.N, win0_2.index t = ![0, (grid0.coords t 1).val] := by decide +kernel
theorem idx_3 : ∀ t : Fin grid0.N, win0_3.index t = ![0, (grid0.coords t 1).val] := by decide +kernel
theorem covers_2 : (cfg0.win 2).Covers := by decide +kernel
theorem covers_3 : (cfg0.win 3).Covers := by decide +kernel

/-- The column of the result that column `j` of a tile is. -/
def col (t : Fin cfg0.N) (j : Fin 1024) : Fin 8192 :=
  ⟨(grid0.coords t 1).val * 1024 + j.val, by have h : (grid0.coords t 1).val < 8 := (grid0.coords t 1).isLt; omega⟩

variable (m : (ℓ : Loc nD τ sig) → Buf (Elt Ideal) ℓ) (c : Dev nD)

theorem blk_0 (t : Fin cfg0.N) (i : Fin 2048) (k : Fin 2048) :
    iblk m c 0 t (ix2 i k) = m (c, Proc.devRef .tc main_arg0) (ix2 i k) := by
  show V m c main_arg0 _ = V m c main_arg0 _
  congr 1
  blk_ext [idx_0 t]

theorem blk_1 (t : Fin cfg0.N) (k : Fin 2048) (j : Fin 1024) :
    iblk m c 1 t (ix2 k j) = m (c, Proc.devRef .tc main_arg1) (ix2 k (col t j)) := by
  show V m c main_arg1 _ = V m c main_arg1 _
  congr 1
  unfold col
  blk_ext [idx_1 t]

theorem emb_2 (t : Fin cfg0.N) (i : Fin 2048) (j : Fin 1024) :
    ((cfg0.win 2).blk t).view.emb (ix2 i j) = ix2 i (col t j) := by
  unfold col
  blk_ext [idx_2 t]

theorem emb_3 (t : Fin cfg0.N) (i : Fin 2048) (j : Fin 1024) :
    ((cfg0.win 3).blk t).view.emb (ix2 i j) = ix2 i (col t j) := by
  unfold col
  blk_ext [idx_3 t]

/-- The kernel's hidden layer is the reference's. -/
theorem out_array_2 : (dats m 0 c).arrAt 2 cfg0.N
    = val_main_v3 (F := Ideal) (m (c, Proc.devRef .tc main_arg0)) (m (c, Proc.devRef .tc main_arg1)) := by
  refine (dats m 0 c).arrAt_eq_of_covers 2 _ covers_2 fun t _ y => ?_
  have h : (out0_2 (F := Ideal) (iblk m c 0 t) (iblk m c 1 t) y : EReal)
      = val_main_v3 (F := Ideal) (m (c, Proc.devRef .tc main_arg0)) (m (c, Proc.devRef .tc main_arg1))
        (((cfg0.win 2).blk t).view.emb y) := by
    obtain ⟨i, j, rfl⟩ : ∃ (i : Fin 2048) (j : Fin 1024), y = ix2 i j := ⟨y 0, y 1, eq_ix2 y⟩
    rw [emb_2 t i j]
    refine (tile_2 _ _ i j).trans (Eq.trans ?_ (ref_3 _ _ _ _).symm)
    exact sum_mul_congr (fun k => blk_0 m c t i k) (fun k => blk_1 m c t k j)
  blk_simp
  rw [after0_2]
  generalize out0_2 (F := Ideal) (iblk m c 0 t) (iblk m c 1 t) = W at h ⊢
  exact h

/-- The kernel's activation is the reference's. -/
theorem out_array_3 : (dats m 0 c).arrAt 3 cfg0.N
    = val_main_v6 (F := Ideal) (m (c, Proc.devRef .tc main_arg0)) (m (c, Proc.devRef .tc main_arg1)) := by
  refine (dats m 0 c).arrAt_eq_of_covers 3 _ covers_3 fun t _ y => ?_
  have h : (out0_3 (F := Ideal) (iblk m c 0 t) (iblk m c 1 t) y : EReal)
      = val_main_v6 (F := Ideal) (m (c, Proc.devRef .tc main_arg0)) (m (c, Proc.devRef .tc main_arg1))
        (((cfg0.win 3).blk t).view.emb y) := by
    obtain ⟨i, j, rfl⟩ : ∃ (i : Fin 2048) (j : Fin 1024), y = ix2 i j := ⟨y 0, y 1, eq_ix2 y⟩
    rw [emb_3 t i j]
    refine (tile_3 _ _ i j).trans (Eq.trans ?_ (ref_6 _ _ _ _).symm)
    exact congrArg relu2 (sum_mul_congr (fun k => blk_0 m c t i k) (fun k => blk_1 m c t k j))
  blk_simp
  rw [after0_3]
  generalize out0_3 (F := Ideal) (iblk m c 0 t) (iblk m c 1 t) = W at h ⊢
  exact h

/-- The reference is host code and declares no semaphore. -/
theorem reference_quiescent : Cert.quiescent_MlpUpRefIdeal (hMlpUpRefIdeal := Cert.MlpUpRefIdeal.Gen.facts) := fun m ρ _ =>
  (θ_run Cert.MlpUpRefIdeal.defs _ _).mono (fun r h => ⟨fun c => (h c).2.2, sem_eq_zero_of_no_sems (by decide) r.2⟩)
    (Cert.MlpUpRefIdeal.Value.run (F := Ideal) m ρ)

/-- Over the extended reals the kernel ends with the reference's arrays. -/
theorem values : Cert.algebraic_MlpUpIdeal_MlpUpRefIdeal (hMlpUpIdeal := Cert.MlpUpIdeal.Gen.facts)
    (hMlpUpRefIdeal := Cert.MlpUpRefIdeal.Gen.facts) := by
  intro m g m' g' _ hagree
  refine ⟨fun c => (dats m 0 c).arrAt 2 cfg0.N, fun c => (dats m 0 c).arrAt 3 cfg0.N, Cert.MlpUpIdeal.Value.run_blocks m g, ?_⟩
  refine (θ_run Cert.MlpUpRefIdeal.defs _ _).mono
    (fun r h c => ⟨(h c).1.trans ?_, (h c).2.1.trans ?_, (h c).2.2⟩) (Cert.MlpUpRefIdeal.Value.run (F := Ideal) m' g')
  · obtain ⟨h0, h1⟩ := hagree c
    refine (val_main_v3_eq _ _).trans ?_
    rw [h0, h1]
    exact (out_array_2 m c).symm
  · obtain ⟨h0, h1⟩ := hagree c
    refine (val_main_v6_eq _ _).trans ?_
    rw [h0, h1]
    exact (out_array_3 m c).symm

end Cert.MlpUpProof

end
-- ==== Proof.MlpDown.lean ====
/-
  The narrow half of the MLP: a tile of the residual stream plus a product over 8192 positions, which the kernel takes in
  four chunks of 2048, keeping the sum so far in a scratch array. The reference takes the product at once.
-/
module

public import proofs.«01_k».proof.Defs
public import proofs.«01_k».proof.Proof.Chunks
public import proofs.«01_k».proof.Proof.Gen.MlpDownIdeal.Value
public import proofs.«01_k».proof.Proof.Gen.MlpDownRefIdeal.Run
public import proofs.«01_k».proof.Proof.Gen.MlpDownRefIdeal.Read
public import Idealize.ShloMosaic.Lib.Pipeline.ValueKit.Geometry

@[expose] public section

noncomputable section

namespace Cert.MlpDownProof

open Idealize.ShloMosaic Idealize.ShloMosaic.ValueIdx Idealize.SL.Sem
open Cert.MlpDownIdeal Cert.MlpDownIdeal.Gen
open Cert.MlpDownRefIdeal.Read Cert.Products Cert.Chunks
open scoped BigOperators

theorem hz : (![0, 0] : Fin 2 → ℕ) = fun _ => 0 := funext zero_off2

section Points
variable (c : Dev nD) (i : grid0.Coords) {a3 : Memref sig .tc .vmem S1024x2048 .bf16} {h3 : a3.IsWhole} {a4 : Memref sig .tc .vmem S2048x1024 .bf16}
  {h4 : a4.IsWhole} {a5 a6 a7 : Memref sig .tc .vmem S1024x1024 .f32} {h5 : a5.IsWhole} {h6 : a6.IsWhole} {h7 : a7.IsWhole}
  (x0 : Vec Ideal S1024x2048 .bf16) (x1 : Vec Ideal S2048x1024 .bf16) (x2 acc : Vec Ideal S1024x1024 .f32)

/-- The first point of a run leaves its chunk in the scratch array. -/
theorem first_point (hc0 : cond0_0 i) (hc1 : ¬cond0_1 i) (hc2 : ¬cond0_2 i) :
    sout0_A_0 c i a3 h3 a4 h4 a5 h5 a6 h6 a7 h7 hc0 hc1 hc2 x0 x1 x2 = k0_pay1 x0 x1 := by
  unfold sout0_A_0
  rw [View.read_writes_eq_canon _ _ _ (scover0_A_0 c i a3 h3 a4 h4 a5 h5 a6 h6 a7 h7 hc0 hc1 hc2 x0 x1 x2)]
  unfold kernelRun0_A
  dsimp only
  rw [View.canon_unit_zero hz]
  unfold k0_pay2
  simp only [View.readAt_eq_ld, h3.read_unread, h4.read_unread, h5.read_unread, h7.read_unread, View.ld_unit_zero (S := S1024x2048) hz, View.ld_unit_zero (S := S2048x1024) hz,
    View.ld_unit_zero (S := S1024x1024) hz, shapeCast_self]

/-- A middle point adds its chunk to what the point before left. -/
theorem middle_point (hc0 : ¬cond0_0 i) (hc1 : cond0_1 i) (hc2 : ¬cond0_2 i) :
    sout0_B_0 c i a3 h3 a4 h4 a5 h5 a6 h6 a7 h7 hc0 hc1 hc2 x0 x1 x2 acc = addf acc (k0_pay1 x0 x1) := by
  unfold sout0_B_0
  rw [View.read_writes_eq_canon _ _ _ (scover0_B_0 c i a3 h3 a4 h4 a5 h5 a6 h6 a7 h7 hc0 hc1 hc2 x0 x1 x2 acc)]
  unfold kernelRun0_B
  dsimp only
  rw [View.canon_unit_zero hz]
  unfold k0_pay3
  simp only [View.readAt_eq_ld, h3.read_unread, h4.read_unread, h5.read_unread, h7.read_unread, View.ld_unit_zero (S := S1024x2048) hz, View.ld_unit_zero (S := S2048x1024) hz,
    View.ld_unit_zero (S := S1024x1024) hz, shapeCast_self]

/-- The last point adds its chunk and the residual stream, and leaves the tile. -/
theorem last_point (hc0 : ¬cond0_0 i) (hc1 : ¬cond0_1 i) (hc2 : cond0_2 i) :
    out0_C_3 c i a3 h3 a4 h4 a5 h5 a6 h6 a7 h7 hc0 hc1 hc2 x0 x1 x2 acc = addf (addf acc (k0_pay1 x0 x1)) x2 := by
  unfold out0_C_3
  rw [View.read_writes_eq_canon _ _ _ (cover0_C_3 c i a3 h3 a4 h4 a5 h5 a6 h6 a7 h7 hc0 hc1 hc2 x0 x1 x2 acc)]
  unfold kernelRun0_C
  dsimp only
  rw [View.canon_unit_zero hz]
  unfold k0_pay4
  simp only [View.readAt_eq_ld, h3.read_unread, h4.read_unread, h5.read_unread, h7.read_unread, View.ld_unit_zero (S := S1024x2048) hz, View.ld_unit_zero (S := S2048x1024) hz,
    View.ld_unit_zero (S := S1024x1024) hz]

end Points

/-- One chunk of the product. -/
theorem prod_at (x0 : FVec Ideal S1024x2048 .bf16) (x1 : FVec Ideal S2048x1024 .bf16) (i j : Fin 1024) :
    k0_pay1 (F := Ideal) x0 x1 (ix2 i j) = ∑ k : Fin 2048, x0 (ix2 i k) * x1 (ix2 k j) :=
  nn_at dot_S1024x2048_S2048x1024_S1024x1024_1_0_0_1_n_n rfl rfl x0 x1 i j (fun _ => rfl) (fun _ => rfl) (fun _ => rfl) (fun _ => rfl)

/-- The terms of one entry of the product. -/
def terms (x0 : (⟨S2048x8192, .bf16⟩ : BufTy).Contents (Elt Ideal)) (x1 : (⟨S8192x2048, .bf16⟩ : BufTy).Contents (Elt Ideal)) (i j : Fin 2048) (k : Fin 8192) : EReal :=
  (x0 (ix2 i k) : EReal) * (x1 (ix2 k j) : EReal)

/-- The reference's entry: the stream and the whole product. -/
theorem ref_at (x0 : (⟨S2048x8192, .bf16⟩ : BufTy).Contents (Elt Ideal)) (x1 : (⟨S8192x2048, .bf16⟩ : BufTy).Contents (Elt Ideal)) (x2 : (⟨S2048x2048, .f32⟩ : BufTy).Contents (Elt Ideal)) (i j : Fin 2048) :
    (val_main_v3 (F := Ideal) x0 x1 x2 (ix2 i j) : EReal) = x2 (ix2 i j) + ∑ k, terms x0 x1 i j k := by
  refine (val_main_v3_apply (F := Ideal) x0 x1 x2 _).trans (congrArg ((x2 (ix2 i j) : EReal) + ·) ?_)
  refine (val_main_v2_apply x0 x1 _).trans (Finset.sum_congr rfl fun k _ => ?_)
  exact congrArg₂ (· * ·) ((val_main_v0_apply (F := Ideal) x0 _).trans (congrArg x0 (idx_ext rfl rfl)))
    ((val_main_v1_apply (F := Ideal) x1 _).trans (congrArg x1 (idx_ext rfl rfl)))

theorem idx_0 : ∀ t : Fin grid0.N, win0_0.index t = ![t.val / 8, t.val % 4] := by decide +kernel
theorem idx_1 : ∀ t : Fin grid0.N, win0_1.index t = ![t.val % 4, t.val / 4 % 2] := by decide +kernel
theorem idx_2 : ∀ t : Fin grid0.N, win0_2.index t = ![t.val / 8, t.val / 4 % 2] := by decide +kernel
theorem idx_3 : ∀ t : Fin grid0.N, win0_3.index t = ![t.val / 8, t.val / 4 % 2] := by decide +kernel
theorem covers_3 : (cfg0.win 3).Covers := by decide +kernel

/-- The row of the result that row `i` of point `n`'s tile is. -/
def row (n : ℕ) (i : Fin 1024) : Fin 2048 := ⟨n / 8 % 2 * 1024 + i.val, by omega⟩

/-- The column of the result that column `j` of point `n`'s tile is. -/
def col (n : ℕ) (j : Fin 1024) : Fin 2048 := ⟨n / 4 % 2 * 1024 + j.val, by omega⟩

/-- Position `k` of point `n`'s chunk. -/
def pos (n : ℕ) (k : Fin 2048) : Fin 8192 := ⟨n % 4 * 2048 + k.val, by omega⟩

theorem low (t : Fin cfg0.N) : t.val / 8 % 2 = t.val / 8 := by
  have h : t.val < 16 := lt_of_lt_of_eq t.isLt N_0
  omega

variable (m : (ℓ : Loc nD τ sig) → Buf (Elt Ideal) ℓ) (c : Dev nD)

theorem blk_0 (t : Fin cfg0.N) (i : Fin 1024) (k : Fin 2048) :
    iblk m c 0 t (ix2 i k) = m (c, Proc.devRef .tc main_arg0) (ix2 (row t.val i) (pos t.val k)) := by
  show V m c main_arg0 _ = V m c main_arg0 _
  congr 1
  unfold row pos
  blk_ext [idx_0 t, low t]

theorem blk_1 (t : Fin cfg0.N) (k : Fin 2048) (j : Fin 1024) :
    iblk m c 1 t (ix2 k j) = m (c, Proc.devRef .tc main_arg1) (ix2 (pos t.val k) (col t.val j)) := by
  show V m c main_arg1 _ = V m c main_arg1 _
  congr 1
  unfold pos col
  blk_ext [idx_1 t]

theorem blk_2 (t : Fin cfg0.N) (i j : Fin 1024) :
    iblk m c 2 t (ix2 i j) = m (c, Proc.devRef .tc main_arg2) (ix2 (row t.val i) (col t.val j)) := by
  show V m c main_arg2 _ = V m c main_arg2 _
  congr 1
  unfold row col
  blk_ext [idx_2 t, low t]

theorem emb_3 (t : Fin cfg0.N) (i j : Fin 1024) :
    ((cfg0.win 3).blk t).view.emb (ix2 i j) = ix2 (row t.val i) (col t.val j) := by
  unfold row col
  blk_ext [idx_3 t, low t]

/-- The terms of the entry that place `i, j` of point `n`'s tile is. -/
abbrev tm (n : ℕ) (i j : Fin 1024) : Fin 8192 → EReal :=
  terms (m (c, Proc.devRef .tc main_arg0)) (m (c, Proc.devRef .tc main_arg1)) (row n i) (col n j)

/-- A point's product is its chunk. -/
theorem chunk_at (t : Fin cfg0.N) (i j : Fin 1024) :
    (k0_pay1 (F := Ideal) (iblk m c 0 t) (iblk m c 1 t) (ix2 i j) : EReal) = chunk (tm m c t.val i j) 2048 (t.val % 4) := by
  refine (prod_at _ _ i j).trans (Finset.sum_congr rfl fun k _ => ?_)
  refine Eq.trans ?_ (ext_of (tm m c t.val i j) (pos t.val k).isLt).symm
  exact congrArg₂ (· * ·) (blk_0 m c t i k) (blk_1 m c t k j)

/-- Within a run of four points the tile stays. -/
theorem tm_succ (n : ℕ) (h : (n + 1) % 4 ≠ 0) (i j : Fin 1024) : tm m c (n + 1) i j = tm m c n i j := by
  have hr : row (n + 1) i = row n i := Fin.ext (by show (n + 1) / 8 % 2 * 1024 + i.val = n / 8 % 2 * 1024 + i.val; omega)
  have hc : col (n + 1) j = col n j := Fin.ext (by show (n + 1) / 4 % 2 * 1024 + j.val = n / 4 % 2 * 1024 + j.val; omega)
  show terms _ _ _ _ = terms _ _ _ _
  rw [hr, hc]

/-- What the scratch array holds after a run's first point. -/
theorem scratch_first (t : Fin cfg0.N) (h0 : t.val % 4 = 0) :
    (outsAt0 m c t.val t.isLt).2 = k0_pay1 (F := Ideal) (iblk m c 0 t) (iblk m c 1 t) := by
  rw [outsAt0_A m c t h0 (by omega) (by omega)]
  dsimp only
  exact first_point ..

/-- What the scratch array holds after a middle point. -/
theorem scratch_middle (t : Fin cfg0.N) (h0 : ¬t.val % 4 = 0) (h3 : ¬t.val % 4 = 3) :
    (outsAt0 m c t.val t.isLt).2
      = addf (outsAt0 m c (t.val - 1) (Nat.lt_of_le_of_lt (Nat.sub_le ..) t.isLt)).2 (k0_pay1 (F := Ideal) (iblk m c 0 t) (iblk m c 1 t)) := by
  rw [outsAt0_B m c t h0 (by omega) h3]
  dsimp only
  exact middle_point ..

/-- What the tile holds after a run's last point. -/
theorem tile_last (t : Fin cfg0.N) (h3 : t.val % 4 = 3) :
    (outsAt0 m c t.val t.isLt).1
      = addf (addf (outsAt0 m c (t.val - 1) (Nat.lt_of_le_of_lt (Nat.sub_le ..) t.isLt)).2
          (k0_pay1 (F := Ideal) (iblk m c 0 t) (iblk m c 1 t))) (iblk m c 2 t) := by
  rw [outsAt0_C m c t (by omega) (by omega) h3]
  dsimp only
  exact last_point ..

/-- Before a run's last point the scratch array holds the chunks so far. -/
theorem scratch_at : ∀ (n : ℕ) (hn : n < cfg0.N), n % 4 ≠ 3 → ∀ i j : Fin 1024,
    ((outsAt0 m c n hn).2 (ix2 i j) : EReal) = upto (tm m c n i j) 2048 (n % 4 + 1) := by
  have first : ∀ (n : ℕ) (hn : n < cfg0.N), n % 4 = 0 → ∀ i j : Fin 1024,
      ((outsAt0 m c n hn).2 (ix2 i j) : EReal) = upto (tm m c n i j) 2048 (n % 4 + 1) := by
    intro n hn h0 i j
    refine (congrFun (scratch_first m c ⟨n, hn⟩ h0) (ix2 i j)).trans ((chunk_at m c ⟨n, hn⟩ i j).trans ?_)
    rw [upto_succ, h0, upto_zero, zero_add]
  intro n
  induction n with
  | zero => exact fun hn _ => first 0 hn rfl
  | succ n ih =>
    intro hn h3 i j
    by_cases h0 : (n + 1) % 4 = 0
    · exact first (n + 1) hn h0 i j
    refine (congrFun (scratch_middle m c ⟨n + 1, hn⟩ h0 h3) (ix2 i j)).trans ?_
    refine (add_congr (ih (Nat.lt_of_succ_lt hn) (by omega) i j) (chunk_at m c ⟨n + 1, hn⟩ i j)).trans ?_
    rw [← tm_succ m c n h0 i j, show n % 4 + 1 = (n + 1) % 4 by omega]
    exact (upto_succ ..).symm

/-- At a run's last point the chunks so far and the last one are the whole product. -/
theorem whole_at (n : ℕ) (hn : n + 1 < cfg0.N) (h3 : (n + 1) % 4 = 3) (i j : Fin 1024) :
    ((outsAt0 m c n (Nat.lt_of_succ_lt hn)).2 (ix2 i j) : EReal) + chunk (tm m c (n + 1) i j) 2048 ((n + 1) % 4)
      = ∑ k, tm m c (n + 1) i j k := by
  refine (add_congr (scratch_at m c n (Nat.lt_of_succ_lt hn) (by omega) i j) rfl).trans ?_
  rw [← tm_succ m c n (by omega) i j, show n % 4 + 1 = (n + 1) % 4 by omega]
  refine (upto_succ ..).symm.trans (upto_all _ _ ?_)
  rw [h3]

/-- A run's last point leaves the reference's tile. -/
theorem tile_at (t : Fin cfg0.N) (h3 : t.val % 4 = 3) (i j : Fin 1024) :
    ((outsAt0 m c t.val t.isLt).1 (ix2 i j) : EReal)
      = val_main_v3 (F := Ideal) (m (c, Proc.devRef .tc main_arg0)) (m (c, Proc.devRef .tc main_arg1)) (m (c, Proc.devRef .tc main_arg2)) (ix2 (row t.val i) (col t.val j)) := by
  refine ((congrFun (tile_last m c t h3) (ix2 i j)).trans ?_).trans (ref_at _ _ _ _ _).symm
  obtain ⟨n, hn⟩ := t
  obtain ⟨n, rfl⟩ : ∃ k, n = k + 1 := ⟨n - 1, by have : n % 4 = 3 := h3; omega⟩
  refine (add_congr (add_congr rfl (chunk_at m c ⟨n + 1, hn⟩ i j)) (blk_2 m c ⟨n + 1, hn⟩ i j)).trans ((add_comm _ _).trans ?_)
  exact add_congr rfl (whole_at m c n hn h3 i j)

/-- The kernel's array is the reference's. -/
theorem out_array_3 : (dats m 0 c).arrAt 3 cfg0.N = val_main_v3 (F := Ideal) (m (c, Proc.devRef .tc main_arg0)) (m (c, Proc.devRef .tc main_arg1)) (m (c, Proc.devRef .tc main_arg2)) := by
  refine (dats m 0 c).arrAt_eq_of_covers 3 _ covers_3 fun t hf y => ?_
  have h : ((outsAt0 m c t.val t.isLt).1 y : EReal)
      = val_main_v3 (F := Ideal) (m (c, Proc.devRef .tc main_arg0)) (m (c, Proc.devRef .tc main_arg1)) (m (c, Proc.devRef .tc main_arg2))
        (((cfg0.win 3).blk t).view.emb y) := by
    obtain ⟨i, j, rfl⟩ : ∃ i j : Fin 1024, y = ix2 i j := ⟨y 0, y 1, eq_ix2 y⟩
    rw [emb_3 t i j]
    exact (tile_at m c t ((flush0_3 t).mp hf) i j)
  blk_simp
  rw [after0_3]
  generalize (outsAt0 m c t.val t.isLt).1 = W at h ⊢
  exact h

/-- The reference is host code and declares no semaphore. -/
theorem reference_quiescent : Cert.quiescent_MlpDownRefIdeal (hMlpDownRefIdeal := Cert.MlpDownRefIdeal.Gen.facts) := fun m ρ _ =>
  (θ_run Cert.MlpDownRefIdeal.defs _ _).mono (fun r h => ⟨fun c => (h c).2, sem_eq_zero_of_no_sems (by decide) r.2⟩)
    (Cert.MlpDownRefIdeal.Value.run (F := Ideal) m ρ)

/-- Over the extended reals the kernel ends with the reference's array. -/
theorem values : Cert.algebraic_MlpDownIdeal_MlpDownRefIdeal (hMlpDownIdeal := Cert.MlpDownIdeal.Gen.facts)
    (hMlpDownRefIdeal := Cert.MlpDownRefIdeal.Gen.facts) := by
  intro m g m' g' _ hagree
  refine ⟨fun c => (dats m 0 c).arrAt 3 cfg0.N, Cert.MlpDownIdeal.Value.run_blocks m g, ?_⟩
  refine (θ_run Cert.MlpDownRefIdeal.defs _ _).mono
    (fun r h c => ⟨(h c).1.trans ?_, (h c).2⟩) (Cert.MlpDownRefIdeal.Value.run (F := Ideal) m' g')
  obtain ⟨h0, h1, h2⟩ := hagree c
  refine (val_main_v3_eq _ _ _).trans ?_
  rw [h0, h1, h2]
  exact (out_array_3 m c).symm

end Cert.MlpDownProof

end
-- ==== Proof.ProjAttn.lean ====
/-
  The product of the attention branch with its weight: either tile is the product with half of the weight's columns,
  over all 2048 rows, and so is the reference.
-/
module

public import proofs.«01_k».proof.Defs
public import proofs.«01_k».proof.Proof.Products
public import proofs.«01_k».proof.Proof.Gen.ProjAttnIdeal.Value
public import proofs.«01_k».proof.Proof.Gen.ProjAttnRefIdeal.Run
public import proofs.«01_k».proof.Proof.Gen.ProjAttnRefIdeal.Read
public import Idealize.ShloMosaic.Lib.Pipeline.ValueKit.Geometry

@[expose] public section

noncomputable section

namespace Cert.ProjAttnProof

open Idealize.ShloMosaic Idealize.ShloMosaic.ValueIdx Idealize.SL.Sem
open Cert.ProjAttnIdeal Cert.ProjAttnIdeal.Gen
open Cert.ProjAttnRefIdeal.Read Cert.Products
open scoped BigOperators

/-- One tile: the product over the weight's rows. -/
theorem tile_at (x0 : FVec Ideal S2048x2048 .bf16) (x1 : FVec Ideal S2048x1024 .bf16) (i : Fin 2048) (j : Fin 1024) :
    (out0_2 (F := Ideal) x0 x1 (ix2 i j) : EReal) = ∑ k : Fin 2048, x0 (ix2 i k) * x1 (ix2 k j) := by
  unfold out0_2
  rw [View.canon_cons_unit_lit _ _ _ zero_off2, ld_whole, ld_whole]
  exact nn_at dot_S2048x2048_S2048x1024_S2048x1024_1_0_0_1_n_n rfl rfl x0 x1 i j (fun _ => rfl) (fun _ => rfl) (fun _ => rfl) (fun _ => rfl)

/-- The reference's entry: the same product with the whole weight. -/
theorem ref_at (x0 x1 : (⟨S2048x2048, .bf16⟩ : BufTy).Contents (Elt Ideal)) (i j : Fin 2048) :
    (val_main_v3 (F := Ideal) x0 x1 (ix2 i j) : EReal) = ∑ k : Fin 2048, x0 (ix2 i k) * x1 (ix2 k j) := by
  refine (val_main_v3_apply (F := Ideal) x0 x1 _).trans ?_
  refine (val_main_v2_apply x0 x1 _).trans (Finset.sum_congr rfl fun k _ => ?_)
  exact congrArg₂ (· * ·) ((val_main_v0_apply (F := Ideal) x0 _).trans (congrArg x0 (idx_ext rfl rfl)))
    ((val_main_v1_apply (F := Ideal) x1 _).trans (congrArg x1 (idx_ext rfl rfl)))

theorem idx_0 : ∀ t : Fin grid0.N, win0_0.index t = ![0, 0] := by decide +kernel
theorem idx_1 : ∀ t : Fin grid0.N, win0_1.index t = ![0, (grid0.coords t 1).val] := by decide +kernel
theorem idx_2 : ∀ t : Fin grid0.N, win0_2.index t = ![0, (grid0.coords t 1).val] := by decide +kernel
theorem covers : (cfg0.win 2).Covers := by decide +kernel

/-- The column of the result that column `j` of a tile is. -/
def col (t : Fin cfg0.N) (j : Fin 1024) : Fin 2048 :=
  ⟨(grid0.coords t 1).val * 1024 + j.val, by have h : (grid0.coords t 1).val < 2 := (grid0.coords t 1).isLt; omega⟩

variable (m : (ℓ : Loc nD τ sig) → Buf (Elt Ideal) ℓ) (c : Dev nD)

theorem blk_0 (t : Fin cfg0.N) (i k : Fin 2048) :
    iblk m c 0 t (ix2 i k) = m (c, Proc.devRef .tc main_arg0) (ix2 i k) := by
  show V m c main_arg0 _ = V m c main_arg0 _
  congr 1
  blk_ext [idx_0 t]

theorem blk_1 (t : Fin cfg0.N) (k : Fin 2048) (j : Fin 1024) :
    iblk m c 1 t (ix2 k j) = m (c, Proc.devRef .tc main_arg1) (ix2 k (col t j)) := by
  show V m c main_arg1 _ = V m c main_arg1 _
  congr 1
  unfold col
  blk_ext [idx_1 t]

theorem emb_out (t : Fin cfg0.N) (i : Fin 2048) (j : Fin 1024) :
    ((cfg0.win 2).blk t).view.emb (ix2 i j) = ix2 i (col t j) := by
  unfold col
  blk_ext [idx_2 t]

/-- The kernel's array is the reference's. -/
theorem out_array : (dats m 0 c).arrAt 2 cfg0.N
    = val_main_v3 (F := Ideal) (m (c, Proc.devRef .tc main_arg0)) (m (c, Proc.devRef .tc main_arg1)) := by
  refine (dats m 0 c).arrAt_eq_of_covers 2 _ covers fun t _ y => ?_
  have h : (out0_2 (F := Ideal) (iblk m c 0 t) (iblk m c 1 t) y : EReal)
      = val_main_v3 (F := Ideal) (m (c, Proc.devRef .tc main_arg0)) (m (c, Proc.devRef .tc main_arg1)) (((cfg0.win 2).blk t).view.emb y) := by
    obtain ⟨i, j, rfl⟩ : ∃ (i : Fin 2048) (j : Fin 1024), y = ix2 i j := ⟨y 0, y 1, eq_ix2 y⟩
    rw [emb_out t i j]
    refine (tile_at _ _ i j).trans (Eq.trans ?_ (ref_at _ _ _ _).symm)
    exact Finset.sum_congr rfl fun k _ => congrArg₂ (· * ·) (blk_0 m c t i k) (blk_1 m c t k j)
  blk_simp
  rw [after0_2]
  generalize out0_2 (F := Ideal) (iblk m c 0 t) (iblk m c 1 t) = W at h ⊢
  exact h

/-- The reference is host code and declares no semaphore. -/
theorem reference_quiescent : Cert.quiescent_ProjAttnRefIdeal (hProjAttnRefIdeal := Cert.ProjAttnRefIdeal.Gen.facts) := fun m ρ _ =>
  (θ_run Cert.ProjAttnRefIdeal.defs _ _).mono (fun r h => ⟨fun c => (h c).2, sem_eq_zero_of_no_sems (by decide) r.2⟩)
    (Cert.ProjAttnRefIdeal.Value.run (F := Ideal) m ρ)

/-- Over the extended reals the kernel ends with the reference's array. -/
theorem values : Cert.algebraic_ProjAttnIdeal_ProjAttnRefIdeal (hProjAttnIdeal := Cert.ProjAttnIdeal.Gen.facts)
    (hProjAttnRefIdeal := Cert.ProjAttnRefIdeal.Gen.facts) := by
  intro m g m' g' _ hagree
  refine ⟨fun c => (dats m 0 c).arrAt 2 cfg0.N, Cert.ProjAttnIdeal.Value.run_blocks m g, ?_⟩
  refine (θ_run Cert.ProjAttnRefIdeal.defs _ _).mono (fun r h c => ⟨(h c).1.trans ?_, (h c).2⟩) (Cert.ProjAttnRefIdeal.Value.run (F := Ideal) m' g')
  obtain ⟨h0, h1⟩ := hagree c
  refine (val_main_v3_eq _ _).trans ?_
  rw [h0, h1]
  exact (out_array m c).symm

end Cert.ProjAttnProof

end
-- ==== Proof.ProjLruMerge.lean ====
/-
  The recurrent branch's projection and the gated sum of the two branches: every tile is a product over all 2048 positions,
  kept as it is and put into the sum under its gate, and the reference does the same to whole arrays.
-/
module

public import proofs.«01_k».proof.Defs
public import proofs.«01_k».proof.Proof.Gates
public import proofs.«01_k».proof.Proof.Gen.ProjLruMergeIdeal.Value
public import proofs.«01_k».proof.Proof.Gen.ProjLruMergeRefIdeal.Run
public import proofs.«01_k».proof.Proof.Gen.ProjLruMergeRefIdeal.Read
public import Idealize.ShloMosaic.Lib.Pipeline.ValueKit.Geometry

@[expose] public section

noncomputable section

namespace Cert.ProjLruMergeProof

open Idealize.ShloMosaic Idealize.ShloMosaic.ValueIdx Idealize.SL.Sem
open Cert.ProjLruMergeIdeal Cert.ProjLruMergeIdeal.Gen
open Cert.ProjLruMergeRefIdeal.Read Cert.Products Cert.Gates
open scoped BigOperators

/-- One tile of the product. -/
theorem prod_at (x0 : FVec Ideal S1024x2048 .bf16) (x1 : FVec Ideal S2048x512 .bf16) (i : Fin 1024) (j : Fin 512) :
    k0_pay1 (F := Ideal) x0 x1 (ix2 i j) = ∑ k : Fin 2048, x0 (ix2 i k) * x1 (ix2 k j) :=
  nn_at dot_S1024x2048_S2048x512_S1024x512_1_0_0_1_n_n rfl rfl x0 x1 i j (fun _ => rfl) (fun _ => rfl) (fun _ => rfl) (fun _ => rfl)

theorem tile_5 (x0 : FVec Ideal S1024x2048 .bf16) (x1 : FVec Ideal S2048x512 .bf16) (x2 : FVec Ideal S1024x512 .bf16) (x3 x4 : FVec Ideal S1024x512 .f32) (i : Fin 1024) (j : Fin 512) :
    (out0_5 (F := Ideal) x0 x1 x2 x3 x4 (ix2 i j) : EReal) = ∑ k : Fin 2048, x0 (ix2 i k) * x1 (ix2 k j) := by
  unfold out0_5
  rw [View.canon_cons_unit_lit _ _ _ zero_off2, ld_whole, ld_whole]
  exact prod_at x0 x1 i j

theorem tile_6 (x0 : FVec Ideal S1024x2048 .bf16) (x1 : FVec Ideal S2048x512 .bf16) (x2 : FVec Ideal S1024x512 .bf16) (x3 x4 : FVec Ideal S1024x512 .f32) (i : Fin 1024) (j : Fin 512) :
    (out0_6 (F := Ideal) x0 x1 x2 x3 x4 (ix2 i j) : EReal)
      = gate (x3 (ix2 i j)) * x2 (ix2 i j) + gate (x4 (ix2 i j)) * ∑ k : Fin 2048, x0 (ix2 i k) * x1 (ix2 k j) := by
  unfold out0_6
  rw [View.canon_cons_unit_lit _ _ _ zero_off2, ld_whole, ld_whole, ld_whole, ld_whole, ld_whole]
  exact congrArg (fun z : EReal => (gate (x3 (ix2 i j)) * x2 (ix2 i j) + gate (x4 (ix2 i j)) * z : EReal)) (prod_at x0 x1 i j)

/-- The reference's product. -/
theorem ref_9 (x0 x1 : (⟨S2048x2048, .bf16⟩ : BufTy).Contents (Elt Ideal)) (i j : Fin 2048) :
    (val_main_v9 (F := Ideal) x0 x1 (ix2 i j) : EReal) = ∑ k : Fin 2048, x0 (ix2 i k) * x1 (ix2 k j) := by
  refine (val_main_v9_apply x0 x1 _).trans (Finset.sum_congr rfl fun k _ => ?_)
  exact congrArg₂ (· * ·) ((val_main_v7_apply (F := Ideal) x0 _).trans (congrArg x0 (idx_ext rfl rfl)))
    ((val_main_v8_apply (F := Ideal) x1 _).trans (congrArg x1 (idx_ext rfl rfl)))

theorem ref_26 (x0 x1 : (⟨S2048x2048, .bf16⟩ : BufTy).Contents (Elt Ideal)) (i j : Fin 2048) :
    (val_main_v26 (F := Ideal) x0 x1 (ix2 i j) : EReal) = ∑ k : Fin 2048, x0 (ix2 i k) * x1 (ix2 k j) :=
  (val_main_v26_apply (F := Ideal) x0 x1 _).trans (ref_9 x0 x1 i j)

theorem ref_colA (x3 : (⟨S2048x14336, .f32⟩ : BufTy).Contents (Elt Ideal)) (i j : Fin 2048) :
    val_main_v15 (F := Ideal) x3 (ix2 i j) = gate (x3 (ix2 i (colA j))) := by
  have hs : val_main_v5 (F := Ideal) x3 (ix2 i j) = x3 (ix2 i (colA j)) :=
    (val_main_v5_apply (F := Ideal) x3 _).trans (congrArg x3 (idx_ext rfl rfl))
  have he : val_main_v11 (F := Ideal) x3 (ix2 i j)
      = FloatOps.hostUnary (F := Ideal) (φ := .f32) .exp (FloatOps.hostNegf (F := Ideal) (φ := .f32) (x3 (ix2 i (colA j)))) :=
    (val_main_v11_apply (F := Ideal) x3 _).trans
      (congrArg (FloatOps.hostUnary (F := Ideal) (φ := .f32) .exp) ((val_main_v10_apply (F := Ideal) x3 _).trans (congrArg (FloatOps.hostNegf (F := Ideal) (φ := .f32)) hs)))
  refine ((val_main_v15_apply (F := Ideal) x3 _).trans (congrArg₂ (FloatOps.hostDivf (F := Ideal) (φ := .f32))
    ((val_main_v14_apply (F := Ideal) _).trans (val_main_cst_0_apply (F := Ideal) _)) ?_)).trans (host_gate _)
  exact (val_main_v13_apply (F := Ideal) x3 _).trans (congrArg₂ (FloatOps.addf (F := Ideal) (φ := .f32))
    ((val_main_v12_apply (F := Ideal) _).trans (val_main_cst_apply (F := Ideal) _)) he)

theorem ref_colL (x3 : (⟨S2048x14336, .f32⟩ : BufTy).Contents (Elt Ideal)) (i j : Fin 2048) :
    val_main_v23 (F := Ideal) x3 (ix2 i j) = gate (x3 (ix2 i (colL j))) := by
  have hs : val_main_v6 (F := Ideal) x3 (ix2 i j) = x3 (ix2 i (colL j)) :=
    (val_main_v6_apply (F := Ideal) x3 _).trans (congrArg x3 (idx_ext rfl rfl))
  have he : val_main_v19 (F := Ideal) x3 (ix2 i j)
      = FloatOps.hostUnary (F := Ideal) (φ := .f32) .exp (FloatOps.hostNegf (F := Ideal) (φ := .f32) (x3 (ix2 i (colL j)))) :=
    (val_main_v19_apply (F := Ideal) x3 _).trans
      (congrArg (FloatOps.hostUnary (F := Ideal) (φ := .f32) .exp) ((val_main_v18_apply (F := Ideal) x3 _).trans (congrArg (FloatOps.hostNegf (F := Ideal) (φ := .f32)) hs)))
  refine ((val_main_v23_apply (F := Ideal) x3 _).trans (congrArg₂ (FloatOps.hostDivf (F := Ideal) (φ := .f32))
    ((val_main_v22_apply (F := Ideal) _).trans (val_main_cst_2_apply (F := Ideal) _)) ?_)).trans (host_gate _)
  exact (val_main_v21_apply (F := Ideal) x3 _).trans (congrArg₂ (FloatOps.addf (F := Ideal) (φ := .f32))
    ((val_main_v20_apply (F := Ideal) _).trans (val_main_cst_1_apply (F := Ideal) _)) he)

/-- The reference's gated sum. -/
theorem ref_27 (x0 x1 x2 : (⟨S2048x2048, .bf16⟩ : BufTy).Contents (Elt Ideal)) (x3 : (⟨S2048x14336, .f32⟩ : BufTy).Contents (Elt Ideal)) (i j : Fin 2048) :
    (val_main_v27 (F := Ideal) x0 x1 x2 x3 (ix2 i j) : EReal)
      = gate (x3 (ix2 i (colA j))) * x2 (ix2 i j) + gate (x3 (ix2 i (colL j))) * ∑ k : Fin 2048, x0 (ix2 i k) * x1 (ix2 k j) := by
  refine (val_main_v27_apply (F := Ideal) x0 x1 x2 x3 _).trans ?_
  refine (val_main_v25_apply (F := Ideal) x0 x1 x2 x3 _).trans ?_
  refine congrArg₂ (· + ·) ((val_main_v17_apply (F := Ideal) x2 x3 _).trans ?_) ((val_main_v24_apply (F := Ideal) x0 x1 x3 _).trans ?_)
  · exact congrArg₂ (· * ·) (ref_colA x3 i j) (val_main_v16_apply (F := Ideal) x2 _)
  · exact congrArg₂ (· * ·) (ref_colL x3 i j) (ref_9 x0 x1 i j)

theorem idx_0 : ∀ t : Fin grid0.N, win0_0.index t = ![(grid0.coords t 0).val, 0] := by decide +kernel
theorem idx_1 : ∀ t : Fin grid0.N, win0_1.index t = ![0, (grid0.coords t 1).val] := by decide +kernel
theorem idx_2 : ∀ t : Fin grid0.N, win0_2.index t = ![(grid0.coords t 0).val, (grid0.coords t 1).val] := by decide +kernel
theorem idx_3 : ∀ t : Fin grid0.N, win0_3.index t = ![(grid0.coords t 0).val, 20 + (grid0.coords t 1).val] := by decide +kernel
theorem idx_4 : ∀ t : Fin grid0.N, win0_4.index t = ![(grid0.coords t 0).val, 24 + (grid0.coords t 1).val] := by decide +kernel
theorem idx_5 : ∀ t : Fin grid0.N, win0_5.index t = ![(grid0.coords t 0).val, (grid0.coords t 1).val] := by decide +kernel
theorem idx_6 : ∀ t : Fin grid0.N, win0_6.index t = ![(grid0.coords t 0).val, (grid0.coords t 1).val] := by decide +kernel
theorem covers_5 : (cfg0.win 5).Covers := by decide +kernel
theorem covers_6 : (cfg0.win 6).Covers := by decide +kernel

/-- The row of the result that row `i` of a tile is. -/
def row (t : Fin cfg0.N) (i : Fin 1024) : Fin 2048 :=
  ⟨(grid0.coords t 0).val * 1024 + i.val, by have h : (grid0.coords t 0).val < 2 := (grid0.coords t 0).isLt; omega⟩

/-- The column of the result that column `j` of a tile is. -/
def col (t : Fin cfg0.N) (j : Fin 512) : Fin 2048 :=
  ⟨(grid0.coords t 1).val * 512 + j.val, by have h : (grid0.coords t 1).val < 4 := (grid0.coords t 1).isLt; omega⟩

variable (m : (ℓ : Loc nD τ sig) → Buf (Elt Ideal) ℓ) (c : Dev nD)

theorem blk_0 (t : Fin cfg0.N) (i : Fin 1024) (k : Fin 2048) :
    iblk m c 0 t (ix2 i k) = m (c, Proc.devRef .tc main_arg0) (ix2 (row t i) k) := by
  show V m c main_arg0 _ = V m c main_arg0 _
  congr 1
  unfold row
  blk_ext [idx_0 t]

theorem blk_1 (t : Fin cfg0.N) (k : Fin 2048) (j : Fin 512) :
    iblk m c 1 t (ix2 k j) = m (c, Proc.devRef .tc main_arg1) (ix2 k (col t j)) := by
  show V m c main_arg1 _ = V m c main_arg1 _
  congr 1
  unfold col
  blk_ext [idx_1 t]

theorem blk_2 (t : Fin cfg0.N) (i : Fin 1024) (j : Fin 512) :
    iblk m c 2 t (ix2 i j) = m (c, Proc.devRef .tc main_arg2) (ix2 (row t i) (col t j)) := by
  show V m c main_arg2 _ = V m c main_arg2 _
  congr 1
  unfold row col
  blk_ext [idx_2 t]

theorem blk_3 (t : Fin cfg0.N) (i : Fin 1024) (j : Fin 512) :
    iblk m c 3 t (ix2 i j) = m (c, Proc.devRef .tc main_arg3) (ix2 (row t i) (colA (col t j))) := by
  show V m c main_arg3 _ = V m c main_arg3 _
  congr 1
  unfold row colA col
  blk_ext [idx_3 t]
  show (20 + (grid0.coords t 1).val) * 512 + j.val = 10240 + ((grid0.coords t 1).val * 512 + j.val)
  omega

theorem blk_4 (t : Fin cfg0.N) (i : Fin 1024) (j : Fin 512) :
    iblk m c 4 t (ix2 i j) = m (c, Proc.devRef .tc main_arg3) (ix2 (row t i) (colL (col t j))) := by
  show V m c main_arg3 _ = V m c main_arg3 _
  congr 1
  unfold row colL col
  blk_ext [idx_4 t]
  show (24 + (grid0.coords t 1).val) * 512 + j.val = 12288 + ((grid0.coords t 1).val * 512 + j.val)
  omega

theorem emb_5 (t : Fin cfg0.N) (i : Fin 1024) (j : Fin 512) :
    ((cfg0.win 5).blk t).view.emb (ix2 i j) = ix2 (row t i) (col t j) := by
  unfold row col
  blk_ext [idx_5 t]

theorem emb_6 (t : Fin cfg0.N) (i : Fin 1024) (j : Fin 512) :
    ((cfg0.win 6).blk t).view.emb (ix2 i j) = ix2 (row t i) (col t j) := by
  unfold row col
  blk_ext [idx_6 t]

/-- The kernel's projected recurrent branch is the reference's. -/
theorem out_array_5 : (dats m 0 c).arrAt 5 cfg0.N
    = val_main_v26 (F := Ideal) (m (c, Proc.devRef .tc main_arg0)) (m (c, Proc.devRef .tc main_arg1)) := by
  refine (dats m 0 c).arrAt_eq_of_covers 5 _ covers_5 fun t _ y => ?_
  have h : (out0_5 (F := Ideal) (iblk m c 0 t) (iblk m c 1 t) (iblk m c 2 t) (iblk m c 3 t) (iblk m c 4 t) y : EReal)
      = val_main_v26 (F := Ideal) (m (c, Proc.devRef .tc main_arg0)) (m (c, Proc.devRef .tc main_arg1))
        (((cfg0.win 5).blk t).view.emb y) := by
    obtain ⟨i, j, rfl⟩ : ∃ (i : Fin 1024) (j : Fin 512), y = ix2 i j := ⟨y 0, y 1, eq_ix2 y⟩
    rw [emb_5 t i j]
    refine (tile_5 _ _ _ _ _ i j).trans (Eq.trans ?_ (ref_26 _ _ _ _).symm)
    exact sum_mul_congr (fun k => blk_0 m c t i k) (fun k => blk_1 m c t k j)
  blk_simp
  rw [after0_5]
  generalize out0_5 (F := Ideal) (iblk m c 0 t) (iblk m c 1 t) (iblk m c 2 t) (iblk m c 3 t) (iblk m c 4 t) = W at h ⊢
  exact h

/-- The kernel's gated sum is the reference's. -/
theorem out_array_6 : (dats m 0 c).arrAt 6 cfg0.N
    = val_main_v27 (F := Ideal) (m (c, Proc.devRef .tc main_arg0)) (m (c, Proc.devRef .tc main_arg1)) (m (c, Proc.devRef .tc main_arg2)) (m (c, Proc.devRef .tc main_arg3)) := by
  refine (dats m 0 c).arrAt_eq_of_covers 6 _ covers_6 fun t _ y => ?_
  have h : (out0_6 (F := Ideal) (iblk m c 0 t) (iblk m c 1 t) (iblk m c 2 t) (iblk m c 3 t) (iblk m c 4 t) y : EReal)
      = val_main_v27 (F := Ideal) (m (c, Proc.devRef .tc main_arg0)) (m (c, Proc.devRef .tc main_arg1)) (m (c, Proc.devRef .tc main_arg2)) (m (c, Proc.devRef .tc main_arg3))
        (((cfg0.win 6).blk t).view.emb y) := by
    obtain ⟨i, j, rfl⟩ : ∃ (i : Fin 1024) (j : Fin 512), y = ix2 i j := ⟨y 0, y 1, eq_ix2 y⟩
    rw [emb_6 t i j]
    refine (tile_6 _ _ _ _ _ i j).trans (Eq.trans ?_ (ref_27 _ _ _ _ _ _).symm)
    exact congrArg₂ (· + ·) (congrArg₂ (· * ·) (congrArg gate (blk_3 m c t i j)) (blk_2 m c t i j))
      (congrArg₂ (· * ·) (congrArg gate (blk_4 m c t i j)) (sum_mul_congr (fun k => blk_0 m c t i k) (fun k => blk_1 m c t k j)))
  blk_simp
  rw [after0_6]
  generalize out0_6 (F := Ideal) (iblk m c 0 t) (iblk m c 1 t) (iblk m c 2 t) (iblk m c 3 t) (iblk m c 4 t) = W at h ⊢
  exact h

/-- The reference is host code and declares no semaphore. -/
theorem reference_quiescent : Cert.quiescent_ProjLruMergeRefIdeal (hProjLruMergeRefIdeal := Cert.ProjLruMergeRefIdeal.Gen.facts) := fun m ρ _ =>
  (θ_run Cert.ProjLruMergeRefIdeal.defs _ _).mono (fun r h => ⟨fun c => (h c).2.2, sem_eq_zero_of_no_sems (by decide) r.2⟩)
    (Cert.ProjLruMergeRefIdeal.Value.run (F := Ideal) m ρ)

/-- Over the extended reals the kernel ends with the reference's arrays. -/
theorem values : Cert.algebraic_ProjLruMergeIdeal_ProjLruMergeRefIdeal (hProjLruMergeIdeal := Cert.ProjLruMergeIdeal.Gen.facts)
    (hProjLruMergeRefIdeal := Cert.ProjLruMergeRefIdeal.Gen.facts) := by
  intro m g m' g' _ hagree
  refine ⟨fun c => (dats m 0 c).arrAt 5 cfg0.N, fun c => (dats m 0 c).arrAt 6 cfg0.N, Cert.ProjLruMergeIdeal.Value.run_blocks m g, ?_⟩
  refine (θ_run Cert.ProjLruMergeRefIdeal.defs _ _).mono
    (fun r h c => ⟨(h c).1.trans ?_, (h c).2.1.trans ?_, (h c).2.2⟩) (Cert.ProjLruMergeRefIdeal.Value.run (F := Ideal) m' g')
  · obtain ⟨h0, h1, h2, h3⟩ := hagree c
    refine (val_main_v26_eq _ _).trans ?_
    rw [h0, h1]
    exact (out_array_5 m c).symm
  · obtain ⟨h0, h1, h2, h3⟩ := hagree c
    refine (val_main_v27_eq _ _ _ _).trans ?_
    rw [h0, h1, h2, h3]
    exact (out_array_6 m c).symm

end Cert.ProjLruMergeProof

end
-- ==== Proof.MixOut.lean ====
/-
  The mixer's output: every tile adds to its part of the residual stream the product of a block of rows with a block of
  columns, over all 2048 positions between them, and so does the reference.
-/
module

public import proofs.«01_k».proof.Defs
public import proofs.«01_k».proof.Proof.Products
public import proofs.«01_k».proof.Proof.Gen.MixOutIdeal.Value
public import proofs.«01_k».proof.Proof.Gen.MixOutRefIdeal.Run
public import proofs.«01_k».proof.Proof.Gen.MixOutRefIdeal.Read
public import Idealize.ShloMosaic.Lib.Pipeline.ValueKit.Geometry

@[expose] public section

noncomputable section

namespace Cert.MixOutProof

open Idealize.ShloMosaic Idealize.ShloMosaic.ValueIdx Idealize.SL.Sem
open Cert.MixOutIdeal Cert.MixOutIdeal.Gen
open Cert.MixOutRefIdeal.Read Cert.Products
open scoped BigOperators

/-- One tile: the stream and the product. -/
theorem tile_at (x0 : FVec Ideal S1024x2048 .bf16) (x1 : FVec Ideal S2048x1024 .bf16) (x2 : FVec Ideal S1024x1024 .f32) (i j : Fin 1024) :
    (out0_3 (F := Ideal) x0 x1 x2 (ix2 i j) : EReal) = x2 (ix2 i j) + ∑ k : Fin 2048, x0 (ix2 i k) * x1 (ix2 k j) := by
  unfold out0_3
  rw [View.canon_cons_unit_lit _ _ _ zero_off2, ld_whole, ld_whole, ld_whole, add_comm]
  exact congrArg (· + (x2 (ix2 i j) : EReal)) (nn_at dot_S1024x2048_S2048x1024_S1024x1024_1_0_0_1_n_n rfl rfl x0 x1 i j
    (fun _ => rfl) (fun _ => rfl) (fun _ => rfl) (fun _ => rfl))

/-- The reference's entry: the same of whole arrays. -/
theorem ref_at (x0 x1 : (⟨S2048x2048, .bf16⟩ : BufTy).Contents (Elt Ideal)) (x2 : (⟨S2048x2048, .f32⟩ : BufTy).Contents (Elt Ideal)) (i j : Fin 2048) :
    (val_main_v3 (F := Ideal) x0 x1 x2 (ix2 i j) : EReal) = x2 (ix2 i j) + ∑ k : Fin 2048, x0 (ix2 i k) * x1 (ix2 k j) := by
  refine (val_main_v3_apply (F := Ideal) x0 x1 x2 _).trans (congrArg ((x2 (ix2 i j) : EReal) + ·) ?_)
  refine (val_main_v2_apply x0 x1 _).trans (Finset.sum_congr rfl fun k _ => ?_)
  exact congrArg₂ (· * ·) ((val_main_v0_apply (F := Ideal) x0 _).trans (congrArg x0 (idx_ext rfl rfl)))
    ((val_main_v1_apply (F := Ideal) x1 _).trans (congrArg x1 (idx_ext rfl rfl)))

theorem idx_0 : ∀ t : Fin grid0.N, win0_0.index t = ![(grid0.coords t 0).val, 0] := by decide +kernel
theorem idx_1 : ∀ t : Fin grid0.N, win0_1.index t = ![0, (grid0.coords t 1).val] := by decide +kernel
theorem idx_2 : ∀ t : Fin grid0.N, win0_2.index t = ![(grid0.coords t 0).val, (grid0.coords t 1).val] := by decide +kernel
theorem idx_3 : ∀ t : Fin grid0.N, win0_3.index t = ![(grid0.coords t 0).val, (grid0.coords t 1).val] := by decide +kernel
theorem covers_3 : (cfg0.win 3).Covers := by decide +kernel

/-- The row of the result that row `i` of a tile is. -/
def row (t : Fin cfg0.N) (i : Fin 1024) : Fin 2048 :=
  ⟨(grid0.coords t 0).val * 1024 + i.val, by have h : (grid0.coords t 0).val < 2 := (grid0.coords t 0).isLt; omega⟩

/-- The column of the result that column `j` of a tile is. -/
def col (t : Fin cfg0.N) (j : Fin 1024) : Fin 2048 :=
  ⟨(grid0.coords t 1).val * 1024 + j.val, by have h : (grid0.coords t 1).val < 2 := (grid0.coords t 1).isLt; omega⟩

variable (m : (ℓ : Loc nD τ sig) → Buf (Elt Ideal) ℓ) (c : Dev nD)

theorem blk_0 (t : Fin cfg0.N) (i : Fin 1024) (k : Fin 2048) :
    iblk m c 0 t (ix2 i k) = m (c, Proc.devRef .tc main_arg0) (ix2 (row t i) k) := by
  show V m c main_arg0 _ = V m c main_arg0 _
  congr 1
  unfold row
  blk_ext [idx_0 t]

theorem blk_1 (t : Fin cfg0.N) (k : Fin 2048) (j : Fin 1024) :
    iblk m c 1 t (ix2 k j) = m (c, Proc.devRef .tc main_arg1) (ix2 k (col t j)) := by
  show V m c main_arg1 _ = V m c main_arg1 _
  congr 1
  unfold col
  blk_ext [idx_1 t]

theorem blk_2 (t : Fin cfg0.N) (i : Fin 1024) (j : Fin 1024) :
    iblk m c 2 t (ix2 i j) = m (c, Proc.devRef .tc main_arg2) (ix2 (row t i) (col t j)) := by
  show V m c main_arg2 _ = V m c main_arg2 _
  congr 1
  unfold row col
  blk_ext [idx_2 t]

theorem emb_3 (t : Fin cfg0.N) (i : Fin 1024) (j : Fin 1024) :
    ((cfg0.win 3).blk t).view.emb (ix2 i j) = ix2 (row t i) (col t j) := by
  unfold row col
  blk_ext [idx_3 t]

/-- The kernel's array is the reference's. -/
theorem out_array_3 : (dats m 0 c).arrAt 3 cfg0.N
    = val_main_v3 (F := Ideal) (m (c, Proc.devRef .tc main_arg0)) (m (c, Proc.devRef .tc main_arg1)) (m (c, Proc.devRef .tc main_arg2)) := by
  refine (dats m 0 c).arrAt_eq_of_covers 3 _ covers_3 fun t _ y => ?_
  have h : (out0_3 (F := Ideal) (iblk m c 0 t) (iblk m c 1 t) (iblk m c 2 t) y : EReal)
      = val_main_v3 (F := Ideal) (m (c, Proc.devRef .tc main_arg0)) (m (c, Proc.devRef .tc main_arg1)) (m (c, Proc.devRef .tc main_arg2))
        (((cfg0.win 3).blk t).view.emb y) := by
    obtain ⟨i, j, rfl⟩ : ∃ (i : Fin 1024) (j : Fin 1024), y = ix2 i j := ⟨y 0, y 1, eq_ix2 y⟩
    rw [emb_3 t i j]
    refine (tile_at _ _ _ i j).trans (Eq.trans ?_ (ref_at _ _ _ _ _).symm)
    exact congrArg₂ (· + ·) (blk_2 m c t i j)
      (Finset.sum_congr rfl fun k _ => congrArg₂ (· * ·) (blk_0 m c t i k) (blk_1 m c t k j))
  blk_simp
  rw [after0_3]
  generalize out0_3 (F := Ideal) (iblk m c 0 t) (iblk m c 1 t) (iblk m c 2 t) = W at h ⊢
  exact h

/-- The reference is host code and declares no semaphore. -/
theorem reference_quiescent : Cert.quiescent_MixOutRefIdeal (hMixOutRefIdeal := Cert.MixOutRefIdeal.Gen.facts) := fun m ρ _ =>
  (θ_run Cert.MixOutRefIdeal.defs _ _).mono (fun r h => ⟨fun c => (h c).2, sem_eq_zero_of_no_sems (by decide) r.2⟩)
    (Cert.MixOutRefIdeal.Value.run (F := Ideal) m ρ)

/-- Over the extended reals the kernel ends with the reference's array. -/
theorem values : Cert.algebraic_MixOutIdeal_MixOutRefIdeal (hMixOutIdeal := Cert.MixOutIdeal.Gen.facts)
    (hMixOutRefIdeal := Cert.MixOutRefIdeal.Gen.facts) := by
  intro m g m' g' _ hagree
  refine ⟨fun c => (dats m 0 c).arrAt 3 cfg0.N, Cert.MixOutIdeal.Value.run_blocks m g, ?_⟩
  refine (θ_run Cert.MixOutRefIdeal.defs _ _).mono
    (fun r h c => ⟨(h c).1.trans ?_, (h c).2⟩) (Cert.MixOutRefIdeal.Value.run (F := Ideal) m' g')
  obtain ⟨h0, h1, h2⟩ := hagree c
  refine (val_main_v3_eq _ _ _).trans ?_
  rw [h0, h1, h2]
  exact (out_array_3 m c).symm

end Cert.MixOutProof

end
-- ==== Proof.lean ====
/-
  The proof of `Cert.Claim`. The first program is the backward pass of the dilated attention, one launch with its host
  code; the others are the calls of the step's products and norms, each with a reference of its own.

  Every program runs, keeps its arguments and leaves every counter at zero; the idealisation is the sanctioned one (for the
  attention with the mask constant named); and over the extended reals the kernel's result arrays are the reference's (for
  the attention on real arguments).

  The attention's value is `Cert.Body.out_array` (Proof/OutArray.lean); each other call's is the `values` of its own module.
  This file puts them beside the runs.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.OutArray
public import proofs.«01_k».proof.Proof.Finite
public import Idealize.ShloMosaic.Adequacy
public import Idealize.ShloMosaic.Init
public import proofs.«01_k».proof.Proof.Gen.MlpUpDw
public import proofs.«01_k».proof.Proof.Gen.MlpUpDw.Frame
public import proofs.«01_k».proof.Proof.Gen.MlpUpDwIdeal
public import proofs.«01_k».proof.Proof.Gen.MlpUpDwIdeal.Frame
public import proofs.«01_k».proof.Proof.Gen.MlpUpDwIdeal.Value
public import proofs.«01_k».proof.Proof.Gen.MlpUpDwRefIdeal
public import proofs.«01_k».proof.Proof.Gen.MlpUpDwRefIdeal.Run
public import proofs.«01_k».proof.Proof.Gen.MlpUpDwRefIdeal.Read
public import proofs.«01_k».proof.Proof.Gen.MlpDownDw
public import proofs.«01_k».proof.Proof.Gen.MlpDownDw.Frame
public import proofs.«01_k».proof.Proof.Gen.MlpDownDwIdeal
public import proofs.«01_k».proof.Proof.Gen.MlpDownDwIdeal.Frame
public import proofs.«01_k».proof.Proof.Gen.MlpDownDwIdeal.Value
public import proofs.«01_k».proof.Proof.Gen.MlpDownDwRefIdeal
public import proofs.«01_k».proof.Proof.Gen.MlpDownDwRefIdeal.Run
public import proofs.«01_k».proof.Proof.Gen.MlpDownDwRefIdeal.Read
public import proofs.«01_k».proof.Proof.Gen.ProjInDw
public import proofs.«01_k».proof.Proof.Gen.ProjInDw.Frame
public import proofs.«01_k».proof.Proof.Gen.ProjInDwIdeal
public import proofs.«01_k».proof.Proof.Gen.ProjInDwIdeal.Frame
public import proofs.«01_k».proof.Proof.Gen.ProjInDwIdeal.Value
public import proofs.«01_k».proof.Proof.Gen.ProjInDwRefIdeal
public import proofs.«01_k».proof.Proof.Gen.ProjInDwRefIdeal.Run
public import proofs.«01_k».proof.Proof.Gen.ProjInDwRefIdeal.Read
public import proofs.«01_k».proof.Proof.Gen.ProjInDx
public import proofs.«01_k».proof.Proof.Gen.ProjInDx.Frame
public import proofs.«01_k».proof.Proof.Gen.ProjInDxIdeal
public import proofs.«01_k».proof.Proof.Gen.ProjInDxIdeal.Frame
public import proofs.«01_k».proof.Proof.Gen.ProjInDxIdeal.Value
public import proofs.«01_k».proof.Proof.Gen.ProjInDxRefIdeal
public import proofs.«01_k».proof.Proof.Gen.ProjInDxRefIdeal.Run
public import proofs.«01_k».proof.Proof.Gen.ProjInDxRefIdeal.Read
public import proofs.«01_k».proof.Proof.Gen.MixOutDw
public import proofs.«01_k».proof.Proof.Gen.MixOutDw.Frame
public import proofs.«01_k».proof.Proof.Gen.MixOutDwIdeal
public import proofs.«01_k».proof.Proof.Gen.MixOutDwIdeal.Frame
public import proofs.«01_k».proof.Proof.Gen.MixOutDwIdeal.Value
public import proofs.«01_k».proof.Proof.Gen.MixOutDwRefIdeal
public import proofs.«01_k».proof.Proof.Gen.MixOutDwRefIdeal.Run
public import proofs.«01_k».proof.Proof.Gen.MixOutDwRefIdeal.Read
public import proofs.«01_k».proof.Proof.Gen.ProjAttnDx
public import proofs.«01_k».proof.Proof.Gen.ProjAttnDx.Frame
public import proofs.«01_k».proof.Proof.Gen.ProjAttnDxIdeal
public import proofs.«01_k».proof.Proof.Gen.ProjAttnDxIdeal.Frame
public import proofs.«01_k».proof.Proof.Gen.ProjAttnDxIdeal.Value
public import proofs.«01_k».proof.Proof.Gen.ProjAttnDxRefIdeal
public import proofs.«01_k».proof.Proof.Gen.ProjAttnDxRefIdeal.Run
public import proofs.«01_k».proof.Proof.Gen.ProjAttnDxRefIdeal.Read
public import proofs.«01_k».proof.Proof.Gen.MixOutDx
public import proofs.«01_k».proof.Proof.Gen.MixOutDx.Frame
public import proofs.«01_k».proof.Proof.Gen.MixOutDxIdeal
public import proofs.«01_k».proof.Proof.Gen.MixOutDxIdeal.Frame
public import proofs.«01_k».proof.Proof.Gen.MixOutDxIdeal.Value
public import proofs.«01_k».proof.Proof.Gen.MixOutDxRefIdeal
public import proofs.«01_k».proof.Proof.Gen.MixOutDxRefIdeal.Run
public import proofs.«01_k».proof.Proof.Gen.MixOutDxRefIdeal.Read
public import proofs.«01_k».proof.Proof.Gen.ProjIn
public import proofs.«01_k».proof.Proof.Gen.ProjIn.Frame
public import proofs.«01_k».proof.Proof.Gen.ProjInIdeal
public import proofs.«01_k».proof.Proof.Gen.ProjInIdeal.Frame
public import proofs.«01_k».proof.Proof.Gen.ProjInIdeal.Value
public import proofs.«01_k».proof.Proof.Gen.ProjInRefIdeal
public import proofs.«01_k».proof.Proof.Gen.ProjInRefIdeal.Run
public import proofs.«01_k».proof.Proof.Gen.ProjInRefIdeal.Read
public import proofs.«01_k».proof.Proof.Gen.MlpUp
public import proofs.«01_k».proof.Proof.Gen.MlpUp.Frame
public import proofs.«01_k».proof.Proof.Gen.MlpUpIdeal
public import proofs.«01_k».proof.Proof.Gen.MlpUpIdeal.Frame
public import proofs.«01_k».proof.Proof.Gen.MlpUpIdeal.Value
public import proofs.«01_k».proof.Proof.Gen.MlpUpRefIdeal
public import proofs.«01_k».proof.Proof.Gen.MlpUpRefIdeal.Run
public import proofs.«01_k».proof.Proof.Gen.MlpUpRefIdeal.Read
public import proofs.«01_k».proof.Proof.Gen.MlpDown
public import proofs.«01_k».proof.Proof.Gen.MlpDown.Frame
public import proofs.«01_k».proof.Proof.Gen.MlpDownIdeal
public import proofs.«01_k».proof.Proof.Gen.MlpDownIdeal.Frame
public import proofs.«01_k».proof.Proof.Gen.MlpDownIdeal.Value
public import proofs.«01_k».proof.Proof.Gen.MlpDownRefIdeal
public import proofs.«01_k».proof.Proof.Gen.MlpDownRefIdeal.Run
public import proofs.«01_k».proof.Proof.Gen.MlpDownRefIdeal.Read
public import proofs.«01_k».proof.Proof.Gen.ProjAttn
public import proofs.«01_k».proof.Proof.Gen.ProjAttn.Frame
public import proofs.«01_k».proof.Proof.Gen.ProjAttnIdeal
public import proofs.«01_k».proof.Proof.Gen.ProjAttnIdeal.Frame
public import proofs.«01_k».proof.Proof.Gen.ProjAttnIdeal.Value
public import proofs.«01_k».proof.Proof.Gen.ProjAttnRefIdeal
public import proofs.«01_k».proof.Proof.Gen.ProjAttnRefIdeal.Run
public import proofs.«01_k».proof.Proof.Gen.ProjAttnRefIdeal.Read
public import proofs.«01_k».proof.Proof.Gen.ProjLruMerge
public import proofs.«01_k».proof.Proof.Gen.ProjLruMerge.Frame
public import proofs.«01_k».proof.Proof.Gen.ProjLruMergeIdeal
public import proofs.«01_k».proof.Proof.Gen.ProjLruMergeIdeal.Frame
public import proofs.«01_k».proof.Proof.Gen.ProjLruMergeIdeal.Value
public import proofs.«01_k».proof.Proof.Gen.ProjLruMergeRefIdeal
public import proofs.«01_k».proof.Proof.Gen.ProjLruMergeRefIdeal.Run
public import proofs.«01_k».proof.Proof.Gen.ProjLruMergeRefIdeal.Read
public import proofs.«01_k».proof.Proof.Gen.MixOut
public import proofs.«01_k».proof.Proof.Gen.MixOut.Frame
public import proofs.«01_k».proof.Proof.Gen.MixOutIdeal
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.MixOutRefIdeal.Read
public import proofs.«01_k».proof.Proof.Gen.NormBwd
public import proofs.«01_k».proof.Proof.Gen.NormBwd.Frame
public import proofs.«01_k».proof.Proof.Gen.NormBwdIdeal
public import proofs.«01_k».proof.Proof.Gen.NormBwdIdeal.Frame
public import proofs.«01_k».proof.Proof.Gen.NormBwdIdeal.Value
public import proofs.«01_k».proof.Proof.Gen.NormBwdRefIdeal
public import proofs.«01_k».proof.Proof.Gen.NormBwdRefIdeal.Run
public import proofs.«01_k».proof.Proof.Gen.NormBwdRefIdeal.Read
public import proofs.«01_k».proof.Proof.Gen.NormHalvesBwd
public import proofs.«01_k».proof.Proof.Gen.NormHalvesBwd.Frame
public import proofs.«01_k».proof.Proof.Gen.NormHalvesBwdIdeal
public import proofs.«01_k».proof.Proof.Gen.NormHalvesBwdIdeal.Frame
public import proofs.«01_k».proof.Proof.Gen.NormHalvesBwdIdeal.Value
public import proofs.«01_k».proof.Proof.Gen.NormHalvesBwdRefIdeal
public import proofs.«01_k».proof.Proof.Gen.NormHalvesBwdRefIdeal.Run
public import proofs.«01_k».proof.Proof.Gen.NormHalvesBwdRefIdeal.Read
public import proofs.«01_k».proof.Proof.Gen.NormLoss
public import proofs.«01_k».proof.Proof.Gen.NormLoss.Frame
public import proofs.«01_k».proof.Proof.Gen.NormLossIdeal
public import proofs.«01_k».proof.Proof.Gen.NormLossIdeal.Frame
public import proofs.«01_k».proof.Proof.Gen.NormLossIdeal.Value
public import proofs.«01_k».proof.Proof.Gen.NormLossRefIdeal
public import proofs.«01_k».proof.Proof.Gen.NormLossRefIdeal.Run
public import proofs.«01_k».proof.Proof.Gen.NormLossRefIdeal.Read
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.MlpUpDw
public import proofs.«01_k».proof.Proof.MlpDownDw
public import proofs.«01_k».proof.Proof.ProjInDw
public import proofs.«01_k».proof.Proof.ProjInDx
public import proofs.«01_k».proof.Proof.MixOutDw
public import proofs.«01_k».proof.Proof.ProjAttnDx
public import proofs.«01_k».proof.Proof.MixOutDx
public import proofs.«01_k».proof.Proof.NormBwd
public import proofs.«01_k».proof.Proof.NormHalvesBwd
public import proofs.«01_k».proof.Proof.NormLoss
public import proofs.«01_k».proof.Proof.Norm
public import proofs.«01_k».proof.Proof.ProjIn
public import proofs.«01_k».proof.Proof.MlpUp
public import proofs.«01_k».proof.Proof.MlpDown
public import proofs.«01_k».proof.Proof.ProjAttn
public import proofs.«01_k».proof.Proof.ProjLruMerge
public import proofs.«01_k».proof.Proof.MixOut

@[expose] public section

noncomputable section

namespace Cert.Proof

open Idealize.ShloMosaic Idealize.SL.Sem

/-- The reference is host code and declares no semaphore. -/
theorem reference_quiescent : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

set_option maxRecDepth 8192 in
/-- The reference's run with the result named by its arguments. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
          r.2.mem ((c.tc : Thread Cert.ReferenceIdeal.nD Cert.ReferenceIdeal.τ).loc Cert.ReferenceIdeal.main_v202)
            = Cert.ReferenceIdeal.Read.val_main_v202 (F := Ideal)
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
              (m ((c.tc : Thread Cert.ReferenceIdeal.nD Cert.ReferenceIdeal.τ).loc Cert.ReferenceIdeal.main_arg5))
              (m ((c.tc : Thread Cert.ReferenceIdeal.nD Cert.ReferenceIdeal.τ).loc Cert.ReferenceIdeal.main_arg6))
              (m ((c.tc : Thread Cert.ReferenceIdeal.nD Cert.ReferenceIdeal.τ).loc Cert.ReferenceIdeal.main_arg7))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) :=
  (θ_run Cert.ReferenceIdeal.defs _ _).mono
    (fun _ h c => ⟨(h c).1.trans (Cert.ReferenceIdeal.Read.val_main_v202_eq (F := Ideal) (StableHlo.launchContents m c)), (h c).2⟩)
    (Cert.ReferenceIdeal.Value.run (F := Ideal) m g)

/-- Over the extended reals and on real arguments, the kernel ends with the reference's array. -/
theorem values : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => (Cert.KernelIdeal.Gen.dats m 0 c).arrAt 11 Cert.KernelIdeal.cfg0.N, Cert.KernelIdeal.Value.run_blocks m g, ?_⟩
  refine (θ_run Cert.ReferenceIdeal.defs _ _).mono (fun r h c => ⟨(h c).1.trans ?_, (h c).2⟩) (reference_run m' g')
  obtain ⟨h0, h1, h2, h3, h4, h5, h6, h7⟩ := hagree c
  rw [h0, h1, h2, h3, h4, h5, h6, h7]
  obtain ⟨⟨Q, hQ⟩, ⟨K, hK⟩, ⟨V, hV⟩, ⟨O, hO⟩⟩ := Cert.Finite.reals _ _ _ _ _ _ _ _ (hpre c)
  exact (Cert.Body.out_array m c hQ hK hV hO).symm

theorem claim : Cert.Claim :=
  ⟨Cert.Kernel.Gen.facts, Cert.KernelIdeal.Gen.facts, Cert.ReferenceIdeal.Gen.facts,
    Cert.MlpUpDw.Gen.facts, Cert.MlpUpDwIdeal.Gen.facts, Cert.MlpUpDwRefIdeal.Gen.facts,
    Cert.MlpDownDw.Gen.facts, Cert.MlpDownDwIdeal.Gen.facts, Cert.MlpDownDwRefIdeal.Gen.facts,
    Cert.ProjInDw.Gen.facts, Cert.ProjInDwIdeal.Gen.facts, Cert.ProjInDwRefIdeal.Gen.facts,
    Cert.ProjInDx.Gen.facts, Cert.ProjInDxIdeal.Gen.facts, Cert.ProjInDxRefIdeal.Gen.facts,
    Cert.MixOutDw.Gen.facts, Cert.MixOutDwIdeal.Gen.facts, Cert.MixOutDwRefIdeal.Gen.facts,
    Cert.ProjAttnDx.Gen.facts, Cert.ProjAttnDxIdeal.Gen.facts, Cert.ProjAttnDxRefIdeal.Gen.facts,
    Cert.MixOutDx.Gen.facts, Cert.MixOutDxIdeal.Gen.facts, Cert.MixOutDxRefIdeal.Gen.facts,
    Cert.NormBwd.Gen.facts, Cert.NormBwdIdeal.Gen.facts, Cert.NormBwdRefIdeal.Gen.facts,
    Cert.NormHalvesBwd.Gen.facts, Cert.NormHalvesBwdIdeal.Gen.facts, Cert.NormHalvesBwdRefIdeal.Gen.facts,
    Cert.NormLoss.Gen.facts, Cert.NormLossIdeal.Gen.facts, Cert.NormLossRefIdeal.Gen.facts,
    Cert.Norm.Gen.facts, Cert.NormIdeal.Gen.facts, Cert.NormRefIdeal.Gen.facts,
    Cert.ProjIn.Gen.facts, Cert.ProjInIdeal.Gen.facts, Cert.ProjInRefIdeal.Gen.facts,
    Cert.MlpUp.Gen.facts, Cert.MlpUpIdeal.Gen.facts, Cert.MlpUpRefIdeal.Gen.facts,
    Cert.MlpDown.Gen.facts, Cert.MlpDownIdeal.Gen.facts, Cert.MlpDownRefIdeal.Gen.facts,
    Cert.ProjAttn.Gen.facts, Cert.ProjAttnIdeal.Gen.facts, Cert.ProjAttnRefIdeal.Gen.facts,
    Cert.ProjLruMerge.Gen.facts, Cert.ProjLruMergeIdeal.Gen.facts, Cert.ProjLruMergeRefIdeal.Gen.facts,
    Cert.MixOut.Gen.facts, Cert.MixOutIdeal.Gen.facts, Cert.MixOutRefIdeal.Gen.facts,
    Cert.Pre_finite.Gen.facts,
    fun m ρ _ => Cert.Kernel.Gen.frame m ρ, fun m ρ _ => Cert.KernelIdeal.Gen.frame m ρ, fun m ρ _ => Cert.KernelIdeal.Gen.frame m ρ,
    reference_quiescent, fun m ρ _ => reference_quiescent m ρ trivial,
    fun m ρ _ => Cert.MlpUpDw.Gen.frame m ρ, fun m ρ _ => Cert.MlpUpDwIdeal.Gen.frame m ρ, Cert.MlpUpDwProof.reference_quiescent,
    fun m ρ _ => Cert.MlpDownDw.Gen.frame m ρ, fun m ρ _ => Cert.MlpDownDwIdeal.Gen.frame m ρ, Cert.MlpDownDwProof.reference_quiescent,
    fun m ρ _ => Cert.ProjInDw.Gen.frame m ρ, fun m ρ _ => Cert.ProjInDwIdeal.Gen.frame m ρ, Cert.ProjInDwProof.reference_quiescent,
    fun m ρ _ => Cert.ProjInDx.Gen.frame m ρ, fun m ρ _ => Cert.ProjInDxIdeal.Gen.frame m ρ, Cert.ProjInDxProof.reference_quiescent,
    fun m ρ _ => Cert.MixOutDw.Gen.frame m ρ, fun m ρ _ => Cert.MixOutDwIdeal.Gen.frame m ρ, Cert.MixOutDwProof.reference_quiescent,
    fun m ρ _ => Cert.ProjAttnDx.Gen.frame m ρ, fun m ρ _ => Cert.ProjAttnDxIdeal.Gen.frame m ρ, Cert.ProjAttnDxProof.reference_quiescent,
    fun m ρ _ => Cert.MixOutDx.Gen.frame m ρ, fun m ρ _ => Cert.MixOutDxIdeal.Gen.frame m ρ, Cert.MixOutDxProof.reference_quiescent,
    fun m ρ _ => Cert.NormBwd.Gen.frame m ρ, fun m ρ _ => Cert.NormBwdIdeal.Gen.frame m ρ, Cert.NormBwdProof.reference_quiescent,
    fun m ρ _ => Cert.NormHalvesBwd.Gen.frame m ρ, fun m ρ _ => Cert.NormHalvesBwdIdeal.Gen.frame m ρ, Cert.NormHalvesBwdProof.reference_quiescent,
    fun m ρ _ => Cert.NormLoss.Gen.frame m ρ, fun m ρ _ => Cert.NormLossIdeal.Gen.frame m ρ, Cert.NormLossProof.reference_quiescent,
    fun m ρ _ => Cert.Norm.Gen.frame m ρ, fun m ρ _ => Cert.NormIdeal.Gen.frame m ρ, Cert.NormProof.reference_quiescent,
    fun m ρ _ => Cert.ProjIn.Gen.frame m ρ, fun m ρ _ => Cert.ProjInIdeal.Gen.frame m ρ, Cert.ProjInProof.reference_quiescent,
    fun m ρ _ => Cert.MlpUp.Gen.frame m ρ, fun m ρ _ => Cert.MlpUpIdeal.Gen.frame m ρ, Cert.MlpUpProof.reference_quiescent,
    fun m ρ _ => Cert.MlpDown.Gen.frame m ρ, fun m ρ _ => Cert.MlpDownIdeal.Gen.frame m ρ, Cert.MlpDownProof.reference_quiescent,
    fun m ρ _ => Cert.ProjAttn.Gen.frame m ρ, fun m ρ _ => Cert.ProjAttnIdeal.Gen.frame m ρ, Cert.ProjAttnProof.reference_quiescent,
    fun m ρ _ => Cert.ProjLruMerge.Gen.frame m ρ, fun m ρ _ => Cert.ProjLruMergeIdeal.Gen.frame m ρ, Cert.ProjLruMergeProof.reference_quiescent,
    fun m ρ _ => Cert.MixOut.Gen.frame m ρ, fun m ρ _ => Cert.MixOutIdeal.Gen.frame m ρ, Cert.MixOutProof.reference_quiescent,
    IdealRules.named_const.statement Cert.KernelIdeal.κ "mask" .f32 0xF149F2CA#32 ⊥ rfl, values,
    trivial, Cert.MlpUpDwProof.values,
    trivial, Cert.MlpDownDwProof.values,
    trivial, Cert.ProjInDwProof.values,
    trivial, Cert.ProjInDxProof.values,
    trivial, Cert.MixOutDwProof.values,
    trivial, Cert.ProjAttnDxProof.values,
    trivial, Cert.MixOutDxProof.values,
    trivial, Cert.NormBwdProof.values,
    trivial, Cert.NormHalvesBwdProof.values,
    trivial, Cert.NormLossProof.values,
    trivial, Cert.NormProof.values,
    trivial, Cert.ProjInProof.values,
    trivial, Cert.MlpUpProof.values,
    trivial, Cert.MlpDownProof.values,
    trivial, Cert.ProjAttnProof.values,
    trivial, Cert.ProjLruMergeProof.values,
    trivial, Cert.MixOutProof.values⟩

end Cert.Proof

end
